-- ==== Defs.lean ====
def Pre_KLoss (m : (ℓ : Loc Cert.KLoss.nD Cert.KLoss.τ Cert.KLoss.sig) → Buf (Elt Bits) ℓ) : Prop :=
  True

def Pre_KLossIdeal (m : (ℓ : Loc Cert.KLossIdeal.nD Cert.KLossIdeal.τ Cert.KLossIdeal.sig) → Buf (Elt Ideal) ℓ) : Prop :=
  True

def Pre_KLossIdeal_finite_loss [hPre_finite_loss : Cert.Pre_finite_loss.Facts] (m : (ℓ : Loc Cert.KLossIdeal.nD Cert.KLossIdeal.τ Cert.KLossIdeal.sig) → Buf (Elt Ideal) ℓ) : Prop :=
  ∀ c : Dev Cert.KLossIdeal.nD,
    (Cert.Pre_finite_loss.fn (F := Ideal) (m ((c.tc : Thread Cert.KLossIdeal.nD Cert.KLossIdeal.τ).loc Cert.KLossIdeal.main_arg0)) (m ((c.tc : Thread Cert.KLossIdeal.nD Cert.KLossIdeal.τ).loc Cert.KLossIdeal.main_arg1)) (m ((c.tc : Thread Cert.KLossIdeal.nD Cert.KLossIdeal.τ).loc Cert.KLossIdeal.main_arg2))) = (fun _ => 1#1)

def Pre_RLossIdeal (m : (ℓ : Loc Cert.RLossIdeal.nD Cert.RLossIdeal.τ Cert.RLossIdeal.sig) → Buf (Elt Ideal) ℓ) : Prop :=
  True

def Pre_RLossIdeal_finite_loss [hPre_finite_loss : Cert.Pre_finite_loss.Facts] (m : (ℓ : Loc Cert.RLossIdeal.nD Cert.RLossIdeal.τ Cert.RLossIdeal.sig) → Buf (Elt Ideal) ℓ) : Prop :=
  ∀ c : Dev Cert.RLossIdeal.nD,
    (Cert.Pre_finite_loss.fn (F := Ideal) (m ((c.tc : Thread Cert.RLossIdeal.nD Cert.RLossIdeal.τ).loc Cert.RLossIdeal.main_arg0)) (m ((c.tc : Thread Cert.RLossIdeal.nD Cert.RLossIdeal.τ).loc Cert.RLossIdeal.main_arg1)) (m ((c.tc : Thread Cert.RLossIdeal.nD Cert.RLossIdeal.τ).loc Cert.RLossIdeal.main_arg2))) = (fun _ => 1#1)

def Pre_KAttn (m : (ℓ : Loc Cert.KAttn.nD Cert.KAttn.τ Cert.KAttn.sig) → Buf (Elt Bits) ℓ) : Prop :=
  True

def Pre_KAttnIdeal (m : (ℓ : Loc Cert.KAttnIdeal.nD Cert.KAttnIdeal.τ Cert.KAttnIdeal.sig) → Buf (Elt Ideal) ℓ) : Prop :=
  True

def Pre_KAttnIdeal_finite_attn [hPre_finite_attn : Cert.Pre_finite_attn.Facts] (m : (ℓ : Loc Cert.KAttnIdeal.nD Cert.KAttnIdeal.τ Cert.KAttnIdeal.sig) → Buf (Elt Ideal) ℓ) : Prop :=
  ∀ c : Dev Cert.KAttnIdeal.nD,
    (Cert.Pre_finite_attn.fn (F := Ideal) (m ((c.tc : Thread Cert.KAttnIdeal.nD Cert.KAttnIdeal.τ).loc Cert.KAttnIdeal.main_arg0)) (m ((c.tc : Thread Cert.KAttnIdeal.nD Cert.KAttnIdeal.τ).loc Cert.KAttnIdeal.main_arg1)) (m ((c.tc : Thread Cert.KAttnIdeal.nD Cert.KAttnIdeal.τ).loc Cert.KAttnIdeal.main_arg2)) (m ((c.tc : Thread Cert.KAttnIdeal.nD Cert.KAttnIdeal.τ).loc Cert.KAttnIdeal.main_arg3)) (m ((c.tc : Thread Cert.KAttnIdeal.nD Cert.KAttnIdeal.τ).loc Cert.KAttnIdeal.main_arg4))) = (fun _ => 1#1)

def Pre_RAttnIdeal (m : (ℓ : Loc Cert.RAttnIdeal.nD Cert.RAttnIdeal.τ Cert.RAttnIdeal.sig) → Buf (Elt Ideal) ℓ) : Prop :=
  True

def Pre_RAttnIdeal_finite_attn [hPre_finite_attn : Cert.Pre_finite_attn.Facts] (m : (ℓ : Loc Cert.RAttnIdeal.nD Cert.RAttnIdeal.τ Cert.RAttnIdeal.sig) → Buf (Elt Ideal) ℓ) : Prop :=
  ∀ c : Dev Cert.RAttnIdeal.nD,
    (Cert.Pre_finite_attn.fn (F := Ideal) (m ((c.tc : Thread Cert.RAttnIdeal.nD Cert.RAttnIdeal.τ).loc Cert.RAttnIdeal.main_arg0)) (m ((c.tc : Thread Cert.RAttnIdeal.nD Cert.RAttnIdeal.τ).loc Cert.RAttnIdeal.main_arg1)) (m ((c.tc : Thread Cert.RAttnIdeal.nD Cert.RAttnIdeal.τ).loc Cert.RAttnIdeal.main_arg2)) (m ((c.tc : Thread Cert.RAttnIdeal.nD Cert.RAttnIdeal.τ).loc Cert.RAttnIdeal.main_arg3)) (m ((c.tc : Thread Cert.RAttnIdeal.nD Cert.RAttnIdeal.τ).loc Cert.RAttnIdeal.main_arg4))) = (fun _ => 1#1)

def Pre_KPre (m : (ℓ : Loc Cert.KPre.nD Cert.KPre.τ Cert.KPre.sig) → Buf (Elt Bits) ℓ) : Prop :=
  True

def Pre_KPreIdeal (m : (ℓ : Loc Cert.KPreIdeal.nD Cert.KPreIdeal.τ Cert.KPreIdeal.sig) → Buf (Elt Ideal) ℓ) : Prop :=
  True

def Pre_KPreIdeal_finite_pre [hPre_finite_pre : Cert.Pre_finite_pre.Facts] (m : (ℓ : Loc Cert.KPreIdeal.nD Cert.KPreIdeal.τ Cert.KPreIdeal.sig) → Buf (Elt Ideal) ℓ) : Prop :=
  ∀ c : Dev Cert.KPreIdeal.nD,
    (Cert.Pre_finite_pre.fn (F := Ideal) (m ((c.tc : Thread Cert.KPreIdeal.nD Cert.KPreIdeal.τ).loc Cert.KPreIdeal.main_arg0)) (m ((c.tc : Thread Cert.KPreIdeal.nD Cert.KPreIdeal.τ).loc Cert.KPreIdeal.main_arg1)) (m ((c.tc : Thread Cert.KPreIdeal.nD Cert.KPreIdeal.τ).loc Cert.KPreIdeal.main_arg2)) (m ((c.tc : Thread Cert.KPreIdeal.nD Cert.KPreIdeal.τ).loc Cert.KPreIdeal.main_arg3)) (m ((c.tc : Thread Cert.KPreIdeal.nD Cert.KPreIdeal.τ).loc Cert.KPreIdeal.main_arg4)) (m ((c.tc : Thread Cert.KPreIdeal.nD Cert.KPreIdeal.τ).loc Cert.KPreIdeal.main_arg5))) = (fun _ => 1#1)

def Pre_RPreIdeal (m : (ℓ : Loc Cert.RPreIdeal.nD Cert.RPreIdeal.τ Cert.RPreIdeal.sig) → Buf (Elt Ideal) ℓ) : Prop :=
  True

def Pre_RPreIdeal_finite_pre [hPre_finite_pre : Cert.Pre_finite_pre.Facts] (m : (ℓ : Loc Cert.RPreIdeal.nD Cert.RPreIdeal.τ Cert.RPreIdeal.sig) → Buf (Elt Ideal) ℓ) : Prop :=
  ∀ c : Dev Cert.RPreIdeal.nD,
    (Cert.Pre_finite_pre.fn (F := Ideal) (m ((c.tc : Thread Cert.RPreIdeal.nD Cert.RPreIdeal.τ).loc Cert.RPreIdeal.main_arg0)) (m ((c.tc : Thread Cert.RPreIdeal.nD Cert.RPreIdeal.τ).loc Cert.RPreIdeal.main_arg1)) (m ((c.tc : Thread Cert.RPreIdeal.nD Cert.RPreIdeal.τ).loc Cert.RPreIdeal.main_arg2)) (m ((c.tc : Thread Cert.RPreIdeal.nD Cert.RPreIdeal.τ).loc Cert.RPreIdeal.main_arg3)) (m ((c.tc : Thread Cert.RPreIdeal.nD Cert.RPreIdeal.τ).loc Cert.RPreIdeal.main_arg4)) (m ((c.tc : Thread Cert.RPreIdeal.nD Cert.RPreIdeal.τ).loc Cert.RPreIdeal.main_arg5))) = (fun _ => 1#1)

def Pre_KQuery (m : (ℓ : Loc Cert.KQuery.nD Cert.KQuery.τ Cert.KQuery.sig) → Buf (Elt Bits) ℓ) : Prop :=
  True

def Pre_KQueryIdeal (m : (ℓ : Loc Cert.KQueryIdeal.nD Cert.KQueryIdeal.τ Cert.KQueryIdeal.sig) → Buf (Elt Ideal) ℓ) : Prop :=
  True

def Pre_KQueryIdeal_finite_query [hPre_finite_query : Cert.Pre_finite_query.Facts] (m : (ℓ : Loc Cert.KQueryIdeal.nD Cert.KQueryIdeal.τ Cert.KQueryIdeal.sig) → Buf (Elt Ideal) ℓ) : Prop :=
  ∀ c : Dev Cert.KQueryIdeal.nD,
    (Cert.Pre_finite_query.fn (F := Ideal) (m ((c.tc : Thread Cert.KQueryIdeal.nD Cert.KQueryIdeal.τ).loc Cert.KQueryIdeal.main_arg0)) (m ((c.tc : Thread Cert.KQueryIdeal.nD Cert.KQueryIdeal.τ).loc Cert.KQueryIdeal.main_arg1)) (m ((c.tc : Thread Cert.KQueryIdeal.nD Cert.KQueryIdeal.τ).loc Cert.KQueryIdeal.main_arg2)) (m ((c.tc : Thread Cert.KQueryIdeal.nD Cert.KQueryIdeal.τ).loc Cert.KQueryIdeal.main_arg3)) (m ((c.tc : Thread Cert.KQueryIdeal.nD Cert.KQueryIdeal.τ).loc Cert.KQueryIdeal.main_arg4)) (m ((c.tc : Thread Cert.KQueryIdeal.nD Cert.KQueryIdeal.τ).loc Cert.KQueryIdeal.main_arg5))) = (fun _ => 1#1)

def Pre_RQueryIdeal (m : (ℓ : Loc Cert.RQueryIdeal.nD Cert.RQueryIdeal.τ Cert.RQueryIdeal.sig) → Buf (Elt Ideal) ℓ) : Prop :=
  True

def Pre_RQueryIdeal_finite_query [hPre_finite_query : Cert.Pre_finite_query.Facts] (m : (ℓ : Loc Cert.RQueryIdeal.nD Cert.RQueryIdeal.τ Cert.RQueryIdeal.sig) → Buf (Elt Ideal) ℓ) : Prop :=
  ∀ c : Dev Cert.RQueryIdeal.nD,
    (Cert.Pre_finite_query.fn (F := Ideal) (m ((c.tc : Thread Cert.RQueryIdeal.nD Cert.RQueryIdeal.τ).loc Cert.RQueryIdeal.main_arg0)) (m ((c.tc : Thread Cert.RQueryIdeal.nD Cert.RQueryIdeal.τ).loc Cert.RQueryIdeal.main_arg1)) (m ((c.tc : Thread Cert.RQueryIdeal.nD Cert.RQueryIdeal.τ).loc Cert.RQueryIdeal.main_arg2)) (m ((c.tc : Thread Cert.RQueryIdeal.nD Cert.RQueryIdeal.τ).loc Cert.RQueryIdeal.main_arg3)) (m ((c.tc : Thread Cert.RQueryIdeal.nD Cert.RQueryIdeal.τ).loc Cert.RQueryIdeal.main_arg4)) (m ((c.tc : Thread Cert.RQueryIdeal.nD Cert.RQueryIdeal.τ).loc Cert.RQueryIdeal.main_arg5))) = (fun _ => 1#1)

def Pre_KKeys (m : (ℓ : Loc Cert.KKeys.nD Cert.KKeys.τ Cert.KKeys.sig) → Buf (Elt Bits) ℓ) : Prop :=
  True

def Pre_KKeysIdeal (m : (ℓ : Loc Cert.KKeysIdeal.nD Cert.KKeysIdeal.τ Cert.KKeysIdeal.sig) → Buf (Elt Ideal) ℓ) : Prop :=
  True

def Pre_KKeysIdeal_finite_keys [hPre_finite_keys : Cert.Pre_finite_keys.Facts] (m : (ℓ : Loc Cert.KKeysIdeal.nD Cert.KKeysIdeal.τ Cert.KKeysIdeal.sig) → Buf (Elt Ideal) ℓ) : Prop :=
  ∀ c : Dev Cert.KKeysIdeal.nD,
    (Cert.Pre_finite_keys.fn (F := Ideal) (m ((c.tc : Thread Cert.KKeysIdeal.nD Cert.KKeysIdeal.τ).loc Cert.KKeysIdeal.main_arg0)) (m ((c.tc : Thread Cert.KKeysIdeal.nD Cert.KKeysIdeal.τ).loc Cert.KKeysIdeal.main_arg1)) (m ((c.tc : Thread Cert.KKeysIdeal.nD Cert.KKeysIdeal.τ).loc Cert.KKeysIdeal.main_arg2)) (m ((c.tc : Thread Cert.KKeysIdeal.nD Cert.KKeysIdeal.τ).loc Cert.KKeysIdeal.main_arg3)) (m ((c.tc : Thread Cert.KKeysIdeal.nD Cert.KKeysIdeal.τ).loc Cert.KKeysIdeal.main_arg4)) (m ((c.tc : Thread Cert.KKeysIdeal.nD Cert.KKeysIdeal.τ).loc Cert.KKeysIdeal.main_arg5)) (m ((c.tc : Thread Cert.KKeysIdeal.nD Cert.KKeysIdeal.τ).loc Cert.KKeysIdeal.main_arg6))) = (fun _ => 1#1)

def Pre_RKeysIdeal (m : (ℓ : Loc Cert.RKeysIdeal.nD Cert.RKeysIdeal.τ Cert.RKeysIdeal.sig) → Buf (Elt Ideal) ℓ) : Prop :=
  True

def Pre_RKeysIdeal_finite_keys [hPre_finite_keys : Cert.Pre_finite_keys.Facts] (m : (ℓ : Loc Cert.RKeysIdeal.nD Cert.RKeysIdeal.τ Cert.RKeysIdeal.sig) → Buf (Elt Ideal) ℓ) : Prop :=
  ∀ c : Dev Cert.RKeysIdeal.nD,
    (Cert.Pre_finite_keys.fn (F := Ideal) (m ((c.tc : Thread Cert.RKeysIdeal.nD Cert.RKeysIdeal.τ).loc Cert.RKeysIdeal.main_arg0)) (m ((c.tc : Thread Cert.RKeysIdeal.nD Cert.RKeysIdeal.τ).loc Cert.RKeysIdeal.main_arg1)) (m ((c.tc : Thread Cert.RKeysIdeal.nD Cert.RKeysIdeal.τ).loc Cert.RKeysIdeal.main_arg2)) (m ((c.tc : Thread Cert.RKeysIdeal.nD Cert.RKeysIdeal.τ).loc Cert.RKeysIdeal.main_arg3)) (m ((c.tc : Thread Cert.RKeysIdeal.nD Cert.RKeysIdeal.τ).loc Cert.RKeysIdeal.main_arg4)) (m ((c.tc : Thread Cert.RKeysIdeal.nD Cert.RKeysIdeal.τ).loc Cert.RKeysIdeal.main_arg5)) (m ((c.tc : Thread Cert.RKeysIdeal.nD Cert.RKeysIdeal.τ).loc Cert.RKeysIdeal.main_arg6))) = (fun _ => 1#1)

def Pre_KHeads (m : (ℓ : Loc Cert.KHeads.nD Cert.KHeads.τ Cert.KHeads.sig) → Buf (Elt Bits) ℓ) : Prop :=
  True

def Pre_KHeadsIdeal (m : (ℓ : Loc Cert.KHeadsIdeal.nD Cert.KHeadsIdeal.τ Cert.KHeadsIdeal.sig) → Buf (Elt Ideal) ℓ) : Prop :=
  True

def Pre_KHeadsIdeal_finite_heads [hPre_finite_heads : Cert.Pre_finite_heads.Facts] (m : (ℓ : Loc Cert.KHeadsIdeal.nD Cert.KHeadsIdeal.τ Cert.KHeadsIdeal.sig) → Buf (Elt Ideal) ℓ) : Prop :=
  ∀ c : Dev Cert.KHeadsIdeal.nD,
    (Cert.Pre_finite_heads.fn (F := Ideal) (m ((c.tc : Thread Cert.KHeadsIdeal.nD Cert.KHeadsIdeal.τ).loc Cert.KHeadsIdeal.main_arg0)) (m ((c.tc : Thread Cert.KHeadsIdeal.nD Cert.KHeadsIdeal.τ).loc Cert.KHeadsIdeal.main_arg1)) (m ((c.tc : Thread Cert.KHeadsIdeal.nD Cert.KHeadsIdeal.τ).loc Cert.KHeadsIdeal.main_arg2)) (m ((c.tc : Thread Cert.KHeadsIdeal.nD Cert.KHeadsIdeal.τ).loc Cert.KHeadsIdeal.main_arg3))) = (fun _ => 1#1)

def Pre_RHeadsIdeal (m : (ℓ : Loc Cert.RHeadsIdeal.nD Cert.RHeadsIdeal.τ Cert.RHeadsIdeal.sig) → Buf (Elt Ideal) ℓ) : Prop :=
  True

def Pre_RHeadsIdeal_finite_heads [hPre_finite_heads : Cert.Pre_finite_heads.Facts] (m : (ℓ : Loc Cert.RHeadsIdeal.nD Cert.RHeadsIdeal.τ Cert.RHeadsIdeal.sig) → Buf (Elt Ideal) ℓ) : Prop :=
  ∀ c : Dev Cert.RHeadsIdeal.nD,
    (Cert.Pre_finite_heads.fn (F := Ideal) (m ((c.tc : Thread Cert.RHeadsIdeal.nD Cert.RHeadsIdeal.τ).loc Cert.RHeadsIdeal.main_arg0)) (m ((c.tc : Thread Cert.RHeadsIdeal.nD Cert.RHeadsIdeal.τ).loc Cert.RHeadsIdeal.main_arg1)) (m ((c.tc : Thread Cert.RHeadsIdeal.nD Cert.RHeadsIdeal.τ).loc Cert.RHeadsIdeal.main_arg2)) (m ((c.tc : Thread Cert.RHeadsIdeal.nD Cert.RHeadsIdeal.τ).loc Cert.RHeadsIdeal.main_arg3))) = (fun _ => 1#1)

def Pre_KMlp (m : (ℓ : Loc Cert.KMlp.nD Cert.KMlp.τ Cert.KMlp.sig) → Buf (Elt Bits) ℓ) : Prop :=
  True

def Pre_KMlpIdeal (m : (ℓ : Loc Cert.KMlpIdeal.nD Cert.KMlpIdeal.τ Cert.KMlpIdeal.sig) → Buf (Elt Ideal) ℓ) : Prop :=
  True

def Pre_KMlpIdeal_finite_mlp [hPre_finite_mlp : Cert.Pre_finite_mlp.Facts] (m : (ℓ : Loc Cert.KMlpIdeal.nD Cert.KMlpIdeal.τ Cert.KMlpIdeal.sig) → Buf (Elt Ideal) ℓ) : Prop :=
  ∀ c : Dev Cert.KMlpIdeal.nD,
    (Cert.Pre_finite_mlp.fn (F := Ideal) (m ((c.tc : Thread Cert.KMlpIdeal.nD Cert.KMlpIdeal.τ).loc Cert.KMlpIdeal.main_arg0)) (m ((c.tc : Thread Cert.KMlpIdeal.nD Cert.KMlpIdeal.τ).loc Cert.KMlpIdeal.main_arg1)) (m ((c.tc : Thread Cert.KMlpIdeal.nD Cert.KMlpIdeal.τ).loc Cert.KMlpIdeal.main_arg2)) (m ((c.tc : Thread Cert.KMlpIdeal.nD Cert.KMlpIdeal.τ).loc Cert.KMlpIdeal.main_arg3)) (m ((c.tc : Thread Cert.KMlpIdeal.nD Cert.KMlpIdeal.τ).loc Cert.KMlpIdeal.main_arg4))) = (fun _ => 1#1)

def Pre_RMlpIdeal (m : (ℓ : Loc Cert.RMlpIdeal.nD Cert.RMlpIdeal.τ Cert.RMlpIdeal.sig) → Buf (Elt Ideal) ℓ) : Prop :=
  True

def Pre_RMlpIdeal_finite_mlp [hPre_finite_mlp : Cert.Pre_finite_mlp.Facts] (m : (ℓ : Loc Cert.RMlpIdeal.nD Cert.RMlpIdeal.τ Cert.RMlpIdeal.sig) → Buf (Elt Ideal) ℓ) : Prop :=
  ∀ c : Dev Cert.RMlpIdeal.nD,
    (Cert.Pre_finite_mlp.fn (F := Ideal) (m ((c.tc : Thread Cert.RMlpIdeal.nD Cert.RMlpIdeal.τ).loc Cert.RMlpIdeal.main_arg0)) (m ((c.tc : Thread Cert.RMlpIdeal.nD Cert.RMlpIdeal.τ).loc Cert.RMlpIdeal.main_arg1)) (m ((c.tc : Thread Cert.RMlpIdeal.nD Cert.RMlpIdeal.τ).loc Cert.RMlpIdeal.main_arg2)) (m ((c.tc : Thread Cert.RMlpIdeal.nD Cert.RMlpIdeal.τ).loc Cert.RMlpIdeal.main_arg3)) (m ((c.tc : Thread Cert.RMlpIdeal.nD Cert.RMlpIdeal.τ).loc Cert.RMlpIdeal.main_arg4))) = (fun _ => 1#1)

def Pre_KMix (m : (ℓ : Loc Cert.KMix.nD Cert.KMix.τ Cert.KMix.sig) → Buf (Elt Bits) ℓ) : Prop :=
  True

def Pre_KMixIdeal (m : (ℓ : Loc Cert.KMixIdeal.nD Cert.KMixIdeal.τ Cert.KMixIdeal.sig) → Buf (Elt Ideal) ℓ) : Prop :=
  True

def Pre_RMixIdeal (m : (ℓ : Loc Cert.RMixIdeal.nD Cert.RMixIdeal.τ Cert.RMixIdeal.sig) → Buf (Elt Ideal) ℓ) : Prop :=
  True

def Pre_KProj (m : (ℓ : Loc Cert.KProj.nD Cert.KProj.τ Cert.KProj.sig) → Buf (Elt Bits) ℓ) : Prop :=
  True

def Pre_KProjIdeal (m : (ℓ : Loc Cert.KProjIdeal.nD Cert.KProjIdeal.τ Cert.KProjIdeal.sig) → Buf (Elt Ideal) ℓ) : Prop :=
  True

def Pre_RProjIdeal (m : (ℓ : Loc Cert.RProjIdeal.nD Cert.RProjIdeal.τ Cert.RProjIdeal.sig) → Buf (Elt Ideal) ℓ) : Prop :=
  True

def Pre_KNorm (m : (ℓ : Loc Cert.KNorm.nD Cert.KNorm.τ Cert.KNorm.sig) → Buf (Elt Bits) ℓ) : Prop :=
  True

def Pre_KNormIdeal (m : (ℓ : Loc Cert.KNormIdeal.nD Cert.KNormIdeal.τ Cert.KNormIdeal.sig) → Buf (Elt Ideal) ℓ) : Prop :=
  True

def Pre_RNormIdeal (m : (ℓ : Loc Cert.RNormIdeal.nD Cert.RNormIdeal.τ Cert.RNormIdeal.sig) → Buf (Elt Ideal) ℓ) : Prop :=
  True

def Pre_KFwd (m : (ℓ : Loc Cert.KFwd.nD Cert.KFwd.τ Cert.KFwd.sig) → Buf (Elt Bits) ℓ) : Prop :=
  True

def Pre_KFwdIdeal (m : (ℓ : Loc Cert.KFwdIdeal.nD Cert.KFwdIdeal.τ Cert.KFwdIdeal.sig) → Buf (Elt Ideal) ℓ) : Prop :=
  True

def Pre_RFwdIdeal (m : (ℓ : Loc Cert.RFwdIdeal.nD Cert.RFwdIdeal.τ Cert.RFwdIdeal.sig) → Buf (Elt Ideal) ℓ) : Prop :=
  True

def quiescent_KLoss [hKLoss : Cert.KLoss.Facts] : Prop :=
  ∀ (m : (ℓ : Loc Cert.KLoss.nD Cert.KLoss.τ Cert.KLoss.sig) → Buf (Elt Bits) ℓ) (g : Dev Cert.KLoss.nD → PrngReg), Pre_KLoss m →
    θ_run (Cert.KLoss.defs (F := Bits)) (onTc (τ := Cert.KLoss.τ) (Cert.KLoss.main (F := Bits))) ⟨m, fun _ => 0, g⟩ (fun r => (∀ c : Dev Cert.KLoss.nD,
      r.2.mem ((c.tc : Thread Cert.KLoss.nD Cert.KLoss.τ).loc Cert.KLoss.main_arg0) = m ((c.tc : Thread Cert.KLoss.nD Cert.KLoss.τ).loc Cert.KLoss.main_arg0)
      ∧ r.2.mem ((c.tc : Thread Cert.KLoss.nD Cert.KLoss.τ).loc Cert.KLoss.main_arg1) = m ((c.tc : Thread Cert.KLoss.nD Cert.KLoss.τ).loc Cert.KLoss.main_arg1)
      ∧ r.2.mem ((c.tc : Thread Cert.KLoss.nD Cert.KLoss.τ).loc Cert.KLoss.main_arg2) = m ((c.tc : Thread Cert.KLoss.nD Cert.KLoss.τ).loc Cert.KLoss.main_arg2))
      ∧ r.2.sem = fun _ => 0)

def quiescent_KLossIdeal [hKLossIdeal : Cert.KLossIdeal.Facts] : Prop :=
  ∀ (m : (ℓ : Loc Cert.KLossIdeal.nD Cert.KLossIdeal.τ Cert.KLossIdeal.sig) → Buf (Elt Ideal) ℓ) (g : Dev Cert.KLossIdeal.nD → PrngReg), Pre_KLossIdeal m →
    θ_run (Cert.KLossIdeal.defs (F := Ideal)) (onTc (τ := Cert.KLossIdeal.τ) (Cert.KLossIdeal.main (F := Ideal))) ⟨m, fun _ => 0, g⟩ (fun r => (∀ c : Dev Cert.KLossIdeal.nD,
      r.2.mem ((c.tc : Thread Cert.KLossIdeal.nD Cert.KLossIdeal.τ).loc Cert.KLossIdeal.main_arg0) = m ((c.tc : Thread Cert.KLossIdeal.nD Cert.KLossIdeal.τ).loc Cert.KLossIdeal.main_arg0)
      ∧ r.2.mem ((c.tc : Thread Cert.KLossIdeal.nD Cert.KLossIdeal.τ).loc Cert.KLossIdeal.main_arg1) = m ((c.tc : Thread Cert.KLossIdeal.nD Cert.KLossIdeal.τ).loc Cert.KLossIdeal.main_arg1)
      ∧ r.2.mem ((c.tc : Thread Cert.KLossIdeal.nD Cert.KLossIdeal.τ).loc Cert.KLossIdeal.main_arg2) = m ((c.tc : Thread Cert.KLossIdeal.nD Cert.KLossIdeal.τ).loc Cert.KLossIdeal.main_arg2))
      ∧ r.2.sem = fun _ => 0)

def quiescent_KLossIdeal_pre_finite_loss [hKLossIdeal : Cert.KLossIdeal.Facts] [hPre_finite_loss : Cert.Pre_finite_loss.Facts] : Prop :=
  ∀ (m : (ℓ : Loc Cert.KLossIdeal.nD Cert.KLossIdeal.τ Cert.KLossIdeal.sig) → Buf (Elt Ideal) ℓ) (g : Dev Cert.KLossIdeal.nD → PrngReg), Pre_KLossIdeal_finite_loss m →
    θ_run (Cert.KLossIdeal.defs (F := Ideal)) (onTc (τ := Cert.KLossIdeal.τ) (Cert.KLossIdeal.main (F := Ideal))) ⟨m, fun _ => 0, g⟩ (fun r => (∀ c : Dev Cert.KLossIdeal.nD,
      r.2.mem ((c.tc : Thread Cert.KLossIdeal.nD Cert.KLossIdeal.τ).loc Cert.KLossIdeal.main_arg0) = m ((c.tc : Thread Cert.KLossIdeal.nD Cert.KLossIdeal.τ).loc Cert.KLossIdeal.main_arg0)
      ∧ r.2.mem ((c.tc : Thread Cert.KLossIdeal.nD Cert.KLossIdeal.τ).loc Cert.KLossIdeal.main_arg1) = m ((c.tc : Thread Cert.KLossIdeal.nD Cert.KLossIdeal.τ).loc Cert.KLossIdeal.main_arg1)
      ∧ r.2.mem ((c.tc : Thread Cert.KLossIdeal.nD Cert.KLossIdeal.τ).loc Cert.KLossIdeal.main_arg2) = m ((c.tc : Thread Cert.KLossIdeal.nD Cert.KLossIdeal.τ).loc Cert.KLossIdeal.main_arg2))
      ∧ r.2.sem = fun _ => 0)

def quiescent_RLossIdeal [hRLossIdeal : Cert.RLossIdeal.Facts] : Prop :=
  ∀ (m : (ℓ : Loc Cert.RLossIdeal.nD Cert.RLossIdeal.τ Cert.RLossIdeal.sig) → Buf (Elt Ideal) ℓ) (g : Dev Cert.RLossIdeal.nD → PrngReg), Pre_RLossIdeal m →
    θ_run (Cert.RLossIdeal.defs (F := Ideal)) (onTc (τ := Cert.RLossIdeal.τ) (Cert.RLossIdeal.main (F := Ideal))) ⟨m, fun _ => 0, g⟩ (fun r => (∀ c : Dev Cert.RLossIdeal.nD,
      r.2.mem ((c.tc : Thread Cert.RLossIdeal.nD Cert.RLossIdeal.τ).loc Cert.RLossIdeal.main_arg0) = m ((c.tc : Thread Cert.RLossIdeal.nD Cert.RLossIdeal.τ).loc Cert.RLossIdeal.main_arg0)
      ∧ r.2.mem ((c.tc : Thread Cert.RLossIdeal.nD Cert.RLossIdeal.τ).loc Cert.RLossIdeal.main_arg1) = m ((c.tc : Thread Cert.RLossIdeal.nD Cert.RLossIdeal.τ).loc Cert.RLossIdeal.main_arg1)
      ∧ r.2.mem ((c.tc : Thread Cert.RLossIdeal.nD Cert.RLossIdeal.τ).loc Cert.RLossIdeal.main_arg2) = m ((c.tc : Thread Cert.RLossIdeal.nD Cert.RLossIdeal.τ).loc Cert.RLossIdeal.main_arg2))
      ∧ r.2.sem = fun _ => 0)

def quiescent_RLossIdeal_pre_finite_loss [hRLossIdeal : Cert.RLossIdeal.Facts] [hPre_finite_loss : Cert.Pre_finite_loss.Facts] : Prop :=
  ∀ (m : (ℓ : Loc Cert.RLossIdeal.nD Cert.RLossIdeal.τ Cert.RLossIdeal.sig) → Buf (Elt Ideal) ℓ) (g : Dev Cert.RLossIdeal.nD → PrngReg), Pre_RLossIdeal_finite_loss m →
    θ_run (Cert.RLossIdeal.defs (F := Ideal)) (onTc (τ := Cert.RLossIdeal.τ) (Cert.RLossIdeal.main (F := Ideal))) ⟨m, fun _ => 0, g⟩ (fun r => (∀ c : Dev Cert.RLossIdeal.nD,
      r.2.mem ((c.tc : Thread Cert.RLossIdeal.nD Cert.RLossIdeal.τ).loc Cert.RLossIdeal.main_arg0) = m ((c.tc : Thread Cert.RLossIdeal.nD Cert.RLossIdeal.τ).loc Cert.RLossIdeal.main_arg0)
      ∧ r.2.mem ((c.tc : Thread Cert.RLossIdeal.nD Cert.RLossIdeal.τ).loc Cert.RLossIdeal.main_arg1) = m ((c.tc : Thread Cert.RLossIdeal.nD Cert.RLossIdeal.τ).loc Cert.RLossIdeal.main_arg1)
      ∧ r.2.mem ((c.tc : Thread Cert.RLossIdeal.nD Cert.RLossIdeal.τ).loc Cert.RLossIdeal.main_arg2) = m ((c.tc : Thread Cert.RLossIdeal.nD Cert.RLossIdeal.τ).loc Cert.RLossIdeal.main_arg2))
      ∧ r.2.sem = fun _ => 0)

def quiescent_KAttn [hKAttn : Cert.KAttn.Facts] : Prop :=
  ∀ (m : (ℓ : Loc Cert.KAttn.nD Cert.KAttn.τ Cert.KAttn.sig) → Buf (Elt Bits) ℓ) (g : Dev Cert.KAttn.nD → PrngReg), Pre_KAttn m →
    θ_run (Cert.KAttn.defs (F := Bits)) (onTc (τ := Cert.KAttn.τ) (Cert.KAttn.main (F := Bits))) ⟨m, fun _ => 0, g⟩ (fun r => (∀ c : Dev Cert.KAttn.nD,
      r.2.mem ((c.tc : Thread Cert.KAttn.nD Cert.KAttn.τ).loc Cert.KAttn.main_arg0) = m ((c.tc : Thread Cert.KAttn.nD Cert.KAttn.τ).loc Cert.KAttn.main_arg0)
      ∧ r.2.mem ((c.tc : Thread Cert.KAttn.nD Cert.KAttn.τ).loc Cert.KAttn.main_arg1) = m ((c.tc : Thread Cert.KAttn.nD Cert.KAttn.τ).loc Cert.KAttn.main_arg1)
      ∧ r.2.mem ((c.tc : Thread Cert.KAttn.nD Cert.KAttn.τ).loc Cert.KAttn.main_arg2) = m ((c.tc : Thread Cert.KAttn.nD Cert.KAttn.τ).loc Cert.KAttn.main_arg2)
      ∧ r.2.mem ((c.tc : Thread Cert.KAttn.nD Cert.KAttn.τ).loc Cert.KAttn.main_arg3) = m ((c.tc : Thread Cert.KAttn.nD Cert.KAttn.τ).loc Cert.KAttn.main_arg3)
      ∧ r.2.mem ((c.tc : Thread Cert.KAttn.nD Cert.KAttn.τ).loc Cert.KAttn.main_arg4) = m ((c.tc : Thread Cert.KAttn.nD Cert.KAttn.τ).loc Cert.KAttn.main_arg4))
      ∧ r.2.sem = fun _ => 0)

def quiescent_KAttnIdeal [hKAttnIdeal : Cert.KAttnIdeal.Facts] : Prop :=
  ∀ (m : (ℓ : Loc Cert.KAttnIdeal.nD Cert.KAttnIdeal.τ Cert.KAttnIdeal.sig) → Buf (Elt Ideal) ℓ) (g : Dev Cert.KAttnIdeal.nD → PrngReg), Pre_KAttnIdeal m →
    θ_run (Cert.KAttnIdeal.defs (F := Ideal)) (onTc (τ := Cert.KAttnIdeal.τ) (Cert.KAttnIdeal.main (F := Ideal))) ⟨m, fun _ => 0, g⟩ (fun r => (∀ c : Dev Cert.KAttnIdeal.nD,
      r.2.mem ((c.tc : Thread Cert.KAttnIdeal.nD Cert.KAttnIdeal.τ).loc Cert.KAttnIdeal.main_arg0) = m ((c.tc : Thread Cert.KAttnIdeal.nD Cert.KAttnIdeal.τ).loc Cert.KAttnIdeal.main_arg0)
      ∧ r.2.mem ((c.tc : Thread Cert.KAttnIdeal.nD Cert.KAttnIdeal.τ).loc Cert.KAttnIdeal.main_arg1) = m ((c.tc : Thread Cert.KAttnIdeal.nD Cert.KAttnIdeal.τ).loc Cert.KAttnIdeal.main_arg1)
      ∧ r.2.mem ((c.tc : Thread Cert.KAttnIdeal.nD Cert.KAttnIdeal.τ).loc Cert.KAttnIdeal.main_arg2) = m ((c.tc : Thread Cert.KAttnIdeal.nD Cert.KAttnIdeal.τ).loc Cert.KAttnIdeal.main_arg2)
      ∧ r.2.mem ((c.tc : Thread Cert.KAttnIdeal.nD Cert.KAttnIdeal.τ).loc Cert.KAttnIdeal.main_arg3) = m ((c.tc : Thread Cert.KAttnIdeal.nD Cert.KAttnIdeal.τ).loc Cert.KAttnIdeal.main_arg3)
      ∧ r.2.mem ((c.tc : Thread Cert.KAttnIdeal.nD Cert.KAttnIdeal.τ).loc Cert.KAttnIdeal.main_arg4) = m ((c.tc : Thread Cert.KAttnIdeal.nD Cert.KAttnIdeal.τ).loc Cert.KAttnIdeal.main_arg4))
      ∧ r.2.sem = fun _ => 0)

def quiescent_KAttnIdeal_pre_finite_attn [hKAttnIdeal : Cert.KAttnIdeal.Facts] [hPre_finite_attn : Cert.Pre_finite_attn.Facts] : Prop :=
  ∀ (m : (ℓ : Loc Cert.KAttnIdeal.nD Cert.KAttnIdeal.τ Cert.KAttnIdeal.sig) → Buf (Elt Ideal) ℓ) (g : Dev Cert.KAttnIdeal.nD → PrngReg), Pre_KAttnIdeal_finite_attn m →
    θ_run (Cert.KAttnIdeal.defs (F := Ideal)) (onTc (τ := Cert.KAttnIdeal.τ) (Cert.KAttnIdeal.main (F := Ideal))) ⟨m, fun _ => 0, g⟩ (fun r => (∀ c : Dev Cert.KAttnIdeal.nD,
      r.2.mem ((c.tc : Thread Cert.KAttnIdeal.nD Cert.KAttnIdeal.τ).loc Cert.KAttnIdeal.main_arg0) = m ((c.tc : Thread Cert.KAttnIdeal.nD Cert.KAttnIdeal.τ).loc Cert.KAttnIdeal.main_arg0)
      ∧ r.2.mem ((c.tc : Thread Cert.KAttnIdeal.nD Cert.KAttnIdeal.τ).loc Cert.KAttnIdeal.main_arg1) = m ((c.tc : Thread Cert.KAttnIdeal.nD Cert.KAttnIdeal.τ).loc Cert.KAttnIdeal.main_arg1)
      ∧ r.2.mem ((c.tc : Thread Cert.KAttnIdeal.nD Cert.KAttnIdeal.τ).loc Cert.KAttnIdeal.main_arg2) = m ((c.tc : Thread Cert.KAttnIdeal.nD Cert.KAttnIdeal.τ).loc Cert.KAttnIdeal.main_arg2)
      ∧ r.2.mem ((c.tc : Thread Cert.KAttnIdeal.nD Cert.KAttnIdeal.τ).loc Cert.KAttnIdeal.main_arg3) = m ((c.tc : Thread Cert.KAttnIdeal.nD Cert.KAttnIdeal.τ).loc Cert.KAttnIdeal.main_arg3)
      ∧ r.2.mem ((c.tc : Thread Cert.KAttnIdeal.nD Cert.KAttnIdeal.τ).loc Cert.KAttnIdeal.main_arg4) = m ((c.tc : Thread Cert.KAttnIdeal.nD Cert.KAttnIdeal.τ).loc Cert.KAttnIdeal.main_arg4))
      ∧ r.2.sem = fun _ => 0)

def quiescent_RAttnIdeal [hRAttnIdeal : Cert.RAttnIdeal.Facts] : Prop :=
  ∀ (m : (ℓ : Loc Cert.RAttnIdeal.nD Cert.RAttnIdeal.τ Cert.RAttnIdeal.sig) → Buf (Elt Ideal) ℓ) (g : Dev Cert.RAttnIdeal.nD → PrngReg), Pre_RAttnIdeal m →
    θ_run (Cert.RAttnIdeal.defs (F := Ideal)) (onTc (τ := Cert.RAttnIdeal.τ) (Cert.RAttnIdeal.main (F := Ideal))) ⟨m, fun _ => 0, g⟩ (fun r => (∀ c : Dev Cert.RAttnIdeal.nD,
      r.2.mem ((c.tc : Thread Cert.RAttnIdeal.nD Cert.RAttnIdeal.τ).loc Cert.RAttnIdeal.main_arg0) = m ((c.tc : Thread Cert.RAttnIdeal.nD Cert.RAttnIdeal.τ).loc Cert.RAttnIdeal.main_arg0)
      ∧ r.2.mem ((c.tc : Thread Cert.RAttnIdeal.nD Cert.RAttnIdeal.τ).loc Cert.RAttnIdeal.main_arg1) = m ((c.tc : Thread Cert.RAttnIdeal.nD Cert.RAttnIdeal.τ).loc Cert.RAttnIdeal.main_arg1)
      ∧ r.2.mem ((c.tc : Thread Cert.RAttnIdeal.nD Cert.RAttnIdeal.τ).loc Cert.RAttnIdeal.main_arg2) = m ((c.tc : Thread Cert.RAttnIdeal.nD Cert.RAttnIdeal.τ).loc Cert.RAttnIdeal.main_arg2)
      ∧ r.2.mem ((c.tc : Thread Cert.RAttnIdeal.nD Cert.RAttnIdeal.τ).loc Cert.RAttnIdeal.main_arg3) = m ((c.tc : Thread Cert.RAttnIdeal.nD Cert.RAttnIdeal.τ).loc Cert.RAttnIdeal.main_arg3)
      ∧ r.2.mem ((c.tc : Thread Cert.RAttnIdeal.nD Cert.RAttnIdeal.τ).loc Cert.RAttnIdeal.main_arg4) = m ((c.tc : Thread Cert.RAttnIdeal.nD Cert.RAttnIdeal.τ).loc Cert.RAttnIdeal.main_arg4))
      ∧ r.2.sem = fun _ => 0)

def quiescent_RAttnIdeal_pre_finite_attn [hRAttnIdeal : Cert.RAttnIdeal.Facts] [hPre_finite_attn : Cert.Pre_finite_attn.Facts] : Prop :=
  ∀ (m : (ℓ : Loc Cert.RAttnIdeal.nD Cert.RAttnIdeal.τ Cert.RAttnIdeal.sig) → Buf (Elt Ideal) ℓ) (g : Dev Cert.RAttnIdeal.nD → PrngReg), Pre_RAttnIdeal_finite_attn m →
    θ_run (Cert.RAttnIdeal.defs (F := Ideal)) (onTc (τ := Cert.RAttnIdeal.τ) (Cert.RAttnIdeal.main (F := Ideal))) ⟨m, fun _ => 0, g⟩ (fun r => (∀ c : Dev Cert.RAttnIdeal.nD,
      r.2.mem ((c.tc : Thread Cert.RAttnIdeal.nD Cert.RAttnIdeal.τ).loc Cert.RAttnIdeal.main_arg0) = m ((c.tc : Thread Cert.RAttnIdeal.nD Cert.RAttnIdeal.τ).loc Cert.RAttnIdeal.main_arg0)
      ∧ r.2.mem ((c.tc : Thread Cert.RAttnIdeal.nD Cert.RAttnIdeal.τ).loc Cert.RAttnIdeal.main_arg1) = m ((c.tc : Thread Cert.RAttnIdeal.nD Cert.RAttnIdeal.τ).loc Cert.RAttnIdeal.main_arg1)
      ∧ r.2.mem ((c.tc : Thread Cert.RAttnIdeal.nD Cert.RAttnIdeal.τ).loc Cert.RAttnIdeal.main_arg2) = m ((c.tc : Thread Cert.RAttnIdeal.nD Cert.RAttnIdeal.τ).loc Cert.RAttnIdeal.main_arg2)
      ∧ r.2.mem ((c.tc : Thread Cert.RAttnIdeal.nD Cert.RAttnIdeal.τ).loc Cert.RAttnIdeal.main_arg3) = m ((c.tc : Thread Cert.RAttnIdeal.nD Cert.RAttnIdeal.τ).loc Cert.RAttnIdeal.main_arg3)
      ∧ r.2.mem ((c.tc : Thread Cert.RAttnIdeal.nD Cert.RAttnIdeal.τ).loc Cert.RAttnIdeal.main_arg4) = m ((c.tc : Thread Cert.RAttnIdeal.nD Cert.RAttnIdeal.τ).loc Cert.RAttnIdeal.main_arg4))
      ∧ r.2.sem = fun _ => 0)

def quiescent_KPre [hKPre : Cert.KPre.Facts] : Prop :=
  ∀ (m : (ℓ : Loc Cert.KPre.nD Cert.KPre.τ Cert.KPre.sig) → Buf (Elt Bits) ℓ) (g : Dev Cert.KPre.nD → PrngReg), Pre_KPre m →
    θ_run (Cert.KPre.defs (F := Bits)) (onTc (τ := Cert.KPre.τ) (Cert.KPre.main (F := Bits))) ⟨m, fun _ => 0, g⟩ (fun r => (∀ c : Dev Cert.KPre.nD,
      r.2.mem ((c.tc : Thread Cert.KPre.nD Cert.KPre.τ).loc Cert.KPre.main_arg0) = m ((c.tc : Thread Cert.KPre.nD Cert.KPre.τ).loc Cert.KPre.main_arg0)
      ∧ r.2.mem ((c.tc : Thread Cert.KPre.nD Cert.KPre.τ).loc Cert.KPre.main_arg1) = m ((c.tc : Thread Cert.KPre.nD Cert.KPre.τ).loc Cert.KPre.main_arg1)
      ∧ r.2.mem ((c.tc : Thread Cert.KPre.nD Cert.KPre.τ).loc Cert.KPre.main_arg2) = m ((c.tc : Thread Cert.KPre.nD Cert.KPre.τ).loc Cert.KPre.main_arg2)
      ∧ r.2.mem ((c.tc : Thread Cert.KPre.nD Cert.KPre.τ).loc Cert.KPre.main_arg3) = m ((c.tc : Thread Cert.KPre.nD Cert.KPre.τ).loc Cert.KPre.main_arg3)
      ∧ r.2.mem ((c.tc : Thread Cert.KPre.nD Cert.KPre.τ).loc Cert.KPre.main_arg4) = m ((c.tc : Thread Cert.KPre.nD Cert.KPre.τ).loc Cert.KPre.main_arg4)
      ∧ r.2.mem ((c.tc : Thread Cert.KPre.nD Cert.KPre.τ).loc Cert.KPre.main_arg5) = m ((c.tc : Thread Cert.KPre.nD Cert.KPre.τ).loc Cert.KPre.main_arg5))
      ∧ r.2.sem = fun _ => 0)

def quiescent_KPreIdeal [hKPreIdeal : Cert.KPreIdeal.Facts] : Prop :=
  ∀ (m : (ℓ : Loc Cert.KPreIdeal.nD Cert.KPreIdeal.τ Cert.KPreIdeal.sig) → Buf (Elt Ideal) ℓ) (g : Dev Cert.KPreIdeal.nD → PrngReg), Pre_KPreIdeal m →
    θ_run (Cert.KPreIdeal.defs (F := Ideal)) (onTc (τ := Cert.KPreIdeal.τ) (Cert.KPreIdeal.main (F := Ideal))) ⟨m, fun _ => 0, g⟩ (fun r => (∀ c : Dev Cert.KPreIdeal.nD,
      r.2.mem ((c.tc : Thread Cert.KPreIdeal.nD Cert.KPreIdeal.τ).loc Cert.KPreIdeal.main_arg0) = m ((c.tc : Thread Cert.KPreIdeal.nD Cert.KPreIdeal.τ).loc Cert.KPreIdeal.main_arg0)
      ∧ r.2.mem ((c.tc : Thread Cert.KPreIdeal.nD Cert.KPreIdeal.τ).loc Cert.KPreIdeal.main_arg1) = m ((c.tc : Thread Cert.KPreIdeal.nD Cert.KPreIdeal.τ).loc Cert.KPreIdeal.main_arg1)
      ∧ r.2.mem ((c.tc : Thread Cert.KPreIdeal.nD Cert.KPreIdeal.τ).loc Cert.KPreIdeal.main_arg2) = m ((c.tc : Thread Cert.KPreIdeal.nD Cert.KPreIdeal.τ).loc Cert.KPreIdeal.main_arg2)
      ∧ r.2.mem ((c.tc : Thread Cert.KPreIdeal.nD Cert.KPreIdeal.τ).loc Cert.KPreIdeal.main_arg3) = m ((c.tc : Thread Cert.KPreIdeal.nD Cert.KPreIdeal.τ).loc Cert.KPreIdeal.main_arg3)
      ∧ r.2.mem ((c.tc : Thread Cert.KPreIdeal.nD Cert.KPreIdeal.τ).loc Cert.KPreIdeal.main_arg4) = m ((c.tc : Thread Cert.KPreIdeal.nD Cert.KPreIdeal.τ).loc Cert.KPreIdeal.main_arg4)
      ∧ r.2.mem ((c.tc : Thread Cert.KPreIdeal.nD Cert.KPreIdeal.τ).loc Cert.KPreIdeal.main_arg5) = m ((c.tc : Thread Cert.KPreIdeal.nD Cert.KPreIdeal.τ).loc Cert.KPreIdeal.main_arg5))
      ∧ r.2.sem = fun _ => 0)

def quiescent_KPreIdeal_pre_finite_pre [hKPreIdeal : Cert.KPreIdeal.Facts] [hPre_finite_pre : Cert.Pre_finite_pre.Facts] : Prop :=
  ∀ (m : (ℓ : Loc Cert.KPreIdeal.nD Cert.KPreIdeal.τ Cert.KPreIdeal.sig) → Buf (Elt Ideal) ℓ) (g : Dev Cert.KPreIdeal.nD → PrngReg), Pre_KPreIdeal_finite_pre m →
    θ_run (Cert.KPreIdeal.defs (F := Ideal)) (onTc (τ := Cert.KPreIdeal.τ) (Cert.KPreIdeal.main (F := Ideal))) ⟨m, fun _ => 0, g⟩ (fun r => (∀ c : Dev Cert.KPreIdeal.nD,
      r.2.mem ((c.tc : Thread Cert.KPreIdeal.nD Cert.KPreIdeal.τ).loc Cert.KPreIdeal.main_arg0) = m ((c.tc : Thread Cert.KPreIdeal.nD Cert.KPreIdeal.τ).loc Cert.KPreIdeal.main_arg0)
      ∧ r.2.mem ((c.tc : Thread Cert.KPreIdeal.nD Cert.KPreIdeal.τ).loc Cert.KPreIdeal.main_arg1) = m ((c.tc : Thread Cert.KPreIdeal.nD Cert.KPreIdeal.τ).loc Cert.KPreIdeal.main_arg1)
      ∧ r.2.mem ((c.tc : Thread Cert.KPreIdeal.nD Cert.KPreIdeal.τ).loc Cert.KPreIdeal.main_arg2) = m ((c.tc : Thread Cert.KPreIdeal.nD Cert.KPreIdeal.τ).loc Cert.KPreIdeal.main_arg2)
      ∧ r.2.mem ((c.tc : Thread Cert.KPreIdeal.nD Cert.KPreIdeal.τ).loc Cert.KPreIdeal.main_arg3) = m ((c.tc : Thread Cert.KPreIdeal.nD Cert.KPreIdeal.τ).loc Cert.KPreIdeal.main_arg3)
      ∧ r.2.mem ((c.tc : Thread Cert.KPreIdeal.nD Cert.KPreIdeal.τ).loc Cert.KPreIdeal.main_arg4) = m ((c.tc : Thread Cert.KPreIdeal.nD Cert.KPreIdeal.τ).loc Cert.KPreIdeal.main_arg4)
      ∧ r.2.mem ((c.tc : Thread Cert.KPreIdeal.nD Cert.KPreIdeal.τ).loc Cert.KPreIdeal.main_arg5) = m ((c.tc : Thread Cert.KPreIdeal.nD Cert.KPreIdeal.τ).loc Cert.KPreIdeal.main_arg5))
      ∧ r.2.sem = fun _ => 0)

def quiescent_RPreIdeal [hRPreIdeal : Cert.RPreIdeal.Facts] : Prop :=
  ∀ (m : (ℓ : Loc Cert.RPreIdeal.nD Cert.RPreIdeal.τ Cert.RPreIdeal.sig) → Buf (Elt Ideal) ℓ) (g : Dev Cert.RPreIdeal.nD → PrngReg), Pre_RPreIdeal m →
    θ_run (Cert.RPreIdeal.defs (F := Ideal)) (onTc (τ := Cert.RPreIdeal.τ) (Cert.RPreIdeal.main (F := Ideal))) ⟨m, fun _ => 0, g⟩ (fun r => (∀ c : Dev Cert.RPreIdeal.nD,
      r.2.mem ((c.tc : Thread Cert.RPreIdeal.nD Cert.RPreIdeal.τ).loc Cert.RPreIdeal.main_arg0) = m ((c.tc : Thread Cert.RPreIdeal.nD Cert.RPreIdeal.τ).loc Cert.RPreIdeal.main_arg0)
      ∧ r.2.mem ((c.tc : Thread Cert.RPreIdeal.nD Cert.RPreIdeal.τ).loc Cert.RPreIdeal.main_arg1) = m ((c.tc : Thread Cert.RPreIdeal.nD Cert.RPreIdeal.τ).loc Cert.RPreIdeal.main_arg1)
      ∧ r.2.mem ((c.tc : Thread Cert.RPreIdeal.nD Cert.RPreIdeal.τ).loc Cert.RPreIdeal.main_arg2) = m ((c.tc : Thread Cert.RPreIdeal.nD Cert.RPreIdeal.τ).loc Cert.RPreIdeal.main_arg2)
      ∧ r.2.mem ((c.tc : Thread Cert.RPreIdeal.nD Cert.RPreIdeal.τ).loc Cert.RPreIdeal.main_arg3) = m ((c.tc : Thread Cert.RPreIdeal.nD Cert.RPreIdeal.τ).loc Cert.RPreIdeal.main_arg3)
      ∧ r.2.mem ((c.tc : Thread Cert.RPreIdeal.nD Cert.RPreIdeal.τ).loc Cert.RPreIdeal.main_arg4) = m ((c.tc : Thread Cert.RPreIdeal.nD Cert.RPreIdeal.τ).loc Cert.RPreIdeal.main_arg4)
      ∧ r.2.mem ((c.tc : Thread Cert.RPreIdeal.nD Cert.RPreIdeal.τ).loc Cert.RPreIdeal.main_arg5) = m ((c.tc : Thread Cert.RPreIdeal.nD Cert.RPreIdeal.τ).loc Cert.RPreIdeal.main_arg5))
      ∧ r.2.sem = fun _ => 0)

def quiescent_RPreIdeal_pre_finite_pre [hRPreIdeal : Cert.RPreIdeal.Facts] [hPre_finite_pre : Cert.Pre_finite_pre.Facts] : Prop :=
  ∀ (m : (ℓ : Loc Cert.RPreIdeal.nD Cert.RPreIdeal.τ Cert.RPreIdeal.sig) → Buf (Elt Ideal) ℓ) (g : Dev Cert.RPreIdeal.nD → PrngReg), Pre_RPreIdeal_finite_pre m →
    θ_run (Cert.RPreIdeal.defs (F := Ideal)) (onTc (τ := Cert.RPreIdeal.τ) (Cert.RPreIdeal.main (F := Ideal))) ⟨m, fun _ => 0, g⟩ (fun r => (∀ c : Dev Cert.RPreIdeal.nD,
      r.2.mem ((c.tc : Thread Cert.RPreIdeal.nD Cert.RPreIdeal.τ).loc Cert.RPreIdeal.main_arg0) = m ((c.tc : Thread Cert.RPreIdeal.nD Cert.RPreIdeal.τ).loc Cert.RPreIdeal.main_arg0)
      ∧ r.2.mem ((c.tc : Thread Cert.RPreIdeal.nD Cert.RPreIdeal.τ).loc Cert.RPreIdeal.main_arg1) = m ((c.tc : Thread Cert.RPreIdeal.nD Cert.RPreIdeal.τ).loc Cert.RPreIdeal.main_arg1)
      ∧ r.2.mem ((c.tc : Thread Cert.RPreIdeal.nD Cert.RPreIdeal.τ).loc Cert.RPreIdeal.main_arg2) = m ((c.tc : Thread Cert.RPreIdeal.nD Cert.RPreIdeal.τ).loc Cert.RPreIdeal.main_arg2)
      ∧ r.2.mem ((c.tc : Thread Cert.RPreIdeal.nD Cert.RPreIdeal.τ).loc Cert.RPreIdeal.main_arg3) = m ((c.tc : Thread Cert.RPreIdeal.nD Cert.RPreIdeal.τ).loc Cert.RPreIdeal.main_arg3)
      ∧ r.2.mem ((c.tc : Thread Cert.RPreIdeal.nD Cert.RPreIdeal.τ).loc Cert.RPreIdeal.main_arg4) = m ((c.tc : Thread Cert.RPreIdeal.nD Cert.RPreIdeal.τ).loc Cert.RPreIdeal.main_arg4)
      ∧ r.2.mem ((c.tc : Thread Cert.RPreIdeal.nD Cert.RPreIdeal.τ).loc Cert.RPreIdeal.main_arg5) = m ((c.tc : Thread Cert.RPreIdeal.nD Cert.RPreIdeal.τ).loc Cert.RPreIdeal.main_arg5))
      ∧ r.2.sem = fun _ => 0)

def quiescent_KQuery [hKQuery : Cert.KQuery.Facts] : Prop :=
  ∀ (m : (ℓ : Loc Cert.KQuery.nD Cert.KQuery.τ Cert.KQuery.sig) → Buf (Elt Bits) ℓ) (g : Dev Cert.KQuery.nD → PrngReg), Pre_KQuery m →
    θ_run (Cert.KQuery.defs (F := Bits)) (onTc (τ := Cert.KQuery.τ) (Cert.KQuery.main (F := Bits))) ⟨m, fun _ => 0, g⟩ (fun r => (∀ c : Dev Cert.KQuery.nD,
      r.2.mem ((c.tc : Thread Cert.KQuery.nD Cert.KQuery.τ).loc Cert.KQuery.main_arg0) = m ((c.tc : Thread Cert.KQuery.nD Cert.KQuery.τ).loc Cert.KQuery.main_arg0)
      ∧ r.2.mem ((c.tc : Thread Cert.KQuery.nD Cert.KQuery.τ).loc Cert.KQuery.main_arg1) = m ((c.tc : Thread Cert.KQuery.nD Cert.KQuery.τ).loc Cert.KQuery.main_arg1)
      ∧ r.2.mem ((c.tc : Thread Cert.KQuery.nD Cert.KQuery.τ).loc Cert.KQuery.main_arg2) = m ((c.tc : Thread Cert.KQuery.nD Cert.KQuery.τ).loc Cert.KQuery.main_arg2)
      ∧ r.2.mem ((c.tc : Thread Cert.KQuery.nD Cert.KQuery.τ).loc Cert.KQuery.main_arg3) = m ((c.tc : Thread Cert.KQuery.nD Cert.KQuery.τ).loc Cert.KQuery.main_arg3)
      ∧ r.2.mem ((c.tc : Thread Cert.KQuery.nD Cert.KQuery.τ).loc Cert.KQuery.main_arg4) = m ((c.tc : Thread Cert.KQuery.nD Cert.KQuery.τ).loc Cert.KQuery.main_arg4)
      ∧ r.2.mem ((c.tc : Thread Cert.KQuery.nD Cert.KQuery.τ).loc Cert.KQuery.main_arg5) = m ((c.tc : Thread Cert.KQuery.nD Cert.KQuery.τ).loc Cert.KQuery.main_arg5))
      ∧ r.2.sem = fun _ => 0)

def quiescent_KQueryIdeal [hKQueryIdeal : Cert.KQueryIdeal.Facts] : Prop :=
  ∀ (m : (ℓ : Loc Cert.KQueryIdeal.nD Cert.KQueryIdeal.τ Cert.KQueryIdeal.sig) → Buf (Elt Ideal) ℓ) (g : Dev Cert.KQueryIdeal.nD → PrngReg), Pre_KQueryIdeal m →
    θ_run (Cert.KQueryIdeal.defs (F := Ideal)) (onTc (τ := Cert.KQueryIdeal.τ) (Cert.KQueryIdeal.main (F := Ideal))) ⟨m, fun _ => 0, g⟩ (fun r => (∀ c : Dev Cert.KQueryIdeal.nD,
      r.2.mem ((c.tc : Thread Cert.KQueryIdeal.nD Cert.KQueryIdeal.τ).loc Cert.KQueryIdeal.main_arg0) = m ((c.tc : Thread Cert.KQueryIdeal.nD Cert.KQueryIdeal.τ).loc Cert.KQueryIdeal.main_arg0)
      ∧ r.2.mem ((c.tc : Thread Cert.KQueryIdeal.nD Cert.KQueryIdeal.τ).loc Cert.KQueryIdeal.main_arg1) = m ((c.tc : Thread Cert.KQueryIdeal.nD Cert.KQueryIdeal.τ).loc Cert.KQueryIdeal.main_arg1)
      ∧ r.2.mem ((c.tc : Thread Cert.KQueryIdeal.nD Cert.KQueryIdeal.τ).loc Cert.KQueryIdeal.main_arg2) = m ((c.tc : Thread Cert.KQueryIdeal.nD Cert.KQueryIdeal.τ).loc Cert.KQueryIdeal.main_arg2)
      ∧ r.2.mem ((c.tc : Thread Cert.KQueryIdeal.nD Cert.KQueryIdeal.τ).loc Cert.KQueryIdeal.main_arg3) = m ((c.tc : Thread Cert.KQueryIdeal.nD Cert.KQueryIdeal.τ).loc Cert.KQueryIdeal.main_arg3)
      ∧ r.2.mem ((c.tc : Thread Cert.KQueryIdeal.nD Cert.KQueryIdeal.τ).loc Cert.KQueryIdeal.main_arg4) = m ((c.tc : Thread Cert.KQueryIdeal.nD Cert.KQueryIdeal.τ).loc Cert.KQueryIdeal.main_arg4)
      ∧ r.2.mem ((c.tc : Thread Cert.KQueryIdeal.nD Cert.KQueryIdeal.τ).loc Cert.KQueryIdeal.main_arg5) = m ((c.tc : Thread Cert.KQueryIdeal.nD Cert.KQueryIdeal.τ).loc Cert.KQueryIdeal.main_arg5))
      ∧ r.2.sem = fun _ => 0)

def quiescent_KQueryIdeal_pre_finite_query [hKQueryIdeal : Cert.KQueryIdeal.Facts] [hPre_finite_query : Cert.Pre_finite_query.Facts] : Prop :=
  ∀ (m : (ℓ : Loc Cert.KQueryIdeal.nD Cert.KQueryIdeal.τ Cert.KQueryIdeal.sig) → Buf (Elt Ideal) ℓ) (g : Dev Cert.KQueryIdeal.nD → PrngReg), Pre_KQueryIdeal_finite_query m →
    θ_run (Cert.KQueryIdeal.defs (F := Ideal)) (onTc (τ := Cert.KQueryIdeal.τ) (Cert.KQueryIdeal.main (F := Ideal))) ⟨m, fun _ => 0, g⟩ (fun r => (∀ c : Dev Cert.KQueryIdeal.nD,
      r.2.mem ((c.tc : Thread Cert.KQueryIdeal.nD Cert.KQueryIdeal.τ).loc Cert.KQueryIdeal.main_arg0) = m ((c.tc : Thread Cert.KQueryIdeal.nD Cert.KQueryIdeal.τ).loc Cert.KQueryIdeal.main_arg0)
      ∧ r.2.mem ((c.tc : Thread Cert.KQueryIdeal.nD Cert.KQueryIdeal.τ).loc Cert.KQueryIdeal.main_arg1) = m ((c.tc : Thread Cert.KQueryIdeal.nD Cert.KQueryIdeal.τ).loc Cert.KQueryIdeal.main_arg1)
      ∧ r.2.mem ((c.tc : Thread Cert.KQueryIdeal.nD Cert.KQueryIdeal.τ).loc Cert.KQueryIdeal.main_arg2) = m ((c.tc : Thread Cert.KQueryIdeal.nD Cert.KQueryIdeal.τ).loc Cert.KQueryIdeal.main_arg2)
      ∧ r.2.mem ((c.tc : Thread Cert.KQueryIdeal.nD Cert.KQueryIdeal.τ).loc Cert.KQueryIdeal.main_arg3) = m ((c.tc : Thread Cert.KQueryIdeal.nD Cert.KQueryIdeal.τ).loc Cert.KQueryIdeal.main_arg3)
      ∧ r.2.mem ((c.tc : Thread Cert.KQueryIdeal.nD Cert.KQueryIdeal.τ).loc Cert.KQueryIdeal.main_arg4) = m ((c.tc : Thread Cert.KQueryIdeal.nD Cert.KQueryIdeal.τ).loc Cert.KQueryIdeal.main_arg4)
      ∧ r.2.mem ((c.tc : Thread Cert.KQueryIdeal.nD Cert.KQueryIdeal.τ).loc Cert.KQueryIdeal.main_arg5) = m ((c.tc : Thread Cert.KQueryIdeal.nD Cert.KQueryIdeal.τ).loc Cert.KQueryIdeal.main_arg5))
      ∧ r.2.sem = fun _ => 0)

def quiescent_RQueryIdeal [hRQueryIdeal : Cert.RQueryIdeal.Facts] : Prop :=
  ∀ (m : (ℓ : Loc Cert.RQueryIdeal.nD Cert.RQueryIdeal.τ Cert.RQueryIdeal.sig) → Buf (Elt Ideal) ℓ) (g : Dev Cert.RQueryIdeal.nD → PrngReg), Pre_RQueryIdeal m →
    θ_run (Cert.RQueryIdeal.defs (F := Ideal)) (onTc (τ := Cert.RQueryIdeal.τ) (Cert.RQueryIdeal.main (F := Ideal))) ⟨m, fun _ => 0, g⟩ (fun r => (∀ c : Dev Cert.RQueryIdeal.nD,
      r.2.mem ((c.tc : Thread Cert.RQueryIdeal.nD Cert.RQueryIdeal.τ).loc Cert.RQueryIdeal.main_arg0) = m ((c.tc : Thread Cert.RQueryIdeal.nD Cert.RQueryIdeal.τ).loc Cert.RQueryIdeal.main_arg0)
      ∧ r.2.mem ((c.tc : Thread Cert.RQueryIdeal.nD Cert.RQueryIdeal.τ).loc Cert.RQueryIdeal.main_arg1) = m ((c.tc : Thread Cert.RQueryIdeal.nD Cert.RQueryIdeal.τ).loc Cert.RQueryIdeal.main_arg1)
      ∧ r.2.mem ((c.tc : Thread Cert.RQueryIdeal.nD Cert.RQueryIdeal.τ).loc Cert.RQueryIdeal.main_arg2) = m ((c.tc : Thread Cert.RQueryIdeal.nD Cert.RQueryIdeal.τ).loc Cert.RQueryIdeal.main_arg2)
      ∧ r.2.mem ((c.tc : Thread Cert.RQueryIdeal.nD Cert.RQueryIdeal.τ).loc Cert.RQueryIdeal.main_arg3) = m ((c.tc : Thread Cert.RQueryIdeal.nD Cert.RQueryIdeal.τ).loc Cert.RQueryIdeal.main_arg3)
      ∧ r.2.mem ((c.tc : Thread Cert.RQueryIdeal.nD Cert.RQueryIdeal.τ).loc Cert.RQueryIdeal.main_arg4) = m ((c.tc : Thread Cert.RQueryIdeal.nD Cert.RQueryIdeal.τ).loc Cert.RQueryIdeal.main_arg4)
      ∧ r.2.mem ((c.tc : Thread Cert.RQueryIdeal.nD Cert.RQueryIdeal.τ).loc Cert.RQueryIdeal.main_arg5) = m ((c.tc : Thread Cert.RQueryIdeal.nD Cert.RQueryIdeal.τ).loc Cert.RQueryIdeal.main_arg5))
      ∧ r.2.sem = fun _ => 0)

def quiescent_RQueryIdeal_pre_finite_query [hRQueryIdeal : Cert.RQueryIdeal.Facts] [hPre_finite_query : Cert.Pre_finite_query.Facts] : Prop :=
  ∀ (m : (ℓ : Loc Cert.RQueryIdeal.nD Cert.RQueryIdeal.τ Cert.RQueryIdeal.sig) → Buf (Elt Ideal) ℓ) (g : Dev Cert.RQueryIdeal.nD → PrngReg), Pre_RQueryIdeal_finite_query m →
    θ_run (Cert.RQueryIdeal.defs (F := Ideal)) (onTc (τ := Cert.RQueryIdeal.τ) (Cert.RQueryIdeal.main (F := Ideal))) ⟨m, fun _ => 0, g⟩ (fun r => (∀ c : Dev Cert.RQueryIdeal.nD,
      r.2.mem ((c.tc : Thread Cert.RQueryIdeal.nD Cert.RQueryIdeal.τ).loc Cert.RQueryIdeal.main_arg0) = m ((c.tc : Thread Cert.RQueryIdeal.nD Cert.RQueryIdeal.τ).loc Cert.RQueryIdeal.main_arg0)
      ∧ r.2.mem ((c.tc : Thread Cert.RQueryIdeal.nD Cert.RQueryIdeal.τ).loc Cert.RQueryIdeal.main_arg1) = m ((c.tc : Thread Cert.RQueryIdeal.nD Cert.RQueryIdeal.τ).loc Cert.RQueryIdeal.main_arg1)
      ∧ r.2.mem ((c.tc : Thread Cert.RQueryIdeal.nD Cert.RQueryIdeal.τ).loc Cert.RQueryIdeal.main_arg2) = m ((c.tc : Thread Cert.RQueryIdeal.nD Cert.RQueryIdeal.τ).loc Cert.RQueryIdeal.main_arg2)
      ∧ r.2.mem ((c.tc : Thread Cert.RQueryIdeal.nD Cert.RQueryIdeal.τ).loc Cert.RQueryIdeal.main_arg3) = m ((c.tc : Thread Cert.RQueryIdeal.nD Cert.RQueryIdeal.τ).loc Cert.RQueryIdeal.main_arg3)
      ∧ r.2.mem ((c.tc : Thread Cert.RQueryIdeal.nD Cert.RQueryIdeal.τ).loc Cert.RQueryIdeal.main_arg4) = m ((c.tc : Thread Cert.RQueryIdeal.nD Cert.RQueryIdeal.τ).loc Cert.RQueryIdeal.main_arg4)
      ∧ r.2.mem ((c.tc : Thread Cert.RQueryIdeal.nD Cert.RQueryIdeal.τ).loc Cert.RQueryIdeal.main_arg5) = m ((c.tc : Thread Cert.RQueryIdeal.nD Cert.RQueryIdeal.τ).loc Cert.RQueryIdeal.main_arg5))
      ∧ r.2.sem = fun _ => 0)

def quiescent_KKeys [hKKeys : Cert.KKeys.Facts] : Prop :=
  ∀ (m : (ℓ : Loc Cert.KKeys.nD Cert.KKeys.τ Cert.KKeys.sig) → Buf (Elt Bits) ℓ) (g : Dev Cert.KKeys.nD → PrngReg), Pre_KKeys m →
    θ_run (Cert.KKeys.defs (F := Bits)) (onTc (τ := Cert.KKeys.τ) (Cert.KKeys.main (F := Bits))) ⟨m, fun _ => 0, g⟩ (fun r => (∀ c : Dev Cert.KKeys.nD,
      r.2.mem ((c.tc : Thread Cert.KKeys.nD Cert.KKeys.τ).loc Cert.KKeys.main_arg0) = m ((c.tc : Thread Cert.KKeys.nD Cert.KKeys.τ).loc Cert.KKeys.main_arg0)
      ∧ r.2.mem ((c.tc : Thread Cert.KKeys.nD Cert.KKeys.τ).loc Cert.KKeys.main_arg1) = m ((c.tc : Thread Cert.KKeys.nD Cert.KKeys.τ).loc Cert.KKeys.main_arg1)
      ∧ r.2.mem ((c.tc : Thread Cert.KKeys.nD Cert.KKeys.τ).loc Cert.KKeys.main_arg2) = m ((c.tc : Thread Cert.KKeys.nD Cert.KKeys.τ).loc Cert.KKeys.main_arg2)
      ∧ r.2.mem ((c.tc : Thread Cert.KKeys.nD Cert.KKeys.τ).loc Cert.KKeys.main_arg3) = m ((c.tc : Thread Cert.KKeys.nD Cert.KKeys.τ).loc Cert.KKeys.main_arg3)
      ∧ r.2.mem ((c.tc : Thread Cert.KKeys.nD Cert.KKeys.τ).loc Cert.KKeys.main_arg4) = m ((c.tc : Thread Cert.KKeys.nD Cert.KKeys.τ).loc Cert.KKeys.main_arg4)
      ∧ r.2.mem ((c.tc : Thread Cert.KKeys.nD Cert.KKeys.τ).loc Cert.KKeys.main_arg5) = m ((c.tc : Thread Cert.KKeys.nD Cert.KKeys.τ).loc Cert.KKeys.main_arg5)
      ∧ r.2.mem ((c.tc : Thread Cert.KKeys.nD Cert.KKeys.τ).loc Cert.KKeys.main_arg6) = m ((c.tc : Thread Cert.KKeys.nD Cert.KKeys.τ).loc Cert.KKeys.main_arg6))
      ∧ r.2.sem = fun _ => 0)

def quiescent_KKeysIdeal [hKKeysIdeal : Cert.KKeysIdeal.Facts] : Prop :=
  ∀ (m : (ℓ : Loc Cert.KKeysIdeal.nD Cert.KKeysIdeal.τ Cert.KKeysIdeal.sig) → Buf (Elt Ideal) ℓ) (g : Dev Cert.KKeysIdeal.nD → PrngReg), Pre_KKeysIdeal m →
    θ_run (Cert.KKeysIdeal.defs (F := Ideal)) (onTc (τ := Cert.KKeysIdeal.τ) (Cert.KKeysIdeal.main (F := Ideal))) ⟨m, fun _ => 0, g⟩ (fun r => (∀ c : Dev Cert.KKeysIdeal.nD,
      r.2.mem ((c.tc : Thread Cert.KKeysIdeal.nD Cert.KKeysIdeal.τ).loc Cert.KKeysIdeal.main_arg0) = m ((c.tc : Thread Cert.KKeysIdeal.nD Cert.KKeysIdeal.τ).loc Cert.KKeysIdeal.main_arg0)
      ∧ r.2.mem ((c.tc : Thread Cert.KKeysIdeal.nD Cert.KKeysIdeal.τ).loc Cert.KKeysIdeal.main_arg1) = m ((c.tc : Thread Cert.KKeysIdeal.nD Cert.KKeysIdeal.τ).loc Cert.KKeysIdeal.main_arg1)
      ∧ r.2.mem ((c.tc : Thread Cert.KKeysIdeal.nD Cert.KKeysIdeal.τ).loc Cert.KKeysIdeal.main_arg2) = m ((c.tc : Thread Cert.KKeysIdeal.nD Cert.KKeysIdeal.τ).loc Cert.KKeysIdeal.main_arg2)
      ∧ r.2.mem ((c.tc : Thread Cert.KKeysIdeal.nD Cert.KKeysIdeal.τ).loc Cert.KKeysIdeal.main_arg3) = m ((c.tc : Thread Cert.KKeysIdeal.nD Cert.KKeysIdeal.τ).loc Cert.KKeysIdeal.main_arg3)
      ∧ r.2.mem ((c.tc : Thread Cert.KKeysIdeal.nD Cert.KKeysIdeal.τ).loc Cert.KKeysIdeal.main_arg4) = m ((c.tc : Thread Cert.KKeysIdeal.nD Cert.KKeysIdeal.τ).loc Cert.KKeysIdeal.main_arg4)
      ∧ r.2.mem ((c.tc : Thread Cert.KKeysIdeal.nD Cert.KKeysIdeal.τ).loc Cert.KKeysIdeal.main_arg5) = m ((c.tc : Thread Cert.KKeysIdeal.nD Cert.KKeysIdeal.τ).loc Cert.KKeysIdeal.main_arg5)
      ∧ r.2.mem ((c.tc : Thread Cert.KKeysIdeal.nD Cert.KKeysIdeal.τ).loc Cert.KKeysIdeal.main_arg6) = m ((c.tc : Thread Cert.KKeysIdeal.nD Cert.KKeysIdeal.τ).loc Cert.KKeysIdeal.main_arg6))
      ∧ r.2.sem = fun _ => 0)

def quiescent_KKeysIdeal_pre_finite_keys [hKKeysIdeal : Cert.KKeysIdeal.Facts] [hPre_finite_keys : Cert.Pre_finite_keys.Facts] : Prop :=
  ∀ (m : (ℓ : Loc Cert.KKeysIdeal.nD Cert.KKeysIdeal.τ Cert.KKeysIdeal.sig) → Buf (Elt Ideal) ℓ) (g : Dev Cert.KKeysIdeal.nD → PrngReg), Pre_KKeysIdeal_finite_keys m →
    θ_run (Cert.KKeysIdeal.defs (F := Ideal)) (onTc (τ := Cert.KKeysIdeal.τ) (Cert.KKeysIdeal.main (F := Ideal))) ⟨m, fun _ => 0, g⟩ (fun r => (∀ c : Dev Cert.KKeysIdeal.nD,
      r.2.mem ((c.tc : Thread Cert.KKeysIdeal.nD Cert.KKeysIdeal.τ).loc Cert.KKeysIdeal.main_arg0) = m ((c.tc : Thread Cert.KKeysIdeal.nD Cert.KKeysIdeal.τ).loc Cert.KKeysIdeal.main_arg0)
      ∧ r.2.mem ((c.tc : Thread Cert.KKeysIdeal.nD Cert.KKeysIdeal.τ).loc Cert.KKeysIdeal.main_arg1) = m ((c.tc : Thread Cert.KKeysIdeal.nD Cert.KKeysIdeal.τ).loc Cert.KKeysIdeal.main_arg1)
      ∧ r.2.mem ((c.tc : Thread Cert.KKeysIdeal.nD Cert.KKeysIdeal.τ).loc Cert.KKeysIdeal.main_arg2) = m ((c.tc : Thread Cert.KKeysIdeal.nD Cert.KKeysIdeal.τ).loc Cert.KKeysIdeal.main_arg2)
      ∧ r.2.mem ((c.tc : Thread Cert.KKeysIdeal.nD Cert.KKeysIdeal.τ).loc Cert.KKeysIdeal.main_arg3) = m ((c.tc : Thread Cert.KKeysIdeal.nD Cert.KKeysIdeal.τ).loc Cert.KKeysIdeal.main_arg3)
      ∧ r.2.mem ((c.tc : Thread Cert.KKeysIdeal.nD Cert.KKeysIdeal.τ).loc Cert.KKeysIdeal.main_arg4) = m ((c.tc : Thread Cert.KKeysIdeal.nD Cert.KKeysIdeal.τ).loc Cert.KKeysIdeal.main_arg4)
      ∧ r.2.mem ((c.tc : Thread Cert.KKeysIdeal.nD Cert.KKeysIdeal.τ).loc Cert.KKeysIdeal.main_arg5) = m ((c.tc : Thread Cert.KKeysIdeal.nD Cert.KKeysIdeal.τ).loc Cert.KKeysIdeal.main_arg5)
      ∧ r.2.mem ((c.tc : Thread Cert.KKeysIdeal.nD Cert.KKeysIdeal.τ).loc Cert.KKeysIdeal.main_arg6) = m ((c.tc : Thread Cert.KKeysIdeal.nD Cert.KKeysIdeal.τ).loc Cert.KKeysIdeal.main_arg6))
      ∧ r.2.sem = fun _ => 0)

def quiescent_RKeysIdeal [hRKeysIdeal : Cert.RKeysIdeal.Facts] : Prop :=
  ∀ (m : (ℓ : Loc Cert.RKeysIdeal.nD Cert.RKeysIdeal.τ Cert.RKeysIdeal.sig) → Buf (Elt Ideal) ℓ) (g : Dev Cert.RKeysIdeal.nD → PrngReg), Pre_RKeysIdeal m →
    θ_run (Cert.RKeysIdeal.defs (F := Ideal)) (onTc (τ := Cert.RKeysIdeal.τ) (Cert.RKeysIdeal.main (F := Ideal))) ⟨m, fun _ => 0, g⟩ (fun r => (∀ c : Dev Cert.RKeysIdeal.nD,
      r.2.mem ((c.tc : Thread Cert.RKeysIdeal.nD Cert.RKeysIdeal.τ).loc Cert.RKeysIdeal.main_arg0) = m ((c.tc : Thread Cert.RKeysIdeal.nD Cert.RKeysIdeal.τ).loc Cert.RKeysIdeal.main_arg0)
      ∧ r.2.mem ((c.tc : Thread Cert.RKeysIdeal.nD Cert.RKeysIdeal.τ).loc Cert.RKeysIdeal.main_arg1) = m ((c.tc : Thread Cert.RKeysIdeal.nD Cert.RKeysIdeal.τ).loc Cert.RKeysIdeal.main_arg1)
      ∧ r.2.mem ((c.tc : Thread Cert.RKeysIdeal.nD Cert.RKeysIdeal.τ).loc Cert.RKeysIdeal.main_arg2) = m ((c.tc : Thread Cert.RKeysIdeal.nD Cert.RKeysIdeal.τ).loc Cert.RKeysIdeal.main_arg2)
      ∧ r.2.mem ((c.tc : Thread Cert.RKeysIdeal.nD Cert.RKeysIdeal.τ).loc Cert.RKeysIdeal.main_arg3) = m ((c.tc : Thread Cert.RKeysIdeal.nD Cert.RKeysIdeal.τ).loc Cert.RKeysIdeal.main_arg3)
      ∧ r.2.mem ((c.tc : Thread Cert.RKeysIdeal.nD Cert.RKeysIdeal.τ).loc Cert.RKeysIdeal.main_arg4) = m ((c.tc : Thread Cert.RKeysIdeal.nD Cert.RKeysIdeal.τ).loc Cert.RKeysIdeal.main_arg4)
      ∧ r.2.mem ((c.tc : Thread Cert.RKeysIdeal.nD Cert.RKeysIdeal.τ).loc Cert.RKeysIdeal.main_arg5) = m ((c.tc : Thread Cert.RKeysIdeal.nD Cert.RKeysIdeal.τ).loc Cert.RKeysIdeal.main_arg5)
      ∧ r.2.mem ((c.tc : Thread Cert.RKeysIdeal.nD Cert.RKeysIdeal.τ).loc Cert.RKeysIdeal.main_arg6) = m ((c.tc : Thread Cert.RKeysIdeal.nD Cert.RKeysIdeal.τ).loc Cert.RKeysIdeal.main_arg6))
      ∧ r.2.sem = fun _ => 0)

def quiescent_RKeysIdeal_pre_finite_keys [hRKeysIdeal : Cert.RKeysIdeal.Facts] [hPre_finite_keys : Cert.Pre_finite_keys.Facts] : Prop :=
  ∀ (m : (ℓ : Loc Cert.RKeysIdeal.nD Cert.RKeysIdeal.τ Cert.RKeysIdeal.sig) → Buf (Elt Ideal) ℓ) (g : Dev Cert.RKeysIdeal.nD → PrngReg), Pre_RKeysIdeal_finite_keys m →
    θ_run (Cert.RKeysIdeal.defs (F := Ideal)) (onTc (τ := Cert.RKeysIdeal.τ) (Cert.RKeysIdeal.main (F := Ideal))) ⟨m, fun _ => 0, g⟩ (fun r => (∀ c : Dev Cert.RKeysIdeal.nD,
      r.2.mem ((c.tc : Thread Cert.RKeysIdeal.nD Cert.RKeysIdeal.τ).loc Cert.RKeysIdeal.main_arg0) = m ((c.tc : Thread Cert.RKeysIdeal.nD Cert.RKeysIdeal.τ).loc Cert.RKeysIdeal.main_arg0)
      ∧ r.2.mem ((c.tc : Thread Cert.RKeysIdeal.nD Cert.RKeysIdeal.τ).loc Cert.RKeysIdeal.main_arg1) = m ((c.tc : Thread Cert.RKeysIdeal.nD Cert.RKeysIdeal.τ).loc Cert.RKeysIdeal.main_arg1)
      ∧ r.2.mem ((c.tc : Thread Cert.RKeysIdeal.nD Cert.RKeysIdeal.τ).loc Cert.RKeysIdeal.main_arg2) = m ((c.tc : Thread Cert.RKeysIdeal.nD Cert.RKeysIdeal.τ).loc Cert.RKeysIdeal.main_arg2)
      ∧ r.2.mem ((c.tc : Thread Cert.RKeysIdeal.nD Cert.RKeysIdeal.τ).loc Cert.RKeysIdeal.main_arg3) = m ((c.tc : Thread Cert.RKeysIdeal.nD Cert.RKeysIdeal.τ).loc Cert.RKeysIdeal.main_arg3)
      ∧ r.2.mem ((c.tc : Thread Cert.RKeysIdeal.nD Cert.RKeysIdeal.τ).loc Cert.RKeysIdeal.main_arg4) = m ((c.tc : Thread Cert.RKeysIdeal.nD Cert.RKeysIdeal.τ).loc Cert.RKeysIdeal.main_arg4)
      ∧ r.2.mem ((c.tc : Thread Cert.RKeysIdeal.nD Cert.RKeysIdeal.τ).loc Cert.RKeysIdeal.main_arg5) = m ((c.tc : Thread Cert.RKeysIdeal.nD Cert.RKeysIdeal.τ).loc Cert.RKeysIdeal.main_arg5)
      ∧ r.2.mem ((c.tc : Thread Cert.RKeysIdeal.nD Cert.RKeysIdeal.τ).loc Cert.RKeysIdeal.main_arg6) = m ((c.tc : Thread Cert.RKeysIdeal.nD Cert.RKeysIdeal.τ).loc Cert.RKeysIdeal.main_arg6))
      ∧ r.2.sem = fun _ => 0)

def quiescent_KHeads [hKHeads : Cert.KHeads.Facts] : Prop :=
  ∀ (m : (ℓ : Loc Cert.KHeads.nD Cert.KHeads.τ Cert.KHeads.sig) → Buf (Elt Bits) ℓ) (g : Dev Cert.KHeads.nD → PrngReg), Pre_KHeads m →
    θ_run (Cert.KHeads.defs (F := Bits)) (onTc (τ := Cert.KHeads.τ) (Cert.KHeads.main (F := Bits))) ⟨m, fun _ => 0, g⟩ (fun r => (∀ c : Dev Cert.KHeads.nD,
      r.2.mem ((c.tc : Thread Cert.KHeads.nD Cert.KHeads.τ).loc Cert.KHeads.main_arg0) = m ((c.tc : Thread Cert.KHeads.nD Cert.KHeads.τ).loc Cert.KHeads.main_arg0)
      ∧ r.2.mem ((c.tc : Thread Cert.KHeads.nD Cert.KHeads.τ).loc Cert.KHeads.main_arg1) = m ((c.tc : Thread Cert.KHeads.nD Cert.KHeads.τ).loc Cert.KHeads.main_arg1)
      ∧ r.2.mem ((c.tc : Thread Cert.KHeads.nD Cert.KHeads.τ).loc Cert.KHeads.main_arg2) = m ((c.tc : Thread Cert.KHeads.nD Cert.KHeads.τ).loc Cert.KHeads.main_arg2)
      ∧ r.2.mem ((c.tc : Thread Cert.KHeads.nD Cert.KHeads.τ).loc Cert.KHeads.main_arg3) = m ((c.tc : Thread Cert.KHeads.nD Cert.KHeads.τ).loc Cert.KHeads.main_arg3))
      ∧ r.2.sem = fun _ => 0)

def quiescent_KHeadsIdeal [hKHeadsIdeal : Cert.KHeadsIdeal.Facts] : Prop :=
  ∀ (m : (ℓ : Loc Cert.KHeadsIdeal.nD Cert.KHeadsIdeal.τ Cert.KHeadsIdeal.sig) → Buf (Elt Ideal) ℓ) (g : Dev Cert.KHeadsIdeal.nD → PrngReg), Pre_KHeadsIdeal m →
    θ_run (Cert.KHeadsIdeal.defs (F := Ideal)) (onTc (τ := Cert.KHeadsIdeal.τ) (Cert.KHeadsIdeal.main (F := Ideal))) ⟨m, fun _ => 0, g⟩ (fun r => (∀ c : Dev Cert.KHeadsIdeal.nD,
      r.2.mem ((c.tc : Thread Cert.KHeadsIdeal.nD Cert.KHeadsIdeal.τ).loc Cert.KHeadsIdeal.main_arg0) = m ((c.tc : Thread Cert.KHeadsIdeal.nD Cert.KHeadsIdeal.τ).loc Cert.KHeadsIdeal.main_arg0)
      ∧ r.2.mem ((c.tc : Thread Cert.KHeadsIdeal.nD Cert.KHeadsIdeal.τ).loc Cert.KHeadsIdeal.main_arg1) = m ((c.tc : Thread Cert.KHeadsIdeal.nD Cert.KHeadsIdeal.τ).loc Cert.KHeadsIdeal.main_arg1)
      ∧ r.2.mem ((c.tc : Thread Cert.KHeadsIdeal.nD Cert.KHeadsIdeal.τ).loc Cert.KHeadsIdeal.main_arg2) = m ((c.tc : Thread Cert.KHeadsIdeal.nD Cert.KHeadsIdeal.τ).loc Cert.KHeadsIdeal.main_arg2)
      ∧ r.2.mem ((c.tc : Thread Cert.KHeadsIdeal.nD Cert.KHeadsIdeal.τ).loc Cert.KHeadsIdeal.main_arg3) = m ((c.tc : Thread Cert.KHeadsIdeal.nD Cert.KHeadsIdeal.τ).loc Cert.KHeadsIdeal.main_arg3))
      ∧ r.2.sem = fun _ => 0)

def quiescent_KHeadsIdeal_pre_finite_heads [hKHeadsIdeal : Cert.KHeadsIdeal.Facts] [hPre_finite_heads : Cert.Pre_finite_heads.Facts] : Prop :=
  ∀ (m : (ℓ : Loc Cert.KHeadsIdeal.nD Cert.KHeadsIdeal.τ Cert.KHeadsIdeal.sig) → Buf (Elt Ideal) ℓ) (g : Dev Cert.KHeadsIdeal.nD → PrngReg), Pre_KHeadsIdeal_finite_heads m →
    θ_run (Cert.KHeadsIdeal.defs (F := Ideal)) (onTc (τ := Cert.KHeadsIdeal.τ) (Cert.KHeadsIdeal.main (F := Ideal))) ⟨m, fun _ => 0, g⟩ (fun r => (∀ c : Dev Cert.KHeadsIdeal.nD,
      r.2.mem ((c.tc : Thread Cert.KHeadsIdeal.nD Cert.KHeadsIdeal.τ).loc Cert.KHeadsIdeal.main_arg0) = m ((c.tc : Thread Cert.KHeadsIdeal.nD Cert.KHeadsIdeal.τ).loc Cert.KHeadsIdeal.main_arg0)
      ∧ r.2.mem ((c.tc : Thread Cert.KHeadsIdeal.nD Cert.KHeadsIdeal.τ).loc Cert.KHeadsIdeal.main_arg1) = m ((c.tc : Thread Cert.KHeadsIdeal.nD Cert.KHeadsIdeal.τ).loc Cert.KHeadsIdeal.main_arg1)
      ∧ r.2.mem ((c.tc : Thread Cert.KHeadsIdeal.nD Cert.KHeadsIdeal.τ).loc Cert.KHeadsIdeal.main_arg2) = m ((c.tc : Thread Cert.KHeadsIdeal.nD Cert.KHeadsIdeal.τ).loc Cert.KHeadsIdeal.main_arg2)
      ∧ r.2.mem ((c.tc : Thread Cert.KHeadsIdeal.nD Cert.KHeadsIdeal.τ).loc Cert.KHeadsIdeal.main_arg3) = m ((c.tc : Thread Cert.KHeadsIdeal.nD Cert.KHeadsIdeal.τ).loc Cert.KHeadsIdeal.main_arg3))
      ∧ r.2.sem = fun _ => 0)

def quiescent_RHeadsIdeal [hRHeadsIdeal : Cert.RHeadsIdeal.Facts] : Prop :=
  ∀ (m : (ℓ : Loc Cert.RHeadsIdeal.nD Cert.RHeadsIdeal.τ Cert.RHeadsIdeal.sig) → Buf (Elt Ideal) ℓ) (g : Dev Cert.RHeadsIdeal.nD → PrngReg), Pre_RHeadsIdeal m →
    θ_run (Cert.RHeadsIdeal.defs (F := Ideal)) (onTc (τ := Cert.RHeadsIdeal.τ) (Cert.RHeadsIdeal.main (F := Ideal))) ⟨m, fun _ => 0, g⟩ (fun r => (∀ c : Dev Cert.RHeadsIdeal.nD,
      r.2.mem ((c.tc : Thread Cert.RHeadsIdeal.nD Cert.RHeadsIdeal.τ).loc Cert.RHeadsIdeal.main_arg0) = m ((c.tc : Thread Cert.RHeadsIdeal.nD Cert.RHeadsIdeal.τ).loc Cert.RHeadsIdeal.main_arg0)
      ∧ r.2.mem ((c.tc : Thread Cert.RHeadsIdeal.nD Cert.RHeadsIdeal.τ).loc Cert.RHeadsIdeal.main_arg1) = m ((c.tc : Thread Cert.RHeadsIdeal.nD Cert.RHeadsIdeal.τ).loc Cert.RHeadsIdeal.main_arg1)
      ∧ r.2.mem ((c.tc : Thread Cert.RHeadsIdeal.nD Cert.RHeadsIdeal.τ).loc Cert.RHeadsIdeal.main_arg2) = m ((c.tc : Thread Cert.RHeadsIdeal.nD Cert.RHeadsIdeal.τ).loc Cert.RHeadsIdeal.main_arg2)
      ∧ r.2.mem ((c.tc : Thread Cert.RHeadsIdeal.nD Cert.RHeadsIdeal.τ).loc Cert.RHeadsIdeal.main_arg3) = m ((c.tc : Thread Cert.RHeadsIdeal.nD Cert.RHeadsIdeal.τ).loc Cert.RHeadsIdeal.main_arg3))
      ∧ r.2.sem = fun _ => 0)

def quiescent_RHeadsIdeal_pre_finite_heads [hRHeadsIdeal : Cert.RHeadsIdeal.Facts] [hPre_finite_heads : Cert.Pre_finite_heads.Facts] : Prop :=
  ∀ (m : (ℓ : Loc Cert.RHeadsIdeal.nD Cert.RHeadsIdeal.τ Cert.RHeadsIdeal.sig) → Buf (Elt Ideal) ℓ) (g : Dev Cert.RHeadsIdeal.nD → PrngReg), Pre_RHeadsIdeal_finite_heads m →
    θ_run (Cert.RHeadsIdeal.defs (F := Ideal)) (onTc (τ := Cert.RHeadsIdeal.τ) (Cert.RHeadsIdeal.main (F := Ideal))) ⟨m, fun _ => 0, g⟩ (fun r => (∀ c : Dev Cert.RHeadsIdeal.nD,
      r.2.mem ((c.tc : Thread Cert.RHeadsIdeal.nD Cert.RHeadsIdeal.τ).loc Cert.RHeadsIdeal.main_arg0) = m ((c.tc : Thread Cert.RHeadsIdeal.nD Cert.RHeadsIdeal.τ).loc Cert.RHeadsIdeal.main_arg0)
      ∧ r.2.mem ((c.tc : Thread Cert.RHeadsIdeal.nD Cert.RHeadsIdeal.τ).loc Cert.RHeadsIdeal.main_arg1) = m ((c.tc : Thread Cert.RHeadsIdeal.nD Cert.RHeadsIdeal.τ).loc Cert.RHeadsIdeal.main_arg1)
      ∧ r.2.mem ((c.tc : Thread Cert.RHeadsIdeal.nD Cert.RHeadsIdeal.τ).loc Cert.RHeadsIdeal.main_arg2) = m ((c.tc : Thread Cert.RHeadsIdeal.nD Cert.RHeadsIdeal.τ).loc Cert.RHeadsIdeal.main_arg2)
      ∧ r.2.mem ((c.tc : Thread Cert.RHeadsIdeal.nD Cert.RHeadsIdeal.τ).loc Cert.RHeadsIdeal.main_arg3) = m ((c.tc : Thread Cert.RHeadsIdeal.nD Cert.RHeadsIdeal.τ).loc Cert.RHeadsIdeal.main_arg3))
      ∧ r.2.sem = fun _ => 0)

def quiescent_KMlp [hKMlp : Cert.KMlp.Facts] : Prop :=
  ∀ (m : (ℓ : Loc Cert.KMlp.nD Cert.KMlp.τ Cert.KMlp.sig) → Buf (Elt Bits) ℓ) (g : Dev Cert.KMlp.nD → PrngReg), Pre_KMlp m →
    θ_run (Cert.KMlp.defs (F := Bits)) (onTc (τ := Cert.KMlp.τ) (Cert.KMlp.main (F := Bits))) ⟨m, fun _ => 0, g⟩ (fun r => (∀ c : Dev Cert.KMlp.nD,
      r.2.mem ((c.tc : Thread Cert.KMlp.nD Cert.KMlp.τ).loc Cert.KMlp.main_arg0) = m ((c.tc : Thread Cert.KMlp.nD Cert.KMlp.τ).loc Cert.KMlp.main_arg0)
      ∧ r.2.mem ((c.tc : Thread Cert.KMlp.nD Cert.KMlp.τ).loc Cert.KMlp.main_arg1) = m ((c.tc : Thread Cert.KMlp.nD Cert.KMlp.τ).loc Cert.KMlp.main_arg1)
      ∧ r.2.mem ((c.tc : Thread Cert.KMlp.nD Cert.KMlp.τ).loc Cert.KMlp.main_arg2) = m ((c.tc : Thread Cert.KMlp.nD Cert.KMlp.τ).loc Cert.KMlp.main_arg2)
      ∧ r.2.mem ((c.tc : Thread Cert.KMlp.nD Cert.KMlp.τ).loc Cert.KMlp.main_arg3) = m ((c.tc : Thread Cert.KMlp.nD Cert.KMlp.τ).loc Cert.KMlp.main_arg3)
      ∧ r.2.mem ((c.tc : Thread Cert.KMlp.nD Cert.KMlp.τ).loc Cert.KMlp.main_arg4) = m ((c.tc : Thread Cert.KMlp.nD Cert.KMlp.τ).loc Cert.KMlp.main_arg4))
      ∧ r.2.sem = fun _ => 0)

def quiescent_KMlpIdeal [hKMlpIdeal : Cert.KMlpIdeal.Facts] : Prop :=
  ∀ (m : (ℓ : Loc Cert.KMlpIdeal.nD Cert.KMlpIdeal.τ Cert.KMlpIdeal.sig) → Buf (Elt Ideal) ℓ) (g : Dev Cert.KMlpIdeal.nD → PrngReg), Pre_KMlpIdeal m →
    θ_run (Cert.KMlpIdeal.defs (F := Ideal)) (onTc (τ := Cert.KMlpIdeal.τ) (Cert.KMlpIdeal.main (F := Ideal))) ⟨m, fun _ => 0, g⟩ (fun r => (∀ c : Dev Cert.KMlpIdeal.nD,
      r.2.mem ((c.tc : Thread Cert.KMlpIdeal.nD Cert.KMlpIdeal.τ).loc Cert.KMlpIdeal.main_arg0) = m ((c.tc : Thread Cert.KMlpIdeal.nD Cert.KMlpIdeal.τ).loc Cert.KMlpIdeal.main_arg0)
      ∧ r.2.mem ((c.tc : Thread Cert.KMlpIdeal.nD Cert.KMlpIdeal.τ).loc Cert.KMlpIdeal.main_arg1) = m ((c.tc : Thread Cert.KMlpIdeal.nD Cert.KMlpIdeal.τ).loc Cert.KMlpIdeal.main_arg1)
      ∧ r.2.mem ((c.tc : Thread Cert.KMlpIdeal.nD Cert.KMlpIdeal.τ).loc Cert.KMlpIdeal.main_arg2) = m ((c.tc : Thread Cert.KMlpIdeal.nD Cert.KMlpIdeal.τ).loc Cert.KMlpIdeal.main_arg2)
      ∧ r.2.mem ((c.tc : Thread Cert.KMlpIdeal.nD Cert.KMlpIdeal.τ).loc Cert.KMlpIdeal.main_arg3) = m ((c.tc : Thread Cert.KMlpIdeal.nD Cert.KMlpIdeal.τ).loc Cert.KMlpIdeal.main_arg3)
      ∧ r.2.mem ((c.tc : Thread Cert.KMlpIdeal.nD Cert.KMlpIdeal.τ).loc Cert.KMlpIdeal.main_arg4) = m ((c.tc : Thread Cert.KMlpIdeal.nD Cert.KMlpIdeal.τ).loc Cert.KMlpIdeal.main_arg4))
      ∧ r.2.sem = fun _ => 0)

def quiescent_KMlpIdeal_pre_finite_mlp [hKMlpIdeal : Cert.KMlpIdeal.Facts] [hPre_finite_mlp : Cert.Pre_finite_mlp.Facts] : Prop :=
  ∀ (m : (ℓ : Loc Cert.KMlpIdeal.nD Cert.KMlpIdeal.τ Cert.KMlpIdeal.sig) → Buf (Elt Ideal) ℓ) (g : Dev Cert.KMlpIdeal.nD → PrngReg), Pre_KMlpIdeal_finite_mlp m →
    θ_run (Cert.KMlpIdeal.defs (F := Ideal)) (onTc (τ := Cert.KMlpIdeal.τ) (Cert.KMlpIdeal.main (F := Ideal))) ⟨m, fun _ => 0, g⟩ (fun r => (∀ c : Dev Cert.KMlpIdeal.nD,
      r.2.mem ((c.tc : Thread Cert.KMlpIdeal.nD Cert.KMlpIdeal.τ).loc Cert.KMlpIdeal.main_arg0) = m ((c.tc : Thread Cert.KMlpIdeal.nD Cert.KMlpIdeal.τ).loc Cert.KMlpIdeal.main_arg0)
      ∧ r.2.mem ((c.tc : Thread Cert.KMlpIdeal.nD Cert.KMlpIdeal.τ).loc Cert.KMlpIdeal.main_arg1) = m ((c.tc : Thread Cert.KMlpIdeal.nD Cert.KMlpIdeal.τ).loc Cert.KMlpIdeal.main_arg1)
      ∧ r.2.mem ((c.tc : Thread Cert.KMlpIdeal.nD Cert.KMlpIdeal.τ).loc Cert.KMlpIdeal.main_arg2) = m ((c.tc : Thread Cert.KMlpIdeal.nD Cert.KMlpIdeal.τ).loc Cert.KMlpIdeal.main_arg2)
      ∧ r.2.mem ((c.tc : Thread Cert.KMlpIdeal.nD Cert.KMlpIdeal.τ).loc Cert.KMlpIdeal.main_arg3) = m ((c.tc : Thread Cert.KMlpIdeal.nD Cert.KMlpIdeal.τ).loc Cert.KMlpIdeal.main_arg3)
      ∧ r.2.mem ((c.tc : Thread Cert.KMlpIdeal.nD Cert.KMlpIdeal.τ).loc Cert.KMlpIdeal.main_arg4) = m ((c.tc : Thread Cert.KMlpIdeal.nD Cert.KMlpIdeal.τ).loc Cert.KMlpIdeal.main_arg4))
      ∧ r.2.sem = fun _ => 0)

def quiescent_RMlpIdeal [hRMlpIdeal : Cert.RMlpIdeal.Facts] : Prop :=
  ∀ (m : (ℓ : Loc Cert.RMlpIdeal.nD Cert.RMlpIdeal.τ Cert.RMlpIdeal.sig) → Buf (Elt Ideal) ℓ) (g : Dev Cert.RMlpIdeal.nD → PrngReg), Pre_RMlpIdeal m →
    θ_run (Cert.RMlpIdeal.defs (F := Ideal)) (onTc (τ := Cert.RMlpIdeal.τ) (Cert.RMlpIdeal.main (F := Ideal))) ⟨m, fun _ => 0, g⟩ (fun r => (∀ c : Dev Cert.RMlpIdeal.nD,
      r.2.mem ((c.tc : Thread Cert.RMlpIdeal.nD Cert.RMlpIdeal.τ).loc Cert.RMlpIdeal.main_arg0) = m ((c.tc : Thread Cert.RMlpIdeal.nD Cert.RMlpIdeal.τ).loc Cert.RMlpIdeal.main_arg0)
      ∧ r.2.mem ((c.tc : Thread Cert.RMlpIdeal.nD Cert.RMlpIdeal.τ).loc Cert.RMlpIdeal.main_arg1) = m ((c.tc : Thread Cert.RMlpIdeal.nD Cert.RMlpIdeal.τ).loc Cert.RMlpIdeal.main_arg1)
      ∧ r.2.mem ((c.tc : Thread Cert.RMlpIdeal.nD Cert.RMlpIdeal.τ).loc Cert.RMlpIdeal.main_arg2) = m ((c.tc : Thread Cert.RMlpIdeal.nD Cert.RMlpIdeal.τ).loc Cert.RMlpIdeal.main_arg2)
      ∧ r.2.mem ((c.tc : Thread Cert.RMlpIdeal.nD Cert.RMlpIdeal.τ).loc Cert.RMlpIdeal.main_arg3) = m ((c.tc : Thread Cert.RMlpIdeal.nD Cert.RMlpIdeal.τ).loc Cert.RMlpIdeal.main_arg3)
      ∧ r.2.mem ((c.tc : Thread Cert.RMlpIdeal.nD Cert.RMlpIdeal.τ).loc Cert.RMlpIdeal.main_arg4) = m ((c.tc : Thread Cert.RMlpIdeal.nD Cert.RMlpIdeal.τ).loc Cert.RMlpIdeal.main_arg4))
      ∧ r.2.sem = fun _ => 0)

def quiescent_RMlpIdeal_pre_finite_mlp [hRMlpIdeal : Cert.RMlpIdeal.Facts] [hPre_finite_mlp : Cert.Pre_finite_mlp.Facts] : Prop :=
  ∀ (m : (ℓ : Loc Cert.RMlpIdeal.nD Cert.RMlpIdeal.τ Cert.RMlpIdeal.sig) → Buf (Elt Ideal) ℓ) (g : Dev Cert.RMlpIdeal.nD → PrngReg), Pre_RMlpIdeal_finite_mlp m →
    θ_run (Cert.RMlpIdeal.defs (F := Ideal)) (onTc (τ := Cert.RMlpIdeal.τ) (Cert.RMlpIdeal.main (F := Ideal))) ⟨m, fun _ => 0, g⟩ (fun r => (∀ c : Dev Cert.RMlpIdeal.nD,
      r.2.mem ((c.tc : Thread Cert.RMlpIdeal.nD Cert.RMlpIdeal.τ).loc Cert.RMlpIdeal.main_arg0) = m ((c.tc : Thread Cert.RMlpIdeal.nD Cert.RMlpIdeal.τ).loc Cert.RMlpIdeal.main_arg0)
      ∧ r.2.mem ((c.tc : Thread Cert.RMlpIdeal.nD Cert.RMlpIdeal.τ).loc Cert.RMlpIdeal.main_arg1) = m ((c.tc : Thread Cert.RMlpIdeal.nD Cert.RMlpIdeal.τ).loc Cert.RMlpIdeal.main_arg1)
      ∧ r.2.mem ((c.tc : Thread Cert.RMlpIdeal.nD Cert.RMlpIdeal.τ).loc Cert.RMlpIdeal.main_arg2) = m ((c.tc : Thread Cert.RMlpIdeal.nD Cert.RMlpIdeal.τ).loc Cert.RMlpIdeal.main_arg2)
      ∧ r.2.mem ((c.tc : Thread Cert.RMlpIdeal.nD Cert.RMlpIdeal.τ).loc Cert.RMlpIdeal.main_arg3) = m ((c.tc : Thread Cert.RMlpIdeal.nD Cert.RMlpIdeal.τ).loc Cert.RMlpIdeal.main_arg3)
      ∧ r.2.mem ((c.tc : Thread Cert.RMlpIdeal.nD Cert.RMlpIdeal.τ).loc Cert.RMlpIdeal.main_arg4) = m ((c.tc : Thread Cert.RMlpIdeal.nD Cert.RMlpIdeal.τ).loc Cert.RMlpIdeal.main_arg4))
      ∧ r.2.sem = fun _ => 0)

def quiescent_KMix [hKMix : Cert.KMix.Facts] : Prop :=
  ∀ (m : (ℓ : Loc Cert.KMix.nD Cert.KMix.τ Cert.KMix.sig) → Buf (Elt Bits) ℓ) (g : Dev Cert.KMix.nD → PrngReg), Pre_KMix m →
    θ_run (Cert.KMix.defs (F := Bits)) (onTc (τ := Cert.KMix.τ) (Cert.KMix.main (F := Bits))) ⟨m, fun _ => 0, g⟩ (fun r => (∀ c : Dev Cert.KMix.nD,
      r.2.mem ((c.tc : Thread Cert.KMix.nD Cert.KMix.τ).loc Cert.KMix.main_arg0) = m ((c.tc : Thread Cert.KMix.nD Cert.KMix.τ).loc Cert.KMix.main_arg0)
      ∧ r.2.mem ((c.tc : Thread Cert.KMix.nD Cert.KMix.τ).loc Cert.KMix.main_arg1) = m ((c.tc : Thread Cert.KMix.nD Cert.KMix.τ).loc Cert.KMix.main_arg1)
      ∧ r.2.mem ((c.tc : Thread Cert.KMix.nD Cert.KMix.τ).loc Cert.KMix.main_arg2) = m ((c.tc : Thread Cert.KMix.nD Cert.KMix.τ).loc Cert.KMix.main_arg2)
      ∧ r.2.mem ((c.tc : Thread Cert.KMix.nD Cert.KMix.τ).loc Cert.KMix.main_arg3) = m ((c.tc : Thread Cert.KMix.nD Cert.KMix.τ).loc Cert.KMix.main_arg3)
      ∧ r.2.mem ((c.tc : Thread Cert.KMix.nD Cert.KMix.τ).loc Cert.KMix.main_arg4) = m ((c.tc : Thread Cert.KMix.nD Cert.KMix.τ).loc Cert.KMix.main_arg4)
      ∧ r.2.mem ((c.tc : Thread Cert.KMix.nD Cert.KMix.τ).loc Cert.KMix.main_arg5) = m ((c.tc : Thread Cert.KMix.nD Cert.KMix.τ).loc Cert.KMix.main_arg5))
      ∧ r.2.sem = fun _ => 0)

def quiescent_KMixIdeal [hKMixIdeal : Cert.KMixIdeal.Facts] : Prop :=
  ∀ (m : (ℓ : Loc Cert.KMixIdeal.nD Cert.KMixIdeal.τ Cert.KMixIdeal.sig) → Buf (Elt Ideal) ℓ) (g : Dev Cert.KMixIdeal.nD → PrngReg), Pre_KMixIdeal m →
    θ_run (Cert.KMixIdeal.defs (F := Ideal)) (onTc (τ := Cert.KMixIdeal.τ) (Cert.KMixIdeal.main (F := Ideal))) ⟨m, fun _ => 0, g⟩ (fun r => (∀ c : Dev Cert.KMixIdeal.nD,
      r.2.mem ((c.tc : Thread Cert.KMixIdeal.nD Cert.KMixIdeal.τ).loc Cert.KMixIdeal.main_arg0) = m ((c.tc : Thread Cert.KMixIdeal.nD Cert.KMixIdeal.τ).loc Cert.KMixIdeal.main_arg0)
      ∧ r.2.mem ((c.tc : Thread Cert.KMixIdeal.nD Cert.KMixIdeal.τ).loc Cert.KMixIdeal.main_arg1) = m ((c.tc : Thread Cert.KMixIdeal.nD Cert.KMixIdeal.τ).loc Cert.KMixIdeal.main_arg1)
      ∧ r.2.mem ((c.tc : Thread Cert.KMixIdeal.nD Cert.KMixIdeal.τ).loc Cert.KMixIdeal.main_arg2) = m ((c.tc : Thread Cert.KMixIdeal.nD Cert.KMixIdeal.τ).loc Cert.KMixIdeal.main_arg2)
      ∧ r.2.mem ((c.tc : Thread Cert.KMixIdeal.nD Cert.KMixIdeal.τ).loc Cert.KMixIdeal.main_arg3) = m ((c.tc : Thread Cert.KMixIdeal.nD Cert.KMixIdeal.τ).loc Cert.KMixIdeal.main_arg3)
      ∧ r.2.mem ((c.tc : Thread Cert.KMixIdeal.nD Cert.KMixIdeal.τ).loc Cert.KMixIdeal.main_arg4) = m ((c.tc : Thread Cert.KMixIdeal.nD Cert.KMixIdeal.τ).loc Cert.KMixIdeal.main_arg4)
      ∧ r.2.mem ((c.tc : Thread Cert.KMixIdeal.nD Cert.KMixIdeal.τ).loc Cert.KMixIdeal.main_arg5) = m ((c.tc : Thread Cert.KMixIdeal.nD Cert.KMixIdeal.τ).loc Cert.KMixIdeal.main_arg5))
      ∧ r.2.sem = fun _ => 0)

def quiescent_RMixIdeal [hRMixIdeal : Cert.RMixIdeal.Facts] : Prop :=
  ∀ (m : (ℓ : Loc Cert.RMixIdeal.nD Cert.RMixIdeal.τ Cert.RMixIdeal.sig) → Buf (Elt Ideal) ℓ) (g : Dev Cert.RMixIdeal.nD → PrngReg), Pre_RMixIdeal m →
    θ_run (Cert.RMixIdeal.defs (F := Ideal)) (onTc (τ := Cert.RMixIdeal.τ) (Cert.RMixIdeal.main (F := Ideal))) ⟨m, fun _ => 0, g⟩ (fun r => (∀ c : Dev Cert.RMixIdeal.nD,
      r.2.mem ((c.tc : Thread Cert.RMixIdeal.nD Cert.RMixIdeal.τ).loc Cert.RMixIdeal.main_arg0) = m ((c.tc : Thread Cert.RMixIdeal.nD Cert.RMixIdeal.τ).loc Cert.RMixIdeal.main_arg0)
      ∧ r.2.mem ((c.tc : Thread Cert.RMixIdeal.nD Cert.RMixIdeal.τ).loc Cert.RMixIdeal.main_arg1) = m ((c.tc : Thread Cert.RMixIdeal.nD Cert.RMixIdeal.τ).loc Cert.RMixIdeal.main_arg1)
      ∧ r.2.mem ((c.tc : Thread Cert.RMixIdeal.nD Cert.RMixIdeal.τ).loc Cert.RMixIdeal.main_arg2) = m ((c.tc : Thread Cert.RMixIdeal.nD Cert.RMixIdeal.τ).loc Cert.RMixIdeal.main_arg2)
      ∧ r.2.mem ((c.tc : Thread Cert.RMixIdeal.nD Cert.RMixIdeal.τ).loc Cert.RMixIdeal.main_arg3) = m ((c.tc : Thread Cert.RMixIdeal.nD Cert.RMixIdeal.τ).loc Cert.RMixIdeal.main_arg3)
      ∧ r.2.mem ((c.tc : Thread Cert.RMixIdeal.nD Cert.RMixIdeal.τ).loc Cert.RMixIdeal.main_arg4) = m ((c.tc : Thread Cert.RMixIdeal.nD Cert.RMixIdeal.τ).loc Cert.RMixIdeal.main_arg4)
      ∧ r.2.mem ((c.tc : Thread Cert.RMixIdeal.nD Cert.RMixIdeal.τ).loc Cert.RMixIdeal.main_arg5) = m ((c.tc : Thread Cert.RMixIdeal.nD Cert.RMixIdeal.τ).loc Cert.RMixIdeal.main_arg5))
      ∧ r.2.sem = fun _ => 0)

def quiescent_KProj [hKProj : Cert.KProj.Facts] : Prop :=
  ∀ (m : (ℓ : Loc Cert.KProj.nD Cert.KProj.τ Cert.KProj.sig) → Buf (Elt Bits) ℓ) (g : Dev Cert.KProj.nD → PrngReg), Pre_KProj m →
    θ_run (Cert.KProj.defs (F := Bits)) (onTc (τ := Cert.KProj.τ) (Cert.KProj.main (F := Bits))) ⟨m, fun _ => 0, g⟩ (fun r => (∀ c : Dev Cert.KProj.nD,
      r.2.mem ((c.tc : Thread Cert.KProj.nD Cert.KProj.τ).loc Cert.KProj.main_arg0) = m ((c.tc : Thread Cert.KProj.nD Cert.KProj.τ).loc Cert.KProj.main_arg0)
      ∧ r.2.mem ((c.tc : Thread Cert.KProj.nD Cert.KProj.τ).loc Cert.KProj.main_arg1) = m ((c.tc : Thread Cert.KProj.nD Cert.KProj.τ).loc Cert.KProj.main_arg1)
      ∧ r.2.mem ((c.tc : Thread Cert.KProj.nD Cert.KProj.τ).loc Cert.KProj.main_arg2) = m ((c.tc : Thread Cert.KProj.nD Cert.KProj.τ).loc Cert.KProj.main_arg2)
      ∧ r.2.mem ((c.tc : Thread Cert.KProj.nD Cert.KProj.τ).loc Cert.KProj.main_arg3) = m ((c.tc : Thread Cert.KProj.nD Cert.KProj.τ).loc Cert.KProj.main_arg3)
      ∧ r.2.mem ((c.tc : Thread Cert.KProj.nD Cert.KProj.τ).loc Cert.KProj.main_arg4) = m ((c.tc : Thread Cert.KProj.nD Cert.KProj.τ).loc Cert.KProj.main_arg4)
      ∧ r.2.mem ((c.tc : Thread Cert.KProj.nD Cert.KProj.τ).loc Cert.KProj.main_arg5) = m ((c.tc : Thread Cert.KProj.nD Cert.KProj.τ).loc Cert.KProj.main_arg5)
      ∧ r.2.mem ((c.tc : Thread Cert.KProj.nD Cert.KProj.τ).loc Cert.KProj.main_arg6) = m ((c.tc : Thread Cert.KProj.nD Cert.KProj.τ).loc Cert.KProj.main_arg6))
      ∧ r.2.sem = fun _ => 0)

def quiescent_KProjIdeal [hKProjIdeal : Cert.KProjIdeal.Facts] : Prop :=
  ∀ (m : (ℓ : Loc Cert.KProjIdeal.nD Cert.KProjIdeal.τ Cert.KProjIdeal.sig) → Buf (Elt Ideal) ℓ) (g : Dev Cert.KProjIdeal.nD → PrngReg), Pre_KProjIdeal m →
    θ_run (Cert.KProjIdeal.defs (F := Ideal)) (onTc (τ := Cert.KProjIdeal.τ) (Cert.KProjIdeal.main (F := Ideal))) ⟨m, fun _ => 0, g⟩ (fun r => (∀ c : Dev Cert.KProjIdeal.nD,
      r.2.mem ((c.tc : Thread Cert.KProjIdeal.nD Cert.KProjIdeal.τ).loc Cert.KProjIdeal.main_arg0) = m ((c.tc : Thread Cert.KProjIdeal.nD Cert.KProjIdeal.τ).loc Cert.KProjIdeal.main_arg0)
      ∧ r.2.mem ((c.tc : Thread Cert.KProjIdeal.nD Cert.KProjIdeal.τ).loc Cert.KProjIdeal.main_arg1) = m ((c.tc : Thread Cert.KProjIdeal.nD Cert.KProjIdeal.τ).loc Cert.KProjIdeal.main_arg1)
      ∧ r.2.mem ((c.tc : Thread Cert.KProjIdeal.nD Cert.KProjIdeal.τ).loc Cert.KProjIdeal.main_arg2) = m ((c.tc : Thread Cert.KProjIdeal.nD Cert.KProjIdeal.τ).loc Cert.KProjIdeal.main_arg2)
      ∧ r.2.mem ((c.tc : Thread Cert.KProjIdeal.nD Cert.KProjIdeal.τ).loc Cert.KProjIdeal.main_arg3) = m ((c.tc : Thread Cert.KProjIdeal.nD Cert.KProjIdeal.τ).loc Cert.KProjIdeal.main_arg3)
      ∧ r.2.mem ((c.tc : Thread Cert.KProjIdeal.nD Cert.KProjIdeal.τ).loc Cert.KProjIdeal.main_arg4) = m ((c.tc : Thread Cert.KProjIdeal.nD Cert.KProjIdeal.τ).loc Cert.KProjIdeal.main_arg4)
      ∧ r.2.mem ((c.tc : Thread Cert.KProjIdeal.nD Cert.KProjIdeal.τ).loc Cert.KProjIdeal.main_arg5) = m ((c.tc : Thread Cert.KProjIdeal.nD Cert.KProjIdeal.τ).loc Cert.KProjIdeal.main_arg5)
      ∧ r.2.mem ((c.tc : Thread Cert.KProjIdeal.nD Cert.KProjIdeal.τ).loc Cert.KProjIdeal.main_arg6) = m ((c.tc : Thread Cert.KProjIdeal.nD Cert.KProjIdeal.τ).loc Cert.KProjIdeal.main_arg6))
      ∧ r.2.sem = fun _ => 0)

def quiescent_RProjIdeal [hRProjIdeal : Cert.RProjIdeal.Facts] : Prop :=
  ∀ (m : (ℓ : Loc Cert.RProjIdeal.nD Cert.RProjIdeal.τ Cert.RProjIdeal.sig) → Buf (Elt Ideal) ℓ) (g : Dev Cert.RProjIdeal.nD → PrngReg), Pre_RProjIdeal m →
    θ_run (Cert.RProjIdeal.defs (F := Ideal)) (onTc (τ := Cert.RProjIdeal.τ) (Cert.RProjIdeal.main (F := Ideal))) ⟨m, fun _ => 0, g⟩ (fun r => (∀ c : Dev Cert.RProjIdeal.nD,
      r.2.mem ((c.tc : Thread Cert.RProjIdeal.nD Cert.RProjIdeal.τ).loc Cert.RProjIdeal.main_arg0) = m ((c.tc : Thread Cert.RProjIdeal.nD Cert.RProjIdeal.τ).loc Cert.RProjIdeal.main_arg0)
      ∧ r.2.mem ((c.tc : Thread Cert.RProjIdeal.nD Cert.RProjIdeal.τ).loc Cert.RProjIdeal.main_arg1) = m ((c.tc : Thread Cert.RProjIdeal.nD Cert.RProjIdeal.τ).loc Cert.RProjIdeal.main_arg1)
      ∧ r.2.mem ((c.tc : Thread Cert.RProjIdeal.nD Cert.RProjIdeal.τ).loc Cert.RProjIdeal.main_arg2) = m ((c.tc : Thread Cert.RProjIdeal.nD Cert.RProjIdeal.τ).loc Cert.RProjIdeal.main_arg2)
      ∧ r.2.mem ((c.tc : Thread Cert.RProjIdeal.nD Cert.RProjIdeal.τ).loc Cert.RProjIdeal.main_arg3) = m ((c.tc : Thread Cert.RProjIdeal.nD Cert.RProjIdeal.τ).loc Cert.RProjIdeal.main_arg3)
      ∧ r.2.mem ((c.tc : Thread Cert.RProjIdeal.nD Cert.RProjIdeal.τ).loc Cert.RProjIdeal.main_arg4) = m ((c.tc : Thread Cert.RProjIdeal.nD Cert.RProjIdeal.τ).loc Cert.RProjIdeal.main_arg4)
      ∧ r.2.mem ((c.tc : Thread Cert.RProjIdeal.nD Cert.RProjIdeal.τ).loc Cert.RProjIdeal.main_arg5) = m ((c.tc : Thread Cert.RProjIdeal.nD Cert.RProjIdeal.τ).loc Cert.RProjIdeal.main_arg5)
      ∧ r.2.mem ((c.tc : Thread Cert.RProjIdeal.nD Cert.RProjIdeal.τ).loc Cert.RProjIdeal.main_arg6) = m ((c.tc : Thread Cert.RProjIdeal.nD Cert.RProjIdeal.τ).loc Cert.RProjIdeal.main_arg6))
      ∧ r.2.sem = fun _ => 0)

def quiescent_KNorm [hKNorm : Cert.KNorm.Facts] : Prop :=
  ∀ (m : (ℓ : Loc Cert.KNorm.nD Cert.KNorm.τ Cert.KNorm.sig) → Buf (Elt Bits) ℓ) (g : Dev Cert.KNorm.nD → PrngReg), Pre_KNorm m →
    θ_run (Cert.KNorm.defs (F := Bits)) (onTc (τ := Cert.KNorm.τ) (Cert.KNorm.main (F := Bits))) ⟨m, fun _ => 0, g⟩ (fun r => (∀ c : Dev Cert.KNorm.nD,
      r.2.mem ((c.tc : Thread Cert.KNorm.nD Cert.KNorm.τ).loc Cert.KNorm.main_arg0) = m ((c.tc : Thread Cert.KNorm.nD Cert.KNorm.τ).loc Cert.KNorm.main_arg0)
      ∧ r.2.mem ((c.tc : Thread Cert.KNorm.nD Cert.KNorm.τ).loc Cert.KNorm.main_arg1) = m ((c.tc : Thread Cert.KNorm.nD Cert.KNorm.τ).loc Cert.KNorm.main_arg1))
      ∧ r.2.sem = fun _ => 0)

def quiescent_KNormIdeal [hKNormIdeal : Cert.KNormIdeal.Facts] : Prop :=
  ∀ (m : (ℓ : Loc Cert.KNormIdeal.nD Cert.KNormIdeal.τ Cert.KNormIdeal.sig) → Buf (Elt Ideal) ℓ) (g : Dev Cert.KNormIdeal.nD → PrngReg), Pre_KNormIdeal m →
    θ_run (Cert.KNormIdeal.defs (F := Ideal)) (onTc (τ := Cert.KNormIdeal.τ) (Cert.KNormIdeal.main (F := Ideal))) ⟨m, fun _ => 0, g⟩ (fun r => (∀ c : Dev Cert.KNormIdeal.nD,
      r.2.mem ((c.tc : Thread Cert.KNormIdeal.nD Cert.KNormIdeal.τ).loc Cert.KNormIdeal.main_arg0) = m ((c.tc : Thread Cert.KNormIdeal.nD Cert.KNormIdeal.τ).loc Cert.KNormIdeal.main_arg0)
      ∧ r.2.mem ((c.tc : Thread Cert.KNormIdeal.nD Cert.KNormIdeal.τ).loc Cert.KNormIdeal.main_arg1) = m ((c.tc : Thread Cert.KNormIdeal.nD Cert.KNormIdeal.τ).loc Cert.KNormIdeal.main_arg1))
      ∧ r.2.sem = fun _ => 0)

def quiescent_RNormIdeal [hRNormIdeal : Cert.RNormIdeal.Facts] : Prop :=
  ∀ (m : (ℓ : Loc Cert.RNormIdeal.nD Cert.RNormIdeal.τ Cert.RNormIdeal.sig) → Buf (Elt Ideal) ℓ) (g : Dev Cert.RNormIdeal.nD → PrngReg), Pre_RNormIdeal m →
    θ_run (Cert.RNormIdeal.defs (F := Ideal)) (onTc (τ := Cert.RNormIdeal.τ) (Cert.RNormIdeal.main (F := Ideal))) ⟨m, fun _ => 0, g⟩ (fun r => (∀ c : Dev Cert.RNormIdeal.nD,
      r.2.mem ((c.tc : Thread Cert.RNormIdeal.nD Cert.RNormIdeal.τ).loc Cert.RNormIdeal.main_arg0) = m ((c.tc : Thread Cert.RNormIdeal.nD Cert.RNormIdeal.τ).loc Cert.RNormIdeal.main_arg0)
      ∧ r.2.mem ((c.tc : Thread Cert.RNormIdeal.nD Cert.RNormIdeal.τ).loc Cert.RNormIdeal.main_arg1) = m ((c.tc : Thread Cert.RNormIdeal.nD Cert.RNormIdeal.τ).loc Cert.RNormIdeal.main_arg1))
      ∧ r.2.sem = fun _ => 0)

def quiescent_KFwd [hKFwd : Cert.KFwd.Facts] : Prop :=
  ∀ (m : (ℓ : Loc Cert.KFwd.nD Cert.KFwd.τ Cert.KFwd.sig) → Buf (Elt Bits) ℓ) (g : Dev Cert.KFwd.nD → PrngReg), Pre_KFwd m →
    θ_run (Cert.KFwd.defs (F := Bits)) (onTc (τ := Cert.KFwd.τ) (Cert.KFwd.main (F := Bits))) ⟨m, fun _ => 0, g⟩ (fun r => (∀ c : Dev Cert.KFwd.nD,
      r.2.mem ((c.tc : Thread Cert.KFwd.nD Cert.KFwd.τ).loc Cert.KFwd.main_arg0) = m ((c.tc : Thread Cert.KFwd.nD Cert.KFwd.τ).loc Cert.KFwd.main_arg0)
      ∧ r.2.mem ((c.tc : Thread Cert.KFwd.nD Cert.KFwd.τ).loc Cert.KFwd.main_arg1) = m ((c.tc : Thread Cert.KFwd.nD Cert.KFwd.τ).loc Cert.KFwd.main_arg1)
      ∧ r.2.mem ((c.tc : Thread Cert.KFwd.nD Cert.KFwd.τ).loc Cert.KFwd.main_arg2) = m ((c.tc : Thread Cert.KFwd.nD Cert.KFwd.τ).loc Cert.KFwd.main_arg2)
      ∧ r.2.mem ((c.tc : Thread Cert.KFwd.nD Cert.KFwd.τ).loc Cert.KFwd.main_arg3) = m ((c.tc : Thread Cert.KFwd.nD Cert.KFwd.τ).loc Cert.KFwd.main_arg3))
      ∧ r.2.sem = fun _ => 0)

def quiescent_KFwdIdeal [hKFwdIdeal : Cert.KFwdIdeal.Facts] : Prop :=
  ∀ (m : (ℓ : Loc Cert.KFwdIdeal.nD Cert.KFwdIdeal.τ Cert.KFwdIdeal.sig) → Buf (Elt Ideal) ℓ) (g : Dev Cert.KFwdIdeal.nD → PrngReg), Pre_KFwdIdeal m →
    θ_run (Cert.KFwdIdeal.defs (F := Ideal)) (onTc (τ := Cert.KFwdIdeal.τ) (Cert.KFwdIdeal.main (F := Ideal))) ⟨m, fun _ => 0, g⟩ (fun r => (∀ c : Dev Cert.KFwdIdeal.nD,
      r.2.mem ((c.tc : Thread Cert.KFwdIdeal.nD Cert.KFwdIdeal.τ).loc Cert.KFwdIdeal.main_arg0) = m ((c.tc : Thread Cert.KFwdIdeal.nD Cert.KFwdIdeal.τ).loc Cert.KFwdIdeal.main_arg0)
      ∧ r.2.mem ((c.tc : Thread Cert.KFwdIdeal.nD Cert.KFwdIdeal.τ).loc Cert.KFwdIdeal.main_arg1) = m ((c.tc : Thread Cert.KFwdIdeal.nD Cert.KFwdIdeal.τ).loc Cert.KFwdIdeal.main_arg1)
      ∧ r.2.mem ((c.tc : Thread Cert.KFwdIdeal.nD Cert.KFwdIdeal.τ).loc Cert.KFwdIdeal.main_arg2) = m ((c.tc : Thread Cert.KFwdIdeal.nD Cert.KFwdIdeal.τ).loc Cert.KFwdIdeal.main_arg2)
      ∧ r.2.mem ((c.tc : Thread Cert.KFwdIdeal.nD Cert.KFwdIdeal.τ).loc Cert.KFwdIdeal.main_arg3) = m ((c.tc : Thread Cert.KFwdIdeal.nD Cert.KFwdIdeal.τ).loc Cert.KFwdIdeal.main_arg3))
      ∧ r.2.sem = fun _ => 0)

def quiescent_RFwdIdeal [hRFwdIdeal : Cert.RFwdIdeal.Facts] : Prop :=
  ∀ (m : (ℓ : Loc Cert.RFwdIdeal.nD Cert.RFwdIdeal.τ Cert.RFwdIdeal.sig) → Buf (Elt Ideal) ℓ) (g : Dev Cert.RFwdIdeal.nD → PrngReg), Pre_RFwdIdeal m →
    θ_run (Cert.RFwdIdeal.defs (F := Ideal)) (onTc (τ := Cert.RFwdIdeal.τ) (Cert.RFwdIdeal.main (F := Ideal))) ⟨m, fun _ => 0, g⟩ (fun r => (∀ c : Dev Cert.RFwdIdeal.nD,
      r.2.mem ((c.tc : Thread Cert.RFwdIdeal.nD Cert.RFwdIdeal.τ).loc Cert.RFwdIdeal.main_arg0) = m ((c.tc : Thread Cert.RFwdIdeal.nD Cert.RFwdIdeal.τ).loc Cert.RFwdIdeal.main_arg0)
      ∧ r.2.mem ((c.tc : Thread Cert.RFwdIdeal.nD Cert.RFwdIdeal.τ).loc Cert.RFwdIdeal.main_arg1) = m ((c.tc : Thread Cert.RFwdIdeal.nD Cert.RFwdIdeal.τ).loc Cert.RFwdIdeal.main_arg1)
      ∧ r.2.mem ((c.tc : Thread Cert.RFwdIdeal.nD Cert.RFwdIdeal.τ).loc Cert.RFwdIdeal.main_arg2) = m ((c.tc : Thread Cert.RFwdIdeal.nD Cert.RFwdIdeal.τ).loc Cert.RFwdIdeal.main_arg2)
      ∧ r.2.mem ((c.tc : Thread Cert.RFwdIdeal.nD Cert.RFwdIdeal.τ).loc Cert.RFwdIdeal.main_arg3) = m ((c.tc : Thread Cert.RFwdIdeal.nD Cert.RFwdIdeal.τ).loc Cert.RFwdIdeal.main_arg3))
      ∧ r.2.sem = fun _ => 0)

def preserves_KLoss_KLossIdeal : Prop :=
  True

def algebraic_KLossIdeal_RLossIdeal_pre_finite_loss [hKLossIdeal : Cert.KLossIdeal.Facts] [hRLossIdeal : Cert.RLossIdeal.Facts] [hPre_finite_loss : Cert.Pre_finite_loss.Facts] : Prop :=
  ∀ (m : (ℓ : Loc Cert.KLossIdeal.nD Cert.KLossIdeal.τ Cert.KLossIdeal.sig) → Buf (Elt Ideal) ℓ) (g : Dev Cert.KLossIdeal.nD → PrngReg)
    (m' : (ℓ : Loc Cert.RLossIdeal.nD Cert.RLossIdeal.τ Cert.RLossIdeal.sig) → Buf (Elt Ideal) ℓ) (g' : Dev Cert.RLossIdeal.nD → PrngReg), Pre_KLossIdeal_finite_loss m →
    (∀ c : Dev Cert.KLossIdeal.nD,
      m' ((c.tc : Thread Cert.RLossIdeal.nD Cert.RLossIdeal.τ).loc Cert.RLossIdeal.main_arg0) = m ((c.tc : Thread Cert.KLossIdeal.nD Cert.KLossIdeal.τ).loc Cert.KLossIdeal.main_arg0)
      ∧ m' ((c.tc : Thread Cert.RLossIdeal.nD Cert.RLossIdeal.τ).loc Cert.RLossIdeal.main_arg1) = m ((c.tc : Thread Cert.KLossIdeal.nD Cert.KLossIdeal.τ).loc Cert.KLossIdeal.main_arg1)
      ∧ m' ((c.tc : Thread Cert.RLossIdeal.nD Cert.RLossIdeal.τ).loc Cert.RLossIdeal.main_arg2) = m ((c.tc : Thread Cert.KLossIdeal.nD Cert.KLossIdeal.τ).loc Cert.KLossIdeal.main_arg2)) →
    ∃ (v0 : (c : Dev Cert.KLossIdeal.nD) → Buf (Elt Ideal) ((c.tc : Thread Cert.KLossIdeal.nD Cert.KLossIdeal.τ).loc Cert.KLossIdeal.main_v1_0)) (v1 : (c : Dev Cert.KLossIdeal.nD) → Buf (Elt Ideal) ((c.tc : Thread Cert.KLossIdeal.nD Cert.KLossIdeal.τ).loc Cert.KLossIdeal.main_v1_1)) (v2 : (c : Dev Cert.KLossIdeal.nD) → Buf (Elt Ideal) ((c.tc : Thread Cert.KLossIdeal.nD Cert.KLossIdeal.τ).loc Cert.KLossIdeal.main_v1_2)) (v3 : (c : Dev Cert.KLossIdeal.nD) → Buf (Elt Ideal) ((c.tc : Thread Cert.KLossIdeal.nD Cert.KLossIdeal.τ).loc Cert.KLossIdeal.main_v1_3)),
      θ_run (Cert.KLossIdeal.defs (F := Ideal)) (onTc (τ := Cert.KLossIdeal.τ) (Cert.KLossIdeal.main (F := Ideal))) ⟨m, fun _ => 0, g⟩ (fun r => ∀ c : Dev Cert.KLossIdeal.nD,
          r.2.mem ((c.tc : Thread Cert.KLossIdeal.nD Cert.KLossIdeal.τ).loc Cert.KLossIdeal.main_v1_0) = v0 c
          ∧ r.2.mem ((c.tc : Thread Cert.KLossIdeal.nD Cert.KLossIdeal.τ).loc Cert.KLossIdeal.main_v1_1) = v1 c
          ∧ r.2.mem ((c.tc : Thread Cert.KLossIdeal.nD Cert.KLossIdeal.τ).loc Cert.KLossIdeal.main_v1_2) = v2 c
          ∧ r.2.mem ((c.tc : Thread Cert.KLossIdeal.nD Cert.KLossIdeal.τ).loc Cert.KLossIdeal.main_v1_3) = v3 c
          ∧ r.2.mem ((c.tc : Thread Cert.KLossIdeal.nD Cert.KLossIdeal.τ).loc Cert.KLossIdeal.main_arg0) = m ((c.tc : Thread Cert.KLossIdeal.nD Cert.KLossIdeal.τ).loc Cert.KLossIdeal.main_arg0)
          ∧ r.2.mem ((c.tc : Thread Cert.KLossIdeal.nD Cert.KLossIdeal.τ).loc Cert.KLossIdeal.main_arg1) = m ((c.tc : Thread Cert.KLossIdeal.nD Cert.KLossIdeal.τ).loc Cert.KLossIdeal.main_arg1)
          ∧ r.2.mem ((c.tc : Thread Cert.KLossIdeal.nD Cert.KLossIdeal.τ).loc Cert.KLossIdeal.main_arg2) = m ((c.tc : Thread Cert.KLossIdeal.nD Cert.KLossIdeal.τ).loc Cert.KLossIdeal.main_arg2))
      ∧ θ_run (Cert.RLossIdeal.defs (F := Ideal)) (onTc (τ := Cert.RLossIdeal.τ) (Cert.RLossIdeal.main (F := Ideal))) ⟨m', fun _ => 0, g'⟩ (fun r => ∀ c : Dev Cert.RLossIdeal.nD,
          r.2.mem ((c.tc : Thread Cert.RLossIdeal.nD Cert.RLossIdeal.τ).loc Cert.RLossIdeal.main_v52) = v0 c
          ∧ r.2.mem ((c.tc : Thread Cert.RLossIdeal.nD Cert.RLossIdeal.τ).loc Cert.RLossIdeal.main_v50) = v1 c
          ∧ r.2.mem ((c.tc : Thread Cert.RLossIdeal.nD Cert.RLossIdeal.τ).loc Cert.RLossIdeal.main_v53) = v2 c
          ∧ r.2.mem ((c.tc : Thread Cert.RLossIdeal.nD Cert.RLossIdeal.τ).loc Cert.RLossIdeal.main_v55) = v3 c
          ∧ r.2.mem ((c.tc : Thread Cert.RLossIdeal.nD Cert.RLossIdeal.τ).loc Cert.RLossIdeal.main_arg0) = m' ((c.tc : Thread Cert.RLossIdeal.nD Cert.RLossIdeal.τ).loc Cert.RLossIdeal.main_arg0)
          ∧ r.2.mem ((c.tc : Thread Cert.RLossIdeal.nD Cert.RLossIdeal.τ).loc Cert.RLossIdeal.main_arg1) = m' ((c.tc : Thread Cert.RLossIdeal.nD Cert.RLossIdeal.τ).loc Cert.RLossIdeal.main_arg1)
          ∧ r.2.mem ((c.tc : Thread Cert.RLossIdeal.nD Cert.RLossIdeal.τ).loc Cert.RLossIdeal.main_arg2) = m' ((c.tc : Thread Cert.RLossIdeal.nD Cert.RLossIdeal.τ).loc Cert.RLossIdeal.main_arg2))

def preserves_KAttn_KAttnIdeal : Prop :=
  True

def algebraic_KAttnIdeal_RAttnIdeal_pre_finite_attn [hKAttnIdeal : Cert.KAttnIdeal.Facts] [hRAttnIdeal : Cert.RAttnIdeal.Facts] [hPre_finite_attn : Cert.Pre_finite_attn.Facts] : Prop :=
  ∀ (m : (ℓ : Loc Cert.KAttnIdeal.nD Cert.KAttnIdeal.τ Cert.KAttnIdeal.sig) → Buf (Elt Ideal) ℓ) (g : Dev Cert.KAttnIdeal.nD → PrngReg)
    (m' : (ℓ : Loc Cert.RAttnIdeal.nD Cert.RAttnIdeal.τ Cert.RAttnIdeal.sig) → Buf (Elt Ideal) ℓ) (g' : Dev Cert.RAttnIdeal.nD → PrngReg), Pre_KAttnIdeal_finite_attn m →
    (∀ c : Dev Cert.KAttnIdeal.nD,
      m' ((c.tc : Thread Cert.RAttnIdeal.nD Cert.RAttnIdeal.τ).loc Cert.RAttnIdeal.main_arg0) = m ((c.tc : Thread Cert.KAttnIdeal.nD Cert.KAttnIdeal.τ).loc Cert.KAttnIdeal.main_arg0)
      ∧ m' ((c.tc : Thread Cert.RAttnIdeal.nD Cert.RAttnIdeal.τ).loc Cert.RAttnIdeal.main_arg1) = m ((c.tc : Thread Cert.KAttnIdeal.nD Cert.KAttnIdeal.τ).loc Cert.KAttnIdeal.main_arg1)
      ∧ m' ((c.tc : Thread Cert.RAttnIdeal.nD Cert.RAttnIdeal.τ).loc Cert.RAttnIdeal.main_arg2) = m ((c.tc : Thread Cert.KAttnIdeal.nD Cert.KAttnIdeal.τ).loc Cert.KAttnIdeal.main_arg2)
      ∧ m' ((c.tc : Thread Cert.RAttnIdeal.nD Cert.RAttnIdeal.τ).loc Cert.RAttnIdeal.main_arg3) = m ((c.tc : Thread Cert.KAttnIdeal.nD Cert.KAttnIdeal.τ).loc Cert.KAttnIdeal.main_arg3)
      ∧ m' ((c.tc : Thread Cert.RAttnIdeal.nD Cert.RAttnIdeal.τ).loc Cert.RAttnIdeal.main_arg4) = m ((c.tc : Thread Cert.KAttnIdeal.nD Cert.KAttnIdeal.τ).loc Cert.KAttnIdeal.main_arg4)) →
    ∃ (v0 : (c : Dev Cert.KAttnIdeal.nD) → Buf (Elt Ideal) ((c.tc : Thread Cert.KAttnIdeal.nD Cert.KAttnIdeal.τ).loc Cert.KAttnIdeal.main_v81_0)) (v1 : (c : Dev Cert.KAttnIdeal.nD) → Buf (Elt Ideal) ((c.tc : Thread Cert.KAttnIdeal.nD Cert.KAttnIdeal.τ).loc Cert.KAttnIdeal.main_v81_1)) (v2 : (c : Dev Cert.KAttnIdeal.nD) → Buf (Elt Ideal) ((c.tc : Thread Cert.KAttnIdeal.nD Cert.KAttnIdeal.τ).loc Cert.KAttnIdeal.main_v81_2)) (v3 : (c : Dev Cert.KAttnIdeal.nD) → Buf (Elt Ideal) ((c.tc : Thread Cert.KAttnIdeal.nD Cert.KAttnIdeal.τ).loc Cert.KAttnIdeal.main_v81_3)),
      θ_run (Cert.KAttnIdeal.defs (F := Ideal)) (onTc (τ := Cert.KAttnIdeal.τ) (Cert.KAttnIdeal.main (F := Ideal))) ⟨m, fun _ => 0, g⟩ (fun r => ∀ c : Dev Cert.KAttnIdeal.nD,
          r.2.mem ((c.tc : Thread Cert.KAttnIdeal.nD Cert.KAttnIdeal.τ).loc Cert.KAttnIdeal.main_v81_0) = v0 c
          ∧ r.2.mem ((c.tc : Thread Cert.KAttnIdeal.nD Cert.KAttnIdeal.τ).loc Cert.KAttnIdeal.main_v81_1) = v1 c
          ∧ r.2.mem ((c.tc : Thread Cert.KAttnIdeal.nD Cert.KAttnIdeal.τ).loc Cert.KAttnIdeal.main_v81_2) = v2 c
          ∧ r.2.mem ((c.tc : Thread Cert.KAttnIdeal.nD Cert.KAttnIdeal.τ).loc Cert.KAttnIdeal.main_v81_3) = v3 c
          ∧ r.2.mem ((c.tc : Thread Cert.KAttnIdeal.nD Cert.KAttnIdeal.τ).loc Cert.KAttnIdeal.main_arg0) = m ((c.tc : Thread Cert.KAttnIdeal.nD Cert.KAttnIdeal.τ).loc Cert.KAttnIdeal.main_arg0)
          ∧ r.2.mem ((c.tc : Thread Cert.KAttnIdeal.nD Cert.KAttnIdeal.τ).loc Cert.KAttnIdeal.main_arg1) = m ((c.tc : Thread Cert.KAttnIdeal.nD Cert.KAttnIdeal.τ).loc Cert.KAttnIdeal.main_arg1)
          ∧ r.2.mem ((c.tc : Thread Cert.KAttnIdeal.nD Cert.KAttnIdeal.τ).loc Cert.KAttnIdeal.main_arg2) = m ((c.tc : Thread Cert.KAttnIdeal.nD Cert.KAttnIdeal.τ).loc Cert.KAttnIdeal.main_arg2)
          ∧ r.2.mem ((c.tc : Thread Cert.KAttnIdeal.nD Cert.KAttnIdeal.τ).loc Cert.KAttnIdeal.main_arg3) = m ((c.tc : Thread Cert.KAttnIdeal.nD Cert.KAttnIdeal.τ).loc Cert.KAttnIdeal.main_arg3)
          ∧ r.2.mem ((c.tc : Thread Cert.KAttnIdeal.nD Cert.KAttnIdeal.τ).loc Cert.KAttnIdeal.main_arg4) = m ((c.tc : Thread Cert.KAttnIdeal.nD Cert.KAttnIdeal.τ).loc Cert.KAttnIdeal.main_arg4))
      ∧ θ_run (Cert.RAttnIdeal.defs (F := Ideal)) (onTc (τ := Cert.RAttnIdeal.τ) (Cert.RAttnIdeal.main (F := Ideal))) ⟨m', fun _ => 0, g'⟩ (fun r => ∀ c : Dev Cert.RAttnIdeal.nD,
          r.2.mem ((c.tc : Thread Cert.RAttnIdeal.nD Cert.RAttnIdeal.τ).loc Cert.RAttnIdeal.main_v172) = v0 c
          ∧ r.2.mem ((c.tc : Thread Cert.RAttnIdeal.nD Cert.RAttnIdeal.τ).loc Cert.RAttnIdeal.main_v175) = v1 c
          ∧ r.2.mem ((c.tc : Thread Cert.RAttnIdeal.nD Cert.RAttnIdeal.τ).loc Cert.RAttnIdeal.main_v176) = v2 c
          ∧ r.2.mem ((c.tc : Thread Cert.RAttnIdeal.nD Cert.RAttnIdeal.τ).loc Cert.RAttnIdeal.main_v174) = v3 c
          ∧ r.2.mem ((c.tc : Thread Cert.RAttnIdeal.nD Cert.RAttnIdeal.τ).loc Cert.RAttnIdeal.main_arg0) = m' ((c.tc : Thread Cert.RAttnIdeal.nD Cert.RAttnIdeal.τ).loc Cert.RAttnIdeal.main_arg0)
          ∧ r.2.mem ((c.tc : Thread Cert.RAttnIdeal.nD Cert.RAttnIdeal.τ).loc Cert.RAttnIdeal.main_arg1) = m' ((c.tc : Thread Cert.RAttnIdeal.nD Cert.RAttnIdeal.τ).loc Cert.RAttnIdeal.main_arg1)
          ∧ r.2.mem ((c.tc : Thread Cert.RAttnIdeal.nD Cert.RAttnIdeal.τ).loc Cert.RAttnIdeal.main_arg2) = m' ((c.tc : Thread Cert.RAttnIdeal.nD Cert.RAttnIdeal.τ).loc Cert.RAttnIdeal.main_arg2)
          ∧ r.2.mem ((c.tc : Thread Cert.RAttnIdeal.nD Cert.RAttnIdeal.τ).loc Cert.RAttnIdeal.main_arg3) = m' ((c.tc : Thread Cert.RAttnIdeal.nD Cert.RAttnIdeal.τ).loc Cert.RAttnIdeal.main_arg3)
          ∧ r.2.mem ((c.tc : Thread Cert.RAttnIdeal.nD Cert.RAttnIdeal.τ).loc Cert.RAttnIdeal.main_arg4) = m' ((c.tc : Thread Cert.RAttnIdeal.nD Cert.RAttnIdeal.τ).loc Cert.RAttnIdeal.main_arg4))

def preserves_KPre_KPreIdeal : Prop :=
  True

def algebraic_KPreIdeal_RPreIdeal_pre_finite_pre [hKPreIdeal : Cert.KPreIdeal.Facts] [hRPreIdeal : Cert.RPreIdeal.Facts] [hPre_finite_pre : Cert.Pre_finite_pre.Facts] : Prop :=
  ∀ (m : (ℓ : Loc Cert.KPreIdeal.nD Cert.KPreIdeal.τ Cert.KPreIdeal.sig) → Buf (Elt Ideal) ℓ) (g : Dev Cert.KPreIdeal.nD → PrngReg)
    (m' : (ℓ : Loc Cert.RPreIdeal.nD Cert.RPreIdeal.τ Cert.RPreIdeal.sig) → Buf (Elt Ideal) ℓ) (g' : Dev Cert.RPreIdeal.nD → PrngReg), Pre_KPreIdeal_finite_pre m →
    (∀ c : Dev Cert.KPreIdeal.nD,
      m' ((c.tc : Thread Cert.RPreIdeal.nD Cert.RPreIdeal.τ).loc Cert.RPreIdeal.main_arg0) = m ((c.tc : Thread Cert.KPreIdeal.nD Cert.KPreIdeal.τ).loc Cert.KPreIdeal.main_arg0)
      ∧ m' ((c.tc : Thread Cert.RPreIdeal.nD Cert.RPreIdeal.τ).loc Cert.RPreIdeal.main_arg1) = m ((c.tc : Thread Cert.KPreIdeal.nD Cert.KPreIdeal.τ).loc Cert.KPreIdeal.main_arg1)
      ∧ m' ((c.tc : Thread Cert.RPreIdeal.nD Cert.RPreIdeal.τ).loc Cert.RPreIdeal.main_arg2) = m ((c.tc : Thread Cert.KPreIdeal.nD Cert.KPreIdeal.τ).loc Cert.KPreIdeal.main_arg2)
      ∧ m' ((c.tc : Thread Cert.RPreIdeal.nD Cert.RPreIdeal.τ).loc Cert.RPreIdeal.main_arg3) = m ((c.tc : Thread Cert.KPreIdeal.nD Cert.KPreIdeal.τ).loc Cert.KPreIdeal.main_arg3)
      ∧ m' ((c.tc : Thread Cert.RPreIdeal.nD Cert.RPreIdeal.τ).loc Cert.RPreIdeal.main_arg4) = m ((c.tc : Thread Cert.KPreIdeal.nD Cert.KPreIdeal.τ).loc Cert.KPreIdeal.main_arg4)
      ∧ m' ((c.tc : Thread Cert.RPreIdeal.nD Cert.RPreIdeal.τ).loc Cert.RPreIdeal.main_arg5) = m ((c.tc : Thread Cert.KPreIdeal.nD Cert.KPreIdeal.τ).loc Cert.KPreIdeal.main_arg5)) →
    ∃ (v0 : (c : Dev Cert.KPreIdeal.nD) → Buf (Elt Ideal) ((c.tc : Thread Cert.KPreIdeal.nD Cert.KPreIdeal.τ).loc Cert.KPreIdeal.main_v2_0)) (v1 : (c : Dev Cert.KPreIdeal.nD) → Buf (Elt Ideal) ((c.tc : Thread Cert.KPreIdeal.nD Cert.KPreIdeal.τ).loc Cert.KPreIdeal.main_v2_1)) (v2 : (c : Dev Cert.KPreIdeal.nD) → Buf (Elt Ideal) ((c.tc : Thread Cert.KPreIdeal.nD Cert.KPreIdeal.τ).loc Cert.KPreIdeal.main_v2_2)),
      θ_run (Cert.KPreIdeal.defs (F := Ideal)) (onTc (τ := Cert.KPreIdeal.τ) (Cert.KPreIdeal.main (F := Ideal))) ⟨m, fun _ => 0, g⟩ (fun r => ∀ c : Dev Cert.KPreIdeal.nD,
          r.2.mem ((c.tc : Thread Cert.KPreIdeal.nD Cert.KPreIdeal.τ).loc Cert.KPreIdeal.main_v2_0) = v0 c
          ∧ r.2.mem ((c.tc : Thread Cert.KPreIdeal.nD Cert.KPreIdeal.τ).loc Cert.KPreIdeal.main_v2_1) = v1 c
          ∧ r.2.mem ((c.tc : Thread Cert.KPreIdeal.nD Cert.KPreIdeal.τ).loc Cert.KPreIdeal.main_v2_2) = v2 c
          ∧ r.2.mem ((c.tc : Thread Cert.KPreIdeal.nD Cert.KPreIdeal.τ).loc Cert.KPreIdeal.main_arg0) = m ((c.tc : Thread Cert.KPreIdeal.nD Cert.KPreIdeal.τ).loc Cert.KPreIdeal.main_arg0)
          ∧ r.2.mem ((c.tc : Thread Cert.KPreIdeal.nD Cert.KPreIdeal.τ).loc Cert.KPreIdeal.main_arg1) = m ((c.tc : Thread Cert.KPreIdeal.nD Cert.KPreIdeal.τ).loc Cert.KPreIdeal.main_arg1)
          ∧ r.2.mem ((c.tc : Thread Cert.KPreIdeal.nD Cert.KPreIdeal.τ).loc Cert.KPreIdeal.main_arg2) = m ((c.tc : Thread Cert.KPreIdeal.nD Cert.KPreIdeal.τ).loc Cert.KPreIdeal.main_arg2)
          ∧ r.2.mem ((c.tc : Thread Cert.KPreIdeal.nD Cert.KPreIdeal.τ).loc Cert.KPreIdeal.main_arg3) = m ((c.tc : Thread Cert.KPreIdeal.nD Cert.KPreIdeal.τ).loc Cert.KPreIdeal.main_arg3)
          ∧ r.2.mem ((c.tc : Thread Cert.KPreIdeal.nD Cert.KPreIdeal.τ).loc Cert.KPreIdeal.main_arg4) = m ((c.tc : Thread Cert.KPreIdeal.nD Cert.KPreIdeal.τ).loc Cert.KPreIdeal.main_arg4)
          ∧ r.2.mem ((c.tc : Thread Cert.KPreIdeal.nD Cert.KPreIdeal.τ).loc Cert.KPreIdeal.main_arg5) = m ((c.tc : Thread Cert.KPreIdeal.nD Cert.KPreIdeal.τ).loc Cert.KPreIdeal.main_arg5))
      ∧ θ_run (Cert.RPreIdeal.defs (F := Ideal)) (onTc (τ := Cert.RPreIdeal.τ) (Cert.RPreIdeal.main (F := Ideal))) ⟨m', fun _ => 0, g'⟩ (fun r => ∀ c : Dev Cert.RPreIdeal.nD,
          r.2.mem ((c.tc : Thread Cert.RPreIdeal.nD Cert.RPreIdeal.τ).loc Cert.RPreIdeal.main_v46) = v0 c
          ∧ r.2.mem ((c.tc : Thread Cert.RPreIdeal.nD Cert.RPreIdeal.τ).loc Cert.RPreIdeal.main_v48) = v1 c
          ∧ r.2.mem ((c.tc : Thread Cert.RPreIdeal.nD Cert.RPreIdeal.τ).loc Cert.RPreIdeal.main_v50) = v2 c
          ∧ r.2.mem ((c.tc : Thread Cert.RPreIdeal.nD Cert.RPreIdeal.τ).loc Cert.RPreIdeal.main_arg0) = m' ((c.tc : Thread Cert.RPreIdeal.nD Cert.RPreIdeal.τ).loc Cert.RPreIdeal.main_arg0)
          ∧ r.2.mem ((c.tc : Thread Cert.RPreIdeal.nD Cert.RPreIdeal.τ).loc Cert.RPreIdeal.main_arg1) = m' ((c.tc : Thread Cert.RPreIdeal.nD Cert.RPreIdeal.τ).loc Cert.RPreIdeal.main_arg1)
          ∧ r.2.mem ((c.tc : Thread Cert.RPreIdeal.nD Cert.RPreIdeal.τ).loc Cert.RPreIdeal.main_arg2) = m' ((c.tc : Thread Cert.RPreIdeal.nD Cert.RPreIdeal.τ).loc Cert.RPreIdeal.main_arg2)
          ∧ r.2.mem ((c.tc : Thread Cert.RPreIdeal.nD Cert.RPreIdeal.τ).loc Cert.RPreIdeal.main_arg3) = m' ((c.tc : Thread Cert.RPreIdeal.nD Cert.RPreIdeal.τ).loc Cert.RPreIdeal.main_arg3)
          ∧ r.2.mem ((c.tc : Thread Cert.RPreIdeal.nD Cert.RPreIdeal.τ).loc Cert.RPreIdeal.main_arg4) = m' ((c.tc : Thread Cert.RPreIdeal.nD Cert.RPreIdeal.τ).loc Cert.RPreIdeal.main_arg4)
          ∧ r.2.mem ((c.tc : Thread Cert.RPreIdeal.nD Cert.RPreIdeal.τ).loc Cert.RPreIdeal.main_arg5) = m' ((c.tc : Thread Cert.RPreIdeal.nD Cert.RPreIdeal.τ).loc Cert.RPreIdeal.main_arg5))

def preserves_KQuery_KQueryIdeal : Prop :=
  True

def algebraic_KQueryIdeal_RQueryIdeal_pre_finite_query [hKQueryIdeal : Cert.KQueryIdeal.Facts] [hRQueryIdeal : Cert.RQueryIdeal.Facts] [hPre_finite_query : Cert.Pre_finite_query.Facts] : Prop :=
  ∀ (m : (ℓ : Loc Cert.KQueryIdeal.nD Cert.KQueryIdeal.τ Cert.KQueryIdeal.sig) → Buf (Elt Ideal) ℓ) (g : Dev Cert.KQueryIdeal.nD → PrngReg)
    (m' : (ℓ : Loc Cert.RQueryIdeal.nD Cert.RQueryIdeal.τ Cert.RQueryIdeal.sig) → Buf (Elt Ideal) ℓ) (g' : Dev Cert.RQueryIdeal.nD → PrngReg), Pre_KQueryIdeal_finite_query m →
    (∀ c : Dev Cert.KQueryIdeal.nD,
      m' ((c.tc : Thread Cert.RQueryIdeal.nD Cert.RQueryIdeal.τ).loc Cert.RQueryIdeal.main_arg0) = m ((c.tc : Thread Cert.KQueryIdeal.nD Cert.KQueryIdeal.τ).loc Cert.KQueryIdeal.main_arg0)
      ∧ m' ((c.tc : Thread Cert.RQueryIdeal.nD Cert.RQueryIdeal.τ).loc Cert.RQueryIdeal.main_arg1) = m ((c.tc : Thread Cert.KQueryIdeal.nD Cert.KQueryIdeal.τ).loc Cert.KQueryIdeal.main_arg1)
      ∧ m' ((c.tc : Thread Cert.RQueryIdeal.nD Cert.RQueryIdeal.τ).loc Cert.RQueryIdeal.main_arg2) = m ((c.tc : Thread Cert.KQueryIdeal.nD Cert.KQueryIdeal.τ).loc Cert.KQueryIdeal.main_arg2)
      ∧ m' ((c.tc : Thread Cert.RQueryIdeal.nD Cert.RQueryIdeal.τ).loc Cert.RQueryIdeal.main_arg3) = m ((c.tc : Thread Cert.KQueryIdeal.nD Cert.KQueryIdeal.τ).loc Cert.KQueryIdeal.main_arg3)
      ∧ m' ((c.tc : Thread Cert.RQueryIdeal.nD Cert.RQueryIdeal.τ).loc Cert.RQueryIdeal.main_arg4) = m ((c.tc : Thread Cert.KQueryIdeal.nD Cert.KQueryIdeal.τ).loc Cert.KQueryIdeal.main_arg4)
      ∧ m' ((c.tc : Thread Cert.RQueryIdeal.nD Cert.RQueryIdeal.τ).loc Cert.RQueryIdeal.main_arg5) = m ((c.tc : Thread Cert.KQueryIdeal.nD Cert.KQueryIdeal.τ).loc Cert.KQueryIdeal.main_arg5)) →
    ∃ (v0 : (c : Dev Cert.KQueryIdeal.nD) → Buf (Elt Ideal) ((c.tc : Thread Cert.KQueryIdeal.nD Cert.KQueryIdeal.τ).loc Cert.KQueryIdeal.main_v16_0)) (v1 : (c : Dev Cert.KQueryIdeal.nD) → Buf (Elt Ideal) ((c.tc : Thread Cert.KQueryIdeal.nD Cert.KQueryIdeal.τ).loc Cert.KQueryIdeal.main_v16_1)) (v2 : (c : Dev Cert.KQueryIdeal.nD) → Buf (Elt Ideal) ((c.tc : Thread Cert.KQueryIdeal.nD Cert.KQueryIdeal.τ).loc Cert.KQueryIdeal.main_v16_2)) (v3 : (c : Dev Cert.KQueryIdeal.nD) → Buf (Elt Ideal) ((c.tc : Thread Cert.KQueryIdeal.nD Cert.KQueryIdeal.τ).loc Cert.KQueryIdeal.main_v16_3)),
      θ_run (Cert.KQueryIdeal.defs (F := Ideal)) (onTc (τ := Cert.KQueryIdeal.τ) (Cert.KQueryIdeal.main (F := Ideal))) ⟨m, fun _ => 0, g⟩ (fun r => ∀ c : Dev Cert.KQueryIdeal.nD,
          r.2.mem ((c.tc : Thread Cert.KQueryIdeal.nD Cert.KQueryIdeal.τ).loc Cert.KQueryIdeal.main_v16_0) = v0 c
          ∧ r.2.mem ((c.tc : Thread Cert.KQueryIdeal.nD Cert.KQueryIdeal.τ).loc Cert.KQueryIdeal.main_v16_1) = v1 c
          ∧ r.2.mem ((c.tc : Thread Cert.KQueryIdeal.nD Cert.KQueryIdeal.τ).loc Cert.KQueryIdeal.main_v16_2) = v2 c
          ∧ r.2.mem ((c.tc : Thread Cert.KQueryIdeal.nD Cert.KQueryIdeal.τ).loc Cert.KQueryIdeal.main_v16_3) = v3 c
          ∧ r.2.mem ((c.tc : Thread Cert.KQueryIdeal.nD Cert.KQueryIdeal.τ).loc Cert.KQueryIdeal.main_arg0) = m ((c.tc : Thread Cert.KQueryIdeal.nD Cert.KQueryIdeal.τ).loc Cert.KQueryIdeal.main_arg0)
          ∧ r.2.mem ((c.tc : Thread Cert.KQueryIdeal.nD Cert.KQueryIdeal.τ).loc Cert.KQueryIdeal.main_arg1) = m ((c.tc : Thread Cert.KQueryIdeal.nD Cert.KQueryIdeal.τ).loc Cert.KQueryIdeal.main_arg1)
          ∧ r.2.mem ((c.tc : Thread Cert.KQueryIdeal.nD Cert.KQueryIdeal.τ).loc Cert.KQueryIdeal.main_arg2) = m ((c.tc : Thread Cert.KQueryIdeal.nD Cert.KQueryIdeal.τ).loc Cert.KQueryIdeal.main_arg2)
          ∧ r.2.mem ((c.tc : Thread Cert.KQueryIdeal.nD Cert.KQueryIdeal.τ).loc Cert.KQueryIdeal.main_arg3) = m ((c.tc : Thread Cert.KQueryIdeal.nD Cert.KQueryIdeal.τ).loc Cert.KQueryIdeal.main_arg3)
          ∧ r.2.mem ((c.tc : Thread Cert.KQueryIdeal.nD Cert.KQueryIdeal.τ).loc Cert.KQueryIdeal.main_arg4) = m ((c.tc : Thread Cert.KQueryIdeal.nD Cert.KQueryIdeal.τ).loc Cert.KQueryIdeal.main_arg4)
          ∧ r.2.mem ((c.tc : Thread Cert.KQueryIdeal.nD Cert.KQueryIdeal.τ).loc Cert.KQueryIdeal.main_arg5) = m ((c.tc : Thread Cert.KQueryIdeal.nD Cert.KQueryIdeal.τ).loc Cert.KQueryIdeal.main_arg5))
      ∧ θ_run (Cert.RQueryIdeal.defs (F := Ideal)) (onTc (τ := Cert.RQueryIdeal.τ) (Cert.RQueryIdeal.main (F := Ideal))) ⟨m', fun _ => 0, g'⟩ (fun r => ∀ c : Dev Cert.RQueryIdeal.nD,
          r.2.mem ((c.tc : Thread Cert.RQueryIdeal.nD Cert.RQueryIdeal.τ).loc Cert.RQueryIdeal.main_v47) = v0 c
          ∧ r.2.mem ((c.tc : Thread Cert.RQueryIdeal.nD Cert.RQueryIdeal.τ).loc Cert.RQueryIdeal.main_v48) = v1 c
          ∧ r.2.mem ((c.tc : Thread Cert.RQueryIdeal.nD Cert.RQueryIdeal.τ).loc Cert.RQueryIdeal.main_v50) = v2 c
          ∧ r.2.mem ((c.tc : Thread Cert.RQueryIdeal.nD Cert.RQueryIdeal.τ).loc Cert.RQueryIdeal.main_v52) = v3 c
          ∧ r.2.mem ((c.tc : Thread Cert.RQueryIdeal.nD Cert.RQueryIdeal.τ).loc Cert.RQueryIdeal.main_arg0) = m' ((c.tc : Thread Cert.RQueryIdeal.nD Cert.RQueryIdeal.τ).loc Cert.RQueryIdeal.main_arg0)
          ∧ r.2.mem ((c.tc : Thread Cert.RQueryIdeal.nD Cert.RQueryIdeal.τ).loc Cert.RQueryIdeal.main_arg1) = m' ((c.tc : Thread Cert.RQueryIdeal.nD Cert.RQueryIdeal.τ).loc Cert.RQueryIdeal.main_arg1)
          ∧ r.2.mem ((c.tc : Thread Cert.RQueryIdeal.nD Cert.RQueryIdeal.τ).loc Cert.RQueryIdeal.main_arg2) = m' ((c.tc : Thread Cert.RQueryIdeal.nD Cert.RQueryIdeal.τ).loc Cert.RQueryIdeal.main_arg2)
          ∧ r.2.mem ((c.tc : Thread Cert.RQueryIdeal.nD Cert.RQueryIdeal.τ).loc Cert.RQueryIdeal.main_arg3) = m' ((c.tc : Thread Cert.RQueryIdeal.nD Cert.RQueryIdeal.τ).loc Cert.RQueryIdeal.main_arg3)
          ∧ r.2.mem ((c.tc : Thread Cert.RQueryIdeal.nD Cert.RQueryIdeal.τ).loc Cert.RQueryIdeal.main_arg4) = m' ((c.tc : Thread Cert.RQueryIdeal.nD Cert.RQueryIdeal.τ).loc Cert.RQueryIdeal.main_arg4)
          ∧ r.2.mem ((c.tc : Thread Cert.RQueryIdeal.nD Cert.RQueryIdeal.τ).loc Cert.RQueryIdeal.main_arg5) = m' ((c.tc : Thread Cert.RQueryIdeal.nD Cert.RQueryIdeal.τ).loc Cert.RQueryIdeal.main_arg5))

def preserves_KKeys_KKeysIdeal : Prop :=
  True

def algebraic_KKeysIdeal_RKeysIdeal_pre_finite_keys [hKKeysIdeal : Cert.KKeysIdeal.Facts] [hRKeysIdeal : Cert.RKeysIdeal.Facts] [hPre_finite_keys : Cert.Pre_finite_keys.Facts] : Prop :=
  ∀ (m : (ℓ : Loc Cert.KKeysIdeal.nD Cert.KKeysIdeal.τ Cert.KKeysIdeal.sig) → Buf (Elt Ideal) ℓ) (g : Dev Cert.KKeysIdeal.nD → PrngReg)
    (m' : (ℓ : Loc Cert.RKeysIdeal.nD Cert.RKeysIdeal.τ Cert.RKeysIdeal.sig) → Buf (Elt Ideal) ℓ) (g' : Dev Cert.RKeysIdeal.nD → PrngReg), Pre_KKeysIdeal_finite_keys m →
    (∀ c : Dev Cert.KKeysIdeal.nD,
      m' ((c.tc : Thread Cert.RKeysIdeal.nD Cert.RKeysIdeal.τ).loc Cert.RKeysIdeal.main_arg0) = m ((c.tc : Thread Cert.KKeysIdeal.nD Cert.KKeysIdeal.τ).loc Cert.KKeysIdeal.main_arg0)
      ∧ m' ((c.tc : Thread Cert.RKeysIdeal.nD Cert.RKeysIdeal.τ).loc Cert.RKeysIdeal.main_arg1) = m ((c.tc : Thread Cert.KKeysIdeal.nD Cert.KKeysIdeal.τ).loc Cert.KKeysIdeal.main_arg1)
      ∧ m' ((c.tc : Thread Cert.RKeysIdeal.nD Cert.RKeysIdeal.τ).loc Cert.RKeysIdeal.main_arg2) = m ((c.tc : Thread Cert.KKeysIdeal.nD Cert.KKeysIdeal.τ).loc Cert.KKeysIdeal.main_arg2)
      ∧ m' ((c.tc : Thread Cert.RKeysIdeal.nD Cert.RKeysIdeal.τ).loc Cert.RKeysIdeal.main_arg3) = m ((c.tc : Thread Cert.KKeysIdeal.nD Cert.KKeysIdeal.τ).loc Cert.KKeysIdeal.main_arg3)
      ∧ m' ((c.tc : Thread Cert.RKeysIdeal.nD Cert.RKeysIdeal.τ).loc Cert.RKeysIdeal.main_arg4) = m ((c.tc : Thread Cert.KKeysIdeal.nD Cert.KKeysIdeal.τ).loc Cert.KKeysIdeal.main_arg4)
      ∧ m' ((c.tc : Thread Cert.RKeysIdeal.nD Cert.RKeysIdeal.τ).loc Cert.RKeysIdeal.main_arg5) = m ((c.tc : Thread Cert.KKeysIdeal.nD Cert.KKeysIdeal.τ).loc Cert.KKeysIdeal.main_arg5)
      ∧ m' ((c.tc : Thread Cert.RKeysIdeal.nD Cert.RKeysIdeal.τ).loc Cert.RKeysIdeal.main_arg6) = m ((c.tc : Thread Cert.KKeysIdeal.nD Cert.KKeysIdeal.τ).loc Cert.KKeysIdeal.main_arg6)) →
    ∃ (v0 : (c : Dev Cert.KKeysIdeal.nD) → Buf (Elt Ideal) ((c.tc : Thread Cert.KKeysIdeal.nD Cert.KKeysIdeal.τ).loc Cert.KKeysIdeal.main_v26_0)) (v1 : (c : Dev Cert.KKeysIdeal.nD) → Buf (Elt Ideal) ((c.tc : Thread Cert.KKeysIdeal.nD Cert.KKeysIdeal.τ).loc Cert.KKeysIdeal.main_v26_1)) (v2 : (c : Dev Cert.KKeysIdeal.nD) → Buf (Elt Ideal) ((c.tc : Thread Cert.KKeysIdeal.nD Cert.KKeysIdeal.τ).loc Cert.KKeysIdeal.main_v26_2)) (v3 : (c : Dev Cert.KKeysIdeal.nD) → Buf (Elt Ideal) ((c.tc : Thread Cert.KKeysIdeal.nD Cert.KKeysIdeal.τ).loc Cert.KKeysIdeal.main_v26_3)) (v4 : (c : Dev Cert.KKeysIdeal.nD) → Buf (Elt Ideal) ((c.tc : Thread Cert.KKeysIdeal.nD Cert.KKeysIdeal.τ).loc Cert.KKeysIdeal.main_v26_4)),
      θ_run (Cert.KKeysIdeal.defs (F := Ideal)) (onTc (τ := Cert.KKeysIdeal.τ) (Cert.KKeysIdeal.main (F := Ideal))) ⟨m, fun _ => 0, g⟩ (fun r => ∀ c : Dev Cert.KKeysIdeal.nD,
          r.2.mem ((c.tc : Thread Cert.KKeysIdeal.nD Cert.KKeysIdeal.τ).loc Cert.KKeysIdeal.main_v26_0) = v0 c
          ∧ r.2.mem ((c.tc : Thread Cert.KKeysIdeal.nD Cert.KKeysIdeal.τ).loc Cert.KKeysIdeal.main_v26_1) = v1 c
          ∧ r.2.mem ((c.tc : Thread Cert.KKeysIdeal.nD Cert.KKeysIdeal.τ).loc Cert.KKeysIdeal.main_v26_2) = v2 c
          ∧ r.2.mem ((c.tc : Thread Cert.KKeysIdeal.nD Cert.KKeysIdeal.τ).loc Cert.KKeysIdeal.main_v26_3) = v3 c
          ∧ r.2.mem ((c.tc : Thread Cert.KKeysIdeal.nD Cert.KKeysIdeal.τ).loc Cert.KKeysIdeal.main_v26_4) = v4 c
          ∧ r.2.mem ((c.tc : Thread Cert.KKeysIdeal.nD Cert.KKeysIdeal.τ).loc Cert.KKeysIdeal.main_arg0) = m ((c.tc : Thread Cert.KKeysIdeal.nD Cert.KKeysIdeal.τ).loc Cert.KKeysIdeal.main_arg0)
          ∧ r.2.mem ((c.tc : Thread Cert.KKeysIdeal.nD Cert.KKeysIdeal.τ).loc Cert.KKeysIdeal.main_arg1) = m ((c.tc : Thread Cert.KKeysIdeal.nD Cert.KKeysIdeal.τ).loc Cert.KKeysIdeal.main_arg1)
          ∧ r.2.mem ((c.tc : Thread Cert.KKeysIdeal.nD Cert.KKeysIdeal.τ).loc Cert.KKeysIdeal.main_arg2) = m ((c.tc : Thread Cert.KKeysIdeal.nD Cert.KKeysIdeal.τ).loc Cert.KKeysIdeal.main_arg2)
          ∧ r.2.mem ((c.tc : Thread Cert.KKeysIdeal.nD Cert.KKeysIdeal.τ).loc Cert.KKeysIdeal.main_arg3) = m ((c.tc : Thread Cert.KKeysIdeal.nD Cert.KKeysIdeal.τ).loc Cert.KKeysIdeal.main_arg3)
          ∧ r.2.mem ((c.tc : Thread Cert.KKeysIdeal.nD Cert.KKeysIdeal.τ).loc Cert.KKeysIdeal.main_arg4) = m ((c.tc : Thread Cert.KKeysIdeal.nD Cert.KKeysIdeal.τ).loc Cert.KKeysIdeal.main_arg4)
          ∧ r.2.mem ((c.tc : Thread Cert.KKeysIdeal.nD Cert.KKeysIdeal.τ).loc Cert.KKeysIdeal.main_arg5) = m ((c.tc : Thread Cert.KKeysIdeal.nD Cert.KKeysIdeal.τ).loc Cert.KKeysIdeal.main_arg5)
          ∧ r.2.mem ((c.tc : Thread Cert.KKeysIdeal.nD Cert.KKeysIdeal.τ).loc Cert.KKeysIdeal.main_arg6) = m ((c.tc : Thread Cert.KKeysIdeal.nD Cert.KKeysIdeal.τ).loc Cert.KKeysIdeal.main_arg6))
      ∧ θ_run (Cert.RKeysIdeal.defs (F := Ideal)) (onTc (τ := Cert.RKeysIdeal.τ) (Cert.RKeysIdeal.main (F := Ideal))) ⟨m', fun _ => 0, g'⟩ (fun r => ∀ c : Dev Cert.RKeysIdeal.nD,
          r.2.mem ((c.tc : Thread Cert.RKeysIdeal.nD Cert.RKeysIdeal.τ).loc Cert.RKeysIdeal.main_v63) = v0 c
          ∧ r.2.mem ((c.tc : Thread Cert.RKeysIdeal.nD Cert.RKeysIdeal.τ).loc Cert.RKeysIdeal.main_v64) = v1 c
          ∧ r.2.mem ((c.tc : Thread Cert.RKeysIdeal.nD Cert.RKeysIdeal.τ).loc Cert.RKeysIdeal.main_v65) = v2 c
          ∧ r.2.mem ((c.tc : Thread Cert.RKeysIdeal.nD Cert.RKeysIdeal.τ).loc Cert.RKeysIdeal.main_v67) = v3 c
          ∧ r.2.mem ((c.tc : Thread Cert.RKeysIdeal.nD Cert.RKeysIdeal.τ).loc Cert.RKeysIdeal.main_v69) = v4 c
          ∧ r.2.mem ((c.tc : Thread Cert.RKeysIdeal.nD Cert.RKeysIdeal.τ).loc Cert.RKeysIdeal.main_arg0) = m' ((c.tc : Thread Cert.RKeysIdeal.nD Cert.RKeysIdeal.τ).loc Cert.RKeysIdeal.main_arg0)
          ∧ r.2.mem ((c.tc : Thread Cert.RKeysIdeal.nD Cert.RKeysIdeal.τ).loc Cert.RKeysIdeal.main_arg1) = m' ((c.tc : Thread Cert.RKeysIdeal.nD Cert.RKeysIdeal.τ).loc Cert.RKeysIdeal.main_arg1)
          ∧ r.2.mem ((c.tc : Thread Cert.RKeysIdeal.nD Cert.RKeysIdeal.τ).loc Cert.RKeysIdeal.main_arg2) = m' ((c.tc : Thread Cert.RKeysIdeal.nD Cert.RKeysIdeal.τ).loc Cert.RKeysIdeal.main_arg2)
          ∧ r.2.mem ((c.tc : Thread Cert.RKeysIdeal.nD Cert.RKeysIdeal.τ).loc Cert.RKeysIdeal.main_arg3) = m' ((c.tc : Thread Cert.RKeysIdeal.nD Cert.RKeysIdeal.τ).loc Cert.RKeysIdeal.main_arg3)
          ∧ r.2.mem ((c.tc : Thread Cert.RKeysIdeal.nD Cert.RKeysIdeal.τ).loc Cert.RKeysIdeal.main_arg4) = m' ((c.tc : Thread Cert.RKeysIdeal.nD Cert.RKeysIdeal.τ).loc Cert.RKeysIdeal.main_arg4)
          ∧ r.2.mem ((c.tc : Thread Cert.RKeysIdeal.nD Cert.RKeysIdeal.τ).loc Cert.RKeysIdeal.main_arg5) = m' ((c.tc : Thread Cert.RKeysIdeal.nD Cert.RKeysIdeal.τ).loc Cert.RKeysIdeal.main_arg5)
          ∧ r.2.mem ((c.tc : Thread Cert.RKeysIdeal.nD Cert.RKeysIdeal.τ).loc Cert.RKeysIdeal.main_arg6) = m' ((c.tc : Thread Cert.RKeysIdeal.nD Cert.RKeysIdeal.τ).loc Cert.RKeysIdeal.main_arg6))

def preserves_KHeads_KHeadsIdeal : Prop :=
  True

def algebraic_KHeadsIdeal_RHeadsIdeal_pre_finite_heads [hKHeadsIdeal : Cert.KHeadsIdeal.Facts] [hRHeadsIdeal : Cert.RHeadsIdeal.Facts] [hPre_finite_heads : Cert.Pre_finite_heads.Facts] : Prop :=
  ∀ (m : (ℓ : Loc Cert.KHeadsIdeal.nD Cert.KHeadsIdeal.τ Cert.KHeadsIdeal.sig) → Buf (Elt Ideal) ℓ) (g : Dev Cert.KHeadsIdeal.nD → PrngReg)
    (m' : (ℓ : Loc Cert.RHeadsIdeal.nD Cert.RHeadsIdeal.τ Cert.RHeadsIdeal.sig) → Buf (Elt Ideal) ℓ) (g' : Dev Cert.RHeadsIdeal.nD → PrngReg), Pre_KHeadsIdeal_finite_heads m →
    (∀ c : Dev Cert.KHeadsIdeal.nD,
      m' ((c.tc : Thread Cert.RHeadsIdeal.nD Cert.RHeadsIdeal.τ).loc Cert.RHeadsIdeal.main_arg0) = m ((c.tc : Thread Cert.KHeadsIdeal.nD Cert.KHeadsIdeal.τ).loc Cert.KHeadsIdeal.main_arg0)
      ∧ m' ((c.tc : Thread Cert.RHeadsIdeal.nD Cert.RHeadsIdeal.τ).loc Cert.RHeadsIdeal.main_arg1) = m ((c.tc : Thread Cert.KHeadsIdeal.nD Cert.KHeadsIdeal.τ).loc Cert.KHeadsIdeal.main_arg1)
      ∧ m' ((c.tc : Thread Cert.RHeadsIdeal.nD Cert.RHeadsIdeal.τ).loc Cert.RHeadsIdeal.main_arg2) = m ((c.tc : Thread Cert.KHeadsIdeal.nD Cert.KHeadsIdeal.τ).loc Cert.KHeadsIdeal.main_arg2)
      ∧ m' ((c.tc : Thread Cert.RHeadsIdeal.nD Cert.RHeadsIdeal.τ).loc Cert.RHeadsIdeal.main_arg3) = m ((c.tc : Thread Cert.KHeadsIdeal.nD Cert.KHeadsIdeal.τ).loc Cert.KHeadsIdeal.main_arg3)) →
    ∃ (v0 : (c : Dev Cert.KHeadsIdeal.nD) → Buf (Elt Ideal) ((c.tc : Thread Cert.KHeadsIdeal.nD Cert.KHeadsIdeal.τ).loc Cert.KHeadsIdeal.main_v9_0)) (v1 : (c : Dev Cert.KHeadsIdeal.nD) → Buf (Elt Ideal) ((c.tc : Thread Cert.KHeadsIdeal.nD Cert.KHeadsIdeal.τ).loc Cert.KHeadsIdeal.main_v9_1)) (v2 : (c : Dev Cert.KHeadsIdeal.nD) → Buf (Elt Ideal) ((c.tc : Thread Cert.KHeadsIdeal.nD Cert.KHeadsIdeal.τ).loc Cert.KHeadsIdeal.main_v9_2)),
      θ_run (Cert.KHeadsIdeal.defs (F := Ideal)) (onTc (τ := Cert.KHeadsIdeal.τ) (Cert.KHeadsIdeal.main (F := Ideal))) ⟨m, fun _ => 0, g⟩ (fun r => ∀ c : Dev Cert.KHeadsIdeal.nD,
          r.2.mem ((c.tc : Thread Cert.KHeadsIdeal.nD Cert.KHeadsIdeal.τ).loc Cert.KHeadsIdeal.main_v9_0) = v0 c
          ∧ r.2.mem ((c.tc : Thread Cert.KHeadsIdeal.nD Cert.KHeadsIdeal.τ).loc Cert.KHeadsIdeal.main_v9_1) = v1 c
          ∧ r.2.mem ((c.tc : Thread Cert.KHeadsIdeal.nD Cert.KHeadsIdeal.τ).loc Cert.KHeadsIdeal.main_v9_2) = v2 c
          ∧ r.2.mem ((c.tc : Thread Cert.KHeadsIdeal.nD Cert.KHeadsIdeal.τ).loc Cert.KHeadsIdeal.main_arg0) = m ((c.tc : Thread Cert.KHeadsIdeal.nD Cert.KHeadsIdeal.τ).loc Cert.KHeadsIdeal.main_arg0)
          ∧ r.2.mem ((c.tc : Thread Cert.KHeadsIdeal.nD Cert.KHeadsIdeal.τ).loc Cert.KHeadsIdeal.main_arg1) = m ((c.tc : Thread Cert.KHeadsIdeal.nD Cert.KHeadsIdeal.τ).loc Cert.KHeadsIdeal.main_arg1)
          ∧ r.2.mem ((c.tc : Thread Cert.KHeadsIdeal.nD Cert.KHeadsIdeal.τ).loc Cert.KHeadsIdeal.main_arg2) = m ((c.tc : Thread Cert.KHeadsIdeal.nD Cert.KHeadsIdeal.τ).loc Cert.KHeadsIdeal.main_arg2)
          ∧ r.2.mem ((c.tc : Thread Cert.KHeadsIdeal.nD Cert.KHeadsIdeal.τ).loc Cert.KHeadsIdeal.main_arg3) = m ((c.tc : Thread Cert.KHeadsIdeal.nD Cert.KHeadsIdeal.τ).loc Cert.KHeadsIdeal.main_arg3))
      ∧ θ_run (Cert.RHeadsIdeal.defs (F := Ideal)) (onTc (τ := Cert.RHeadsIdeal.τ) (Cert.RHeadsIdeal.main (F := Ideal))) ⟨m', fun _ => 0, g'⟩ (fun r => ∀ c : Dev Cert.RHeadsIdeal.nD,
          r.2.mem ((c.tc : Thread Cert.RHeadsIdeal.nD Cert.RHeadsIdeal.τ).loc Cert.RHeadsIdeal.main_v82) = v0 c
          ∧ r.2.mem ((c.tc : Thread Cert.RHeadsIdeal.nD Cert.RHeadsIdeal.τ).loc Cert.RHeadsIdeal.main_v83) = v1 c
          ∧ r.2.mem ((c.tc : Thread Cert.RHeadsIdeal.nD Cert.RHeadsIdeal.τ).loc Cert.RHeadsIdeal.main_v84) = v2 c
          ∧ r.2.mem ((c.tc : Thread Cert.RHeadsIdeal.nD Cert.RHeadsIdeal.τ).loc Cert.RHeadsIdeal.main_arg0) = m' ((c.tc : Thread Cert.RHeadsIdeal.nD Cert.RHeadsIdeal.τ).loc Cert.RHeadsIdeal.main_arg0)
          ∧ r.2.mem ((c.tc : Thread Cert.RHeadsIdeal.nD Cert.RHeadsIdeal.τ).loc Cert.RHeadsIdeal.main_arg1) = m' ((c.tc : Thread Cert.RHeadsIdeal.nD Cert.RHeadsIdeal.τ).loc Cert.RHeadsIdeal.main_arg1)
          ∧ r.2.mem ((c.tc : Thread Cert.RHeadsIdeal.nD Cert.RHeadsIdeal.τ).loc Cert.RHeadsIdeal.main_arg2) = m' ((c.tc : Thread Cert.RHeadsIdeal.nD Cert.RHeadsIdeal.τ).loc Cert.RHeadsIdeal.main_arg2)
          ∧ r.2.mem ((c.tc : Thread Cert.RHeadsIdeal.nD Cert.RHeadsIdeal.τ).loc Cert.RHeadsIdeal.main_arg3) = m' ((c.tc : Thread Cert.RHeadsIdeal.nD Cert.RHeadsIdeal.τ).loc Cert.RHeadsIdeal.main_arg3))

def preserves_KMlp_KMlpIdeal : Prop :=
  True

def algebraic_KMlpIdeal_RMlpIdeal_pre_finite_mlp [hKMlpIdeal : Cert.KMlpIdeal.Facts] [hRMlpIdeal : Cert.RMlpIdeal.Facts] [hPre_finite_mlp : Cert.Pre_finite_mlp.Facts] : Prop :=
  ∀ (m : (ℓ : Loc Cert.KMlpIdeal.nD Cert.KMlpIdeal.τ Cert.KMlpIdeal.sig) → Buf (Elt Ideal) ℓ) (g : Dev Cert.KMlpIdeal.nD → PrngReg)
    (m' : (ℓ : Loc Cert.RMlpIdeal.nD Cert.RMlpIdeal.τ Cert.RMlpIdeal.sig) → Buf (Elt Ideal) ℓ) (g' : Dev Cert.RMlpIdeal.nD → PrngReg), Pre_KMlpIdeal_finite_mlp m →
    (∀ c : Dev Cert.KMlpIdeal.nD,
      m' ((c.tc : Thread Cert.RMlpIdeal.nD Cert.RMlpIdeal.τ).loc Cert.RMlpIdeal.main_arg0) = m ((c.tc : Thread Cert.KMlpIdeal.nD Cert.KMlpIdeal.τ).loc Cert.KMlpIdeal.main_arg0)
      ∧ m' ((c.tc : Thread Cert.RMlpIdeal.nD Cert.RMlpIdeal.τ).loc Cert.RMlpIdeal.main_arg1) = m ((c.tc : Thread Cert.KMlpIdeal.nD Cert.KMlpIdeal.τ).loc Cert.KMlpIdeal.main_arg1)
      ∧ m' ((c.tc : Thread Cert.RMlpIdeal.nD Cert.RMlpIdeal.τ).loc Cert.RMlpIdeal.main_arg2) = m ((c.tc : Thread Cert.KMlpIdeal.nD Cert.KMlpIdeal.τ).loc Cert.KMlpIdeal.main_arg2)
      ∧ m' ((c.tc : Thread Cert.RMlpIdeal.nD Cert.RMlpIdeal.τ).loc Cert.RMlpIdeal.main_arg3) = m ((c.tc : Thread Cert.KMlpIdeal.nD Cert.KMlpIdeal.τ).loc Cert.KMlpIdeal.main_arg3)
      ∧ m' ((c.tc : Thread Cert.RMlpIdeal.nD Cert.RMlpIdeal.τ).loc Cert.RMlpIdeal.main_arg4) = m ((c.tc : Thread Cert.KMlpIdeal.nD Cert.KMlpIdeal.τ).loc Cert.KMlpIdeal.main_arg4)) →
    ∃ (v0 : (c : Dev Cert.KMlpIdeal.nD) → Buf (Elt Ideal) ((c.tc : Thread Cert.KMlpIdeal.nD Cert.KMlpIdeal.τ).loc Cert.KMlpIdeal.main_v25_0)) (v1 : (c : Dev Cert.KMlpIdeal.nD) → Buf (Elt Ideal) ((c.tc : Thread Cert.KMlpIdeal.nD Cert.KMlpIdeal.τ).loc Cert.KMlpIdeal.main_v25_1)) (v2 : (c : Dev Cert.KMlpIdeal.nD) → Buf (Elt Ideal) ((c.tc : Thread Cert.KMlpIdeal.nD Cert.KMlpIdeal.τ).loc Cert.KMlpIdeal.main_v25_2)) (v3 : (c : Dev Cert.KMlpIdeal.nD) → Buf (Elt Ideal) ((c.tc : Thread Cert.KMlpIdeal.nD Cert.KMlpIdeal.τ).loc Cert.KMlpIdeal.main_v25_3)),
      θ_run (Cert.KMlpIdeal.defs (F := Ideal)) (onTc (τ := Cert.KMlpIdeal.τ) (Cert.KMlpIdeal.main (F := Ideal))) ⟨m, fun _ => 0, g⟩ (fun r => ∀ c : Dev Cert.KMlpIdeal.nD,
          r.2.mem ((c.tc : Thread Cert.KMlpIdeal.nD Cert.KMlpIdeal.τ).loc Cert.KMlpIdeal.main_v25_0) = v0 c
          ∧ r.2.mem ((c.tc : Thread Cert.KMlpIdeal.nD Cert.KMlpIdeal.τ).loc Cert.KMlpIdeal.main_v25_1) = v1 c
          ∧ r.2.mem ((c.tc : Thread Cert.KMlpIdeal.nD Cert.KMlpIdeal.τ).loc Cert.KMlpIdeal.main_v25_2) = v2 c
          ∧ r.2.mem ((c.tc : Thread Cert.KMlpIdeal.nD Cert.KMlpIdeal.τ).loc Cert.KMlpIdeal.main_v25_3) = v3 c
          ∧ r.2.mem ((c.tc : Thread Cert.KMlpIdeal.nD Cert.KMlpIdeal.τ).loc Cert.KMlpIdeal.main_arg0) = m ((c.tc : Thread Cert.KMlpIdeal.nD Cert.KMlpIdeal.τ).loc Cert.KMlpIdeal.main_arg0)
          ∧ r.2.mem ((c.tc : Thread Cert.KMlpIdeal.nD Cert.KMlpIdeal.τ).loc Cert.KMlpIdeal.main_arg1) = m ((c.tc : Thread Cert.KMlpIdeal.nD Cert.KMlpIdeal.τ).loc Cert.KMlpIdeal.main_arg1)
          ∧ r.2.mem ((c.tc : Thread Cert.KMlpIdeal.nD Cert.KMlpIdeal.τ).loc Cert.KMlpIdeal.main_arg2) = m ((c.tc : Thread Cert.KMlpIdeal.nD Cert.KMlpIdeal.τ).loc Cert.KMlpIdeal.main_arg2)
          ∧ r.2.mem ((c.tc : Thread Cert.KMlpIdeal.nD Cert.KMlpIdeal.τ).loc Cert.KMlpIdeal.main_arg3) = m ((c.tc : Thread Cert.KMlpIdeal.nD Cert.KMlpIdeal.τ).loc Cert.KMlpIdeal.main_arg3)
          ∧ r.2.mem ((c.tc : Thread Cert.KMlpIdeal.nD Cert.KMlpIdeal.τ).loc Cert.KMlpIdeal.main_arg4) = m ((c.tc : Thread Cert.KMlpIdeal.nD Cert.KMlpIdeal.τ).loc Cert.KMlpIdeal.main_arg4))
      ∧ θ_run (Cert.RMlpIdeal.defs (F := Ideal)) (onTc (τ := Cert.RMlpIdeal.τ) (Cert.RMlpIdeal.main (F := Ideal))) ⟨m', fun _ => 0, g'⟩ (fun r => ∀ c : Dev Cert.RMlpIdeal.nD,
          r.2.mem ((c.tc : Thread Cert.RMlpIdeal.nD Cert.RMlpIdeal.τ).loc Cert.RMlpIdeal.main_v56) = v0 c
          ∧ r.2.mem ((c.tc : Thread Cert.RMlpIdeal.nD Cert.RMlpIdeal.τ).loc Cert.RMlpIdeal.main_v59) = v1 c
          ∧ r.2.mem ((c.tc : Thread Cert.RMlpIdeal.nD Cert.RMlpIdeal.τ).loc Cert.RMlpIdeal.main_v61) = v2 c
          ∧ r.2.mem ((c.tc : Thread Cert.RMlpIdeal.nD Cert.RMlpIdeal.τ).loc Cert.RMlpIdeal.main_v63) = v3 c
          ∧ r.2.mem ((c.tc : Thread Cert.RMlpIdeal.nD Cert.RMlpIdeal.τ).loc Cert.RMlpIdeal.main_arg0) = m' ((c.tc : Thread Cert.RMlpIdeal.nD Cert.RMlpIdeal.τ).loc Cert.RMlpIdeal.main_arg0)
          ∧ r.2.mem ((c.tc : Thread Cert.RMlpIdeal.nD Cert.RMlpIdeal.τ).loc Cert.RMlpIdeal.main_arg1) = m' ((c.tc : Thread Cert.RMlpIdeal.nD Cert.RMlpIdeal.τ).loc Cert.RMlpIdeal.main_arg1)
          ∧ r.2.mem ((c.tc : Thread Cert.RMlpIdeal.nD Cert.RMlpIdeal.τ).loc Cert.RMlpIdeal.main_arg2) = m' ((c.tc : Thread Cert.RMlpIdeal.nD Cert.RMlpIdeal.τ).loc Cert.RMlpIdeal.main_arg2)
          ∧ r.2.mem ((c.tc : Thread Cert.RMlpIdeal.nD Cert.RMlpIdeal.τ).loc Cert.RMlpIdeal.main_arg3) = m' ((c.tc : Thread Cert.RMlpIdeal.nD Cert.RMlpIdeal.τ).loc Cert.RMlpIdeal.main_arg3)
          ∧ r.2.mem ((c.tc : Thread Cert.RMlpIdeal.nD Cert.RMlpIdeal.τ).loc Cert.RMlpIdeal.main_arg4) = m' ((c.tc : Thread Cert.RMlpIdeal.nD Cert.RMlpIdeal.τ).loc Cert.RMlpIdeal.main_arg4))

def preserves_KMix_KMixIdeal : Prop :=
  True

def algebraic_KMixIdeal_RMixIdeal [hKMixIdeal : Cert.KMixIdeal.Facts] [hRMixIdeal : Cert.RMixIdeal.Facts] : Prop :=
  ∀ (m : (ℓ : Loc Cert.KMixIdeal.nD Cert.KMixIdeal.τ Cert.KMixIdeal.sig) → Buf (Elt Ideal) ℓ) (g : Dev Cert.KMixIdeal.nD → PrngReg)
    (m' : (ℓ : Loc Cert.RMixIdeal.nD Cert.RMixIdeal.τ Cert.RMixIdeal.sig) → Buf (Elt Ideal) ℓ) (g' : Dev Cert.RMixIdeal.nD → PrngReg), Pre_KMixIdeal m →
    (∀ c : Dev Cert.KMixIdeal.nD,
      m' ((c.tc : Thread Cert.RMixIdeal.nD Cert.RMixIdeal.τ).loc Cert.RMixIdeal.main_arg0) = m ((c.tc : Thread Cert.KMixIdeal.nD Cert.KMixIdeal.τ).loc Cert.KMixIdeal.main_arg0)
      ∧ m' ((c.tc : Thread Cert.RMixIdeal.nD Cert.RMixIdeal.τ).loc Cert.RMixIdeal.main_arg1) = m ((c.tc : Thread Cert.KMixIdeal.nD Cert.KMixIdeal.τ).loc Cert.KMixIdeal.main_arg1)
      ∧ m' ((c.tc : Thread Cert.RMixIdeal.nD Cert.RMixIdeal.τ).loc Cert.RMixIdeal.main_arg2) = m ((c.tc : Thread Cert.KMixIdeal.nD Cert.KMixIdeal.τ).loc Cert.KMixIdeal.main_arg2)
      ∧ m' ((c.tc : Thread Cert.RMixIdeal.nD Cert.RMixIdeal.τ).loc Cert.RMixIdeal.main_arg3) = m ((c.tc : Thread Cert.KMixIdeal.nD Cert.KMixIdeal.τ).loc Cert.KMixIdeal.main_arg3)
      ∧ m' ((c.tc : Thread Cert.RMixIdeal.nD Cert.RMixIdeal.τ).loc Cert.RMixIdeal.main_arg4) = m ((c.tc : Thread Cert.KMixIdeal.nD Cert.KMixIdeal.τ).loc Cert.KMixIdeal.main_arg4)
      ∧ m' ((c.tc : Thread Cert.RMixIdeal.nD Cert.RMixIdeal.τ).loc Cert.RMixIdeal.main_arg5) = m ((c.tc : Thread Cert.KMixIdeal.nD Cert.KMixIdeal.τ).loc Cert.KMixIdeal.main_arg5)) →
    ∃ (v0 : (c : Dev Cert.KMixIdeal.nD) → Buf (Elt Ideal) ((c.tc : Thread Cert.KMixIdeal.nD Cert.KMixIdeal.τ).loc Cert.KMixIdeal.main_v6_0)) (v1 : (c : Dev Cert.KMixIdeal.nD) → Buf (Elt Ideal) ((c.tc : Thread Cert.KMixIdeal.nD Cert.KMixIdeal.τ).loc Cert.KMixIdeal.main_v6_1)) (v2 : (c : Dev Cert.KMixIdeal.nD) → Buf (Elt Ideal) ((c.tc : Thread Cert.KMixIdeal.nD Cert.KMixIdeal.τ).loc Cert.KMixIdeal.main_v6_2)),
      θ_run (Cert.KMixIdeal.defs (F := Ideal)) (onTc (τ := Cert.KMixIdeal.τ) (Cert.KMixIdeal.main (F := Ideal))) ⟨m, fun _ => 0, g⟩ (fun r => ∀ c : Dev Cert.KMixIdeal.nD,
          r.2.mem ((c.tc : Thread Cert.KMixIdeal.nD Cert.KMixIdeal.τ).loc Cert.KMixIdeal.main_v6_0) = v0 c
          ∧ r.2.mem ((c.tc : Thread Cert.KMixIdeal.nD Cert.KMixIdeal.τ).loc Cert.KMixIdeal.main_v6_1) = v1 c
          ∧ r.2.mem ((c.tc : Thread Cert.KMixIdeal.nD Cert.KMixIdeal.τ).loc Cert.KMixIdeal.main_v6_2) = v2 c
          ∧ r.2.mem ((c.tc : Thread Cert.KMixIdeal.nD Cert.KMixIdeal.τ).loc Cert.KMixIdeal.main_arg0) = m ((c.tc : Thread Cert.KMixIdeal.nD Cert.KMixIdeal.τ).loc Cert.KMixIdeal.main_arg0)
          ∧ r.2.mem ((c.tc : Thread Cert.KMixIdeal.nD Cert.KMixIdeal.τ).loc Cert.KMixIdeal.main_arg1) = m ((c.tc : Thread Cert.KMixIdeal.nD Cert.KMixIdeal.τ).loc Cert.KMixIdeal.main_arg1)
          ∧ r.2.mem ((c.tc : Thread Cert.KMixIdeal.nD Cert.KMixIdeal.τ).loc Cert.KMixIdeal.main_arg2) = m ((c.tc : Thread Cert.KMixIdeal.nD Cert.KMixIdeal.τ).loc Cert.KMixIdeal.main_arg2)
          ∧ r.2.mem ((c.tc : Thread Cert.KMixIdeal.nD Cert.KMixIdeal.τ).loc Cert.KMixIdeal.main_arg3) = m ((c.tc : Thread Cert.KMixIdeal.nD Cert.KMixIdeal.τ).loc Cert.KMixIdeal.main_arg3)
          ∧ r.2.mem ((c.tc : Thread Cert.KMixIdeal.nD Cert.KMixIdeal.τ).loc Cert.KMixIdeal.main_arg4) = m ((c.tc : Thread Cert.KMixIdeal.nD Cert.KMixIdeal.τ).loc Cert.KMixIdeal.main_arg4)
          ∧ r.2.mem ((c.tc : Thread Cert.KMixIdeal.nD Cert.KMixIdeal.τ).loc Cert.KMixIdeal.main_arg5) = m ((c.tc : Thread Cert.KMixIdeal.nD Cert.KMixIdeal.τ).loc Cert.KMixIdeal.main_arg5))
      ∧ θ_run (Cert.RMixIdeal.defs (F := Ideal)) (onTc (τ := Cert.RMixIdeal.τ) (Cert.RMixIdeal.main (F := Ideal))) ⟨m', fun _ => 0, g'⟩ (fun r => ∀ c : Dev Cert.RMixIdeal.nD,
          r.2.mem ((c.tc : Thread Cert.RMixIdeal.nD Cert.RMixIdeal.τ).loc Cert.RMixIdeal.main_v16) = v0 c
          ∧ r.2.mem ((c.tc : Thread Cert.RMixIdeal.nD Cert.RMixIdeal.τ).loc Cert.RMixIdeal.main_v33) = v1 c
          ∧ r.2.mem ((c.tc : Thread Cert.RMixIdeal.nD Cert.RMixIdeal.τ).loc Cert.RMixIdeal.main_v43) = v2 c
          ∧ r.2.mem ((c.tc : Thread Cert.RMixIdeal.nD Cert.RMixIdeal.τ).loc Cert.RMixIdeal.main_arg0) = m' ((c.tc : Thread Cert.RMixIdeal.nD Cert.RMixIdeal.τ).loc Cert.RMixIdeal.main_arg0)
          ∧ r.2.mem ((c.tc : Thread Cert.RMixIdeal.nD Cert.RMixIdeal.τ).loc Cert.RMixIdeal.main_arg1) = m' ((c.tc : Thread Cert.RMixIdeal.nD Cert.RMixIdeal.τ).loc Cert.RMixIdeal.main_arg1)
          ∧ r.2.mem ((c.tc : Thread Cert.RMixIdeal.nD Cert.RMixIdeal.τ).loc Cert.RMixIdeal.main_arg2) = m' ((c.tc : Thread Cert.RMixIdeal.nD Cert.RMixIdeal.τ).loc Cert.RMixIdeal.main_arg2)
          ∧ r.2.mem ((c.tc : Thread Cert.RMixIdeal.nD Cert.RMixIdeal.τ).loc Cert.RMixIdeal.main_arg3) = m' ((c.tc : Thread Cert.RMixIdeal.nD Cert.RMixIdeal.τ).loc Cert.RMixIdeal.main_arg3)
          ∧ r.2.mem ((c.tc : Thread Cert.RMixIdeal.nD Cert.RMixIdeal.τ).loc Cert.RMixIdeal.main_arg4) = m' ((c.tc : Thread Cert.RMixIdeal.nD Cert.RMixIdeal.τ).loc Cert.RMixIdeal.main_arg4)
          ∧ r.2.mem ((c.tc : Thread Cert.RMixIdeal.nD Cert.RMixIdeal.τ).loc Cert.RMixIdeal.main_arg5) = m' ((c.tc : Thread Cert.RMixIdeal.nD Cert.RMixIdeal.τ).loc Cert.RMixIdeal.main_arg5))

def preserves_KProj_KProjIdeal : Prop :=
  True

def algebraic_KProjIdeal_RProjIdeal [hKProjIdeal : Cert.KProjIdeal.Facts] [hRProjIdeal : Cert.RProjIdeal.Facts] : Prop :=
  ∀ (m : (ℓ : Loc Cert.KProjIdeal.nD Cert.KProjIdeal.τ Cert.KProjIdeal.sig) → Buf (Elt Ideal) ℓ) (g : Dev Cert.KProjIdeal.nD → PrngReg)
    (m' : (ℓ : Loc Cert.RProjIdeal.nD Cert.RProjIdeal.τ Cert.RProjIdeal.sig) → Buf (Elt Ideal) ℓ) (g' : Dev Cert.RProjIdeal.nD → PrngReg), Pre_KProjIdeal m →
    (∀ c : Dev Cert.KProjIdeal.nD,
      m' ((c.tc : Thread Cert.RProjIdeal.nD Cert.RProjIdeal.τ).loc Cert.RProjIdeal.main_arg0) = m ((c.tc : Thread Cert.KProjIdeal.nD Cert.KProjIdeal.τ).loc Cert.KProjIdeal.main_arg0)
      ∧ m' ((c.tc : Thread Cert.RProjIdeal.nD Cert.RProjIdeal.τ).loc Cert.RProjIdeal.main_arg1) = m ((c.tc : Thread Cert.KProjIdeal.nD Cert.KProjIdeal.τ).loc Cert.KProjIdeal.main_arg1)
      ∧ m' ((c.tc : Thread Cert.RProjIdeal.nD Cert.RProjIdeal.τ).loc Cert.RProjIdeal.main_arg2) = m ((c.tc : Thread Cert.KProjIdeal.nD Cert.KProjIdeal.τ).loc Cert.KProjIdeal.main_arg2)
      ∧ m' ((c.tc : Thread Cert.RProjIdeal.nD Cert.RProjIdeal.τ).loc Cert.RProjIdeal.main_arg3) = m ((c.tc : Thread Cert.KProjIdeal.nD Cert.KProjIdeal.τ).loc Cert.KProjIdeal.main_arg3)
      ∧ m' ((c.tc : Thread Cert.RProjIdeal.nD Cert.RProjIdeal.τ).loc Cert.RProjIdeal.main_arg4) = m ((c.tc : Thread Cert.KProjIdeal.nD Cert.KProjIdeal.τ).loc Cert.KProjIdeal.main_arg4)
      ∧ m' ((c.tc : Thread Cert.RProjIdeal.nD Cert.RProjIdeal.τ).loc Cert.RProjIdeal.main_arg5) = m ((c.tc : Thread Cert.KProjIdeal.nD Cert.KProjIdeal.τ).loc Cert.KProjIdeal.main_arg5)
      ∧ m' ((c.tc : Thread Cert.RProjIdeal.nD Cert.RProjIdeal.τ).loc Cert.RProjIdeal.main_arg6) = m ((c.tc : Thread Cert.KProjIdeal.nD Cert.KProjIdeal.τ).loc Cert.KProjIdeal.main_arg6)) →
    ∃ (v0 : (c : Dev Cert.KProjIdeal.nD) → Buf (Elt Ideal) ((c.tc : Thread Cert.KProjIdeal.nD Cert.KProjIdeal.τ).loc Cert.KProjIdeal.main_v16_0)) (v1 : (c : Dev Cert.KProjIdeal.nD) → Buf (Elt Ideal) ((c.tc : Thread Cert.KProjIdeal.nD Cert.KProjIdeal.τ).loc Cert.KProjIdeal.main_v16_1)) (v2 : (c : Dev Cert.KProjIdeal.nD) → Buf (Elt Ideal) ((c.tc : Thread Cert.KProjIdeal.nD Cert.KProjIdeal.τ).loc Cert.KProjIdeal.main_v16_2)) (v3 : (c : Dev Cert.KProjIdeal.nD) → Buf (Elt Ideal) ((c.tc : Thread Cert.KProjIdeal.nD Cert.KProjIdeal.τ).loc Cert.KProjIdeal.main_v16_3)) (v4 : (c : Dev Cert.KProjIdeal.nD) → Buf (Elt Ideal) ((c.tc : Thread Cert.KProjIdeal.nD Cert.KProjIdeal.τ).loc Cert.KProjIdeal.main_v16_4)),
      θ_run (Cert.KProjIdeal.defs (F := Ideal)) (onTc (τ := Cert.KProjIdeal.τ) (Cert.KProjIdeal.main (F := Ideal))) ⟨m, fun _ => 0, g⟩ (fun r => ∀ c : Dev Cert.KProjIdeal.nD,
          r.2.mem ((c.tc : Thread Cert.KProjIdeal.nD Cert.KProjIdeal.τ).loc Cert.KProjIdeal.main_v16_0) = v0 c
          ∧ r.2.mem ((c.tc : Thread Cert.KProjIdeal.nD Cert.KProjIdeal.τ).loc Cert.KProjIdeal.main_v16_1) = v1 c
          ∧ r.2.mem ((c.tc : Thread Cert.KProjIdeal.nD Cert.KProjIdeal.τ).loc Cert.KProjIdeal.main_v16_2) = v2 c
          ∧ r.2.mem ((c.tc : Thread Cert.KProjIdeal.nD Cert.KProjIdeal.τ).loc Cert.KProjIdeal.main_v16_3) = v3 c
          ∧ r.2.mem ((c.tc : Thread Cert.KProjIdeal.nD Cert.KProjIdeal.τ).loc Cert.KProjIdeal.main_v16_4) = v4 c
          ∧ r.2.mem ((c.tc : Thread Cert.KProjIdeal.nD Cert.KProjIdeal.τ).loc Cert.KProjIdeal.main_arg0) = m ((c.tc : Thread Cert.KProjIdeal.nD Cert.KProjIdeal.τ).loc Cert.KProjIdeal.main_arg0)
          ∧ r.2.mem ((c.tc : Thread Cert.KProjIdeal.nD Cert.KProjIdeal.τ).loc Cert.KProjIdeal.main_arg1) = m ((c.tc : Thread Cert.KProjIdeal.nD Cert.KProjIdeal.τ).loc Cert.KProjIdeal.main_arg1)
          ∧ r.2.mem ((c.tc : Thread Cert.KProjIdeal.nD Cert.KProjIdeal.τ).loc Cert.KProjIdeal.main_arg2) = m ((c.tc : Thread Cert.KProjIdeal.nD Cert.KProjIdeal.τ).loc Cert.KProjIdeal.main_arg2)
          ∧ r.2.mem ((c.tc : Thread Cert.KProjIdeal.nD Cert.KProjIdeal.τ).loc Cert.KProjIdeal.main_arg3) = m ((c.tc : Thread Cert.KProjIdeal.nD Cert.KProjIdeal.τ).loc Cert.KProjIdeal.main_arg3)
          ∧ r.2.mem ((c.tc : Thread Cert.KProjIdeal.nD Cert.KProjIdeal.τ).loc Cert.KProjIdeal.main_arg4) = m ((c.tc : Thread Cert.KProjIdeal.nD Cert.KProjIdeal.τ).loc Cert.KProjIdeal.main_arg4)
          ∧ r.2.mem ((c.tc : Thread Cert.KProjIdeal.nD Cert.KProjIdeal.τ).loc Cert.KProjIdeal.main_arg5) = m ((c.tc : Thread Cert.KProjIdeal.nD Cert.KProjIdeal.τ).loc Cert.KProjIdeal.main_arg5)
          ∧ r.2.mem ((c.tc : Thread Cert.KProjIdeal.nD Cert.KProjIdeal.τ).loc Cert.KProjIdeal.main_arg6) = m ((c.tc : Thread Cert.KProjIdeal.nD Cert.KProjIdeal.τ).loc Cert.KProjIdeal.main_arg6))
      ∧ θ_run (Cert.RProjIdeal.defs (F := Ideal)) (onTc (τ := Cert.RProjIdeal.τ) (Cert.RProjIdeal.main (F := Ideal))) ⟨m', fun _ => 0, g'⟩ (fun r => ∀ c : Dev Cert.RProjIdeal.nD,
          r.2.mem ((c.tc : Thread Cert.RProjIdeal.nD Cert.RProjIdeal.τ).loc Cert.RProjIdeal.main_v36) = v0 c
          ∧ r.2.mem ((c.tc : Thread Cert.RProjIdeal.nD Cert.RProjIdeal.τ).loc Cert.RProjIdeal.main_v37) = v1 c
          ∧ r.2.mem ((c.tc : Thread Cert.RProjIdeal.nD Cert.RProjIdeal.τ).loc Cert.RProjIdeal.main_v41) = v2 c
          ∧ r.2.mem ((c.tc : Thread Cert.RProjIdeal.nD Cert.RProjIdeal.τ).loc Cert.RProjIdeal.main_v45) = v3 c
          ∧ r.2.mem ((c.tc : Thread Cert.RProjIdeal.nD Cert.RProjIdeal.τ).loc Cert.RProjIdeal.main_v46) = v4 c
          ∧ r.2.mem ((c.tc : Thread Cert.RProjIdeal.nD Cert.RProjIdeal.τ).loc Cert.RProjIdeal.main_arg0) = m' ((c.tc : Thread Cert.RProjIdeal.nD Cert.RProjIdeal.τ).loc Cert.RProjIdeal.main_arg0)
          ∧ r.2.mem ((c.tc : Thread Cert.RProjIdeal.nD Cert.RProjIdeal.τ).loc Cert.RProjIdeal.main_arg1) = m' ((c.tc : Thread Cert.RProjIdeal.nD Cert.RProjIdeal.τ).loc Cert.RProjIdeal.main_arg1)
          ∧ r.2.mem ((c.tc : Thread Cert.RProjIdeal.nD Cert.RProjIdeal.τ).loc Cert.RProjIdeal.main_arg2) = m' ((c.tc : Thread Cert.RProjIdeal.nD Cert.RProjIdeal.τ).loc Cert.RProjIdeal.main_arg2)
          ∧ r.2.mem ((c.tc : Thread Cert.RProjIdeal.nD Cert.RProjIdeal.τ).loc Cert.RProjIdeal.main_arg3) = m' ((c.tc : Thread Cert.RProjIdeal.nD Cert.RProjIdeal.τ).loc Cert.RProjIdeal.main_arg3)
          ∧ r.2.mem ((c.tc : Thread Cert.RProjIdeal.nD Cert.RProjIdeal.τ).loc Cert.RProjIdeal.main_arg4) = m' ((c.tc : Thread Cert.RProjIdeal.nD Cert.RProjIdeal.τ).loc Cert.RProjIdeal.main_arg4)
          ∧ r.2.mem ((c.tc : Thread Cert.RProjIdeal.nD Cert.RProjIdeal.τ).loc Cert.RProjIdeal.main_arg5) = m' ((c.tc : Thread Cert.RProjIdeal.nD Cert.RProjIdeal.τ).loc Cert.RProjIdeal.main_arg5)
          ∧ r.2.mem ((c.tc : Thread Cert.RProjIdeal.nD Cert.RProjIdeal.τ).loc Cert.RProjIdeal.main_arg6) = m' ((c.tc : Thread Cert.RProjIdeal.nD Cert.RProjIdeal.τ).loc Cert.RProjIdeal.main_arg6))

def preserves_KNorm_KNormIdeal : Prop :=
  True

def algebraic_KNormIdeal_RNormIdeal [hKNormIdeal : Cert.KNormIdeal.Facts] [hRNormIdeal : Cert.RNormIdeal.Facts] : Prop :=
  ∀ (m : (ℓ : Loc Cert.KNormIdeal.nD Cert.KNormIdeal.τ Cert.KNormIdeal.sig) → Buf (Elt Ideal) ℓ) (g : Dev Cert.KNormIdeal.nD → PrngReg)
    (m' : (ℓ : Loc Cert.RNormIdeal.nD Cert.RNormIdeal.τ Cert.RNormIdeal.sig) → Buf (Elt Ideal) ℓ) (g' : Dev Cert.RNormIdeal.nD → PrngReg), Pre_KNormIdeal m →
    (∀ c : Dev Cert.KNormIdeal.nD,
      m' ((c.tc : Thread Cert.RNormIdeal.nD Cert.RNormIdeal.τ).loc Cert.RNormIdeal.main_arg0) = m ((c.tc : Thread Cert.KNormIdeal.nD Cert.KNormIdeal.τ).loc Cert.KNormIdeal.main_arg0)
      ∧ m' ((c.tc : Thread Cert.RNormIdeal.nD Cert.RNormIdeal.τ).loc Cert.RNormIdeal.main_arg1) = m ((c.tc : Thread Cert.KNormIdeal.nD Cert.KNormIdeal.τ).loc Cert.KNormIdeal.main_arg1)) →
    ∃ (v0 : (c : Dev Cert.KNormIdeal.nD) → Buf (Elt Ideal) ((c.tc : Thread Cert.KNormIdeal.nD Cert.KNormIdeal.τ).loc Cert.KNormIdeal.main_v1)),
      θ_run (Cert.KNormIdeal.defs (F := Ideal)) (onTc (τ := Cert.KNormIdeal.τ) (Cert.KNormIdeal.main (F := Ideal))) ⟨m, fun _ => 0, g⟩ (fun r => ∀ c : Dev Cert.KNormIdeal.nD,
          r.2.mem ((c.tc : Thread Cert.KNormIdeal.nD Cert.KNormIdeal.τ).loc Cert.KNormIdeal.main_v1) = v0 c
          ∧ r.2.mem ((c.tc : Thread Cert.KNormIdeal.nD Cert.KNormIdeal.τ).loc Cert.KNormIdeal.main_arg0) = m ((c.tc : Thread Cert.KNormIdeal.nD Cert.KNormIdeal.τ).loc Cert.KNormIdeal.main_arg0)
          ∧ r.2.mem ((c.tc : Thread Cert.KNormIdeal.nD Cert.KNormIdeal.τ).loc Cert.KNormIdeal.main_arg1) = m ((c.tc : Thread Cert.KNormIdeal.nD Cert.KNormIdeal.τ).loc Cert.KNormIdeal.main_arg1))
      ∧ θ_run (Cert.RNormIdeal.defs (F := Ideal)) (onTc (τ := Cert.RNormIdeal.τ) (Cert.RNormIdeal.main (F := Ideal))) ⟨m', fun _ => 0, g'⟩ (fun r => ∀ c : Dev Cert.RNormIdeal.nD,
          r.2.mem ((c.tc : Thread Cert.RNormIdeal.nD Cert.RNormIdeal.τ).loc Cert.RNormIdeal.main_v12) = v0 c
          ∧ r.2.mem ((c.tc : Thread Cert.RNormIdeal.nD Cert.RNormIdeal.τ).loc Cert.RNormIdeal.main_arg0) = m' ((c.tc : Thread Cert.RNormIdeal.nD Cert.RNormIdeal.τ).loc Cert.RNormIdeal.main_arg0)
          ∧ r.2.mem ((c.tc : Thread Cert.RNormIdeal.nD Cert.RNormIdeal.τ).loc Cert.RNormIdeal.main_arg1) = m' ((c.tc : Thread Cert.RNormIdeal.nD Cert.RNormIdeal.τ).loc Cert.RNormIdeal.main_arg1))

def preserves_KFwd_KFwdIdeal : Prop :=
  True

def algebraic_KFwdIdeal_RFwdIdeal [hKFwdIdeal : Cert.KFwdIdeal.Facts] [hRFwdIdeal : Cert.RFwdIdeal.Facts] : Prop :=
  ∀ (m : (ℓ : Loc Cert.KFwdIdeal.nD Cert.KFwdIdeal.τ Cert.KFwdIdeal.sig) → Buf (Elt Ideal) ℓ) (g : Dev Cert.KFwdIdeal.nD → PrngReg)
    (m' : (ℓ : Loc Cert.RFwdIdeal.nD Cert.RFwdIdeal.τ Cert.RFwdIdeal.sig) → Buf (Elt Ideal) ℓ) (g' : Dev Cert.RFwdIdeal.nD → PrngReg), Pre_KFwdIdeal m →
    (∀ c : Dev Cert.KFwdIdeal.nD,
      m' ((c.tc : Thread Cert.RFwdIdeal.nD Cert.RFwdIdeal.τ).loc Cert.RFwdIdeal.main_arg0) = m ((c.tc : Thread Cert.KFwdIdeal.nD Cert.KFwdIdeal.τ).loc Cert.KFwdIdeal.main_arg0)
      ∧ m' ((c.tc : Thread Cert.RFwdIdeal.nD Cert.RFwdIdeal.τ).loc Cert.RFwdIdeal.main_arg1) = m ((c.tc : Thread Cert.KFwdIdeal.nD Cert.KFwdIdeal.τ).loc Cert.KFwdIdeal.main_arg1)
      ∧ m' ((c.tc : Thread Cert.RFwdIdeal.nD Cert.RFwdIdeal.τ).loc Cert.RFwdIdeal.main_arg2) = m ((c.tc : Thread Cert.KFwdIdeal.nD Cert.KFwdIdeal.τ).loc Cert.KFwdIdeal.main_arg2)
      ∧ m' ((c.tc : Thread Cert.RFwdIdeal.nD Cert.RFwdIdeal.τ).loc Cert.RFwdIdeal.main_arg3) = m ((c.tc : Thread Cert.KFwdIdeal.nD Cert.KFwdIdeal.τ).loc Cert.KFwdIdeal.main_arg3)) →
    ∃ (v0 : (c : Dev Cert.KFwdIdeal.nD) → Buf (Elt Ideal) ((c.tc : Thread Cert.KFwdIdeal.nD Cert.KFwdIdeal.τ).loc Cert.KFwdIdeal.main_v6_0)) (v1 : (c : Dev Cert.KFwdIdeal.nD) → Buf (Elt Ideal) ((c.tc : Thread Cert.KFwdIdeal.nD Cert.KFwdIdeal.τ).loc Cert.KFwdIdeal.main_v6_1)) (v2 : (c : Dev Cert.KFwdIdeal.nD) → Buf (Elt Ideal) ((c.tc : Thread Cert.KFwdIdeal.nD Cert.KFwdIdeal.τ).loc Cert.KFwdIdeal.main_v6_2)),
      θ_run (Cert.KFwdIdeal.defs (F := Ideal)) (onTc (τ := Cert.KFwdIdeal.τ) (Cert.KFwdIdeal.main (F := Ideal))) ⟨m, fun _ => 0, g⟩ (fun r => ∀ c : Dev Cert.KFwdIdeal.nD,
          r.2.mem ((c.tc : Thread Cert.KFwdIdeal.nD Cert.KFwdIdeal.τ).loc Cert.KFwdIdeal.main_v6_0) = v0 c
          ∧ r.2.mem ((c.tc : Thread Cert.KFwdIdeal.nD Cert.KFwdIdeal.τ).loc Cert.KFwdIdeal.main_v6_1) = v1 c
          ∧ r.2.mem ((c.tc : Thread Cert.KFwdIdeal.nD Cert.KFwdIdeal.τ).loc Cert.KFwdIdeal.main_v6_2) = v2 c
          ∧ r.2.mem ((c.tc : Thread Cert.KFwdIdeal.nD Cert.KFwdIdeal.τ).loc Cert.KFwdIdeal.main_arg0) = m ((c.tc : Thread Cert.KFwdIdeal.nD Cert.KFwdIdeal.τ).loc Cert.KFwdIdeal.main_arg0)
          ∧ r.2.mem ((c.tc : Thread Cert.KFwdIdeal.nD Cert.KFwdIdeal.τ).loc Cert.KFwdIdeal.main_arg1) = m ((c.tc : Thread Cert.KFwdIdeal.nD Cert.KFwdIdeal.τ).loc Cert.KFwdIdeal.main_arg1)
          ∧ r.2.mem ((c.tc : Thread Cert.KFwdIdeal.nD Cert.KFwdIdeal.τ).loc Cert.KFwdIdeal.main_arg2) = m ((c.tc : Thread Cert.KFwdIdeal.nD Cert.KFwdIdeal.τ).loc Cert.KFwdIdeal.main_arg2)
          ∧ r.2.mem ((c.tc : Thread Cert.KFwdIdeal.nD Cert.KFwdIdeal.τ).loc Cert.KFwdIdeal.main_arg3) = m ((c.tc : Thread Cert.KFwdIdeal.nD Cert.KFwdIdeal.τ).loc Cert.KFwdIdeal.main_arg3))
      ∧ θ_run (Cert.RFwdIdeal.defs (F := Ideal)) (onTc (τ := Cert.RFwdIdeal.τ) (Cert.RFwdIdeal.main (F := Ideal))) ⟨m', fun _ => 0, g'⟩ (fun r => ∀ c : Dev Cert.RFwdIdeal.nD,
          r.2.mem ((c.tc : Thread Cert.RFwdIdeal.nD Cert.RFwdIdeal.τ).loc Cert.RFwdIdeal.main_v15) = v0 c
          ∧ r.2.mem ((c.tc : Thread Cert.RFwdIdeal.nD Cert.RFwdIdeal.τ).loc Cert.RFwdIdeal.main_v16) = v1 c
          ∧ r.2.mem ((c.tc : Thread Cert.RFwdIdeal.nD Cert.RFwdIdeal.τ).loc Cert.RFwdIdeal.main_v19) = v2 c
          ∧ r.2.mem ((c.tc : Thread Cert.RFwdIdeal.nD Cert.RFwdIdeal.τ).loc Cert.RFwdIdeal.main_arg0) = m' ((c.tc : Thread Cert.RFwdIdeal.nD Cert.RFwdIdeal.τ).loc Cert.RFwdIdeal.main_arg0)
          ∧ r.2.mem ((c.tc : Thread Cert.RFwdIdeal.nD Cert.RFwdIdeal.τ).loc Cert.RFwdIdeal.main_arg1) = m' ((c.tc : Thread Cert.RFwdIdeal.nD Cert.RFwdIdeal.τ).loc Cert.RFwdIdeal.main_arg1)
          ∧ r.2.mem ((c.tc : Thread Cert.RFwdIdeal.nD Cert.RFwdIdeal.τ).loc Cert.RFwdIdeal.main_arg2) = m' ((c.tc : Thread Cert.RFwdIdeal.nD Cert.RFwdIdeal.τ).loc Cert.RFwdIdeal.main_arg2)
          ∧ r.2.mem ((c.tc : Thread Cert.RFwdIdeal.nD Cert.RFwdIdeal.τ).loc Cert.RFwdIdeal.main_arg3) = m' ((c.tc : Thread Cert.RFwdIdeal.nD Cert.RFwdIdeal.τ).loc Cert.RFwdIdeal.main_arg3))

def Claim : Prop :=
  ∃ (hKLoss : Cert.KLoss.Facts) (hKLossIdeal : Cert.KLossIdeal.Facts) (hRLossIdeal : Cert.RLossIdeal.Facts) (hKAttn : Cert.KAttn.Facts) (hKAttnIdeal : Cert.KAttnIdeal.Facts) (hRAttnIdeal : Cert.RAttnIdeal.Facts) (hKPre : Cert.KPre.Facts) (hKPreIdeal : Cert.KPreIdeal.Facts) (hRPreIdeal : Cert.RPreIdeal.Facts) (hKQuery : Cert.KQuery.Facts) (hKQueryIdeal : Cert.KQueryIdeal.Facts) (hRQueryIdeal : Cert.RQueryIdeal.Facts) (hKKeys : Cert.KKeys.Facts) (hKKeysIdeal : Cert.KKeysIdeal.Facts) (hRKeysIdeal : Cert.RKeysIdeal.Facts) (hKHeads : Cert.KHeads.Facts) (hKHeadsIdeal : Cert.KHeadsIdeal.Facts) (hRHeadsIdeal : Cert.RHeadsIdeal.Facts) (hKMlp : Cert.KMlp.Facts) (hKMlpIdeal : Cert.KMlpIdeal.Facts) (hRMlpIdeal : Cert.RMlpIdeal.Facts) (hKMix : Cert.KMix.Facts) (hKMixIdeal : Cert.KMixIdeal.Facts) (hRMixIdeal : Cert.RMixIdeal.Facts) (hKProj : Cert.KProj.Facts) (hKProjIdeal : Cert.KProjIdeal.Facts) (hRProjIdeal : Cert.RProjIdeal.Facts) (hKNorm : Cert.KNorm.Facts) (hKNormIdeal : Cert.KNormIdeal.Facts) (hRNormIdeal : Cert.RNormIdeal.Facts) (hKFwd : Cert.KFwd.Facts) (hKFwdIdeal : Cert.KFwdIdeal.Facts) (hRFwdIdeal : Cert.RFwdIdeal.Facts) (hPre_finite_loss : Cert.Pre_finite_loss.Facts) (hPre_finite_attn : Cert.Pre_finite_attn.Facts) (hPre_finite_pre : Cert.Pre_finite_pre.Facts) (hPre_finite_query : Cert.Pre_finite_query.Facts) (hPre_finite_keys : Cert.Pre_finite_keys.Facts) (hPre_finite_heads : Cert.Pre_finite_heads.Facts) (hPre_finite_mlp : Cert.Pre_finite_mlp.Facts),
    quiescent_KLoss (hKLoss := hKLoss)
    ∧ quiescent_KLossIdeal (hKLossIdeal := hKLossIdeal)
    ∧ quiescent_KLossIdeal_pre_finite_loss (hKLossIdeal := hKLossIdeal) (hPre_finite_loss := hPre_finite_loss)
    ∧ quiescent_RLossIdeal (hRLossIdeal := hRLossIdeal)
    ∧ quiescent_RLossIdeal_pre_finite_loss (hRLossIdeal := hRLossIdeal) (hPre_finite_loss := hPre_finite_loss)
    ∧ quiescent_KAttn (hKAttn := hKAttn)
    ∧ quiescent_KAttnIdeal (hKAttnIdeal := hKAttnIdeal)
    ∧ quiescent_KAttnIdeal_pre_finite_attn (hKAttnIdeal := hKAttnIdeal) (hPre_finite_attn := hPre_finite_attn)
    ∧ quiescent_RAttnIdeal (hRAttnIdeal := hRAttnIdeal)
    ∧ quiescent_RAttnIdeal_pre_finite_attn (hRAttnIdeal := hRAttnIdeal) (hPre_finite_attn := hPre_finite_attn)
    ∧ quiescent_KPre (hKPre := hKPre)
    ∧ quiescent_KPreIdeal (hKPreIdeal := hKPreIdeal)
    ∧ quiescent_KPreIdeal_pre_finite_pre (hKPreIdeal := hKPreIdeal) (hPre_finite_pre := hPre_finite_pre)
    ∧ quiescent_RPreIdeal (hRPreIdeal := hRPreIdeal)
    ∧ quiescent_RPreIdeal_pre_finite_pre (hRPreIdeal := hRPreIdeal) (hPre_finite_pre := hPre_finite_pre)
    ∧ quiescent_KQuery (hKQuery := hKQuery)
    ∧ quiescent_KQueryIdeal (hKQueryIdeal := hKQueryIdeal)
    ∧ quiescent_KQueryIdeal_pre_finite_query (hKQueryIdeal := hKQueryIdeal) (hPre_finite_query := hPre_finite_query)
    ∧ quiescent_RQueryIdeal (hRQueryIdeal := hRQueryIdeal)
    ∧ quiescent_RQueryIdeal_pre_finite_query (hRQueryIdeal := hRQueryIdeal) (hPre_finite_query := hPre_finite_query)
    ∧ quiescent_KKeys (hKKeys := hKKeys)
    ∧ quiescent_KKeysIdeal (hKKeysIdeal := hKKeysIdeal)
    ∧ quiescent_KKeysIdeal_pre_finite_keys (hKKeysIdeal := hKKeysIdeal) (hPre_finite_keys := hPre_finite_keys)
    ∧ quiescent_RKeysIdeal (hRKeysIdeal := hRKeysIdeal)
    ∧ quiescent_RKeysIdeal_pre_finite_keys (hRKeysIdeal := hRKeysIdeal) (hPre_finite_keys := hPre_finite_keys)
    ∧ quiescent_KHeads (hKHeads := hKHeads)
    ∧ quiescent_KHeadsIdeal (hKHeadsIdeal := hKHeadsIdeal)
    ∧ quiescent_KHeadsIdeal_pre_finite_heads (hKHeadsIdeal := hKHeadsIdeal) (hPre_finite_heads := hPre_finite_heads)
    ∧ quiescent_RHeadsIdeal (hRHeadsIdeal := hRHeadsIdeal)
    ∧ quiescent_RHeadsIdeal_pre_finite_heads (hRHeadsIdeal := hRHeadsIdeal) (hPre_finite_heads := hPre_finite_heads)
    ∧ quiescent_KMlp (hKMlp := hKMlp)
    ∧ quiescent_KMlpIdeal (hKMlpIdeal := hKMlpIdeal)
    ∧ quiescent_KMlpIdeal_pre_finite_mlp (hKMlpIdeal := hKMlpIdeal) (hPre_finite_mlp := hPre_finite_mlp)
    ∧ quiescent_RMlpIdeal (hRMlpIdeal := hRMlpIdeal)
    ∧ quiescent_RMlpIdeal_pre_finite_mlp (hRMlpIdeal := hRMlpIdeal) (hPre_finite_mlp := hPre_finite_mlp)
    ∧ quiescent_KMix (hKMix := hKMix)
    ∧ quiescent_KMixIdeal (hKMixIdeal := hKMixIdeal)
    ∧ quiescent_RMixIdeal (hRMixIdeal := hRMixIdeal)
    ∧ quiescent_KProj (hKProj := hKProj)
    ∧ quiescent_KProjIdeal (hKProjIdeal := hKProjIdeal)
    ∧ quiescent_RProjIdeal (hRProjIdeal := hRProjIdeal)
    ∧ quiescent_KNorm (hKNorm := hKNorm)
    ∧ quiescent_KNormIdeal (hKNormIdeal := hKNormIdeal)
    ∧ quiescent_RNormIdeal (hRNormIdeal := hRNormIdeal)
    ∧ quiescent_KFwd (hKFwd := hKFwd)
    ∧ quiescent_KFwdIdeal (hKFwdIdeal := hKFwdIdeal)
    ∧ quiescent_RFwdIdeal (hRFwdIdeal := hRFwdIdeal)
    ∧ preserves_KLoss_KLossIdeal
    ∧ algebraic_KLossIdeal_RLossIdeal_pre_finite_loss (hKLossIdeal := hKLossIdeal) (hRLossIdeal := hRLossIdeal) (hPre_finite_loss := hPre_finite_loss)
    ∧ preserves_KAttn_KAttnIdeal
    ∧ algebraic_KAttnIdeal_RAttnIdeal_pre_finite_attn (hKAttnIdeal := hKAttnIdeal) (hRAttnIdeal := hRAttnIdeal) (hPre_finite_attn := hPre_finite_attn)
    ∧ preserves_KPre_KPreIdeal
    ∧ algebraic_KPreIdeal_RPreIdeal_pre_finite_pre (hKPreIdeal := hKPreIdeal) (hRPreIdeal := hRPreIdeal) (hPre_finite_pre := hPre_finite_pre)
    ∧ preserves_KQuery_KQueryIdeal
    ∧ algebraic_KQueryIdeal_RQueryIdeal_pre_finite_query (hKQueryIdeal := hKQueryIdeal) (hRQueryIdeal := hRQueryIdeal) (hPre_finite_query := hPre_finite_query)
    ∧ preserves_KKeys_KKeysIdeal
    ∧ algebraic_KKeysIdeal_RKeysIdeal_pre_finite_keys (hKKeysIdeal := hKKeysIdeal) (hRKeysIdeal := hRKeysIdeal) (hPre_finite_keys := hPre_finite_keys)
    ∧ preserves_KHeads_KHeadsIdeal
    ∧ algebraic_KHeadsIdeal_RHeadsIdeal_pre_finite_heads (hKHeadsIdeal := hKHeadsIdeal) (hRHeadsIdeal := hRHeadsIdeal) (hPre_finite_heads := hPre_finite_heads)
    ∧ preserves_KMlp_KMlpIdeal
    ∧ algebraic_KMlpIdeal_RMlpIdeal_pre_finite_mlp (hKMlpIdeal := hKMlpIdeal) (hRMlpIdeal := hRMlpIdeal) (hPre_finite_mlp := hPre_finite_mlp)
    ∧ preserves_KMix_KMixIdeal
    ∧ algebraic_KMixIdeal_RMixIdeal (hKMixIdeal := hKMixIdeal) (hRMixIdeal := hRMixIdeal)
    ∧ preserves_KProj_KProjIdeal
    ∧ algebraic_KProjIdeal_RProjIdeal (hKProjIdeal := hKProjIdeal) (hRProjIdeal := hRProjIdeal)
    ∧ preserves_KNorm_KNormIdeal
    ∧ algebraic_KNormIdeal_RNormIdeal (hKNormIdeal := hKNormIdeal) (hRNormIdeal := hRNormIdeal)
    ∧ preserves_KFwd_KFwdIdeal
    ∧ algebraic_KFwdIdeal_RFwdIdeal (hKFwdIdeal := hKFwdIdeal) (hRFwdIdeal := hRFwdIdeal)
-- ==== Pre_finite_attn.lean ====
abbrev S2048x1024 : Shape := ⟨2, ![2048, 1024]⟩
abbrev S2048x256 : Shape := ⟨2, ![2048, 256]⟩
abbrev S16 : Shape := ⟨1, ![16]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S2048x1024 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  main_v23

def fn {F : FTy → Type} [FloatOps F] (main_arg0 : FVec F S2048x1024 .f32) (main_arg1 : FVec F S2048x256 .f32) (main_arg2 : FVec F S2048x256 .f32) (main_arg3 : FVec F S16 .f32) (main_arg4 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S2048x256 .f32 := Host.absf main_arg2
  let main_cst_2 : FVec F S_ .f32 := constant S_ .f32 0x7F800000#32
  let main_v10 : FVec F S2048x256 .f32 := broadcastInDim S2048x256 ![] bcast_S_S2048x256 main_cst_2
  let main_v11 : IVec S2048x256 1 := cmpf .olt main_v9 main_v10
  let main_c_3 : IVec S_ 1 := constantI S_ 1 1#1
  let main_v12 : IVec S_ 1 := (fun x v => Host.reduce IntOp.andi x v reducesTo_S2048x256_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_v13 main_v16
-- ==== Pre_finite_heads.lean ====
abbrev S2048x1024 : Shape := ⟨2, ![2048, 1024]⟩
abbrev S2048x256 : Shape := ⟨2, ![2048, 256]⟩
abbrev S16 : Shape := ⟨1, ![16]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S2048x1024 .f32) (main_arg1 : FVec F S2048x256 .f32) (main_arg2 : FVec F S2048x256 .f32) (main_arg3 : FVec F S16 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S2048x256 .f32 := Host.absf main_arg2
  let main_cst_2 : FVec F S_ .f32 := constant S_ .f32 0x7F800000#32
  let main_v10 : FVec F S2048x256 .f32 := broadcastInDim S2048x256 ![] bcast_S_S2048x256 main_cst_2
  let main_v11 : IVec S2048x256 1 := cmpf .olt main_v9 main_v10
  let main_c_3 : IVec S_ 1 := constantI S_ 1 1#1
  let main_v12 : IVec S_ 1 := (fun x v => Host.reduce IntOp.andi x v reducesTo_S2048x256_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Pre_finite_keys.lean ====
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_

variable [Facts]

def fn_part1 {F : FTy → Type} [FloatOps F] (main_arg6 : FVec F S2048x1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S2048x1024 .f32 := Host.absf main_arg6
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  main_v23

def fn {F : FTy → Type} [FloatOps F] (main_arg0 : FVec F S2048x1024 .f32) (main_arg1 : FVec F S1024 .f32) (main_arg2 : FVec F S1024x512 .f32) (main_arg3 : FVec F S512 .f32) (main_arg4 : FVec F S2048x1024 .f32) (main_arg5 : FVec F S2048x1024 .f32) (main_arg6 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S2048x1024 .f32 := Host.absf main_arg5
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg6 main_v13 main_v16
-- ==== Pre_finite_loss.lean ====
abbrev S2048x1024 : Shape := ⟨2, ![2048, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S2048x1024 .f32) (main_arg1 : FVec F S1024 .f32) (main_arg2 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  main_v13
-- ==== Pre_finite_mlp.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S2048x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  main_v23

def fn {F : FTy → Type} [FloatOps F] (main_arg0 : FVec F S2048x1024 .f32) (main_arg1 : FVec F S1024 .f32) (main_arg2 : FVec F S1024x4096 .f32) (main_arg3 : FVec F S4096x1024 .f32) (main_arg4 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Pre_finite_pre.lean ====
abbrev S2048x1024 : Shape := ⟨2, ![2048, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S2048x1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  main_v23

def fn {F : FTy → Type} [FloatOps F] (main_arg0 : FVec F S2048x1024 .f32) (main_arg1 : FVec F S1024 .f32) (main_arg2 : FVec F S1024 .f32) (main_arg3 : FVec F S2048x1024 .f32) (main_arg4 : FVec F S2048x1024 .f32) (main_arg5 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_v13 main_v16
-- ==== Pre_finite_query.lean ====
abbrev S2048x1024 : Shape := ⟨2, ![2048, 1024]⟩
abbrev S1024 : Shape := ⟨1, ![1024]⟩
abbrev S1024x1024 : Shape := ⟨2, ![1024, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  main_v18

def fn {F : FTy → Type} [FloatOps F] (main_arg0 : FVec F S2048x1024 .f32) (main_arg1 : FVec F S1024 .f32) (main_arg2 : FVec F S1024x1024 .f32) (main_arg3 : FVec F S1024 .f32) (main_arg4 : FVec F S2048x1024 .f32) (main_arg5 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S2048x1024 .f32 := Host.absf main_arg5
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_v13 main_v16
-- ==== KLoss.lean ====
abbrev S2048x1024 : Shape := ⟨2, ![2048, 1024]⟩
abbrev S1024 : Shape := ⟨1, ![1024]⟩
abbrev S1x1024 : Shape := ⟨2, ![1, 1024]⟩
abbrev S8x128 : Shape := ⟨2, ![8, 128]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S1x1024, .f32⟩
  | .hbm, ⟨4, _⟩ => ⟨S8x128, .f32⟩
  | .hbm, ⟨5, _⟩ => ⟨S2048x1024, .f32⟩
  | .hbm, ⟨6, _⟩ => ⟨S2048x1024, .bf16⟩
  | .hbm, ⟨7, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RLossIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x1 : Shape := ⟨2, ![1, 1]⟩
abbrev S8x128 : Shape := ⟨2, ![8, 128]⟩
abbrev S8x1024 : Shape := ⟨2, ![8, 1024]⟩

abbrev nBuf : Space → Nat
  | .hbm => 80
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S2048x1024, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x1024, .f32⟩
  | .hbm, ⟨59, _⟩ => ⟨S2048x1024, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S1x1, .f32⟩
  | .hbm, ⟨72, _⟩ => ⟨S_, .i32⟩
  | .hbm, ⟨73, _⟩ => ⟨S_, .f32⟩
  | .hbm, ⟨74, _⟩ => ⟨S8x128, .f32⟩
  | .hbm, ⟨75, _⟩ => ⟨S2048x1024, .bf16⟩
  | .hbm, ⟨76, _⟩ => ⟨S1x1024, .f32⟩
  | .hbm, ⟨77, _⟩ => ⟨S_, .i32⟩
  | .hbm, ⟨78, _⟩ => ⟨S_, .f32⟩
  | .hbm, ⟨79, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c : Ref sig .tc := ⟨.hbm, 72, rfl⟩
abbrev main_call0_v0 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_16 : Ref sig .tc := ⟨.hbm, 77, rfl⟩
abbrev main_call1_v0 : Ref sig .tc := ⟨.hbm, 78, rfl⟩
abbrev main_v55 : Ref sig .tc := ⟨.hbm, 79, rfl⟩

abbrev nD : Nat := 1
abbrev τ : Topo := Topo.v7x

variable {F : FTy → Type} [FloatOps F]
-- ==== KAttn.lean ====
abbrev S2048x1024 : Shape := ⟨2, ![2048, 1024]⟩
abbrev S2048x256 : Shape := ⟨2, ![2048, 256]⟩
abbrev S16 : Shape := ⟨1, ![16]⟩
abbrev S2048x4x1x64 : Shape := ⟨4, ![2048, 4, 1, 64]⟩
abbrev S2048x4x4x64 : Shape := ⟨4, ![2048, 4, 4, 64]⟩
abbrev S16x128x4x4x64 : Shape := ⟨5, ![16, 128, 4, 4, 64]⟩
abbrev S1x128x4x4x64 : Shape := ⟨5, ![1, 128, 4, 4, 64]⟩
abbrev S_ : Shape := ⟨0, ![]⟩
abbrev S15x128x4x4x64 : Shape := ⟨5, ![15, 128, 4, 4, 64]⟩
abbrev S16x256x4x4x64 : Shape := ⟨5, ![16, 256, 4, 4, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S4x4 : Shape := ⟨2, ![4, 4]⟩
abbrev S4x4x1 : Shape := ⟨3, ![4, 4, 1]⟩
abbrev S16x4x4x128x256 : Shape := ⟨5, ![16, 4, 4, 128, 256]⟩
abbrev S1x1x256 : Shape := ⟨3, ![1, 1, 256]⟩
abbrev S16x1x1 : Shape := ⟨3, ![16, 1, 1]⟩
abbrev S16x1x256 : Shape := ⟨3, ![16, 1, 256]⟩
abbrev S1x128x256 : Shape := ⟨3, ![1, 128, 256]⟩
abbrev S16x128x256 : Shape := ⟨3, ![16, 128, 256]⟩
abbrev S4x4x128x256 : Shape := ⟨4, ![4, 4, 128, 256]⟩
abbrev S16x4x4x128 : Shape := ⟨4, ![16, 4, 4, 128]⟩
abbrev S1x4x4x1 : Shape := ⟨4, ![1, 4, 4, 1]⟩
abbrev S16x4x4x128x1 : Shape := ⟨5, ![16, 4, 4, 128, 1]⟩
abbrev S4x16x4x128x256 : Shape := ⟨5, ![4, 16, 4, 128, 256]⟩
abbrev S4x16x512x256 : Shape := ⟨4, ![4, 16, 512, 256]⟩
abbrev S4x16x4x128 : Shape := ⟨4, ![4, 16, 4, 128]⟩
abbrev S4x16x512x1 : Shape := ⟨4, ![4, 16, 512, 1]⟩
abbrev S4x16x512x128 : Shape := ⟨4, ![4, 16, 512, 128]⟩
abbrev S4x8x128 : Shape := ⟨3, ![4, 8, 128]⟩
abbrev S512x256 : Shape := ⟨2, ![512, 256]⟩
abbrev S1x4x512x256 : Shape := ⟨4, ![1, 4, 512, 256]⟩
abbrev S1x4x512x128 : Shape := ⟨4, ![1, 4, 512, 128]⟩
abbrev S1x8x128 : Shape := ⟨3, ![1, 8, 128]⟩
abbrev S8x128 : Shape := ⟨2, ![8, 128]⟩
abbrev S256x256 : Shape := ⟨2, ![256, 256]⟩
abbrev S1x1x512x256 : Shape := ⟨4, ![1, 1, 512, 256]⟩
abbrev S1x1x512x128 : Shape := ⟨4, ![1, 1, 512, 128]⟩
abbrev S512x128 : Shape := ⟨2, ![512, 128]⟩
abbrev S512x1 : Shape := ⟨2, ![512, 1]⟩
abbrev S512 : Shape := ⟨1, ![512]⟩
abbrev S1 : Shape := ⟨1, ![1]⟩
abbrev S1x1 : Shape := ⟨2, ![1, 1]⟩

abbrev nBuf : Space → Nat
  | .hbm => 101
  | .vmem => 24
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S2048x256, .f32⟩
  | .hbm, ⟨3, _⟩ => ⟨S16, .f32⟩
  | .hbm, ⟨4, _⟩ => ⟨S2048x1024, .f32⟩
  | .hbm, ⟨5, _⟩ => ⟨S2048x4x1x64, .f32⟩
  | .hbm, ⟨6, _⟩ => ⟨S2048x4x4x64, .f32⟩
  | .hbm, ⟨7, _⟩ => ⟨S2048x4x1x64, .f32⟩
  | .hbm, ⟨8, _⟩ => ⟨S2048x4x4x64, .f32⟩
  | .hbm, ⟨9, _⟩ => ⟨S16, .i32⟩
  | .hbm, ⟨10, _⟩ => ⟨S16x128x4x4x64, .f32⟩
  | .hbm, ⟨11, _⟩ => ⟨S16x128x4x4x64, .f32⟩
  | .hbm, ⟨12, _⟩ => ⟨S1x128x4x4x64, .f32⟩
  | .hbm, ⟨13, _⟩ => ⟨S_, .f32⟩
  | .hbm, ⟨14, _⟩ => ⟨S1x128x4x4x64, .f32⟩
  | .hbm, ⟨15, _⟩ => ⟨S15x128x4x4x64, .f32⟩
  | .hbm, ⟨16, _⟩ => ⟨S16x128x4x4x64, .f32⟩
  | .hbm, ⟨17, _⟩ => ⟨S16x256x4x4x64, .f32⟩
  | .hbm, ⟨18, _⟩ => ⟨S128, .i32⟩
  | .hbm, ⟨19, _⟩ => ⟨S128x1, .i32⟩
  | .hbm, ⟨20, _⟩ => ⟨S256, .i32⟩
  | .hbm, ⟨21, _⟩ => ⟨S1x256, .i32⟩
  | .hbm, ⟨22, _⟩ => ⟨S_, .i32⟩
  | .hbm, ⟨23, _⟩ => ⟨S128x1, .i32⟩
  | .hbm, ⟨24, _⟩ => ⟨S128x1, .i32⟩
  | .hbm, ⟨25, _⟩ => ⟨S128x256, .i32⟩
  | .hbm, ⟨26, _⟩ => ⟨S128x256, .i32⟩
  | .hbm, ⟨27, _⟩ => ⟨S128x256, .i32⟩
  | .hbm, ⟨28, _⟩ => ⟨S_, .i32⟩
  | .hbm, ⟨29, _⟩ => ⟨S128x256, .i32⟩
  | .hbm, ⟨30, _⟩ => ⟨S128x256, .i1⟩
  | .hbm, ⟨31, _⟩ => ⟨S_, .i32⟩
  | .hbm, ⟨32, _⟩ => ⟨S128x256, .i32⟩
  | .hbm, ⟨33, _⟩ => ⟨S128x256, .i1⟩
  | .hbm, ⟨34, _⟩ => ⟨S128x256, .i1⟩
  | .hbm, ⟨35, _⟩ => ⟨S4x4, .f32⟩
  | .hbm, ⟨36, _⟩ => ⟨S4x4x1, .f32⟩
  | .hbm, ⟨37, _⟩ => ⟨S16x4x4x128x256, .f32⟩
  | .hbm, ⟨38, _⟩ => ⟨S_, .f32⟩
  | .hbm, ⟨39, _⟩ => ⟨S16x4x4x128x256, .f32⟩
  | .hbm, ⟨40, _⟩ => ⟨S16x4x4x128x256, .f32⟩
  | .hbm, ⟨41, _⟩ => ⟨S_, .i32⟩
  | .hbm, ⟨42, _⟩ => ⟨S16, .i32⟩
  | .hbm, ⟨43, _⟩ => ⟨S16, .i32⟩
  | .hbm, ⟨44, _⟩ => ⟨S_, .i32⟩
  | .hbm, ⟨45, _⟩ => ⟨S16, .i32⟩
  | .hbm, ⟨46, _⟩ => ⟨S16, .i32⟩
  | .hbm, ⟨47, _⟩ => ⟨S1x1x256, .i32⟩
  | .hbm, ⟨48, _⟩ => ⟨S16x1x1, .i32⟩
  | .hbm, ⟨49, _⟩ => ⟨S16x1x256, .i32⟩
  | .hbm, ⟨50, _⟩ => ⟨S16x1x256, .i32⟩
  | .hbm, ⟨51, _⟩ => ⟨S16x1x256, .i32⟩
  | .hbm, ⟨52, _⟩ => ⟨S_, .i32⟩
  | .hbm, ⟨53, _⟩ => ⟨S16x1x256, .i32⟩
  | .hbm, ⟨54, _⟩ => ⟨S16x1x256, .i1⟩
  | .hbm, ⟨55, _⟩ => ⟨S1x128x256, .i1⟩
  | .hbm, ⟨56, _⟩ => ⟨S16x128x256, .i1⟩
  | .hbm, ⟨57, _⟩ => ⟨S16x128x256, .i1⟩
  | .hbm, ⟨58, _⟩ => ⟨S16x128x256, .i1⟩
  | .hbm, ⟨59, _⟩ => ⟨S16x4x4x128x256, .i1⟩
  | .hbm, ⟨60, _⟩ => ⟨S_, .f32⟩
  | .hbm, ⟨61, _⟩ => ⟨S4x4x128x256, .f32⟩
  | .hbm, ⟨62, _⟩ => ⟨S16x4x4x128x256, .f32⟩
  | .hbm, ⟨63, _⟩ => ⟨S16x4x4x128x256, .f32⟩
  | .hbm, ⟨64, _⟩ => ⟨S_, .f32⟩
  | .hbm, ⟨65, _⟩ => ⟨S16x4x4x128, .f32⟩
  | .hbm, ⟨66, _⟩ => ⟨S1x4x4x1, .f32⟩
  | .hbm, ⟨67, _⟩ => ⟨S16x4x4x128, .f32⟩
  | .hbm, ⟨68, _⟩ => ⟨S16x4x4x128, .f32⟩
  | .hbm, ⟨69, _⟩ => ⟨S16x4x4x128x1, .f32⟩
  | .hbm, ⟨70, _⟩ => ⟨S16x4x4x128x256, .f32⟩
  | .hbm, ⟨71, _⟩ => ⟨S16x4x4x128x256, .f32⟩
  | .hbm, ⟨72, _⟩ => ⟨S16x4x4x128x256, .f32⟩
  | .hbm, ⟨73, _⟩ => ⟨S1x4x4x1, .f32⟩
  | .hbm, ⟨74, _⟩ => ⟨S16x4x4x128, .f32⟩
  | .hbm, ⟨75, _⟩ => ⟨S16x4x4x128, .f32⟩
  | .hbm, ⟨76, _⟩ => ⟨S16x4x4x128, .f32⟩
  | .hbm, ⟨77, _⟩ => ⟨S_, .f32⟩
  | .hbm, ⟨78, _⟩ => ⟨S16x4x4x128, .f32⟩
  | .hbm, ⟨79, _⟩ => ⟨S16x4x4x128, .f32⟩
  | .hbm, ⟨80, _⟩ => ⟨S16x4x4x128x1, .f32⟩
  | .hbm, ⟨81, _⟩ => ⟨S16x4x4x128x256, .f32⟩
  | .hbm, ⟨82, _⟩ => ⟨S16x4x4x128x256, .f32⟩
  | .hbm, ⟨83, _⟩ => ⟨S16x4x4x128, .f32⟩
  | .hbm, ⟨84, _⟩ => ⟨S4x16x4x128x256, .f32⟩
  | .hbm, ⟨85, _⟩ => ⟨S4x16x512x256, .f32⟩
  | .hbm, ⟨86, _⟩ => ⟨S4x16x4x128, .f32⟩
  | .hbm, ⟨87, _⟩ => ⟨S4x16x512x1, .f32⟩
  | .hbm, ⟨88, _⟩ => ⟨S4x16x512x128, .f32⟩
  | .hbm, ⟨89, _⟩ => ⟨S2048x1024, .bf16⟩
  | .hbm, ⟨90, _⟩ => ⟨S2048x1024, .bf16⟩
  | .hbm, ⟨91, _⟩ => ⟨S2048x1024, .f32⟩
  | .hbm, ⟨92, _⟩ => ⟨S2048x1024, .bf16⟩
  | .hbm, ⟨93, _⟩ => ⟨S2048x1024, .f32⟩
  | .hbm, ⟨94, _⟩ => ⟨S2048x1024, .bf16⟩
  | .hbm, ⟨95, _⟩ => ⟨S4x16x512x256, .bf16⟩
  | .hbm, ⟨96, _⟩ => ⟨S4x16x512x128, .bf16⟩
  | .hbm, ⟨97, _⟩ => ⟨S2048x1024, .f32⟩
  | .hbm, ⟨98, _⟩ => ⟨S2048x1024, .f32⟩
  | .hbm, ⟨99, _⟩ => ⟨S2048x1024, .f32⟩
  | .hbm, ⟨100, _⟩ => ⟨S4x8x128, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S128x256, .bf16⟩
  | .local _ .vmem, ⟨7, _⟩ => ⟨S128x256, .bf16⟩
  | .local _ .vmem, ⟨8, _⟩ => ⟨S512x256, .bf16⟩
  | .local _ .vmem, ⟨9, _⟩ => ⟨S512x256, .bf16⟩
  | .local _ .vmem, ⟨10, _⟩ => ⟨S128x256, .bf16⟩
  | .local _ .vmem, ⟨11, _⟩ => ⟨S128x256, .bf16⟩
  | .local _ .vmem, ⟨12, _⟩ => ⟨S1x4x512x256, .bf16⟩
  | .local _ .vmem, ⟨13, _⟩ => ⟨S1x4x512x256, .bf16⟩
  | .local _ .vmem, ⟨14, _⟩ => ⟨S1x4x512x128, .bf16⟩
  | .local _ .vmem, ⟨15, _⟩ => ⟨S1x4x512x128, .bf16⟩
  | .local _ .vmem, ⟨16, _⟩ => ⟨S512x256, .f32⟩
  | .local _ .vmem, ⟨17, _⟩ => ⟨S512x256, .f32⟩
  | .local _ .vmem, ⟨18, _⟩ => ⟨S2048x256, .f32⟩
  | .local _ .vmem, ⟨19, _⟩ => ⟨S2048x256, .f32⟩
  | .local _ .vmem, ⟨20, _⟩ => ⟨S2048x256, .f32⟩
  | .local _ .vmem, ⟨21, _⟩ => ⟨S2048x256, .f32⟩
  | .local _ .vmem, ⟨22, _⟩ => ⟨S1x8x128, .f32⟩
  | .local _ .vmem, ⟨23, _⟩ => ⟨S1x8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_0 : Ref sig .tc := ⟨.hbm, 28, rfl⟩
abbrev main_v21 : Ref sig .tc := ⟨.hbm, 29, rfl⟩
abbrev main_v22 : Ref sig .tc := ⟨.hbm, 30, rfl⟩
abbrev main_c_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_c_3 : Ref sig .tc := ⟨.hbm, 41, rfl⟩
abbrev main_v31 : Ref sig .tc := ⟨.hbm, 42, rfl⟩
abbrev main_v32 : Ref sig .tc := ⟨.hbm, 43, rfl⟩
abbrev main_c_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_8 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81_0 : Ref sig .tc := ⟨.hbm, 97, rfl⟩
abbrev main_v81_1 : Ref sig .tc := ⟨.hbm, 98, rfl⟩
abbrev main_v81_2 : Ref sig .tc := ⟨.hbm, 99, rfl⟩
abbrev main_v81_3 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c512_i32 : BitVec 32 := 512#32
  let v258 : BitVec 32 := Scalar.muli arg1 c512_i32
  let c0_i32_100 : BitVec 32 := 0#32
  let v259 : BitVec 32 := Scalar.addi v258 c0_i32_100
  v259
def k0_off1 (i : grid0.Coords) (c0_i32_100 : BitVec 32) : Fin 2 → Nat :=
  let arg1 : BitVec 32 := BitVec.ofNat 32 (i 1).val
  let c512_i32 : BitVec 32 := 512#32
  let v258 : BitVec 32 := Scalar.muli arg1 c512_i32
  let v259 : BitVec 32 := Scalar.addi v258 c0_i32_100
  let v260 : BitVec 32 := v259
  let v261 : Index := Scalar.indexCast v260
  let c0_101 : Index := 0#32
  ![v261.toNat, 0]
def k0_mult2 (i : grid0.Coords) : BitVec 32 :=
  let arg1 : BitVec 32 := BitVec.ofNat 32 (i 1).val
  let c512_i32_105 : BitVec 32 := 512#32
  let v275 : BitVec 32 := Scalar.muli arg1 c512_i32_105
  let c_m128_i32 : BitVec 32 := 4294967168#32
  let v276 : BitVec 32 := Scalar.addi v275 c_m128_i32
  let c0_i32_106 : BitVec 32 := 0#32
  let v277 : BitVec 32 := Scalar.maxsi v276 c0_i32_106
  v277
def k0_off2 (i : grid0.Coords) (c_m128_i32 : BitVec 32) : Fin 2 → Nat :=
  let arg1 : BitVec 32 := BitVec.ofNat 32 (i 1).val
  let c512_i32_105 : BitVec 32 := 512#32
  let v275 : BitVec 32 := Scalar.muli arg1 c512_i32_105
  let v276 : BitVec 32 := Scalar.addi v275 c_m128_i32
  let c0_i32_106 : BitVec 32 := 0#32
  let v277 : BitVec 32 := Scalar.maxsi v276 c0_i32_106
  let v278 : BitVec 32 := v277
  let v279 : Index := Scalar.indexCast v278
  let c0_107 : Index := 0#32
  ![v279.toNat, 0]
def k0_off2_at (r : Fin 4) : BitVec 32 :=
  if r.val < 2 then
    if r.val < 1 then
      4294967168#32
    else
      0#32
  else
    if r.val < 3 then
      128#32
    else
      256#32
def k0_mult3 (i : grid0.Coords) : BitVec 32 :=
  let arg1 : BitVec 32 := BitVec.ofNat 32 (i 1).val
  let c512_i32_213 : BitVec 32 := 512#32
  let v540 : BitVec 32 := Scalar.muli arg1 c512_i32_213
  let c128_i32_214 : BitVec 32 := 128#32
  let v541 : BitVec 32 := Scalar.addi v540 c128_i32_214
  v541
def k0_mult4 (i : grid0.Coords) : BitVec 32 :=
  let arg1 : BitVec 32 := BitVec.ofNat 32 (i 1).val
  let c512_i32_219 : BitVec 32 := 512#32
  let v557 : BitVec 32 := Scalar.muli arg1 c512_i32_219
  let c0_i32_220 : BitVec 32 := 0#32
  let v558 : BitVec 32 := Scalar.addi v557 c0_i32_220
  let c0_i32_221 : BitVec 32 := 0#32
  let v559 : BitVec 32 := Scalar.maxsi v558 c0_i32_221
  v559
def k0_mult5 (i : grid0.Coords) : BitVec 32 :=
  let arg1 : BitVec 32 := BitVec.ofNat 32 (i 1).val
  let c512_i32_328 : BitVec 32 := 512#32
  let v822 : BitVec 32 := Scalar.muli arg1 c512_i32_328
  let c256_i32_329 : BitVec 32 := 256#32
  let v823 : BitVec 32 := Scalar.addi v822 c256_i32_329
  v823
def k0_mult6 (i : grid0.Coords) : BitVec 32 :=
  let arg1 : BitVec 32 := BitVec.ofNat 32 (i 1).val
  let c512_i32_334 : BitVec 32 := 512#32
  let v839 : BitVec 32 := Scalar.muli arg1 c512_i32_334
  let c128_i32_335 : BitVec 32 := 128#32
  let v840 : BitVec 32 := Scalar.addi v839 c128_i32_335
  let c0_i32_336 : BitVec 32 := 0#32
  let v841 : BitVec 32 := Scalar.maxsi v840 c0_i32_336
  v841
def k0_mult7 (i : grid0.Coords) : BitVec 32 :=
  let arg1 : BitVec 32 := BitVec.ofNat 32 (i 1).val
  let c512_i32_443 : BitVec 32 := 512#32
  let v1104 : BitVec 32 := Scalar.muli arg1 c512_i32_443
  let c384_i32 : BitVec 32 := 384#32
  let v1105 : BitVec 32 := Scalar.addi v1104 c384_i32
  v1105
def k0_mult8 (i : grid0.Coords) : BitVec 32 :=
  let arg1 : BitVec 32 := BitVec.ofNat 32 (i 1).val
  let c512_i32_448 : BitVec 32 := 512#32
  let v1121 : BitVec 32 := Scalar.muli arg1 c512_i32_448
  let c256_i32_449 : BitVec 32 := 256#32
  let v1122 : BitVec 32 := Scalar.addi v1121 c256_i32_449
  let c0_i32_450 : BitVec 32 := 0#32
  let v1123 : BitVec 32 := Scalar.maxsi v1122 c0_i32_450
  v1123
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== RAttnIdeal.lean ====
abbrev S2048x1024 : Shape := ⟨2, ![2048, 1024]⟩
abbrev S2048x256 : Shape := ⟨2, ![2048, 256]⟩
abbrev S16 : Shape := ⟨1, ![16]⟩
abbrev S2048x4x1x64 : Shape := ⟨4, ![2048, 4, 1, 64]⟩
abbrev S2048x4x4x64 : Shape := ⟨4, ![2048, 4, 4, 64]⟩
abbrev S16x128x4x4x64 : Shape := ⟨5, ![16, 128, 4, 4, 64]⟩
abbrev S1x128x4x4x64 : Shape := ⟨5, ![1, 128, 4, 4, 64]⟩
abbrev S_ : Shape := ⟨0, ![]⟩
abbrev S15x128x4x4x64 : Shape := ⟨5, ![15, 128, 4, 4, 64]⟩
abbrev S16x256x4x4x64 : Shape := ⟨5, ![16, 256, 4, 4, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S4x4 : Shape := ⟨2, ![4, 4]⟩
abbrev S4x4x1 : Shape := ⟨3, ![4, 4, 1]⟩
abbrev S16x4x4x128x256 : Shape := ⟨5, ![16, 4, 4, 128, 256]⟩
abbrev S1x1x256 : Shape := ⟨3, ![1, 1, 256]⟩
abbrev S16x1x1 : Shape := ⟨3, ![16, 1, 1]⟩
abbrev S16x1x256 : Shape := ⟨3, ![16, 1, 256]⟩
abbrev S1x128x256 : Shape := ⟨3, ![1, 128, 256]⟩
abbrev S16x128x256 : Shape := ⟨3, ![16, 128, 256]⟩
abbrev S4x4x128x256 : Shape := ⟨4, ![4, 4, 128, 256]⟩
abbrev S16x4x4x128 : Shape := ⟨4, ![16, 4, 4, 128]⟩
abbrev S16x4x4x128x1 : Shape := ⟨5, ![16, 4, 4, 128, 1]⟩
abbrev S1x4x4x1 : Shape := ⟨4, ![1, 4, 4, 1]⟩
abbrev S16x4x4x64x128 : Shape := ⟨5, ![16, 4, 4, 64, 128]⟩
abbrev S16x4x4x64x256 : Shape := ⟨5, ![16, 4, 4, 64, 256]⟩
abbrev S16x4x4x256x64 : Shape := ⟨5, ![16, 4, 4, 256, 64]⟩
abbrev S16x4x4x128x64 : Shape := ⟨5, ![16, 4, 4, 128, 64]⟩
abbrev S4x1x4 : Shape := ⟨3, ![4, 1, 4]⟩
abbrev S4x8x128 : Shape := ⟨3, ![4, 8, 128]⟩

abbrev nBuf : Space → Nat
  | .hbm => 221
  | .vmem => 0
  | .smem => 0
  | _ => 0

abbrev hbmTy0_0 (i : Nat) : BufTy := match i % 128 with
  | 0 => ⟨S2048x1024, .f32⟩
  | 1 => ⟨S2048x256, .f32⟩
  | 2 => ⟨S2048x256, .f32⟩
  | 3 => ⟨S16, .f32⟩
  | 4 => ⟨S2048x1024, .f32⟩
  | 5 => ⟨S2048x4x1x64, .f32⟩
  | 6 => ⟨S2048x4x4x64, .f32⟩
  | 7 => ⟨S2048x4x1x64, .f32⟩
  | 8 => ⟨S2048x4x4x64, .f32⟩
  | 9 => ⟨S16, .i32⟩
  | 10 => ⟨S16x128x4x4x64, .f32⟩
  | 11 => ⟨S16x128x4x4x64, .f32⟩
  | 12 => ⟨S1x128x4x4x64, .f32⟩
  | 13 => ⟨S_, .f32⟩
  | 14 => ⟨S1x128x4x4x64, .f32⟩
  | 15 => ⟨S15x128x4x4x64, .f32⟩
  | 16 => ⟨S16x128x4x4x64, .f32⟩
  | 17 => ⟨S_, .f32⟩
  | 18 => ⟨S1x128x4x4x64, .f32⟩
  | 19 => ⟨S16x256x4x4x64, .f32⟩
  | 20 => ⟨S16x128x4x4x64, .f32⟩
  | 21 => ⟨S1x128x4x4x64, .f32⟩
  | 22 => ⟨S_, .f32⟩
  | 23 => ⟨S1x128x4x4x64, .f32⟩
  | 24 => ⟨S15x128x4x4x64, .f32⟩
  | 25 => ⟨S16x128x4x4x64, .f32⟩
  | 26 => ⟨S_, .f32⟩
  | 27 => ⟨S1x128x4x4x64, .f32⟩
  | 28 => ⟨S16x256x4x4x64, .f32⟩
  | 29 => ⟨S128, .i32⟩
  | 30 => ⟨S128x1, .i32⟩
  | 31 => ⟨S256, .i32⟩
  | 32 => ⟨S1x256, .i32⟩
  | 33 => ⟨S_, .i32⟩
  | 34 => ⟨S128x1, .i32⟩
  | 35 => ⟨S128x1, .i32⟩
  | 36 => ⟨S128x256, .i32⟩
  | 37 => ⟨S128x256, .i32⟩
  | 38 => ⟨S128x256, .i32⟩
  | 39 => ⟨S_, .i32⟩
  | 40 => ⟨S128x256, .i32⟩
  | 41 => ⟨S128x256, .i1⟩
  | 42 => ⟨S_, .i32⟩
  | 43 => ⟨S128x256, .i32⟩
  | 44 => ⟨S128x256, .i1⟩
  | 45 => ⟨S128x256, .i1⟩
  | 46 => ⟨S4x4, .f32⟩
  | 47 => ⟨S4x4x1, .f32⟩
  | 48 => ⟨S16x4x4x128x256, .f32⟩
  | 49 => ⟨S_, .f32⟩
  | 50 => ⟨S16x4x4x128x256, .f32⟩
  | 51 => ⟨S16x4x4x128x256, .f32⟩
  | 52 => ⟨S_, .i32⟩
  | 53 => ⟨S16, .i32⟩
  | 54 => ⟨S16, .i32⟩
  | 55 => ⟨S_, .i32⟩
  | 56 => ⟨S16, .i32⟩
  | 57 => ⟨S16, .i32⟩
  | 58 => ⟨S1x1x256, .i32⟩
  | 59 => ⟨S16x1x1, .i32⟩
  | 60 => ⟨S16x1x256, .i32⟩
  | 61 => ⟨S16x1x256, .i32⟩
  | 62 => ⟨S16x1x256, .i32⟩
  | 63 => ⟨S_, .i32⟩
  | 64 => ⟨S16x1x256, .i32⟩
  | 65 => ⟨S16x1x256, .i1⟩
  | 66 => ⟨S1x128x256, .i1⟩
  | 67 => ⟨S16x128x256, .i1⟩
  | 68 => ⟨S16x128x256, .i1⟩
  | 69 => ⟨S16x128x256, .i1⟩
  | 70 => ⟨S16x4x4x128x256, .i1⟩
  | 71 => ⟨S_, .f32⟩
  | 72 => ⟨S4x4x128x256, .f32⟩
  | 73 => ⟨S16x4x4x128x256, .f32⟩
  | 74 => ⟨S16x4x4x128x256, .f32⟩
  | 75 => ⟨S_, .f32⟩
  | 76 => ⟨S16x4x4x128x256, .f32⟩
  | 77 => ⟨S_, .f32⟩
  | 78 => ⟨S16x4x4x128, .f32⟩
  | 79 => ⟨S16x4x4x128x1, .f32⟩
  | 80 => ⟨S16x4x4x128x256, .f32⟩
  | 81 => ⟨S16x4x4x128x256, .i1⟩
  | 82 => ⟨S16x4x4x128x256, .f32⟩
  | 83 => ⟨S_, .f32⟩
  | 84 => ⟨S16x4x4x128, .f32⟩
  | 85 => ⟨S1x4x4x1, .f32⟩
  | 86 => ⟨S16x4x4x128, .f32⟩
  | 87 => ⟨S16x4x4x128, .f32⟩
  | 88 => ⟨S16x4x4x128, .f32⟩
  | 89 => ⟨S16x4x4x128, .i1⟩
  | 90 => ⟨S16x4x4x128, .f32⟩
  | 91 => ⟨S16x4x4x128, .i1⟩
  | 92 => ⟨S_, .f32⟩
  | 93 => ⟨S16x4x4x128, .f32⟩
  | 94 => ⟨S_, .f32⟩
  | 95 => ⟨S16x4x4x128, .f32⟩
  | 96 => ⟨S_, .f32⟩
  | 97 => ⟨S16x4x4x128, .f32⟩
  | 98 => ⟨S16x4x4x128, .f32⟩
  | 99 => ⟨S16x4x4x128, .f32⟩
  | 100 => ⟨S16x4x4x128, .f32⟩
  | 101 => ⟨S16x4x4x128, .i1⟩
  | 102 => ⟨S16x4x4x128, .f32⟩
  | 103 => ⟨S16x4x4x128, .i1⟩
  | 104 => ⟨S_, .f32⟩
  | 105 => ⟨S16x4x4x128, .f32⟩
  | 106 => ⟨S_, .f32⟩
  | 107 => ⟨S16x4x4x128, .f32⟩
  | 108 => ⟨S_, .f32⟩
  | 109 => ⟨S16x4x4x128, .f32⟩
  | 110 => ⟨S16x4x4x128, .f32⟩
  | 111 => ⟨S16x4x4x128, .f32⟩
  | 112 => ⟨S16x4x4x128x1, .f32⟩
  | 113 => ⟨S16x4x4x128x256, .f32⟩
  | 114 => ⟨S16x4x4x128x256, .f32⟩
  | 115 => ⟨S16x4x4x128x256, .f32⟩
  | 116 => ⟨S1x4x4x1, .f32⟩
  | 117 => ⟨S16x4x4x128, .f32⟩
  | 118 => ⟨S16x4x4x128, .f32⟩
  | 119 => ⟨S16x4x4x128, .f32⟩
  | 120 => ⟨S_, .f32⟩
  | 121 => ⟨S16x4x4x128, .f32⟩
  | 122 => ⟨S16x4x4x128, .f32⟩
  | 123 => ⟨S16x4x4x128x1, .f32⟩
  | 124 => ⟨S16x4x4x128x256, .f32⟩
  | 125 => ⟨S16x4x4x128x256, .f32⟩
  | 126 => ⟨S16x4x4x128x1, .f32⟩
  | 127 => ⟨S_, .f32⟩
  | _ => ⟨S2048x1024, .f32⟩

abbrev hbmTy0_1 (i : Nat) : BufTy := match i % 128 with
  | 0 => ⟨S16x4x4x128x1, .f32⟩
  | 1 => ⟨S16x4x4x128x1, .f32⟩
  | 2 => ⟨S16x4x4x128, .f32⟩
  | 3 => ⟨S16x4x4x128, .f32⟩
  | 4 => ⟨S_, .f32⟩
  | 5 => ⟨S16x4x4x128, .f32⟩
  | 6 => ⟨S16x4x4x128, .f32⟩
  | 7 => ⟨S16x4x4x64x128, .f32⟩
  | 8 => ⟨S16x128x4x4x64, .f32⟩
  | 9 => ⟨S2048x1024, .f32⟩
  | 10 => ⟨S16x128x4x4x64, .f32⟩
  | 11 => ⟨S16x4x4x64x128, .f32⟩
  | 12 => ⟨S16x4x4x128x256, .f32⟩
  | 13 => ⟨S16x4x4x64x256, .f32⟩
  | 14 => ⟨S16x256x4x4x64, .f32⟩
  | 15 => ⟨S16x4x4x128x256, .f32⟩
  | 16 => ⟨S16x4x4x128x256, .f32⟩
  | 17 => ⟨S16x4x4x128x256, .f32⟩
  | 18 => ⟨S_, .f32⟩
  | 19 => ⟨S16x4x4x128, .f32⟩
  | 20 => ⟨S16x4x4x128x1, .f32⟩
  | 21 => ⟨S16x4x4x128x1, .f32⟩
  | 22 => ⟨S16x4x4x128x256, .f32⟩
  | 23 => ⟨S16x4x4x128x256, .f32⟩
  | 24 => ⟨S_, .f32⟩
  | 25 => ⟨S16x4x4x128, .f32⟩
  | 26 => ⟨S16x4x4x128x256, .f32⟩
  | 27 => ⟨S16x4x4x128x256, .f32⟩
  | 28 => ⟨S16x4x4x128, .f32⟩
  | 29 => ⟨S_, .f32⟩
  | 30 => ⟨S4x4, .f32⟩
  | 31 => ⟨S1x4x4x1, .f32⟩
  | 32 => ⟨S16x4x4x128, .f32⟩
  | 33 => ⟨S_, .f32⟩
  | 34 => ⟨S4x4, .f32⟩
  | 35 => ⟨S4x4x1, .f32⟩
  | 36 => ⟨S16x4x4x128x256, .f32⟩
  | 37 => ⟨S16x4x4x128x256, .f32⟩
  | 38 => ⟨S_, .f32⟩
  | 39 => ⟨S16x4x4x128, .f32⟩
  | 40 => ⟨S16x4x4x128x1, .f32⟩
  | 41 => ⟨S_, .f32⟩
  | 42 => ⟨S16x4x4x128, .f32⟩
  | 43 => ⟨S16x4x4x128, .f32⟩
  | 44 => ⟨S16x4x4x128, .f32⟩
  | 45 => ⟨S_, .f32⟩
  | 46 => ⟨S4x4, .f32⟩
  | 47 => ⟨S1x4x4x1, .f32⟩
  | 48 => ⟨S16x4x4x128, .f32⟩
  | 49 => ⟨S_, .f32⟩
  | 50 => ⟨S4x4, .f32⟩
  | 51 => ⟨S4x4x1, .f32⟩
  | 52 => ⟨S4x4x1, .f32⟩
  | 53 => ⟨S16x4x4x128, .f32⟩
  | 54 => ⟨S16x4x4x128x256, .f32⟩
  | 55 => ⟨S16x4x4x128x256, .f32⟩
  | 56 => ⟨S16x4x4x128x256, .f32⟩
  | 57 => ⟨S_, .f32⟩
  | 58 => ⟨S16x4x4x128x256, .f32⟩
  | 59 => ⟨S16x4x4x128x256, .f32⟩
  | 60 => ⟨S_, .f32⟩
  | 61 => ⟨S16x4x4x128x256, .f32⟩
  | 62 => ⟨S16x4x4x128x256, .f32⟩
  | 63 => ⟨S16x4x4x256x64, .f32⟩
  | 64 => ⟨S16x256x4x4x64, .f32⟩
  | 65 => ⟨S16x4x4x128x64, .f32⟩
  | 66 => ⟨S16x128x4x4x64, .f32⟩
  | 67 => ⟨S_, .f32⟩
  | 68 => ⟨S4x4, .f32⟩
  | 69 => ⟨S16, .f32⟩
  | 70 => ⟨S16x128x4x4x64, .f32⟩
  | 71 => ⟨S16x128x4x4x64, .f32⟩
  | 72 => ⟨S1x128x4x4x64, .f32⟩
  | 73 => ⟨S15x128x4x4x64, .f32⟩
  | 74 => ⟨S_, .f32⟩
  | 75 => ⟨S16x128x4x4x64, .f32⟩
  | 76 => ⟨S16x128x4x4x64, .f32⟩
  | 77 => ⟨S2048x4x4x64, .f32⟩
  | 78 => ⟨S16x128x4x4x64, .f32⟩
  | 79 => ⟨S16x128x4x4x64, .f32⟩
  | 80 => ⟨S1x128x4x4x64, .f32⟩
  | 81 => ⟨S15x128x4x4x64, .f32⟩
  | 82 => ⟨S_, .f32⟩
  | 83 => ⟨S16x128x4x4x64, .f32⟩
  | 84 => ⟨S16x128x4x4x64, .f32⟩
  | 85 => ⟨S2048x4x4x64, .f32⟩
  | 86 => ⟨S2048x1024, .f32⟩
  | 87 => ⟨S4x1x4, .f32⟩
  | 88 => ⟨S_, .i32⟩
  | 89 => ⟨S_, .f32⟩
  | 90 => ⟨S4x8x128, .f32⟩
  | 91 => ⟨S2048x1024, .f32⟩
  | 92 => ⟨S2048x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_3 : Ref sig .tc := ⟨.hbm, 39, rfl⟩
abbrev main_v29 : Ref sig .tc := ⟨.hbm, 40, rfl⟩
abbrev main_v30 : Ref sig .tc := ⟨.hbm, 41, rfl⟩
abbrev main_c_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_c_6 : Ref sig .tc := ⟨.hbm, 52, rfl⟩
abbrev main_v39 : Ref sig .tc := ⟨.hbm, 53, rfl⟩
abbrev main_v40 : Ref sig .tc := ⟨.hbm, 54, rfl⟩
abbrev main_c_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_9 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_10 : Ref sig .tc := ⟨.hbm, 75, rfl⟩
abbrev main_v58 : Ref sig .tc := ⟨.hbm, 76, rfl⟩
abbrev main_cst_11 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_12 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_13 : Ref sig .tc := ⟨.hbm, 92, rfl⟩
abbrev main_v72 : Ref sig .tc := ⟨.hbm, 93, rfl⟩
abbrev main_cst_14 : Ref sig .tc := ⟨.hbm, 94, rfl⟩
abbrev main_v73 : Ref sig .tc := ⟨.hbm, 95, rfl⟩
abbrev main_cst_15 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_16 : Ref sig .tc := ⟨.hbm, 104, rfl⟩
abbrev main_v81 : Ref sig .tc := ⟨.hbm, 105, rfl⟩
abbrev main_cst_17 : Ref sig .tc := ⟨.hbm, 106, rfl⟩
abbrev main_v82 : Ref sig .tc := ⟨.hbm, 107, rfl⟩
abbrev main_cst_18 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_19 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_cst_20 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_cst_21 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_cst_22 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_cst_23 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_cst_24 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_cst_25 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_cst_26 : Ref sig .tc := ⟨.hbm, 166, rfl⟩
abbrev main_v133 : Ref sig .tc := ⟨.hbm, 167, rfl⟩
abbrev main_v134 : Ref sig .tc := ⟨.hbm, 168, rfl⟩
abbrev main_cst_27 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_cst_28 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_cst_29 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_cst_30 : Ref sig .tc := ⟨.hbm, 185, rfl⟩
abbrev main_v148 : Ref sig .tc := ⟨.hbm, 186, rfl⟩
abbrev main_v149 : Ref sig .tc := ⟨.hbm, 187, rfl⟩
abbrev main_cst_31 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_cst_32 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_cst_33 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_cst_34 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_c_35 : Ref sig .tc := ⟨.hbm, 216, rfl⟩
abbrev main_call0_v0 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩

abbrev nD : Nat := 1
abbrev τ : Topo := Topo.v7x

variable {F : FTy → Type} [FloatOps F]
-- ==== KPre.lean ====
abbrev S2048x1024 : Shape := ⟨2, ![2048, 1024]⟩
abbrev S1024 : Shape := ⟨1, ![1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S1x1024, .f32⟩
  | .hbm, ⟨7, _⟩ => ⟨S1x1024, .f32⟩
  | .hbm, ⟨8, _⟩ => ⟨S2048x1024, .f32⟩
  | .hbm, ⟨9, _⟩ => ⟨S8x1024, .f32⟩
  | .hbm, ⟨10, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S8x1024, .f32⟩
  | .local _ .vmem, ⟨13, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== RPreIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S8x1024 : Shape := ⟨2, ![8, 1024]⟩

abbrev nBuf : Space → Nat
  | .hbm => 72
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S_, .f32⟩
  | .hbm, ⟨37, _⟩ => ⟨S1024, .f32⟩
  | .hbm, ⟨38, _⟩ => ⟨S2048x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S1024, .f32⟩
  | .hbm, ⟨46, _⟩ => ⟨S2048x1024, .f32⟩
  | .hbm, ⟨47, _⟩ => ⟨S_, .f32⟩
  | .hbm, ⟨48, _⟩ => ⟨S2048, .f32⟩
  | .hbm, ⟨49, _⟩ => ⟨S2048x1, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1, .f32⟩
  | .hbm, ⟨54, _⟩ => ⟨S_, .f32⟩
  | .hbm, ⟨55, _⟩ => ⟨S2048x1, .f32⟩
  | .hbm, ⟨56, _⟩ => ⟨S2048x1, .f32⟩
  | .hbm, ⟨57, _⟩ => ⟨S_, .f32⟩
  | .hbm, ⟨58, _⟩ => ⟨S2048, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S1x1024, .f32⟩
  | .hbm, ⟨65, _⟩ => ⟨S_, .i32⟩
  | .hbm, ⟨66, _⟩ => ⟨S_, .f32⟩
  | .hbm, ⟨67, _⟩ => ⟨S8x1024, .f32⟩
  | .hbm, ⟨68, _⟩ => ⟨S1x1024, .f32⟩
  | .hbm, ⟨69, _⟩ => ⟨S_, .i32⟩
  | .hbm, ⟨70, _⟩ => ⟨S_, .f32⟩
  | .hbm, ⟨71, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c : Ref sig .tc := ⟨.hbm, 65, rfl⟩
abbrev main_call0_v0 : Ref sig .tc := ⟨.hbm, 66, rfl⟩
abbrev main_v48 : Ref sig .tc := ⟨.hbm, 67, rfl⟩
abbrev main_v49 : Ref sig .tc := ⟨.hbm, 68, rfl⟩
abbrev main_c_10 : Ref sig .tc := ⟨.hbm, 69, rfl⟩
abbrev main_call1_v0 : Ref sig .tc := ⟨.hbm, 70, rfl⟩
abbrev main_v50 : Ref sig .tc := ⟨.hbm, 71, rfl⟩

abbrev nD : Nat := 1
abbrev τ : Topo := Topo.v7x

variable {F : FTy → Type} [FloatOps F]
-- ==== KQuery.lean ====
abbrev S2048x1024 : Shape := ⟨2, ![2048, 1024]⟩
abbrev S1024 : Shape := ⟨1, ![1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩

abbrev nBuf : Space → Nat
  | .hbm => 29
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S2048x1024, .bf16⟩
  | .hbm, ⟨23, _⟩ => ⟨S1x1024, .f32⟩
  | .hbm, ⟨24, _⟩ => ⟨S1024x1024, .bf16⟩
  | .hbm, ⟨25, _⟩ => ⟨S2048x1024, .f32⟩
  | .hbm, ⟨26, _⟩ => ⟨S1024x1024, .bf16⟩
  | .hbm, ⟨27, _⟩ => ⟨S8x1024, .f32⟩
  | .hbm, ⟨28, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S1024x1024, .bf16⟩
  | .local _ .vmem, ⟨13, _⟩ => ⟨S8x1024, .f32⟩
  | .local _ .vmem, ⟨14, _⟩ => ⟨S8x1024, .f32⟩
  | .local _ .vmem, ⟨15, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v75 : BitVec 1 := Scalar.cmpi .eq arg0 c3_i32
  let v76 : BitVec 32 := Scalar.extui v75
  let c0_i32_38 : BitVec 32 := 0#32
  let v77 : BitVec 1 := Scalar.cmpi .ne v76 c0_i32_38
  v77

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RQueryIdeal.lean ====
abbrev S2048x1024 : Shape := ⟨2, ![2048, 1024]⟩
abbrev S1024 : Shape := ⟨1, ![1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S8x1024 : Shape := ⟨2, ![8, 1024]⟩

abbrev nBuf : Space → Nat
  | .hbm => 74
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S_, .f32⟩
  | .hbm, ⟨35, _⟩ => ⟨S1024, .f32⟩
  | .hbm, ⟨36, _⟩ => ⟨S1024x1024, .f32⟩
  | .hbm, ⟨37, _⟩ => ⟨S1024x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S2048x1024, .f32⟩
  | .hbm, ⟨48, _⟩ => ⟨S_, .f32⟩
  | .hbm, ⟨49, _⟩ => ⟨S2048, .f32⟩
  | .hbm, ⟨50, _⟩ => ⟨S2048x1, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1, .f32⟩
  | .hbm, ⟨55, _⟩ => ⟨S_, .f32⟩
  | .hbm, ⟨56, _⟩ => ⟨S2048x1, .f32⟩
  | .hbm, ⟨57, _⟩ => ⟨S2048x1, .f32⟩
  | .hbm, ⟨58, _⟩ => ⟨S_, .f32⟩
  | .hbm, ⟨59, _⟩ => ⟨S2048, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S1024x1024, .bf16⟩
  | .hbm, ⟨66, _⟩ => ⟨S1x1024, .f32⟩
  | .hbm, ⟨67, _⟩ => ⟨S_, .i32⟩
  | .hbm, ⟨68, _⟩ => ⟨S_, .f32⟩
  | .hbm, ⟨69, _⟩ => ⟨S8x1024, .f32⟩
  | .hbm, ⟨70, _⟩ => ⟨S1x1024, .f32⟩
  | .hbm, ⟨71, _⟩ => ⟨S_, .i32⟩
  | .hbm, ⟨72, _⟩ => ⟨S_, .f32⟩
  | .hbm, ⟨73, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c : Ref sig .tc := ⟨.hbm, 67, rfl⟩
abbrev main_call0_v0 : Ref sig .tc := ⟨.hbm, 68, rfl⟩
abbrev main_v50 : Ref sig .tc := ⟨.hbm, 69, rfl⟩
abbrev main_v51 : Ref sig .tc := ⟨.hbm, 70, rfl⟩
abbrev main_c_10 : Ref sig .tc := ⟨.hbm, 71, rfl⟩
abbrev main_call1_v0 : Ref sig .tc := ⟨.hbm, 72, rfl⟩
abbrev main_v52 : Ref sig .tc := ⟨.hbm, 73, rfl⟩

abbrev nD : Nat := 1
abbrev τ : Topo := Topo.v7x

variable {F : FTy → Type} [FloatOps F]
-- ==== KKeys.lean ====
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S256x1024 : Shape := ⟨2, ![256, 1024]⟩
abbrev S8x512 : Shape := ⟨2, ![8, 512]⟩
abbrev S8x1024 : Shape := ⟨2, ![8, 1024]⟩
abbrev S512x1024 : Shape := ⟨2, ![512, 1024]⟩
abbrev S512x256 : Shape := ⟨2, ![512, 256]⟩
abbrev S512x512 : Shape := ⟨2, ![512, 512]⟩
abbrev S1x512 : Shape := ⟨2, ![1, 512]⟩
abbrev S512x1 : Shape := ⟨2, ![512, 1]⟩

abbrev nBuf : Space → Nat
  | .hbm => 117
  | .vmem => 21
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x512, .f32⟩
  | .hbm, ⟨3, _⟩ => ⟨S512, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .bf16⟩
  | .hbm, ⟨24, _⟩ => ⟨S1x1024, .f32⟩
  | .hbm, ⟨25, _⟩ => ⟨S1024x512, .bf16⟩
  | .hbm, ⟨26, _⟩ => ⟨S256x1024, .i32⟩
  | .hbm, ⟨27, _⟩ => ⟨S256x1024, .i32⟩
  | .hbm, ⟨28, _⟩ => ⟨S_, .i32⟩
  | .hbm, ⟨29, _⟩ => ⟨S_, .i32⟩
  | .hbm, ⟨30, _⟩ => ⟨S256x1024, .i32⟩
  | .hbm, ⟨31, _⟩ => ⟨S256x1024, .i32⟩
  | .hbm, ⟨32, _⟩ => ⟨S256x1024, .i32⟩
  | .hbm, ⟨33, _⟩ => ⟨S_, .i32⟩
  | .hbm, ⟨34, _⟩ => ⟨S256x1024, .i32⟩
  | .hbm, ⟨35, _⟩ => ⟨S256x1024, .i1⟩
  | .hbm, ⟨36, _⟩ => ⟨S256x1024, .i32⟩
  | .hbm, ⟨37, _⟩ => ⟨S256x1024, .i32⟩
  | .hbm, ⟨38, _⟩ => ⟨S_, .i32⟩
  | .hbm, ⟨39, _⟩ => ⟨S256x1024, .i32⟩
  | .hbm, ⟨40, _⟩ => ⟨S256x1024, .i1⟩
  | .hbm, ⟨41, _⟩ => ⟨S256x1024, .i1⟩
  | .hbm, ⟨42, _⟩ => ⟨S_, .i32⟩
  | .hbm, ⟨43, _⟩ => ⟨S256x1024, .i32⟩
  | .hbm, ⟨44, _⟩ => ⟨S256x1024, .i32⟩
  | .hbm, ⟨45, _⟩ => ⟨S256x1024, .i32⟩
  | .hbm, ⟨46, _⟩ => ⟨S_, .i32⟩
  | .hbm, ⟨47, _⟩ => ⟨S_, .i32⟩
  | .hbm, ⟨48, _⟩ => ⟨S256x1024, .i32⟩
  | .hbm, ⟨49, _⟩ => ⟨S256x1024, .i32⟩
  | .hbm, ⟨50, _⟩ => ⟨S256x1024, .i32⟩
  | .hbm, ⟨51, _⟩ => ⟨S_, .i32⟩
  | .hbm, ⟨52, _⟩ => ⟨S256x1024, .i32⟩
  | .hbm, ⟨53, _⟩ => ⟨S256x1024, .i1⟩
  | .hbm, ⟨54, _⟩ => ⟨S256x1024, .i32⟩
  | .hbm, ⟨55, _⟩ => ⟨S256x1024, .i32⟩
  | .hbm, ⟨56, _⟩ => ⟨S_, .i32⟩
  | .hbm, ⟨57, _⟩ => ⟨S256x1024, .i32⟩
  | .hbm, ⟨58, _⟩ => ⟨S256x1024, .i1⟩
  | .hbm, ⟨59, _⟩ => ⟨S256x1024, .i1⟩
  | .hbm, ⟨60, _⟩ => ⟨S_, .i32⟩
  | .hbm, ⟨61, _⟩ => ⟨S256x1024, .i32⟩
  | .hbm, ⟨62, _⟩ => ⟨S256x1024, .i32⟩
  | .hbm, ⟨63, _⟩ => ⟨S256x1024, .i32⟩
  | .hbm, ⟨64, _⟩ => ⟨S256x1024, .i1⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i1⟩
  | .hbm, ⟨69, _⟩ => ⟨S_, .i32⟩
  | .hbm, ⟨70, _⟩ => ⟨S_, .i32⟩
  | .hbm, ⟨71, _⟩ => ⟨S256x1024, .i32⟩
  | .hbm, ⟨72, _⟩ => ⟨S256x1024, .i32⟩
  | .hbm, ⟨73, _⟩ => ⟨S_, .i32⟩
  | .hbm, ⟨74, _⟩ => ⟨S256x1024, .i32⟩
  | .hbm, ⟨75, _⟩ => ⟨S256x1024, .i1⟩
  | .hbm, ⟨76, _⟩ => ⟨S_, .i32⟩
  | .hbm, ⟨77, _⟩ => ⟨S256x1024, .i32⟩
  | .hbm, ⟨78, _⟩ => ⟨S256x1024, .i1⟩
  | .hbm, ⟨79, _⟩ => ⟨S_, .i32⟩
  | .hbm, ⟨80, _⟩ => ⟨S_, .i1⟩
  | .hbm, ⟨81, _⟩ => ⟨S256x1024, .i1⟩
  | .hbm, ⟨82, _⟩ => ⟨S256x1024, .i1⟩
  | .hbm, ⟨83, _⟩ => ⟨S256x1024, .i1⟩
  | .hbm, ⟨84, _⟩ => ⟨S256x1024, .i32⟩
  | .hbm, ⟨85, _⟩ => ⟨S256x1024, .i32⟩
  | .hbm, ⟨86, _⟩ => ⟨S256x1024, .i32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i1⟩
  | .hbm, ⟨91, _⟩ => ⟨S_, .i32⟩
  | .hbm, ⟨92, _⟩ => ⟨S_, .i32⟩
  | .hbm, ⟨93, _⟩ => ⟨S256x1024, .i32⟩
  | .hbm, ⟨94, _⟩ => ⟨S256x1024, .i32⟩
  | .hbm, ⟨95, _⟩ => ⟨S_, .i32⟩
  | .hbm, ⟨96, _⟩ => ⟨S256x1024, .i32⟩
  | .hbm, ⟨97, _⟩ => ⟨S256x1024, .i1⟩
  | .hbm, ⟨98, _⟩ => ⟨S_, .i32⟩
  | .hbm, ⟨99, _⟩ => ⟨S256x1024, .i32⟩
  | .hbm, ⟨100, _⟩ => ⟨S256x1024, .i1⟩
  | .hbm, ⟨101, _⟩ => ⟨S_, .i32⟩
  | .hbm, ⟨102, _⟩ => ⟨S_, .i1⟩
  | .hbm, ⟨103, _⟩ => ⟨S256x1024, .i1⟩
  | .hbm, ⟨104, _⟩ => ⟨S256x1024, .i1⟩
  | .hbm, ⟨105, _⟩ => ⟨S256x1024, .i1⟩
  | .hbm, ⟨106, _⟩ => ⟨S256x1024, .i32⟩
  | .hbm, ⟨107, _⟩ => ⟨S256x1024, .i32⟩
  | .hbm, ⟨108, _⟩ => ⟨S256x1024, .i32⟩
  | .hbm, ⟨109, _⟩ => ⟨S256x1024, .i1⟩
  | .hbm, ⟨110, _⟩ => ⟨S256x1024, .i1⟩
  | .hbm, ⟨111, _⟩ => ⟨S256x1024, .bf16⟩
  | .hbm, ⟨112, _⟩ => ⟨S2048x1024, .f32⟩
  | .hbm, ⟨113, _⟩ => ⟨S2048x1024, .bf16⟩
  | .hbm, ⟨114, _⟩ => ⟨S1024x512, .bf16⟩
  | .hbm, ⟨115, _⟩ => ⟨S8x512, .f32⟩
  | .hbm, ⟨116, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1024x512, .bf16⟩
  | .local _ .vmem, ⟨12, _⟩ => ⟨S256x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1024x512, .bf16⟩
  | .local _ .vmem, ⟨18, _⟩ => ⟨S8x512, .f32⟩
  | .local _ .vmem, ⟨19, _⟩ => ⟨S8x1024, .f32⟩
  | .local _ .vmem, ⟨20, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_c : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_0 : Ref sig .tc := ⟨.hbm, 42, rfl⟩
abbrev main_call0_v12 : Ref sig .tc := ⟨.hbm, 43, rfl⟩
abbrev main_call0_v13 : Ref sig .tc := ⟨.hbm, 44, rfl⟩
abbrev main_v18 : Ref sig .tc := ⟨.hbm, 45, rfl⟩
abbrev main_c_2 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_c : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_0 : Ref sig .tc := ⟨.hbm, 60, rfl⟩
abbrev main_call1_v12 : Ref sig .tc := ⟨.hbm, 61, rfl⟩
abbrev main_call1_v13 : Ref sig .tc := ⟨.hbm, 62, rfl⟩
abbrev main_v19 : Ref sig .tc := ⟨.hbm, 63, rfl⟩
abbrev main_v20 : Ref sig .tc := ⟨.hbm, 64, rfl⟩
abbrev main_c_3 : Ref sig .tc := ⟨.hbm, 65, rfl⟩
abbrev main_call2_v0 : Ref sig .tc := ⟨.hbm, 66, rfl⟩
abbrev main_call2_c : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_c_1 : Ref sig .tc := ⟨.hbm, 73, rfl⟩
abbrev main_call2_v5 : Ref sig .tc := ⟨.hbm, 74, rfl⟩
abbrev main_call2_v6 : Ref sig .tc := ⟨.hbm, 75, rfl⟩
abbrev main_call2_c_2 : Ref sig .tc := ⟨.hbm, 76, rfl⟩
abbrev main_call2_v7 : Ref sig .tc := ⟨.hbm, 77, rfl⟩
abbrev main_call2_v8 : Ref sig .tc := ⟨.hbm, 78, rfl⟩
abbrev main_call2_c_3 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_v21 : Ref sig .tc := ⟨.hbm, 86, rfl⟩
abbrev main_c_4 : Ref sig .tc := ⟨.hbm, 87, rfl⟩
abbrev main_call3_v0 : Ref sig .tc := ⟨.hbm, 88, rfl⟩
abbrev main_call3_c : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_c_1 : Ref sig .tc := ⟨.hbm, 95, rfl⟩
abbrev main_call3_v5 : Ref sig .tc := ⟨.hbm, 96, rfl⟩
abbrev main_call3_v6 : Ref sig .tc := ⟨.hbm, 97, rfl⟩
abbrev main_call3_c_2 : Ref sig .tc := ⟨.hbm, 98, rfl⟩
abbrev main_call3_v7 : Ref sig .tc := ⟨.hbm, 99, rfl⟩
abbrev main_call3_v8 : Ref sig .tc := ⟨.hbm, 100, rfl⟩
abbrev main_call3_c_3 : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_v12 : Ref sig .tc := ⟨.hbm, 105, rfl⟩
abbrev main_call3_v13 : Ref sig .tc := ⟨.hbm, 106, rfl⟩
abbrev main_call3_v14 : Ref sig .tc := ⟨.hbm, 107, rfl⟩
abbrev main_v22 : Ref sig .tc := ⟨.hbm, 108, rfl⟩
abbrev main_v23 : Ref sig .tc := ⟨.hbm, 109, rfl⟩
abbrev main_v24 : Ref sig .tc := ⟨.hbm, 110, rfl⟩
abbrev main_v25 : Ref sig .tc := ⟨.hbm, 111, rfl⟩
abbrev main_v26_0 : Ref sig .tc := ⟨.hbm, 112, rfl⟩
abbrev main_v26_1 : Ref sig .tc := ⟨.hbm, 113, rfl⟩
abbrev main_v26_2 : Ref sig .tc := ⟨.hbm, 114, rfl⟩
abbrev main_v26_3 : Ref sig .tc := ⟨.hbm, 115, rfl⟩
abbrev main_v26_4 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v87 : BitVec 1 := Scalar.cmpi .eq arg0 c3_i32
  let v88 : BitVec 32 := Scalar.extui v87
  let c0_i32_48 : BitVec 32 := 0#32
  let v89 : BitVec 1 := Scalar.cmpi .ne v88 c0_i32_48
  v89

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== RKeysIdeal.lean ====
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x512 : Shape := ⟨2, ![2048, 512]⟩
abbrev S1x512 : Shape := ⟨2, ![1, 512]⟩
abbrev S2048x256 : Shape := ⟨2, ![2048, 256]⟩
abbrev S2048x4x1x64 : Shape := ⟨4, ![2048, 4, 1, 64]⟩
abbrev S2048x4x4x64 : Shape := ⟨4, ![2048, 4, 4, 64]⟩
abbrev S2048x4x64 : Shape := ⟨3, ![2048, 4, 64]⟩
abbrev S512x1024 : Shape := ⟨2, ![512, 1024]⟩
abbrev S8x512 : Shape := ⟨2, ![8, 512]⟩
abbrev S8x1024 : Shape := ⟨2, ![8, 1024]⟩

abbrev nBuf : Space → Nat
  | .hbm => 94
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x512, .f32⟩
  | .hbm, ⟨3, _⟩ => ⟨S512, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x512, .f32⟩
  | .hbm, ⟨28, _⟩ => ⟨S1x512, .f32⟩
  | .hbm, ⟨29, _⟩ => ⟨S2048x512, .f32⟩
  | .hbm, ⟨30, _⟩ => ⟨S2048x512, .f32⟩
  | .hbm, ⟨31, _⟩ => ⟨S2048x256, .f32⟩
  | .hbm, ⟨32, _⟩ => ⟨S2048x256, .f32⟩
  | .hbm, ⟨33, _⟩ => ⟨S2048x4x1x64, .f32⟩
  | .hbm, ⟨34, _⟩ => ⟨S2048x4x4x64, .f32⟩
  | .hbm, ⟨35, _⟩ => ⟨S2048x1024, .f32⟩
  | .hbm, ⟨36, _⟩ => ⟨S2048x4x1x64, .f32⟩
  | .hbm, ⟨37, _⟩ => ⟨S2048x4x4x64, .f32⟩
  | .hbm, ⟨38, _⟩ => ⟨S2048x1024, .f32⟩
  | .hbm, ⟨39, _⟩ => ⟨S2048x4x4x64, .f32⟩
  | .hbm, ⟨40, _⟩ => ⟨S_, .f32⟩
  | .hbm, ⟨41, _⟩ => ⟨S2048x4x64, .f32⟩
  | .hbm, ⟨42, _⟩ => ⟨S2048x4x1x64, .f32⟩
  | .hbm, ⟨43, _⟩ => ⟨S2048x256, .f32⟩
  | .hbm, ⟨44, _⟩ => ⟨S2048x4x4x64, .f32⟩
  | .hbm, ⟨45, _⟩ => ⟨S_, .f32⟩
  | .hbm, ⟨46, _⟩ => ⟨S2048x4x64, .f32⟩
  | .hbm, ⟨47, _⟩ => ⟨S2048x4x1x64, .f32⟩
  | .hbm, ⟨48, _⟩ => ⟨S2048x256, .f32⟩
  | .hbm, ⟨49, _⟩ => ⟨S2048x512, .f32⟩
  | .hbm, ⟨50, _⟩ => ⟨S_, .f32⟩
  | .hbm, ⟨51, _⟩ => ⟨S512, .f32⟩
  | .hbm, ⟨52, _⟩ => ⟨S1x512, .f32⟩
  | .hbm, ⟨53, _⟩ => ⟨S_, .f32⟩
  | .hbm, ⟨54, _⟩ => ⟨S512, .f32⟩
  | .hbm, ⟨55, _⟩ => ⟨S512x1024, .f32⟩
  | .hbm, ⟨56, _⟩ => ⟨S1024x512, .f32⟩
  | .hbm, ⟨57, _⟩ => ⟨S2048x1024, .f32⟩
  | .hbm, ⟨58, _⟩ => ⟨S2048x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S2048x1024, .f32⟩
  | .hbm, ⟨63, _⟩ => ⟨S2048x1024, .f32⟩
  | .hbm, ⟨64, _⟩ => ⟨S_, .f32⟩
  | .hbm, ⟨65, _⟩ => ⟨S1024, .f32⟩
  | .hbm, ⟨66, _⟩ => ⟨S2048x1024, .f32⟩
  | .hbm, ⟨67, _⟩ => ⟨S_, .f32⟩
  | .hbm, ⟨68, _⟩ => ⟨S2048, .f32⟩
  | .hbm, ⟨69, _⟩ => ⟨S2048x1, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1, .f32⟩
  | .hbm, ⟨74, _⟩ => ⟨S_, .f32⟩
  | .hbm, ⟨75, _⟩ => ⟨S2048x1, .f32⟩
  | .hbm, ⟨76, _⟩ => ⟨S2048x1, .f32⟩
  | .hbm, ⟨77, _⟩ => ⟨S_, .f32⟩
  | .hbm, ⟨78, _⟩ => ⟨S2048, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S2048x1024, .f32⟩
  | .hbm, ⟨84, _⟩ => ⟨S2048x1024, .bf16⟩
  | .hbm, ⟨85, _⟩ => ⟨S1024x512, .bf16⟩
  | .hbm, ⟨86, _⟩ => ⟨S1x512, .f32⟩
  | .hbm, ⟨87, _⟩ => ⟨S_, .i32⟩
  | .hbm, ⟨88, _⟩ => ⟨S_, .f32⟩
  | .hbm, ⟨89, _⟩ => ⟨S8x512, .f32⟩
  | .hbm, ⟨90, _⟩ => ⟨S1x1024, .f32⟩
  | .hbm, ⟨91, _⟩ => ⟨S_, .i32⟩
  | .hbm, ⟨92, _⟩ => ⟨S_, .f32⟩
  | .hbm, ⟨93, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_cst_11 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_c : Ref sig .tc := ⟨.hbm, 87, rfl⟩
abbrev main_call0_v0 : Ref sig .tc := ⟨.hbm, 88, rfl⟩
abbrev main_v67 : Ref sig .tc := ⟨.hbm, 89, rfl⟩
abbrev main_v68 : Ref sig .tc := ⟨.hbm, 90, rfl⟩
abbrev main_c_12 : Ref sig .tc := ⟨.hbm, 91, rfl⟩
abbrev main_call1_v0 : Ref sig .tc := ⟨.hbm, 92, rfl⟩
abbrev main_v69 : Ref sig .tc := ⟨.hbm, 93, rfl⟩

abbrev nD : Nat := 1
abbrev τ : Topo := Topo.v7x

variable {F : FTy → Type} [FloatOps F]
-- ==== KHeads.lean ====
abbrev S2048x1024 : Shape := ⟨2, ![2048, 1024]⟩
abbrev S2048x256 : Shape := ⟨2, ![2048, 256]⟩
abbrev S16 : Shape := ⟨1, ![16]⟩
abbrev S2048x4x1x64 : Shape := ⟨4, ![2048, 4, 1, 64]⟩
abbrev S2048x4x4x64 : Shape := ⟨4, ![2048, 4, 4, 64]⟩
abbrev S4x16x512x256 : Shape := ⟨4, ![4, 16, 512, 256]⟩
abbrev S4x16x512x128 : Shape := ⟨4, ![4, 16, 512, 128]⟩
abbrev S512x256 : Shape := ⟨2, ![512, 256]⟩
abbrev S128x256 : Shape := ⟨2, ![128, 256]⟩
abbrev S1x4x512x256 : Shape := ⟨4, ![1, 4, 512, 256]⟩
abbrev S1x4x512x128 : Shape := ⟨4, ![1, 4, 512, 128]⟩
abbrev S1 : Shape := ⟨1, ![1]⟩
abbrev S256x256 : Shape := ⟨2, ![256, 256]⟩
abbrev S1x256 : Shape := ⟨2, ![1, 256]⟩
abbrev S512x1 : Shape := ⟨2, ![512, 1]⟩
abbrev S512 : Shape := ⟨1, ![512]⟩
abbrev S1x1x512x256 : Shape := ⟨4, ![1, 1, 512, 256]⟩
abbrev S512x128 : Shape := ⟨2, ![512, 128]⟩
abbrev S1x1x512x128 : Shape := ⟨4, ![1, 1, 512, 128]⟩

abbrev nBuf : Space → Nat
  | .hbm => 16
  | .vmem => 16
  | .smem => 1
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S2048x256, .f32⟩
  | .hbm, ⟨3, _⟩ => ⟨S16, .f32⟩
  | .hbm, ⟨4, _⟩ => ⟨S2048x4x1x64, .f32⟩
  | .hbm, ⟨5, _⟩ => ⟨S2048x4x4x64, .f32⟩
  | .hbm, ⟨6, _⟩ => ⟨S2048x4x1x64, .f32⟩
  | .hbm, ⟨7, _⟩ => ⟨S2048x4x4x64, .f32⟩
  | .hbm, ⟨8, _⟩ => ⟨S2048x1024, .bf16⟩
  | .hbm, ⟨9, _⟩ => ⟨S2048x1024, .f32⟩
  | .hbm, ⟨10, _⟩ => ⟨S2048x1024, .bf16⟩
  | .hbm, ⟨11, _⟩ => ⟨S2048x1024, .f32⟩
  | .hbm, ⟨12, _⟩ => ⟨S2048x1024, .bf16⟩
  | .hbm, ⟨13, _⟩ => ⟨S2048x1024, .bf16⟩
  | .hbm, ⟨14, _⟩ => ⟨S4x16x512x256, .bf16⟩
  | .hbm, ⟨15, _⟩ => ⟨S4x16x512x128, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S128x256, .bf16⟩
  | .local _ .vmem, ⟨5, _⟩ => ⟨S128x256, .bf16⟩
  | .local _ .vmem, ⟨6, _⟩ => ⟨S512x256, .bf16⟩
  | .local _ .vmem, ⟨7, _⟩ => ⟨S512x256, .bf16⟩
  | .local _ .vmem, ⟨8, _⟩ => ⟨S128x256, .bf16⟩
  | .local _ .vmem, ⟨9, _⟩ => ⟨S128x256, .bf16⟩
  | .local _ .vmem, ⟨10, _⟩ => ⟨S512x256, .bf16⟩
  | .local _ .vmem, ⟨11, _⟩ => ⟨S512x256, .bf16⟩
  | .local _ .vmem, ⟨12, _⟩ => ⟨S1x4x512x256, .bf16⟩
  | .local _ .vmem, ⟨13, _⟩ => ⟨S1x4x512x256, .bf16⟩
  | .local _ .vmem, ⟨14, _⟩ => ⟨S1x4x512x128, .bf16⟩
  | .local _ .vmem, ⟨15, _⟩ => ⟨S1x4x512x128, .bf16⟩
  | .local _ .smem, ⟨0, _⟩ => ⟨S16, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 4], ![false, false]⟩

def k0_off1 (i : grid0.Coords) (c0_i32 : BitVec 32) : Fin 1 → Nat :=
  let arg0 : BitVec 32 := BitVec.ofNat 32 (i 0).val
  let c4_i32 : BitVec 32 := 4#32
  let v0 : BitVec 32 := Scalar.muli arg0 c4_i32
  let v1 : BitVec 32 := Scalar.addi v0 c0_i32
  let v2 : Index := Scalar.indexCast v1
  ![v2.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RHeadsIdeal.lean ====
abbrev S2048x1024 : Shape := ⟨2, ![2048, 1024]⟩
abbrev S2048x256 : Shape := ⟨2, ![2048, 256]⟩
abbrev S16 : Shape := ⟨1, ![16]⟩
abbrev S16x128x4x4x64 : Shape := ⟨5, ![16, 128, 4, 4, 64]⟩
abbrev S2048x4x1x64 : Shape := ⟨4, ![2048, 4, 1, 64]⟩
abbrev S2048x4x4x64 : Shape := ⟨4, ![2048, 4, 4, 64]⟩
abbrev S1x128x4x4x64 : Shape := ⟨5, ![1, 128, 4, 4, 64]⟩
abbrev S_ : Shape := ⟨0, ![]⟩
abbrev S15x128x4x4x64 : Shape := ⟨5, ![15, 128, 4, 4, 64]⟩
abbrev S16x256x4x4x64 : Shape := ⟨5, ![16, 256, 4, 4, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S4x4 : Shape := ⟨2, ![4, 4]⟩
abbrev S4x4x1 : Shape := ⟨3, ![4, 4, 1]⟩
abbrev S16x4x4x128x256 : Shape := ⟨5, ![16, 4, 4, 128, 256]⟩
abbrev S1x1x256 : Shape := ⟨3, ![1, 1, 256]⟩
abbrev S16x1x1 : Shape := ⟨3, ![16, 1, 1]⟩
abbrev S16x1x256 : Shape := ⟨3, ![16, 1, 256]⟩
abbrev S1x128x256 : Shape := ⟨3, ![1, 128, 256]⟩
abbrev S16x128x256 : Shape := ⟨3, ![16, 128, 256]⟩
abbrev S4x4x128x256 : Shape := ⟨4, ![4, 4, 128, 256]⟩
abbrev S16x4x4x128 : Shape := ⟨4, ![16, 4, 4, 128]⟩
abbrev S1x4x4x1 : Shape := ⟨4, ![1, 4, 4, 1]⟩
abbrev S16x4x4x128x1 : Shape := ⟨5, ![16, 4, 4, 128, 1]⟩
abbrev S16x4x4x64x128 : Shape := ⟨5, ![16, 4, 4, 64, 128]⟩
abbrev S4x16x4x128x256 : Shape := ⟨5, ![4, 16, 4, 128, 256]⟩
abbrev S4x16x512x256 : Shape := ⟨4, ![4, 16, 512, 256]⟩
abbrev S4x16x4x128 : Shape := ⟨4, ![4, 16, 4, 128]⟩
abbrev S4x16x512x1 : Shape := ⟨4, ![4, 16, 512, 1]⟩
abbrev S4x16x512x128 : Shape := ⟨4, ![4, 16, 512, 128]⟩

abbrev nBuf : Space → Nat
  | .hbm => 101
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S2048x256, .f32⟩
  | .hbm, ⟨3, _⟩ => ⟨S16, .f32⟩
  | .hbm, ⟨4, _⟩ => ⟨S16, .i32⟩
  | .hbm, ⟨5, _⟩ => ⟨S16x128x4x4x64, .f32⟩
  | .hbm, ⟨6, _⟩ => ⟨S2048x4x1x64, .f32⟩
  | .hbm, ⟨7, _⟩ => ⟨S2048x4x4x64, .f32⟩
  | .hbm, ⟨8, _⟩ => ⟨S16x128x4x4x64, .f32⟩
  | .hbm, ⟨9, _⟩ => ⟨S1x128x4x4x64, .f32⟩
  | .hbm, ⟨10, _⟩ => ⟨S_, .f32⟩
  | .hbm, ⟨11, _⟩ => ⟨S1x128x4x4x64, .f32⟩
  | .hbm, ⟨12, _⟩ => ⟨S15x128x4x4x64, .f32⟩
  | .hbm, ⟨13, _⟩ => ⟨S16x128x4x4x64, .f32⟩
  | .hbm, ⟨14, _⟩ => ⟨S16x256x4x4x64, .f32⟩
  | .hbm, ⟨15, _⟩ => ⟨S2048x4x1x64, .f32⟩
  | .hbm, ⟨16, _⟩ => ⟨S2048x4x4x64, .f32⟩
  | .hbm, ⟨17, _⟩ => ⟨S16x128x4x4x64, .f32⟩
  | .hbm, ⟨18, _⟩ => ⟨S1x128x4x4x64, .f32⟩
  | .hbm, ⟨19, _⟩ => ⟨S_, .f32⟩
  | .hbm, ⟨20, _⟩ => ⟨S1x128x4x4x64, .f32⟩
  | .hbm, ⟨21, _⟩ => ⟨S15x128x4x4x64, .f32⟩
  | .hbm, ⟨22, _⟩ => ⟨S16x128x4x4x64, .f32⟩
  | .hbm, ⟨23, _⟩ => ⟨S16x256x4x4x64, .f32⟩
  | .hbm, ⟨24, _⟩ => ⟨S128, .i32⟩
  | .hbm, ⟨25, _⟩ => ⟨S128x1, .i32⟩
  | .hbm, ⟨26, _⟩ => ⟨S256, .i32⟩
  | .hbm, ⟨27, _⟩ => ⟨S1x256, .i32⟩
  | .hbm, ⟨28, _⟩ => ⟨S_, .i32⟩
  | .hbm, ⟨29, _⟩ => ⟨S128x1, .i32⟩
  | .hbm, ⟨30, _⟩ => ⟨S128x1, .i32⟩
  | .hbm, ⟨31, _⟩ => ⟨S128x256, .i32⟩
  | .hbm, ⟨32, _⟩ => ⟨S128x256, .i32⟩
  | .hbm, ⟨33, _⟩ => ⟨S128x256, .i32⟩
  | .hbm, ⟨34, _⟩ => ⟨S_, .i32⟩
  | .hbm, ⟨35, _⟩ => ⟨S128x256, .i32⟩
  | .hbm, ⟨36, _⟩ => ⟨S128x256, .i1⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S128x256, .i1⟩
  | .hbm, ⟨41, _⟩ => ⟨S4x4, .f32⟩
  | .hbm, ⟨42, _⟩ => ⟨S4x4x1, .f32⟩
  | .hbm, ⟨43, _⟩ => ⟨S16x4x4x128x256, .f32⟩
  | .hbm, ⟨44, _⟩ => ⟨S_, .f32⟩
  | .hbm, ⟨45, _⟩ => ⟨S16x4x4x128x256, .f32⟩
  | .hbm, ⟨46, _⟩ => ⟨S16x4x4x128x256, .f32⟩
  | .hbm, ⟨47, _⟩ => ⟨S_, .i32⟩
  | .hbm, ⟨48, _⟩ => ⟨S16, .i32⟩
  | .hbm, ⟨49, _⟩ => ⟨S16, .i32⟩
  | .hbm, ⟨50, _⟩ => ⟨S_, .i32⟩
  | .hbm, ⟨51, _⟩ => ⟨S16, .i32⟩
  | .hbm, ⟨52, _⟩ => ⟨S16, .i32⟩
  | .hbm, ⟨53, _⟩ => ⟨S1x1x256, .i32⟩
  | .hbm, ⟨54, _⟩ => ⟨S16x1x1, .i32⟩
  | .hbm, ⟨55, _⟩ => ⟨S16x1x256, .i32⟩
  | .hbm, ⟨56, _⟩ => ⟨S16x1x256, .i32⟩
  | .hbm, ⟨57, _⟩ => ⟨S16x1x256, .i32⟩
  | .hbm, ⟨58, _⟩ => ⟨S_, .i32⟩
  | .hbm, ⟨59, _⟩ => ⟨S16x1x256, .i32⟩
  | .hbm, ⟨60, _⟩ => ⟨S16x1x256, .i1⟩
  | .hbm, ⟨61, _⟩ => ⟨S1x128x256, .i1⟩
  | .hbm, ⟨62, _⟩ => ⟨S16x128x256, .i1⟩
  | .hbm, ⟨63, _⟩ => ⟨S16x128x256, .i1⟩
  | .hbm, ⟨64, _⟩ => ⟨S16x128x256, .i1⟩
  | .hbm, ⟨65, _⟩ => ⟨S16x4x4x128x256, .i1⟩
  | .hbm, ⟨66, _⟩ => ⟨S_, .f32⟩
  | .hbm, ⟨67, _⟩ => ⟨S4x4x128x256, .f32⟩
  | .hbm, ⟨68, _⟩ => ⟨S16x4x4x128x256, .f32⟩
  | .hbm, ⟨69, _⟩ => ⟨S16x4x4x128x256, .f32⟩
  | .hbm, ⟨70, _⟩ => ⟨S_, .f32⟩
  | .hbm, ⟨71, _⟩ => ⟨S16x4x4x128, .f32⟩
  | .hbm, ⟨72, _⟩ => ⟨S1x4x4x1, .f32⟩
  | .hbm, ⟨73, _⟩ => ⟨S16x4x4x128, .f32⟩
  | .hbm, ⟨74, _⟩ => ⟨S16x4x4x128, .f32⟩
  | .hbm, ⟨75, _⟩ => ⟨S16x4x4x128x1, .f32⟩
  | .hbm, ⟨76, _⟩ => ⟨S16x4x4x128x256, .f32⟩
  | .hbm, ⟨77, _⟩ => ⟨S16x4x4x128x256, .f32⟩
  | .hbm, ⟨78, _⟩ => ⟨S16x4x4x128x256, .f32⟩
  | .hbm, ⟨79, _⟩ => ⟨S1x4x4x1, .f32⟩
  | .hbm, ⟨80, _⟩ => ⟨S16x4x4x128, .f32⟩
  | .hbm, ⟨81, _⟩ => ⟨S16x4x4x128, .f32⟩
  | .hbm, ⟨82, _⟩ => ⟨S16x4x4x128, .f32⟩
  | .hbm, ⟨83, _⟩ => ⟨S_, .f32⟩
  | .hbm, ⟨84, _⟩ => ⟨S16x4x4x128, .f32⟩
  | .hbm, ⟨85, _⟩ => ⟨S16x4x4x128, .f32⟩
  | .hbm, ⟨86, _⟩ => ⟨S16x4x4x128x1, .f32⟩
  | .hbm, ⟨87, _⟩ => ⟨S16x4x4x128x256, .f32⟩
  | .hbm, ⟨88, _⟩ => ⟨S16x4x4x128x256, .f32⟩
  | .hbm, ⟨89, _⟩ => ⟨S16x4x4x128, .f32⟩
  | .hbm, ⟨90, _⟩ => ⟨S16x4x4x64x128, .f32⟩
  | .hbm, ⟨91, _⟩ => ⟨S16x128x4x4x64, .f32⟩
  | .hbm, ⟨92, _⟩ => ⟨S4x16x4x128x256, .f32⟩
  | .hbm, ⟨93, _⟩ => ⟨S4x16x512x256, .f32⟩
  | .hbm, ⟨94, _⟩ => ⟨S4x16x4x128, .f32⟩
  | .hbm, ⟨95, _⟩ => ⟨S4x16x512x1, .f32⟩
  | .hbm, ⟨96, _⟩ => ⟨S4x16x512x128, .f32⟩
  | .hbm, ⟨97, _⟩ => ⟨S2048x1024, .f32⟩
  | .hbm, ⟨98, _⟩ => ⟨S2048x1024, .bf16⟩
  | .hbm, ⟨99, _⟩ => ⟨S4x16x512x256, .bf16⟩
  | .hbm, ⟨100, _⟩ => ⟨S4x16x512x128, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_1 : Ref sig .tc := ⟨.hbm, 34, rfl⟩
abbrev main_v27 : Ref sig .tc := ⟨.hbm, 35, rfl⟩
abbrev main_v28 : Ref sig .tc := ⟨.hbm, 36, rfl⟩
abbrev main_c_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_c_4 : Ref sig .tc := ⟨.hbm, 47, rfl⟩
abbrev main_v37 : Ref sig .tc := ⟨.hbm, 48, rfl⟩
abbrev main_v38 : Ref sig .tc := ⟨.hbm, 49, rfl⟩
abbrev main_c_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_c_6 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_7 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_8 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_9 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩

abbrev nD : Nat := 1
abbrev τ : Topo := Topo.v7x

variable {F : FTy → Type} [FloatOps F]
-- ==== KMlp.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩
abbrev S1024x8x512 : Shape := ⟨3, ![1024, 8, 512]⟩
abbrev S8x1024x512 : Shape := ⟨3, ![8, 1024, 512]⟩
abbrev S8x512x1024 : Shape := ⟨3, ![8, 512, 1024]⟩
abbrev S8x1024 : Shape := ⟨2, ![8, 1024]⟩
abbrev S512x1024 : Shape := ⟨2, ![512, 1024]⟩
abbrev S2048x512 : Shape := ⟨2, ![2048, 512]⟩
abbrev S1x1024x512 : Shape := ⟨3, ![1, 1024, 512]⟩
abbrev S1x512x1024 : Shape := ⟨3, ![1, 512, 1024]⟩
abbrev S512x512 : Shape := ⟨2, ![512, 512]⟩
abbrev S1024x512 : Shape := ⟨2, ![1024, 512]⟩
abbrev S512 : Shape := ⟨1, ![512]⟩
abbrev S512x1 : Shape := ⟨2, ![512, 1]⟩

abbrev nBuf : Space → Nat
  | .hbm => 38
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x4096, .f32⟩
  | .hbm, ⟨22, _⟩ => ⟨S_, .f32⟩
  | .hbm, ⟨23, _⟩ => ⟨S2048x4096, .f32⟩
  | .hbm, ⟨24, _⟩ => ⟨S2048x4096, .f32⟩
  | .hbm, ⟨25, _⟩ => ⟨S1024x8x512, .f32⟩
  | .hbm, ⟨26, _⟩ => ⟨S8x1024x512, .f32⟩
  | .hbm, ⟨27, _⟩ => ⟨S8x512x1024, .f32⟩
  | .hbm, ⟨28, _⟩ => ⟨S2048x1024, .bf16⟩
  | .hbm, ⟨29, _⟩ => ⟨S2048x4096, .bf16⟩
  | .hbm, ⟨30, _⟩ => ⟨S1x1024, .f32⟩
  | .hbm, ⟨31, _⟩ => ⟨S2048x1024, .bf16⟩
  | .hbm, ⟨32, _⟩ => ⟨S8x1024x512, .bf16⟩
  | .hbm, ⟨33, _⟩ => ⟨S8x512x1024, .bf16⟩
  | .hbm, ⟨34, _⟩ => ⟨S2048x1024, .f32⟩
  | .hbm, ⟨35, _⟩ => ⟨S8x1024x512, .bf16⟩
  | .hbm, ⟨36, _⟩ => ⟨S8x512x1024, .bf16⟩
  | .hbm, ⟨37, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S2048x1024, .bf16⟩
  | .local _ .vmem, ⟨3, _⟩ => ⟨S2048x512, .bf16⟩
  | .local _ .vmem, ⟨4, _⟩ => ⟨S2048x512, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S2048x1024, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x512x1024, .bf16⟩
  | .local _ .vmem, ⟨12, _⟩ => ⟨S1x512x1024, .bf16⟩
  | .local _ .vmem, ⟨13, _⟩ => ⟨S512x1024, .f32⟩
  | .local _ .vmem, ⟨14, _⟩ => ⟨S512x1024, .f32⟩
  | .local _ .vmem, ⟨15, _⟩ => ⟨S1x1024x512, .bf16⟩
  | .local _ .vmem, ⟨16, _⟩ => ⟨S1x1024x512, .bf16⟩
  | .local _ .vmem, ⟨17, _⟩ => ⟨S1x512x1024, .bf16⟩
  | .local _ .vmem, ⟨18, _⟩ => ⟨S1x512x1024, .bf16⟩
  | .local _ .vmem, ⟨19, _⟩ => ⟨S8x1024, .f32⟩
  | .local _ .vmem, ⟨20, _⟩ => ⟨S2048x1024, .f32⟩
  | .local _ .vmem, ⟨21, _⟩ => ⟨S2048x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev main_v25_2 : Ref sig .tc := ⟨.hbm, 36, rfl⟩
abbrev main_v25_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![12], ![false]⟩

def k0_cond3 (i : grid0.Coords) : BitVec 1 :=
  let arg0 : BitVec 32 := BitVec.ofNat 32 (i 0).val
  let c8_i32_2 : BitVec 32 := 8#32
  let v6 : BitVec 1 := Scalar.cmpi .sge arg0 c8_i32_2
  let v7 : BitVec 32 := Scalar.extui v6
  let c0_i32_3 : BitVec 32 := 0#32
  let v8 : BitVec 1 := Scalar.cmpi .ne v7 c0_i32_3
  v8

def k0_mult1 (i : grid0.Coords) : BitVec 32 :=
  let arg0 : BitVec 32 := BitVec.ofNat 32 (i 0).val
  let c8_i32_6 : BitVec 32 := 8#32
  let v12 : BitVec 32 := Scalar.subi arg0 c8_i32_6
  let c512_i32 : BitVec 32 := 512#32
  let v13 : BitVec 32 := Scalar.muli v12 c512_i32
  v13
def k0_off1 (i : grid0.Coords) : Fin 2 → Nat :=
  let arg0 : BitVec 32 := BitVec.ofNat 32 (i 0).val
  let c8_i32_6 : BitVec 32 := 8#32
  let v12 : BitVec 32 := Scalar.subi arg0 c8_i32_6
  let c512_i32 : BitVec 32 := 512#32
  let v13 : BitVec 32 := Scalar.muli v12 c512_i32
  let v14 : BitVec 32 := v13
  let v18 : Index := Scalar.indexCast v14
  let c0_10 : Index := 0#32
  ![v18.toNat, 0]
def k0_cond2 (i : grid0.Coords) : BitVec 1 :=
  let arg0 : BitVec 32 := BitVec.ofNat 32 (i 0).val
  let c8_i32 : BitVec 32 := 8#32
  let v3 : BitVec 1 := Scalar.cmpi .slt arg0 c8_i32
  let v4 : BitVec 32 := Scalar.extui v3
  let c0_i32_1 : BitVec 32 := 0#32
  let v5 : BitVec 1 := Scalar.cmpi .ne v4 c0_i32_1
  v5

def k0_cond4 (i : grid0.Coords) : BitVec 1 :=
  let arg0 : BitVec 32 := BitVec.ofNat 32 (i 0).val
  let c8_i32_4 : BitVec 32 := 8#32
  let v9 : BitVec 1 := Scalar.cmpi .eq arg0 c8_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_10 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== RMlpIdeal.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩
abbrev S1024x8x512 : Shape := ⟨3, ![1024, 8, 512]⟩
abbrev S8x1024x512 : Shape := ⟨3, ![8, 1024, 512]⟩
abbrev S8x512x1024 : Shape := ⟨3, ![8, 512, 1024]⟩
abbrev S8x1024 : Shape := ⟨2, ![8, 1024]⟩

abbrev nBuf : Space → Nat
  | .hbm => 86
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x4096, .f32⟩
  | .hbm, ⟨26, _⟩ => ⟨S_, .f32⟩
  | .hbm, ⟨27, _⟩ => ⟨S2048x4096, .f32⟩
  | .hbm, ⟨28, _⟩ => ⟨S2048x4096, .f32⟩
  | .hbm, ⟨29, _⟩ => ⟨S_, .f32⟩
  | .hbm, ⟨30, _⟩ => ⟨S2048x4096, .f32⟩
  | .hbm, ⟨31, _⟩ => ⟨S2048x4096, .i1⟩
  | .hbm, ⟨32, _⟩ => ⟨S_, .f32⟩
  | .hbm, ⟨33, _⟩ => ⟨S2048x4096, .f32⟩
  | .hbm, ⟨34, _⟩ => ⟨S2048x4096, .f32⟩
  | .hbm, ⟨35, _⟩ => ⟨S_, .f32⟩
  | .hbm, ⟨36, _⟩ => ⟨S2048x4096, .f32⟩
  | .hbm, ⟨37, _⟩ => ⟨S2048x4096, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S1024x4096, .f32⟩
  | .hbm, ⟨42, _⟩ => ⟨S4096x1024, .f32⟩
  | .hbm, ⟨43, _⟩ => ⟨S2048x4096, .f32⟩
  | .hbm, ⟨44, _⟩ => ⟨S2048x4096, .f32⟩
  | .hbm, ⟨45, _⟩ => ⟨S_, .f32⟩
  | .hbm, ⟨46, _⟩ => ⟨S2048x4096, .f32⟩
  | .hbm, ⟨47, _⟩ => ⟨S2048x4096, .f32⟩
  | .hbm, ⟨48, _⟩ => ⟨S4096x1024, .f32⟩
  | .hbm, ⟨49, _⟩ => ⟨S1024x4096, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S1024, .f32⟩
  | .hbm, ⟨59, _⟩ => ⟨S2048x1024, .f32⟩
  | .hbm, ⟨60, _⟩ => ⟨S_, .f32⟩
  | .hbm, ⟨61, _⟩ => ⟨S2048, .f32⟩
  | .hbm, ⟨62, _⟩ => ⟨S2048x1, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S_, .f32⟩
  | .hbm, ⟨71, _⟩ => ⟨S2048, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S1024x8x512, .f32⟩
  | .hbm, ⟨78, _⟩ => ⟨S8x1024x512, .f32⟩
  | .hbm, ⟨79, _⟩ => ⟨S8x1024x512, .bf16⟩
  | .hbm, ⟨80, _⟩ => ⟨S8x512x1024, .f32⟩
  | .hbm, ⟨81, _⟩ => ⟨S8x512x1024, .bf16⟩
  | .hbm, ⟨82, _⟩ => ⟨S1x1024, .f32⟩
  | .hbm, ⟨83, _⟩ => ⟨S_, .i32⟩
  | .hbm, ⟨84, _⟩ => ⟨S_, .f32⟩
  | .hbm, ⟨85, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c : Ref sig .tc := ⟨.hbm, 83, rfl⟩
abbrev main_call1_v0 : Ref sig .tc := ⟨.hbm, 84, rfl⟩
abbrev main_v63 : Ref sig .tc := ⟨.hbm, 85, rfl⟩

abbrev nD : Nat := 1
abbrev τ : Topo := Topo.v7x

variable {F : FTy → Type} [FloatOps F]
-- ==== KMix.lean ====
abbrev S2048x1024 : Shape := ⟨2, ![2048, 1024]⟩
abbrev S1024 : Shape := ⟨1, ![1024]⟩
abbrev S1024x2048 : Shape := ⟨2, ![1024, 2048]⟩
abbrev S2048 : Shape := ⟨1, ![2048]⟩
abbrev S1024x8x256 : Shape := ⟨3, ![1024, 8, 256]⟩
abbrev S8x1024x256 : Shape := ⟨3, ![8, 1024, 256]⟩
abbrev S1x1024 : Shape := ⟨2, ![1, 1024]⟩
abbrev S1x2048 : Shape := ⟨2, ![1, 2048]⟩
abbrev S2048x2048 : Shape := ⟨2, ![2048, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256 : Shape := ⟨2, ![1, 256]⟩

abbrev nBuf : Space → Nat
  | .hbm => 15
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1024, .f32⟩
  | .hbm, ⟨4, _⟩ => ⟨S1024x2048, .f32⟩
  | .hbm, ⟨5, _⟩ => ⟨S2048, .f32⟩
  | .hbm, ⟨6, _⟩ => ⟨S1024x8x256, .f32⟩
  | .hbm, ⟨7, _⟩ => ⟨S8x1024x256, .f32⟩
  | .hbm, ⟨8, _⟩ => ⟨S1x1024, .f32⟩
  | .hbm, ⟨9, _⟩ => ⟨S1x1024, .f32⟩
  | .hbm, ⟨10, _⟩ => ⟨S8x1024x256, .bf16⟩
  | .hbm, ⟨11, _⟩ => ⟨S1x2048, .f32⟩
  | .hbm, ⟨12, _⟩ => ⟨S2048x1024, .f32⟩
  | .hbm, ⟨13, _⟩ => ⟨S2048x2048, .f32⟩
  | .hbm, ⟨14, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S8x1024x256, .bf16⟩
  | .local _ .vmem, ⟨7, _⟩ => ⟨S1x2048, .f32⟩
  | .local _ .vmem, ⟨8, _⟩ => ⟨S512x1024, .f32⟩
  | .local _ .vmem, ⟨9, _⟩ => ⟨S512x1024, .f32⟩
  | .local _ .vmem, ⟨10, _⟩ => ⟨S512x2048, .f32⟩
  | .local _ .vmem, ⟨11, _⟩ => ⟨S512x2048, .f32⟩
  | .local _ .vmem, ⟨12, _⟩ => ⟨S512x1024, .f32⟩
  | .local _ .vmem, ⟨13, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RMixIdeal.lean ====
abbrev S2048x1024 : Shape := ⟨2, ![2048, 1024]⟩
abbrev S1024 : Shape := ⟨1, ![1024]⟩
abbrev S1024x2048 : Shape := ⟨2, ![1024, 2048]⟩
abbrev S2048 : Shape := ⟨1, ![2048]⟩
abbrev S_ : Shape := ⟨0, ![]⟩
abbrev S2048x1 : Shape := ⟨2, ![2048, 1]⟩
abbrev S1x1024 : Shape := ⟨2, ![1, 1024]⟩
abbrev S2048x2048 : Shape := ⟨2, ![2048, 2048]⟩
abbrev S1x2048 : Shape := ⟨2, ![1, 2048]⟩

abbrev nBuf : Space → Nat
  | .hbm => 59
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1024, .f32⟩
  | .hbm, ⟨4, _⟩ => ⟨S1024x2048, .f32⟩
  | .hbm, ⟨5, _⟩ => ⟨S2048, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x2048, .f32⟩
  | .hbm, ⟨44, _⟩ => ⟨S1x2048, .f32⟩
  | .hbm, ⟨45, _⟩ => ⟨S2048x2048, .f32⟩
  | .hbm, ⟨46, _⟩ => ⟨S2048x2048, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== KProj.lean ====
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S1024x1024 : Shape := ⟨2, ![1024, 1024]⟩
abbrev S1x1024 : Shape := ⟨2, ![1, 1024]⟩
abbrev S1x512 : Shape := ⟨2, ![1, 512]⟩
abbrev S256x1024 : Shape := ⟨2, ![256, 1024]⟩
abbrev S_ : Shape := ⟨0, ![]⟩
abbrev S512x1024 : Shape := ⟨2, ![512, 1024]⟩
abbrev S512x1 : Shape := ⟨2, ![512, 1]⟩
abbrev S512x512 : Shape := ⟨2, ![512, 512]⟩
abbrev S512x256 : Shape := ⟨2, ![512, 256]⟩

abbrev nBuf : Space → Nat
  | .hbm => 104
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024x512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S1024x512, .bf16⟩
  | .hbm, ⟨10, _⟩ => ⟨S1x512, .f32⟩
  | .hbm, ⟨11, _⟩ => ⟨S256x1024, .i32⟩
  | .hbm, ⟨12, _⟩ => ⟨S256x1024, .i32⟩
  | .hbm, ⟨13, _⟩ => ⟨S_, .i32⟩
  | .hbm, ⟨14, _⟩ => ⟨S_, .i32⟩
  | .hbm, ⟨15, _⟩ => ⟨S256x1024, .i32⟩
  | .hbm, ⟨16, _⟩ => ⟨S256x1024, .i32⟩
  | .hbm, ⟨17, _⟩ => ⟨S256x1024, .i32⟩
  | .hbm, ⟨18, _⟩ => ⟨S_, .i32⟩
  | .hbm, ⟨19, _⟩ => ⟨S256x1024, .i32⟩
  | .hbm, ⟨20, _⟩ => ⟨S256x1024, .i1⟩
  | .hbm, ⟨21, _⟩ => ⟨S256x1024, .i32⟩
  | .hbm, ⟨22, _⟩ => ⟨S256x1024, .i32⟩
  | .hbm, ⟨23, _⟩ => ⟨S_, .i32⟩
  | .hbm, ⟨24, _⟩ => ⟨S256x1024, .i32⟩
  | .hbm, ⟨25, _⟩ => ⟨S256x1024, .i1⟩
  | .hbm, ⟨26, _⟩ => ⟨S256x1024, .i1⟩
  | .hbm, ⟨27, _⟩ => ⟨S_, .i32⟩
  | .hbm, ⟨28, _⟩ => ⟨S256x1024, .i32⟩
  | .hbm, ⟨29, _⟩ => ⟨S256x1024, .i32⟩
  | .hbm, ⟨30, _⟩ => ⟨S256x1024, .i32⟩
  | .hbm, ⟨31, _⟩ => ⟨S_, .i32⟩
  | .hbm, ⟨32, _⟩ => ⟨S_, .i32⟩
  | .hbm, ⟨33, _⟩ => ⟨S256x1024, .i32⟩
  | .hbm, ⟨34, _⟩ => ⟨S256x1024, .i32⟩
  | .hbm, ⟨35, _⟩ => ⟨S256x1024, .i32⟩
  | .hbm, ⟨36, _⟩ => ⟨S_, .i32⟩
  | .hbm, ⟨37, _⟩ => ⟨S256x1024, .i32⟩
  | .hbm, ⟨38, _⟩ => ⟨S256x1024, .i1⟩
  | .hbm, ⟨39, _⟩ => ⟨S256x1024, .i32⟩
  | .hbm, ⟨40, _⟩ => ⟨S256x1024, .i32⟩
  | .hbm, ⟨41, _⟩ => ⟨S_, .i32⟩
  | .hbm, ⟨42, _⟩ => ⟨S256x1024, .i32⟩
  | .hbm, ⟨43, _⟩ => ⟨S256x1024, .i1⟩
  | .hbm, ⟨44, _⟩ => ⟨S256x1024, .i1⟩
  | .hbm, ⟨45, _⟩ => ⟨S_, .i32⟩
  | .hbm, ⟨46, _⟩ => ⟨S256x1024, .i32⟩
  | .hbm, ⟨47, _⟩ => ⟨S256x1024, .i32⟩
  | .hbm, ⟨48, _⟩ => ⟨S256x1024, .i32⟩
  | .hbm, ⟨49, _⟩ => ⟨S256x1024, .i1⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i1⟩
  | .hbm, ⟨54, _⟩ => ⟨S_, .i32⟩
  | .hbm, ⟨55, _⟩ => ⟨S_, .i32⟩
  | .hbm, ⟨56, _⟩ => ⟨S256x1024, .i32⟩
  | .hbm, ⟨57, _⟩ => ⟨S256x1024, .i32⟩
  | .hbm, ⟨58, _⟩ => ⟨S_, .i32⟩
  | .hbm, ⟨59, _⟩ => ⟨S256x1024, .i32⟩
  | .hbm, ⟨60, _⟩ => ⟨S256x1024, .i1⟩
  | .hbm, ⟨61, _⟩ => ⟨S_, .i32⟩
  | .hbm, ⟨62, _⟩ => ⟨S256x1024, .i32⟩
  | .hbm, ⟨63, _⟩ => ⟨S256x1024, .i1⟩
  | .hbm, ⟨64, _⟩ => ⟨S_, .i32⟩
  | .hbm, ⟨65, _⟩ => ⟨S_, .i1⟩
  | .hbm, ⟨66, _⟩ => ⟨S256x1024, .i1⟩
  | .hbm, ⟨67, _⟩ => ⟨S256x1024, .i1⟩
  | .hbm, ⟨68, _⟩ => ⟨S256x1024, .i1⟩
  | .hbm, ⟨69, _⟩ => ⟨S256x1024, .i32⟩
  | .hbm, ⟨70, _⟩ => ⟨S256x1024, .i32⟩
  | .hbm, ⟨71, _⟩ => ⟨S256x1024, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i1⟩
  | .hbm, ⟨76, _⟩ => ⟨S_, .i32⟩
  | .hbm, ⟨77, _⟩ => ⟨S_, .i32⟩
  | .hbm, ⟨78, _⟩ => ⟨S256x1024, .i32⟩
  | .hbm, ⟨79, _⟩ => ⟨S256x1024, .i32⟩
  | .hbm, ⟨80, _⟩ => ⟨S_, .i32⟩
  | .hbm, ⟨81, _⟩ => ⟨S256x1024, .i32⟩
  | .hbm, ⟨82, _⟩ => ⟨S256x1024, .i1⟩
  | .hbm, ⟨83, _⟩ => ⟨S_, .i32⟩
  | .hbm, ⟨84, _⟩ => ⟨S256x1024, .i32⟩
  | .hbm, ⟨85, _⟩ => ⟨S256x1024, .i1⟩
  | .hbm, ⟨86, _⟩ => ⟨S_, .i32⟩
  | .hbm, ⟨87, _⟩ => ⟨S_, .i1⟩
  | .hbm, ⟨88, _⟩ => ⟨S256x1024, .i1⟩
  | .hbm, ⟨89, _⟩ => ⟨S256x1024, .i1⟩
  | .hbm, ⟨90, _⟩ => ⟨S256x1024, .i1⟩
  | .hbm, ⟨91, _⟩ => ⟨S256x1024, .i32⟩
  | .hbm, ⟨92, _⟩ => ⟨S256x1024, .i32⟩
  | .hbm, ⟨93, _⟩ => ⟨S256x1024, .i32⟩
  | .hbm, ⟨94, _⟩ => ⟨S256x1024, .i1⟩
  | .hbm, ⟨95, _⟩ => ⟨S256x1024, .i1⟩
  | .hbm, ⟨96, _⟩ => ⟨S256x1024, .bf16⟩
  | .hbm, ⟨97, _⟩ => ⟨S1024x1024, .bf16⟩
  | .hbm, ⟨98, _⟩ => ⟨S1x1024, .f32⟩
  | .hbm, ⟨99, _⟩ => ⟨S2048x1024, .bf16⟩
  | .hbm, ⟨100, _⟩ => ⟨S2048x1024, .bf16⟩
  | .hbm, ⟨101, _⟩ => ⟨S2048x1024, .bf16⟩
  | .hbm, ⟨102, _⟩ => ⟨S2048x1024, .bf16⟩
  | .hbm, ⟨103, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x512, .bf16⟩
  | .local _ .vmem, ⟨5, _⟩ => ⟨S1x512, .f32⟩
  | .local _ .vmem, ⟨6, _⟩ => ⟨S256x1024, .bf16⟩
  | .local _ .vmem, ⟨7, _⟩ => ⟨S1024x1024, .bf16⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v6 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v7 : Ref sig .tc := ⟨.hbm, 48, rfl⟩
abbrev main_v8 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v9 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v10 : Ref sig .tc := ⟨.hbm, 93, rfl⟩
abbrev main_v11 : Ref sig .tc := ⟨.hbm, 94, rfl⟩
abbrev main_v12 : Ref sig .tc := ⟨.hbm, 95, rfl⟩
abbrev main_v13 : Ref sig .tc := ⟨.hbm, 96, rfl⟩
abbrev main_v14 : Ref sig .tc := ⟨.hbm, 97, rfl⟩
abbrev main_v15 : Ref sig .tc := ⟨.hbm, 98, rfl⟩
abbrev main_v16_0 : Ref sig .tc := ⟨.hbm, 99, rfl⟩
abbrev main_v16_1 : Ref sig .tc := ⟨.hbm, 100, rfl⟩
abbrev main_v16_2 : Ref sig .tc := ⟨.hbm, 101, rfl⟩
abbrev main_v16_3 : Ref sig .tc := ⟨.hbm, 102, rfl⟩
abbrev main_v16_4 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== RProjIdeal.lean ====
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x512 : Shape := ⟨2, ![2048, 512]⟩
abbrev S1x512 : Shape := ⟨2, ![1, 512]⟩
abbrev S2048x256 : Shape := ⟨2, ![2048, 256]⟩
abbrev S2048x4x1x64 : Shape := ⟨4, ![2048, 4, 1, 64]⟩
abbrev S2048x4x4x64 : Shape := ⟨4, ![2048, 4, 4, 64]⟩

abbrev nBuf : Space → Nat
  | .hbm => 60
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024x512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S2048x1024, .f32⟩
  | .hbm, ⟨35, _⟩ => ⟨S2048x1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S2048x512, .f32⟩
  | .hbm, ⟨40, _⟩ => ⟨S1x512, .f32⟩
  | .hbm, ⟨41, _⟩ => ⟨S2048x512, .f32⟩
  | .hbm, ⟨42, _⟩ => ⟨S2048x512, .f32⟩
  | .hbm, ⟨43, _⟩ => ⟨S2048x256, .f32⟩
  | .hbm, ⟨44, _⟩ => ⟨S2048x256, .f32⟩
  | .hbm, ⟨45, _⟩ => ⟨S2048x1024, .f32⟩
  | .hbm, ⟨46, _⟩ => ⟨S1x1024, .f32⟩
  | .hbm, ⟨47, _⟩ => ⟨S2048x1024, .f32⟩
  | .hbm, ⟨48, _⟩ => ⟨S2048x1024, .f32⟩
  | .hbm, ⟨49, _⟩ => ⟨S2048x1024, .bf16⟩
  | .hbm, ⟨50, _⟩ => ⟨S2048x1024, .bf16⟩
  | .hbm, ⟨51, _⟩ => ⟨S2048x4x1x64, .f32⟩
  | .hbm, ⟨52, _⟩ => ⟨S2048x4x4x64, .f32⟩
  | .hbm, ⟨53, _⟩ => ⟨S2048x1024, .f32⟩
  | .hbm, ⟨54, _⟩ => ⟨S2048x1024, .bf16⟩
  | .hbm, ⟨55, _⟩ => ⟨S2048x4x1x64, .f32⟩
  | .hbm, ⟨56, _⟩ => ⟨S2048x4x4x64, .f32⟩
  | .hbm, ⟨57, _⟩ => ⟨S2048x1024, .f32⟩
  | .hbm, ⟨58, _⟩ => ⟨S2048x1024, .bf16⟩
  | .hbm, ⟨59, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩

abbrev nD : Nat := 1
abbrev τ : Topo := Topo.v7x

variable {F : FTy → Type} [FloatOps F]
-- ==== KNorm.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1x1024, .f32⟩
  | .hbm, ⟨3, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RNormIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S1x1024, .f32⟩
  | .hbm, ⟨16, _⟩ => ⟨S2048x1024, .f32⟩
  | .hbm, ⟨17, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KFwd.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩
abbrev S1x1024 : Shape := ⟨2, ![1, 1024]⟩
abbrev S8x512x1024 : Shape := ⟨3, ![8, 512, 1024]⟩
abbrev S2048x4096 : Shape := ⟨2, ![2048, 4096]⟩
abbrev S1024x1024 : Shape := ⟨2, ![1024, 1024]⟩
abbrev S1x1024x512 : Shape := ⟨3, ![1, 1024, 512]⟩
abbrev S1x512x1024 : Shape := ⟨3, ![1, 512, 1024]⟩
abbrev S1024x512 : Shape := ⟨2, ![1024, 512]⟩
abbrev S1024x1 : Shape := ⟨2, ![1024, 1]⟩
abbrev S512x1024 : Shape := ⟨2, ![512, 1024]⟩

abbrev nBuf : Space → Nat
  | .hbm => 13
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024x8x512, .f32⟩
  | .hbm, ⟨5, _⟩ => ⟨S8x1024x512, .f32⟩
  | .hbm, ⟨6, _⟩ => ⟨S1x1024, .f32⟩
  | .hbm, ⟨7, _⟩ => ⟨S8x1024x512, .bf16⟩
  | .hbm, ⟨8, _⟩ => ⟨S8x512x1024, .f32⟩
  | .hbm, ⟨9, _⟩ => ⟨S8x512x1024, .bf16⟩
  | .hbm, ⟨10, _⟩ => ⟨S2048x1024, .bf16⟩
  | .hbm, ⟨11, _⟩ => ⟨S2048x4096, .bf16⟩
  | .hbm, ⟨12, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x512, .bf16⟩
  | .local _ .vmem, ⟨4, _⟩ => ⟨S1x1024x512, .bf16⟩
  | .local _ .vmem, ⟨5, _⟩ => ⟨S1x512x1024, .bf16⟩
  | .local _ .vmem, ⟨6, _⟩ => ⟨S1x512x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x512, .bf16⟩
  | .local _ .vmem, ⟨10, _⟩ => ⟨S1024x512, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_16 : BitVec 32 := 0#32
  let v24 : BitVec 1 := Scalar.cmpi .ne v23 c0_i32_16
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== RFwdIdeal.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩

abbrev nBuf : Space → Nat
  | .hbm => 29
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x4096, .f32⟩
  | .hbm, ⟨21, _⟩ => ⟨S_, .f32⟩
  | .hbm, ⟨22, _⟩ => ⟨S2048x4096, .f32⟩
  | .hbm, ⟨23, _⟩ => ⟨S2048x4096, .f32⟩
  | .hbm, ⟨24, _⟩ => ⟨S2048x1024, .bf16⟩
  | .hbm, ⟨25, _⟩ => ⟨S2048x4096, .bf16⟩
  | .hbm, ⟨26, _⟩ => ⟨S2048x4096, .f32⟩
  | .hbm, ⟨27, _⟩ => ⟨S2048x1024, .f32⟩
  | .hbm, ⟨28, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Proof.Reals.lean ====
/- Finite entries of the ideal arrays as real numbers: the finiteness predicate read, the operations of the programs on
   real arguments, and the float words of the constants. -/
module

public import Idealize.ShloMosaic.Lib.Pointwise
public import Idealize.ShloMosaic.Lib.ReduceAll
public import Idealize.ShloMosaic.Lib.IdealHost
public import Idealize.ShloMosaic.Lib.Pipeline.ValueKit
public import Idealize.ShloMosaic.PureOps.Ideal.Laws
public import Mathlib.Analysis.SpecialFunctions.Pow.Real

@[expose] public section

noncomputable section

namespace Cert.Reals

open Idealize.ShloMosaic

/-! ## Sums and quotients of reals -/

@[norm_cast] theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_real {b : ℝ} (hb : b ≠ 0) (a : ℝ) : Ideal.div (a : EReal) (b : EReal) = ((a / b : ℝ) : EReal) := by
  rw [Ideal.div_coe hb, ← EReal.coe_mul, mul_one_div]

theorem rsqrt_real {a : ℝ} (ha : 0 < a) : Ideal.rsqrt (a : EReal) = (((Real.sqrt a)⁻¹ : ℝ) : EReal) := by
  rw [Ideal.rsqrt_coe, if_neg ha.le.not_gt, if_neg ha.ne']

@[norm_cast] theorem max_real (a b : ℝ) : ((max a b : ℝ) : EReal) = max (a : EReal) (b : EReal) :=
  EReal.coe_strictMono.monotone.map_max

/-! ## The constants -/

/-- The word of `NORM_EPS`: 1e-5 rounded to a float. -/
def eps : ℝ := 10995116 / 2 ^ 40

theorem eps_pos : 0 < eps := by unfold eps; positivity

theorem word_eps : Ideal.ofBits .f32 0x3727C5AC#32 = (eps : EReal) := by
  unfold eps
  simp [Ideal.ofBits, Ideal.ieee, -EReal.coe_mul, -EReal.coe_pow]; norm_num
theorem word_1024 : Ideal.ofBits .f32 0x44800000#32 = ((1024 : ℝ) : EReal) := by
  simp [Ideal.ofBits, Ideal.ieee, -EReal.coe_mul]; norm_num
theorem word_inv1024 : Ideal.ofBits .f32 0x3A800000#32 = ((1 / 1024 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul, -EReal.coe_neg]; norm_num
theorem word_two : Ideal.ofBits .f32 0x40000000#32 = ((2 : ℝ) : EReal) := by
  simp [Ideal.ofBits, Ideal.ieee, -EReal.coe_mul]; norm_num
theorem word_top : Ideal.ofBits .f32 0x7F800000#32 = ⊤ := by
  simp [Ideal.ofBits, Ideal.ieee]

/-! ## Finite entries -/

/-- An entry whose absolute value is below infinity is a real number. -/
theorem real_of_abs_lt (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- Arrays of real entries: one array of real numbers. -/
theorem reals_of_entries {ι : Type} (X : ι → EReal) (h : ∀ i, ∃ r : ℝ, X i = (r : EReal)) :
    ∃ x : ι → ℝ, X = fun i => (x i : EReal) := by
  choose x hx using h
  exact ⟨x, funext hx⟩

/-- The finiteness predicate of one array, read: `B` is the array of infinities it compares with. -/
theorem reals_of_finite {s t u : Shape} {axes : List (Fin s.rank)} [Subsingleton t.Idx] {X B : FVec Ideal s .f32}
    {init : u.Idx → BitVec 1} {h : s.ReducesTo axes t} {hu : 0 < u.numel} {j : t.Idx}
    (e : Host.reduce IntOp.andi (cmpf .olt (Host.absf X) B) init h hu j = 1#1) (hB : ∀ i, B i = Ideal.ofBits .f32 0x7F800000#32) :
    ∃ x : s.Idx → ℝ, X = fun i => (x i : EReal) :=
  reals_of_entries X fun i => real_of_abs_lt (X i) (by
    have := Host.reduce_andi_all _ _ h hu j e i
    rw [← word_top, ← hB i]
    exact this)

/-- A sum over 2048 rows, four blocks of 512 at a time. -/
theorem sum_blocks {N : ℕ} (hN : N = 4) (f : Fin 2048 → ℝ) :
    ∑ p : Fin N, ∑ r : Fin 512, f ⟨p.val * 512 + r.val, by omega⟩ = ∑ r, f r := by
  subst hN
  exact Fin.sum_mul_add_fin 4 512 f

theorem coe_ite (p : Prop) [Decidable p] (a b : ℝ) : ((if p then a else b : ℝ) : EReal) = if p then (a : EReal) else b := by
  split <;> rfl

/-- The fill value of a padded array. -/
theorem fill_zero : (FloatOps.sitofp (F := Ideal) .f32 (0#32) : EReal) = 0 := by
  show ((((0#32 : BitVec 32).toInt : ℝ)) : EReal) = 0
  simp

/-- An array of zeros but where `p` holds. -/
theorem masked {p q : Prop} [Decidable p] [Decidable q] (hpq : p ↔ q) {A : EReal} {a : ℝ} (h : A = a) :
    (if _h : p then A else 0) = ((if q then a else 0 : ℝ) : EReal) := by
  by_cases hp : p
  · rw [dif_pos hp, if_pos (hpq.1 hp), h]
  · rw [dif_neg hp, if_neg (fun hq => hp (hpq.2 hq)), EReal.coe_zero]

/-! ## The masks of the calls that write a sum into the first row of eight -/

theorem eq_zero_word {n : ℕ} (h : n < 2 ^ 32) : IntOp.cmpi .eq (BitVec.ofNat 32 n) 0#32 = BitVec.ofBool (decide (n = 0)) := by
  have e : (BitVec.ofNat 32 n == 0#32) = decide (n = 0) := by
    rw [Bool.eq_iff_iff, beq_iff_eq, decide_eq_true_iff, ← BitVec.toNat_inj]
    simp only [BitVec.toNat_ofNat]
    omega
  simp only [IntOp.cmpi, e]

theorem select_row {n : ℕ} (h : n < 2 ^ 32) (a b : EReal) :
    Scalar.select (IntOp.cmpi .eq (BitVec.ofNat 32 n) 0#32) a b = if n = 0 then a else b := by
  rw [eq_zero_word h]
  by_cases e : n = 0 <;> simp [e, Scalar.select]

theorem select_corner {n l : ℕ} (h : n < 2 ^ 32) (hl : l < 2 ^ 32) (a b : EReal) :
    Scalar.select (IntOp.andi (IntOp.cmpi .eq (BitVec.ofNat 32 l) 0#32) (IntOp.cmpi .eq (BitVec.ofNat 32 n) 0#32)) a b
      = if n = 0 ∧ l = 0 then a else b := by
  rw [eq_zero_word h, eq_zero_word hl]
  by_cases e : n = 0 <;> by_cases e' : l = 0 <;> simp [e, e', Scalar.select, IntOp.andi]

end Cert.Reals

end
-- ==== Proof.Norm.lean ====
/- The RMS norm of one row of 1024 reals and its gradient: the form the kernels write by hand, and the form
   differentiation of the forward line gives, equal. -/
module

public import proofs.«01_k».proof.Proof.Reals

@[expose] public section

noncomputable section

namespace Cert.Norm

open Cert.Reals

/-- The mean square of a row plus `NORM_EPS`. -/
def ms (x : Fin 1024 → ℝ) : ℝ := (∑ k, x k * x k) / 1024 + eps

theorem ms_pos (x : Fin 1024 → ℝ) : 0 < ms x :=
  add_pos_of_nonneg_of_pos (div_nonneg (Finset.sum_nonneg fun k _ => mul_self_nonneg _) (by norm_num)) eps_pos

/-- One over the root of the mean square. -/
def inv (x : Fin 1024 → ℝ) : ℝ := (Real.sqrt (ms x))⁻¹

/-- The normed row. -/
def normed (x g : Fin 1024 → ℝ) (l : Fin 1024) : ℝ := x l * inv x * g l

/-- The gradient of the normed row by its input; `u` is the cotangent times the gain. -/
def grad (x u : Fin 1024 → ℝ) (l : Fin 1024) : ℝ :=
  inv x * u l - inv x * inv x * inv x * x l * ((∑ k, u k * x k) / 1024)

theorem inv_div_ms (x : Fin 1024 → ℝ) : inv x / ms x = inv x * inv x * inv x := by
  have h := Real.mul_self_sqrt (ms_pos x).le
  have hs : Real.sqrt (ms x) ≠ 0 := (Real.sqrt_pos.2 (ms_pos x)).ne'
  unfold inv
  rw [← h, Real.sqrt_mul_self (Real.sqrt_nonneg _)]
  field_simp

/-- What differentiation gives: the cotangent of the mean square enters the input's twice. -/
theorem grad_eq (x u : Fin 1024 → ℝ) (l : Fin 1024) :
    u l * inv x + x l * ((∑ k, x k * u k) * (-(1 / 2) * (inv x / ms x)) / 1024)
        + (∑ k, x k * u k) * (-(1 / 2) * (inv x / ms x)) / 1024 * x l = grad x u l := by
  unfold grad
  rw [inv_div_ms, show ∑ k, x k * u k = ∑ k, u k * x k from Finset.sum_congr rfl fun k _ => mul_comm _ _]
  ring

end Cert.Norm

end
-- ==== Proof.LossRow.lean ====
/- One row of the final norm and loss, over the reals: what both programs of the loss compute. -/
module

public import proofs.«01_k».proof.Proof.Norm

@[expose] public section

noncomputable section

namespace Cert.LossRow

open Cert.Norm

/-- The normed row less its target. -/
def diff (x g t : Fin 1024 → ℝ) (l : Fin 1024) : ℝ := normed x g l - t l

/-- The row's loss, before the factor one half. -/
def loss (x g t : Fin 1024 → ℝ) : ℝ := (∑ k, diff x g t k * diff x g t k) / 1024

/-- The gradient of the loss by the row. -/
def dx (x g t : Fin 1024 → ℝ) (l : Fin 1024) : ℝ := grad x (fun k => diff x g t k * (1 / 1024) * g k) l

/-- The row's part of the gradient by the gain. -/
def dg (x g t : Fin 1024 → ℝ) (l : Fin 1024) : ℝ := diff x g t l * (1 / 1024) * x l * inv x

end Cert.LossRow

end
-- ==== Proof.LossPay.lean ====
/- What the body of the loss kernel computes on blocks of reals. -/
module

public import proofs.«01_k».proof.Proof.LossRow
public import proofs.«01_k».proof.Proof.Gen.KLossIdeal.Skeleton
public import Idealize.ShloMosaic.Lib.Pointwise

@[expose] public section

set_option maxRecDepth 16384

noncomputable section

open Idealize.ShloMosaic Idealize.ShloMosaic.TcCoe Idealize.SL.Sem

namespace Cert.KLossIdeal.Pay

open Cert.KLossIdeal Cert.KLossIdeal.Gen Cert.Reals

variable (x t e : S512x1024.Idx → ℝ) (g : S1x1024.Idx → ℝ)

/-- Row `r` of a block. -/
abbrev row (x : S512x1024.Idx → ℝ) (r : Fin 512) (k : Fin 1024) : ℝ := x (ix2 r k)

/-- The gain. -/
abbrev gain (g : S1x1024.Idx → ℝ) (k : Fin 1024) : ℝ := g (ix2 0 k)

/-- The block's difference from its target. -/
def diff (i : S512x1024.Idx) : ℝ := LossRow.diff (row x (i 0)) (gain g) (row t (i 0)) (i 1)

theorem inv_at (r : Fin 512) :
    k0_pay11 (F := Ideal) (fun i => (x i : EReal)) (ix2 r 0) = (Norm.inv (row x r) : ℝ) := by
  pointwise [k0_pay11]
  simp only [word_1024, word_eps]
  norm_cast
  rw [div_real (by norm_num)]
  norm_cast
  exact rsqrt_real (Norm.ms_pos _)

theorem gain_eq : k0_pay4 (F := Ideal) (fun i => (g i : EReal)) = fun i => (g i : EReal) := by
  funext i
  idx_vars i
  pointwise [k0_pay4]

theorem diff_eq : k0_pay5 (F := Ideal) (fun i => (x i : EReal)) (fun i => (g i : EReal)) (fun i => (t i : EReal))
    = fun i => (diff x t g i : EReal) := by
  funext i
  idx_vars i
  have h := inv_at x i0
  pointwise [k0_pay11] at h
  pointwise [k0_pay5]
  rw [h, gain_eq]
  norm_cast

theorem dx_at (r : Fin 512) (l : Fin 1024) :
    k0_pay12 (F := Ideal) (fun i => (x i : EReal)) (fun i => (g i : EReal)) (fun i => (e i : EReal)) (ix2 r l)
      = (Norm.grad (row x r) (fun k => e (ix2 r k) * (1 / 1024) * g (ix2 0 k)) l : ℝ) := by
  have h := inv_at x r
  pointwise [k0_pay12, k0_pay10]
  rw [h]
  simp only [word_1024, word_inv1024]
  norm_cast
  rw [div_real (by norm_num)]
  norm_cast

theorem loss_at (i : Fin 1) (j : Fin 1) :
    k0_pay8 (F := Ideal) (fun i => (x i : EReal)) (fun i => (g i : EReal)) (fun i => (t i : EReal)) (ix2 i j)
      = (1 / 2 * ∑ r, LossRow.loss (row x r) (gain g) (row t r) : ℝ) := by
  pointwise [k0_pay8]
  rw [diff_eq]
  simp only [word_1024, word_half]
  norm_cast
  simp only [div_real (show (1024 : ℝ) ≠ 0 by norm_num)]
  norm_cast

theorem dg_at (i : Fin 1) (l : Fin 1024) :
    k0_pay15 (F := Ideal) (fun i => (x i : EReal)) (fun i => (e i : EReal)) (ix2 i l)
      = (∑ r, e (ix2 r l) * (1 / 1024) * x (ix2 r l) * Norm.inv (row x r) : ℝ) := by
  pointwise [k0_pay15, k0_pay10]
  simp only [inv_at, word_inv1024]
  norm_cast

end Cert.KLossIdeal.Pay

end
-- ==== Proof.LossValue.lean ====
/- The result arrays of the loss kernel, on real arguments. -/
module

public import proofs.«01_k».proof.Proof.LossPay
public import proofs.«01_k».proof.Proof.Gen.KLossIdeal.Frame
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KLossIdeal.Final

open Cert.KLossIdeal Cert.KLossIdeal.Gen Cert.KLossIdeal.Pay Cert.Reals

variable (m : (ℓ : Loc nD τ sig) → Buf (Elt Ideal) ℓ) (c : Dev nD)
variable (x t : S2048x1024.Idx → ℝ) (g : S1024.Idx → ℝ)

/-- The arguments are these reals. -/
def Args : Prop :=
  m ((c : Thread nD τ).loc main_arg0) = (fun i => (x i : EReal)) ∧ m ((c : Thread nD τ).loc main_arg1) = (fun i => (g i : EReal))
    ∧ m ((c : Thread nD τ).loc main_arg2) = fun i => (t i : EReal)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- Row `r` of block `p`, in the array. -/
def at_ (p : Fin cfg0.N) (r : Fin 512) : Fin 2048 :=
  ⟨p.val * 512 + r.val, by have := lt_of_lt_of_eq p.isLt N_0; omega⟩

def blk (a : S2048x1024.Idx → ℝ) (p : Fin cfg0.N) (i : S512x1024.Idx) : ℝ := a (ix2 (at_ p (i 0)) (i 1))

variable {m c x t g} in
theorem iblk0 (h : Args m c x t g) (p : Fin cfg0.N) : iblk m c 0 p = fun i => (blk x p i : EReal) := by
  funext i
  have e : iblk m c 0 p i = m ((c : Thread nD τ).loc main_arg0) (ix2 (at_ p (i 0)) (i 1)) := by
    blk_ext [iblk, V, idx p, at_]
  rw [e, h.1]; rfl

variable {m c x t g} in
theorem iblk2 (h : Args m c x t g) (p : Fin cfg0.N) : iblk m c 2 p = fun i => (blk t p i : EReal) := by
  funext i
  have e : iblk m c 2 p i = m ((c : Thread nD τ).loc main_arg2) (ix2 (at_ p (i 0)) (i 1)) := by
    blk_ext [iblk, V, idx p, at_]
  rw [e, h.2.2]; rfl

variable {m c x t g} in
theorem iblk1 (h : Args m c x t g) (p : Fin cfg0.N) : iblk m c 1 p = fun i : S1x1024.Idx => (g (ix1 (i 1)) : EReal) := by
  funext i
  idx_vars i
  blk_simp [iblk, idx p]
  entry_read
  rw [h.2.1]
  pointwise
  blk_point [idx p]

theorem final4 (h : Args m c x t g) : (dats m 0 c).arrAt 4 (cfgs 0).N
    = fun i : S2048x1024.Idx => ((LossRow.dx (fun k => x (ix2 (i 0) k)) (fun k => g (ix1 k)) (fun k => t (ix2 (i 0) k)) (i 1) : ℝ) : EReal) := by
  refine (dats m 0 c).arrAt_eq_of_covers 4 _ (by decide +kernel) fun p _ y => ?_
  blk_simp
  rw [after0_4]
  have e : (outsAt0 m c p.val p.isLt).2.1 = k0_pay12 (iblk m c 0 p) (k0_pay4 (iblk m c 1 p)) (k0_pay5 (iblk m c 0 p) (iblk m c 1 p) (iblk m c 2 p)) := by
    by_cases hp : p.val % 4 = 0
    · rw [outsAt0_A m c p hp]; frame_out
    · rw [outsAt0_B m c p hp]; frame_out
  rw [e, iblk0 h, iblk1 h, iblk2 h, gain_eq, diff_eq]
  rw [show (win0_4.blk p).view.emb y = ix2 (at_ p (y 0)) (y 1) by blk_ext [idx p, at_]]
  idx_vars y
  rw [dx_at]
  rfl

theorem zero_loss (j) : k0_pay2 (F := Ideal) j = 0 := by pointwise [k0_pay2]

theorem loss_add (a b : S512x1024.Idx → ℝ) (w : S1x1024.Idx → ℝ) (z : Vec Ideal S8x128 .f32) (j : S8x128.Idx) :
    k0_pay9 (F := Ideal) (k0_pay6 z) k0_pay7 (k0_pay8 (fun i => (a i : EReal)) (fun i => (w i : EReal)) (fun i => (b i : EReal))) j
      = z j + ((if (j 0).val = 0 ∧ (j 1).val = 0 then
          1 / 2 * ∑ r : Fin 512, LossRow.loss (row a r) (gain w) (row b r) else 0 : ℝ) : EReal) := by
  idx_vars j
  pointwise [k0_pay9, k0_pay6, k0_pay7]
  rw [loss_at, select_corner (by omega) (by omega)]
  exact congrArg (z (ix2 j0 j1) + ·) (coe_ite _ _ _).symm

theorem final3 (h : Args m c x t g) : (dats m 0 c).arrAt 3 (cfgs 0).N
    = fun i : S8x128.Idx => (((if (i 0).val = 0 ∧ (i 1).val = 0 then
        1 / 2 * ∑ r : Fin 2048, LossRow.loss (fun k => x (ix2 r k)) (fun k => g (ix1 k)) (fun k => t (ix2 r k)) else 0 : ℝ)) : EReal) := by
  refine (dats m 0 c).arrAt_eq_of_after_last 3 t0_3 (by decide +kernel) _ fun j => ?_
  blk_simp
  rw [after0_3, Pipeline.eq_sum_fin_of_reset_step_apply_last (fun n h => (outsAt0 m c n h).1) 4 (fun _ => 0)
    (fun p j => (((if (j 0).val = 0 ∧ (j 1).val = 0 then
        1 / 2 * ∑ r : Fin 512, LossRow.loss (row (blk x p) r) (fun k => g (ix1 k)) (row (blk t p) r) else 0 : ℝ)) : EReal))
    (fun p hp j => by
      rw [outsAt0_A m c p hp]; frame_out
      rw [iblk0 h, iblk1 h, iblk2 h, loss_add, zero_loss]; rfl)
    (fun p hp j => by rw [outsAt0_B m c p hp]; frame_out; rw [iblk0 h, iblk1 h, iblk2 h, loss_add]; rfl)
    (le_of_eq N_0) t0_3 rfl j, zero_add]
  by_cases hj : (j 0).val = 0 ∧ (j 1).val = 0 <;> simp only [hj, if_true, if_false, and_self]
  · have e := sum_blocks N_0 fun r => LossRow.loss (fun k => x (ix2 r k)) (fun k => g (ix1 k)) fun k => t (ix2 r k)
    rw [← e, Finset.mul_sum]
    norm_cast
  · simp

theorem final5 (h : Args m c x t g) : (dats m 0 c).arrAt 5 (cfgs 0).N
    = fun i : S2048x1024.Idx => ((LossRow.dx (fun k => x (ix2 (i 0) k)) (fun k => g (ix1 k)) (fun k => t (ix2 (i 0) k)) (i 1) : ℝ) : EReal) := by
  refine (dats m 0 c).arrAt_eq_of_covers 5 _ (by decide +kernel) fun p _ y => ?_
  blk_simp
  rw [after0_5]
  have e : (outsAt0 m c p.val p.isLt).2.2.1 = k0_pay13 (iblk m c 0 p) (k0_pay4 (iblk m c 1 p)) (k0_pay5 (iblk m c 0 p) (iblk m c 1 p) (iblk m c 2 p)) := by
    by_cases hp : p.val % 4 = 0
    · rw [outsAt0_A m c p hp]; frame_out
    · rw [outsAt0_B m c p hp]; frame_out
  rw [e, iblk0 h, iblk1 h, iblk2 h, gain_eq, diff_eq]
  rw [show (win0_5.blk p).view.emb y = ix2 (at_ p (y 0)) (y 1) by blk_ext [idx p, at_]]
  idx_vars y
  pointwise [k0_pay13]
  rw [dx_at]
  rfl

theorem zero_dg (j) : k0_pay3 (F := Ideal) j = 0 := by pointwise [k0_pay3]

theorem dg_add (a b : S512x1024.Idx → ℝ) (w : S1x1024.Idx → ℝ) (z : Vec Ideal S8x1024 .f32) (j : S8x1024.Idx) :
    k0_pay1 (F := Ideal) (k0_pay14 z) (k0_pay15 (fun i => (a i : EReal))
        (k0_pay5 (fun i => (a i : EReal)) (fun i => (w i : EReal)) (fun i => (b i : EReal)))) j
      = z j + ((if (j 0).val = 0 then ∑ r : Fin 512, LossRow.dg (row a r) (gain w) (row b r) (j 1) else 0 : ℝ) : EReal) := by
  idx_vars j
  pointwise [k0_pay1, k0_pay14]
  rw [diff_eq, dg_at, select_row (by omega)]
  exact congrArg (z (ix2 j0 j1) + ·) (coe_ite _ _ _).symm

theorem final6 (h : Args m c x t g) : (dats m 0 c).arrAt 6 (cfgs 0).N
    = fun i : S8x1024.Idx => (((if (i 0).val = 0 then
        ∑ r : Fin 2048, LossRow.dg (fun k => x (ix2 r k)) (fun k => g (ix1 k)) (fun k => t (ix2 r k)) (i 1) else 0 : ℝ)) : EReal) := by
  refine (dats m 0 c).arrAt_eq_of_after_last 6 t0_3 (by decide +kernel) _ fun j => ?_
  blk_simp
  rw [after0_6, Pipeline.eq_sum_fin_of_reset_step_apply_last (fun n h => (outsAt0 m c n h).2.2.2) 4 (fun _ => 0)
    (fun p j => (((if (j 0).val = 0 then
        ∑ r : Fin 512, LossRow.dg (row (blk x p) r) (fun k => g (ix1 k)) (row (blk t p) r) (j 1) else 0 : ℝ)) : EReal))
    (fun p hp j => by
      rw [outsAt0_A m c p hp]; frame_out
      rw [iblk0 h, iblk1 h, iblk2 h, dg_add, zero_dg]; rfl)
    (fun p hp j => by rw [outsAt0_B m c p hp]; frame_out; rw [iblk0 h, iblk1 h, iblk2 h, dg_add]; rfl)
    (le_of_eq N_0) t0_3 rfl j, zero_add]
  by_cases hj : (j 0).val = 0 <;> simp only [hj, if_true, if_false]
  · have e := sum_blocks N_0 fun r => LossRow.dg (fun k => x (ix2 r k)) (fun k => g (ix1 k)) (fun k => t (ix2 r k)) (j 1)
    rw [← e]
    norm_cast
  · simp

end Cert.KLossIdeal.Final

end
-- ==== Proof.LossRef.lean ====
/- The results of the loss reference, on real arguments. -/
module

public import proofs.«01_k».proof.Proof.LossRow
public import proofs.«01_k».proof.Proof.Gen.RLossIdeal.Read

@[expose] public section

set_option maxRecDepth 16384

noncomputable section

open Idealize.ShloMosaic Idealize.ShloMosaic.TcCoe Idealize.SL.Sem

namespace Cert.RLossIdeal.Real

open Cert.RLossIdeal Cert.RLossIdeal.Gen Cert.RLossIdeal.Read Cert.Reals

variable (x t : S2048x1024.Idx → ℝ) (g : S1024.Idx → ℝ)

abbrev row (x : S2048x1024.Idx → ℝ) (r : Fin 2048) (k : Fin 1024) : ℝ := x (ix2 r k)
abbrev gain (g : S1024.Idx → ℝ) (k : Fin 1024) : ℝ := g (ix1 k)

theorem ms_at (r : Fin 2048) (j : Fin 1) : val_main_v6 (F := Ideal) (fun i => (x i : EReal)) (ix2 r j) = (Norm.ms (row x r) : ℝ) := by
  pointwise [val_main_v6, val_main_v5, val_main_v4, val_main_v3, val_main_v2, val_main_v1, val_main_v0, val_main_cst, val_main_cst_0, val_main_cst_1]
  simp only [word_1024, word_eps]
  norm_cast
  rw [div_real (by norm_num)]
  norm_cast

theorem inv_at (r : Fin 2048) (j : Fin 1) : val_main_v7 (F := Ideal) (fun i => (x i : EReal)) (ix2 r j) = (Norm.inv (row x r) : ℝ) := by
  pointwise [val_main_v7]
  rw [ms_at]
  exact rsqrt_real (Norm.ms_pos _)

theorem diff_at (r : Fin 2048) (l : Fin 1024) :
    val_main_v16 (F := Ideal) (fun i => (x i : EReal)) (fun i => (g i : EReal)) (fun i => (t i : EReal)) (ix2 r l)
      = (LossRow.diff (row x r) (gain g) (row t r) l : ℝ) := by
  pointwise [val_main_v16, val_main_v15, val_main_v14, val_main_v13, val_main_v12, val_main_v11]
  rw [inv_at]
  norm_cast

/-- The cotangent of the normed rows. -/
theorem dy_at (r : Fin 2048) (l : Fin 1024) :
    val_main_v30 (F := Ideal) (fun i => (x i : EReal)) (fun i => (g i : EReal)) (fun i => (t i : EReal)) (ix2 r l)
      = (LossRow.diff (row x r) (gain g) (row t r) l * (1 / 1024) : ℝ) := by
  pointwise [val_main_v30, val_main_v29, val_main_v28, val_main_v27, val_main_v26, val_main_v25, val_main_v19, val_main_v18,
    val_main_cst_3, val_main_cst_8, val_main_cst_9, val_main_cst_10]
  rw [diff_at]
  simp only [word_1024, word_half, word_two]
  rw [div_real (by norm_num), ← EReal.coe_mul, ← EReal.coe_mul]
  refine congrArg Real.toEReal ?_
  ring

theorem dyg_at (r : Fin 2048) (l : Fin 1024) :
    val_main_v35 (F := Ideal) (fun i => (x i : EReal)) (fun i => (g i : EReal)) (fun i => (t i : EReal)) (ix2 r l)
      = (LossRow.diff (row x r) (gain g) (row t r) l * (1 / 1024) * g (ix1 l) : ℝ) := by
  pointwise [val_main_v35, val_main_v34, val_main_v13]
  rw [dy_at]
  norm_cast

theorem dx_at (r : Fin 2048) (l : Fin 1024) :
    val_main_v50 (F := Ideal) (fun i => (x i : EReal)) (fun i => (g i : EReal)) (fun i => (t i : EReal)) (ix2 r l)
      = (LossRow.dx (row x r) (gain g) (row t r) l : ℝ) := by
  pointwise [val_main_v50, val_main_v49, val_main_v48, val_main_v47, val_main_v46, val_main_v45, val_main_v44, val_main_v43,
    val_main_v42, val_main_v41, val_main_v40, val_main_v39, val_main_v38, val_main_v37, val_main_v10, val_main_v9, val_main_v8,
    val_main_cst_2, val_main_cst_13, val_main_cst_14, val_main_cst_15]
  simp only [dyg_at, inv_at, ms_at, word_1024, word_neg_half, Fin.sum_univ_one, div_real (Norm.ms_pos _).ne']
  norm_cast
  simp only [div_real (show (1024 : ℝ) ≠ 0 by norm_num)]
  norm_cast
  exact congrArg Real.toEReal (Norm.grad_eq _ (fun k => LossRow.diff (row x r) (gain g) (row t r) k * (1 / 1024) * g (ix1 k)) _)

theorem dx_eq (i : S2048x1024.Idx) :
    val_main_v50 (F := Ideal) (fun i => (x i : EReal)) (fun i => (g i : EReal)) (fun i => (t i : EReal)) i
      = (LossRow.dx (row x (i 0)) (gain g) (row t (i 0)) (i 1) : ℝ) := by
  idx_vars i
  exact dx_at x t g i0 i1

theorem dx_bf16_eq (i : S2048x1024.Idx) :
    val_main_v53 (F := Ideal) (fun i => (x i : EReal)) (fun i => (g i : EReal)) (fun i => (t i : EReal)) i
      = (LossRow.dx (row x (i 0)) (gain g) (row t (i 0)) (i 1) : ℝ) := by
  idx_vars i
  pointwise [val_main_v53]
  exact dx_at x t g i0 i1

theorem loss_at (i : S8x128.Idx) :
    val_main_v52 (F := Ideal) (fun i => (x i : EReal)) (fun i => (g i : EReal)) (fun i => (t i : EReal)) i
      = ((if (i 0).val = 0 ∧ (i 1).val = 0 then 1 / 2 * ∑ r, LossRow.loss (row x r) (gain g) (row t r) else 0 : ℝ) : EReal) := by
  idx_vars i
  pointwise [val_main_v52, val_main_v51, val_main_v24, val_main_v23, val_main_v22, val_main_v21, val_main_v20, val_main_v17, val_main_cst_4,
    val_main_cst_5, val_main_cst_6, val_main_cst_7, val_main_c, val_main_call0_v0]
  simp only [diff_at, word_1024, word_half, fill_zero]
  refine masked (by simp [Nat.lt_one_iff]) ?_
  norm_cast
  simp only [div_real (show (1024 : ℝ) ≠ 0 by norm_num)]
  norm_cast

theorem dg_at (i : S8x1024.Idx) :
    val_main_v55 (F := Ideal) (fun i => (x i : EReal)) (fun i => (g i : EReal)) (fun i => (t i : EReal)) i
      = ((if (i 0).val = 0 then ∑ r, LossRow.dg (row x r) (gain g) (row t r) (i 1) else 0 : ℝ) : EReal) := by
  idx_vars i
  pointwise [val_main_v55, val_main_v54, val_main_v36, val_main_v33, val_main_v32, val_main_v31, val_main_v12, val_main_v11, val_main_cst_11, val_main_cst_12,
    val_main_c_16, val_main_call1_v0]
  simp only [inv_at, dy_at, fill_zero, Fin.sum_univ_one]
  refine masked (by simp [Nat.lt_one_iff]) ?_
  norm_cast
  refine Finset.sum_congr rfl fun r _ => ?_
  unfold LossRow.dg
  ring

end Cert.RLossIdeal.Real

end
-- ==== Proof.LossClaim.lean ====
/- The loss: the kernel's results are the reference's, at finite arguments. -/
module

public import proofs.«01_k».proof.Defs
public import proofs.«01_k».proof.Proof.LossValue
public import proofs.«01_k».proof.Proof.LossRef
public import proofs.«01_k».proof.Proof.Gen.Pre_finite_loss

@[expose] public section

set_option maxRecDepth 16384

noncomputable section

open Idealize.ShloMosaic Idealize.ShloMosaic.TcCoe Idealize.SL.Sem

namespace Cert.LossClaim

open Cert.KLossIdeal Cert.Reals

theorem reals (m : (ℓ : Loc nD τ sig) → Buf (Elt Ideal) ℓ) (h : Cert.Pre_KLossIdeal_finite_loss m) (c : Dev nD) :
    ∃ x t g, Final.Args m c x t g := by
  have e := congrFun (h c) (fun a => a.elim0)
  obtain ⟨e, e2⟩ := IntOp.andi_eq_one.1 e
  obtain ⟨e0, e1⟩ := IntOp.andi_eq_one.1 e
  haveI : Subsingleton Cert.Pre_finite_loss.S_.Idx := ⟨fun a b => funext fun i => i.elim0⟩
  obtain ⟨x, hx⟩ := reals_of_finite e0 fun _ => rfl
  obtain ⟨g, hg⟩ := reals_of_finite e1 fun _ => rfl
  obtain ⟨t, ht⟩ := reals_of_finite e2 fun _ => rfl
  exact ⟨x, t, g, hx, hg, ht⟩

theorem frame_reference : Cert.quiescent_RLossIdeal := fun m ρ _ =>
  (θ_run _ _ _).mono (fun r h => ⟨fun c => (h c).2.2.2.2, sem_eq_zero_of_no_sems (by decide) r.2⟩) (Cert.RLossIdeal.Value.run m ρ)

theorem algebraic : Cert.algebraic_KLossIdeal_RLossIdeal_pre_finite_loss := by
  pair_intro
  · run_from Cert.KLossIdeal.Gen.run_main m g
  · run_from Cert.RLossIdeal.Value.run m' g'
    all_goals obtain ⟨x, t, w, h⟩ := reals m hpre c
    · refine (Cert.RLossIdeal.Read.val_main_v52_eq _ _ _).symm.trans ?_
      rw [Final.final3 m c x t w h, h.1, h.2.1, h.2.2]
      exact funext (Cert.RLossIdeal.Real.loss_at x t w)
    · refine (Cert.RLossIdeal.Read.val_main_v50_eq _ _).trans ?_
      rw [Final.final4 m c x t w h, (hagree c).1, (hagree c).2.1, (hagree c).2.2, h.1, h.2.1, h.2.2]
      exact funext (Cert.RLossIdeal.Real.dx_eq x t w)
    · refine (Cert.RLossIdeal.Read.val_main_v53_eq _ _).trans ?_
      rw [Final.final5 m c x t w h, (hagree c).1, (hagree c).2.1, (hagree c).2.2, h.1, h.2.1, h.2.2]
      exact funext (Cert.RLossIdeal.Real.dx_bf16_eq x t w)
    · refine (Cert.RLossIdeal.Read.val_main_v55_eq _ _ _).symm.trans ?_
      rw [Final.final6 m c x t w h, h.1, h.2.1, h.2.2]
      exact funext (Cert.RLossIdeal.Real.dg_at x t w)

end Cert.LossClaim

end
-- ==== Proof.AttnRun.lean ====
module

public import proofs.«01_k».proof.Proof.Gen.KAttnIdeal.Frame
public import proofs.«01_k».proof.Proof.Gen.KAttnIdeal.Skeleton
public import Idealize.ShloMosaic.Lib.Pipeline.ValueKit

@[expose] public section

set_option maxRecDepth 65536

noncomputable section

namespace Cert.KAttnIdeal.Body

open Cert.KAttnIdeal Cert.KAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole buffer holding `y` is what one store of `y` leaves. -/
theorem refill {s : Shape} {e : EltTy} (M : Memref sig .tc .vmem s e) (hM : M.IsWhole) (y : Vec F s e) {off : Fin s.rank → ℕ}
    (inb : ∀ a, off a + s.size a ≤ s.size a) (h : ∀ a, off a = 0) :
    hM.unread y = M.view.writes (Elt F) M.view.junk [⟨Rect.unit off s.size inb, y⟩] := by
  refine (hM.eq_unread ?_).symm
  rw [View.read_writes_eq_canon _ _ _ fun i => ⟨_, List.mem_cons_self, ?_⟩]
  · exact View.canon_cons_unit_lit inb y [] h
  · exact (Rect.unit off s.size inb).mem_set.mpr fun a => ⟨i a, (i a).isLt, by simp [Rect.unit, h]⟩

/-- The condition of the body's branch: the second grid coordinate is zero. -/
abbrev firstPoint (i : grid0.Coords) : Prop :=
  (Scalar.cmpi .ne (Scalar.extui (Scalar.cmpi .eq (BitVec.ofNat 32 (i 1).val) 0#32)) 0#32) = 1#1

/-- It holds at the first of the four points of a column. -/
theorem firstPoint_iff : ∀ t : Fin cfg0.N, firstPoint (grid0.coords t) ↔ t.val % 4 = 0 := by decide +kernel

/-- The rows of the block before, at the point's four blocks. -/
theorem off_prev : ∀ i : grid0.Coords, k0_off2 i 4294967168#32 = ![512 * (i 1).val - 128, 0] := by decide +kernel
theorem off_prev0 : ∀ i : grid0.Coords, k0_off2 i 0#32 = ![512 * (i 1).val + 128 * 0, 0] := by decide +kernel
theorem off_prev1 : ∀ i : grid0.Coords, k0_off2 i 128#32 = ![512 * (i 1).val + 128 * 1, 0] := by decide +kernel
theorem off_prev2 : ∀ i : grid0.Coords, k0_off2 i 256#32 = ![512 * (i 1).val + 128 * 2, 0] := by decide +kernel
instance (i : grid0.Coords) : ClosedOff (k0_off2 i 4294967168#32) := ⟨_, off_prev i⟩
instance (i : grid0.Coords) : ClosedOff (k0_off2 i 0#32) := ⟨_, off_prev0 i⟩
instance (i : grid0.Coords) : ClosedOff (k0_off2 i 128#32) := ⟨_, off_prev1 i⟩
instance (i : grid0.Coords) : ClosedOff (k0_off2 i 256#32) := ⟨_, off_prev2 i⟩

set_option maxHeartbeats 4000000 in
/-- At the first point of a column: the three sums are set to zero, then the point adds its part. The pieces each output is left with are found by the run. -/
noncomputable def runFirst (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S128x256 .bf16) (harg5 : arg5.IsWhole) (arg6 : Memref sig .tc .vmem S512x256 .bf16) (harg6 : arg6.IsWhole) (arg7 : Memref sig .tc .vmem S128x256 .bf16) (harg7 : arg7.IsWhole) (arg8 : Memref sig .tc .vmem S1x4x512x256 .bf16) (harg8 : arg8.IsWhole) (arg9 : Memref sig .tc .vmem S1x4x512x128 .bf16) (harg9 : arg9.IsWhole) (arg10 : Memref sig .tc .vmem S512x256 .f32) (harg10 : arg10.IsWhole) (arg11 : Memref sig .tc .vmem S2048x256 .f32) (harg11 : arg11.IsWhole) (arg12 : Memref sig .tc .vmem S2048x256 .f32) (harg12 : arg12.IsWhole) (arg13 : Memref sig .tc .vmem S1x8x128 .f32) (harg13 : arg13.IsWhole)
    (hc : firstPoint i) (x2 : Vec F S512x256 .bf16) (x3 : Vec F S512x256 .bf16) (x4 : Vec F S512x256 .bf16) (x5 : Vec F S128x256 .bf16) (x6 : Vec F S512x256 .bf16) (x7 : Vec F S128x256 .bf16) (x8 : Vec F S1x4x512x256 .bf16) (x9 : Vec F S1x4x512x128 .bf16)  :
    Σ' (L10 : List (View.Piece (Elt F) S512x256 .f32)), Σ' (L11 : List (View.Piece (Elt F) S2048x256 .f32)), Σ' (L12 : List (View.Piece (Elt F) S2048x256 .f32)), { L13 : List (View.Piece (Elt F) S1x8x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13)) -∗ K ⟨⟩))
          ⊢ wp frame (wpE (defs₀ (F := F)) Variants.none c none) E (cc0_attn_core_bwd i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0_attn_core_bwd_eq_skeleton]; unfold cc0_attn_core_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]; · iexists _; iexact H12
    iexists _; iexact H13

set_option maxHeartbeats 4000000 in
/-- At a later point of a column: the three sums hold what the point before left. The pieces each output is left with are found by the run. -/
noncomputable def runNext (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S128x256 .bf16) (harg5 : arg5.IsWhole) (arg6 : Memref sig .tc .vmem S512x256 .bf16) (harg6 : arg6.IsWhole) (arg7 : Memref sig .tc .vmem S128x256 .bf16) (harg7 : arg7.IsWhole) (arg8 : Memref sig .tc .vmem S1x4x512x256 .bf16) (harg8 : arg8.IsWhole) (arg9 : Memref sig .tc .vmem S1x4x512x128 .bf16) (harg9 : arg9.IsWhole) (arg10 : Memref sig .tc .vmem S512x256 .f32) (harg10 : arg10.IsWhole) (arg11 : Memref sig .tc .vmem S2048x256 .f32) (harg11 : arg11.IsWhole) (arg12 : Memref sig .tc .vmem S2048x256 .f32) (harg12 : arg12.IsWhole) (arg13 : Memref sig .tc .vmem S1x8x128 .f32) (harg13 : arg13.IsWhole)
    (hc : ¬firstPoint i) (x2 : Vec F S512x256 .bf16) (x3 : Vec F S512x256 .bf16) (x4 : Vec F S512x256 .bf16) (x5 : Vec F S128x256 .bf16) (x6 : Vec F S512x256 .bf16) (x7 : Vec F S128x256 .bf16) (x8 : Vec F S1x4x512x256 .bf16) (x9 : Vec F S1x4x512x128 .bf16) (y11 : Vec F S2048x256 .f32) (y12 : Vec F S2048x256 .f32) (y13 : Vec F S1x8x128 .f32) :
    Σ' (L10 : List (View.Piece (Elt F) S512x256 .f32)), Σ' (L11 : List (View.Piece (Elt F) S2048x256 .f32)), Σ' (L12 : List (View.Piece (Elt F) S2048x256 .f32)), { L13 : List (View.Piece (Elt F) S1x8x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare y11 ∗ owns (c : Thread nD τ) arg12 fullShare y12 ∗ owns (c : Thread nD τ) arg13 fullShare y13
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13)) -∗ K ⟨⟩))
          ⊢ wp frame (wpE (defs₀ (F := F)) Variants.none c none) E (cc0_attn_core_bwd i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0_attn_core_bwd_eq_skeleton]; unfold cc0_attn_core_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg11.eq_unread hf11
    obtain rfl := harg12.eq_unread hf12
    obtain rfl := harg13.eq_unread hf13
    rw [refill arg11 harg11 y11 inb_S2048x256_S2048x256_0_0 (by decide), refill arg12 harg12 y12 inb_S2048x256_S2048x256_0_0 (by decide), refill arg13 harg13 y13 inb_S1x8x128_S1x8x128_0_0_0 (by decide)]
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]; · iexists _; iexact H12
    iexists _; iexact H13

end Cert.KAttnIdeal.Body

end
-- ==== Proof.AttnBody.lean ====
module

public import proofs.«01_k».proof.Proof.AttnRun
public import Idealize.ShloMosaic.Lib.Claim
public import Idealize.ShloMosaic.Lib.Pipeline.ValueKit

@[expose] public section

set_option maxRecDepth 65536

noncomputable section

namespace Cert.KAttnIdeal.Body

open Cert.KAttnIdeal Cert.KAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point -/

abbrev stg0 (t : Fin cfg0.N) : Memref sig .tc .vmem S512x256 .bf16 := win0_0.stage (cfg0.slots t 0)
theorem whole0 (t : Fin cfg0.N) : (stg0 t).IsWhole := hstage0_0 ((cfg0.slots t 0).cast nbuf0_0)
abbrev stg1 (t : Fin cfg0.N) : Memref sig .tc .vmem S512x256 .bf16 := win0_1.stage (cfg0.slots t 1)
theorem whole1 (t : Fin cfg0.N) : (stg1 t).IsWhole := hstage0_1 ((cfg0.slots t 1).cast nbuf0_1)
abbrev stg2 (t : Fin cfg0.N) : Memref sig .tc .vmem S512x256 .bf16 := win0_2.stage (cfg0.slots t 2)
theorem whole2 (t : Fin cfg0.N) : (stg2 t).IsWhole := hstage0_2 ((cfg0.slots t 2).cast nbuf0_2)
abbrev stg3 (t : Fin cfg0.N) : Memref sig .tc .vmem S128x256 .bf16 := win0_3.stage (cfg0.slots t 3)
theorem whole3 (t : Fin cfg0.N) : (stg3 t).IsWhole := hstage0_3 ((cfg0.slots t 3).cast nbuf0_3)
abbrev stg4 (t : Fin cfg0.N) : Memref sig .tc .vmem S512x256 .bf16 := win0_4.stage (cfg0.slots t 4)
theorem whole4 (t : Fin cfg0.N) : (stg4 t).IsWhole := hstage0_4 ((cfg0.slots t 4).cast nbuf0_4)
abbrev stg5 (t : Fin cfg0.N) : Memref sig .tc .vmem S128x256 .bf16 := win0_5.stage (cfg0.slots t 5)
theorem whole5 (t : Fin cfg0.N) : (stg5 t).IsWhole := hstage0_5 ((cfg0.slots t 5).cast nbuf0_5)
abbrev stg6 (t : Fin cfg0.N) : Memref sig .tc .vmem S1x4x512x256 .bf16 := win0_6.stage (cfg0.slots t 6)
theorem whole6 (t : Fin cfg0.N) : (stg6 t).IsWhole := hstage0_6 ((cfg0.slots t 6).cast nbuf0_6)
abbrev stg7 (t : Fin cfg0.N) : Memref sig .tc .vmem S1x4x512x128 .bf16 := win0_7.stage (cfg0.slots t 7)
theorem whole7 (t : Fin cfg0.N) : (stg7 t).IsWhole := hstage0_7 ((cfg0.slots t 7).cast nbuf0_7)
abbrev stg8 (t : Fin cfg0.N) : Memref sig .tc .vmem S512x256 .f32 := win0_8.stage (cfg0.slots t 8)
theorem whole8 (t : Fin cfg0.N) : (stg8 t).IsWhole := hstage0_8 ((cfg0.slots t 8).cast nbuf0_8)
abbrev stg9 (t : Fin cfg0.N) : Memref sig .tc .vmem S2048x256 .f32 := win0_9.stage (cfg0.slots t 9)
theorem whole9 (t : Fin cfg0.N) : (stg9 t).IsWhole := hstage0_9 ((cfg0.slots t 9).cast nbuf0_9)
abbrev stg10 (t : Fin cfg0.N) : Memref sig .tc .vmem S2048x256 .f32 := win0_10.stage (cfg0.slots t 10)
theorem whole10 (t : Fin cfg0.N) : (stg10 t).IsWhole := hstage0_10 ((cfg0.slots t 10).cast nbuf0_10)
abbrev stg11 (t : Fin cfg0.N) : Memref sig .tc .vmem S1x8x128 .f32 := win0_11.stage (cfg0.slots t 11)
theorem whole11 (t : Fin cfg0.N) : (stg11 t).IsWhole := hstage0_11 ((cfg0.slots t 11).cast nbuf0_11)

/-! ## What a point leaves in the four outputs -/

/-- The run of the body at the first point of a column, at its buffers and blocks. -/
abbrev ranFirst (c : Dev nD) (t : Fin cfg0.N) (h : t.val % 4 = 0) :=
  runFirst (F := F) c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (stg9 t) (whole9 t) (stg10 t) (whole10 t) (stg11 t) (whole11 t) ((firstPoint_iff t).mpr h) (iblk m c 0 t) (iblk m c 1 t) (iblk m c 2 t) (iblk m c 3 t) (iblk m c 4 t) (iblk m c 5 t) (iblk m c 6 t) (iblk m c 7 t)

/-- The run of the body at a later point, the three sums holding `y11`, `y12`, `y13`. -/
abbrev ranNext (c : Dev nD) (t : Fin cfg0.N) (h : ¬t.val % 4 = 0) (y11 : Vec F S2048x256 .f32) (y12 : Vec F S2048x256 .f32) (y13 : Vec F S1x8x128 .f32) :=
  runNext (F := F) c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (stg9 t) (whole9 t) (stg10 t) (whole10 t) (stg11 t) (whole11 t) (fun e => h ((firstPoint_iff t).mp e)) (iblk m c 0 t) (iblk m c 1 t) (iblk m c 2 t) (iblk m c 3 t) (iblk m c 4 t) (iblk m c 5 t) (iblk m c 6 t) (iblk m c 7 t) y11 y12 y13

/-- The four outputs' contents. -/
abbrev Outs (F : FTy → Type) [FloatOps F] : Type := Vec F S512x256 .f32 × Vec F S2048x256 .f32 × Vec F S2048x256 .f32 × Vec F S1x8x128 .f32

/-- What the first point of a column leaves. -/
def leftFirst (c : Dev nD) (t : Fin cfg0.N) (h : t.val % 4 = 0) : Outs F :=
  (View.canon (ranFirst m c t h).1, View.canon (ranFirst m c t h).2.1, View.canon (ranFirst m c t h).2.2.1, View.canon (ranFirst m c t h).2.2.2.1)

/-- What a later point leaves, over what the point before it left. -/
def leftNext (c : Dev nD) (t : Fin cfg0.N) (h : ¬t.val % 4 = 0) (y : Outs F) : Outs F :=
  (View.canon (ranNext m c t h y.2.1 y.2.2.1 y.2.2.2).1, View.canon (ranNext m c t h y.2.1 y.2.2.1 y.2.2.2).2.1,
   View.canon (ranNext m c t h y.2.1 y.2.2.1 y.2.2.2).2.2.1, View.canon (ranNext m c t h y.2.1 y.2.2.1 y.2.2.2).2.2.2.1)

/-- What the point at position `n` leaves. -/
def left (c : Dev nD) : (n : ℕ) → n < cfg0.N → Outs F
  | 0, hn => leftFirst m c ⟨0, hn⟩ rfl
  | n + 1, hn =>
    if h : (n + 1) % 4 = 0 then leftFirst m c ⟨n + 1, hn⟩ h
    else leftNext m c ⟨n + 1, hn⟩ h (left c n (Nat.lt_of_succ_lt hn))

theorem left_first (c : Dev nD) (t : Fin cfg0.N) (h : t.val % 4 = 0) : left m c t.val t.isLt = leftFirst m c t h := by
  obtain ⟨n, hn⟩ := t
  cases n with
  | zero => rfl
  | succ n => exact dif_pos h

/-- What the point before `t` left. -/
abbrev leftBefore (c : Dev nD) (t : Fin cfg0.N) : Outs F := left m c (t.val - 1) (Nat.lt_of_le_of_lt (Nat.sub_le _ _) t.isLt)

theorem left_next (c : Dev nD) (t : Fin cfg0.N) (h : ¬t.val % 4 = 0) : left m c t.val t.isLt = leftNext m c t h (leftBefore m c t) := by
  obtain ⟨n, hn⟩ := t
  cases n with
  | zero => exact absurd (Nat.zero_mod 4) h
  | succ n => exact dif_neg h

/-! ## The pieces cover -/

theorem covFirst8 (c : Dev nD) (t : Fin cfg0.N) (h : t.val % 4 = 0) (y : S512x256.Idx) : ∃ p ∈ (ranFirst m c t h).1, y ∈ p.1.set :=
  View.cover_of_tiledL (ranFirst m c t h).1 S128x256.size (by sl_kernel_rfl) y
theorem covNext8 (c : Dev nD) (t : Fin cfg0.N) (h : ¬t.val % 4 = 0) (y11 : Vec F S2048x256 .f32) (y12 : Vec F S2048x256 .f32) (y13 : Vec F S1x8x128 .f32) (y : S512x256.Idx) :
    ∃ p ∈ (ranNext m c t h y11 y12 y13).1, y ∈ p.1.set :=
  View.cover_of_tiledL (ranNext m c t h y11 y12 y13).1 S128x256.size (by sl_kernel_rfl) y
theorem covFirst9 (c : Dev nD) (t : Fin cfg0.N) (h : t.val % 4 = 0) (y : S2048x256.Idx) : ∃ p ∈ (ranFirst m c t h).2.1, y ∈ p.1.set :=
  View.cover_of_wholeMem _ (by unfold ranFirst runFirst; sl_whole_mem) y
theorem covNext9 (c : Dev nD) (t : Fin cfg0.N) (h : ¬t.val % 4 = 0) (y11 : Vec F S2048x256 .f32) (y12 : Vec F S2048x256 .f32) (y13 : Vec F S1x8x128 .f32) (y : S2048x256.Idx) :
    ∃ p ∈ (ranNext m c t h y11 y12 y13).2.1, y ∈ p.1.set :=
  View.cover_of_wholeMem _ (by unfold ranNext runNext; sl_whole_mem) y
theorem covFirst10 (c : Dev nD) (t : Fin cfg0.N) (h : t.val % 4 = 0) (y : S2048x256.Idx) : ∃ p ∈ (ranFirst m c t h).2.2.1, y ∈ p.1.set :=
  View.cover_of_wholeMem _ (by unfold ranFirst runFirst; sl_whole_mem) y
theorem covNext10 (c : Dev nD) (t : Fin cfg0.N) (h : ¬t.val % 4 = 0) (y11 : Vec F S2048x256 .f32) (y12 : Vec F S2048x256 .f32) (y13 : Vec F S1x8x128 .f32) (y : S2048x256.Idx) :
    ∃ p ∈ (ranNext m c t h y11 y12 y13).2.2.1, y ∈ p.1.set :=
  View.cover_of_wholeMem _ (by unfold ranNext runNext; sl_whole_mem) y
theorem covFirst11 (c : Dev nD) (t : Fin cfg0.N) (h : t.val % 4 = 0) (y : S1x8x128.Idx) : ∃ p ∈ (ranFirst m c t h).2.2.2.1, y ∈ p.1.set :=
  View.cover_of_wholeMem _ (by unfold ranFirst runFirst; sl_whole_mem) y
theorem covNext11 (c : Dev nD) (t : Fin cfg0.N) (h : ¬t.val % 4 = 0) (y11 : Vec F S2048x256 .f32) (y12 : Vec F S2048x256 .f32) (y13 : Vec F S1x8x128 .f32) (y : S1x8x128.Idx) :
    ∃ p ∈ (ranNext m c t h y11 y12 y13).2.2.2.1, y ∈ p.1.set :=
  View.cover_of_wholeMem _ (by unfold ranNext runNext; sl_whole_mem) y

/-! ## The pipeline's data -/

/-- On core `c`: the arrays as the region finds them, each input's buffer at its block and the outputs' at `left`; the two
    arrays of keys and of values are each read through two windows, at half a share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (left m c t.val t.isLt).1
    | ⟨9, _⟩ => (left m c t.val t.isLt).2.1
    | ⟨10, _⟩ => (left m c t.val t.isLt).2.2.1
    | ⟨11, _⟩ => (left m c t.val t.isLt).2.2.2
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = (left m c t.val t.isLt).1 := by dsimp only [dats]
theorem after9 (c : Dev nD) (t : Fin cfg0.N) : (dats m 0 c).after 9 t = (left m c t.val t.isLt).2.1 := by dsimp only [dats]
theorem after10 (c : Dev nD) (t : Fin cfg0.N) : (dats m 0 c).after 10 t = (left m c t.val t.isLt).2.2.1 := by dsimp only [dats]
theorem after11 (c : Dev nD) (t : Fin cfg0.N) : (dats m 0 c).after 11 t = (left m c t.val t.isLt).2.2.2 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-! At a later point of a column a sum's buffer holds what the point before left: it is written back at the last point only. -/

theorem before9 (c : Dev nD) (t : Fin cfg0.N) (h : ¬t.val % 4 = 0) (d) : (dats m 0 c).before 9 t d = (leftBefore m c t).2.1 := by
  rw [Dat.before_out_kept _ 9 rfl t (by omega) (Bool.eq_false_iff.mpr fun e => by have := (flush0_9 _).mp e; dsimp only at this; omega)
    (fun _ => rfl) (fun _ _ => rfl)]
  dsimp only [dats]
theorem before10 (c : Dev nD) (t : Fin cfg0.N) (h : ¬t.val % 4 = 0) (d) : (dats m 0 c).before 10 t d = (leftBefore m c t).2.2.1 := by
  rw [Dat.before_out_kept _ 10 rfl t (by omega) (Bool.eq_false_iff.mpr fun e => by have := (flush0_10 _).mp e; dsimp only at this; omega)
    (fun _ => rfl) (fun _ _ => rfl)]
  dsimp only [dats]
theorem before11 (c : Dev nD) (t : Fin cfg0.N) (h : ¬t.val % 4 = 0) (d) : (dats m 0 c).before 11 t d = (leftBefore m c t).2.2.2 := by
  rw [Dat.before_out_kept _ 11 rfl t (by omega) (Bool.eq_false_iff.mpr fun e => by have := (flush0_11 _).mp e; dsimp only at this; omega)
    (fun _ => rfl) (fun _ _ => rfl)]
  dsimp only [dats]

/-! ## The body at a point -/

/-- What the body is called with. -/
def pre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d)))

/-- What it returns. -/
def post (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ owns (c : Thread nD τ) (stg9 t) fullShare ((dats m 0 c).after 9 t)
    ∗ owns (c : Thread nD τ) (stg10 t) fullShare ((dats m 0 c).after 10 t)
    ∗ owns (c : Thread nD τ) (stg11 t) fullShare ((dats m 0 c).after 11 t))

set_option maxHeartbeats 1600000 in
theorem sound (c : Dev nD) (t : Fin cfg0.N) :
    pre m c t ⊢ wp frame (wpE (defs₀ (F := F)) Variants.none c none) Set.univ (bodyAt0 t) (fun _ => post m c t) := by
  unfold pre post bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  by_cases h : t.val % 4 = 0
  · rw [left_first m c t h]
    unfold leftFirst; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((ranFirst m c t h).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    iintro ⟨H0, H1, H2, H3, H4, H5, H6, H7, ⟨%e8, H8⟩, ⟨%e9, H9⟩, ⟨%e10, H10⟩, ⟨%e11, H11⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_eq_canon _ _ _ (covFirst8 m c t h)
    isplitl [H9]
    · unfold owns; iexists _; isplitr
      swap; · iexact H9
      ipureintro; exact View.read_writes_eq_canon _ _ _ (covFirst9 m c t h)
    isplitl [H10]
    · unfold owns; iexists _; isplitr
      swap; · iexact H10
      ipureintro; exact View.read_writes_eq_canon _ _ _ (covFirst10 m c t h)
    unfold owns; iexists _; isplitr
    swap; · iexact H11
    ipureintro; exact View.read_writes_eq_canon _ _ _ (covFirst11 m c t h)
  · rw [left_next m c t h]
    simp only [before9 m c t h, before10 m c t h, before11 m c t h]
    unfold leftNext; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((ranNext m c t h (leftBefore m c t).2.1 (leftBefore m c t).2.2.1 (leftBefore m c t).2.2.2).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [H11]; · iexact H11
    iintro ⟨H0, H1, H2, H3, H4, H5, H6, H7, ⟨%e8, H8⟩, ⟨%e9, H9⟩, ⟨%e10, H10⟩, ⟨%e11, H11⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_eq_canon _ _ _ (covNext8 m c t h _ _ _)
    isplitl [H9]
    · unfold owns; iexists _; isplitr
      swap; · iexact H9
      ipureintro; exact View.read_writes_eq_canon _ _ _ (covNext9 m c t h _ _ _)
    isplitl [H10]
    · unfold owns; iexists _; isplitr
      swap; · iexact H10
      ipureintro; exact View.read_writes_eq_canon _ _ _ (covNext10 m c t h _ _ _)
    unfold owns; iexists _; isplitr
    swap; · iexact H11
    ipureintro; exact View.read_writes_eq_canon _ _ _ (covNext11 m c t h _ _ _)

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound m c t) rfl .rfl fun _ => .rfl

/-! ## The run and the frame -/

set_option backward.isDefEq.respectTransparency.types false in
/-- Every fair execution ends with the arrays at what the data compute and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiet m ρ)

/-- The arguments end unchanged and every counter at zero, at any carrier of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ) ∧ r.2.sem = fun _ => 0) :=
  θ_run_and (frame_of m ρ (dats m) (A_eq m) (run_main m ρ)) ((θ_run defs _ _).mono (fun _ h => h.2) (run_quiet m ρ))

end Cert.KAttnIdeal.Body

end
-- ==== Proof.AttnFrame.lean ====
module
public import proofs.«01_k».proof.Defs
public import proofs.«01_k».proof.Proof.Gen.KAttn
public import proofs.«01_k».proof.Proof.AttnBody
@[expose] public section

noncomputable section

namespace Cert.AttnFrame

open Idealize.ShloMosaic Idealize.ShloMosaic.TcCoe

/-- The frame's statement at the launched floats, over the program's idealized print. -/
def quiet : Prop := ∀ (m : (ℓ : Loc Cert.KAttnIdeal.nD Cert.KAttnIdeal.τ Cert.KAttnIdeal.sig) → Buf (Elt Bits) ℓ) (ρ : Dev Cert.KAttnIdeal.nD → PrngReg), True →
  θ_run (Cert.KAttnIdeal.defs (F := Bits)) (onTc (τ := Cert.KAttnIdeal.τ) (Cert.KAttnIdeal.main (F := Bits))) ⟨m, fun _ => 0, ρ⟩ (fun r => (∀ c : Dev Cert.KAttnIdeal.nD,
      r.2.mem ((c.tc : Thread Cert.KAttnIdeal.nD Cert.KAttnIdeal.τ).loc Cert.KAttnIdeal.main_arg0) = m ((c.tc : Thread Cert.KAttnIdeal.nD Cert.KAttnIdeal.τ).loc Cert.KAttnIdeal.main_arg0)
      ∧ r.2.mem ((c.tc : Thread Cert.KAttnIdeal.nD Cert.KAttnIdeal.τ).loc Cert.KAttnIdeal.main_arg1) = m ((c.tc : Thread Cert.KAttnIdeal.nD Cert.KAttnIdeal.τ).loc Cert.KAttnIdeal.main_arg1)
      ∧ r.2.mem ((c.tc : Thread Cert.KAttnIdeal.nD Cert.KAttnIdeal.τ).loc Cert.KAttnIdeal.main_arg2) = m ((c.tc : Thread Cert.KAttnIdeal.nD Cert.KAttnIdeal.τ).loc Cert.KAttnIdeal.main_arg2)
      ∧ r.2.mem ((c.tc : Thread Cert.KAttnIdeal.nD Cert.KAttnIdeal.τ).loc Cert.KAttnIdeal.main_arg3) = m ((c.tc : Thread Cert.KAttnIdeal.nD Cert.KAttnIdeal.τ).loc Cert.KAttnIdeal.main_arg3)
      ∧ r.2.mem ((c.tc : Thread Cert.KAttnIdeal.nD Cert.KAttnIdeal.τ).loc Cert.KAttnIdeal.main_arg4) = m ((c.tc : Thread Cert.KAttnIdeal.nD Cert.KAttnIdeal.τ).loc Cert.KAttnIdeal.main_arg4))
      ∧ r.2.sem = fun _ => 0)
/-- The two prints are one program. -/
theorem quiet_eq : Cert.quiescent_KAttn = quiet := by sl_kernel_rfl
/-- The frame of the launched program, off the one run. -/
theorem frame_kernel : Cert.quiescent_KAttn := quiet_eq.mpr fun m ρ _ => Cert.KAttnIdeal.Body.frame (F := Bits) m ρ

end Cert.AttnFrame

end
-- ==== Proof.AttnReal.lean ====
/- The backward pass of the sliding-window attention over the reals: what one block of 128 rows computes, and the four
   gradients put together from the blocks. -/
module

public import proofs.«01_k».proof.Proof.Reals

@[expose] public section

noncomputable section

open Idealize.ShloMosaic

namespace Cert.Attn

/-! ## Comparisons of small words -/

theorem sge_word {a b : ℕ} (ha : a < 2 ^ 31) (hb : b < 2 ^ 31) :
    IntOp.cmpi .sge (BitVec.ofNat 32 a) (BitVec.ofNat 32 b) = BitVec.ofBool (decide (b ≤ a)) := by
  simp only [IntOp.cmpi]
  congr 1
  rw [Bool.eq_iff_iff, decide_eq_true_iff, BitVec.sle_eq_decide, decide_eq_true_iff, BitVec.toInt_eq_toNat_of_lt, BitVec.toInt_eq_toNat_of_lt] <;>
    simp only [BitVec.toNat_ofNat] <;> omega

theorem slt_word {a b : ℕ} (ha : a < 2 ^ 31) (hb : b < 2 ^ 31) :
    IntOp.cmpi .slt (BitVec.ofNat 32 a) (BitVec.ofNat 32 b) = BitVec.ofBool (decide (a < b)) := by
  simp only [IntOp.cmpi]
  congr 1
  rw [Bool.eq_iff_iff, decide_eq_true_iff, BitVec.slt_eq_decide, decide_eq_true_iff, BitVec.toInt_eq_toNat_of_lt, BitVec.toInt_eq_toNat_of_lt] <;>
    simp only [BitVec.toNat_ofNat] <;> omega

theorem eq_word {a b : ℕ} (ha : a < 2 ^ 31) (hb : b < 2 ^ 31) :
    IntOp.cmpi .eq (BitVec.ofNat 32 a) (BitVec.ofNat 32 b) = BitVec.ofBool (decide (a = b)) := by
  simp only [IntOp.cmpi]
  congr 1
  rw [Bool.eq_iff_iff, beq_iff_eq, decide_eq_true_iff, ← BitVec.toNat_inj]
  simp only [BitVec.toNat_ofNat]
  omega

theorem and_bool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem select_bool {α : Type} (p : Prop) [Decidable p] (a b : α) :
    Scalar.select (BitVec.ofBool (decide p)) a b = if p then a else b := by
  by_cases hp : p <;> simp [hp, Scalar.select]

theorem word_eighth : Ideal.ofBits .f32 0x3E000000#32 = ((1 / 8 : ℝ) : EReal) := by
  simp [Ideal.ofBits, Ideal.ieee, -EReal.coe_mul]; norm_num

/-! ## One block -/

/-- What a block reads, as reals. -/
structure RealPart where
  q : Fin 128 → Fin 256 → ℝ
  d : Fin 128 → Fin 256 → ℝ
  k : Fin 256 → Fin 256 → ℝ
  v : Fin 256 → Fin 256 → ℝ
  a : Fin 512 → Fin 256 → ℝ
  s : Fin 512 → ℝ

/-- Row `i` of the head of lane `l` in a stack. -/
def headRow (l : Fin 256) (i : Fin 128) : Fin 512 := ⟨l.val / 64 * 128 + i.val, by omega⟩

/-- Row `i` of head `g` in a stack. -/
def sinkRow (g : Fin 4) (i : Fin 128) : Fin 512 := ⟨g.val * 128 + i.val, by omega⟩

/-- A sum over the rows of a stack in which only one head's rows count. -/
theorem sum_head (f : Fin 512 → ℝ) (x : Fin 128 → ℝ) (l : Fin 256) :
    (∑ r : Fin 512, f r * (if l.val / 64 = r.val / 128 then x ⟨r.val % 128, by omega⟩ else 0)) = ∑ i, f (headRow l i) * x i := by
  rw [← Fin.sum_mul_add_fin 4 128 fun r : Fin 512 => f r * (if l.val / 64 = r.val / 128 then x ⟨r.val % 128, by omega⟩ else 0),
    Finset.sum_eq_single (⟨l.val / 64, by omega⟩ : Fin 4)]
  · refine Finset.sum_congr rfl fun i _ => ?_
    rw [if_pos (by simp; omega)]
    congr 2
    exact Fin.ext (by simp [Nat.mod_eq_of_lt i.isLt])
  · intro g _ hg
    refine Finset.sum_eq_zero fun i _ => ?_
    rw [if_neg, mul_zero]
    intro h
    exact hg (Fin.ext (by simp at h ⊢; omega))
  · intro h
    exact absurd (Finset.mem_univ _) h

namespace RealPart

variable (R : RealPart)

/-- The cotangent of the weights: a head's cotangent row against the values on its lanes. -/
def cotW (r : Fin 512) (s : Fin 256) : ℝ := ∑ l : Fin 256, (if l.val / 64 = r.val / 128 then R.d ⟨r.val % 128, by omega⟩ l else 0) * R.v s l
def mean (r : Fin 512) : ℝ := ∑ s, R.a r s * R.cotW r s
def cotS (r : Fin 512) (s : Fin 256) : ℝ := R.a r s * (R.cotW r s - R.mean r) * (1 / 8)
def dq (i : Fin 128) (l : Fin 256) : ℝ := ∑ s, R.cotS (headRow l i) s * R.k s l
def dk (s l : Fin 256) : ℝ := ∑ i, R.cotS (headRow l i) s * R.q i l
def dv (s l : Fin 256) : ℝ := ∑ i, R.a (headRow l i) s * R.d i l
def sink (r : Fin 512) : ℝ := R.s r * R.mean r

end RealPart

/-- Two blocks that differ only in rows of keys and values of no weight have the same cotangents. -/
structure Agree (R R' : RealPart) : Prop where
  q : R.q = R'.q
  d : R.d = R'.d
  a : R.a = R'.a
  s : R.s = R'.s
  rows : ∀ s, (∀ r, R'.a r s = 0) ∨ (∀ l, R.k s l = R'.k s l) ∧ ∀ l, R.v s l = R'.v s l

namespace Agree

variable {R R' : RealPart} (h : Agree R R')

include h

theorem cot (r : Fin 512) (s : Fin 256) : R.a r s * R.cotW r s = R'.a r s * R'.cotW r s := by
  rcases h.rows s with e | ⟨_, e⟩
  · rw [h.a, e r, zero_mul, zero_mul]
  · simp only [RealPart.cotW, h.a, h.d, e]

theorem mean (r : Fin 512) : R.mean r = R'.mean r := Finset.sum_congr rfl fun s _ => h.cot r s

theorem cotS : R.cotS = R'.cotS := by
  funext r s
  simp only [RealPart.cotS, mul_sub, h.cot, h.mean]
  rw [h.a]

theorem dq : R.dq = R'.dq := by
  funext i l
  refine Finset.sum_congr rfl fun s _ => ?_
  rw [h.cotS]
  rcases h.rows s with e | ⟨e, _⟩
  · simp [RealPart.cotS, e]
  · rw [e]

theorem dk : R.dk = R'.dk := by
  funext s l
  simp only [RealPart.dk, h.cotS, h.q]

theorem dv : R.dv = R'.dv := by
  funext s l
  simp only [RealPart.dv, h.a, h.d]

theorem sink : R.sink = R'.sink := by
  funext r
  simp only [RealPart.sink, h.s, h.mean]

end Agree

/-! ## The whole sequence -/

/-- Row `i` of block `B`; lane `e` of head `g` of group `h`, and of the group's own head. -/
def row (B : Fin 16) (i : Fin 128) : Fin 2048 := ⟨B.val * 128 + i.val, by omega⟩
def lane (h g : Fin 4) (e : Fin 64) : Fin 1024 := ⟨h.val * 256 + g.val * 64 + e.val, by omega⟩
def own (h : Fin 4) (e : Fin 64) : Fin 256 := ⟨h.val * 64 + e.val, by omega⟩

/-- Row `s` of the window of block `B`: the block before and the block itself, zeros before the first. -/
def window (x : Fin 2048 → Fin 256 → ℝ) (B : Fin 16) (s : Fin 256) (h : Fin 4) (e : Fin 64) : ℝ :=
  if p : 128 ≤ B.val * 128 + s.val then x ⟨B.val * 128 + s.val - 128, by omega⟩ (own h e) else 0

/-- Query row `i` of block `B` sees row `s` of its window. -/
def Sees (B : Fin 16) (i : Fin 128) (s : Fin 256) : Prop := i.val < s.val ∧ s.val ≤ i.val + 128 ∧ 128 ≤ B.val * 128 + s.val

instance seesDecidable (B : Fin 16) (i : Fin 128) (s : Fin 256) : Decidable (Sees B i s) :=
  inferInstanceAs (Decidable (i.val < s.val ∧ s.val ≤ i.val + 128 ∧ 128 ≤ B.val * 128 + s.val))

/-- What the backward pass works from: queries, the output's cotangent, keys and values, and the exponentials of the
    scores and of the sinks. -/
structure Data where
  q : Fin 2048 → Fin 1024 → ℝ
  d : Fin 2048 → Fin 1024 → ℝ
  k : Fin 2048 → Fin 256 → ℝ
  v : Fin 2048 → Fin 256 → ℝ
  e : Fin 16 → Fin 4 → Fin 4 → Fin 128 → Fin 256 → ℝ
  σ : Fin 16 → Fin 4 → Fin 4 → Fin 128 → ℝ
  e_nonneg : ∀ B h g i s, 0 ≤ e B h g i s
  e_masked : ∀ B h g i s, ¬Sees B i s → e B h g i s = 0
  σ_pos : ∀ B h g i, 0 < σ B h g i

namespace Data

variable (D : Data)

/-- The softmax's denominator, the weights and the sink's weight. -/
def den (B : Fin 16) (h g : Fin 4) (i : Fin 128) : ℝ := (∑ s, D.e B h g i s) + D.σ B h g i
def weight (B : Fin 16) (h g : Fin 4) (i : Fin 128) (s : Fin 256) : ℝ := D.e B h g i s / D.den B h g i
def sinkWeight (B : Fin 16) (h g : Fin 4) (i : Fin 128) : ℝ := D.σ B h g i / D.den B h g i

theorem den_pos (B : Fin 16) (h g : Fin 4) (i : Fin 128) : 0 < D.den B h g i :=
  add_pos_of_nonneg_of_pos (Finset.sum_nonneg fun s _ => D.e_nonneg B h g i s) (D.σ_pos B h g i)

/-- The head of a row of a stack, and the row in its head. -/
def headOf (r : Fin 512) : Fin 4 := ⟨r.val / 128, by omega⟩
def rowOf (r : Fin 512) : Fin 128 := ⟨r.val % 128, by omega⟩

/-- Block `B` for the heads of group `h`, its window of keys and values given. -/
def part (h : Fin 4) (B : Fin 16) (k v : Fin 256 → Fin 256 → ℝ) : RealPart where
  q i l := D.q (row B i) ⟨h.val * 256 + l.val, by omega⟩
  d i l := D.d (row B i) ⟨h.val * 256 + l.val, by omega⟩
  k := k
  v := v
  a r s := D.weight B h (headOf r) (rowOf r) s
  s r := D.sinkWeight B h (headOf r) (rowOf r)

def lane64 (l : Fin 256) : Fin 64 := ⟨l.val % 64, by omega⟩

/-- The block with zeros before the first. -/
def block (h : Fin 4) (B : Fin 16) : RealPart :=
  D.part h B (fun s l => window D.k B s h (lane64 l)) fun s l => window D.v B s h (lane64 l)

/-- A row of the window where the first block has itself for the block before. -/
def near (x : Fin 2048 → Fin 256 → ℝ) (B : Fin 16) (s : Fin 256) (h : Fin 4) (e : Fin 64) : ℝ :=
  x ⟨if s.val < 128 then (B.val - 1) * 128 + s.val else B.val * 128 + s.val - 128, by split <;> omega⟩ (own h e)

/-- The block with such a window. -/
def nearBlock (h : Fin 4) (B : Fin 16) : RealPart :=
  D.part h B (fun s l => near D.k B s h (lane64 l)) fun s l => near D.v B s h (lane64 l)

theorem near_eq {x : Fin 2048 → Fin 256 → ℝ} {B : Fin 16} {s : Fin 256} (p : 128 ≤ B.val * 128 + s.val) (h : Fin 4) (e : Fin 64) :
    near x B s h e = window x B s h e := by
  rw [near, window, dif_pos p]
  exact congrArg (x · (own h e)) (Fin.ext (by simp only; split <;> omega))

theorem weight_masked {B : Fin 16} {s : Fin 256} (p : ¬128 ≤ B.val * 128 + s.val) (h g : Fin 4) (i : Fin 128) : D.weight B h g i s = 0 := by
  rw [weight, D.e_masked B h g i s fun q => p q.2.2, zero_div]

theorem agree (h : Fin 4) (B : Fin 16) : Agree (D.nearBlock h B) (D.block h B) where
  q := rfl
  d := rfl
  a := rfl
  s := rfl
  rows s := by
    by_cases p : 128 ≤ B.val * 128 + s.val
    · exact .inr ⟨fun l => near_eq p h _, fun l => near_eq p h _⟩
    · exact .inl fun r => D.weight_masked p h _ _

/-- The block of a row, the row in it; the group of a lane, the lane in it. -/
def blockOf (t : Fin 2048) : Fin 16 := ⟨t.val / 128, by omega⟩
def inBlock (t : Fin 2048) : Fin 128 := ⟨t.val % 128, by omega⟩
def groupOf (c : Fin 1024) : Fin 4 := ⟨c.val / 256, by omega⟩
def inGroup (c : Fin 1024) : Fin 256 := ⟨c.val % 256, by omega⟩

/-- The second half of a window, and the first. -/
def upper (i : Fin 128) : Fin 256 := ⟨128 + i.val, by omega⟩
def lower (i : Fin 128) : Fin 256 := ⟨i.val, by omega⟩

/-- A row's own block's part and the part of the block after. -/
def both (f : Fin 16 → Fin 256 → ℝ) (t : Fin 2048) : ℝ :=
  f (blockOf t) (upper (inBlock t)) + if p : t.val / 128 + 1 < 16 then f ⟨t.val / 128 + 1, p⟩ (lower (inBlock t)) else 0

/-- The four gradients. -/
def dq (t : Fin 2048) (c : Fin 1024) : ℝ := (D.block (groupOf c) (blockOf t)).dq (inBlock t) (inGroup c)
def dk (t : Fin 2048) (c : Fin 1024) : ℝ := both (fun B s => (D.block (groupOf c) B).dk s (inGroup c)) t
def dv (t : Fin 2048) (c : Fin 1024) : ℝ := both (fun B s => (D.block (groupOf c) B).dv s (inGroup c)) t
def ds (h g : Fin 4) : ℝ := -∑ B, ∑ i, (D.block h B).sink (sinkRow g i)

end Data

/-! ## A sum over the lanes of a head -/

theorem sum_lanes (f : Fin 256 → ℝ) (g : Fin 4) :
    (∑ l : Fin 256, if l.val / 64 = g.val then f l else 0) = ∑ e : Fin 64, f ⟨g.val * 64 + e.val, by omega⟩ := by
  rw [← Fin.sum_mul_add_fin 4 64 fun l : Fin 256 => if l.val / 64 = g.val then f l else 0, Finset.sum_eq_single g]
  · exact Finset.sum_congr rfl fun e _ => if_pos (by simp; omega)
  · intro g' _ hg
    refine Finset.sum_eq_zero fun e _ => if_neg fun h => hg (Fin.ext ?_)
    simp at h; omega
  · exact fun h => absurd (Finset.mem_univ _) h

/-- Lane `e` of head `g` in its group. -/
def headLane (g : Fin 4) (e : Fin 64) : Fin 256 := ⟨g.val * 64 + e.val, by omega⟩

theorem headRow_headLane (g : Fin 4) (e : Fin 64) (i : Fin 128) : headRow (headLane g e) i = sinkRow g i :=
  Fin.ext (by simp [headRow, headLane, sinkRow]; omega)

end Cert.Attn
-- ==== Proof.AttnFwd.lean ====
/- The forward lines of the attention reference on real arrays: its windows, its scores, and the exponentials of the softmax. -/
module

public import proofs.«01_k».proof.Proof.Gen.RAttnIdeal.Read
public import proofs.«01_k».proof.Proof.AttnReal
public import Idealize.ShloMosaic.Lib.Pointwise

@[expose] public section

set_option maxRecDepth 16384

noncomputable section

open Idealize.ShloMosaic Idealize.SL.Sem

namespace Cert.AttnFwd

open Cert.RAttnIdeal Cert.RAttnIdeal.Read Cert.Reals Cert.Attn

/-- A matrix of reals as an ideal array. -/
abbrev mat {m n : ℕ} (x : Fin m → Fin n → ℝ) : FVec Ideal ⟨2, ![m, n]⟩ .f32 := fun i => (x (i 0) (i 1) : EReal)

variable (q : Fin 2048 → Fin 1024 → ℝ) (k : Fin 2048 → Fin 256 → ℝ) (w : Fin 16 → ℝ)

/-- The queries by block, row, group, head and lane. -/
theorem queries : val_main_v5 (F := Ideal) (mat q) = fun i => (q (row (i 0) (i 1)) (lane (i 2) (i 3) (i 4)) : EReal) := by
  funext i
  rw [val_main_v5_apply]
  have h0 : (i 0).val < 16 := (i 0).isLt; have h1 : (i 1).val < 128 := (i 1).isLt; have h2 : (i 2).val < 4 := (i 2).isLt
  have h3 : (i 3).val < 4 := (i 3).isLt; have h4 : (i 4).val < 64 := (i 4).isLt
  refine congrArg Real.toEReal (congrArg₂ q (Fin.ext ?_) (Fin.ext ?_)) <;> simp only [row, lane] <;> omega

/-- The copies of the keys by block. -/
theorem copies : val_main_v6 (F := Ideal) (mat k) = fun i => (k (row (i 0) (i 1)) (own (i 2) (i 4)) : EReal) := by
  funext i
  rw [val_main_v6_apply, val_main_v1_apply, val_main_v0_apply]
  have h0 : (i 0).val < 16 := (i 0).isLt; have h1 : (i 1).val < 128 := (i 1).isLt; have h2 : (i 2).val < 4 := (i 2).isLt
  have h3 : (i 3).val < 4 := (i 3).isLt; have h4 : (i 4).val < 64 := (i 4).isLt
  refine congrArg Real.toEReal (congrArg₂ k (Fin.ext ?_) (Fin.ext ?_)) <;> simp only [row, own] <;> omega

theorem windows : val_main_v12 (F := Ideal) (mat k) = fun i => (window k (i 0) (i 1) (i 2) (i 4) : EReal) := by
  have e := congrFun (copies k)
  funext i
  idx_vars i
  pointwise [val_main_v12, val_main_v10, val_main_v8, val_main_v9, val_main_cst]
  have h0 := i0.isLt; have h1 := i1.isLt
  by_cases p : 128 ≤ i0.val * 128 + i1.val
  · have w : (window k i0 i1 i2 i4 : EReal) = (k ⟨i0.val * 128 + i1.val - 128, by omega⟩ (own i2 i4) : EReal) :=
      congrArg Real.toEReal (dif_pos p)
    rw [w]
    by_cases c : i1.val < 128
    · rw [dif_pos c, dif_neg (by omega)]
      refine (e _).trans (congrArg (fun t => (k t (own i2 i4) : EReal)) (Fin.ext ?_))
      simp only [row, ix5_0, ix5_1]; omega
    · rw [dif_neg c]
      refine (e _).trans (congrArg (fun t => (k t (own i2 i4) : EReal)) (Fin.ext ?_))
      simp only [row, ix5_0, ix5_1]; omega
  · rw [dif_pos (by omega), dif_pos (by omega)]
    exact (congrArg Real.toEReal (dif_neg p : window k i0 i1 i2 i4 = 0)).symm

/-- The score of a query row and a row of its window. -/
def score (B : Fin 16) (h g : Fin 4) (i : Fin 128) (s : Fin 256) : ℝ :=
  (∑ e, q (row B i) (lane h g e) * window k B s h e) * (1 / 8)

theorem scores : val_main_v38 (F := Ideal) (mat q) (mat k) = fun i => (score q k (i 0) (i 1) (i 2) (i 3) (i 4) : EReal) := by
  funext i
  rw [val_main_v38_apply, val_main_v36_apply, queries, windows, val_main_v37_apply, val_main_cst_5_apply]
  show FloatOps.mulf (F := Ideal) _ (Ideal.ofBits .f32 0x3E000000#32) = _
  rw [word_eighth]
  simp only [score, ← EReal.coe_mul, ← coe_sum]
  exact (EReal.coe_mul _ _).symm

theorem sge_toInt (x y : BitVec 32) : IntOp.cmpi .sge x y = BitVec.ofBool (decide (y.toInt ≤ x.toInt)) := by
  simp only [IntOp.cmpi, BitVec.sle_eq_decide]

theorem slt_toInt (x y : BitVec 32) : IntOp.cmpi .slt x y = BitVec.ofBool (decide (x.toInt < y.toInt)) := by
  simp only [IntOp.cmpi, BitVec.slt_eq_decide]

theorem toInt_nat {n : ℕ} (h : n < 2 ^ 31) : (BitVec.ofNat 32 n).toInt = n := by
  rw [BitVec.toInt_eq_toNat_of_lt] <;> simp only [BitVec.toNat_ofNat] <;> omega

theorem word_bot : Ideal.ofBits .f32 0xFF800000#32 = ⊥ := by
  simp [Ideal.ofBits, Ideal.ieee]

/-- The mask says which rows of its window a query row sees. -/
theorem mask (B : Fin 16) (h g : Fin 4) (i : Fin 128) (s : Fin 256) :
    val_main_v54 (F := Ideal) (ix5 B h g i s) = BitVec.ofBool (decide (Sees B i s)) := by
  pointwise [val_main_v54, val_main_v53, val_main_v52, val_main_v51, val_main_v50, val_main_v49, val_main_v48, val_main_v47, val_main_v46, val_main_v45, val_main_v44, val_main_v43, val_main_v42, val_main_v41, val_main_v40, val_main_v39, val_main_v33, val_main_v32, val_main_v31, val_main_v30, val_main_v29, val_main_v28, val_main_v27, val_main_v26, val_main_v25, val_main_v24, val_main_v23, val_main_v22, val_main_v21, val_main_v20, val_main_v4, val_main_c, val_main_c_3, val_main_c_4, val_main_c_6, val_main_c_7, val_main_c_8]
  rw [sge_toInt, slt_toInt, sge_toInt, and_bool, and_bool]
  have h0 := B.isLt; have h1 := i.isLt; have h2 := s.isLt
  congr 1
  rw [decide_eq_decide]
  simp only [IntOp.subi, IntOp.addi, IntOp.muli, BitVec.toInt_sub, BitVec.toInt_add, BitVec.toInt_mul, toInt_nat (show i.val < 2 ^ 31 by omega),
    toInt_nat (show s.val < 2 ^ 31 by omega), toInt_nat (show B.val < 2 ^ 31 by omega), Sees]
  simp only [BitVec.reduceToInt, Int.bmod_def]
  norm_num
  omega

/-- The masked scores: no score where the row is not seen. -/
theorem masked_scores (B : Fin 16) (h g : Fin 4) (i : Fin 128) (s : Fin 256) : val_main_v57 (F := Ideal) (mat q) (mat k) (ix5 B h g i s)
    = if Sees B i s then (score q k B h g i s : EReal) else ⊥ := by
  rw [val_main_v57_apply, mask, scores, val_main_v56_apply, val_main_v55_apply, val_main_cst_9_apply, select_bool]
  show (if Sees B i s then _ else Ideal.ofBits .f32 0xFF800000#32) = _
  rw [word_bot]
  rfl

theorem foldl_max_lt {ι : Type} (l : List ι) (f : ι → EReal) (a : EReal) (ha : a < ⊤) (hf : ∀ i, f i < ⊤) :
    l.foldl (fun r n => max r (f n)) a < ⊤ := by
  induction l generalizing a with
  | nil => exact ha
  | cons x l ih => exact ih _ (max_lt ha (hf x))

/-- The greatest score of a row is not infinite. -/
theorem top_lt (j : S16x4x4x128.Idx) : val_main_v59 (F := Ideal) (mat q) (mat k) j < ⊤ := by
  unfold val_main_v59 Host.reduce
  refine foldl_max_lt _ (fun n => val_main_v57 (F := Ideal) (mat q) (mat k) (Shape.rowMajor _ |>.symm n)) _ ?_ fun n => ?_
  · exact lt_of_eq_of_lt word_bot bot_lt_top
  · generalize (Shape.rowMajor S16x4x4x128x256).symm n = i
    idx_vars i
    rw [masked_scores]
    split
    · exact EReal.coe_lt_top _
    · exact bot_lt_top

/-- The sinks of reals as an ideal array. -/
abbrev vec (w : Fin 16 → ℝ) : FVec Ideal ⟨1, ![16]⟩ .f32 := fun i => (w (i 0) : EReal)

/-- The sink of head `g` of group `h`. -/
def sinkOf (h g : Fin 4) : ℝ := w ⟨h.val * 4 + g.val, by omega⟩

theorem sinks : val_main_v66 (F := Ideal) (vec w) = fun i => (sinkOf w (i 1) (i 2) : EReal) := by
  funext i
  rw [val_main_v66_apply, val_main_v65_apply, val_main_v35_apply, val_main_v34_apply]
  exact congrArg (fun t => (w t : EReal)) (Fin.ext rfl)

theorem sinks' : val_main_v91 (F := Ideal) (vec w) = fun i => (sinkOf w (i 1) (i 2) : EReal) := sinks w

/-- What the softmax of a row subtracts: the greatest of its scores and its sink. -/
def top (B : Fin 16) (h g : Fin 4) (i : Fin 128) : ℝ := (val_main_v67 (F := Ideal) (mat q) (mat k) (vec w) (ix4 B h g i)).toReal

theorem tops : val_main_v67 (F := Ideal) (mat q) (mat k) (vec w) = fun i => (top q k w (i 0) (i 1) (i 2) (i 3) : EReal) := by
  funext i
  idx_vars i
  refine (EReal.coe_toReal (ne_of_lt ?_) (ne_of_gt ?_)).symm
  · rw [val_main_v67_apply, sinks]
    exact max_lt (top_lt q k _) (EReal.coe_lt_top _)
  · rw [val_main_v67_apply, sinks]
    exact lt_max_of_lt_right (EReal.bot_lt_coe _)

/-- The exponentials of a row. -/
def expo (B : Fin 16) (h g : Fin 4) (i : Fin 128) (s : Fin 256) : ℝ :=
  if Sees B i s then Real.exp (score q k B h g i s - top q k w B h g i) else 0
def sinkExpo (B : Fin 16) (h g : Fin 4) (i : Fin 128) : ℝ := Real.exp (sinkOf w h g - top q k w B h g i)

theorem expos : val_main_v89 (F := Ideal) (mat q) (mat k) (vec w) = fun i => (expo q k w (i 0) (i 1) (i 2) (i 3) (i 4) : EReal) := by
  funext i
  idx_vars i
  rw [val_main_v89_apply, val_main_v88_apply, val_main_v87_apply, val_main_v86_apply, tops, masked_scores]
  show Ideal.exp (_ - _) = ((expo q k w _ _ _ _ _ : ℝ) : EReal)
  unfold expo
  split
  · rfl
  · exact Ideal.exp_bot

theorem sinkExpos : val_main_v93 (F := Ideal) (mat q) (mat k) (vec w) = fun i => (sinkExpo q k w (i 0) (i 1) (i 2) (i 3) : EReal) := by
  funext i
  rw [val_main_v93_apply, val_main_v92_apply, tops, sinks']
  rfl

variable (v : Fin 2048 → Fin 256 → ℝ) (d : Fin 2048 → Fin 1024 → ℝ)

/-- What the backward pass works from, of these arrays. -/
def data : Data where
  q := q
  d := d
  k := k
  v := v
  e := expo q k w
  σ := sinkExpo q k w
  e_nonneg B h g i s := by unfold expo; split <;> positivity
  e_masked B h g i s p := if_neg p
  σ_pos B h g i := Real.exp_pos _

theorem dens : val_main_v95 (F := Ideal) (mat q) (mat k) (vec w) = fun i => ((data q k w v d).den (i 0) (i 1) (i 2) (i 3) : EReal) := by
  funext i
  rw [val_main_v95_apply, val_main_v94_apply, expos, sinkExpos, val_main_cst_19_apply]
  show (Ideal.ofBits .f32 0x00000000#32 + _ : EReal) + _ = _
  rw [Ideal.ofBits_zero_f32, zero_add, ← coe_sum, ← EReal.coe_add]
  rfl

theorem weights : val_main_v98 (F := Ideal) (mat q) (mat k) (vec w)
    = fun i => ((data q k w v d).weight (i 0) (i 1) (i 2) (i 3) (i 4) : EReal) := by
  funext i
  rw [val_main_v98_apply, val_main_v97_apply, val_main_v96_apply, dens q k w v d, expos]
  exact div_real ((data q k w v d).den_pos _ _ _ _).ne' _

theorem sinkWeights : val_main_v102 (F := Ideal) (mat q) (mat k) (vec w)
    = fun i => ((data q k w v d).sinkWeight (i 0) (i 1) (i 2) (i 3) : EReal) := by
  funext i
  rw [val_main_v102_apply, dens q k w v d, sinkExpos]
  exact div_real ((data q k w v d).den_pos _ _ _ _).ne' _

end Cert.AttnFwd
-- ==== Proof.AttnHost.lean ====
/- The arrays the attention backward kernel finds, its arguments real arrays. -/
module

public import proofs.«01_k».proof.Proof.AttnFwd
public import proofs.«01_k».proof.Proof.Gen.KAttnIdeal.Frame
public import Idealize.ShloMosaic.Lib.Pipeline.ValueKit
public import Idealize.ShloMosaic.Lib.Pointwise

@[expose] public section

set_option maxRecDepth 65536

noncomputable section

open Idealize.ShloMosaic Idealize.ShloMosaic.TcCoe Idealize.ShloMosaic.Tactic Idealize.SL.Sem

namespace Cert.AttnHost

open Cert.KAttnIdeal Cert.KAttnIdeal.Gen Cert.Reals Cert.Attn Cert.AttnFwd

variable {F : FTy → Type} [FloatOps F] (m : (ℓ : Loc nD τ sig) → Buf (Elt F) ℓ) (c : Dev nD)

theorem weights_read : V m c main_v79 = truncf .bf16 (shapeCast S4x16x512x256 (transpose S4x16x4x128x256 [1, 0, 2, 3, 4]
    (Cert.RAttnIdeal.Read.val_main_v98 (F := F) (m (c.tc.loc main_arg0)) (m (c.tc.loc main_arg1)) (m (c.tc.loc main_arg3)))
    transposes_S16x4x4x128x256_S4x16x4x128x256_1_0_2_3_4) shapeCasts_S4x16x4x128x256_S4x16x512x256) bitsLt_bf16_f32 := by
  entry_read
  sl_kernel_rfl

theorem sinks_read : V m c main_v80 = truncf .bf16 (broadcastInDim S4x16x512x128 ![0, 1, 2, 3] bcast_S4x16x512x1_S4x16x512x128_0_1_2_3
    (shapeCast S4x16x512x1 (transpose S4x16x4x128 [1, 0, 2, 3]
      (Cert.RAttnIdeal.Read.val_main_v102 (F := F) (m (c.tc.loc main_arg0)) (m (c.tc.loc main_arg1)) (m (c.tc.loc main_arg3)))
      transposes_S16x4x4x128_S4x16x4x128_1_0_2_3) shapeCasts_S4x16x4x128_S4x16x512x1)) bitsLt_bf16_f32 := by
  entry_read
  sl_kernel_rfl

theorem keys_read : V m c main_v76 = truncf .bf16 (shapeCast S2048x1024
    (Cert.RAttnIdeal.Read.val_main_v1 (F := F) (m (c.tc.loc main_arg1))) shapeCasts_S2048x4x4x64_S2048x1024) bitsLt_bf16_f32 := by
  entry_read
  sl_kernel_rfl

theorem values_read : V m c main_v78 = truncf .bf16 (shapeCast S2048x1024
    (Cert.RAttnIdeal.Read.val_main_v3 (F := F) (m (c.tc.loc main_arg2))) shapeCasts_S2048x4x4x64_S2048x1024) bitsLt_bf16_f32 := by
  entry_read
  sl_kernel_rfl

section

variable (m : (ℓ : Loc nD τ sig) → Buf (Elt Ideal) ℓ) (c : Dev nD)
  (q : Fin 2048 → Fin 1024 → ℝ) (k v : Fin 2048 → Fin 256 → ℝ) (w : Fin 16 → ℝ) (d : Fin 2048 → Fin 1024 → ℝ)

/-- The arguments are these reals. -/
structure Args : Prop where
  q : m ((c : Thread nD τ).loc main_arg0) = mat q
  k : m ((c : Thread nD τ).loc main_arg1) = mat k
  v : m ((c : Thread nD τ).loc main_arg2) = mat v
  w : m ((c : Thread nD τ).loc main_arg3) = vec w
  d : m ((c : Thread nD τ).loc main_arg4) = mat d

variable {m c q k v w d} (h : Args m c q k v w d)

include h

theorem queries_at : V m c main_v73 = fun i : S2048x1024.Idx => (q (i 0) (i 1) : EReal) := by
  entry_read
  rw [h.q]
  rfl

theorem outs_at : V m c main_v74 = fun i : S2048x1024.Idx => (d (i 0) (i 1) : EReal) := by
  entry_read
  rw [h.d]
  rfl

/-- The group's own head's lane of a column. -/
def shared (l : Fin 1024) : Fin 256 := Cert.Attn.own ⟨l.val / 256, by omega⟩ ⟨l.val % 64, by omega⟩

theorem keys_at : V m c main_v76 = fun i : S2048x1024.Idx => (k (i 0) (shared (i 1)) : EReal) := by
  rw [keys_read, h.k]
  funext i
  idx_vars i
  pointwise [Cert.RAttnIdeal.Read.val_main_v1, Cert.RAttnIdeal.Read.val_main_v0]
  rfl

theorem values_at : V m c main_v78 = fun i : S2048x1024.Idx => (v (i 0) (shared (i 1)) : EReal) := by
  rw [values_read, h.v]
  funext i
  idx_vars i
  pointwise [Cert.RAttnIdeal.Read.val_main_v3, Cert.RAttnIdeal.Read.val_main_v2]
  rfl

theorem weights_at : V m c main_v79 = fun i : S4x16x512x256.Idx =>
    ((data q k w v d).weight (i 1) (i 0) (Data.headOf (i 2)) (Data.rowOf (i 2)) (i 3) : EReal) := by
  rw [weights_read, h.q, h.k, h.w, weights q k w v d]
  funext i
  idx_vars i
  pointwise
  rfl

theorem sinks_at : V m c main_v80 = fun i : S4x16x512x128.Idx =>
    ((data q k w v d).sinkWeight (i 1) (i 0) (Data.headOf (i 2)) (Data.rowOf (i 2)) : EReal) := by
  rw [sinks_read, h.q, h.k, h.w, sinkWeights q k w v d]
  funext i
  idx_vars i
  pointwise
  rfl

end

end Cert.AttnHost
-- ==== Proof.AttnBlock.lean ====
module

public import proofs.«01_k».proof.Proof.AttnRun
public import Idealize.ShloMosaic.Lib.WindowSumWrites

@[expose] public section

set_option maxRecDepth 65536

noncomputable section

namespace Cert.KAttnIdeal.Body

open Cert.KAttnIdeal Cert.KAttnIdeal.Gen
open Idealize.ShloMosaic Idealize.ShloMosaic.TcCoe Idealize.ShloMosaic.Tactic
open Idealize.SL Idealize.SL.ProofMode

variable {F : FTy → Type} [FloatOps F]

/-! ## One block of 128 rows

The body treats four blocks one after another, each by the same steps; here are the steps. -/

/-- The lanes from `lo` up to `hi`, on 128 rows. -/
def band (lo hi : BitVec 32) : IVec S128x256 1 :=
  broadcastTo S128x256 (shapeCast S1x256 (andi (cmpi .sge (iota .tc S1x256 32 [1] iota_S1x256_d1_w32) (broadcast S1x256 lo))
    (cmpi .slt (iota .tc S1x256 32 [1] iota_S1x256_d1_w32) (broadcast S1x256 hi))) shapeCasts_S1x256_S1x256) broadcasts_S1x256_S128x256

/-- A block of rows with the other heads' lanes cleared. -/
def only (lo hi : BitVec 32) (x : Vec F S128x256 .bf16) : FVec F S128x256 .bf16 :=
  select (band lo hi) (shapeCast S128x256 x shapeCasts_S128x256_S128x256) (broadcast S128x256 (Scalar.sitofp .bf16 0#32))

/-- The four heads' rows, one head below another. -/
def stacked (x : Vec F S128x256 .bf16) : FVec F S512x256 .bf16 :=
  concatenate S512x256 0 [⟨S128x256, only 0#32 64#32 x⟩, ⟨S128x256, only 64#32 128#32 x⟩, ⟨S128x256, only 128#32 192#32 x⟩, ⟨S128x256, only 192#32 256#32 x⟩]
    concatenates_S128x256_S128x256_S128x256_S128x256_S512x256_d0

/-- The block before and the block itself. -/
def joined (x y : Vec F S128x256 .bf16) : FVec F S256x256 .bf16 :=
  concatenate S256x256 0 [⟨S128x256, shapeCast S128x256 x shapeCasts_S128x256_S128x256⟩, ⟨S128x256, shapeCast S128x256 y shapeCasts_S128x256_S128x256⟩]
    concatenates_S128x256_S128x256_S256x256_d0

/-- The weights of a block. -/
def weights (a : Vec F S1x1x512x256 .bf16) : FVec F S512x256 .bf16 := shapeCast S512x256 a shapeCasts_S1x1x512x256_S512x256

/-- The cotangent of the weights. -/
def cotWeights (d : FVec F S512x256 .bf16) (v : FVec F S256x256 .bf16) : FVec F S512x256 .f32 :=
  matmul dot_S512x256_S256x256_S512x256_1_1_0_0_n_n none d v (constant S512x256 .f32 0x00000000#32)

/-- Its mean under the weights, one number a row. -/
def mean (a : FVec F S512x256 .bf16) (p : FVec F S512x256 .f32) : FVec F S512x1 .f32 :=
  shapeCast S512x1 (multiReduction .add [1] S512 (mulf (extf .f32 a bitsLt_bf16_f32) p) 0x00000000#32 reduces_S512x256_S512 (.inl rfl) rfl)
    shapeCasts_S512_S512x1

/-- The cotangent of the scaled scores. -/
def cotScores (a : FVec F S512x256 .bf16) (p : FVec F S512x256 .f32) : FVec F S512x256 .bf16 :=
  truncf .bf16 (mulf (mulf (extf .f32 a bitsLt_bf16_f32) (subf p (broadcastTo S512x256 (mean a p) broadcasts_S512x1_S512x256)))
    (broadcast S512x256 (Scalar.ofBits .f32 0x3E000000#32))) bitsLt_bf16_f32

/-- The sink's weight times the mean. -/
def sinkPart (s : Vec F S1x1x512x128 .bf16) (a : FVec F S512x256 .bf16) (p : FVec F S512x256 .f32) : FVec F S512x1 .f32 :=
  mulf (extf .f32 (extractStridedSlice S512x1 ![0, 0] (shapeCast S512x128 s shapeCasts_S1x1x512x128_S512x128) slices_S512x128_o0_0_S512x1) bitsLt_bf16_f32)
    (mean a p)

/-- Row 0, lane `g` of the sinks' tile, less the sum of a column. -/
def sinkStep (g : BitVec 32) (z : FVec F S128x1 .f32) (acc : Vec F S1x8x128 .f32) : FVec F S1x8x128 .f32 :=
  shapeCast S1x8x128 (addf (shapeCast S8x128 acc shapeCasts_S1x8x128_S8x128)
    (select (andi (cmpi .eq (iota .tc S8x128 32 [1] iota_S8x128_d1_w32) (broadcast S8x128 g)) (cmpi .eq (iota .tc S8x128 32 [0] iota_S8x128_d0_w32) (broadcast S8x128 0#32)))
      (broadcastTo S8x128 (shapeCast S1x1 (subf (broadcast S1x1 (Scalar.ofBits .f32 0x00000000#32))
        (shapeCast S1x1 (multiReduction .add [0] S1 z 0x00000000#32 reduces_S128x1_S1 (.inl rfl) rfl) shapeCasts_S1_S1x1)) shapeCasts_S1x1_S1x1) broadcasts_S1x1_S8x128)
      (broadcast S8x128 (Scalar.ofBits .f32 0x00000000#32)))) shapeCasts_S8x128_S1x8x128

/-- A head's rows of a stack, on its own lanes. -/
def own (lo hi : BitVec 32) (z : FVec F S128x256 .f32) : FVec F S128x256 .f32 :=
  select (band lo hi) z (broadcast S128x256 (Scalar.ofBits .f32 0x00000000#32))

/-- The four heads' rows put side by side again. -/
def unstacked (z : FVec F S512x256 .f32) : FVec F S128x256 .f32 :=
  addf (addf (addf (own 0#32 64#32 (extractStridedSlice S128x256 ![0, 0] z slices_S512x256_o0_0_S128x256))
    (own 64#32 128#32 (extractStridedSlice S128x256 ![128, 0] z slices_S512x256_o128_0_S128x256)))
    (own 128#32 192#32 (extractStridedSlice S128x256 ![256, 0] z slices_S512x256_o256_0_S128x256)))
    (own 192#32 256#32 (extractStridedSlice S128x256 ![384, 0] z slices_S512x256_o384_0_S128x256))

/-- The cotangent of the queries. -/
def cotQueries (s : FVec F S512x256 .bf16) (k : FVec F S256x256 .bf16) : FVec F S128x256 .f32 :=
  unstacked (matmul dot_S512x256_S256x256_S512x256_1_0_0_1_n_n none s k (constant S512x256 .f32 0x00000000#32))

/-- The cotangent of a window's keys (from the scores') or values (from the weights). -/
def cotWindow (s x : FVec F S512x256 .bf16) : FVec F S256x256 .f32 :=
  matmul dot_S512x256_S512x256_S256x256_0_0_1_1_n_n none s x (constant S256x256 .f32 0x00000000#32)

/-- The block's own half of a window added to a sum, and the half of the block before. -/
def addOwn (z : FVec F S256x256 .f32) (acc : Vec F S128x256 .f32) : FVec F S128x256 .f32 :=
  addf (shapeCast S128x256 acc shapeCasts_S128x256_S128x256) (extractStridedSlice S128x256 ![128, 0] z slices_S256x256_o128_0_S128x256)
def addPrev (z : FVec F S256x256 .f32) (acc : Vec F S128x256 .f32) : FVec F S128x256 .f32 :=
  addf (shapeCast S128x256 acc shapeCasts_S128x256_S128x256) (extractStridedSlice S128x256 ![0, 0] z slices_S256x256_o0_0_S128x256)

/-! ## The four blocks of a point -/

/-- What the body reads of a block: rows of queries and of the cotangent, a window of keys and of values, the weights and
    the sink's weights. -/
structure Part (F : FTy → Type) [FloatOps F] where
  q : Vec F S128x256 .bf16
  d : Vec F S128x256 .bf16
  k : FVec F S256x256 .bf16
  v : FVec F S256x256 .bf16
  a : Vec F S1x1x512x256 .bf16
  s : Vec F S1x1x512x128 .bf16

namespace Part

variable (P : Part F)

def cotW : FVec F S512x256 .f32 := cotWeights (stacked P.d) P.v
def cotS : FVec F S512x256 .bf16 := cotScores (weights P.a) P.cotW
def sink : FVec F S512x1 .f32 := sinkPart P.s (weights P.a) P.cotW
def dq : FVec F S128x256 .f32 := cotQueries P.cotS P.k
def dk : FVec F S256x256 .f32 := cotWindow P.cotS (stacked P.q)
def dv : FVec F S256x256 .f32 := cotWindow (weights P.a) (stacked P.d)
/-- The four steps of the sinks' tile. -/
def sink0 : FVec F S128x1 .f32 := extractStridedSlice S128x1 ![0, 0] P.sink slices_S512x1_o0_0_S128x1
def sink1 : FVec F S128x1 .f32 := extractStridedSlice S128x1 ![128, 0] P.sink slices_S512x1_o128_0_S128x1
def sink2 : FVec F S128x1 .f32 := extractStridedSlice S128x1 ![256, 0] P.sink slices_S512x1_o256_0_S128x1
def sink3 : FVec F S128x1 .f32 := extractStridedSlice S128x1 ![384, 0] P.sink slices_S512x1_o384_0_S128x1

end Part

section

variable (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S128x256 .bf16) (harg5 : arg5.IsWhole) (arg6 : Memref sig .tc .vmem S512x256 .bf16) (harg6 : arg6.IsWhole) (arg7 : Memref sig .tc .vmem S128x256 .bf16) (harg7 : arg7.IsWhole) (arg8 : Memref sig .tc .vmem S1x4x512x256 .bf16) (harg8 : arg8.IsWhole) (arg9 : Memref sig .tc .vmem S1x4x512x128 .bf16) (harg9 : arg9.IsWhole)
  (x2 : Vec F S512x256 .bf16) (x3 : Vec F S512x256 .bf16) (x4 : Vec F S512x256 .bf16) (x5 : Vec F S128x256 .bf16) (x6 : Vec F S512x256 .bf16) (x7 : Vec F S128x256 .bf16) (x8 : Vec F S1x4x512x256 .bf16) (x9 : Vec F S1x4x512x128 .bf16)

/-- The first block's windows take the block before from another array; the other blocks' lie in the same one. -/
def part0 : Part F where
  q := View.readAt (Elt F) arg2.view (Rect.unit (s := S512x256) ![0, 0] S128x256.size inb_S512x256_S128x256_0_0).toLoadRect (harg2.unread x2)
  d := View.readAt (Elt F) arg3.view (Rect.unit (s := S512x256) ![0, 0] S128x256.size inb_S512x256_S128x256_0_0).toLoadRect (harg3.unread x3)
  k := joined (View.readAt (Elt F) arg5.view (Rect.unit (s := S128x256) ![0, 0] S128x256.size inb_S128x256_S128x256_0_0).toLoadRect (harg5.unread x5))
    (View.readAt (Elt F) arg4.view (Rect.unit (s := S512x256) ![0, 0] S128x256.size inb_S512x256_S128x256_0_0).toLoadRect (harg4.unread x4))
  v := joined (View.readAt (Elt F) arg7.view (Rect.unit (s := S128x256) ![0, 0] S128x256.size inb_S128x256_S128x256_0_0).toLoadRect (harg7.unread x7))
    (View.readAt (Elt F) arg6.view (Rect.unit (s := S512x256) ![0, 0] S128x256.size inb_S512x256_S128x256_0_0).toLoadRect (harg6.unread x6))
  a := View.readAt (Elt F) arg8.view (Rect.unit (s := S1x4x512x256) ![0, 0, 0, 0] S1x1x512x256.size inb_S1x4x512x256_S1x1x512x256_0_0_0_0).toLoadRect (harg8.unread x8)
  s := View.readAt (Elt F) arg9.view (Rect.unit (s := S1x4x512x128) ![0, 0, 0, 0] S1x1x512x128.size inb_S1x4x512x128_S1x1x512x128_0_0_0_0).toLoadRect (harg9.unread x9)
def part1 : Part F where
  q := View.readAt (Elt F) arg2.view (Rect.unit (s := S512x256) ![128, 0] S128x256.size inb_S512x256_S128x256_128_0).toLoadRect (harg2.unread x2)
  d := View.readAt (Elt F) arg3.view (Rect.unit (s := S512x256) ![128, 0] S128x256.size inb_S512x256_S128x256_128_0).toLoadRect (harg3.unread x3)
  k := shapeCast S256x256 (View.readAt (Elt F) arg4.view (Rect.unit (s := S512x256) ![0, 0] S256x256.size inb_S512x256_S256x256_0_0).toLoadRect (harg4.unread x4)) shapeCasts_S256x256_S256x256
  v := shapeCast S256x256 (View.readAt (Elt F) arg6.view (Rect.unit (s := S512x256) ![0, 0] S256x256.size inb_S512x256_S256x256_0_0).toLoadRect (harg6.unread x6)) shapeCasts_S256x256_S256x256
  a := View.readAt (Elt F) arg8.view (Rect.unit (s := S1x4x512x256) ![0, 1, 0, 0] S1x1x512x256.size inb_S1x4x512x256_S1x1x512x256_0_1_0_0).toLoadRect (harg8.unread x8)
  s := View.readAt (Elt F) arg9.view (Rect.unit (s := S1x4x512x128) ![0, 1, 0, 0] S1x1x512x128.size inb_S1x4x512x128_S1x1x512x128_0_1_0_0).toLoadRect (harg9.unread x9)
def part2 : Part F where
  q := View.readAt (Elt F) arg2.view (Rect.unit (s := S512x256) ![256, 0] S128x256.size inb_S512x256_S128x256_256_0).toLoadRect (harg2.unread x2)
  d := View.readAt (Elt F) arg3.view (Rect.unit (s := S512x256) ![256, 0] S128x256.size inb_S512x256_S128x256_256_0).toLoadRect (harg3.unread x3)
  k := shapeCast S256x256 (View.readAt (Elt F) arg4.view (Rect.unit (s := S512x256) ![128, 0] S256x256.size inb_S512x256_S256x256_128_0).toLoadRect (harg4.unread x4)) shapeCasts_S256x256_S256x256
  v := shapeCast S256x256 (View.readAt (Elt F) arg6.view (Rect.unit (s := S512x256) ![128, 0] S256x256.size inb_S512x256_S256x256_128_0).toLoadRect (harg6.unread x6)) shapeCasts_S256x256_S256x256
  a := View.readAt (Elt F) arg8.view (Rect.unit (s := S1x4x512x256) ![0, 2, 0, 0] S1x1x512x256.size inb_S1x4x512x256_S1x1x512x256_0_2_0_0).toLoadRect (harg8.unread x8)
  s := View.readAt (Elt F) arg9.view (Rect.unit (s := S1x4x512x128) ![0, 2, 0, 0] S1x1x512x128.size inb_S1x4x512x128_S1x1x512x128_0_2_0_0).toLoadRect (harg9.unread x9)
def part3 : Part F where
  q := View.readAt (Elt F) arg2.view (Rect.unit (s := S512x256) ![384, 0] S128x256.size inb_S512x256_S128x256_384_0).toLoadRect (harg2.unread x2)
  d := View.readAt (Elt F) arg3.view (Rect.unit (s := S512x256) ![384, 0] S128x256.size inb_S512x256_S128x256_384_0).toLoadRect (harg3.unread x3)
  k := shapeCast S256x256 (View.readAt (Elt F) arg4.view (Rect.unit (s := S512x256) ![256, 0] S256x256.size inb_S512x256_S256x256_256_0).toLoadRect (harg4.unread x4)) shapeCasts_S256x256_S256x256
  v := shapeCast S256x256 (View.readAt (Elt F) arg6.view (Rect.unit (s := S512x256) ![256, 0] S256x256.size inb_S512x256_S256x256_256_0).toLoadRect (harg6.unread x6)) shapeCasts_S256x256_S256x256
  a := View.readAt (Elt F) arg8.view (Rect.unit (s := S1x4x512x256) ![0, 3, 0, 0] S1x1x512x256.size inb_S1x4x512x256_S1x1x512x256_0_3_0_0).toLoadRect (harg8.unread x8)
  s := View.readAt (Elt F) arg9.view (Rect.unit (s := S1x4x512x128) ![0, 3, 0, 0] S1x1x512x128.size inb_S1x4x512x128_S1x1x512x128_0_3_0_0).toLoadRect (harg9.unread x9)

/-- The four of them. -/
def parts : Fin 4 → Part F := ![part0 arg2 harg2 arg3 harg3 arg4 harg4 arg5 harg5 arg6 harg6 arg7 harg7 arg8 harg8 arg9 harg9 x2 x3 x4 x5 x6 x7 x8 x9, part1 arg2 harg2 arg3 harg3 arg4 harg4 arg6 harg6 arg8 harg8 arg9 harg9 x2 x3 x4 x6 x8 x9, part2 arg2 harg2 arg3 harg3 arg4 harg4 arg6 harg6 arg8 harg8 arg9 harg9 x2 x3 x4 x6 x8 x9, part3 arg2 harg2 arg3 harg3 arg4 harg4 arg6 harg6 arg8 harg8 arg9 harg9 x2 x3 x4 x6 x8 x9]

end

/-- The rows the eight updates of a point go to: a block's own and the block's before, in turn. -/
def rows (i : grid0.Coords) : Fin 8 → Fin 2 → ℕ :=
  ![k0_off1 i 0#32, k0_off2 i 4294967168#32, k0_off1 i 128#32, k0_off2 i 0#32, k0_off1 i 256#32, k0_off2 i 128#32, k0_off1 i 384#32, k0_off2 i 256#32]

/-- The first of those rows. -/
def row (i : grid0.Coords) (n : Fin 8) : ℕ := 512 * (i 1).val + 128 * (n.val / 2) - 128 * (n.val % 2)

theorem rows_eq : ∀ (i : grid0.Coords) (n : Fin 8), rows i n = ![row i n, 0] := by decide +kernel

theorem rows_inb : ∀ (i : grid0.Coords) (n : Fin 8) (a : Fin 2), rows i n a + (![128, 256] : Fin 2 → ℕ) a ≤ (![2048, 256] : Fin 2 → ℕ) a := by
  decide +kernel

/-- The eight updates of a sum of windows. -/
def updates (z : Fin 4 → FVec F S256x256 .f32) : Fin 8 → Vec F S128x256 .f32 → Vec F S128x256 .f32 :=
  ![addOwn (z 0), addPrev (z 0), addOwn (z 1), addPrev (z 1), addOwn (z 2), addPrev (z 2), addOwn (z 3), addPrev (z 3)]

/-- The list of the writes of those updates over a buffer holding `y`. -/
def summed (i : grid0.Coords) (arg : Memref sig .tc .vmem S2048x256 .f32) (z : Fin 4 → FVec F S256x256 .f32) (y : Vec F S2048x256 .f32) :
    List (View.Piece (Elt F) S2048x256 .f32) :=
  View.accPieces arg.view arg.view.junk [⟨Rect.unit ![0, 0] S2048x256.size inb_S2048x256_S2048x256_0_0, y⟩] ![128, 256] (rows i) (rows_inb i)
    (updates z) 8 (Nat.le_refl 8)

/-- The sixteen steps of the sinks' tile. -/
def sinkSteps (P : Fin 4 → Part F) : Fin 16 → Vec F S1x8x128 .f32 → Vec F S1x8x128 .f32 :=
  ![sinkStep 0#32 (P 0).sink0, sinkStep 1#32 (P 0).sink1, sinkStep 2#32 (P 0).sink2, sinkStep 3#32 (P 0).sink3, sinkStep 0#32 (P 1).sink0, sinkStep 1#32 (P 1).sink1, sinkStep 2#32 (P 1).sink2, sinkStep 3#32 (P 1).sink3, sinkStep 0#32 (P 2).sink0, sinkStep 1#32 (P 2).sink1, sinkStep 2#32 (P 2).sink2, sinkStep 3#32 (P 2).sink3, sinkStep 0#32 (P 3).sink0, sinkStep 1#32 (P 3).sink1, sinkStep 2#32 (P 3).sink2, sinkStep 3#32 (P 3).sink3]

/-- The list of the writes of those steps over a tile holding `y`. -/
def sunk (arg : Memref sig .tc .vmem S1x8x128 .f32) (P : Fin 4 → Part F) (y : Vec F S1x8x128 .f32) : List (View.Piece (Elt F) S1x8x128 .f32) :=
  View.accPieces arg.view arg.view.junk [⟨Rect.unit ![0, 0, 0] S1x8x128.size inb_S1x8x128_S1x8x128_0_0_0, y⟩] ![1, 8, 128] (fun _ => ![0, 0, 0])
    (fun _ => inb_S1x8x128_S1x8x128_0_0_0) (sinkSteps P) 16 (Nat.le_refl 16)

/-- The list of the writes of the queries' cotangents. -/
def tiled (P : Fin 4 → Part F) : List (View.Piece (Elt F) S512x256 .f32) :=
  [⟨Rect.unit ![384, 0] S128x256.size inb_S512x256_S128x256_384_0, (P 3).dq⟩, ⟨Rect.unit ![256, 0] S128x256.size inb_S512x256_S128x256_256_0, (P 2).dq⟩, ⟨Rect.unit ![128, 0] S128x256.size inb_S512x256_S128x256_128_0, (P 1).dq⟩, ⟨Rect.unit ![0, 0] S128x256.size inb_S512x256_S128x256_0_0, (P 0).dq⟩]

end Cert.KAttnIdeal.Body
-- ==== Proof.AttnStep.lean ====
/- The steps of the attention backward kernel on blocks of reals. -/
module

public import proofs.«01_k».proof.Proof.AttnBlock
public import proofs.«01_k».proof.Proof.AttnReal

@[expose] public section

set_option maxRecDepth 16384

noncomputable section

open Idealize.ShloMosaic Idealize.ShloMosaic.TcCoe Idealize.SL.Sem

namespace Cert.KAttnIdeal.Body

open Cert.KAttnIdeal Cert.KAttnIdeal.Gen Cert.Reals Cert.Attn

/-- The lanes of a band. -/
theorem band_at (lo hi : ℕ) (hlo : lo < 2 ^ 31) (hhi : hi < 2 ^ 31) (r : Fin 128) (l : Fin 256) :
    band (BitVec.ofNat 32 lo) (BitVec.ofNat 32 hi) (ix2 r l) = BitVec.ofBool (decide (lo ≤ l.val ∧ l.val < hi)) := by
  pointwise [band]
  rw [sge_word (by omega) hlo, slt_word (by omega) hhi, and_bool]

theorem only_at (lo hi : ℕ) (hlo : lo < 2 ^ 31) (hhi : hi < 2 ^ 31) (x : S128x256.Idx → ℝ) (r : Fin 128) (l : Fin 256) :
    only (F := Ideal) (BitVec.ofNat 32 lo) (BitVec.ofNat 32 hi) (fun i => (x i : EReal)) (ix2 r l)
      = ((if lo ≤ l.val ∧ l.val < hi then x (ix2 r l) else 0 : ℝ) : EReal) := by
  pointwise [only]
  rw [band_at lo hi hlo hhi, select_bool, coe_ite]
  simp

/-- The stack: row `128 g + i` holds row `i` on the lanes of head `g`. -/
theorem stacked_at (x : S128x256.Idx → ℝ) (r : Fin 512) (l : Fin 256) :
    stacked (F := Ideal) (fun i => (x i : EReal)) (ix2 r l)
      = ((if l.val / 64 = r.val / 128 then x (ix2 ⟨r.val % 128, by omega⟩ l) else 0 : ℝ) : EReal) := by
  have e (lo hi : ℕ) (hlo : lo < 2 ^ 31) (hhi : hi < 2 ^ 31) (r' : Fin 128) (hr : r'.val = r.val % 128)
      (h : (lo ≤ l.val ∧ l.val < hi) ↔ l.val / 64 = r.val / 128) :
      only (F := Ideal) (BitVec.ofNat 32 lo) (BitVec.ofNat 32 hi) (fun i => (x i : EReal)) (ix2 r' l)
        = ((if l.val / 64 = r.val / 128 then x (ix2 ⟨r.val % 128, by omega⟩ l) else 0 : ℝ) : EReal) := by
    obtain ⟨v, hv⟩ := r'
    simp only at hr
    subst hr
    rw [only_at lo hi hlo hhi]
    simp only [h]
  pointwise [stacked]
  split
  · exact e 0 64 (by norm_num) (by norm_num) _ (by simp; omega) (by omega)
  split
  · exact e 64 128 (by norm_num) (by norm_num) _ (by simp; omega) (by omega)
  split
  · exact e 128 192 (by norm_num) (by norm_num) _ (by simp; omega) (by omega)
  · exact e 192 256 (by norm_num) (by norm_num) _ (by simp; omega) (by omega)

/-- The rows of a stack, each head's on its own lanes. -/
theorem unstacked_at (z : S512x256.Idx → ℝ) (r : Fin 128) (l : Fin 256) :
    unstacked (F := Ideal) (fun i => (z i : EReal)) (ix2 r l) = (z (ix2 ⟨l.val / 64 * 128 + r.val, by omega⟩ l) : EReal) := by
  have e (g : ℕ) (hg : l.val / 64 = g) (r' : Fin 512) (hr : r'.val = g * 128 + r.val) :
      z (ix2 r' l) = z (ix2 ⟨l.val / 64 * 128 + r.val, by omega⟩ l) := by
    obtain ⟨v, hv⟩ := r'
    simp only at hr
    subst hr
    subst hg
    rfl
  pointwise [unstacked, own]
  rw [show band 0#32 64#32 (ix2 r l) = _ from band_at 0 64 (by norm_num) (by norm_num) r l,
    show band 64#32 128#32 (ix2 r l) = _ from band_at 64 128 (by norm_num) (by norm_num) r l,
    show band 128#32 192#32 (ix2 r l) = _ from band_at 128 192 (by norm_num) (by norm_num) r l,
    show band 192#32 256#32 (ix2 r l) = _ from band_at 192 256 (by norm_num) (by norm_num) r l]
  simp only [select_bool]
  obtain h | h | h | h : l.val / 64 = 0 ∨ l.val / 64 = 1 ∨ l.val / 64 = 2 ∨ l.val / 64 = 3 := by omega
  · rw [if_pos (by omega), if_neg (by omega), if_neg (by omega), if_neg (by omega), e 0 h _ (by simp)]
    simp
  · rw [if_neg (by omega), if_pos (by omega), if_neg (by omega), if_neg (by omega), e 1 h _ (by simp)]
    simp
  · rw [if_neg (by omega), if_neg (by omega), if_pos (by omega), if_neg (by omega), e 2 h _ (by simp)]
    simp
  · rw [if_neg (by omega), if_neg (by omega), if_neg (by omega), if_pos (by omega), e 3 h _ (by simp)]
    simp

theorem sinkStep_at (g : ℕ) (hg : g < 4) (z : S128x1.Idx → ℝ) (acc : S1x8x128.Idx → EReal) (r : Fin 8) (l : Fin 128) :
    sinkStep (F := Ideal) (BitVec.ofNat 32 g) (fun i => (z i : EReal)) acc (ix3 0 r l)
      = acc (ix3 0 r l) + ((if l.val = g ∧ r.val = 0 then -∑ k, z (ix2 k 0) else 0 : ℝ) : EReal) := by
  pointwise [sinkStep]
  rw [eq_word (by omega) (by omega), show (0#32 : BitVec 32) = BitVec.ofNat 32 0 from rfl, eq_word (by omega) (by norm_num), and_bool, select_bool,
    coe_ite, zero_sub, ← coe_sum, ← EReal.coe_neg, EReal.coe_zero]

/-! ## One block -/

/-- The blocks are these reals. -/
structure Part.Reads (P : Part Ideal) (R : RealPart) : Prop where
  q : P.q = fun i => (R.q (i 0) (i 1) : EReal)
  d : P.d = fun i => (R.d (i 0) (i 1) : EReal)
  k : P.k = fun i => (R.k (i 0) (i 1) : EReal)
  v : P.v = fun i => (R.v (i 0) (i 1) : EReal)
  a : P.a = fun i => (R.a (i 2) (i 3) : EReal)
  s : ∀ r, P.s (ix4 0 0 r 0) = (R.s r : EReal)

namespace Part

variable {P : Part Ideal} {R : RealPart} (h : P.Reads R)

include h

theorem cotW_eq : P.cotW = fun i => (R.cotW (i 0) (i 1) : EReal) := by
  funext i
  idx_vars i
  unfold cotW
  rw [h.d, h.v]
  pointwise [cotWeights]
  simp only [stacked_at (fun i => R.d (i 0) (i 1))]
  norm_cast

theorem weights_eq : weights P.a = fun i => (R.a (i 0) (i 1) : EReal) := by
  funext i
  idx_vars i
  rw [h.a]
  pointwise [weights]

theorem mean_at (r : Fin 512) : mean (weights P.a) P.cotW (ix2 r 0) = (R.mean r : EReal) := by
  rw [weights_eq h, cotW_eq h]
  pointwise [mean]
  norm_cast

theorem cotS_eq : P.cotS = fun i => (R.cotS (i 0) (i 1) : EReal) := by
  funext i
  idx_vars i
  have e := mean_at h i0
  unfold cotS
  rw [weights_eq h, cotW_eq h] at e ⊢
  pointwise [cotScores]
  rw [e, word_eighth]
  norm_cast

theorem sink_at (r : Fin 512) : P.sink (ix2 r 0) = (R.sink r : EReal) := by
  have e := mean_at h r
  unfold sink
  pointwise [sinkPart]
  rw [e, h.s r]
  norm_cast

theorem dq_at (i : Fin 128) (l : Fin 256) : P.dq (ix2 i l) = (R.dq i l : EReal) := by
  unfold dq cotQueries
  rw [cotS_eq h, h.k]
  have e : matmul (φ₁ := .bf16) (φ₂ := .bf16) dot_S512x256_S256x256_S512x256_1_0_0_1_n_n none (fun i => (R.cotS (i 0) (i 1) : EReal)) (fun i => (R.k (i 0) (i 1) : EReal))
      (constant (F := Ideal) S512x256 .f32 0x00000000#32) = fun i => ((∑ s, R.cotS (i 0) s * R.k s (i 1) : ℝ) : EReal) := by
    funext i
    idx_vars i
    pointwise
    norm_cast
  rw [e, unstacked_at]
  rfl

theorem dk_eq : P.dk = fun i => (R.dk (i 0) (i 1) : EReal) := by
  funext i
  idx_vars i
  unfold dk
  rw [cotS_eq h, h.q]
  pointwise [cotWindow]
  simp only [stacked_at (fun i => R.q (i 0) (i 1))]
  norm_cast
  exact (sum_head (fun r => R.cotS r i0) (fun i => R.q i i1) i1)

theorem dv_eq : P.dv = fun i => (R.dv (i 0) (i 1) : EReal) := by
  funext i
  idx_vars i
  unfold dv
  rw [weights_eq h, h.d]
  pointwise [cotWindow]
  simp only [stacked_at (fun i => R.d (i 0) (i 1))]
  norm_cast
  exact (sum_head (fun r => R.a r i0) (fun i => R.d i i1) i1)

theorem sink_row {r r' : Fin 512} (e : r.val = r'.val) : P.sink (ix2 r 0) = (R.sink r' : EReal) := by
  obtain rfl := Fin.ext e
  exact sink_at h r

theorem sink0_eq : P.sink0 = fun i : S128x1.Idx => (R.sink (sinkRow 0 (i 0)) : EReal) := by
  funext i
  idx_vars i
  obtain rfl : i1 = 0 := Subsingleton.elim _ _
  pointwise [sink0]
  exact sink_row h (by simp [sinkRow])

theorem sink1_eq : P.sink1 = fun i : S128x1.Idx => (R.sink (sinkRow 1 (i 0)) : EReal) := by
  funext i
  idx_vars i
  obtain rfl : i1 = 0 := Subsingleton.elim _ _
  pointwise [sink1]
  exact sink_row h (by simp [sinkRow])

theorem sink2_eq : P.sink2 = fun i : S128x1.Idx => (R.sink (sinkRow 2 (i 0)) : EReal) := by
  funext i
  idx_vars i
  obtain rfl : i1 = 0 := Subsingleton.elim _ _
  pointwise [sink2]
  exact sink_row h (by simp [sinkRow])

theorem sink3_eq : P.sink3 = fun i : S128x1.Idx => (R.sink (sinkRow 3 (i 0)) : EReal) := by
  funext i
  idx_vars i
  obtain rfl : i1 = 0 := Subsingleton.elim _ _
  pointwise [sink3]
  exact sink_row h (by simp [sinkRow])

end Part

end Cert.KAttnIdeal.Body

end
-- ==== Proof.AttnPoint.lean ====
/- What a point of the attention backward kernel reads, its arguments real arrays. -/
module

public import proofs.«01_k».proof.Proof.AttnHost
public import proofs.«01_k».proof.Proof.AttnStep
public import proofs.«01_k».proof.Proof.AttnBody
public import Idealize.ShloMosaic.Lib.WholeRead

@[expose] public section

set_option maxRecDepth 65536

noncomputable section

open Idealize.ShloMosaic Idealize.ShloMosaic.TcCoe Idealize.SL.Sem

namespace Cert.AttnPoint

open Cert.KAttnIdeal Cert.KAttnIdeal.Gen Cert.Reals Cert.Attn Cert.AttnFwd Cert.AttnHost Cert.KAttnIdeal.Body

theorem idx : ∀ t : Fin cfg0.N, win0_0.index t = ![t.val % 4, t.val / 4] ∧ win0_1.index t = ![t.val % 4, t.val / 4]
    ∧ win0_2.index t = ![t.val % 4, t.val / 4] ∧ win0_3.index t = ![4 * (t.val % 4) - 1, t.val / 4]
    ∧ win0_4.index t = ![t.val % 4, t.val / 4] ∧ win0_5.index t = ![4 * (t.val % 4) - 1, t.val / 4]
    ∧ win0_6.index t = ![t.val / 4, t.val % 4, 0, 0] ∧ win0_7.index t = ![t.val / 4, t.val % 4, 0, 0]
    ∧ win0_8.index t = ![t.val % 4, t.val / 4] ∧ win0_9.index t = ![0, t.val / 4] ∧ win0_10.index t = ![0, t.val / 4]
    ∧ win0_11.index t = ![t.val / 4, 0, 0] :=
  (by decide +kernel : ∀ t : Fin grid0.N, _)

theorem lt16 (t : Fin cfg0.N) : t.val < 16 := lt_of_lt_of_eq t.isLt N_0

/-- The group of a point; its block `b`; row `r` of the 512 it reads, and lane `l` of its 256. -/
def group (t : Fin cfg0.N) : Fin 4 := ⟨t.val / 4, by have := lt16 t; omega⟩
def blockAt (t : Fin cfg0.N) (b : Fin 4) : Fin 16 := ⟨t.val % 4 * 4 + b.val, by omega⟩
def rowAt (t : Fin cfg0.N) (r : Fin 512) : Fin 2048 := ⟨t.val % 4 * 512 + r.val, by omega⟩
def laneAt (t : Fin cfg0.N) (l : Fin 256) : Fin 1024 := ⟨t.val / 4 * 256 + l.val, by have := lt16 t; omega⟩
/-- Row `r` of the block before the first of them. -/
def prevAt (t : Fin cfg0.N) (r : Fin 128) : Fin 2048 := ⟨(4 * (t.val % 4) - 1) * 128 + r.val, by omega⟩

variable {m : (ℓ : Loc nD τ sig) → Buf (Elt Ideal) ℓ} {c : Dev nD}
  {q : Fin 2048 → Fin 1024 → ℝ} {k v : Fin 2048 → Fin 256 → ℝ} {w : Fin 16 → ℝ} {d : Fin 2048 → Fin 1024 → ℝ}
  (h : Args m c q k v w d) (t : Fin cfg0.N)

include h

theorem iblk0 : iblk m c 0 t = fun i : S512x256.Idx => (q (rowAt t (i 0)) (laneAt t (i 1)) : EReal) := by
  funext i
  have e : iblk m c 0 t i = V m c main_v73 (ix2 (rowAt t (i 0)) (laneAt t (i 1))) := by
    unfold iblk
    show ((cfg0.win 0).blk t).view.read (Elt Ideal) (V m c main_v73) i = _
    generalize V m c main_v73 = X
    blk_ext [idx t, rowAt, laneAt]
  rw [e, queries_at h]
  rfl

theorem iblk1 : iblk m c 1 t = fun i : S512x256.Idx => (d (rowAt t (i 0)) (laneAt t (i 1)) : EReal) := by
  funext i
  have e : iblk m c 1 t i = V m c main_v74 (ix2 (rowAt t (i 0)) (laneAt t (i 1))) := by
    unfold iblk
    show ((cfg0.win 1).blk t).view.read (Elt Ideal) (V m c main_v74) i = _
    generalize V m c main_v74 = X
    blk_ext [idx t, rowAt, laneAt]
  rw [e, outs_at h]
  rfl

theorem iblk2 : iblk m c 2 t = fun i : S512x256.Idx => (k (rowAt t (i 0)) (shared (laneAt t (i 1))) : EReal) := by
  funext i
  have e : iblk m c 2 t i = V m c main_v76 (ix2 (rowAt t (i 0)) (laneAt t (i 1))) := by
    unfold iblk
    show ((cfg0.win 2).blk t).view.read (Elt Ideal) (V m c main_v76) i = _
    generalize V m c main_v76 = X
    blk_ext [idx t, rowAt, laneAt]
  rw [e, keys_at h]
  rfl

theorem iblk3 : iblk m c 3 t = fun i : S128x256.Idx => (k (prevAt t (i 0)) (shared (laneAt t (i 1))) : EReal) := by
  funext i
  have e : iblk m c 3 t i = V m c main_v76 (ix2 (prevAt t (i 0)) (laneAt t (i 1))) := by
    unfold iblk
    show ((cfg0.win 3).blk t).view.read (Elt Ideal) (V m c main_v76) i = _
    generalize V m c main_v76 = X
    blk_ext [idx t, prevAt, laneAt]
  rw [e, keys_at h]
  rfl

theorem iblk4 : iblk m c 4 t = fun i : S512x256.Idx => (v (rowAt t (i 0)) (shared (laneAt t (i 1))) : EReal) := by
  funext i
  have e : iblk m c 4 t i = V m c main_v78 (ix2 (rowAt t (i 0)) (laneAt t (i 1))) := by
    unfold iblk
    show ((cfg0.win 4).blk t).view.read (Elt Ideal) (V m c main_v78) i = _
    generalize V m c main_v78 = X
    blk_ext [idx t, rowAt, laneAt]
  rw [e, values_at h]
  rfl

theorem iblk5 : iblk m c 5 t = fun i : S128x256.Idx => (v (prevAt t (i 0)) (shared (laneAt t (i 1))) : EReal) := by
  funext i
  have e : iblk m c 5 t i = V m c main_v78 (ix2 (prevAt t (i 0)) (laneAt t (i 1))) := by
    unfold iblk
    show ((cfg0.win 5).blk t).view.read (Elt Ideal) (V m c main_v78) i = _
    generalize V m c main_v78 = X
    blk_ext [idx t, prevAt, laneAt]
  rw [e, values_at h]
  rfl

theorem iblk6 : iblk m c 6 t = fun i : S1x4x512x256.Idx =>
    ((data q k w v d).weight (blockAt t (i 1)) (group t) (Data.headOf (i 2)) (Data.rowOf (i 2)) (i 3) : EReal) := by
  funext i
  have e : iblk m c 6 t i = V m c main_v79 (ix4 (group t) (blockAt t (i 1)) (i 2) (i 3)) := by
    unfold iblk
    show ((cfg0.win 6).blk t).view.read (Elt Ideal) (V m c main_v79) i = _
    generalize V m c main_v79 = X
    have p : ((cfg0.win 6).blk t).view.emb i = ix4 (group t) (blockAt t (i 1)) (i 2) (i 3) := by
      blk_ext [idx t, group, blockAt]
    rw [View.read_apply]
    exact (cast_eq _ _).trans (congrArg X p)
  rw [e, weights_at h]
  rfl

theorem iblk7 : iblk m c 7 t = fun i : S1x4x512x128.Idx =>
    ((data q k w v d).sinkWeight (blockAt t (i 1)) (group t) (Data.headOf (i 2)) (Data.rowOf (i 2)) : EReal) := by
  funext i
  have e : iblk m c 7 t i = V m c main_v80 (ix4 (group t) (blockAt t (i 1)) (i 2) (i 3)) := by
    unfold iblk
    show ((cfg0.win 7).blk t).view.read (Elt Ideal) (V m c main_v80) i = _
    generalize V m c main_v80 = X
    have p : ((cfg0.win 7).blk t).view.emb i = ix4 (group t) (blockAt t (i 1)) (i 2) (i 3) := by
      blk_ext [idx t, group, blockAt]
    rw [View.read_apply]
    exact (cast_eq _ _).trans (congrArg X p)
  rw [e, sinks_at h]
  rfl

omit h

/-! ## Loads of a whole block at an offset -/

theorem joined_at (x y : S128x256.Idx → ℝ) (s l : Fin 256) :
    joined (F := Ideal) (fun i => (x i : EReal)) (fun i => (y i : EReal)) (ix2 s l)
      = ((if p : s.val < 128 then x (ix2 ⟨s.val, p⟩ l) else y (ix2 ⟨s.val - 128, by omega⟩ l) : ℝ) : EReal) := by
  pointwise [joined]
  split <;> rfl

/-! ## The four blocks -/

theorem rows_read {n n' : ℕ} {φ : EltTy} (arg : Memref sig .tc .vmem ⟨2, ![n, 256]⟩ φ) (whole : arg.IsWhole) (x : Vec Ideal ⟨2, ![n, 256]⟩ φ)
    (o : ℕ) (inb : ∀ a : Fin 2, (![o, 0] : Fin 2 → ℕ) a + (![n', 256] : Fin 2 → ℕ) a ≤ (![n, 256] : Fin 2 → ℕ) a) (ho : o + n' ≤ n) :
    View.readAt (Elt Ideal) arg.view (Rect.unit (s := ⟨2, ![n, 256]⟩) ![o, 0] ![n', 256] inb).toLoadRect (whole.unread x)
      = fun i : Shape.Idx ⟨2, ![n', 256]⟩ => x (ix2 (⟨o + (i 0).val, lt_of_lt_of_le (Nat.add_lt_add_left (i 0).isLt o) ho⟩ : Fin n) (i 1)) := by
  funext i
  rw [Memref.IsWhole.readAt_unread]
  refine congrArg x ?_
  funext a
  fin_cases a <;> refine Fin.ext ?_ <;> simp [Rect.unit, LoadRect.idx, Rect.toLoadRect]

theorem block_read {n l' : ℕ} {φ : EltTy} (arg : Memref sig .tc .vmem ⟨4, ![1, 4, n, l']⟩ φ) (whole : arg.IsWhole) (x : Vec Ideal ⟨4, ![1, 4, n, l']⟩ φ)
    (o : ℕ) (inb : ∀ a : Fin 4, (![0, o, 0, 0] : Fin 4 → ℕ) a + (![1, 1, n, l'] : Fin 4 → ℕ) a ≤ (![1, 4, n, l'] : Fin 4 → ℕ) a) (ho : o < 4) :
    View.readAt (Elt Ideal) arg.view (Rect.unit (s := ⟨4, ![1, 4, n, l']⟩) ![0, o, 0, 0] ![1, 1, n, l'] inb).toLoadRect (whole.unread x)
      = fun i : Shape.Idx ⟨4, ![1, 1, n, l']⟩ => x (ix4 0 (⟨o, ho⟩ : Fin 4) (i 2) (i 3)) := by
  funext i
  rw [Memref.IsWhole.readAt_unread]
  refine congrArg x ?_
  funext a
  fin_cases a <;> refine Fin.ext ?_ <;> simp [Rect.unit, LoadRect.idx, Rect.toLoadRect]

theorem joined_eq (x y : Fin 128 → Fin 256 → ℝ) : joined (F := Ideal) (fun i => (x (i 0) (i 1) : EReal)) (fun i => (y (i 0) (i 1) : EReal))
    = fun i => ((if p : (i 0).val < 128 then x ⟨(i 0).val, p⟩ (i 1) else y ⟨(i 0).val - 128, Nat.sub_lt_left_of_lt_add (not_lt.mp p) (i 0).isLt⟩ (i 1) : ℝ) : EReal) := by
  funext i
  idx_vars i
  exact joined_at (fun i => x (i 0) (i 1)) (fun i => y (i 0) (i 1)) i0 i1

theorem same_eq (x : Fin 256 → Fin 256 → ℝ) : shapeCast S256x256 (fun i : S256x256.Idx => (x (i 0) (i 1) : EReal)) shapeCasts_S256x256_S256x256
    = fun i => (x (i 0) (i 1) : EReal) := by
  funext i
  idx_vars i
  pointwise

section

variable (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S128x256 .bf16) (harg5 : arg5.IsWhole) (arg6 : Memref sig .tc .vmem S512x256 .bf16) (harg6 : arg6.IsWhole) (arg7 : Memref sig .tc .vmem S128x256 .bf16) (harg7 : arg7.IsWhole) (arg8 : Memref sig .tc .vmem S1x4x512x256 .bf16) (harg8 : arg8.IsWhole) (arg9 : Memref sig .tc .vmem S1x4x512x128 .bf16) (harg9 : arg9.IsWhole)
  (Q D K V : Fin 512 → Fin 256 → ℝ) (K₀ V₀ : Fin 128 → Fin 256 → ℝ) (A : Fin 4 → Fin 512 → Fin 256 → ℝ) (S : Fin 4 → Fin 512 → ℝ)

/-- The first block over those reals. -/
def realPart0 : RealPart where
  q i l := Q ⟨0 + i.val, by omega⟩ l
  d i l := D ⟨0 + i.val, by omega⟩ l
  k s l := if p : s.val < 128 then K₀ ⟨0 + s.val, by omega⟩ l else K ⟨0 + (s.val - 128), by omega⟩ l
  v s l := if p : s.val < 128 then V₀ ⟨0 + s.val, by omega⟩ l else V ⟨0 + (s.val - 128), by omega⟩ l
  a := A 0
  s := S 0

/-- A later block over them. -/
def realPart (b : Fin 4) : RealPart where
  q i l := Q ⟨b.val * 128 + i.val, by omega⟩ l
  d i l := D ⟨b.val * 128 + i.val, by omega⟩ l
  k s l := K ⟨(b.val - 1) * 128 + s.val, by omega⟩ l
  v s l := V ⟨(b.val - 1) * 128 + s.val, by omega⟩ l
  a := A b
  s := S b

theorem reads0 : (part0 (F := Ideal) arg2 harg2 arg3 harg3 arg4 harg4 arg5 harg5 arg6 harg6 arg7 harg7 arg8 harg8 arg9 harg9
      (fun i => (Q (i 0) (i 1) : EReal)) (fun i => (D (i 0) (i 1) : EReal)) (fun i => (K (i 0) (i 1) : EReal)) (fun i => (K₀ (i 0) (i 1) : EReal)) (fun i => (V (i 0) (i 1) : EReal)) (fun i => (V₀ (i 0) (i 1) : EReal)) (fun i => (A (i 1) (i 2) (i 3) : EReal)) (fun i => (S (i 1) (i 2) : EReal))).Reads (realPart0 Q D K V K₀ V₀ A S) where
  q := rows_read arg2 harg2 _ 0 _ (by norm_num)
  d := rows_read arg3 harg3 _ 0 _ (by norm_num)
  k := (congrArg₂ joined (rows_read arg5 harg5 _ 0 _ (by norm_num)) (rows_read arg4 harg4 _ 0 _ (by norm_num))).trans (joined_eq (fun i l => K₀ ⟨0 + i.val, by omega⟩ l) fun i l => K ⟨0 + i.val, by omega⟩ l)
  v := (congrArg₂ joined (rows_read arg7 harg7 _ 0 _ (by norm_num)) (rows_read arg6 harg6 _ 0 _ (by norm_num))).trans (joined_eq (fun i l => V₀ ⟨0 + i.val, by omega⟩ l) fun i l => V ⟨0 + i.val, by omega⟩ l)
  a := block_read arg8 harg8 _ 0 _ (by norm_num)
  s r := congrFun (block_read arg9 harg9 _ 0 _ (by norm_num)) (ix4 0 0 r 0)

theorem reads1 : (part1 (F := Ideal) arg2 harg2 arg3 harg3 arg4 harg4 arg6 harg6 arg8 harg8 arg9 harg9
      (fun i => (Q (i 0) (i 1) : EReal)) (fun i => (D (i 0) (i 1) : EReal)) (fun i => (K (i 0) (i 1) : EReal)) (fun i => (V (i 0) (i 1) : EReal)) (fun i => (A (i 1) (i 2) (i 3) : EReal)) (fun i => (S (i 1) (i 2) : EReal))).Reads (realPart Q D K V A S 1) where
  q := rows_read arg2 harg2 _ 128 _ (by norm_num)
  d := rows_read arg3 harg3 _ 128 _ (by norm_num)
  k := (congrArg (fun x => shapeCast S256x256 x shapeCasts_S256x256_S256x256) (rows_read arg4 harg4 _ 0 _ (by norm_num))).trans (same_eq fun s l => K ⟨0 + s.val, by omega⟩ l)
  v := (congrArg (fun x => shapeCast S256x256 x shapeCasts_S256x256_S256x256) (rows_read arg6 harg6 _ 0 _ (by norm_num))).trans (same_eq fun s l => V ⟨0 + s.val, by omega⟩ l)
  a := block_read arg8 harg8 _ 1 _ (by norm_num)
  s r := congrFun (block_read arg9 harg9 _ 1 _ (by norm_num)) (ix4 0 0 r 0)

theorem reads2 : (part2 (F := Ideal) arg2 harg2 arg3 harg3 arg4 harg4 arg6 harg6 arg8 harg8 arg9 harg9
      (fun i => (Q (i 0) (i 1) : EReal)) (fun i => (D (i 0) (i 1) : EReal)) (fun i => (K (i 0) (i 1) : EReal)) (fun i => (V (i 0) (i 1) : EReal)) (fun i => (A (i 1) (i 2) (i 3) : EReal)) (fun i => (S (i 1) (i 2) : EReal))).Reads (realPart Q D K V A S 2) where
  q := rows_read arg2 harg2 _ 256 _ (by norm_num)
  d := rows_read arg3 harg3 _ 256 _ (by norm_num)
  k := (congrArg (fun x => shapeCast S256x256 x shapeCasts_S256x256_S256x256) (rows_read arg4 harg4 _ 128 _ (by norm_num))).trans (same_eq fun s l => K ⟨128 + s.val, by omega⟩ l)
  v := (congrArg (fun x => shapeCast S256x256 x shapeCasts_S256x256_S256x256) (rows_read arg6 harg6 _ 128 _ (by norm_num))).trans (same_eq fun s l => V ⟨128 + s.val, by omega⟩ l)
  a := block_read arg8 harg8 _ 2 _ (by norm_num)
  s r := congrFun (block_read arg9 harg9 _ 2 _ (by norm_num)) (ix4 0 0 r 0)

theorem reads3 : (part3 (F := Ideal) arg2 harg2 arg3 harg3 arg4 harg4 arg6 harg6 arg8 harg8 arg9 harg9
      (fun i => (Q (i 0) (i 1) : EReal)) (fun i => (D (i 0) (i 1) : EReal)) (fun i => (K (i 0) (i 1) : EReal)) (fun i => (V (i 0) (i 1) : EReal)) (fun i => (A (i 1) (i 2) (i 3) : EReal)) (fun i => (S (i 1) (i 2) : EReal))).Reads (realPart Q D K V A S 3) where
  q := rows_read arg2 harg2 _ 384 _ (by norm_num)
  d := rows_read arg3 harg3 _ 384 _ (by norm_num)
  k := (congrArg (fun x => shapeCast S256x256 x shapeCasts_S256x256_S256x256) (rows_read arg4 harg4 _ 256 _ (by norm_num))).trans (same_eq fun s l => K ⟨256 + s.val, by omega⟩ l)
  v := (congrArg (fun x => shapeCast S256x256 x shapeCasts_S256x256_S256x256) (rows_read arg6 harg6 _ 256 _ (by norm_num))).trans (same_eq fun s l => V ⟨256 + s.val, by omega⟩ l)
  a := block_read arg8 harg8 _ 3 _ (by norm_num)
  s r := congrFun (block_read arg9 harg9 _ 3 _ (by norm_num)) (ix4 0 0 r 0)

end

/-- The parts of a point. -/
abbrev partsAt {F : FTy → Type} [FloatOps F] (m : (ℓ : Loc nD τ sig) → Buf (Elt F) ℓ) (c : Dev nD) (t : Fin cfg0.N) : Fin 4 → Part F :=
  parts (stg0 t) (whole0 t) (stg1 t) (whole1 t) (stg2 t) (whole2 t) (stg3 t) (whole3 t) (stg4 t) (whole4 t) (stg5 t) (whole5 t) (stg6 t) (whole6 t) (stg7 t) (whole7 t) (iblk m c 0 t) (iblk m c 1 t) (iblk m c 2 t) (iblk m c 3 t) (iblk m c 4 t) (iblk m c 5 t) (iblk m c 6 t) (iblk m c 7 t)

theorem near_ix {x : Fin 2048 → Fin 256 → ℝ} {r r' : Fin 2048} {l l' : Fin 256} (hr : r.val = r'.val) (hl : l.val = l'.val) : x r l = x r' l' := by
  rw [Fin.ext hr, Fin.ext hl]

theorem whole_ix {x : Fin 2048 → Fin 1024 → ℝ} {r r' : Fin 2048} {l l' : Fin 1024} (hr : r.val = r'.val) (hl : l.val = l'.val) : x r l = x r' l' := by
  rw [Fin.ext hr, Fin.ext hl]

include h

theorem reads (b : Fin 4) : (partsAt m c t b).Reads ((data q k w v d).nearBlock (group t) (blockAt t b)) := by
  have ht := lt16 t
  have e0 : realPart0 (fun r l => q (rowAt t r) (laneAt t l)) (fun r l => d (rowAt t r) (laneAt t l)) (fun r l => k (rowAt t r) (shared (laneAt t l))) (fun r l => v (rowAt t r) (shared (laneAt t l))) (fun r l => k (prevAt t r) (shared (laneAt t l))) (fun r l => v (prevAt t r) (shared (laneAt t l))) (fun b r l => (data q k w v d).weight (blockAt t b) (group t) (Data.headOf r) (Data.rowOf r) l) (fun b r => (data q k w v d).sinkWeight (blockAt t b) (group t) (Data.headOf r) (Data.rowOf r)) = (data q k w v d).nearBlock (group t) (blockAt t 0) := by
    simp only [realPart0, Data.nearBlock, Data.part, RealPart.mk.injEq]
    refine ⟨?_, ?_, ?_, ?_, trivial, trivial⟩ <;> funext i l
    · exact whole_ix (x := q) (by simp [rowAt, Cert.Attn.row, blockAt]; omega) (by simp [laneAt, group])
    · exact whole_ix (x := d) (by simp [rowAt, Cert.Attn.row, blockAt]; omega) (by simp [laneAt, group])
    · split <;> rename_i p <;> exact near_ix (x := k) (by simp [rowAt, prevAt, blockAt, p]; omega) (by simp [shared, Cert.Attn.own, laneAt, group, Data.lane64]; omega)
    · split <;> rename_i p <;> exact near_ix (x := v) (by simp [rowAt, prevAt, blockAt, p]; omega) (by simp [shared, Cert.Attn.own, laneAt, group, Data.lane64]; omega)
  have e (b : Fin 4) (hb : 0 < b.val) : realPart (fun r l => q (rowAt t r) (laneAt t l)) (fun r l => d (rowAt t r) (laneAt t l)) (fun r l => k (rowAt t r) (shared (laneAt t l))) (fun r l => v (rowAt t r) (shared (laneAt t l))) (fun b r l => (data q k w v d).weight (blockAt t b) (group t) (Data.headOf r) (Data.rowOf r) l) (fun b r => (data q k w v d).sinkWeight (blockAt t b) (group t) (Data.headOf r) (Data.rowOf r)) b = (data q k w v d).nearBlock (group t) (blockAt t b) := by
    simp only [realPart, Data.nearBlock, Data.part, RealPart.mk.injEq]
    refine ⟨?_, ?_, ?_, ?_, trivial, trivial⟩ <;> funext i l
    · exact whole_ix (x := q) (by simp [rowAt, Cert.Attn.row, blockAt]; omega) (by simp [laneAt, group])
    · exact whole_ix (x := d) (by simp [rowAt, Cert.Attn.row, blockAt]; omega) (by simp [laneAt, group])
    · exact near_ix (x := k) (by simp [rowAt, blockAt]; split <;> omega) (by simp [shared, Cert.Attn.own, laneAt, group, Data.lane64]; omega)
    · exact near_ix (x := v) (by simp [rowAt, blockAt]; split <;> omega) (by simp [shared, Cert.Attn.own, laneAt, group, Data.lane64]; omega)
  unfold partsAt
  rw [iblk0 h t, iblk1 h t, iblk2 h t, iblk3 h t, iblk4 h t, iblk5 h t, iblk6 h t, iblk7 h t]
  fin_cases b
  · exact e0 ▸ reads0 (stg0 t) (whole0 t) (stg1 t) (whole1 t) (stg2 t) (whole2 t) (stg3 t) (whole3 t) (stg4 t) (whole4 t) (stg5 t) (whole5 t) (stg6 t) (whole6 t) (stg7 t) (whole7 t) (fun r l => q (rowAt t r) (laneAt t l)) (fun r l => d (rowAt t r) (laneAt t l)) (fun r l => k (rowAt t r) (shared (laneAt t l))) (fun r l => v (rowAt t r) (shared (laneAt t l))) (fun r l => k (prevAt t r) (shared (laneAt t l))) (fun r l => v (prevAt t r) (shared (laneAt t l))) (fun b r l => (data q k w v d).weight (blockAt t b) (group t) (Data.headOf r) (Data.rowOf r) l) (fun b r => (data q k w v d).sinkWeight (blockAt t b) (group t) (Data.headOf r) (Data.rowOf r))
  · exact e 1 (by norm_num) ▸ reads1 (stg0 t) (whole0 t) (stg1 t) (whole1 t) (stg2 t) (whole2 t) (stg4 t) (whole4 t) (stg6 t) (whole6 t) (stg7 t) (whole7 t) (fun r l => q (rowAt t r) (laneAt t l)) (fun r l => d (rowAt t r) (laneAt t l)) (fun r l => k (rowAt t r) (shared (laneAt t l))) (fun r l => v (rowAt t r) (shared (laneAt t l))) (fun b r l => (data q k w v d).weight (blockAt t b) (group t) (Data.headOf r) (Data.rowOf r) l) (fun b r => (data q k w v d).sinkWeight (blockAt t b) (group t) (Data.headOf r) (Data.rowOf r))
  · exact e 2 (by norm_num) ▸ reads2 (stg0 t) (whole0 t) (stg1 t) (whole1 t) (stg2 t) (whole2 t) (stg4 t) (whole4 t) (stg6 t) (whole6 t) (stg7 t) (whole7 t) (fun r l => q (rowAt t r) (laneAt t l)) (fun r l => d (rowAt t r) (laneAt t l)) (fun r l => k (rowAt t r) (shared (laneAt t l))) (fun r l => v (rowAt t r) (shared (laneAt t l))) (fun b r l => (data q k w v d).weight (blockAt t b) (group t) (Data.headOf r) (Data.rowOf r) l) (fun b r => (data q k w v d).sinkWeight (blockAt t b) (group t) (Data.headOf r) (Data.rowOf r))
  · exact e 3 (by norm_num) ▸ reads3 (stg0 t) (whole0 t) (stg1 t) (whole1 t) (stg2 t) (whole2 t) (stg4 t) (whole4 t) (stg6 t) (whole6 t) (stg7 t) (whole7 t) (fun r l => q (rowAt t r) (laneAt t l)) (fun r l => d (rowAt t r) (laneAt t l)) (fun r l => k (rowAt t r) (shared (laneAt t l))) (fun r l => v (rowAt t r) (shared (laneAt t l))) (fun b r l => (data q k w v d).weight (blockAt t b) (group t) (Data.headOf r) (Data.rowOf r) l) (fun b r => (data q k w v d).sinkWeight (blockAt t b) (group t) (Data.headOf r) (Data.rowOf r))

end Cert.AttnPoint
-- ==== Proof.AttnLists.lean ====
module

public import proofs.«01_k».proof.Proof.AttnBlock

@[expose] public section

set_option maxRecDepth 65536

noncomputable section

namespace Cert.KAttnIdeal.Body

open Cert.KAttnIdeal Cert.KAttnIdeal.Gen
open Idealize.ShloMosaic Idealize.ShloMosaic.TcCoe Idealize.ShloMosaic.Tactic
open Idealize.SL Idealize.SL.ProofMode

variable {F : FTy → Type} [FloatOps F]

/-! ## What the runs leave, by the steps -/

section

variable (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S128x256 .bf16) (harg5 : arg5.IsWhole) (arg6 : Memref sig .tc .vmem S512x256 .bf16) (harg6 : arg6.IsWhole) (arg7 : Memref sig .tc .vmem S128x256 .bf16) (harg7 : arg7.IsWhole) (arg8 : Memref sig .tc .vmem S1x4x512x256 .bf16) (harg8 : arg8.IsWhole) (arg9 : Memref sig .tc .vmem S1x4x512x128 .bf16) (harg9 : arg9.IsWhole) (arg10 : Memref sig .tc .vmem S512x256 .f32) (harg10 : arg10.IsWhole) (arg11 : Memref sig .tc .vmem S2048x256 .f32) (harg11 : arg11.IsWhole) (arg12 : Memref sig .tc .vmem S2048x256 .f32) (harg12 : arg12.IsWhole) (arg13 : Memref sig .tc .vmem S1x8x128 .f32) (harg13 : arg13.IsWhole)
  (x2 : Vec F S512x256 .bf16) (x3 : Vec F S512x256 .bf16) (x4 : Vec F S512x256 .bf16) (x5 : Vec F S128x256 .bf16) (x6 : Vec F S512x256 .bf16) (x7 : Vec F S128x256 .bf16) (x8 : Vec F S1x4x512x256 .bf16) (x9 : Vec F S1x4x512x128 .bf16)

theorem first_queries (hc : firstPoint i) :
    (runFirst c i arg2 harg2 arg3 harg3 arg4 harg4 arg5 harg5 arg6 harg6 arg7 harg7 arg8 harg8 arg9 harg9 arg10 harg10 arg11 harg11 arg12 harg12 arg13 harg13 hc x2 x3 x4 x5 x6 x7 x8 x9).1 = tiled (parts arg2 harg2 arg3 harg3 arg4 harg4 arg5 harg5 arg6 harg6 arg7 harg7 arg8 harg8 arg9 harg9 x2 x3 x4 x5 x6 x7 x8 x9) := by sl_kernel_rfl
theorem first_keys (hc : firstPoint i) :
    (runFirst c i arg2 harg2 arg3 harg3 arg4 harg4 arg5 harg5 arg6 harg6 arg7 harg7 arg8 harg8 arg9 harg9 arg10 harg10 arg11 harg11 arg12 harg12 arg13 harg13 hc x2 x3 x4 x5 x6 x7 x8 x9).2.1 = summed i arg11 (fun b => ((parts arg2 harg2 arg3 harg3 arg4 harg4 arg5 harg5 arg6 harg6 arg7 harg7 arg8 harg8 arg9 harg9 x2 x3 x4 x5 x6 x7 x8 x9) b).dk) k0_pay4 := by sl_kernel_rfl
theorem first_values (hc : firstPoint i) :
    (runFirst c i arg2 harg2 arg3 harg3 arg4 harg4 arg5 harg5 arg6 harg6 arg7 harg7 arg8 harg8 arg9 harg9 arg10 harg10 arg11 harg11 arg12 harg12 arg13 harg13 hc x2 x3 x4 x5 x6 x7 x8 x9).2.2.1 = summed i arg12 (fun b => ((parts arg2 harg2 arg3 harg3 arg4 harg4 arg5 harg5 arg6 harg6 arg7 harg7 arg8 harg8 arg9 harg9 x2 x3 x4 x5 x6 x7 x8 x9) b).dv) k0_pay5 := by sl_kernel_rfl
theorem first_sinks (hc : firstPoint i) :
    (runFirst c i arg2 harg2 arg3 harg3 arg4 harg4 arg5 harg5 arg6 harg6 arg7 harg7 arg8 harg8 arg9 harg9 arg10 harg10 arg11 harg11 arg12 harg12 arg13 harg13 hc x2 x3 x4 x5 x6 x7 x8 x9).2.2.2.1 = sunk arg13 (parts arg2 harg2 arg3 harg3 arg4 harg4 arg5 harg5 arg6 harg6 arg7 harg7 arg8 harg8 arg9 harg9 x2 x3 x4 x5 x6 x7 x8 x9) k0_pay6 := by sl_kernel_rfl
theorem next_queries (hc : ¬firstPoint i) (y11 : Vec F S2048x256 .f32) (y12 : Vec F S2048x256 .f32) (y13 : Vec F S1x8x128 .f32) :
    (runNext c i arg2 harg2 arg3 harg3 arg4 harg4 arg5 harg5 arg6 harg6 arg7 harg7 arg8 harg8 arg9 harg9 arg10 harg10 arg11 harg11 arg12 harg12 arg13 harg13 hc x2 x3 x4 x5 x6 x7 x8 x9 y11 y12 y13).1 = tiled (parts arg2 harg2 arg3 harg3 arg4 harg4 arg5 harg5 arg6 harg6 arg7 harg7 arg8 harg8 arg9 harg9 x2 x3 x4 x5 x6 x7 x8 x9) := by sl_kernel_rfl
theorem next_keys (hc : ¬firstPoint i) (y11 : Vec F S2048x256 .f32) (y12 : Vec F S2048x256 .f32) (y13 : Vec F S1x8x128 .f32) :
    (runNext c i arg2 harg2 arg3 harg3 arg4 harg4 arg5 harg5 arg6 harg6 arg7 harg7 arg8 harg8 arg9 harg9 arg10 harg10 arg11 harg11 arg12 harg12 arg13 harg13 hc x2 x3 x4 x5 x6 x7 x8 x9 y11 y12 y13).2.1 = summed i arg11 (fun b => ((parts arg2 harg2 arg3 harg3 arg4 harg4 arg5 harg5 arg6 harg6 arg7 harg7 arg8 harg8 arg9 harg9 x2 x3 x4 x5 x6 x7 x8 x9) b).dk) y11 := by sl_kernel_rfl
theorem next_values (hc : ¬firstPoint i) (y11 : Vec F S2048x256 .f32) (y12 : Vec F S2048x256 .f32) (y13 : Vec F S1x8x128 .f32) :
    (runNext c i arg2 harg2 arg3 harg3 arg4 harg4 arg5 harg5 arg6 harg6 arg7 harg7 arg8 harg8 arg9 harg9 arg10 harg10 arg11 harg11 arg12 harg12 arg13 harg13 hc x2 x3 x4 x5 x6 x7 x8 x9 y11 y12 y13).2.2.1 = summed i arg12 (fun b => ((parts arg2 harg2 arg3 harg3 arg4 harg4 arg5 harg5 arg6 harg6 arg7 harg7 arg8 harg8 arg9 harg9 x2 x3 x4 x5 x6 x7 x8 x9) b).dv) y12 := by sl_kernel_rfl
theorem next_sinks (hc : ¬firstPoint i) (y11 : Vec F S2048x256 .f32) (y12 : Vec F S2048x256 .f32) (y13 : Vec F S1x8x128 .f32) :
    (runNext c i arg2 harg2 arg3 harg3 arg4 harg4 arg5 harg5 arg6 harg6 arg7 harg7 arg8 harg8 arg9 harg9 arg10 harg10 arg11 harg11 arg12 harg12 arg13 harg13 hc x2 x3 x4 x5 x6 x7 x8 x9 y11 y12 y13).2.2.2.1 = sunk arg13 (parts arg2 harg2 arg3 harg3 arg4 harg4 arg5 harg5 arg6 harg6 arg7 harg7 arg8 harg8 arg9 harg9 x2 x3 x4 x5 x6 x7 x8 x9) y13 := by sl_kernel_rfl

end

end Cert.KAttnIdeal.Body
-- ==== Proof.AttnLeft.lean ====
/- What a point of the attention backward kernel leaves in its four outputs, the blocks it reads being reals. -/
module

public import proofs.«01_k».proof.Proof.AttnLists
public import proofs.«01_k».proof.Proof.AttnStep
public import Idealize.ShloMosaic.Lib.Pipeline.ValueKit

@[expose] public section

set_option maxRecDepth 65536

noncomputable section

open Idealize.ShloMosaic Idealize.ShloMosaic.TcCoe Idealize.SL.Sem Idealize.ShloMosaic.WindowSum

namespace Cert.KAttnIdeal.Body

open Cert.KAttnIdeal Cert.KAttnIdeal.Gen Cert.Reals Cert.Attn

instance addWords : AddCommMonoid (Elt Ideal .f32) := inferInstanceAs (AddCommMonoid EReal)

/-! ## The sums of windows -/

/-- The half of a window of `z` that update `n` adds. -/
def half (z : Fin 4 → Fin 256 → Fin 256 → ℝ) (n : Fin 8) (p : Fin 128) (l : Fin 256) : ℝ :=
  z ⟨n.val / 2, by omega⟩ (if n.val % 2 = 0 then Data.upper p else Data.lower p) l

theorem addOwn_at (z : Fin 256 → Fin 256 → ℝ) (acc : S128x256.Idx → EReal) (p : Fin 128) (l : Fin 256) :
    addOwn (F := Ideal) (fun i => (z (i 0) (i 1) : EReal)) acc (ix2 p l) = acc (ix2 p l) + (z (Data.upper p) l : EReal) := by
  pointwise [addOwn]
  rfl

theorem addPrev_at (z : Fin 256 → Fin 256 → ℝ) (acc : S128x256.Idx → EReal) (p : Fin 128) (l : Fin 256) :
    addPrev (F := Ideal) (fun i => (z (i 0) (i 1) : EReal)) acc (ix2 p l) = acc (ix2 p l) + (z (Data.lower p) l : EReal) := by
  pointwise [addPrev]
  refine congrArg (acc (ix2 p l) + ·) (congrArg (fun s => (z s l : EReal)) (Fin.ext ?_))
  simp [Data.lower]

theorem updates_at (z : Fin 4 → Fin 256 → Fin 256 → ℝ) (n : Fin 8) (acc : S128x256.Idx → EReal) (p : Fin 128) (l : Fin 256) :
    updates (F := Ideal) (fun b i => (z b (i 0) (i 1) : EReal)) n acc (ix2 p l) = acc (ix2 p l) + (half z n p l : EReal) := by
  fin_cases n
  · exact addOwn_at (z 0) acc p l
  · exact addPrev_at (z 0) acc p l
  · exact addOwn_at (z 1) acc p l
  · exact addPrev_at (z 1) acc p l
  · exact addOwn_at (z 2) acc p l
  · exact addPrev_at (z 2) acc p l
  · exact addOwn_at (z 3) acc p l
  · exact addPrev_at (z 3) acc p l

/-- What the eight updates add to row `r`, lane `l`. -/
def added (i : grid0.Coords) (z : Fin 4 → Fin 256 → Fin 256 → ℝ) (r : ℕ) (l : Fin 256) : ℝ :=
  ∑ n : Fin 8, if h : row i n ≤ r ∧ r < row i n + 128 then half z n ⟨r - row i n, by omega⟩ l else 0

theorem summed_at (i : grid0.Coords) (arg : Memref sig .tc .vmem S2048x256 .f32) (z : Fin 4 → FVec Ideal S256x256 .f32)
    (z' : Fin 4 → Fin 256 → Fin 256 → ℝ) (hz : z = fun b i => (z' b (i 0) (i 1) : EReal)) (y : S2048x256.Idx → EReal) (r : Fin 2048) (l : Fin 256) :
    View.canon (summed i arg z y) (ix2 r l) = y (ix2 r l) + (added i z' r.val l : EReal) := by
  subst hz
  have cover : ∀ x : S2048x256.Idx, ∃ p ∈ ([⟨Rect.unit ![0, 0] S2048x256.size inb_S2048x256_S2048x256_0_0, y⟩] : List (View.Piece (Elt Ideal) S2048x256 .f32)), x ∈ p.1.set :=
    View.cover_of_wholeMem _ (by sl_whole_mem)
  unfold summed
  rw [← View.read_writes_eq_canon arg.view arg.view.junk _ fun x => by
    obtain ⟨p, hp, hx⟩ := cover x
    exact ⟨p, View.mem_accPieces_of_mem_bottom _ _ _ _ _ _ _ hp _ _, hx⟩]
  refine (View.read_accPieces_ix2 arg.view arg.view.junk _ (rows i) (rows_inb i) _ (row i) (rows_eq i) (fun n p l => (half z' n p l : EReal))
    (fun n acc p l => updates_at z' n acc p l) (fun r l => if h : r < 2048 then y (ix2 ⟨r, h⟩ l) else 0) (fun r l => ?_) 8 (Nat.le_refl 8) r l).trans ?_
  · rw [View.read_writes_eq_canon _ _ _ cover, dif_pos r.isLt]
    exact congrFun (View.canon_cons_unit_lit (Val := Elt Ideal) (S := S2048x256) (e := .f32) (off := ![0, 0]) inb_S2048x256_S2048x256_0_0 y [] (by decide)) (ix2 r l)
  · rw [windowAcc_all, dif_pos r.isLt]
    refine congrArg (y (ix2 r l) + ·) ?_
    unfold windowSum added
    rw [coe_sum]
    refine Finset.sum_congr rfl fun n _ => ?_
    by_cases p : row i n ≤ r.val ∧ r.val < row i n + 128
    · rw [dif_pos p, dif_pos p]
    · rw [dif_neg p, dif_neg p, EReal.coe_zero]

/-! ## The sinks' tile -/

/-- What step `n` adds at row `r`, lane `l` of the tile. -/
def sinkAdd (R : Fin 4 → RealPart) (n : Fin 16) (r : Fin 8) (l : Fin 128) : ℝ :=
  if l.val = n.val % 4 ∧ r.val = 0 then -∑ i, (R ⟨n.val / 4, by omega⟩).sink (sinkRow ⟨n.val % 4, by omega⟩ i) else 0

section

variable {P : Fin 4 → Part Ideal} {R : Fin 4 → RealPart} (h : ∀ b, (P b).Reads (R b))

include h

theorem sinkSteps_at (n : Fin 16) (acc : S1x8x128.Idx → EReal) (r : Fin 8) (l : Fin 128) :
    sinkSteps P n acc (ix3 0 r l) = acc (ix3 0 r l) + (sinkAdd R n r l : EReal) := by
  have e (g : Fin 4) (b : Fin 4) (z : FVec Ideal S128x1 .f32) (hz : z = fun i : S128x1.Idx => ((R b).sink (sinkRow g (i 0)) : EReal)) :
      sinkStep (F := Ideal) (BitVec.ofNat 32 g.val) z acc (ix3 0 r l)
        = acc (ix3 0 r l) + ((if l.val = g.val ∧ r.val = 0 then -∑ i, (R b).sink (sinkRow g i) else 0 : ℝ) : EReal) := by
    rw [hz]
    exact sinkStep_at g.val g.isLt (fun i => (R b).sink (sinkRow g (i 0))) acc r l
  fin_cases n
  · exact e 0 0 _ (Part.sink0_eq (h 0))
  · exact e 1 0 _ (Part.sink1_eq (h 0))
  · exact e 2 0 _ (Part.sink2_eq (h 0))
  · exact e 3 0 _ (Part.sink3_eq (h 0))
  · exact e 0 1 _ (Part.sink0_eq (h 1))
  · exact e 1 1 _ (Part.sink1_eq (h 1))
  · exact e 2 1 _ (Part.sink2_eq (h 1))
  · exact e 3 1 _ (Part.sink3_eq (h 1))
  · exact e 0 2 _ (Part.sink0_eq (h 2))
  · exact e 1 2 _ (Part.sink1_eq (h 2))
  · exact e 2 2 _ (Part.sink2_eq (h 2))
  · exact e 3 2 _ (Part.sink3_eq (h 2))
  · exact e 0 3 _ (Part.sink0_eq (h 3))
  · exact e 1 3 _ (Part.sink1_eq (h 3))
  · exact e 2 3 _ (Part.sink2_eq (h 3))
  · exact e 3 3 _ (Part.sink3_eq (h 3))

/-- The tile after the first `j` steps. -/
theorem sunk_steps (arg : Memref sig .tc .vmem S1x8x128 .f32) (y : S1x8x128.Idx → EReal) (r : Fin 8) (l : Fin 128) (j : ℕ) (hj : j ≤ 16) :
    View.canon (View.accPieces arg.view arg.view.junk [⟨Rect.unit ![0, 0, 0] S1x8x128.size inb_S1x8x128_S1x8x128_0_0_0, y⟩] ![1, 8, 128] (fun _ => ![0, 0, 0])
      (fun _ => inb_S1x8x128_S1x8x128_0_0_0) (sinkSteps P) j hj) (ix3 0 r l)
      = y (ix3 0 r l) + ((∑ n ∈ Finset.univ.filter fun n : Fin 16 => n.val < j, sinkAdd R n r l : ℝ) : EReal) := by
  have cover : ∀ x : S1x8x128.Idx, ∃ p ∈ ([⟨Rect.unit ![0, 0, 0] S1x8x128.size inb_S1x8x128_S1x8x128_0_0_0, y⟩] : List (View.Piece (Elt Ideal) S1x8x128 .f32)), x ∈ p.1.set :=
    View.cover_of_wholeMem _ (by sl_whole_mem)
  induction j with
  | zero =>
    have e : View.canon ([⟨Rect.unit ![0, 0, 0] S1x8x128.size inb_S1x8x128_S1x8x128_0_0_0, y⟩] : List (View.Piece (Elt Ideal) S1x8x128 .f32)) = y :=
      View.canon_cons_unit_lit (Val := Elt Ideal) (S := S1x8x128) (e := .f32) (off := ![0, 0, 0]) inb_S1x8x128_S1x8x128_0_0_0 y [] (by decide)
    refine (congrFun e (ix3 0 r l)).trans ?_
    simp
  | succ j ih =>
    rw [View.accPieces_succ]
    refine (congrFun (View.canon_cons_unit_lit (Val := Elt Ideal) (S := S1x8x128) (e := .f32) (off := ![0, 0, 0]) inb_S1x8x128_S1x8x128_0_0_0 _ _ (by decide)) (ix3 0 r l)).trans ?_
    have hs : (Finset.univ.filter fun n : Fin 16 => n.val < j + 1) = insert (⟨j, hj⟩ : Fin 16) (Finset.univ.filter fun n => n.val < j) := by
      ext n; simp only [Finset.mem_filter, Finset.mem_univ, true_and, Finset.mem_insert, Fin.ext_iff]; omega
    rw [sinkSteps_at h, hs, Finset.sum_insert (by simp), add_comm (sinkAdd R ⟨j, hj⟩ r l), EReal.coe_add, ← add_assoc, ← ih (Nat.le_of_succ_le hj)]
    refine congrArg (· + (sinkAdd R ⟨j, hj⟩ r l : EReal)) ?_
    rw [View.readAt_apply, View.read_writes_eq_canon _ _ _ fun x => by
      obtain ⟨p, hp, hx⟩ := cover x
      exact ⟨p, View.mem_accPieces_of_mem_bottom _ _ _ _ _ _ _ hp _ _, hx⟩]
    refine congrArg _ ?_
    funext a
    fin_cases a <;> refine Fin.ext ?_ <;> simp [Rect.unit, LoadRect.idx, Rect.toLoadRect]

theorem sunk_at (arg : Memref sig .tc .vmem S1x8x128 .f32) (y : S1x8x128.Idx → EReal) (r : Fin 8) (l : Fin 128) :
    View.canon (sunk arg P y) (ix3 0 r l) = y (ix3 0 r l) + ((∑ n, sinkAdd R n r l : ℝ) : EReal) := by
  refine (sunk_steps h arg y r l 16 (Nat.le_refl 16)).trans ?_
  rw [Finset.filter_true_of_mem fun n _ => n.isLt]

/-! ## The queries' tile -/

theorem tiled_at (r : Fin 512) (l : Fin 256) :
    View.canon (tiled P) (ix2 r l) = ((R ⟨r.val / 128, by omega⟩).dq ⟨r.val % 128, by omega⟩ l : EReal) := by
  have inside (o : ℕ) (b : Fin 4) (ho : o = b.val * 128) (inb) (L : List (View.Piece (Elt Ideal) S512x256 .f32)) (hr : r.val / 128 = b.val) :
      View.canon (⟨Rect.unit (s := S512x256) ![o, 0] S128x256.size inb, (P b).dq⟩ :: L) (ix2 r l)
        = ((R ⟨r.val / 128, by omega⟩).dq ⟨r.val % 128, by omega⟩ l : EReal) := by
    have e : ix2 r l = (Rect.unit (s := S512x256) ![o, 0] S128x256.size inb).emb (ix2 (⟨r.val % 128, by omega⟩ : Fin 128) l) := by
      funext a
      fin_cases a <;> refine Fin.ext ?_ <;> simp [Rect.unit, Rect.emb] <;> omega
    rw [e, View.canon_cons_emb]
    rw [show (⟨r.val / 128, by omega⟩ : Fin 4) = b from Fin.ext hr]
    exact Part.dq_at (h _) _ _
  have outside (o : ℕ) (b : Fin 4) (ho : o = b.val * 128) (inb) (L : List (View.Piece (Elt Ideal) S512x256 .f32)) (hr : ¬r.val / 128 = b.val) :
      View.canon (⟨Rect.unit (s := S512x256) ![o, 0] S128x256.size inb, (P b).dq⟩ :: L) (ix2 r l) = View.canon L (ix2 r l) := by
    refine View.canon_cons_of_not_mem _ _ fun hm => hr ?_
    have := (Rect.mem_set_unit (inb := inb)).mp hm 0
    simp at this
    omega
  unfold tiled
  obtain p | p | p | p : r.val / 128 = 3 ∨ r.val / 128 = 2 ∨ r.val / 128 = 1 ∨ r.val / 128 = 0 := by omega
  · exact inside 384 3 rfl _ _ p
  · rw [outside 384 3 rfl _ _ (by rw [p]; decide)]
    exact inside 256 2 rfl _ _ p
  · rw [outside 384 3 rfl _ _ (by rw [p]; decide), outside 256 2 rfl _ _ (by rw [p]; decide)]
    exact inside 128 1 rfl _ _ p
  · rw [outside 384 3 rfl _ _ (by rw [p]; decide), outside 256 2 rfl _ _ (by rw [p]; decide), outside 128 1 rfl _ _ (by rw [p]; decide)]
    exact inside 0 0 rfl _ _ p

end

end Cert.KAttnIdeal.Body
-- ==== Proof.AttnSums.lean ====
/- The sums over the points of a column of the attention backward kernel's grid. -/
module

public import proofs.«01_k».proof.Proof.AttnLeft

@[expose] public section

set_option maxRecDepth 65536

noncomputable section

open Idealize.ShloMosaic

namespace Cert.KAttnIdeal.Body

open Cert.KAttnIdeal Cert.KAttnIdeal.Gen Cert.Attn

/-- Block `b` of the four of point `s` of a column. -/
def blockOfPoint (s b : Fin 4) : Fin 16 := ⟨s.val * 4 + b.val, by omega⟩

variable (f : Fin 16 → Fin 256 → ℝ) (R : ℕ)

/-- What block `B` adds to row `R` of its own block, and of the block before. -/
def ownTerm (B : Fin 16) : ℝ :=
  if h : 128 * B.val ≤ R ∧ R < 128 * B.val + 128 then f B (Data.upper ⟨R - 128 * B.val, by omega⟩) else 0
def prevTerm (B : Fin 16) : ℝ :=
  if h : 128 * B.val - 128 ≤ R ∧ R < 128 * B.val - 128 + 128 then f B (Data.lower ⟨R - (128 * B.val - 128), by omega⟩) else 0

theorem at_offset {o o' : ℕ} (e : o = o') (g : Fin 128 → ℝ) :
    (if h : o ≤ R ∧ R < o + 128 then g ⟨R - o, by omega⟩ else 0) = if h : o' ≤ R ∧ R < o' + 128 then g ⟨R - o', by omega⟩ else 0 := by
  subst e; rfl

theorem added_eq (i : grid0.Coords) (s : Fin 4) (hs : (i 1).val = s.val) (z : Fin 4 → Fin 256 → Fin 256 → ℝ) (l : Fin 256)
    (hz : ∀ b p, z b p l = f (blockOfPoint s b) p) :
    added i z R l = ∑ b, (ownTerm f R (blockOfPoint s b) + prevTerm f R (blockOfPoint s b)) := by
  have even (n : Fin 8) (b : Fin 4) (h0 : n.val % 2 = 0) (hn : n.val / 2 = b.val) :
      (if h : row i n ≤ R ∧ R < row i n + 128 then half z n ⟨R - row i n, by omega⟩ l else 0) = ownTerm f R (blockOfPoint s b) := by
    rw [at_offset R (show row i n = 128 * (blockOfPoint s b).val by simp only [row, blockOfPoint]; omega) fun p => half z n p l]
    unfold ownTerm
    refine dite_congr rfl (fun h => ?_) fun _ => rfl
    simp only [half, h0, if_true]
    rw [show (⟨n.val / 2, by omega⟩ : Fin 4) = b from Fin.ext hn, hz]
  have odd (n : Fin 8) (b : Fin 4) (h0 : n.val % 2 = 1) (hn : n.val / 2 = b.val) :
      (if h : row i n ≤ R ∧ R < row i n + 128 then half z n ⟨R - row i n, by omega⟩ l else 0) = prevTerm f R (blockOfPoint s b) := by
    rw [at_offset R (show row i n = 128 * (blockOfPoint s b).val - 128 by simp only [row, blockOfPoint]; omega) fun p => half z n p l]
    unfold prevTerm
    refine dite_congr rfl (fun h => ?_) fun _ => rfl
    simp only [half, h0, one_ne_zero, if_false]
    rw [show (⟨n.val / 2, by omega⟩ : Fin 4) = b from Fin.ext hn, hz]
  unfold added
  rw [Fin.sum_univ_eight, Fin.sum_univ_four, even 0 0 rfl rfl, odd 1 0 rfl rfl, even 2 1 rfl rfl, odd 3 1 rfl rfl, even 4 2 rfl rfl, odd 5 2 rfl rfl,
    even 6 3 rfl rfl, odd 7 3 rfl rfl]
  ring

/-- The four points together leave each row its own block's part and the part of the block after. -/
theorem sum_added (hf : ∀ p, f 0 (Data.lower p) = 0) (r : Fin 2048) :
    ∑ s : Fin 4, ∑ b, (ownTerm f r.val (blockOfPoint s b) + prevTerm f r.val (blockOfPoint s b)) = Data.both f r := by
  refine (Fin.sum_mul_add_fin 4 4 fun B : Fin 16 => ownTerm f r.val B + prevTerm f r.val B).trans ?_
  rw [Finset.sum_add_distrib]
  unfold Data.both
  refine congrArg₂ (· + ·) ?_ ?_
  · rw [Finset.sum_eq_single (Data.blockOf r)]
    · unfold ownTerm
      rw [dif_pos (by simp only [Data.blockOf]; omega)]
      exact congrArg (fun p => f _ (Data.upper p)) (Fin.ext (by simp only [Data.blockOf, Data.inBlock]; omega))
    · intro B _ hB
      exact dif_neg fun h => hB (Fin.ext (by simp only [Data.blockOf]; omega))
    · exact fun h => absurd (Finset.mem_univ _) h
  · have first : prevTerm f r.val 0 = 0 := by
      unfold prevTerm
      split
      · exact hf _
      · rfl
    split
    · rename_i p
      rw [Finset.sum_eq_single (⟨r.val / 128 + 1, p⟩ : Fin 16)]
      · unfold prevTerm
        rw [dif_pos (by simp only; omega)]
        exact congrArg (fun p => f _ (Data.lower p)) (Fin.ext (by simp only [Data.inBlock]; omega))
      · intro B _ hB
        by_cases h0 : B = 0
        · rw [h0, first]
        · exact dif_neg fun h => hB (Fin.ext (by have : B.val ≠ 0 := fun e => h0 (Fin.ext e); simp only; omega))
      · exact fun h => absurd (Finset.mem_univ _) h
    · rename_i p
      refine Finset.sum_eq_zero fun B _ => ?_
      by_cases h0 : B = 0
      · rw [h0, first]
      · exact dif_neg fun h => by have : B.val ≠ 0 := fun e => h0 (Fin.ext e); omega

/-- The sixty-four steps of a column's tile together. -/
theorem sum_sinks (R : Fin 16 → RealPart) (r : Fin 8) (l : Fin 128) :
    ∑ s : Fin 4, ∑ n, sinkAdd (fun b => R (blockOfPoint s b)) n r l
      = if p : r.val = 0 ∧ l.val < 4 then -∑ B, ∑ i, (R B).sink (sinkRow ⟨l.val, p.2⟩ i) else 0 := by
  have inner (B : Fin 16) : (∑ g : Fin 4, if l.val = g.val ∧ r.val = 0 then -∑ i, (R B).sink (sinkRow g i) else 0)
      = if p : r.val = 0 ∧ l.val < 4 then -∑ i, (R B).sink (sinkRow ⟨l.val, p.2⟩ i) else 0 := by
    split
    · rename_i p
      rw [Finset.sum_eq_single (⟨l.val, p.2⟩ : Fin 4)]
      · rw [if_pos ⟨rfl, p.1⟩]
      · exact fun g _ hg => if_neg fun h => hg (Fin.ext h.1.symm)
      · exact fun h => absurd (Finset.mem_univ _) h
    · rename_i p
      exact Finset.sum_eq_zero fun g _ => if_neg fun h => p ⟨h.2, by omega⟩
  have outer (s : Fin 4) : ∑ n, sinkAdd (fun b => R (blockOfPoint s b)) n r l
      = ∑ b, if p : r.val = 0 ∧ l.val < 4 then -∑ i, (R (blockOfPoint s b)).sink (sinkRow ⟨l.val, p.2⟩ i) else 0 := by
    rw [← Fin.sum_mul_add_fin 4 4 fun n : Fin 16 => sinkAdd (fun b => R (blockOfPoint s b)) n r l]
    refine Finset.sum_congr rfl fun b _ => ?_
    rw [← inner]
    refine Finset.sum_congr rfl fun g _ => ?_
    have e1 : (b.val * 4 + g.val) % 4 = g.val := by omega
    have e2 : (b.val * 4 + g.val) / 4 = b.val := by omega
    simp only [sinkAdd, e1, e2]
  simp only [outer]
  refine (Fin.sum_mul_add_fin 4 4 fun B : Fin 16 => if p : r.val = 0 ∧ l.val < 4 then -∑ i, (R B).sink (sinkRow ⟨l.val, p.2⟩ i) else 0).trans ?_
  split
  · rw [Finset.sum_neg_distrib]
  · exact Finset.sum_const_zero

end Cert.KAttnIdeal.Body
-- ==== Proof.AttnValue.lean ====
/- The result arrays of the attention backward kernel, on real arguments. -/
module

public import proofs.«01_k».proof.Proof.AttnPoint
public import proofs.«01_k».proof.Proof.AttnSums

@[expose] public section

set_option maxRecDepth 65536

noncomputable section

open Idealize.ShloMosaic Idealize.ShloMosaic.TcCoe Idealize.SL.Sem
open Idealize.ShloMosaic.Pipeline (Dat)

namespace Cert.AttnValue

open Cert.KAttnIdeal Cert.KAttnIdeal.Gen Cert.Reals Cert.Attn Cert.AttnFwd Cert.AttnHost Cert.KAttnIdeal.Body Cert.AttnPoint

/-! ## What a point leaves, by its parts -/

section

variable (m : (ℓ : Loc nD τ sig) → Buf (Elt Ideal) ℓ) (c : Dev nD) (t : Fin cfg0.N)

theorem first_queries_at (p : t.val % 4 = 0) : (ranFirst m c t p).1 = tiled (partsAt m c t) :=
  first_queries (F := Ideal) c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (stg9 t) (whole9 t) (stg10 t) (whole10 t) (stg11 t) (whole11 t) (iblk m c 0 t) (iblk m c 1 t) (iblk m c 2 t) (iblk m c 3 t) (iblk m c 4 t) (iblk m c 5 t) (iblk m c 6 t) (iblk m c 7 t) _

theorem next_queries_at (p : ¬t.val % 4 = 0) (y9 y10 : Vec Ideal S2048x256 .f32) (y11 : Vec Ideal S1x8x128 .f32) : (ranNext m c t p y9 y10 y11).1 = tiled (partsAt m c t) :=
  next_queries (F := Ideal) c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (stg9 t) (whole9 t) (stg10 t) (whole10 t) (stg11 t) (whole11 t) (iblk m c 0 t) (iblk m c 1 t) (iblk m c 2 t) (iblk m c 3 t) (iblk m c 4 t) (iblk m c 5 t) (iblk m c 6 t) (iblk m c 7 t) _ y9 y10 y11

theorem first_keys_at (p : t.val % 4 = 0) : (ranFirst m c t p).2.1 = summed (grid0.coords t) (stg9 t) (fun b => (partsAt m c t b).dk) (k0_pay4 (F := Ideal)) :=
  first_keys (F := Ideal) c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (stg9 t) (whole9 t) (stg10 t) (whole10 t) (stg11 t) (whole11 t) (iblk m c 0 t) (iblk m c 1 t) (iblk m c 2 t) (iblk m c 3 t) (iblk m c 4 t) (iblk m c 5 t) (iblk m c 6 t) (iblk m c 7 t) _

theorem next_keys_at (p : ¬t.val % 4 = 0) (y9 y10 : Vec Ideal S2048x256 .f32) (y11 : Vec Ideal S1x8x128 .f32) : (ranNext m c t p y9 y10 y11).2.1 = summed (grid0.coords t) (stg9 t) (fun b => (partsAt m c t b).dk) y9 :=
  next_keys (F := Ideal) c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (stg9 t) (whole9 t) (stg10 t) (whole10 t) (stg11 t) (whole11 t) (iblk m c 0 t) (iblk m c 1 t) (iblk m c 2 t) (iblk m c 3 t) (iblk m c 4 t) (iblk m c 5 t) (iblk m c 6 t) (iblk m c 7 t) _ y9 y10 y11

theorem first_values_at (p : t.val % 4 = 0) : (ranFirst m c t p).2.2.1 = summed (grid0.coords t) (stg10 t) (fun b => (partsAt m c t b).dv) (k0_pay5 (F := Ideal)) :=
  first_values (F := Ideal) c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (stg9 t) (whole9 t) (stg10 t) (whole10 t) (stg11 t) (whole11 t) (iblk m c 0 t) (iblk m c 1 t) (iblk m c 2 t) (iblk m c 3 t) (iblk m c 4 t) (iblk m c 5 t) (iblk m c 6 t) (iblk m c 7 t) _

theorem next_values_at (p : ¬t.val % 4 = 0) (y9 y10 : Vec Ideal S2048x256 .f32) (y11 : Vec Ideal S1x8x128 .f32) : (ranNext m c t p y9 y10 y11).2.2.1 = summed (grid0.coords t) (stg10 t) (fun b => (partsAt m c t b).dv) y10 :=
  next_values (F := Ideal) c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (stg9 t) (whole9 t) (stg10 t) (whole10 t) (stg11 t) (whole11 t) (iblk m c 0 t) (iblk m c 1 t) (iblk m c 2 t) (iblk m c 3 t) (iblk m c 4 t) (iblk m c 5 t) (iblk m c 6 t) (iblk m c 7 t) _ y9 y10 y11

theorem first_sinks_at (p : t.val % 4 = 0) : (ranFirst m c t p).2.2.2.1 = sunk (stg11 t) (partsAt m c t) (k0_pay6 (F := Ideal)) :=
  first_sinks (F := Ideal) c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (stg9 t) (whole9 t) (stg10 t) (whole10 t) (stg11 t) (whole11 t) (iblk m c 0 t) (iblk m c 1 t) (iblk m c 2 t) (iblk m c 3 t) (iblk m c 4 t) (iblk m c 5 t) (iblk m c 6 t) (iblk m c 7 t) _

theorem next_sinks_at (p : ¬t.val % 4 = 0) (y9 y10 : Vec Ideal S2048x256 .f32) (y11 : Vec Ideal S1x8x128 .f32) : (ranNext m c t p y9 y10 y11).2.2.2.1 = sunk (stg11 t) (partsAt m c t) y11 :=
  next_sinks (F := Ideal) c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (stg9 t) (whole9 t) (stg10 t) (whole10 t) (stg11 t) (whole11 t) (iblk m c 0 t) (iblk m c 1 t) (iblk m c 2 t) (iblk m c 3 t) (iblk m c 4 t) (iblk m c 5 t) (iblk m c 6 t) (iblk m c 7 t) _ y9 y10 y11

theorem left_queries : (left m c t.val t.isLt).1 = View.canon (tiled (partsAt m c t)) := by
  by_cases p : t.val % 4 = 0
  · rw [left_first m c t p]
    unfold leftFirst
    dsimp only
    rw [first_queries_at]
  · rw [left_next m c t p]
    unfold leftNext
    dsimp only
    rw [next_queries_at]

theorem first_keys_left (p : t.val % 4 = 0) : (left m c t.val t.isLt).2.1 = View.canon (summed (grid0.coords t) (stg9 t) (fun b => (partsAt m c t b).dk) (k0_pay4 (F := Ideal))) := by
  rw [left_first m c t p]
  unfold leftFirst
  dsimp only
  rw [first_keys_at]

theorem next_keys_left (p : ¬t.val % 4 = 0) : (left m c t.val t.isLt).2.1 = View.canon (summed (grid0.coords t) (stg9 t) (fun b => (partsAt m c t b).dk) (leftBefore m c t).2.1) := by
  rw [left_next m c t p]
  unfold leftNext
  dsimp only
  rw [next_keys_at]

theorem first_values_left (p : t.val % 4 = 0) : (left m c t.val t.isLt).2.2.1 = View.canon (summed (grid0.coords t) (stg10 t) (fun b => (partsAt m c t b).dv) (k0_pay5 (F := Ideal))) := by
  rw [left_first m c t p]
  unfold leftFirst
  dsimp only
  rw [first_values_at]

theorem next_values_left (p : ¬t.val % 4 = 0) : (left m c t.val t.isLt).2.2.1 = View.canon (summed (grid0.coords t) (stg10 t) (fun b => (partsAt m c t b).dv) (leftBefore m c t).2.2.1) := by
  rw [left_next m c t p]
  unfold leftNext
  dsimp only
  rw [next_values_at]

theorem first_sinks_left (p : t.val % 4 = 0) : (left m c t.val t.isLt).2.2.2 = View.canon (sunk (stg11 t) (partsAt m c t) (k0_pay6 (F := Ideal))) := by
  rw [left_first m c t p]
  unfold leftFirst
  dsimp only
  rw [first_sinks_at]

theorem next_sinks_left (p : ¬t.val % 4 = 0) : (left m c t.val t.isLt).2.2.2 = View.canon (sunk (stg11 t) (partsAt m c t) (leftBefore m c t).2.2.2) := by
  rw [left_next m c t p]
  unfold leftNext
  dsimp only
  rw [next_sinks_at]

end

theorem zero_keys (j) : k0_pay4 (F := Ideal) j = 0 := by pointwise [k0_pay4]
theorem zero_values (j) : k0_pay5 (F := Ideal) j = 0 := by pointwise [k0_pay5]
theorem zero_sinks (j) : k0_pay6 (F := Ideal) j = 0 := by pointwise [k0_pay6]

theorem coords_eq : ∀ t : Fin cfg0.N, (grid0.coords t 1).val = t.val % 4 := (by decide +kernel : ∀ t : Fin grid0.N, _)

/-- The place of a point in its column. -/
def placeOf (t : Fin cfg0.N) : Fin 4 := ⟨t.val % 4, by omega⟩

variable {m : (ℓ : Loc nD τ sig) → Buf (Elt Ideal) ℓ} {c : Dev nD}
  {q : Fin 2048 → Fin 1024 → ℝ} {k v : Fin 2048 → Fin 256 → ℝ} {w : Fin 16 → ℝ} {d : Fin 2048 → Fin 1024 → ℝ}
  (h : Args m c q k v w d)

/-- Block `b` of point `t`. -/
abbrev real (q : Fin 2048 → Fin 1024 → ℝ) (k v : Fin 2048 → Fin 256 → ℝ) (w : Fin 16 → ℝ) (d : Fin 2048 → Fin 1024 → ℝ) (t : Fin cfg0.N) (b : Fin 4) : RealPart :=
  (data q k w v d).block (group t) (blockOfPoint (placeOf t) b)

theorem masked_zero (D : Data) (g : Fin 4) (p : Fin 128) (r : Fin 512) : (D.block g 0).a r (Data.lower p) = 0 :=
  D.weight_masked (by simp only [Data.lower, Fin.val_zero]; omega) g _ _

theorem dk_first (D : Data) (g : Fin 4) (l : Fin 256) (p : Fin 128) : (D.block g 0).dk (Data.lower p) l = 0 :=
  Finset.sum_eq_zero fun i _ => by simp only [RealPart.cotS, masked_zero, zero_mul]

theorem dv_first (D : Data) (g : Fin 4) (l : Fin 256) (p : Fin 128) : (D.block g 0).dv (Data.lower p) l = 0 :=
  Finset.sum_eq_zero fun i _ => by simp only [masked_zero, zero_mul]

include h

theorem agree (t : Fin cfg0.N) (b : Fin 4) : Agree ((data q k w v d).nearBlock (group t) (blockAt t b)) (real q k v w d t b) :=
  (data q k w v d).agree (group t) (blockAt t b)

theorem keys_eq (t : Fin cfg0.N) : (fun b => (partsAt m c t b).dk) = fun b i => ((real q k v w d t b).dk (i 0) (i 1) : EReal) :=
  funext fun b => (Part.dk_eq (reads h t b)).trans (by rw [(agree h t b).dk])

theorem values_eq (t : Fin cfg0.N) : (fun b => (partsAt m c t b).dv) = fun b i => ((real q k v w d t b).dv (i 0) (i 1) : EReal) :=
  funext fun b => (Part.dv_eq (reads h t b)).trans (by rw [(agree h t b).dv])

/-! ## The queries' gradient -/

theorem final8 : (dats m 0 c).arrAt 8 (cfgs 0).N = fun i : S2048x1024.Idx => ((data q k w v d).dq (i 0) (i 1) : EReal) := by
  refine (dats m 0 c).arrAt_eq_of_covers 8 _ (by decide +kernel) fun p _ y => ?_
  blk_simp
  rw [after8, left_queries]
  rw [show (win0_8.blk p).view.emb y = ix2 (rowAt p (y 0)) (laneAt p (y 1)) by blk_ext [idx p, rowAt, laneAt]]
  idx_vars y
  rw [tiled_at (reads h p), (agree h p _).dq]
  have hp := lt16 p
  refine congrArg Real.toEReal ?_
  unfold Data.dq
  rw [show Data.groupOf (laneAt p y1) = group p from Fin.ext (by simp only [Data.groupOf, laneAt, group]; omega),
    show Data.blockOf (rowAt p y0) = blockOfPoint (placeOf p) ⟨y0.val / 128, by omega⟩ from Fin.ext (by simp only [Data.blockOf, rowAt, blockOfPoint, placeOf]; omega),
    show Data.inBlock (rowAt p y0) = ⟨y0.val % 128, by omega⟩ from Fin.ext (by simp only [Data.inBlock, rowAt]; omega),
    show Data.inGroup (laneAt p y1) = y1 from Fin.ext (by simp only [Data.inGroup, laneAt]; omega)]

/-! ## The keys' and the values' gradients -/

omit h

/-- Point `s` of the column of point `p`. -/
theorem group_run (p : Fin cfg0.N) (s : Fin 4) (e) : group (⟨4 * (p.val / 4) + s.val, e⟩ : Fin cfg0.N) = group p :=
  Fin.ext (by simp only [group]; omega)
theorem placeOf_run (p : Fin cfg0.N) (s : Fin 4) (e) : placeOf (⟨4 * (p.val / 4) + s.val, e⟩ : Fin cfg0.N) = s :=
  Fin.ext (by simp only [placeOf]; omega)

/-- What point `t` adds, `f` the gradient of a block's window for the heads of a group. -/
def pointTerm (f : Fin 4 → Fin 16 → Fin 256 → Fin 256 → ℝ) (t : Fin cfg0.N) (i : S2048x256.Idx) : ℝ :=
  ∑ b, (ownTerm (fun B s => f (group t) B s (i 1)) (i 0).val (blockOfPoint (placeOf t) b)
    + prevTerm (fun B s => f (group t) B s (i 1)) (i 0).val (blockOfPoint (placeOf t) b))

theorem summed_point (f : Fin 4 → Fin 16 → Fin 256 → Fin 256 → ℝ) (t : Fin cfg0.N) (arg : Memref sig .tc .vmem S2048x256 .f32) (z : Fin 4 → FVec Ideal S256x256 .f32)
    (hz : z = fun b i => (f (group t) (blockOfPoint (placeOf t) b) (i 0) (i 1) : EReal)) (y : S2048x256.Idx → EReal) (i : S2048x256.Idx) :
    View.canon (summed (grid0.coords t) arg z y) i = y i + (pointTerm f t i : EReal) := by
  idx_vars i
  rw [summed_at (grid0.coords t) arg z (fun b => f (group t) (blockOfPoint (placeOf t) b)) hz y i0 i1]
  rw [added_eq (fun B s => f (group t) B s i1) i0.val (grid0.coords t) (placeOf t) (coords_eq t) _ i1 fun b p => rfl]
  rfl

theorem sum_points (f : Fin 4 → Fin 16 → Fin 256 → Fin 256 → ℝ) (hf : ∀ g l p, f g 0 (Data.lower p) l = 0) (p : Fin cfg0.N) (e : ∀ s : Fin 4, 4 * (p.val / 4) + s.val < cfg0.N) (i : S2048x256.Idx) :
    (0 : EReal) + ∑ s : Fin 4, (pointTerm f ⟨4 * (p.val / 4) + s.val, e s⟩ i : EReal) = ((Data.both (fun B s => f (group p) B s (i 1)) (i 0) : ℝ) : EReal) := by
  rw [zero_add, ← coe_sum]
  refine congrArg Real.toEReal ?_
  rw [← sum_added (fun B s => f (group p) B s (i 1)) (fun q => hf _ _ q) (i 0)]
  exact Finset.sum_congr rfl fun s _ => by unfold pointTerm; rw [group_run, placeOf_run]

theorem both_at (f : Fin 4 → Fin 16 → Fin 256 → Fin 256 → ℝ) (p : Fin cfg0.N) (r : Fin 2048) (l : Fin 256) :
    Data.both (fun B s => f (group p) B s l) r
      = Data.both (fun B s => f (Data.groupOf (laneAt p l)) B s (Data.inGroup (laneAt p l))) r := by
  have hp := lt16 p
  rw [show Data.groupOf (laneAt p l) = group p from Fin.ext (by simp only [Data.groupOf, laneAt, group]; omega),
    show Data.inGroup (laneAt p l) = l from Fin.ext (by simp only [Data.inGroup, laneAt]; omega)]

include h

theorem final9 : (dats m 0 c).arrAt 9 (cfgs 0).N = fun i : S2048x1024.Idx => ((data q k w v d).dk (i 0) (i 1) : EReal) := by
  refine (dats m 0 c).arrAt_eq_of_covers 9 _ (by decide +kernel) fun p hp y => ?_
  have hl : p.val % 4 = 3 := (flush0_9 p).mp hp
  blk_simp
  rw [after9, Pipeline.eq_sum_fin_of_reset_step_apply_of_flush (fun n h => (left m c n h).2.1) 4 (fun _ => 0)
    (fun t i => (pointTerm (fun g B => ((data q k w v d).block g B).dk) t i : EReal))
    (fun t ht i => by
      rw [first_keys_left m c t ht, summed_point (fun g B => ((data q k w v d).block g B).dk) t _ _ (keys_eq h t), zero_keys])
    (fun t ht i => by
      rw [next_keys_left m c t ht, summed_point (fun g B => ((data q k w v d).block g B).dk) t _ _ (keys_eq h t)])
    p hl y, sum_points _ (fun g l s => dk_first _ g l s)]
  rw [show (win0_9.blk p).view.emb y = ix2 (y 0) (laneAt p (y 1)) by blk_ext [idx p, laneAt]]
  exact congrArg Real.toEReal (both_at (fun g B => ((data q k w v d).block g B).dk) p (y 0) (y 1))

theorem final10 : (dats m 0 c).arrAt 10 (cfgs 0).N = fun i : S2048x1024.Idx => ((data q k w v d).dv (i 0) (i 1) : EReal) := by
  refine (dats m 0 c).arrAt_eq_of_covers 10 _ (by decide +kernel) fun p hp y => ?_
  have hl : p.val % 4 = 3 := (flush0_10 p).mp hp
  blk_simp
  rw [after10, Pipeline.eq_sum_fin_of_reset_step_apply_of_flush (fun n h => (left m c n h).2.2.1) 4 (fun _ => 0)
    (fun t i => (pointTerm (fun g B => ((data q k w v d).block g B).dv) t i : EReal))
    (fun t ht i => by
      rw [first_values_left m c t ht, summed_point (fun g B => ((data q k w v d).block g B).dv) t _ _ (values_eq h t), zero_values])
    (fun t ht i => by
      rw [next_values_left m c t ht, summed_point (fun g B => ((data q k w v d).block g B).dv) t _ _ (values_eq h t)])
    p hl y, sum_points _ (fun g l s => dv_first _ g l s)]
  rw [show (win0_10.blk p).view.emb y = ix2 (y 0) (laneAt p (y 1)) by blk_ext [idx p, laneAt]]
  exact congrArg Real.toEReal (both_at (fun g B => ((data q k w v d).block g B).dv) p (y 0) (y 1))

/-! ## The sinks' gradient -/

theorem sunk_point (t : Fin cfg0.N) (y : S1x8x128.Idx → EReal) (i : S1x8x128.Idx) :
    View.canon (sunk (stg11 t) (partsAt m c t) y) i
      = y i + ((∑ n, sinkAdd (fun b => (data q k w v d).block (group t) (blockOfPoint (placeOf t) b)) n (i 1) (i 2) : ℝ) : EReal) := by
  idx_vars i
  obtain rfl : i0 = 0 := Subsingleton.elim _ _
  rw [sunk_at (reads h t)]
  refine congrArg (y (ix3 0 i1 i2) + ·) (congrArg Real.toEReal (Finset.sum_congr rfl fun n _ => ?_))
  simp only [sinkAdd, (agree h t _).sink]

omit h

/-- The tile of the sinks' gradients. -/
def sinkTile (D : Data) (i : S4x8x128.Idx) : EReal := ((if p : (i 1).val = 0 ∧ (i 2).val < 4 then D.ds (i 0) ⟨(i 2).val, p.2⟩ else 0 : ℝ) : EReal)

include h

theorem final11 : (dats m 0 c).arrAt 11 (cfgs 0).N = sinkTile (data q k w v d) := by
  refine (dats m 0 c).arrAt_eq_of_covers 11 _ (by decide +kernel) fun p hp y => ?_
  have hl : p.val % 4 = 3 := (flush0_11 p).mp hp
  blk_simp
  rw [after11, Pipeline.eq_sum_fin_of_reset_step_apply_of_flush (fun n h => (left m c n h).2.2.2) 4 (fun _ => 0)
    (fun t i => ((∑ n, sinkAdd (fun b => (data q k w v d).block (group t) (blockOfPoint (placeOf t) b)) n (i 1) (i 2) : ℝ) : EReal))
    (fun t ht i => by rw [first_sinks_left m c t ht, sunk_point h t, zero_sinks])
    (fun t ht i => by rw [next_sinks_left m c t ht, sunk_point h t])
    p hl y, zero_add, ← coe_sum]
  rw [show (win0_11.blk p).view.emb y = ix3 (group p) (y 1) (y 2) by blk_ext [idx p, group]]
  refine congrArg Real.toEReal ?_
  simp only [group_run, placeOf_run]
  exact sum_sinks (fun B => (data q k w v d).block (group p) B) (y 1) (y 2)

end Cert.AttnValue
-- ==== Proof.AttnRef.lean ====
/- The gradients the attention reference computes, on real arrays. -/
module

public import proofs.«01_k».proof.Proof.AttnFwd

@[expose] public section

set_option maxRecDepth 16384

noncomputable section

open Idealize.ShloMosaic Idealize.SL.Sem

namespace Cert.AttnRef

open Cert.RAttnIdeal Cert.RAttnIdeal.Gen Cert.RAttnIdeal.Read Cert.Reals Cert.Attn Cert.AttnFwd

/-! ## A block's cotangents by head -/

section

variable (D : Data) (B : Fin 16) (h g : Fin 4) (i : Fin 128)

theorem headOf_sinkRow : Data.headOf (sinkRow g i) = g := Fin.ext (by simp only [Data.headOf, sinkRow]; omega)
theorem rowOf_sinkRow : Data.rowOf (sinkRow g i) = i := Fin.ext (by simp only [Data.rowOf, sinkRow]; omega)

theorem a_block (s : Fin 256) : (D.block h B).a (sinkRow g i) s = D.weight B h g i s := by
  show D.weight B h (Data.headOf _) (Data.rowOf _) s = _
  rw [headOf_sinkRow, rowOf_sinkRow]

theorem s_block : (D.block h B).s (sinkRow g i) = D.sinkWeight B h g i := by
  show D.sinkWeight B h (Data.headOf _) (Data.rowOf _) = _
  rw [headOf_sinkRow, rowOf_sinkRow]

theorem lane64_headLane (e : Fin 64) : Data.lane64 (headLane g e) = e := Fin.ext (by simp only [Data.lane64, headLane]; omega)

theorem d_block (e : Fin 64) : (D.block h B).d i (headLane g e) = D.d (row B i) (lane h g e) :=
  congrArg (D.d (row B i)) (Fin.ext (by simp only [headLane, lane]; omega))

theorem q_block (e : Fin 64) : (D.block h B).q i (headLane g e) = D.q (row B i) (lane h g e) :=
  congrArg (D.q (row B i)) (Fin.ext (by simp only [headLane, lane]; omega))

theorem cotW_block (s : Fin 256) :
    (D.block h B).cotW (sinkRow g i) s = ∑ e, D.d (row B i) (lane h g e) * window D.v B s h e := by
  have hg : (sinkRow g i).val / 128 = g.val := congrArg Fin.val (headOf_sinkRow g i)
  have hi : (⟨(sinkRow g i).val % 128, by omega⟩ : Fin 128) = i := rowOf_sinkRow g i
  simp only [RealPart.cotW, ite_mul, zero_mul, hg, hi]
  rw [sum_lanes (fun l => (D.block h B).d i l * (D.block h B).v s l) g]
  refine Finset.sum_congr rfl fun e _ => congrArg₂ (· * ·) (d_block D B h g i e) ?_
  exact congrArg (window D.v B s h) (lane64_headLane g e)

theorem mean_block : (D.block h B).mean (sinkRow g i) = ∑ s, D.weight B h g i s * (D.block h B).cotW (sinkRow g i) s :=
  Finset.sum_congr rfl fun s _ => congrArg (· * _) (a_block D B h g i s)

theorem cotS_block (s : Fin 256) : (D.block h B).cotS (sinkRow g i) s
    = D.weight B h g i s * ((D.block h B).cotW (sinkRow g i) s - (D.block h B).mean (sinkRow g i)) * (1 / 8) := by
  rw [RealPart.cotS, a_block]

theorem weight_sum : (∑ s, D.weight B h g i s) = 1 - D.sinkWeight B h g i := by
  have p := (D.den_pos B h g i).ne'
  simp only [Data.weight, Data.sinkWeight]
  rw [← Finset.sum_div, eq_sub_iff_add_eq, ← add_div]
  exact div_self p

end

/-! ## The cotangents of the softmax -/

/-- The sum of an array over its first and last axes. -/
theorem reduce_outer {n m : ℕ} (x : FVec Ideal ⟨4, ![n, 4, 4, m]⟩ .f32) (r : (⟨4, ![n, 4, 4, m]⟩ : Shape).ReducesTo [0, 3] ⟨2, ![4, 4]⟩)
    (init : EReal) (j : (⟨2, ![4, 4]⟩ : Shape).Idx) :
    Ideal.hostReduceAdd r x init j = init + ∑ B : Fin n, ∑ i : Fin m, x (ix4 B (j 0) (j 1) i) := by
  unfold Ideal.hostReduceAdd
  refine congrArg (init + ·) ?_
  rw [← Fintype.sum_prod_type' fun (B : Fin n) (i : Fin m) => x (ix4 B (j 0) (j 1) i)]
  refine Finset.sum_nbij' (fun i => (i 0, i 3)) (fun p => ix4 p.1 (j 0) (j 1) p.2) (fun _ _ => Finset.mem_univ _) (fun p _ => ?_)
    (fun i hi => ?_) (fun p _ => rfl) fun i hi => ?_
  · refine Finset.mem_filter.2 ⟨Finset.mem_univ _, ?_⟩
    funext b; fin_cases b <;> rfl
  · obtain rfl := (Finset.mem_filter.1 hi).2
    funext b; fin_cases b <;> rfl
  · obtain rfl := (Finset.mem_filter.1 hi).2
    refine congrArg x ?_
    funext b; fin_cases b <;> rfl

variable (q : Fin 2048 → Fin 1024 → ℝ) (k v : Fin 2048 → Fin 256 → ℝ) (w : Fin 16 → ℝ) (d : Fin 2048 → Fin 1024 → ℝ)

theorem values : val_main_v19 (F := Ideal) (mat v) = fun i => (window v (i 0) (i 1) (i 2) (i 4) : EReal) := windows v

theorem outs : val_main_v110 (F := Ideal) (mat d) = fun i => (d (row (i 0) (i 4)) (lane (i 1) (i 2) (i 3)) : EReal) := by
  funext i
  rw [val_main_v110_apply, show val_main_v109 (F := Ideal) (mat d) = _ from queries d]
  rfl

theorem cotWs : val_main_v111 (F := Ideal) (mat v) (mat d)
    = fun i => (((data q k w v d).block (i 1) (i 0)).cotW (sinkRow (i 2) (i 3)) (i 4) : EReal) := by
  funext i
  rw [val_main_v111_apply, outs, values]
  refine Eq.trans ?_ (congrArg Real.toEReal (cotW_block (data q k w v d) _ _ _ _ _)).symm
  simp only [← EReal.coe_mul, ← coe_sum]
  rfl

theorem invs : val_main_v101 (F := Ideal) (mat q) (mat k) (vec w)
    = fun i => ((1 / ((data q k w v d).den (i 0) (i 1) (i 2) (i 3) * (data q k w v d).den (i 0) (i 1) (i 2) (i 3)) : ℝ) : EReal) := by
  funext i
  rw [val_main_v101_apply, val_main_v100_apply, val_main_cst_20_apply, val_main_v99_apply, val_main_v96_apply, dens q k w v d]
  refine Eq.trans ?_ (div_real (mul_pos ((data q k w v d).den_pos _ _ _ _) ((data q k w v d).den_pos _ _ _ _)).ne' 1)
  refine congrArg₂ Ideal.div Ideal.ofBits_one_f32 (EReal.coe_mul _ _).symm

/-- The cotangent of a row's denominator. -/
def cotDen (B : Fin 16) (h g : Fin 4) (i : Fin 128) : ℝ :=
  -(((data q k w v d).block h B).mean (sinkRow g i) / (data q k w v d).den B h g i)

theorem cotDenTerms : val_main_v116 (F := Ideal) (mat q) (mat k) (mat v) (vec w) (mat d)
    = fun i => ((((data q k w v d).block (i 1) (i 0)).cotW (sinkRow (i 2) (i 3)) (i 4)
      * (1 / ((data q k w v d).den (i 0) (i 1) (i 2) (i 3) * (data q k w v d).den (i 0) (i 1) (i 2) (i 3)))
      * expo q k w (i 0) (i 1) (i 2) (i 3) (i 4) : ℝ) : EReal) := by
  funext i
  rw [val_main_v116_apply, val_main_v115_apply, val_main_v114_apply, cotWs q k v w d, invs q k v w d, expos]
  rw [EReal.coe_mul, EReal.coe_mul]
  rfl

theorem unit_row (B : Fin 16) (h g : Fin 4) (i : Fin 128) : idx_main_v118 (idx_main_v122 (ix4 B h g i) 0) = ix4 B h g i := by
  funext a
  fin_cases a <;> refine Fin.ext ?_ <;> simp [ix4] <;> omega

theorem cotDens : val_main_v122 (F := Ideal) (mat q) (mat k) (mat v) (vec w) (mat d)
    = fun i => (cotDen q k v w d (i 0) (i 1) (i 2) (i 3) : EReal) := by
  funext i
  idx_vars i
  rw [val_main_v122_apply, val_main_cst_23_apply, Fin.sum_univ_one, val_main_v119_apply, val_main_v118_apply, val_main_v117_apply,
    val_main_cst_22_apply, cotDenTerms, unit_row]
  show (Ideal.ofBits .f32 0x00000000#32 + -(Ideal.ofBits .f32 0x00000000#32 + _) : EReal) = _
  rw [Ideal.ofBits_zero_f32, zero_add, zero_add, ← coe_sum, ← EReal.coe_neg]
  refine congrArg Real.toEReal (congrArg Neg.neg ?_)
  rw [mean_block, Finset.sum_div]
  refine Finset.sum_congr rfl fun s _ => ?_
  have p := ((data q k w v d).den_pos i0 i1 i2 i3).ne'
  show ((data q k w v d).block i1 i0).cotW (sinkRow i2 i3) s * (1 / ((data q k w v d).den i0 i1 i2 i3 * (data q k w v d).den i0 i1 i2 i3)) * (data q k w v d).e i0 i1 i2 i3 s = _
  rw [Data.weight]
  field_simp

/-- The cotangent of an exponential times the exponential: a weight's share of what its cotangent is above the mean. -/
def cotE (B : Fin 16) (h g : Fin 4) (i : Fin 128) (s : Fin 256) : ℝ :=
  (data q k w v d).weight B h g i s * (((data q k w v d).block h B).cotW (sinkRow g i) s - ((data q k w v d).block h B).mean (sinkRow g i))

theorem cotEs : val_main_v131 (F := Ideal) (mat q) (mat k) (mat v) (vec w) (mat d)
    = fun i => (cotE q k v w d (i 0) (i 1) (i 2) (i 3) (i 4) : EReal) := by
  funext i
  idx_vars i
  have p := ((data q k w v d).den_pos i0 i1 i2 i3).ne'
  rw [val_main_v131_apply, val_main_v124_apply, val_main_v123_apply, val_main_v121_apply, val_main_v120_apply, val_main_v96_apply,
    dens q k w v d, cotDens, cotWs q k v w d, expos]
  refine Eq.trans (congrArg₂ (fun a b : EReal => (a + b) * _) (div_real p _) rfl) ?_
  refine (congrArg (· * _) (EReal.coe_add _ _).symm).trans ((EReal.coe_mul _ _).symm.trans (congrArg Real.toEReal ?_))
  show (_ + cotDen q k v w d i0 i1 i2 i3) * (data q k w v d).e i0 i1 i2 i3 i4 = cotE q k v w d i0 i1 i2 i3 i4
  show (((data q k w v d).block i1 i0).cotW (sinkRow i2 i3) i4 / _ + _) * _ = _
  rw [cotE, cotDen, Data.weight]
  field_simp
  ring

/-- The cotangent of a row's sink exponential, times it. -/
theorem cotSinks : val_main_v125 (F := Ideal) (mat q) (mat k) (mat v) (vec w) (mat d)
    = fun i => ((-((data q k w v d).block (i 1) (i 0)).sink (sinkRow (i 2) (i 3)) : ℝ) : EReal) := by
  funext i
  idx_vars i
  have p := ((data q k w v d).den_pos i0 i1 i2 i3).ne'
  rw [val_main_v125_apply, cotDens, sinkExpos]
  refine (EReal.coe_mul _ _).symm.trans (congrArg Real.toEReal ?_)
  show cotDen q k v w d i0 i1 i2 i3 * (data q k w v d).σ i0 i1 i2 i3 = -((data q k w v d).block i1 i0).sink (sinkRow i2 i3)
  rw [RealPart.sink, s_block, cotDen, Data.sinkWeight]
  field_simp

theorem cotE_sum (B : Fin 16) (h g : Fin 4) (i : Fin 128) :
    (∑ s, cotE q k v w d B h g i s) = ((data q k w v d).block h B).sink (sinkRow g i) := by
  simp only [cotE, mul_sub, Finset.sum_sub_distrib]
  rw [← Finset.sum_mul, ← mean_block, weight_sum, RealPart.sink, s_block]
  ring

/-- Nothing comes back through the maximum. -/
theorem cotTops : val_main_v136 (F := Ideal) (mat q) (mat k) (mat v) (vec w) (mat d) = fun _ => 0 := by
  funext i
  idx_vars i
  rw [val_main_v136_apply, val_main_v128_apply, val_main_v135_apply, val_main_cst_27_apply, Fin.sum_univ_one, val_main_v134_apply,
    val_main_v133_apply, val_main_cst_26_apply, cotSinks]
  simp only [val_main_v132_apply, cotEs]
  have e : (∑ s, -(cotE q k v w d i0 i1 i2 i3 s : EReal)) = ((-((data q k w v d).block i1 i0).sink (sinkRow i2 i3) : ℝ) : EReal) := by
    rw [← cotE_sum, ← Finset.sum_neg_distrib]
    simp only [coe_sum, EReal.coe_neg]
  show -((-((data q k w v d).block i1 i0).sink (sinkRow i2 i3) : ℝ) : EReal) + (Ideal.ofBits .f32 0x00000000#32
    + (Ideal.ofBits .f32 0x00000000#32 + ∑ s, -(cotE q k v w d (idx_main_v134 (idx_main_v135 (ix4 i0 i1 i2 i3) 0) 0)
      (idx_main_v134 (idx_main_v135 (ix4 i0 i1 i2 i3) 0) 1) (idx_main_v134 (idx_main_v135 (ix4 i0 i1 i2 i3) 0) 2)
      (idx_main_v134 (idx_main_v135 (ix4 i0 i1 i2 i3) 0) 3) s : EReal))) = 0
  rw [show idx_main_v134 (idx_main_v135 (ix4 i0 i1 i2 i3) 0) = ix4 i0 i1 i2 i3 from unit_row i0 i1 i2 i3, Ideal.ofBits_zero_f32, zero_add,
    zero_add]
  refine (congrArg (_ + ·) e).trans ?_
  rw [← EReal.coe_neg, ← EReal.coe_add]
  simp

/-- A share of nothing among equals is nothing. -/
theorem share_zero {n : ℕ} (z : Fin n → EReal) (hz : ∀ s, 0 ≤ z s) (s : Fin n) : Ideal.div 0 (0 + ∑ s, z s) * z s = 0 := by
  unfold Ideal.div
  split
  · rename_i h
    rw [zero_add, Finset.sum_eq_zero_iff_of_nonneg fun s _ => hz s] at h
    rw [h s (Finset.mem_univ _), mul_zero]
  · rw [zero_mul, zero_mul]

theorem flag_nonneg (b : BitVec 1) : (0 : EReal) ≤ FloatOps.uitofp (F := Ideal) .f32 b :=
  EReal.coe_nonneg.2 (Nat.cast_nonneg b.toNat)

/-- The scores' cotangents. -/
theorem cotScores : val_main_v151 (F := Ideal) (mat q) (mat k) (mat v) (vec w) (mat d)
    = fun i => (((data q k w v d).block (i 1) (i 0)).cotS (sinkRow (i 2) (i 3)) (i 4) : EReal) := by
  funext i
  idx_vars i
  have z : val_main_v146 (F := Ideal) (mat q) (mat k) (mat v) (vec w) (mat d) (ix5 i0 i1 i2 i3 i4) = 0 := by
    rw [val_main_v146_apply, val_main_v145_apply, val_main_v144_apply, val_main_v140_apply, cotTops, val_main_v64_apply, val_main_cst_12_apply]
    have hy : ∀ j, (0 : EReal) ≤ val_main_v63 (F := Ideal) (mat q) (mat k) j :=
      fun j => (flag_nonneg _).trans_eq (val_main_v63_apply _ _ j).symm
    generalize val_main_v63 (F := Ideal) (mat q) (mat k) = y at hy
    generalize val_main_v76 (F := Ideal) (mat q) (mat k) (vec w) (idx_main_v145 (ix5 i0 i1 i2 i3 i4)) = u
    have e := share_zero (fun s => y (ix5 i0 i1 i2 i3 s)) (fun s => hy _) i4
    have ei : ∀ s, idx_main_v64 (idx_main_v145 (ix5 i0 i1 i2 i3 i4)) s = ix5 i0 i1 i2 i3 s := fun s => by
      funext a; fin_cases a <;> rfl
    simp only [ei]
    refine Eq.trans ?_ e
    show Ideal.div (0 * u) (Ideal.ofBits .f32 0x00000000#32 + ∑ s, y (ix5 i0 i1 i2 i3 s)) * _ = _
    rw [zero_mul, Ideal.ofBits_zero_f32]
  rw [val_main_v151_apply, val_main_v149_apply, val_main_v150_apply, val_main_cst_31_apply, val_main_v148_apply, val_main_cst_30_apply,
    val_main_v147_apply, z, mask, select_bool, cotEs]
  show (if _ then (_ + 0 : EReal) else Ideal.ofBits .f32 0x00000000#32) * Ideal.ofBits .f32 0x3E000000#32 = _
  rw [Ideal.ofBits_zero_f32, word_eighth, add_zero, cotS_block, EReal.coe_mul]
  refine congrArg (· * _) ?_
  split
  · rfl
  · rename_i p
    rw [Data.weight, (data q k w v d).e_masked _ _ _ _ _ p, zero_div, zero_mul, EReal.coe_zero]

/-! ## The gradients -/

theorem dq_block (D : Data) (B : Fin 16) (h g : Fin 4) (i : Fin 128) (e : Fin 64) :
    (D.block h B).dq i (headLane g e) = ∑ s, (D.block h B).cotS (sinkRow g i) s * window D.k B s h e := by
  rw [RealPart.dq, headRow_headLane]
  exact Finset.sum_congr rfl fun s _ => congrArg (_ * window D.k B s h ·) (lane64_headLane g e)

theorem dk_block (D : Data) (B : Fin 16) (h g : Fin 4) (s : Fin 256) (e : Fin 64) :
    (D.block h B).dk s (headLane g e) = ∑ i, (D.block h B).cotS (sinkRow g i) s * D.q (row B i) (lane h g e) := by
  simp only [RealPart.dk, headRow_headLane, q_block]

theorem dv_block (D : Data) (B : Fin 16) (h g : Fin 4) (s : Fin 256) (e : Fin 64) :
    (D.block h B).dv s (headLane g e) = ∑ i, D.d (row B i) (lane h g e) * D.weight B h g i s := by
  simp only [RealPart.dv, headRow_headLane, d_block, a_block, mul_comm]

theorem grad_queries : val_main_v154 (F := Ideal) (mat q) (mat k) (mat v) (vec w) (mat d)
    = fun i => (((data q k w v d).block (i 1) (i 0)).dq (i 3) (headLane (i 2) (i 4)) : EReal) := by
  funext i
  rw [val_main_v154_apply, cotScores, windows]
  refine Eq.trans ?_ (congrArg Real.toEReal (dq_block (data q k w v d) _ _ _ _ _)).symm
  simp only [← EReal.coe_mul, ← coe_sum]
  rfl

theorem grad_keys : val_main_v153 (F := Ideal) (mat q) (mat k) (mat v) (vec w) (mat d)
    = fun i => (((data q k w v d).block (i 2) (i 0)).dk (i 1) (headLane (i 3) (i 4)) : EReal) := by
  funext i
  rw [val_main_v153_apply, val_main_v152_apply, cotScores, queries]
  refine Eq.trans ?_ (congrArg Real.toEReal (dk_block (data q k w v d) _ _ _ _ _)).symm
  simp only [← EReal.coe_mul, ← coe_sum]
  rfl

theorem grad_values : val_main_v113 (F := Ideal) (mat q) (mat k) (vec w) (mat d)
    = fun i => (((data q k w v d).block (i 2) (i 0)).dv (i 1) (headLane (i 3) (i 4)) : EReal) := by
  funext i
  rw [val_main_v113_apply, val_main_v112_apply, weights q k w v d, outs]
  refine Eq.trans ?_ (congrArg Real.toEReal (dv_block (data q k w v d) _ _ _ _ _)).symm
  simp only [← EReal.coe_mul, ← coe_sum]
  rfl

/-- The group, head and lane of a column. -/
theorem inGroup_eq (c : Fin 1024) :
    headLane (⟨c.val / 64 % 4, by omega⟩ : Fin 4) (⟨c.val % 64, by omega⟩ : Fin 64) = Data.inGroup c :=
  Fin.ext (by simp only [headLane, Data.inGroup]; omega)

theorem result_dq : val_main_v172 (F := Ideal) (mat q) (mat k) (mat v) (vec w) (mat d)
    = fun i => ((data q k w v d).dq (i 0) (i 1) : EReal) := by
  funext i
  idx_vars i
  rw [val_main_v172_apply, val_main_v155_apply, grad_queries]
  have e : ∀ h B i l h' B' i' l', h = h' → B = B' → i = i' → l = l' →
    (((data q k w v d).block h B).dq i l : EReal) = ((data q k w v d).block h' B').dq i' l' := by
    rintro _ _ _ _ _ _ _ _ rfl rfl rfl rfl; rfl
  refine e _ _ _ _ _ _ _ _ ?_ ?_ ?_ ((congrArg₂ headLane ?_ ?_).trans (inGroup_eq i1)) <;> refine Fin.ext ?_ <;>
    simp [Data.groupOf, Data.blockOf, Data.inBlock, ix2] <;> omega

/-- Each row's part from its own block's window and from the window of the block after. -/
theorem merged (f : Fin 4 → Fin 16 → Fin 256 → Fin 256 → ℝ) (x : FVec Ideal S16x256x4x4x64 .f32)
    (hx : x = fun i => (f (i 2) (i 0) (i 1) (headLane (i 3) (i 4)) : EReal)) :
    shapeCast S2048x1024 (shapeCast S2048x4x4x64
      (addf (extractStridedSlice S16x128x4x4x64 ![0, 128, 0, 0, 0] x slices_S16x256x4x4x64_S16x128x4x4x64_0_128_0_0_0)
        (pad S16x128x4x4x64 ![0, 0, 0, 0, 0] ![1, 0, 0, 0, 0] ![0, 0, 0, 0, 0]
          (extractStridedSlice S15x128x4x4x64 ![1, 0, 0, 0, 0]
            (extractStridedSlice S16x128x4x4x64 ![0, 0, 0, 0, 0] x slices_S16x256x4x4x64_S16x128x4x4x64_0_0_0_0_0)
            slices_S16x128x4x4x64_S15x128x4x4x64_1_0_0_0_0)
          (constant (F := Ideal) S_ .f32 0x00000000#32) pads_S15x128x4x4x64_S16x128x4x4x64_010_000_000_000_000 h_S_))
      shapeCasts_S16x128x4x4x64_S2048x4x4x64) shapeCasts_S2048x4x4x64_S2048x1024
    = fun i => (Data.both (fun B s => f (Data.groupOf (i 1)) B s (Data.inGroup (i 1))) (i 0) : EReal) := by
  have hx' : ∀ (B : Fin 16) (s : Fin 256) (h g : Fin 4) (l : Fin 64), x (ix5 B s h g l) = (f h B s (headLane g l) : EReal) :=
    fun B s h g l => congrFun hx _
  funext i
  idx_vars i
  pointwise
  have e : ∀ (B B' : Fin 16) (s : Fin 256) (h g : Fin 4) (l : Fin 64), B = B' → h = Data.groupOf i1 → headLane g l = Data.inGroup i1 →
      x (ix5 B s h g l) = (f (Data.groupOf i1) B' s (Data.inGroup i1) : EReal) := by
    intro B B' s h g l p p' p''
    rw [hx', p, p', p'']
  refine (congrArg₂ (· + ·) (e _ _ _ _ _ _ rfl rfl (inGroup_eq i1)) ?_).trans (EReal.coe_add _ _).symm
  by_cases p : i0.val / 128 < 15
  · rw [dif_pos ⟨p, by omega, by omega, by omega, by omega⟩]
    have p' : i0.val / 128 + 1 < 16 := by omega
    have eb := e ⟨1 + i0.val / 128, by omega⟩ ⟨i0.val / 128 + 1, p'⟩ ⟨i0.val % 128, by omega⟩ _ _ _ (Fin.ext (Nat.add_comm _ _)) rfl (inGroup_eq i1)
    exact eb.trans (congrArg Real.toEReal (by rw [dif_pos p']; rfl))
  · rw [dif_neg fun h => p h.1]
    have p' : ¬i0.val / 128 + 1 < 16 := by omega
    exact congrArg Real.toEReal (by rw [dif_neg p'])

theorem result_dk : val_main_v175 (F := Ideal) (mat q) (mat k) (mat v) (vec w) (mat d)
    = fun i => ((data q k w v d).dk (i 0) (i 1) : EReal) := by
  have h := grad_keys q k v w d
  unfold val_main_v175 val_main_v171 val_main_v170 val_main_v169 val_main_v168 val_main_v166 val_main_v165 val_main_cst_34
  generalize val_main_v153 (F := Ideal) (mat q) (mat k) (mat v) (vec w) (mat d) = x at h
  exact merged (fun h B s l => ((data q k w v d).block h B).dk s l) x h

theorem result_dv : val_main_v176 (F := Ideal) (mat q) (mat k) (vec w) (mat d)
    = fun i => ((data q k w v d).dv (i 0) (i 1) : EReal) := by
  have h := grad_values q k v w d
  unfold val_main_v176 val_main_v164 val_main_v163 val_main_v162 val_main_v161 val_main_v159 val_main_v158 val_main_cst_33
  generalize val_main_v113 (F := Ideal) (mat q) (mat k) (vec w) (mat d) = x at h
  exact merged (fun h B s l => ((data q k w v d).block h B).dv s l) x h

theorem reduce_cast {n m : ℕ} (x : FVec Ideal ⟨4, ![n, 4, 4, m]⟩ .f32) (f : Fin n → Fin 4 → Fin 4 → Fin m → ℝ)
    (hx : x = fun i => (f (i 0) (i 1) (i 2) (i 3) : EReal)) (r : (⟨4, ![n, 4, 4, m]⟩ : Shape).ReducesTo [0, 3] ⟨2, ![4, 4]⟩) :
    Host.reduceAdd x (constant (F := Ideal) S_ .f32 0x00000000#32) r h_S_ = fun j => ((∑ B, ∑ i, f B (j 0) (j 1) i : ℝ) : EReal) := by
  funext j
  refine (reduce_outer x r _ j).trans ?_
  refine (congrArg (· + _) Ideal.ofBits_zero_f32).trans ?_
  rw [zero_add, hx]
  simp only [coe_sum]
  rfl

theorem sink_sums : val_main_v126 (F := Ideal) (mat q) (mat k) (mat v) (vec w) (mat d)
    = fun i => ((data q k w v d).ds (i 0) (i 1) : EReal) := by
  refine (reduce_cast _ (fun B h g i => -((data q k w v d).block h B).sink (sinkRow g i)) (cotSinks q k v w d) _).trans ?_
  funext j
  refine congrArg Real.toEReal ?_
  simp only [Finset.sum_neg_distrib]
  rfl

theorem sink_sums' : val_main_v129 (F := Ideal) (mat q) (mat k) (mat v) (vec w) (mat d)
    = fun i => ((data q k w v d).ds (i 0) (i 1) : EReal) := by
  refine (reduce_cast _ (fun _ h g _ => (data q k w v d).ds h g) ?_ _).trans ?_
  · funext i
    idx_vars i
    have e : ∀ j : S4x4.Idx, j 0 = i1 → j 1 = i2 → val_main_v126 (F := Ideal) (mat q) (mat k) (mat v) (vec w) (mat d) j
        = ((data q k w v d).ds i1 i2 : EReal) := by
      rw [sink_sums]
      rintro j rfl rfl; rfl
    rw [val_main_v127_apply]
    exact e _ (Fin.ext (by simp; omega)) (Fin.ext (by simp))
  · simp

theorem sink_zeros : val_main_v141 (F := Ideal) (mat q) (mat k) (mat v) (vec w) (mat d) = fun _ => ((0 : ℝ) : EReal) := by
  refine (reduce_cast _ (fun _ _ _ _ => 0) ?_ _).trans (by simp)
  funext i
  have e : val_main_v138 (F := Ideal) (mat q) (mat k) (mat v) (vec w) (mat d) = fun _ => ((0 : ℝ) : EReal) := by
    refine (reduce_cast _ (fun _ _ _ _ => 0) ?_ _).trans (by simp)
    funext i
    rw [val_main_v137_apply, cotTops]
    exact zero_mul _
  rw [val_main_v139_apply, e]

theorem result_ds : val_main_v174 (F := Ideal) (mat q) (mat k) (mat v) (vec w) (mat d) = fun i =>
    ((if p : (i 1).val = 0 ∧ (i 2).val < 4 then (data q k w v d).ds (i 0) ⟨(i 2).val, p.2⟩ else 0 : ℝ) : EReal) := by
  have e : ∀ j : S4x1x4.Idx, val_main_v173 (F := Ideal) (mat q) (mat k) (mat v) (vec w) (mat d) j = ((data q k w v d).ds (j 0) (j 2) : EReal) := by
    intro j
    idx_vars j
    rw [val_main_v173_apply, val_main_v157_apply, val_main_v156_apply, val_main_cst_32_apply, Fin.sum_univ_one, val_main_v143_apply,
      val_main_v130_apply, val_main_v142_apply, sink_zeros]
    have e : ∀ j : S4x4.Idx, j 0 = j0 → j 1 = j2 → val_main_v129 (F := Ideal) (mat q) (mat k) (mat v) (vec w) (mat d) j
        = ((data q k w v d).ds j0 j2 : EReal) := by
      rw [sink_sums']
      rintro j rfl rfl; rfl
    refine (congrArg₂ (fun a b : EReal => a + (b + ((0 : ℝ) : EReal))) Ideal.ofBits_zero_f32 (e _ ?_ ?_)).trans ?_
    · exact Fin.ext (by simp; omega)
    · exact Fin.ext (by simp)
    · rw [EReal.coe_zero, add_zero, zero_add]
  funext i
  idx_vars i
  pointwise [val_main_v174]
  simp only [Nat.lt_one_iff]
  split
  · rename_i p
    exact e _
  · exact fill_zero

end Cert.AttnRef
-- ==== Proof.AttnClaim.lean ====
/- The attention's backward pass: the kernel's results are the reference's, at finite arguments. -/
module

public import proofs.«01_k».proof.Defs
public import proofs.«01_k».proof.Proof.AttnValue
public import proofs.«01_k».proof.Proof.AttnRef
public import proofs.«01_k».proof.Proof.Gen.Pre_finite_attn

@[expose] public section

set_option maxRecDepth 16384

noncomputable section

open Idealize.ShloMosaic Idealize.ShloMosaic.TcCoe Idealize.SL.Sem

namespace Cert.AttnClaim

open Cert.KAttnIdeal Cert.Reals Cert.AttnFwd

theorem reals_mat {n l : ℕ} {X : FVec Ideal ⟨2, ![n, l]⟩ .f32} (h : ∃ x : Shape.Idx ⟨2, ![n, l]⟩ → ℝ, X = fun i => (x i : EReal)) :
    ∃ x : Fin n → Fin l → ℝ, X = mat x := by
  obtain ⟨x, rfl⟩ := h
  exact ⟨fun r s => x (ix2 r s), funext fun i => congrArg (fun j => (x j : EReal)) (by funext a; fin_cases a <;> rfl)⟩

theorem reals_vec {X : FVec Ideal ⟨1, ![16]⟩ .f32} (h : ∃ x : Shape.Idx ⟨1, ![16]⟩ → ℝ, X = fun i => (x i : EReal)) :
    ∃ x : Fin 16 → ℝ, X = vec x := by
  obtain ⟨x, rfl⟩ := h
  exact ⟨fun r => x (ix1 r), funext fun i => congrArg (fun j => (x j : EReal)) (by funext a; fin_cases a; rfl)⟩

theorem reals (m : (ℓ : Loc nD τ sig) → Buf (Elt Ideal) ℓ) (h : Cert.Pre_KAttnIdeal_finite_attn m) (c : Dev nD) :
    ∃ (q : Fin 2048 → Fin 1024 → ℝ) (k v : Fin 2048 → Fin 256 → ℝ) (w : Fin 16 → ℝ) (d : Fin 2048 → Fin 1024 → ℝ),
      AttnHost.Args m c q k v w d := by
  have e := congrFun (h c) (fun a => a.elim0)
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  haveI : Subsingleton Cert.Pre_finite_attn.S_.Idx := ⟨fun a b => funext fun i => i.elim0⟩
  obtain ⟨q, hq⟩ := reals_mat (reals_of_finite e0 fun _ => rfl)
  obtain ⟨k, hk⟩ := reals_mat (reals_of_finite e1 fun _ => rfl)
  obtain ⟨v, hv⟩ := reals_mat (reals_of_finite e2 fun _ => rfl)
  obtain ⟨w, hw⟩ := reals_vec (reals_of_finite e3 fun _ => rfl)
  obtain ⟨d, hd⟩ := reals_mat (reals_of_finite e4 fun _ => rfl)
  exact ⟨q, k, v, w, d, hq, hk, hv, hw, hd⟩

theorem frame_reference : Cert.quiescent_RAttnIdeal := fun m ρ _ =>
  (θ_run _ _ _).mono (fun r h => ⟨fun c => (h c).2.2.2.2, sem_eq_zero_of_no_sems (by decide) r.2⟩) (Cert.RAttnIdeal.Value.run m ρ)

/-- The reference's four arrays, of arguments that are these reals. -/
theorem result_values (V0 : Valuation Cert.RAttnIdeal.τ Cert.RAttnIdeal.sig (Elt Ideal)) (q : Fin 2048 → Fin 1024 → ℝ) (k v : Fin 2048 → Fin 256 → ℝ)
    (w : Fin 16 → ℝ) (d : Fin 2048 → Fin 1024 → ℝ) (hq : V0 (Proc.devRef .tc Cert.RAttnIdeal.main_arg0) = mat q)
    (hk : V0 (Proc.devRef .tc Cert.RAttnIdeal.main_arg1) = mat k) (hv : V0 (Proc.devRef .tc Cert.RAttnIdeal.main_arg2) = mat v)
    (hw : V0 (Proc.devRef .tc Cert.RAttnIdeal.main_arg3) = vec w) (hd : V0 (Proc.devRef .tc Cert.RAttnIdeal.main_arg4) = mat d) :
    Cert.RAttnIdeal.Read.val_main_v172 (F := Ideal) (V0 (Proc.devRef .tc Cert.RAttnIdeal.main_arg0)) (V0 (Proc.devRef .tc Cert.RAttnIdeal.main_arg1))
        (V0 (Proc.devRef .tc Cert.RAttnIdeal.main_arg2)) (V0 (Proc.devRef .tc Cert.RAttnIdeal.main_arg3)) (V0 (Proc.devRef .tc Cert.RAttnIdeal.main_arg4))
      = (fun i => ((data q k w v d).dq (i 0) (i 1) : EReal))
    ∧ Cert.RAttnIdeal.Read.val_main_v175 (F := Ideal) (V0 (Proc.devRef .tc Cert.RAttnIdeal.main_arg0)) (V0 (Proc.devRef .tc Cert.RAttnIdeal.main_arg1))
        (V0 (Proc.devRef .tc Cert.RAttnIdeal.main_arg2)) (V0 (Proc.devRef .tc Cert.RAttnIdeal.main_arg3)) (V0 (Proc.devRef .tc Cert.RAttnIdeal.main_arg4))
      = (fun i => ((data q k w v d).dk (i 0) (i 1) : EReal))
    ∧ Cert.RAttnIdeal.Read.val_main_v176 (F := Ideal) (V0 (Proc.devRef .tc Cert.RAttnIdeal.main_arg0)) (V0 (Proc.devRef .tc Cert.RAttnIdeal.main_arg1))
        (V0 (Proc.devRef .tc Cert.RAttnIdeal.main_arg3)) (V0 (Proc.devRef .tc Cert.RAttnIdeal.main_arg4))
      = (fun i => ((data q k w v d).dv (i 0) (i 1) : EReal))
    ∧ Cert.RAttnIdeal.Read.val_main_v174 (F := Ideal) (V0 (Proc.devRef .tc Cert.RAttnIdeal.main_arg0)) (V0 (Proc.devRef .tc Cert.RAttnIdeal.main_arg1))
        (V0 (Proc.devRef .tc Cert.RAttnIdeal.main_arg2)) (V0 (Proc.devRef .tc Cert.RAttnIdeal.main_arg3)) (V0 (Proc.devRef .tc Cert.RAttnIdeal.main_arg4))
      = AttnValue.sinkTile (data q k w v d) := by
  rw [hq, hk, hv, hw, hd]
  exact ⟨AttnRef.result_dq q k v w d, AttnRef.result_dk q k v w d, AttnRef.result_dv q k v w d, AttnRef.result_ds q k v w d⟩

/-- The kernel's four arrays after its run. -/
theorem run_kernel (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v81_0) = (Body.dats m 0 c).arrAt 8 (cfgs 0).N
      ∧ r.2.mem ((c.tc : Thread nD τ).loc main_v81_1) = (Body.dats m 0 c).arrAt 9 (cfgs 0).N
      ∧ r.2.mem ((c.tc : Thread nD τ).loc main_v81_2) = (Body.dats m 0 c).arrAt 10 (cfgs 0).N
      ∧ r.2.mem ((c.tc : Thread nD τ).loc main_v81_3) = (Body.dats m 0 c).arrAt 11 (cfgs 0).N) :=
  (θ_run _ _ _).mono (fun r hr c => ⟨(hr c).1 8, (hr c).1 9, (hr c).1 10, (hr c).1 11⟩) (Body.run_main m g)

theorem algebraic : Cert.algebraic_KAttnIdeal_RAttnIdeal_pre_finite_attn := by
  intro m g m' g' hpre hagree
  choose q k v w d h using reals m hpre
  refine ⟨fun c i => ((data (q c) (k c) (w c) (v c) (d c)).dq (i 0) (i 1) : EReal), fun c i => ((data (q c) (k c) (w c) (v c) (d c)).dk (i 0) (i 1) : EReal),
    fun c i => ((data (q c) (k c) (w c) (v c) (d c)).dv (i 0) (i 1) : EReal), fun c => AttnValue.sinkTile (data (q c) (k c) (w c) (v c) (d c)), ?_, ?_⟩
  · exact (θ_run _ _ _).mono (fun r hr c => ⟨(hr.1 c).1.trans (AttnValue.final8 (h c)), (hr.1 c).2.1.trans (AttnValue.final9 (h c)),
      (hr.1 c).2.2.1.trans (AttnValue.final10 (h c)), (hr.1 c).2.2.2.trans (AttnValue.final11 (h c)), hr.2.1 c⟩)
      (θ_run_and (run_kernel m g) (Cert.KAttnIdeal.Body.frame m g))
  · refine (θ_run _ _ _).mono (fun r hr c => ?_) (Cert.RAttnIdeal.Value.run m' g')
    obtain ⟨a0, a1, a2, a3, a4⟩ := hagree c
    have e := result_values (StableHlo.launchContents m' c) (q c) (k c) (v c) (w c) (d c) (a0.trans (h c).q) (a1.trans (h c).k) (a2.trans (h c).v)
      (a3.trans (h c).w) (a4.trans (h c).d)
    have hc := hr c
    exact ⟨hc.1.trans ((Cert.RAttnIdeal.Read.val_main_v172_eq (StableHlo.launchContents m' c)).trans e.1),
      hc.2.1.trans ((Cert.RAttnIdeal.Read.val_main_v175_eq (StableHlo.launchContents m' c)).trans e.2.1),
      hc.2.2.1.trans ((Cert.RAttnIdeal.Read.val_main_v176_eq (StableHlo.launchContents m' c)).trans e.2.2.1),
      hc.2.2.2.1.trans ((Cert.RAttnIdeal.Read.val_main_v174_eq (StableHlo.launchContents m' c)).trans e.2.2.2), hc.2.2.2.2⟩

end Cert.AttnClaim

end
-- ==== Proof.PrePay.lean ====
/- What the body of the state space layer's norm backward computes on blocks of reals. -/
module

public import proofs.«01_k».proof.Proof.Norm
public import proofs.«01_k».proof.Proof.Gen.KPreIdeal.Skeleton
public import Idealize.ShloMosaic.Lib.Pointwise

@[expose] public section

set_option maxRecDepth 16384

noncomputable section

open Idealize.ShloMosaic Idealize.ShloMosaic.TcCoe Idealize.SL.Sem

namespace Cert.KPreIdeal.Pay

open Cert.KPreIdeal Cert.KPreIdeal.Gen Cert.Reals

variable (x u y : S512x1024.Idx → ℝ) (g d : S1x1024.Idx → ℝ)

/-- Row `r` of a block. -/
abbrev row (x : S512x1024.Idx → ℝ) (r : Fin 512) (k : Fin 1024) : ℝ := x (ix2 r k)

/-- The whole cotangent of the normed rows: by themselves, and through the skip. -/
def cot (u y : S512x1024.Idx → ℝ) (d : S1x1024.Idx → ℝ) (i : S512x1024.Idx) : ℝ := u i + d (ix2 0 (i 1)) * y i

theorem inv_eq : k0_pay7 (F := Ideal) (fun i => (x i : EReal)) = fun i => (Norm.inv (row x (i 0)) : EReal) := by
  funext i
  idx_vars i
  pointwise [k0_pay7]
  simp only [word_1024, word_eps]
  norm_cast
  rw [div_real (by norm_num)]
  norm_cast
  exact rsqrt_real (Norm.ms_pos _)

theorem gain_eq : k0_pay4 (F := Ideal) (fun i => (g i : EReal)) = fun i => (g i : EReal) := by
  funext i
  idx_vars i
  pointwise [k0_pay4]

theorem normed_eq : k0_pay5 (F := Ideal) (fun i => (x i : EReal)) (fun i => (g i : EReal))
    = fun i => (Norm.normed (row x (i 0)) (fun k => g (ix2 0 k)) (i 1) : EReal) := by
  funext i
  idx_vars i
  have h := congrFun (inv_eq x) (ix2 i0 0)
  pointwise [k0_pay7] at h
  pointwise [k0_pay5]
  rw [h, gain_eq]
  norm_cast

theorem cot_eq : k0_pay6 (F := Ideal) (fun i => (y i : EReal)) (fun i => (u i : EReal)) (fun i => (d i : EReal)) = fun i => (cot u y d i : EReal) := by
  funext i
  idx_vars i
  pointwise [k0_pay6]
  norm_cast

theorem dx_at (e : S512x1024.Idx → EReal) (r : Fin 512) (l : Fin 1024) :
    k0_pay11 (F := Ideal) (fun i => (x i : EReal)) (k0_pay8 (fun i => (g i : EReal)) (fun i => (y i : EReal)) (fun i => (u i : EReal)) (fun i => (d i : EReal)))
        (k0_pay9 (fun i => (x i : EReal)) (fun i => (g i : EReal)) (fun i => (y i : EReal)) (fun i => (u i : EReal)) (fun i => (d i : EReal)))
        (k0_pay10 (fun i => (x i : EReal))) e (ix2 r l)
      = e (ix2 r l) + (Norm.grad (row x r) (fun k => cot u y d (ix2 r k) * g (ix2 0 k)) l : ℝ) := by
  pointwise [k0_pay11, k0_pay8, k0_pay9, k0_pay10]
  rw [inv_eq, gain_eq, cot_eq]
  simp only [word_1024]
  refine congrArg (e (ix2 r l) + ·) ?_
  norm_cast
  rw [div_real (by norm_num)]
  norm_cast

theorem dg_at (z : Vec Ideal S8x1024 .f32) (j : S8x1024.Idx) :
    k0_pay12 (F := Ideal) (fun i => (x i : EReal)) (k0_pay6 (fun i => (y i : EReal)) (fun i => (u i : EReal)) (fun i => (d i : EReal)))
        (k0_pay7 (fun i => (x i : EReal))) z j
      = z j + ((if (j 0).val = 0 then ∑ r : Fin 512, cot u y d (ix2 r (j 1)) * x (ix2 r (j 1)) * Norm.inv (row x r) else 0 : ℝ) : EReal) := by
  idx_vars j
  pointwise [k0_pay12]
  rw [inv_eq, cot_eq, select_row (by omega)]
  refine congrArg (z (ix2 j0 j1) + ·) (Eq.trans ?_ (coe_ite _ _ _).symm)
  simp only [← EReal.coe_mul, ← coe_sum]
  rfl

theorem dd_at (z : Vec Ideal S8x1024 .f32) (j : S8x1024.Idx) :
    k0_pay1 (F := Ideal) (k0_pay13 z) (k0_pay14 (fun i => (y i : EReal)) (k0_pay5 (fun i => (x i : EReal)) (fun i => (g i : EReal)))) j
      = z j + ((if (j 0).val = 0 then ∑ r : Fin 512, y (ix2 r (j 1)) * Norm.normed (row x r) (fun k => g (ix2 0 k)) (j 1) else 0 : ℝ) : EReal) := by
  idx_vars j
  pointwise [k0_pay1, k0_pay13, k0_pay14]
  rw [normed_eq, select_row (by omega)]
  refine congrArg (z (ix2 j0 j1) + ·) (Eq.trans ?_ (coe_ite _ _ _).symm)
  simp only [← EReal.coe_mul, ← coe_sum]
  rfl

theorem zero_dg (j) : k0_pay2 (F := Ideal) j = 0 := by pointwise [k0_pay2]

theorem zero_dd (j) : k0_pay3 (F := Ideal) j = 0 := by pointwise [k0_pay3]

end Cert.KPreIdeal.Pay

end
-- ==== Proof.PreValue.lean ====
/- The result arrays of the norm backward kernel, on real arguments. -/
module

public import proofs.«01_k».proof.Proof.PrePay
public import proofs.«01_k».proof.Proof.Gen.KPreIdeal.Frame
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KPreIdeal.Final

open Cert.KPreIdeal Cert.KPreIdeal.Gen Cert.KPreIdeal.Pay Cert.Reals

variable (m : (ℓ : Loc nD τ sig) → Buf (Elt Ideal) ℓ) (c : Dev nD)
variable (x u y : S2048x1024.Idx → ℝ) (g d : S1024.Idx → ℝ)

/-- The arguments are these reals; the last one is any array. -/
structure Args : Prop where
  x : m ((c : Thread nD τ).loc main_arg0) = fun i => (x i : EReal)
  g : m ((c : Thread nD τ).loc main_arg1) = fun i => (g i : EReal)
  d : m ((c : Thread nD τ).loc main_arg2) = fun i => (d i : EReal)
  u : m ((c : Thread nD τ).loc main_arg3) = fun i => (u i : EReal)
  y : m ((c : Thread nD τ).loc main_arg4) = fun i => (y i : EReal)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] ∧ win0_8.index t = ![0, 0] :=
  (by decide +kernel : ∀ t : Fin grid0.N, _)

/-- Row `r` of block `p`, in the array. -/
def at_ (p : Fin cfg0.N) (r : Fin 512) : Fin 2048 :=
  ⟨p.val * 512 + r.val, by have := lt_of_lt_of_eq p.isLt N_0; omega⟩

def blk (a : S2048x1024.Idx → ℝ) (p : Fin cfg0.N) (i : S512x1024.Idx) : ℝ := a (ix2 (at_ p (i 0)) (i 1))

/-- A row vector read as one of 1024 entries. -/
def vec (g : S1024.Idx → ℝ) (i : S1x1024.Idx) : ℝ := g (ix1 (i 1))

/-- The gradient that passes by the layer. -/
def passed : S2048x1024.Idx → EReal := m ((c : Thread nD τ).loc main_arg5)

theorem iblk5 (p : Fin cfg0.N) (i : S512x1024.Idx) :
    iblk m c 5 p i = passed m c (ix2 (at_ p (i 0)) (i 1)) := by
  unfold passed
  blk_ext [iblk, V, idx p, at_]

variable {m c x u y g d} (h : Args m c x u y g d)
include h

theorem iblk0 (p : Fin cfg0.N) : iblk m c 0 p = fun i => (blk x p i : EReal) := by
  funext i
  have e : iblk m c 0 p i = m ((c : Thread nD τ).loc main_arg0) (ix2 (at_ p (i 0)) (i 1)) := by
    blk_ext [iblk, V, idx p, at_]
  rw [e, h.x]; rfl

theorem iblk2 (p : Fin cfg0.N) : iblk m c 2 p = fun i => (blk u p i : EReal) := by
  funext i
  have e : iblk m c 2 p i = m ((c : Thread nD τ).loc main_arg3) (ix2 (at_ p (i 0)) (i 1)) := by
    blk_ext [iblk, V, idx p, at_]
  rw [e, h.u]; rfl

theorem iblk3 (p : Fin cfg0.N) : iblk m c 3 p = fun i => (blk y p i : EReal) := by
  funext i
  have e : iblk m c 3 p i = m ((c : Thread nD τ).loc main_arg4) (ix2 (at_ p (i 0)) (i 1)) := by
    blk_ext [iblk, V, idx p, at_]
  rw [e, h.y]; rfl

theorem iblk1 (p : Fin cfg0.N) : iblk m c 1 p = fun i => (vec g i : EReal) := by
  funext i
  idx_vars i
  blk_simp [iblk, idx p]
  entry_read
  rw [h.g]
  pointwise
  blk_point [idx p, vec]

theorem iblk4 (p : Fin cfg0.N) : iblk m c 4 p = fun i => (vec d i : EReal) := by
  funext i
  idx_vars i
  blk_simp [iblk, idx p]
  entry_read
  rw [h.d]
  pointwise
  blk_point [idx p, vec]

/-- The whole cotangent of a normed row. -/
theorem cot_blk (p : Fin cfg0.N) (r : Fin 512) (k : Fin 1024) : cot (blk u p) (blk y p) (vec d) (ix2 r k)
    = u (ix2 (at_ p r) k) + d (ix1 k) * y (ix2 (at_ p r) k) := rfl

theorem final6 : (dats m 0 c).arrAt 6 (cfgs 0).N = fun i : S2048x1024.Idx => passed m c i
    + ((Norm.grad (fun k => x (ix2 (i 0) k)) (fun k => (u (ix2 (i 0) k) + d (ix1 k) * y (ix2 (i 0) k)) * g (ix1 k)) (i 1) : ℝ) : EReal) := by
  refine (dats m 0 c).arrAt_eq_of_covers 6 _ (by decide +kernel) fun p _ y' => ?_
  blk_simp
  rw [after0_6]
  have e : (outsAt0 m c p.val p.isLt).1 = k0_pay11 (iblk m c 0 p) (k0_pay8 (iblk m c 1 p) (iblk m c 3 p) (iblk m c 2 p) (iblk m c 4 p))
      (k0_pay9 (iblk m c 0 p) (iblk m c 1 p) (iblk m c 3 p) (iblk m c 2 p) (iblk m c 4 p)) (k0_pay10 (iblk m c 0 p)) (iblk m c 5 p) := by
    by_cases hp : p.val % 4 = 0
    · rw [outsAt0_A m c p hp]; frame_out
    · rw [outsAt0_B m c p hp]; frame_out
  rw [e, iblk0 h, iblk1 h, iblk2 h, iblk3 h, iblk4 h]
  rw [show (win0_6.blk p).view.emb y' = ix2 (at_ p (y' 0)) (y' 1) by blk_ext [idx p, at_]]
  idx_vars y'
  rw [dx_at, iblk5]
  rfl

theorem final7 : (dats m 0 c).arrAt 7 (cfgs 0).N
    = fun i : S8x1024.Idx => ((if (i 0).val = 0 then ∑ r : Fin 2048, (u (ix2 r (i 1)) + d (ix1 (i 1)) * y (ix2 r (i 1))) * x (ix2 r (i 1))
        * Norm.inv (fun k => x (ix2 r k)) else 0 : ℝ) : EReal) := by
  refine (dats m 0 c).arrAt_eq_of_after_last 7 t0_3 (by decide +kernel) _ fun j => ?_
  blk_simp
  rw [after0_7, Pipeline.eq_sum_fin_of_reset_step_apply_last (fun n h => (outsAt0 m c n h).2.1) 4 (fun _ => 0)
    (fun p j => (((if (j 0).val = 0 then ∑ r : Fin 512, cot (blk u p) (blk y p) (vec d) (ix2 r (j 1)) * blk x p (ix2 r (j 1))
        * Norm.inv (row (blk x p) r) else 0 : ℝ)) : EReal))
    (fun p hp j => by
      rw [outsAt0_A m c p hp]; frame_out
      rw [iblk0 h, iblk2 h, iblk3 h, iblk4 h, dg_at, zero_dg])
    (fun p hp j => by rw [outsAt0_B m c p hp]; frame_out; rw [iblk0 h, iblk2 h, iblk3 h, iblk4 h, dg_at])
    (le_of_eq N_0) t0_3 rfl j, zero_add]
  by_cases hj : (j 0).val = 0 <;> simp only [hj, if_true, if_false]
  · have e := sum_blocks N_0 fun r => (u (ix2 r (j 1)) + d (ix1 (j 1)) * y (ix2 r (j 1))) * x (ix2 r (j 1)) * Norm.inv (fun k => x (ix2 r k))
    rw [← e]
    norm_cast
  · simp

theorem final8 : (dats m 0 c).arrAt 8 (cfgs 0).N
    = fun i : S8x1024.Idx => ((if (i 0).val = 0 then ∑ r : Fin 2048, y (ix2 r (i 1)) * Norm.normed (fun k => x (ix2 r k)) (fun k => g (ix1 k)) (i 1)
        else 0 : ℝ) : EReal) := by
  refine (dats m 0 c).arrAt_eq_of_after_last 8 t0_3 (by decide +kernel) _ fun j => ?_
  blk_simp
  rw [after0_8, Pipeline.eq_sum_fin_of_reset_step_apply_last (fun n h => (outsAt0 m c n h).2.2) 4 (fun _ => 0)
    (fun p j => (((if (j 0).val = 0 then ∑ r : Fin 512, blk y p (ix2 r (j 1))
        * Norm.normed (row (blk x p) r) (fun k => vec g (ix2 0 k)) (j 1) else 0 : ℝ)) : EReal))
    (fun p hp j => by
      rw [outsAt0_A m c p hp]; frame_out
      rw [iblk0 h, iblk1 h, iblk3 h, dd_at, zero_dd])
    (fun p hp j => by rw [outsAt0_B m c p hp]; frame_out; rw [iblk0 h, iblk1 h, iblk3 h, dd_at])
    (le_of_eq N_0) t0_3 rfl j, zero_add]
  by_cases hj : (j 0).val = 0 <;> simp only [hj, if_true, if_false]
  · have e := sum_blocks N_0 fun r => y (ix2 r (j 1)) * Norm.normed (fun k => x (ix2 r k)) (fun k => g (ix1 k)) (j 1)
    rw [← e]
    norm_cast
  · simp

end Cert.KPreIdeal.Final

end
-- ==== Proof.PreRef.lean ====
/- The results of the norm backward's reference, on real arguments. -/
module

public import proofs.«01_k».proof.Proof.Norm
public import proofs.«01_k».proof.Proof.Gen.RPreIdeal.Read

@[expose] public section

set_option maxRecDepth 16384

noncomputable section

open Idealize.ShloMosaic Idealize.ShloMosaic.TcCoe Idealize.SL.Sem

namespace Cert.RPreIdeal.Real

open Cert.RPreIdeal Cert.RPreIdeal.Gen Cert.RPreIdeal.Read Cert.Reals

variable (x u y : S2048x1024.Idx → ℝ) (g d : S1024.Idx → ℝ) (e : S2048x1024.Idx → EReal)

abbrev row (x : S2048x1024.Idx → ℝ) (r : Fin 2048) (k : Fin 1024) : ℝ := x (ix2 r k)
abbrev gain (g : S1024.Idx → ℝ) (k : Fin 1024) : ℝ := g (ix1 k)

/-- The whole cotangent of the normed rows: by themselves, and through the skip. -/
def cot (u y : S2048x1024.Idx → ℝ) (d : S1024.Idx → ℝ) (r : Fin 2048) (k : Fin 1024) : ℝ := u (ix2 r k) + d (ix1 k) * y (ix2 r k)

theorem ms_at (r : Fin 2048) (j : Fin 1) : val_main_v6 (F := Ideal) (fun i => (x i : EReal)) (ix2 r j) = (Norm.ms (row x r) : ℝ) := by
  pointwise [val_main_v6, val_main_v5, val_main_v4, val_main_v3, val_main_v2, val_main_v1, val_main_v0, val_main_cst, val_main_cst_0, val_main_cst_1]
  simp only [word_1024, word_eps]
  norm_cast
  rw [div_real (by norm_num)]
  norm_cast

theorem inv_at (r : Fin 2048) (j : Fin 1) : val_main_v7 (F := Ideal) (fun i => (x i : EReal)) (ix2 r j) = (Norm.inv (row x r) : ℝ) := by
  pointwise [val_main_v7]
  rw [ms_at]
  exact rsqrt_real (Norm.ms_pos _)

theorem cot_at (r : Fin 2048) (k : Fin 1024) : val_main_v21 (F := Ideal) (fun i => (d i : EReal)) (fun i => (u i : EReal)) (fun i => (y i : EReal)) (ix2 r k)
    = (cot u y d r k : ℝ) := by
  pointwise [val_main_v21, val_main_v20, val_main_v19, val_main_v16]
  norm_cast

theorem dyg_at (r : Fin 2048) (k : Fin 1024) : val_main_v30 (F := Ideal) (fun i => (g i : EReal)) (fun i => (d i : EReal)) (fun i => (u i : EReal)) (fun i => (y i : EReal)) (ix2 r k)
    = (cot u y d r k * g (ix1 k) : ℝ) := by
  pointwise [val_main_v30, val_main_v29, val_main_v13]
  rw [cot_at]
  norm_cast

theorem dx_at (r : Fin 2048) (l : Fin 1024) :
    val_main_v46 (F := Ideal) (fun i => (x i : EReal)) (fun i => (g i : EReal)) (fun i => (d i : EReal)) (fun i => (u i : EReal)) (fun i => (y i : EReal)) e (ix2 r l)
      = e (ix2 r l) + (Norm.grad (row x r) (fun k => cot u y d r k * g (ix1 k)) l : ℝ) := by
  pointwise [val_main_v46, val_main_v45, val_main_v44, val_main_v43, val_main_v42, val_main_v41, val_main_v40, val_main_v39, val_main_v38,
    val_main_v37, val_main_v36, val_main_v35, val_main_v34, val_main_v33, val_main_v32, val_main_v10, val_main_v9, val_main_v8,
    val_main_cst_2, val_main_cst_7, val_main_cst_8, val_main_cst_9]
  simp only [dyg_at, inv_at, ms_at, word_1024, word_neg_half, Fin.sum_univ_one, div_real (Norm.ms_pos _).ne']
  rw [add_assoc, add_assoc]
  refine congrArg (e (ix2 r l) + ·) ?_
  norm_cast
  simp only [div_real (show (1024 : ℝ) ≠ 0 by norm_num)]
  norm_cast
  rw [← add_assoc]
  exact Norm.grad_eq (row x r) (fun k => cot u y d r k * g (ix1 k)) l

theorem dg_at (i : S8x1024.Idx) :
    val_main_v48 (F := Ideal) (fun i => (x i : EReal)) (fun i => (d i : EReal)) (fun i => (u i : EReal)) (fun i => (y i : EReal)) i
      = ((if (i 0).val = 0 then ∑ r, cot u y d r (i 1) * x (ix2 r (i 1)) * Norm.inv (row x r) else 0 : ℝ) : EReal) := by
  idx_vars i
  pointwise [val_main_v48, val_main_v47, val_main_v31, val_main_v28, val_main_v27, val_main_v26, val_main_v12, val_main_v11, val_main_cst_5, val_main_cst_6,
    val_main_c, val_main_call0_v0]
  simp only [inv_at, cot_at, fill_zero, Fin.sum_univ_one]
  refine masked (by simp [Nat.lt_one_iff]) ?_
  norm_cast
  refine Finset.sum_congr rfl fun r _ => ?_
  ring

theorem dd_at (i : S8x1024.Idx) :
    val_main_v50 (F := Ideal) (fun i => (x i : EReal)) (fun i => (g i : EReal)) (fun i => (y i : EReal)) i
      = ((if (i 0).val = 0 then ∑ r, y (ix2 r (i 1)) * Norm.normed (row x r) (gain g) (i 1) else 0 : ℝ) : EReal) := by
  idx_vars i
  pointwise [val_main_v50, val_main_v49, val_main_v25, val_main_v24, val_main_v23, val_main_v22, val_main_v15, val_main_v14, val_main_v13, val_main_v12, val_main_v11,
    val_main_cst_3, val_main_cst_4, val_main_c_10, val_main_call1_v0]
  simp only [inv_at, fill_zero, Fin.sum_univ_one]
  refine masked (by simp [Nat.lt_one_iff]) ?_
  norm_cast

end Cert.RPreIdeal.Real

end
-- ==== Proof.PreClaim.lean ====
/- The norm backward of the state space layer: the kernel's results are the reference's. -/
module

public import proofs.«01_k».proof.Defs
public import proofs.«01_k».proof.Proof.PreValue
public import proofs.«01_k».proof.Proof.PreRef
public import proofs.«01_k».proof.Proof.Gen.RPreIdeal.Run
public import proofs.«01_k».proof.Proof.Gen.Pre_finite_pre

@[expose] public section

set_option maxRecDepth 16384

noncomputable section

open Idealize.ShloMosaic Idealize.ShloMosaic.TcCoe Idealize.SL.Sem

namespace Cert.PreClaim

open Cert.KPreIdeal Cert.Reals

theorem reals (m : (ℓ : Loc nD τ sig) → Buf (Elt Ideal) ℓ) (h : Cert.Pre_KPreIdeal_finite_pre m) (c : Dev nD) :
    ∃ (x u y : S2048x1024.Idx → ℝ) (g d : S1024.Idx → ℝ), Final.Args m c x u y g d := by
  have e := congrFun (h c) (fun a => a.elim0)
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  haveI : Subsingleton Cert.Pre_finite_pre.S_.Idx := ⟨fun a b => funext fun i => i.elim0⟩
  obtain ⟨x, hx⟩ := reals_of_finite e0 fun _ => rfl
  obtain ⟨g, hg⟩ := reals_of_finite e1 fun _ => rfl
  obtain ⟨d, hd⟩ := reals_of_finite e2 fun _ => rfl
  obtain ⟨u, hu⟩ := reals_of_finite e3 fun _ => rfl
  obtain ⟨y, hy⟩ := reals_of_finite e4 fun _ => rfl
  exact ⟨x, u, y, g, d, hx, hg, hd, hu, hy⟩

theorem frame_reference : Cert.quiescent_RPreIdeal := fun m ρ _ =>
  (θ_run _ _ _).mono (fun r h => ⟨fun c => (h c).2.2.2, sem_eq_zero_of_no_sems (by decide) r.2⟩) (Cert.RPreIdeal.Value.run m ρ)

theorem algebraic : Cert.algebraic_KPreIdeal_RPreIdeal_pre_finite_pre := by
  pair_intro
  · run_from Cert.KPreIdeal.Gen.run_main m g
  · run_from Cert.RPreIdeal.Value.run m' g'
    all_goals obtain ⟨x, u, y, w, d, h⟩ := reals m hpre c
    · refine (Cert.RPreIdeal.Read.val_main_v46_eq _ _).trans ?_
      rw [Final.final6 h, (hagree c).1, (hagree c).2.1, (hagree c).2.2.1, (hagree c).2.2.2.1, (hagree c).2.2.2.2.1, (hagree c).2.2.2.2.2,
        h.x, h.g, h.d, h.u, h.y]
      funext i
      idx_vars i
      exact Cert.RPreIdeal.Real.dx_at x u y w d _ i0 i1
    · refine (Cert.RPreIdeal.Read.val_main_v48_eq _ _ _ _).symm.trans ?_
      rw [Final.final7 h, h.x, h.d, h.u, h.y]
      exact funext (Cert.RPreIdeal.Real.dg_at x u y d)
    · refine (Cert.RPreIdeal.Read.val_main_v50_eq _ _ _).symm.trans ?_
      rw [Final.final8 h, h.x, h.g, h.y]
      exact funext (Cert.RPreIdeal.Real.dd_at x y w)

end Cert.PreClaim

end
-- ==== Proof.QueryPay.lean ====
/- What the body of the query projection's backward computes on blocks of reals. -/
module

public import proofs.«01_k».proof.Proof.Norm
public import proofs.«01_k».proof.Proof.Gen.KQueryIdeal.Skeleton
public import Idealize.ShloMosaic.Lib.Pointwise

@[expose] public section

set_option maxRecDepth 16384

noncomputable section

open Idealize.ShloMosaic Idealize.ShloMosaic.TcCoe Idealize.SL.Sem

namespace Cert.KQueryIdeal.Pay

open Cert.KQueryIdeal Cert.KQueryIdeal.Gen Cert.Reals

variable (x q n : S512x1024.Idx → ℝ) (g : S1x1024.Idx → ℝ) (w : S1024x1024.Idx → ℝ)

/-- Row `r` of a block. -/
abbrev row (x : S512x1024.Idx → ℝ) (r : Fin 512) (k : Fin 1024) : ℝ := x (ix2 r k)

/-- The cotangent of the normed rows, through the projection. -/
def cot (q : S512x1024.Idx → ℝ) (w : S1024x1024.Idx → ℝ) (i : S512x1024.Idx) : ℝ := ∑ j : Fin 1024, q (ix2 (i 0) j) * w (ix2 (i 1) j)

theorem inv_eq : k0_pay11 (F := Ideal) (fun i => (x i : EReal)) = fun i => (Norm.inv (row x (i 0)) : EReal) := by
  funext i
  idx_vars i
  pointwise [k0_pay11]
  simp only [word_1024, word_eps]
  norm_cast
  rw [div_real (by norm_num)]
  norm_cast
  exact rsqrt_real (Norm.ms_pos _)

theorem gain_eq : k0_pay8 (F := Ideal) (fun i => (g i : EReal)) = fun i => (g i : EReal) := by
  funext i
  idx_vars i
  pointwise [k0_pay8]

theorem cot_eq : k0_pay10 (F := Ideal) (k0_pay5 (fun i => (q i : EReal))) (k0_pay9 (fun i => (w i : EReal))) (constant S512x1024 .f32 0x00000000#32)
    = fun i => (cot q w i : EReal) := by
  funext i
  idx_vars i
  pointwise [k0_pay10, k0_pay5, k0_pay9]
  norm_cast

theorem dx_at (e : S512x1024.Idx → EReal) (r : Fin 512) (l : Fin 1024) :
    k0_pay12 (F := Ideal) (k0_pay5 (fun i => (q i : EReal))) (fun i => (x i : EReal)) (k0_pay8 (fun i => (g i : EReal))) (k0_pay9 (fun i => (w i : EReal)))
        (constant S512x1024 .f32 0x00000000#32) e (ix2 r l)
      = e (ix2 r l) + (Norm.grad (row x r) (fun k => cot q w (ix2 r k) * g (ix2 0 k)) l : ℝ) := by
  pointwise [k0_pay12]
  rw [inv_eq, gain_eq, cot_eq]
  simp only [word_1024]
  refine congrArg (e (ix2 r l) + ·) ?_
  norm_cast
  rw [div_real (by norm_num)]
  norm_cast

theorem dg_at (z : Vec Ideal S8x1024 .f32) (j : S8x1024.Idx) :
    k0_pay13 (F := Ideal) (k0_pay5 (fun i => (q i : EReal))) (fun i => (x i : EReal)) (k0_pay9 (fun i => (w i : EReal)))
        (constant S512x1024 .f32 0x00000000#32) z j
      = z j + ((if (j 0).val = 0 then ∑ r : Fin 512, cot q w (ix2 r (j 1)) * x (ix2 r (j 1)) * Norm.inv (row x r) else 0 : ℝ) : EReal) := by
  idx_vars j
  pointwise [k0_pay13]
  rw [inv_eq, cot_eq, select_row (by omega)]
  refine congrArg (z (ix2 j0 j1) + ·) (Eq.trans ?_ (coe_ite _ _ _).symm)
  simp only [← EReal.coe_mul, ← coe_sum]
  rfl

theorem db_at (z : Vec Ideal S8x1024 .f32) (j : S8x1024.Idx) :
    k0_pay7 (F := Ideal) (fun i => (q i : EReal)) z j
      = z j + ((if (j 0).val = 0 then ∑ r : Fin 512, q (ix2 r (j 1)) else 0 : ℝ) : EReal) := by
  idx_vars j
  pointwise [k0_pay7]
  rw [select_row (by omega)]
  refine congrArg (z (ix2 j0 j1) + ·) (Eq.trans ?_ (coe_ite _ _ _).symm)
  simp only [← coe_sum]
  rfl

theorem dw_at (z : Vec Ideal S1024x1024 .f32) (j : S1024x1024.Idx) :
    k0_pay6 (F := Ideal) (fun i => (q i : EReal)) z (fun i => (n i : EReal)) j
      = z j + ((∑ r : Fin 512, n (ix2 r (j 0)) * q (ix2 r (j 1)) : ℝ) : EReal) := by
  idx_vars j
  pointwise [k0_pay6, k0_pay5]
  norm_cast

theorem zero_dw (j) : k0_pay2 (F := Ideal) j = 0 := by pointwise [k0_pay2]

theorem zero_db (j) : k0_pay3 (F := Ideal) j = 0 := by pointwise [k0_pay3]

theorem zero_dg (j) : k0_pay4 (F := Ideal) j = 0 := by pointwise [k0_pay4]

theorem cast_dw (z : Vec Ideal S1024x1024 .f32) (j) : k0_pay1 (F := Ideal) z j = z j := by pointwise [k0_pay1]

end Cert.KQueryIdeal.Pay

end
-- ==== Proof.QueryValue.lean ====
/- The result arrays of the query projection's backward kernel, on real arguments. -/
module

public import proofs.«01_k».proof.Proof.QueryPay
public import proofs.«01_k».proof.Proof.Gen.KQueryIdeal.Frame
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KQueryIdeal.Final

open Cert.KQueryIdeal Cert.KQueryIdeal.Gen Cert.KQueryIdeal.Pay Cert.Reals

variable (m : (ℓ : Loc nD τ sig) → Buf (Elt Ideal) ℓ) (c : Dev nD)
variable (x q : S2048x1024.Idx → ℝ) (g : S1024.Idx → ℝ) (w : S1024x1024.Idx → ℝ)

/-- The arguments are these reals; the bias is not read and the gradient that passes by is any array. -/
structure Args : Prop where
  x : m ((c : Thread nD τ).loc main_arg0) = fun i => (x i : EReal)
  g : m ((c : Thread nD τ).loc main_arg1) = fun i => (g i : EReal)
  w : m ((c : Thread nD τ).loc main_arg2) = fun i => (w i : EReal)
  q : m ((c : Thread nD τ).loc main_arg5) = fun i => (q i : EReal)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0]
    ∧ win0_7.index t = ![0, 0] ∧ win0_8.index t = ![0, 0] ∧ win0_9.index t = ![0, 0] :=
  (by decide +kernel : ∀ t : Fin grid0.N, _)

/-- Row `r` of block `p`, in the array. -/
def at_ (p : Fin cfg0.N) (r : Fin 512) : Fin 2048 :=
  ⟨p.val * 512 + r.val, by have := lt_of_lt_of_eq p.isLt N_0; omega⟩

def blk (a : S2048x1024.Idx → ℝ) (p : Fin cfg0.N) (i : S512x1024.Idx) : ℝ := a (ix2 (at_ p (i 0)) (i 1))

/-- A row vector read as one of 1024 entries. -/
def vec (g : S1024.Idx → ℝ) (i : S1x1024.Idx) : ℝ := g (ix1 (i 1))

/-- The normed rows. -/
def normed (x : S2048x1024.Idx → ℝ) (g : S1024.Idx → ℝ) (i : S2048x1024.Idx) : ℝ :=
  Norm.normed (fun k => x (ix2 (i 0) k)) (fun k => g (ix1 k)) (i 1)

/-- The cotangent of the normed rows, through the projection. -/
def cotRow (q : S2048x1024.Idx → ℝ) (w : S1024x1024.Idx → ℝ) (r : Fin 2048) (k : Fin 1024) : ℝ := ∑ j : Fin 1024, q (ix2 r j) * w (ix2 k j)

/-- The gradient that passes by the layer. -/
def passed : S2048x1024.Idx → EReal := m ((c : Thread nD τ).loc main_arg4)

theorem iblk1 (p : Fin cfg0.N) (i : S512x1024.Idx) :
    iblk m c 1 p i = passed m c (ix2 (at_ p (i 0)) (i 1)) := by
  unfold passed
  blk_ext [iblk, V, idx p, at_]

variable {m c x q g w} (h : Args m c x q g w)
include h

theorem iblk0 (p : Fin cfg0.N) : iblk m c 0 p = fun i => (blk x p i : EReal) := by
  funext i
  have e : iblk m c 0 p i = m ((c : Thread nD τ).loc main_arg0) (ix2 (at_ p (i 0)) (i 1)) := by
    blk_ext [iblk, V, idx p, at_]
  rw [e, h.x]; rfl

theorem iblk2 (p : Fin cfg0.N) : iblk m c 2 p = fun i => (blk q p i : EReal) := by
  funext i
  have e : iblk m c 2 p i = m ((c : Thread nD τ).loc main_arg5) (ix2 (at_ p (i 0)) (i 1)) := by
    blk_ext [iblk, V, idx p, at_]
  rw [e, h.q]; rfl

theorem normed_host : V m c main_v13 = fun i : S2048x1024.Idx => (normed x g i : EReal) := by
  entry_read
  rw [h.x, h.g]
  funext i
  idx_vars i
  pointwise
  simp only [word_1024, word_eps]
  norm_cast
  rw [div_real (by norm_num)]
  norm_cast
  refine Eq.trans (congrArg (fun s : EReal => (x (ix2 i0 i1) : EReal) * s * (g (ix1 i1) : EReal)) (rsqrt_real (Norm.ms_pos fun k => x (ix2 i0 k)))) ?_
  norm_cast

theorem iblk3 (p : Fin cfg0.N) : iblk m c 3 p = fun i => (blk (normed x g) p i : EReal) := by
  funext i
  have e : iblk m c 3 p i = V m c main_v13 (ix2 (at_ p (i 0)) (i 1)) := by
    unfold iblk
    show ((cfg0.win 3).blk p).view.read (Elt Ideal) (V m c main_v13) i = _
    generalize V m c main_v13 = X
    blk_ext [idx p, at_]
  rw [e, normed_host h]; rfl

theorem iblk4 (p : Fin cfg0.N) : iblk m c 4 p = fun i => (vec g i : EReal) := by
  funext i
  idx_vars i
  blk_simp [iblk, idx p]
  entry_read
  rw [h.g]
  pointwise
  blk_point [idx p, vec]

theorem weights_host : V m c main_v15 = fun i : S1024x1024.Idx => (w i : EReal) := by
  entry_read
  rw [h.w]
  funext i
  idx_vars i
  pointwise

theorem iblk5 (p : Fin cfg0.N) : iblk m c 5 p = fun i => (w i : EReal) := by
  funext i
  have e : iblk m c 5 p i = V m c main_v15 i := by
    unfold iblk
    show ((cfg0.win 5).blk p).view.read (Elt Ideal) (V m c main_v15) i = _
    generalize V m c main_v15 = X
    blk_ext [idx p]
  rw [e, weights_host h]

theorem final6 : (dats m 0 c).arrAt 6 (cfgs 0).N = fun i : S2048x1024.Idx => passed m c i
    + ((Norm.grad (fun k => x (ix2 (i 0) k)) (fun k => cotRow q w (i 0) k * g (ix1 k)) (i 1) : ℝ) : EReal) := by
  refine (dats m 0 c).arrAt_eq_of_covers 6 _ (by decide +kernel) fun p _ y => ?_
  blk_simp
  rw [after0_6]
  have e : (outsAt0 m c p.val p.isLt).1 = k0_pay12 (k0_pay5 (iblk m c 2 p)) (iblk m c 0 p) (k0_pay8 (iblk m c 4 p)) (k0_pay9 (iblk m c 5 p))
      (constant S512x1024 .f32 0x00000000#32) (iblk m c 1 p) := by
    by_cases hp : p.val % 4 = 0
    · rw [outsAt0_A m c p hp (by omega)]; frame_out
    · by_cases hl : p.val % 4 = 3
      · rw [outsAt0_C m c p hp hl]; frame_out
      · rw [outsAt0_B m c p hp hl]; frame_out
  rw [e, iblk0 h, iblk2 h, iblk4 h, iblk5 h]
  rw [show (win0_6.blk p).view.emb y = ix2 (at_ p (y 0)) (y 1) by blk_ext [idx p, at_]]
  idx_vars y
  rw [dx_at, iblk1]
  rfl

/-- The scratch after the last point, which the weight gradient is a copy of. -/
theorem final7 : (dats m 0 c).arrAt 7 (cfgs 0).N
    = fun i : S1024x1024.Idx => ((∑ r : Fin 2048, normed x g (ix2 r (i 0)) * q (ix2 r (i 1)) : ℝ) : EReal) := by
  refine (dats m 0 c).arrAt_eq_of_after_last 7 t0_3 (by decide +kernel) _ fun j => ?_
  blk_simp
  have e : ∀ p : Fin cfg0.N, p.val % 4 = 3 → (outsAt0 m c p.val p.isLt).2.1 j = (outsAt0 m c p.val p.isLt).2.2.2.2 j := by
    intro p hp
    rw [outsAt0_C m c p (by omega) hp]; frame_out
    exact cast_dw _ _
  rw [after0_7, e t0_3 rfl, Pipeline.eq_sum_fin_of_reset_step_apply_last (fun n h => (outsAt0 m c n h).2.2.2.2) 4 (fun _ => 0)
    (fun p j => ((∑ r : Fin 512, blk (normed x g) p (ix2 r (j 0)) * blk q p (ix2 r (j 1)) : ℝ) : EReal))
    (fun p hp j => by
      rw [outsAt0_A m c p hp (by omega)]; frame_out
      rw [iblk2 h, iblk3 h, dw_at, zero_dw])
    (fun p hp j => by
      by_cases hl : p.val % 4 = 3
      · rw [outsAt0_C m c p hp hl]; frame_out; rw [iblk2 h, iblk3 h, dw_at]; exact congrArg (· + _) (congrFun (Memref.IsWhole.read_unread _ _) j)
      · rw [outsAt0_B m c p hp hl]; frame_out; rw [iblk2 h, iblk3 h, dw_at]; exact congrArg (· + _) (congrFun (Memref.IsWhole.read_unread _ _) j))
    (le_of_eq N_0) t0_3 rfl j, zero_add]
  have e := sum_blocks N_0 fun r => normed x g (ix2 r (j 0)) * q (ix2 r (j 1))
  rw [← e]
  norm_cast

theorem final8 : (dats m 0 c).arrAt 8 (cfgs 0).N
    = fun i : S8x1024.Idx => ((if (i 0).val = 0 then ∑ r : Fin 2048, q (ix2 r (i 1)) else 0 : ℝ) : EReal) := by
  refine (dats m 0 c).arrAt_eq_of_after_last 8 t0_3 (by decide +kernel) _ fun j => ?_
  blk_simp
  rw [after0_8, Pipeline.eq_sum_fin_of_reset_step_apply_last (fun n h => (outsAt0 m c n h).2.2.1) 4 (fun _ => 0)
    (fun p j => (((if (j 0).val = 0 then ∑ r : Fin 512, blk q p (ix2 r (j 1)) else 0 : ℝ)) : EReal))
    (fun p hp j => by
      rw [outsAt0_A m c p hp (by omega)]; frame_out
      rw [iblk2 h, db_at, zero_db])
    (fun p hp j => by
      by_cases hl : p.val % 4 = 3
      · rw [outsAt0_C m c p hp hl]; frame_out; rw [iblk2 h, db_at]
      · rw [outsAt0_B m c p hp hl]; frame_out; rw [iblk2 h, db_at])
    (le_of_eq N_0) t0_3 rfl j, zero_add]
  by_cases hj : (j 0).val = 0 <;> simp only [hj, if_true, if_false]
  · have e := sum_blocks N_0 fun r => q (ix2 r (j 1))
    rw [← e]
    norm_cast
  · simp

theorem final9 : (dats m 0 c).arrAt 9 (cfgs 0).N
    = fun i : S8x1024.Idx => ((if (i 0).val = 0 then ∑ r : Fin 2048, cotRow q w r (i 1) * x (ix2 r (i 1))
        * Norm.inv (fun k => x (ix2 r k)) else 0 : ℝ) : EReal) := by
  refine (dats m 0 c).arrAt_eq_of_after_last 9 t0_3 (by decide +kernel) _ fun j => ?_
  blk_simp
  rw [after0_9, Pipeline.eq_sum_fin_of_reset_step_apply_last (fun n h => (outsAt0 m c n h).2.2.2.1) 4 (fun _ => 0)
    (fun p j => (((if (j 0).val = 0 then ∑ r : Fin 512, cot (blk q p) w (ix2 r (j 1)) * blk x p (ix2 r (j 1))
        * Norm.inv (row (blk x p) r) else 0 : ℝ)) : EReal))
    (fun p hp j => by
      rw [outsAt0_A m c p hp (by omega)]; frame_out
      rw [iblk0 h, iblk2 h, iblk5 h, dg_at, zero_dg])
    (fun p hp j => by
      by_cases hl : p.val % 4 = 3
      · rw [outsAt0_C m c p hp hl]; frame_out; rw [iblk0 h, iblk2 h, iblk5 h, dg_at]
      · rw [outsAt0_B m c p hp hl]; frame_out; rw [iblk0 h, iblk2 h, iblk5 h, dg_at])
    (le_of_eq N_0) t0_3 rfl j, zero_add]
  by_cases hj : (j 0).val = 0 <;> simp only [hj, if_true, if_false]
  · have e := sum_blocks N_0 fun r => cotRow q w r (j 1) * x (ix2 r (j 1)) * Norm.inv (fun k => x (ix2 r k))
    rw [← e]
    norm_cast
  · simp

end Cert.KQueryIdeal.Final

end
-- ==== Proof.QueryRef.lean ====
/- The results of the query projection's reference, on real arguments. -/
module

public import proofs.«01_k».proof.Proof.Norm
public import proofs.«01_k».proof.Proof.Gen.RQueryIdeal.Read

@[expose] public section

set_option maxRecDepth 16384

noncomputable section

open Idealize.ShloMosaic Idealize.ShloMosaic.TcCoe Idealize.SL.Sem

namespace Cert.RQueryIdeal.Real

open Cert.RQueryIdeal Cert.RQueryIdeal.Gen Cert.RQueryIdeal.Read Cert.Reals

variable (x q : S2048x1024.Idx → ℝ) (g : S1024.Idx → ℝ) (w : S1024x1024.Idx → ℝ) (e : S2048x1024.Idx → EReal)

abbrev row (x : S2048x1024.Idx → ℝ) (r : Fin 2048) (k : Fin 1024) : ℝ := x (ix2 r k)
abbrev gain (g : S1024.Idx → ℝ) (k : Fin 1024) : ℝ := g (ix1 k)

/-- The cotangent of the normed rows, through the projection. -/
def cot (q : S2048x1024.Idx → ℝ) (w : S1024x1024.Idx → ℝ) (r : Fin 2048) (k : Fin 1024) : ℝ := ∑ j : Fin 1024, q (ix2 r j) * w (ix2 k j)

theorem ms_at (r : Fin 2048) (j : Fin 1) : val_main_v6 (F := Ideal) (fun i => (x i : EReal)) (ix2 r j) = (Norm.ms (row x r) : ℝ) := by
  pointwise [val_main_v6, val_main_v5, val_main_v4, val_main_v3, val_main_v2, val_main_v1, val_main_v0, val_main_cst, val_main_cst_0, val_main_cst_1]
  simp only [word_1024, word_eps]
  norm_cast
  rw [div_real (by norm_num)]
  norm_cast

theorem inv_at (r : Fin 2048) (j : Fin 1) : val_main_v7 (F := Ideal) (fun i => (x i : EReal)) (ix2 r j) = (Norm.inv (row x r) : ℝ) := by
  pointwise [val_main_v7]
  rw [ms_at]
  exact rsqrt_real (Norm.ms_pos _)

theorem normed_at (r : Fin 2048) (k : Fin 1024) : val_main_v15 (F := Ideal) (fun i => (x i : EReal)) (fun i => (g i : EReal)) (ix2 r k)
    = (Norm.normed (row x r) (gain g) k : ℝ) := by
  pointwise [val_main_v15, val_main_v14, val_main_v13, val_main_v12, val_main_v11]
  rw [inv_at]
  norm_cast

theorem cot_at (r : Fin 2048) (k : Fin 1024) : val_main_v26 (F := Ideal) (fun i => (w i : EReal)) (fun i => (q i : EReal)) (ix2 r k) = (cot q w r k : ℝ) := by
  pointwise [val_main_v26, val_main_v20]
  norm_cast

theorem dyg_at (r : Fin 2048) (k : Fin 1024) : val_main_v31 (F := Ideal) (fun i => (g i : EReal)) (fun i => (w i : EReal)) (fun i => (q i : EReal)) (ix2 r k)
    = (cot q w r k * g (ix1 k) : ℝ) := by
  pointwise [val_main_v31, val_main_v30, val_main_v13]
  rw [cot_at]
  norm_cast

theorem dx_at (r : Fin 2048) (l : Fin 1024) :
    val_main_v47 (F := Ideal) (fun i => (x i : EReal)) (fun i => (g i : EReal)) (fun i => (w i : EReal)) e (fun i => (q i : EReal)) (ix2 r l)
      = e (ix2 r l) + (Norm.grad (row x r) (fun k => cot q w r k * g (ix1 k)) l : ℝ) := by
  pointwise [val_main_v47, val_main_v46, val_main_v45, val_main_v44, val_main_v43, val_main_v42, val_main_v41, val_main_v40, val_main_v39, val_main_v38,
    val_main_v37, val_main_v36, val_main_v35, val_main_v34, val_main_v33, val_main_v10, val_main_v9, val_main_v8,
    val_main_cst_2, val_main_cst_7, val_main_cst_8, val_main_cst_9]
  simp only [dyg_at, inv_at, ms_at, word_1024, word_neg_half, Fin.sum_univ_one, div_real (Norm.ms_pos _).ne']
  rw [add_assoc, add_assoc]
  refine congrArg (e (ix2 r l) + ·) ?_
  norm_cast
  simp only [div_real (show (1024 : ℝ) ≠ 0 by norm_num)]
  norm_cast
  rw [← add_assoc]
  exact Norm.grad_eq (row x r) (fun k => cot q w r k * g (ix1 k)) l

theorem dg_at (i : S8x1024.Idx) :
    val_main_v52 (F := Ideal) (fun i => (x i : EReal)) (fun i => (w i : EReal)) (fun i => (q i : EReal)) i
      = ((if (i 0).val = 0 then ∑ r, cot q w r (i 1) * x (ix2 r (i 1)) * Norm.inv (row x r) else 0 : ℝ) : EReal) := by
  idx_vars i
  pointwise [val_main_v52, val_main_v51, val_main_v32, val_main_v29, val_main_v28, val_main_v27, val_main_v12, val_main_v11, val_main_cst_5, val_main_cst_6,
    val_main_c_10, val_main_call1_v0]
  simp only [inv_at, cot_at, fill_zero, Fin.sum_univ_one]
  refine masked (by simp [Nat.lt_one_iff]) ?_
  norm_cast
  refine Finset.sum_congr rfl fun r _ => ?_
  ring

theorem db_at (i : S8x1024.Idx) :
    val_main_v50 (F := Ideal) (fun i => (q i : EReal)) i = ((if (i 0).val = 0 then ∑ r, q (ix2 r (i 1)) else 0 : ℝ) : EReal) := by
  idx_vars i
  pointwise [val_main_v50, val_main_v49, val_main_v23, val_main_v22, val_main_v21, val_main_cst_3, val_main_cst_4, val_main_c, val_main_call0_v0]
  simp only [fill_zero, Fin.sum_univ_one]
  refine masked (by simp [Nat.lt_one_iff]) ?_
  norm_cast

theorem dw_at (i : S1024x1024.Idx) :
    val_main_v48 (F := Ideal) (fun i => (x i : EReal)) (fun i => (g i : EReal)) (fun i => (q i : EReal)) i
      = ((∑ r, Norm.normed (row x r) (gain g) (i 0) * q (ix2 r (i 1)) : ℝ) : EReal) := by
  idx_vars i
  pointwise [val_main_v48, val_main_v25, val_main_v24, val_main_v20]
  simp only [normed_at]
  norm_cast
  exact congrArg Real.toEReal (Finset.sum_congr rfl fun r _ => mul_comm _ _)

end Cert.RQueryIdeal.Real

end
-- ==== Proof.QueryClaim.lean ====
/- The backward of the query projection: the kernel's results are the reference's. -/
module

public import proofs.«01_k».proof.Defs
public import proofs.«01_k».proof.Proof.QueryValue
public import proofs.«01_k».proof.Proof.QueryRef
public import proofs.«01_k».proof.Proof.Gen.RQueryIdeal.Run
public import proofs.«01_k».proof.Proof.Gen.Pre_finite_query

@[expose] public section

set_option maxRecDepth 16384

noncomputable section

open Idealize.ShloMosaic Idealize.ShloMosaic.TcCoe Idealize.SL.Sem

namespace Cert.QueryClaim

open Cert.KQueryIdeal Cert.Reals

theorem reals (m : (ℓ : Loc nD τ sig) → Buf (Elt Ideal) ℓ) (h : Cert.Pre_KQueryIdeal_finite_query m) (c : Dev nD) :
    ∃ (x q : S2048x1024.Idx → ℝ) (g : S1024.Idx → ℝ) (w : S1024x1024.Idx → ℝ), Final.Args m c x q g w := by
  have e := congrFun (h c) (fun a => a.elim0)
  obtain ⟨e, e3⟩ := IntOp.andi_eq_one.1 e
  obtain ⟨e, e2⟩ := IntOp.andi_eq_one.1 e
  obtain ⟨e0, e1⟩ := IntOp.andi_eq_one.1 e
  haveI : Subsingleton Cert.Pre_finite_query.S_.Idx := ⟨fun a b => funext fun i => i.elim0⟩
  obtain ⟨x, hx⟩ := reals_of_finite e0 fun _ => rfl
  obtain ⟨g, hg⟩ := reals_of_finite e1 fun _ => rfl
  obtain ⟨w, hw⟩ := reals_of_finite e2 fun _ => rfl
  obtain ⟨q, hq⟩ := reals_of_finite e3 fun _ => rfl
  exact ⟨x, q, g, w, hx, hg, hw, hq⟩

theorem frame_reference : Cert.quiescent_RQueryIdeal := fun m ρ _ =>
  (θ_run _ _ _).mono (fun r h => ⟨fun c => (h c).2.2.2.2, sem_eq_zero_of_no_sems (by decide) r.2⟩) (Cert.RQueryIdeal.Value.run m ρ)

set_option maxHeartbeats 4000000 in
theorem algebraic : Cert.algebraic_KQueryIdeal_RQueryIdeal_pre_finite_query := by
  pair_intro
  · run_from Cert.KQueryIdeal.Gen.run_main m g
  · run_from Cert.RQueryIdeal.Value.run m' g'
    all_goals obtain ⟨x, q, w, u, h⟩ := reals m hpre c
    · refine (Cert.RQueryIdeal.Read.val_main_v47_eq _ _).trans ?_
      rw [Final.final6 h, (hagree c).1, (hagree c).2.1, (hagree c).2.2.1, (hagree c).2.2.2.2.1, (hagree c).2.2.2.2.2,
        h.x, h.g, h.w, h.q]
      funext i
      idx_vars i
      exact Cert.RQueryIdeal.Real.dx_at x q w u _ i0 i1
    · refine (Cert.RQueryIdeal.Read.val_main_v48_eq _ _ _).symm.trans ?_
      rw [Final.final7 h, h.x, h.g, h.q]
      exact funext (Cert.RQueryIdeal.Real.dw_at x q w)
    · refine (Cert.RQueryIdeal.Read.val_main_v50_eq _).symm.trans ?_
      rw [Final.final8 h, h.q]
      exact funext (Cert.RQueryIdeal.Real.db_at q)
    · refine (Cert.RQueryIdeal.Read.val_main_v52_eq _ _ _).symm.trans ?_
      rw [Final.final9 h, h.x, h.w, h.q]
      exact funext (Cert.RQueryIdeal.Real.dg_at x q u)

end Cert.QueryClaim

end
-- ==== Proof.KeysPay.lean ====
/- What the body of the backward of the key and value projections computes on blocks of reals. -/
module

public import proofs.«01_k».proof.Proof.Norm
public import proofs.«01_k».proof.Proof.Gen.KKeysIdeal.Skeleton
public import Idealize.ShloMosaic.Lib.Pointwise

@[expose] public section

set_option maxRecDepth 16384

noncomputable section

open Idealize.ShloMosaic Idealize.ShloMosaic.TcCoe Idealize.SL.Sem

namespace Cert.KKeysIdeal.Pay

open Cert.KKeysIdeal Cert.KKeysIdeal.Gen Cert.Reals

variable (x n k v : S512x1024.Idx → ℝ) (q : S512x512.Idx → ℝ) (s : S256x1024.Idx → ℝ) (g : S1x1024.Idx → ℝ) (w : S1024x512.Idx → ℝ)

/-- Row `r` of a block. -/
abbrev row (x : S512x1024.Idx → ℝ) (r : Fin 512) (k : Fin 1024) : ℝ := x (ix2 r k)

/-- The rows of keys' and values' cotangents brought to 256 columns each, side by side. -/
def both (k v : S512x1024.Idx → ℝ) (s : S256x1024.Idx → ℝ) (i : S512x512.Idx) : ℝ :=
  if h : (i 1).val < 256 then ∑ l : Fin 1024, k (ix2 (i 0) l) * s (ix2 ⟨(i 1).val, h⟩ l)
  else ∑ l : Fin 1024, v (ix2 (i 0) l) * s (ix2 ⟨(i 1).val - 256, by have : (i 1).val < 512 := (i 1).isLt; omega⟩ l)

/-- The cotangent of the normed rows, through the projection. -/
def cot (q : S512x512.Idx → ℝ) (w : S1024x512.Idx → ℝ) (i : S512x1024.Idx) : ℝ := ∑ j : Fin 512, q (ix2 (i 0) j) * w (ix2 (i 1) j)

theorem both_eq : k0_pay6 (F := Ideal) (fun i => (k i : EReal)) (fun i => (s i : EReal)) (fun i => (v i : EReal)) (fun i => (s i : EReal))
    = fun i => (both k v s i : EReal) := by
  funext i
  idx_vars i
  pointwise [k0_pay6]
  unfold both
  split
  · rename_i hj
    rw [dif_pos (show ((ix2 i0 i1 : S512x512.Idx) 1).val < 256 from hj)]
    norm_cast
  · rename_i hj
    rw [dif_neg (show ¬((ix2 i0 i1 : S512x512.Idx) 1).val < 256 from hj)]
    norm_cast

theorem inv_eq : k0_pay15 (F := Ideal) (fun i => (x i : EReal)) = fun i => (Norm.inv (row x (i 0)) : EReal) := by
  funext i
  idx_vars i
  pointwise [k0_pay15]
  simp only [word_1024, word_eps]
  norm_cast
  rw [div_real (by norm_num)]
  norm_cast
  exact rsqrt_real (Norm.ms_pos _)

theorem cot_eq : k0_pay14 (F := Ideal) (fun i => (q i : EReal)) (fun i => (w i : EReal)) = fun i => (cot q w i : EReal) := by
  funext i
  idx_vars i
  pointwise [k0_pay14]
  norm_cast

theorem dx_at (e : S512x1024.Idx → EReal) (r : Fin 512) (l : Fin 1024) :
    k0_pay17 (F := Ideal) (fun i => (q i : EReal)) (fun i => (x i : EReal)) (fun i => (g i : EReal)) (fun i => (w i : EReal)) e (ix2 r l)
      = e (ix2 r l) + (Norm.grad (row x r) (fun k => cot q w (ix2 r k) * g (ix2 0 k)) l : ℝ) := by
  pointwise [k0_pay17]
  rw [inv_eq, cot_eq]
  simp only [word_1024]
  refine congrArg (e (ix2 r l) + ·) ?_
  norm_cast
  rw [div_real (by norm_num)]
  norm_cast

theorem dg_at (z : Vec Ideal S8x1024 .f32) (j : S8x1024.Idx) :
    k0_pay1 (F := Ideal) (k0_pay16 (fun i => (q i : EReal)) (fun i => (x i : EReal)) (fun i => (w i : EReal))) z j
      = z j + ((if (j 0).val = 0 then ∑ r : Fin 512, cot q w (ix2 r (j 1)) * x (ix2 r (j 1)) * Norm.inv (row x r) else 0 : ℝ) : EReal) := by
  idx_vars j
  pointwise [k0_pay1, k0_pay16]
  rw [inv_eq, cot_eq, select_row (by omega)]
  refine congrArg (z (ix2 j0 j1) + ·) (Eq.trans ?_ (coe_ite _ _ _).symm)
  simp only [← EReal.coe_mul, ← coe_sum]
  rfl

theorem db_at (z : Vec Ideal S8x512 .f32) (j : S8x512.Idx) :
    k0_pay13 (F := Ideal) (k0_pay9 z) k0_pay10 (k0_pay11 (fun i => (k i : EReal)) (fun i => (s i : EReal)) (fun i => (v i : EReal)) (fun i => (s i : EReal)))
        (k0_pay12 (F := Ideal)) j
      = z j + ((if (j 0).val = 0 then ∑ r : Fin 512, both k v s (ix2 r (j 1)) else 0 : ℝ) : EReal) := by
  idx_vars j
  pointwise [k0_pay13, k0_pay9, k0_pay10, k0_pay11, k0_pay12]
  rw [both_eq, select_row (by omega)]
  refine congrArg (z (ix2 j0 j1) + ·) (Eq.trans ?_ (coe_ite _ _ _).symm)
  simp only [← coe_sum]
  rfl

theorem dw_at (z : Vec Ideal S1024x512 .f32) (j : S1024x512.Idx) :
    k0_pay8 (F := Ideal) (fun i => (k i : EReal)) (fun i => (s i : EReal)) (fun i => (v i : EReal)) (fun i => (s i : EReal)) z (fun i => (n i : EReal)) j
      = z j + ((∑ r : Fin 512, n (ix2 r (j 0)) * both k v s (ix2 r (j 1)) : ℝ) : EReal) := by
  idx_vars j
  pointwise [k0_pay8, k0_pay7]
  rw [both_eq]
  norm_cast

theorem zero_dw (j) : k0_pay3 (F := Ideal) j = 0 := by pointwise [k0_pay3]

theorem zero_db (j) : k0_pay4 (F := Ideal) j = 0 := by pointwise [k0_pay4]

theorem zero_dg (j) : k0_pay5 (F := Ideal) j = 0 := by pointwise [k0_pay5]

theorem cast_dw (z : Vec Ideal S1024x512 .f32) (j) : k0_pay2 (F := Ideal) z j = z j := by pointwise [k0_pay2]

end Cert.KKeysIdeal.Pay

end
-- ==== Proof.KeysValue.lean ====
/- The result arrays of the backward kernel of the key and value projections, on real arguments. -/
module

public import proofs.«01_k».proof.Proof.KeysPay
public import proofs.«01_k».proof.Proof.Gen.KKeysIdeal.Frame
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KKeysIdeal.Final

open Cert.KKeysIdeal Cert.KKeysIdeal.Gen Cert.KKeysIdeal.Pay Cert.Reals

variable (m : (ℓ : Loc nD τ sig) → Buf (Elt Ideal) ℓ) (c : Dev nD)
variable (x k v : S2048x1024.Idx → ℝ) (g : S1024.Idx → ℝ) (w : S1024x512.Idx → ℝ)

/-- The arguments are these reals; the bias is not read and the gradient that passes by is any array. -/
structure Args : Prop where
  x : m ((c : Thread nD τ).loc main_arg0) = fun i => (x i : EReal)
  g : m ((c : Thread nD τ).loc main_arg1) = fun i => (g i : EReal)
  w : m ((c : Thread nD τ).loc main_arg2) = fun i => (w i : EReal)
  k : m ((c : Thread nD τ).loc main_arg5) = fun i => (k i : EReal)
  v : m ((c : Thread nD τ).loc main_arg6) = fun i => (v i : EReal)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![t.val, 0] ∧ win0_9.index t = ![t.val, 0] ∧ win0_10.index t = ![0, 0]
    ∧ win0_11.index t = ![0, 0] ∧ win0_12.index t = ![0, 0] :=
  (by decide +kernel : ∀ t : Fin grid0.N, _)

/-- Row `r` of block `p`, in the array. -/
def at_ (p : Fin cfg0.N) (r : Fin 512) : Fin 2048 :=
  ⟨p.val * 512 + r.val, by have := lt_of_lt_of_eq p.isLt N_0; omega⟩

def blk (a : S2048x1024.Idx → ℝ) (p : Fin cfg0.N) (i : S512x1024.Idx) : ℝ := a (ix2 (at_ p (i 0)) (i 1))

/-- A row vector read as one of 1024 entries. -/
def vec (g : S1024.Idx → ℝ) (i : S1x1024.Idx) : ℝ := g (ix1 (i 1))

/-- The normed rows. -/
def normed (x : S2048x1024.Idx → ℝ) (g : S1024.Idx → ℝ) (i : S2048x1024.Idx) : ℝ :=
  Norm.normed (fun k => x (ix2 (i 0) k)) (fun k => g (ix1 k)) (i 1)

/-- Where a column of keys or values is read: by the lanes of its group of four heads, at its own place in the head. -/
def spread (i : S256x1024.Idx) : ℝ := if (i 1).val / 256 = (i 0).val / 64 ∧ (i 1).val % 64 = (i 0).val % 64 then 1 else 0

/-- Row `r` of the keys' and values' cotangents, each column the sum over the heads that share it. -/
def bothRow (k v : S2048x1024.Idx → ℝ) (r : Fin 2048) (j : Fin 512) : ℝ :=
  if h : j.val < 256 then ∑ t : Fin 4, k (ix2 r ⟨j.val / 64 * 256 + t.val * 64 + j.val % 64, by omega⟩)
  else ∑ t : Fin 4, v (ix2 r ⟨(j.val - 256) / 64 * 256 + t.val * 64 + (j.val - 256) % 64, by omega⟩)

/-- The cotangent of the normed rows, through the projection. -/
def cotRow (q : Fin 2048 → Fin 512 → ℝ) (w : S1024x512.Idx → ℝ) (r : Fin 2048) (l : Fin 1024) : ℝ := ∑ j : Fin 512, q r j * w (ix2 l j)

/-- A row of a product with `spread` sums the four heads of a group. -/
theorem spread_sum (a : Fin 1024 → ℝ) (j : Fin 256) :
    ∑ l : Fin 1024, a l * spread (ix2 j l) = ∑ t : Fin 4, a ⟨j.val / 64 * 256 + t.val * 64 + j.val % 64, by omega⟩ := by
  rw [Finset.sum_congr rfl fun l _ => show a l * spread (ix2 j l) = if l.val / 256 = j.val / 64 ∧ l.val % 64 = j.val % 64 then a l else 0 by
    show a l * (if l.val / 256 = j.val / 64 ∧ l.val % 64 = j.val % 64 then 1 else 0) = _
    split <;> simp]
  rw [← Finset.sum_filter]
  refine (Finset.sum_bij' (fun t _ => (⟨j.val / 64 * 256 + t.val * 64 + j.val % 64, by omega⟩ : Fin 1024)) (fun l _ => (⟨l.val % 256 / 64, by omega⟩ : Fin 4))
    ?_ ?_ ?_ ?_ ?_).symm
  · intro t _
    simp only [Finset.mem_filter, Finset.mem_univ, true_and]
    omega
  · intro l _
    exact Finset.mem_univ _
  · intro t _
    apply Fin.ext
    show (j.val / 64 * 256 + t.val * 64 + j.val % 64) % 256 / 64 = t.val
    omega
  · intro l hl
    simp only [Finset.mem_filter, Finset.mem_univ, true_and] at hl
    apply Fin.ext
    show j.val / 64 * 256 + l.val % 256 / 64 * 64 + j.val % 64 = l.val
    omega
  · intro t _
    rfl

theorem both_blk (p : Fin cfg0.N) (i : S512x512.Idx) : both (blk k p) (blk v p) spread i = bothRow k v (at_ p (i 0)) (i 1) := by
  unfold both bothRow
  simp only [spread_sum]
  rfl

/-- The gradient that passes by the layer. -/
def passed : S2048x1024.Idx → EReal := m ((c : Thread nD τ).loc main_arg4)

theorem iblk1 (p : Fin cfg0.N) (i : S512x1024.Idx) :
    iblk m c 1 p i = passed m c (ix2 (at_ p (i 0)) (i 1)) := by
  unfold passed
  rw [← V_main_arg4 m c]
  unfold iblk
  show ((cfg0.win 1).blk p).view.read (Elt Ideal) (V m c main_arg4) i = _
  generalize V m c main_arg4 = X
  blk_ext [idx p, at_]

/-- The quotient of a counter by `d`, rounded down, as the host computes it. -/
def quot (d : BitVec 32) (n : ℕ) : BitVec 32 :=
  Scalar.select
    (IntOp.andi
      (IntOp.cmpi CmpIPredicate.ne (if BitVec.ofNat 32 n = 0 then (0 : BitVec 32) else if (BitVec.ofNat 32 n).msb = true then -1 else 1)
        (if d = 0 then (0 : BitVec 32) else if d.msb = true then -1 else 1))
      (IntOp.cmpi CmpIPredicate.ne (IntOp.remsi ArithUnit.host (BitVec.ofNat 32 n) d) 0#32))
    (IntOp.subi (IntOp.divsi ArithUnit.host (BitVec.ofNat 32 n) d) 1#32)
    (IntOp.divsi ArithUnit.host (BitVec.ofNat 32 n) d)

/-- The remainder of a counter by 64, as the host computes it. -/
def rem (n : ℕ) : BitVec 32 :=
  let d := Scalar.select (IntOp.cmpi CmpIPredicate.eq 64#32 0#32) 1#32 64#32
  let r := IntOp.remsi ArithUnit.host (BitVec.ofNat 32 n) d
  Scalar.select
    (IntOp.andi (IntOp.cmpi CmpIPredicate.ne (IntOp.cmpi CmpIPredicate.slt r 0#32) (IntOp.cmpi CmpIPredicate.slt d 0#32)) (IntOp.cmpi CmpIPredicate.ne r 0#32))
    (IntOp.addi r d) r

theorem quot_256 : ∀ n : Fin 1024, quot 256#32 n.val = BitVec.ofNat 32 (n.val / 256) := by decide +kernel

theorem quot_64 : ∀ n : Fin 256, quot 64#32 n.val = BitVec.ofNat 32 (n.val / 64) := by decide +kernel

theorem rem_64 : ∀ n : Fin 1024, rem n.val = BitVec.ofNat 32 (n.val % 64) := by decide +kernel

theorem eq_bit (a b : ℕ) (ha : a < 1024) (hb : b < 1024) : IntOp.cmpi CmpIPredicate.eq (BitVec.ofNat 32 a) (BitVec.ofNat 32 b) = if a = b then 1#1 else 0#1 := by
  have e : (BitVec.ofNat 32 a = BitVec.ofNat 32 b) ↔ a = b := by
    rw [← BitVec.toNat_inj]; simp only [BitVec.toNat_ofNat]; omega
  by_cases hab : a = b
  · subst hab; simp [IntOp.cmpi]
  · have := mt e.1 hab
    rw [if_neg hab]
    show BitVec.ofBool (BitVec.ofNat 32 a == BitVec.ofNat 32 b) = 0#1
    rw [beq_eq_false_iff_ne.2 this]
    rfl

theorem spread_host : V m c main_v25 = fun i : S256x1024.Idx => (spread i : EReal) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  funext i
  idx_vars i
  simp only [StableHlo.TRef.ofBuf_toBuf, eqRec_eq_cast, cast_eq]
  pointwise
  show FloatOps.uitofp (F := Ideal) FTy.bf16 (IntOp.andi (IntOp.cmpi CmpIPredicate.eq (quot 256#32 i1.val) (quot 64#32 i0.val))
    (IntOp.cmpi CmpIPredicate.eq (rem i1.val) (rem i0.val))) = _
  have er := rem_64 ⟨i0.val, by omega⟩
  have hs : spread (ix2 i0 i1) = if i1.val / 256 = i0.val / 64 ∧ i1.val % 64 = i0.val % 64 then 1 else 0 := rfl
  rw [quot_256, quot_64, rem_64, er, eq_bit _ _ (by omega) (by omega), eq_bit _ _ (by omega) (by simp only; omega), hs]
  by_cases h1 : i1.val / 256 = i0.val / 64 <;> by_cases h2 : i1.val % 64 = i0.val % 64 <;>
    simp [h1, h2, IntOp.andi, FloatOps.uitofp]

theorem iblk7 (p : Fin cfg0.N) : iblk m c 7 p = fun i => (spread i : EReal) := by
  funext i
  have e : iblk m c 7 p i = V m c main_v25 i := by
    unfold iblk
    show ((cfg0.win 7).blk p).view.read (Elt Ideal) (V m c main_v25) i = _
    generalize V m c main_v25 = X
    blk_ext [idx p]
  rw [e, spread_host]

variable {m c x k v g w} (h : Args m c x k v g w)
include h

theorem iblk0 (p : Fin cfg0.N) : iblk m c 0 p = fun i => (blk x p i : EReal) := by
  funext i
  have e : iblk m c 0 p i = m ((c : Thread nD τ).loc main_arg0) (ix2 (at_ p (i 0)) (i 1)) := by
    rw [← V_main_arg0 m c]
    unfold iblk
    show ((cfg0.win 0).blk p).view.read (Elt Ideal) (V m c main_arg0) i = _
    generalize V m c main_arg0 = X
    blk_ext [idx p, at_]
  rw [e, h.x]; rfl

theorem iblk2 (p : Fin cfg0.N) : iblk m c 2 p = fun i => (blk k p i : EReal) := by
  funext i
  have e : iblk m c 2 p i = m ((c : Thread nD τ).loc main_arg5) (ix2 (at_ p (i 0)) (i 1)) := by
    rw [← V_main_arg5 m c]
    unfold iblk
    show ((cfg0.win 2).blk p).view.read (Elt Ideal) (V m c main_arg5) i = _
    generalize V m c main_arg5 = X
    blk_ext [idx p, at_]
  rw [e, h.k]; rfl

theorem iblk3 (p : Fin cfg0.N) : iblk m c 3 p = fun i => (blk v p i : EReal) := by
  funext i
  have e : iblk m c 3 p i = m ((c : Thread nD τ).loc main_arg6) (ix2 (at_ p (i 0)) (i 1)) := by
    rw [← V_main_arg6 m c]
    unfold iblk
    show ((cfg0.win 3).blk p).view.read (Elt Ideal) (V m c main_arg6) i = _
    generalize V m c main_arg6 = X
    blk_ext [idx p, at_]
  rw [e, h.v]; rfl

theorem normed_host : V m c main_v13 = fun i : S2048x1024.Idx => (normed x g i : EReal) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rw [h.x, h.g]
  funext i
  idx_vars i
  pointwise
  simp only [word_1024, word_eps]
  norm_cast
  rw [div_real (by norm_num)]
  norm_cast
  refine Eq.trans (congrArg (fun s : EReal => (x (ix2 i0 i1) : EReal) * s * (g (ix1 i1) : EReal)) (rsqrt_real (Norm.ms_pos fun k => x (ix2 i0 k)))) ?_
  norm_cast

theorem iblk4 (p : Fin cfg0.N) : iblk m c 4 p = fun i => (blk (normed x g) p i : EReal) := by
  funext i
  have e : iblk m c 4 p i = V m c main_v13 (ix2 (at_ p (i 0)) (i 1)) := by
    unfold iblk
    show ((cfg0.win 4).blk p).view.read (Elt Ideal) (V m c main_v13) i = _
    generalize V m c main_v13 = X
    blk_ext [idx p, at_]
  rw [e, normed_host h]; rfl

theorem gain_host : V m c main_v14 = fun i : S1x1024.Idx => (vec g i : EReal) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rw [h.g]
  funext i
  idx_vars i
  pointwise
  rfl

theorem iblk5 (p : Fin cfg0.N) : iblk m c 5 p = fun i => (vec g i : EReal) := by
  funext i
  have e : iblk m c 5 p i = V m c main_v14 i := by
    unfold iblk
    show ((cfg0.win 5).blk p).view.read (Elt Ideal) (V m c main_v14) i = _
    generalize V m c main_v14 = X
    blk_ext [idx p]
  rw [e, gain_host h]

theorem weights_host : V m c main_v15 = fun i : S1024x512.Idx => (w i : EReal) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  rw [h.w]
  funext i
  idx_vars i
  pointwise

theorem iblk6 (p : Fin cfg0.N) : iblk m c 6 p = fun i => (w i : EReal) := by
  funext i
  have e : iblk m c 6 p i = V m c main_v15 i := by
    unfold iblk
    show ((cfg0.win 6).blk p).view.read (Elt Ideal) (V m c main_v15) i = _
    generalize V m c main_v15 = X
    blk_ext [idx p]
  rw [e, weights_host h]

/-- What the projection's cotangent is at block `p`. -/
abbrev kv (k v : S2048x1024.Idx → ℝ) (p : Fin cfg0.N) : S512x512.Idx → ℝ := both (blk k p) (blk v p) spread

theorem cot_blk (p : Fin cfg0.N) : k0_pay7 (iblk m c 2 p) (iblk m c 7 p) (iblk m c 3 p) (iblk m c 7 p) = fun i => (kv k v p i : EReal) := by
  rw [iblk2 h, iblk3 h, iblk7]
  refine Eq.trans ?_ (both_eq (blk k p) (blk v p) spread)
  rfl

theorem cot_row (p : Fin cfg0.N) (r : Fin 512) (l : Fin 1024) : cot (kv k v p) w (ix2 r l) = cotRow (bothRow k v) w (at_ p r) l := by
  unfold cot cotRow
  refine Finset.sum_congr rfl fun j _ => ?_
  rw [kv, both_blk]
  rfl

theorem final8 : (dats m 0 c).arrAt 8 (cfgs 0).N = fun i : S2048x1024.Idx => passed m c i
    + ((Norm.grad (fun k => x (ix2 (i 0) k)) (fun l => cotRow (bothRow k v) w (i 0) l * g (ix1 l)) (i 1) : ℝ) : EReal) := by
  refine (dats m 0 c).arrAt_eq_of_covers 8 _ (by decide +kernel) fun p _ y => ?_
  blk_simp
  rw [after0_8]
  have e : (outsAt0 m c p.val p.isLt).1 = k0_pay17 (k0_pay7 (iblk m c 2 p) (iblk m c 7 p) (iblk m c 3 p) (iblk m c 7 p)) (iblk m c 0 p) (iblk m c 5 p)
      (iblk m c 6 p) (iblk m c 1 p) := by
    by_cases hp : p.val % 4 = 0
    · rw [outsAt0_A m c p hp (by omega)]; frame_out
    · by_cases hl : p.val % 4 = 3
      · rw [outsAt0_C m c p hp hl]; frame_out
      · rw [outsAt0_B m c p hp hl]; frame_out
  rw [e, cot_blk h, iblk0 h, iblk5 h, iblk6 h]
  rw [show (win0_8.blk p).view.emb y = ix2 (at_ p (y 0)) (y 1) by blk_ext [idx p, at_]]
  idx_vars y
  rw [dx_at, iblk1]
  simp only [cot_row h]
  rfl

theorem final9 : (dats m 0 c).arrAt 9 (cfgs 0).N = fun i : S2048x1024.Idx => passed m c i
    + ((Norm.grad (fun k => x (ix2 (i 0) k)) (fun l => cotRow (bothRow k v) w (i 0) l * g (ix1 l)) (i 1) : ℝ) : EReal) := by
  refine (dats m 0 c).arrAt_eq_of_covers 9 _ (by decide +kernel) fun p _ y => ?_
  blk_simp
  rw [after0_9]
  have e : (outsAt0 m c p.val p.isLt).2.1 = k0_pay17 (k0_pay7 (iblk m c 2 p) (iblk m c 7 p) (iblk m c 3 p) (iblk m c 7 p)) (iblk m c 0 p) (iblk m c 5 p)
      (iblk m c 6 p) (iblk m c 1 p) := by
    by_cases hp : p.val % 4 = 0
    · rw [outsAt0_A m c p hp (by omega)]; frame_out; rfl
    · by_cases hl : p.val % 4 = 3
      · rw [outsAt0_C m c p hp hl]; frame_out; rfl
      · rw [outsAt0_B m c p hp hl]; frame_out; rfl
  rw [e, cot_blk h, iblk0 h, iblk5 h, iblk6 h]
  rw [show (win0_9.blk p).view.emb y = ix2 (at_ p (y 0)) (y 1) by blk_ext [idx p, at_]]
  idx_vars y
  rw [dx_at, iblk1]
  simp only [cot_row h]
  rfl

/-- The scratch after the last point, which the weight gradient is a copy of. -/
theorem final10 : (dats m 0 c).arrAt 10 (cfgs 0).N
    = fun i : S1024x512.Idx => ((∑ r : Fin 2048, normed x g (ix2 r (i 0)) * bothRow k v r (i 1) : ℝ) : EReal) := by
  refine (dats m 0 c).arrAt_eq_of_after_last 10 t0_3 (by decide +kernel) _ fun j => ?_
  blk_simp
  have e : ∀ p : Fin cfg0.N, p.val % 4 = 3 → (outsAt0 m c p.val p.isLt).2.2.1 j = (outsAt0 m c p.val p.isLt).2.2.2.2.2 j := by
    intro p hp
    rw [outsAt0_C m c p (by omega) hp]; frame_out
    exact cast_dw _ _
  rw [after0_10, e t0_3 rfl, Pipeline.eq_sum_fin_of_reset_step_apply_last (fun n h => (outsAt0 m c n h).2.2.2.2.2) 4 (fun _ => 0)
    (fun p j => ((∑ r : Fin 512, blk (normed x g) p (ix2 r (j 0)) * kv k v p (ix2 r (j 1)) : ℝ) : EReal))
    (fun p hp j => by
      rw [outsAt0_A m c p hp (by omega)]; frame_out
      rw [iblk2 h, iblk3 h, iblk4 h, iblk7, dw_at, zero_dw])
    (fun p hp j => by
      by_cases hl : p.val % 4 = 3
      · rw [outsAt0_C m c p hp hl]; frame_out; rw [iblk2 h, iblk3 h, iblk4 h, iblk7, dw_at]; exact congrArg (· + _) (congrFun (Memref.IsWhole.read_unread _ _) j)
      · rw [outsAt0_B m c p hp hl]; frame_out; rw [iblk2 h, iblk3 h, iblk4 h, iblk7, dw_at]; exact congrArg (· + _) (congrFun (Memref.IsWhole.read_unread _ _) j))
    (le_of_eq N_0) t0_3 rfl j, zero_add]
  have e := sum_blocks N_0 fun r => normed x g (ix2 r (j 0)) * bothRow k v r (j 1)
  simp only [kv, both_blk]
  rw [← e]
  norm_cast

theorem final11 : (dats m 0 c).arrAt 11 (cfgs 0).N
    = fun i : S8x512.Idx => ((if (i 0).val = 0 then ∑ r : Fin 2048, bothRow k v r (i 1) else 0 : ℝ) : EReal) := by
  refine (dats m 0 c).arrAt_eq_of_after_last 11 t0_3 (by decide +kernel) _ fun j => ?_
  blk_simp
  rw [after0_11, Pipeline.eq_sum_fin_of_reset_step_apply_last (fun n h => (outsAt0 m c n h).2.2.2.1) 4 (fun _ => 0)
    (fun p j => (((if (j 0).val = 0 then ∑ r : Fin 512, kv k v p (ix2 r (j 1)) else 0 : ℝ)) : EReal))
    (fun p hp j => by
      rw [outsAt0_A m c p hp (by omega)]; frame_out
      rw [iblk2 h, iblk3 h, iblk7, db_at, zero_db])
    (fun p hp j => by
      by_cases hl : p.val % 4 = 3
      · rw [outsAt0_C m c p hp hl]; frame_out; rw [iblk2 h, iblk3 h, iblk7, db_at]
      · rw [outsAt0_B m c p hp hl]; frame_out; rw [iblk2 h, iblk3 h, iblk7, db_at])
    (le_of_eq N_0) t0_3 rfl j, zero_add]
  by_cases hj : (j 0).val = 0 <;> simp only [hj, if_true, if_false]
  · have e := sum_blocks N_0 fun r => bothRow k v r (j 1)
    simp only [kv, both_blk]
    rw [← e]
    norm_cast
  · simp

theorem final12 : (dats m 0 c).arrAt 12 (cfgs 0).N
    = fun i : S8x1024.Idx => ((if (i 0).val = 0 then ∑ r : Fin 2048, cotRow (bothRow k v) w r (i 1) * x (ix2 r (i 1))
        * Norm.inv (fun k => x (ix2 r k)) else 0 : ℝ) : EReal) := by
  refine (dats m 0 c).arrAt_eq_of_after_last 12 t0_3 (by decide +kernel) _ fun j => ?_
  blk_simp
  rw [after0_12, Pipeline.eq_sum_fin_of_reset_step_apply_last (fun n h => (outsAt0 m c n h).2.2.2.2.1) 4 (fun _ => 0)
    (fun p j => (((if (j 0).val = 0 then ∑ r : Fin 512, cot (kv k v p) w (ix2 r (j 1)) * blk x p (ix2 r (j 1))
        * Norm.inv (row (blk x p) r) else 0 : ℝ)) : EReal))
    (fun p hp j => by
      rw [outsAt0_A m c p hp (by omega)]; frame_out
      rw [cot_blk h, iblk0 h, iblk6 h, dg_at, zero_dg])
    (fun p hp j => by
      by_cases hl : p.val % 4 = 3
      · rw [outsAt0_C m c p hp hl]; frame_out; rw [cot_blk h, iblk0 h, iblk6 h, dg_at]
      · rw [outsAt0_B m c p hp hl]; frame_out; rw [cot_blk h, iblk0 h, iblk6 h, dg_at])
    (le_of_eq N_0) t0_3 rfl j, zero_add]
  by_cases hj : (j 0).val = 0 <;> simp only [hj, if_true, if_false]
  · have e := sum_blocks N_0 fun r => cotRow (bothRow k v) w r (j 1) * x (ix2 r (j 1)) * Norm.inv (fun k => x (ix2 r k))
    have e' : ∀ p r, cot (kv k v p) w (ix2 r (j 1)) = cotRow (bothRow k v) w (at_ p r) (j 1) := fun p r => cot_row h p r (j 1)
    simp only [e']
    rw [← e]
    norm_cast
  · simp

end Cert.KKeysIdeal.Final

end
-- ==== Proof.KeysRef.lean ====
/- The results of the reference of the key and value projections, on real arguments. -/
module

public import proofs.«01_k».proof.Proof.Norm
public import proofs.«01_k».proof.Proof.Gen.RKeysIdeal.Read

@[expose] public section

set_option maxRecDepth 16384

noncomputable section

open Idealize.ShloMosaic Idealize.ShloMosaic.TcCoe Idealize.SL.Sem

namespace Cert.RKeysIdeal.Real

open Cert.RKeysIdeal Cert.RKeysIdeal.Gen Cert.RKeysIdeal.Read Cert.Reals

variable (x k v : S2048x1024.Idx → ℝ) (g : S1024.Idx → ℝ) (w : S1024x512.Idx → ℝ) (e : S2048x1024.Idx → EReal)

abbrev row (x : S2048x1024.Idx → ℝ) (r : Fin 2048) (k : Fin 1024) : ℝ := x (ix2 r k)
abbrev gain (g : S1024.Idx → ℝ) (k : Fin 1024) : ℝ := g (ix1 k)

/-- The head that is the `t`-th of those reading column `j`'s group, at `j`'s place in it. -/
def copy (j : Fin 256) (t : Fin 4) : Fin 1024 := ⟨j.val / 64 * 256 + t.val * 64 + j.val % 64, by omega⟩

/-- The sum over the four heads that share a column of keys or of values. -/
def four (a : S2048x1024.Idx → ℝ) (r : Fin 2048) (j : Fin 256) : ℝ := ∑ t : Fin 4, a (ix2 r (copy j t))

/-- The cotangent of the keys and values, side by side. -/
def both (k v : S2048x1024.Idx → ℝ) (i : S2048x512.Idx) : ℝ :=
  if h : (i 1).val < 256 then four k (i 0) ⟨(i 1).val, h⟩ else four v (i 0) ⟨(i 1).val - 256, by have : (i 1).val < 512 := (i 1).isLt; omega⟩

/-- The cotangent of the normed rows, through the projection. -/
def cot (q : S2048x512.Idx → ℝ) (w : S1024x512.Idx → ℝ) (r : Fin 2048) (k : Fin 1024) : ℝ := ∑ j : Fin 512, q (ix2 r j) * w (ix2 k j)

theorem four_at (r : Fin 2048) (j : Fin 256) : val_main_v31 (F := Ideal) (fun i => (v i : EReal)) (ix2 r j) = (four v r j : ℝ) := by
  pointwise [val_main_v31, val_main_v30, val_main_v29, val_main_v28, val_main_cst_3]
  unfold four
  norm_cast

theorem four_at' (r : Fin 2048) (j : Fin 256) : val_main_v35 (F := Ideal) (fun i => (v i : EReal)) (ix2 r j) = (four v r j : ℝ) := four_at v r j

theorem both_eq : val_main_v36 (F := Ideal) (fun i => (k i : EReal)) (fun i => (v i : EReal)) = fun i => (both k v i : EReal) := by
  funext i
  idx_vars i
  pointwise [val_main_v36]
  unfold both
  simp only [four_at, four_at']
  split
  · rename_i hj
    rw [dif_pos (show ((ix2 i0 i1 : S2048x512.Idx) 1).val < 256 from hj)]
    rfl
  · rename_i hj
    rw [dif_neg (show ¬((ix2 i0 i1 : S2048x512.Idx) 1).val < 256 from hj)]
    rfl

theorem ms_at (r : Fin 2048) (j : Fin 1) : val_main_v6 (F := Ideal) (fun i => (x i : EReal)) (ix2 r j) = (Norm.ms (row x r) : ℝ) := by
  pointwise [val_main_v6, val_main_v5, val_main_v4, val_main_v3, val_main_v2, val_main_v1, val_main_v0, val_main_cst, val_main_cst_0, val_main_cst_1]
  simp only [word_1024, word_eps]
  norm_cast
  rw [div_real (by norm_num)]
  norm_cast

theorem inv_at (r : Fin 2048) (j : Fin 1) : val_main_v7 (F := Ideal) (fun i => (x i : EReal)) (ix2 r j) = (Norm.inv (row x r) : ℝ) := by
  pointwise [val_main_v7]
  rw [ms_at]
  exact rsqrt_real (Norm.ms_pos _)

theorem normed_at (r : Fin 2048) (k : Fin 1024) : val_main_v15 (F := Ideal) (fun i => (x i : EReal)) (fun i => (g i : EReal)) (ix2 r k)
    = (Norm.normed (row x r) (gain g) k : ℝ) := by
  pointwise [val_main_v15, val_main_v14, val_main_v13, val_main_v12, val_main_v11]
  rw [inv_at]
  norm_cast

theorem cot_at (r : Fin 2048) (l : Fin 1024) : val_main_v42 (F := Ideal) (fun i => (w i : EReal)) (fun i => (k i : EReal)) (fun i => (v i : EReal)) (ix2 r l)
    = (cot (both k v) w r l : ℝ) := by
  pointwise [val_main_v42]
  rw [both_eq]
  norm_cast

theorem dyg_at (r : Fin 2048) (l : Fin 1024) : val_main_v47 (F := Ideal) (fun i => (g i : EReal)) (fun i => (w i : EReal)) (fun i => (k i : EReal))
      (fun i => (v i : EReal)) (ix2 r l)
    = (cot (both k v) w r l * g (ix1 l) : ℝ) := by
  pointwise [val_main_v47, val_main_v46, val_main_v13]
  rw [cot_at]
  norm_cast

theorem dx_at (r : Fin 2048) (l : Fin 1024) :
    val_main_v63 (F := Ideal) (fun i => (x i : EReal)) (fun i => (g i : EReal)) (fun i => (w i : EReal)) e (fun i => (k i : EReal)) (fun i => (v i : EReal)) (ix2 r l)
      = e (ix2 r l) + (Norm.grad (row x r) (fun l => cot (both k v) w r l * g (ix1 l)) l : ℝ) := by
  pointwise [val_main_v63, val_main_v62, val_main_v61, val_main_v60, val_main_v59, val_main_v58, val_main_v57, val_main_v56, val_main_v55, val_main_v54,
    val_main_v53, val_main_v52, val_main_v51, val_main_v50, val_main_v49, val_main_v10, val_main_v9, val_main_v8,
    val_main_cst_2, val_main_cst_9, val_main_cst_10, val_main_cst_11]
  simp only [dyg_at, inv_at, ms_at, word_1024, word_neg_half, Fin.sum_univ_one, div_real (Norm.ms_pos _).ne']
  rw [add_assoc, add_assoc]
  refine congrArg (e (ix2 r l) + ·) ?_
  norm_cast
  simp only [div_real (show (1024 : ℝ) ≠ 0 by norm_num)]
  norm_cast
  rw [← add_assoc]
  exact Norm.grad_eq (row x r) (fun l => cot (both k v) w r l * g (ix1 l)) l

theorem dg_at (i : S8x1024.Idx) :
    val_main_v69 (F := Ideal) (fun i => (x i : EReal)) (fun i => (w i : EReal)) (fun i => (k i : EReal)) (fun i => (v i : EReal)) i
      = ((if (i 0).val = 0 then ∑ r, cot (both k v) w r (i 1) * x (ix2 r (i 1)) * Norm.inv (row x r) else 0 : ℝ) : EReal) := by
  idx_vars i
  pointwise [val_main_v69, val_main_v68, val_main_v48, val_main_v45, val_main_v44, val_main_v43, val_main_v12, val_main_v11, val_main_cst_7, val_main_cst_8,
    val_main_c_12, val_main_call1_v0]
  simp only [inv_at, cot_at, fill_zero, Fin.sum_univ_one]
  refine masked (by simp [Nat.lt_one_iff]) ?_
  norm_cast
  refine Finset.sum_congr rfl fun r _ => ?_
  ring

theorem db_at (i : S8x512.Idx) :
    val_main_v67 (F := Ideal) (fun i => (k i : EReal)) (fun i => (v i : EReal)) i = ((if (i 0).val = 0 then ∑ r, both k v (ix2 r (i 1)) else 0 : ℝ) : EReal) := by
  idx_vars i
  pointwise [val_main_v67, val_main_v66, val_main_v39, val_main_v38, val_main_v37, val_main_cst_5, val_main_cst_6, val_main_c, val_main_call0_v0]
  simp only [both_eq, fill_zero, Fin.sum_univ_one]
  refine masked (by simp [Nat.lt_one_iff]) ?_
  norm_cast

theorem dw_at (i : S1024x512.Idx) :
    val_main_v65 (F := Ideal) (fun i => (x i : EReal)) (fun i => (g i : EReal)) (fun i => (k i : EReal)) (fun i => (v i : EReal)) i
      = ((∑ r, Norm.normed (row x r) (gain g) (i 0) * both k v (ix2 r (i 1)) : ℝ) : EReal) := by
  idx_vars i
  pointwise [val_main_v65, val_main_v41, val_main_v40]
  simp only [normed_at, both_eq]
  norm_cast
  exact congrArg Real.toEReal (Finset.sum_congr rfl fun r _ => mul_comm _ _)

end Cert.RKeysIdeal.Real

end
-- ==== Proof.KeysClaim.lean ====
/- The backward of the key and value projections: the kernel's results are the reference's. -/
module

public import proofs.«01_k».proof.Defs
public import proofs.«01_k».proof.Proof.KeysValue
public import proofs.«01_k».proof.Proof.KeysRef
public import proofs.«01_k».proof.Proof.Gen.RKeysIdeal.Run
public import proofs.«01_k».proof.Proof.Gen.Pre_finite_keys

@[expose] public section

set_option maxRecDepth 16384

noncomputable section

open Idealize.ShloMosaic Idealize.ShloMosaic.TcCoe Idealize.SL.Sem

namespace Cert.KeysClaim

open Cert.KKeysIdeal Cert.Reals

theorem reals (m : (ℓ : Loc nD τ sig) → Buf (Elt Ideal) ℓ) (h : Cert.Pre_KKeysIdeal_finite_keys m) (c : Dev nD) :
    ∃ (x k v : S2048x1024.Idx → ℝ) (g : S1024.Idx → ℝ) (w : S1024x512.Idx → ℝ), Final.Args m c x k v g w := by
  have e := congrFun (h c) (fun a => a.elim0)
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  haveI : Subsingleton Cert.Pre_finite_keys.S_.Idx := ⟨fun a b => funext fun i => i.elim0⟩
  obtain ⟨x, hx⟩ := reals_of_finite e0 fun _ => rfl
  obtain ⟨g, hg⟩ := reals_of_finite e1 fun _ => rfl
  obtain ⟨w, hw⟩ := reals_of_finite e2 fun _ => rfl
  obtain ⟨k, hk⟩ := reals_of_finite e3 fun _ => rfl
  obtain ⟨v, hv⟩ := reals_of_finite e4 fun _ => rfl
  exact ⟨x, k, v, g, w, hx, hg, hw, hk, hv⟩

theorem frame_reference : Cert.quiescent_RKeysIdeal := fun m ρ _ =>
  (θ_run _ _ _).mono (fun r h => ⟨fun c => (h c).2.2.2.2.2, sem_eq_zero_of_no_sems (by decide) r.2⟩) (Cert.RKeysIdeal.Value.run m ρ)

/-- The gradient of the layer's input, in the reference. -/
theorem result_dx (x k v : S2048x1024.Idx → ℝ) (g : S1024.Idx → ℝ) (w : S1024x512.Idx → ℝ) (e : S2048x1024.Idx → EReal) :
    Cert.RKeysIdeal.Read.val_main_v63 (F := Ideal) (fun i => (x i : EReal)) (fun i => (g i : EReal)) (fun i => (w i : EReal)) e (fun i => (k i : EReal))
        (fun i => (v i : EReal))
      = fun i => e i + ((Norm.grad (fun k => x (ix2 (i 0) k)) (fun l => Final.cotRow (Final.bothRow k v) w (i 0) l * g (ix1 l)) (i 1) : ℝ) : EReal) := by
  funext i
  idx_vars i
  exact Cert.RKeysIdeal.Real.dx_at x k v g w e i0 i1

set_option maxHeartbeats 4000000 in
theorem algebraic : Cert.algebraic_KKeysIdeal_RKeysIdeal_pre_finite_keys := by
  pair_intro
  · run_from Cert.KKeysIdeal.Gen.run_main m g
    · exact Gen.V_main_arg1 m c
    · exact Gen.V_main_arg2 m c
    · exact Gen.V_main_arg3 m c
  · run_from Cert.RKeysIdeal.Value.run m' g'
    all_goals obtain ⟨x, k, v, w, u, h⟩ := reals m hpre c
    · refine (Cert.RKeysIdeal.Read.val_main_v63_eq _ _).trans ?_
      rw [Final.final8 h, (hagree c).1, (hagree c).2.1, (hagree c).2.2.1, (hagree c).2.2.2.2.1, (hagree c).2.2.2.2.2.1, (hagree c).2.2.2.2.2.2,
        h.x, h.g, h.w, h.k, h.v]
      exact result_dx x k v w u _
    · refine (Cert.RKeysIdeal.Read.val_main_v64_eq _ _).trans ?_
      rw [Final.final9 h, (hagree c).1, (hagree c).2.1, (hagree c).2.2.1, (hagree c).2.2.2.2.1, (hagree c).2.2.2.2.2.1, (hagree c).2.2.2.2.2.2,
        h.x, h.g, h.w, h.k, h.v]
      exact result_dx x k v w u _
    · refine (Cert.RKeysIdeal.Read.val_main_v65_eq _ _ _ _).symm.trans ?_
      rw [Final.final10 h, (hagree c).2.2.2.2.2.1, (hagree c).2.2.2.2.2.2, h.x, h.g, h.k, h.v]
      exact funext (Cert.RKeysIdeal.Real.dw_at x k v w)
    · refine (Cert.RKeysIdeal.Read.val_main_v67_eq _ _).symm.trans ?_
      rw [Final.final11 h, (hagree c).2.2.2.2.2.1, (hagree c).2.2.2.2.2.2, h.k, h.v]
      exact funext (Cert.RKeysIdeal.Real.db_at k v)
    · refine (Cert.RKeysIdeal.Read.val_main_v69_eq _ _ _ _).symm.trans ?_
      rw [Final.final12 h, (hagree c).2.2.2.2.2.1, (hagree c).2.2.2.2.2.2, h.x, h.w, h.k, h.v]
      exact funext (Cert.RKeysIdeal.Real.dg_at x k v u)

end Cert.KeysClaim

end
-- ==== Proof.HeadsPay.lean ====
/- What one block of 128 rows of the attention's forward kernel computes, on real arrays. -/
module

public import proofs.«01_k».proof.Proof.AttnFwd
public import proofs.«01_k».proof.Proof.Gen.KHeadsIdeal.Skeleton
public import proofs.«01_k».proof.Proof.Gen.RHeadsIdeal.Read
public import Idealize.ShloMosaic.Lib.Pointwise

@[expose] public section

set_option maxRecDepth 65536

noncomputable section

open Idealize.ShloMosaic Idealize.ShloMosaic.TcCoe Idealize.SL.Sem

namespace Cert.HeadsPay

open Cert.KHeadsIdeal Cert.KHeadsIdeal.Gen Cert.Reals Cert.Attn Cert.AttnFwd

/-- The scores of a block: a head's query row against the keys on its lanes. -/
def scoreAt (q : Fin 128 → Fin 256 → ℝ) (k : Fin 256 → Fin 256 → ℝ) (r : Fin 512) (s : Fin 256) : ℝ :=
  (∑ l : Fin 256, (if l.val / 64 = r.val / 128 then q ⟨r.val % 128, by omega⟩ l else 0) * k s l) * (1 / 8)

/-- The rows of its window a row of the stack sees, in the first block of the sequence (`f`) or a later one. -/
def SeesAt (f : Prop) (r : Fin 512) (s : Fin 256) : Prop := r.val % 128 < s.val ∧ s.val ≤ r.val % 128 + 128 ∧ (¬f ∨ 128 ≤ s.val)

instance (f : Prop) [Decidable f] (r : Fin 512) (s : Fin 256) : Decidable (SeesAt f r s) :=
  inferInstanceAs (Decidable (r.val % 128 < s.val ∧ s.val ≤ r.val % 128 + 128 ∧ (¬f ∨ 128 ≤ s.val)))

/-- The scores before the mask, and after it. -/
abbrev raw (q : FVec Ideal S128x256 .bf16) (k : FVec Ideal S256x256 .bf16) : FVec Ideal S512x256 .f32 :=
  k0_pay7 (F := Ideal) q k k0_pay5 k0_pay6
abbrev maskedBy (f : BitVec 1) (x : FVec Ideal S512x256 .f32) : FVec Ideal S512x256 .f32 :=
  k0_pay9 (F := Ideal) f x (iota .tc S512x256 32 [1] iota_S512x256_d1_w32) k0_pay8

theorem select_lanes (a b l : ℕ) (ha : a < 2 ^ 31) (hb : b < 2 ^ 31) (hl : l < 2 ^ 31) (x y : EReal) :
    Scalar.select (IntOp.andi (IntOp.cmpi .sge (BitVec.ofNat 32 l) (BitVec.ofNat 32 a)) (IntOp.cmpi .slt (BitVec.ofNat 32 l) (BitVec.ofNat 32 b))) x y
      = if a ≤ l ∧ l < b then x else y := by
  rw [sge_word hl ha, slt_word hl hb, and_bool, select_bool]

theorem pick (c d : Prop) [Decidable c] [Decidable d] (e : c ↔ d) (q : Fin 128 → Fin 256 → ℝ) (i j : Fin 128) (l : Fin 256) (h : i.val = j.val) :
    (if c then (q i l : EReal) else ((0 : ℝ) : EReal)) = ((if d then q j l else 0 : ℝ) : EReal) := by
  rw [coe_ite, Fin.ext h]
  exact if_congr e rfl rfl

theorem raw_eq (q : Fin 128 → Fin 256 → ℝ) (k : Fin 256 → Fin 256 → ℝ) :
    raw (fun i => (q (i 0) (i 1) : EReal)) (fun i => (k (i 0) (i 1) : EReal)) = fun i => (scoreAt q k (i 0) (i 1) : EReal) := by
  funext i
  idx_vars i
  pointwise [k0_pay7, k0_pay5, k0_pay6]
  rw [word_eighth]
  unfold scoreAt
  refine Eq.trans (congrArg (· * ((1 / 8 : ℝ) : EReal)) ((Finset.sum_congr rfl fun l _ => ?_).trans (coe_sum _ _).symm)) (EReal.coe_mul _ _).symm
  have hl := l.isLt
  have h0 := i0.isLt
  rw [EReal.coe_mul]
  refine congrArg (· * (k i1 l : EReal)) ?_
  have z : ((((0#32).toInt : ℝ) : EReal)) = ((0 : ℝ) : EReal) := by simp
  rw [z]
  split
  · exact (select_lanes 0 64 l.val (by omega) (by omega) (by omega) _ _).trans (pick _ _ (by omega) q _ _ l (by dsimp only; omega))
  · split
    · exact (select_lanes 64 128 l.val (by omega) (by omega) (by omega) _ _).trans (pick _ _ (by omega) q _ _ l (by dsimp only; omega))
    · split
      · exact (select_lanes 128 192 l.val (by omega) (by omega) (by omega) _ _).trans (pick _ _ (by omega) q _ _ l (by dsimp only; omega))
      · exact (select_lanes 192 256 l.val (by omega) (by omega) (by omega) _ _).trans (pick _ _ (by omega) q _ _ l (by dsimp only; omega))

theorem row_word (r : Fin 512) : IntOp.andi (BitVec.ofNat 32 r.val) 127#32 = BitVec.ofNat 32 (r.val % 128) :=
  (by decide +kernel : ∀ r : Fin 512, IntOp.andi (BitVec.ofNat 32 r.val) 127#32 = BitVec.ofNat 32 (r.val % 128)) r

theorem or_bool (p q : Prop) [Decidable p] [Decidable q] :
    IntOp.ori (Scalar.xori (BitVec.ofBool (decide p)) 1#1) (BitVec.ofBool (decide q)) = BitVec.ofBool (decide (¬p ∨ q)) := by
  by_cases hp : p <;> by_cases hq : q <;> simp [hp, hq, IntOp.ori, Scalar.xori, IntOp.xori]

theorem masked_eq (f : Prop) [Decidable f] (x : FVec Ideal S512x256 .f32) :
    maskedBy (BitVec.ofBool (decide f)) x = fun i => if SeesAt f (i 0) (i 1) then x i else ⊥ := by
  funext i
  idx_vars i
  pointwise [k0_pay9, k0_pay8]
  have h0 := i0.isLt; have h1 := i1.isLt
  rw [row_word, sge_word (a := i1.val) (b := 128) (by omega) (by omega), or_bool, sge_toInt, slt_toInt, and_bool, and_bool, select_bool, word_bot]
  refine if_congr ?_ rfl rfl
  have e : (IntOp.subi (IntOp.addi (BitVec.ofNat 32 (i0.val % 128)) 128#32) (BitVec.ofNat 32 i1.val)).toInt = (i0.val % 128 : ℕ) + 128 - (i1.val : ℤ) := by
    simp only [IntOp.subi, IntOp.addi, BitVec.toInt_sub, BitVec.toInt_add, toInt_nat (show i0.val % 128 < 2 ^ 31 by omega),
      toInt_nat (show i1.val < 2 ^ 31 by omega), BitVec.reduceToInt]
    rw [Int.bmod_eq_of_le (n := ((i0.val % 128 : ℕ) : ℤ) + 128) (by omega) (by omega), Int.bmod_eq_of_le (by omega) (by omega)]
  rw [e]
  simp only [BitVec.reduceToInt, SeesAt]
  by_cases hf : f <;> simp only [hf, not_true_eq_false, not_false_eq_true, false_or, true_or, and_true] <;> omega

/-- The masked scores of a block as ideal numbers. -/
abbrev seen (f : Prop) [Decidable f] (z : Fin 512 → Fin 256 → ℝ) (r : Fin 512) (s : Fin 256) : EReal := if SeesAt f r s then (z r s : EReal) else ⊥

/-- The sink of a row's head. -/
def sinkAt (s : Fin 4 → ℝ) (r : Fin 512) : ℝ := s ⟨r.val / 128, by omega⟩

/-- What the softmax of each row subtracts is `M`. -/
def IsTop (f : Prop) [Decidable f] (z : Fin 512 → Fin 256 → ℝ) (s : Fin 4 → ℝ) (M : Fin 512 → ℝ) : Prop :=
  ∀ r, max (Finset.fold max ⊥ (fun l => seen f z r l) Finset.univ) (sinkAt s r : EReal) = (M r : EReal)

section

variable {f : Prop} [Decidable f] {z : Fin 512 → Fin 256 → ℝ} {s : Fin 4 → ℝ} {M : Fin 512 → ℝ}

theorem sink_eq (s : Fin 4 → ℝ) : k0_pay28 (F := Ideal) (s 0 : EReal) (s 1 : EReal) (s 2 : EReal) (s 3 : EReal) = fun i => (sinkAt s (i 0) : EReal) := by
  funext i
  idx_vars i
  pointwise [k0_pay28]
  have h0 := i0.isLt
  rw [slt_word (a := i0.val) (b := 128) (by omega) (by omega), slt_word (a := i0.val) (b := 256) (by omega) (by omega),
    slt_word (a := i0.val) (b := 384) (by omega) (by omega), select_bool, select_bool, select_bool]
  unfold sinkAt
  split_ifs <;> exact congrArg (fun t => (s t : EReal)) (Fin.ext (by simp; omega))

theorem top_eq (hM : IsTop f z s M) : k0_pay29 (F := Ideal) (s 0 : EReal) (s 1 : EReal) (s 2 : EReal) (s 3 : EReal) (fun i => seen f z (i 0) (i 1))
    = fun i => (M (i 0) : EReal) := by
  have e := sink_eq s
  funext i
  idx_vars i
  pointwise [k0_pay29]
  rw [congrFun e, word_bot]
  exact hM i0

/-- The exponentials of a block, of its sinks, and their sum. -/
def expAt (f : Prop) [Decidable f] (z : Fin 512 → Fin 256 → ℝ) (M : Fin 512 → ℝ) (r : Fin 512) (l : Fin 256) : ℝ := if SeesAt f r l then Real.exp (z r l - M r) else 0
def sinkExpAt (s : Fin 4 → ℝ) (M : Fin 512 → ℝ) (r : Fin 512) : ℝ := Real.exp (sinkAt s r - M r)
def denAt (f : Prop) [Decidable f] (z : Fin 512 → Fin 256 → ℝ) (s : Fin 4 → ℝ) (M : Fin 512 → ℝ) (r : Fin 512) : ℝ :=
  (∑ l, expAt f z M r l) + sinkExpAt s M r

theorem denAt_pos (r : Fin 512) : 0 < denAt f z s M r := by
  refine add_pos_of_nonneg_of_pos (Finset.sum_nonneg fun l _ => ?_) (Real.exp_pos _)
  unfold expAt
  split <;> positivity

theorem exp_eq (hM : IsTop f z s M) : k0_pay30 (F := Ideal) (s 0 : EReal) (s 1 : EReal) (s 2 : EReal) (s 3 : EReal) (fun i => seen f z (i 0) (i 1))
    = fun i => (expAt f z M (i 0) (i 1) : EReal) := by
  have e := top_eq hM
  funext i
  idx_vars i
  pointwise [k0_pay30]
  rw [congrFun e]
  show Ideal.exp (_ - _) = ((expAt f z M i0 i1 : ℝ) : EReal)
  unfold expAt
  show Ideal.exp ((if SeesAt f i0 i1 then (z i0 i1 : EReal) else ⊥) - (M i0 : EReal)) = _
  split
  · rfl
  · exact Ideal.exp_bot

theorem sinkExp_eq (hM : IsTop f z s M) : k0_pay31 (F := Ideal) (s 0 : EReal) (s 1 : EReal) (s 2 : EReal) (s 3 : EReal) (fun i => seen f z (i 0) (i 1))
    = fun i => (sinkExpAt s M (i 0) : EReal) := by
  unfold k0_pay31
  rw [top_eq hM, sink_eq]
  rfl

theorem den_eq (hM : IsTop f z s M) : k0_pay32 (F := Ideal) (s 0 : EReal) (s 1 : EReal) (s 2 : EReal) (s 3 : EReal) (fun i => seen f z (i 0) (i 1))
    = fun i => (denAt f z s M (i 0) : EReal) := by
  have e := exp_eq hM
  have e' := sinkExp_eq hM
  funext i
  idx_vars i
  pointwise [k0_pay32]
  rw [congrFun e']
  simp only [congrFun e]
  unfold denAt
  refine Eq.trans ?_ (EReal.coe_add _ _).symm
  rw [coe_sum]
  rfl

theorem weight_eq (hM : IsTop f z s M) : k0_pay33 (F := Ideal) (s 0 : EReal) (s 1 : EReal) (s 2 : EReal) (s 3 : EReal) (fun i => seen f z (i 0) (i 1))
    = fun i => ((expAt f z M (i 0) (i 1) / denAt f z s M (i 0) : ℝ) : EReal) := by
  have e := exp_eq hM
  have e' := den_eq hM
  funext i
  idx_vars i
  pointwise [k0_pay33]
  rw [congrFun e', congrFun e]
  exact div_real (denAt_pos _).ne' _

theorem sinkWeight_eq (hM : IsTop f z s M) (i : S1x1x512x128.Idx) : k0_pay35 (F := Ideal) (s 0 : EReal) (s 1 : EReal) (s 2 : EReal) (s 3 : EReal) (fun i => seen f z (i 0) (i 1)) i
    = ((sinkExpAt s M (i 2) / denAt f z s M (i 2) : ℝ) : EReal) := by
  have e := sinkExp_eq hM
  have e' := den_eq hM
  idx_vars i
  pointwise [k0_pay35]
  rw [congrFun e', congrFun e]
  exact div_real (denAt_pos _).ne' _

end

/-- The heads' rows of a stack put side by side. -/
abbrev sideBySide (x : FVec Ideal S512x256 .f32) : FVec Ideal S128x256 .bf16 :=
  k0_pay38 (F := Ideal) x (iota .tc S1x256 32 [1] iota_S1x256_d1_w32) k0_pay37 64#32

theorem sideBySide_eq (x : Fin 512 → Fin 256 → ℝ) : sideBySide (fun i => (x (i 0) (i 1) : EReal)) = fun i => (x (headRow (i 1) (i 0)) (i 1) : EReal) := by
  funext i
  idx_vars i
  pointwise [k0_pay38, k0_pay37]
  have hl := i1.isLt
  have h0 := i0.isLt
  rw [select_lanes 0 64 i1.val (by omega) (by omega) (by omega), select_lanes 64 128 i1.val (by omega) (by omega) (by omega),
    select_lanes 128 192 i1.val (by omega) (by omega) (by omega), select_lanes 192 256 i1.val (by omega) (by omega) (by omega)]
  unfold headRow
  split_ifs <;> first | (exfalso; omega) | (simp only [zero_add, add_zero]; exact congrArg (fun t => (x t i1 : EReal)) (Fin.ext (by simp; omega)))

/-- The product of a block's weights with the values. -/
theorem product_eq (a : FVec Ideal S512x256 .bf16) (x : Fin 512 → Fin 256 → ℝ) (ha : a = fun i => (x (i 0) (i 1) : EReal)) (v : Fin 256 → Fin 256 → ℝ) :
    k0_pay19 (F := Ideal) (fun i => (v (i 0) (i 1) : EReal)) a = fun i => ((∑ l, x (i 0) l * v l (i 1) : ℝ) : EReal) := by
  subst ha
  funext i
  idx_vars i
  pointwise [k0_pay19]
  norm_cast

end Cert.HeadsPay
-- ==== Proof.HeadsSame.lean ====
/- The four blocks of a point of the attention's forward kernel compute the same functions of what they read. -/
module

public import proofs.«01_k».proof.Proof.HeadsPay

@[expose] public section

set_option maxRecDepth 65536

noncomputable section

open Idealize.ShloMosaic Idealize.ShloMosaic.TcCoe Idealize.ShloMosaic.Tactic

namespace Cert.HeadsSame

open Cert.KHeadsIdeal Cert.KHeadsIdeal.Gen Cert.HeadsPay

variable (s0 s1 s2 s3 : Elt Ideal .f32) (q : FVec Ideal S128x256 .bf16) (k v : FVec Ideal S256x256 .bf16)

/-- Lane numbers of a row, and of a stack. -/
abbrev lanes : IVec S1x256 32 := iota .tc S1x256 32 [1] iota_S1x256_d1_w32
abbrev cols : IVec S512x256 32 := iota .tc S512x256 32 [1] iota_S512x256_d1_w32

/-- The scores of a block after the mask, and the product of its weights with the values. -/
abbrev scoresOf (f : BitVec 1) (q : FVec Ideal S128x256 .bf16) (k : FVec Ideal S256x256 .bf16) : FVec Ideal S512x256 .f32 := maskedBy f (raw q k)
abbrev outOf (s0 s1 s2 s3 : Elt Ideal .f32) (z : FVec Ideal S512x256 .f32) (v : FVec Ideal S256x256 .bf16) : FVec Ideal S128x256 .bf16 :=
  sideBySide (k0_pay19 (F := Ideal) v (k0_pay33 (F := Ideal) s0 s1 s2 s3 z))

theorem rows_same : shapeCast S128x256 q shapeCasts_S128x256_S128x256 = q := by
  funext i
  idx_vars i
  pointwise

theorem window_same : shapeCast S256x256 k shapeCasts_S256x256_S256x256 = k := by
  funext i
  idx_vars i
  pointwise

theorem scores1 : k0_pay27 (F := Ideal) (k0_pay22 q) (k0_pay23 k) (k0_pay25 q) (k0_pay26 q) lanes 128#32 = scoresOf 0#1 q k :=
  (show _ = scoresOf 0#1 (shapeCast S128x256 q shapeCasts_S128x256_S128x256) (shapeCast S256x256 k shapeCasts_S256x256_S256x256) from rfl).trans
    (congrArg₂ (scoresOf 0#1) (rows_same q) (window_same k))

theorem scores3 : k0_pay68 (F := Ideal) (k0_pay66 (k0_pay62 q) (k0_pay63 k) k0_pay65) k0_pay67 cols 128#32 = scoresOf 0#1 q k :=
  (show _ = scoresOf 0#1 (shapeCast S128x256 q shapeCasts_S128x256_S128x256) (shapeCast S256x256 k shapeCasts_S256x256_S256x256) from rfl).trans
    (congrArg₂ (scoresOf 0#1) (rows_same q) (window_same k))

section

variable (f : BitVec 1) (x : FVec Ideal S512x256 .f32)

theorem weights0 : k0_pay17 (F := Ideal) s0 s1 s2 s3 f x cols k0_pay8 = k0_pay34 s0 s1 s2 s3 (maskedBy f x) := rfl

theorem sinks0 : k0_pay18 (F := Ideal) (k0_pay15 s0 s1 s2 s3 f x cols k0_pay8) = k0_pay35 s0 s1 s2 s3 (maskedBy f x) := rfl

theorem out0 : k0_pay21 (F := Ideal) (k0_pay19 v (k0_pay16 s0 s1 s2 s3 f x cols k0_pay8)) (k0_pay20 v (k0_pay16 s0 s1 s2 s3 f x cols k0_pay8)) lanes 192#32
    = outOf s0 s1 s2 s3 (maskedBy f x) v := rfl

theorem out1 : k0_pay38 (F := Ideal) (k0_pay36 s0 s1 s2 s3 (k0_pay24 v) x) lanes k0_pay37 64#32 = outOf s0 s1 s2 s3 x v :=
  (show _ = outOf s0 s1 s2 s3 x (shapeCast S256x256 v shapeCasts_S256x256_S256x256) from rfl).trans (congrArg _ (window_same v))

theorem weights3 : k0_pay76 (F := Ideal) (k0_pay75 s0 s1 s2 s3 x k0_pay67 cols 128#32) = k0_pay34 s0 s1 s2 s3 (k0_pay68 (F := Ideal) x k0_pay67 cols 128#32) := rfl

theorem sinks3 : k0_pay77 (F := Ideal) (k0_pay74 s0 s1 s2 s3 x k0_pay67 cols 128#32) = k0_pay35 s0 s1 s2 s3 (k0_pay68 (F := Ideal) x k0_pay67 cols 128#32) := rfl

theorem out3 : k0_pay1 (F := Ideal) (k0_pay78 (k0_pay64 v) (k0_pay75 s0 s1 s2 s3 x k0_pay67 cols 128#32)) (k0_pay79 (k0_pay64 v) (k0_pay75 s0 s1 s2 s3 x k0_pay67 cols 128#32))
      (k0_pay80 (k0_pay64 v) (k0_pay75 s0 s1 s2 s3 x k0_pay67 cols 128#32))
    = outOf s0 s1 s2 s3 (k0_pay68 (F := Ideal) x k0_pay67 cols 128#32) v :=
  (show _ = outOf s0 s1 s2 s3 (k0_pay68 (F := Ideal) x k0_pay67 cols 128#32) (shapeCast S256x256 v shapeCasts_S256x256_S256x256) from rfl).trans (congrArg _ (window_same v))

end

/-- Block 2 takes the greatest of each row's scores before anything else. -/
abbrev scoreTops (q : FVec Ideal S128x256 .bf16) (k : FVec Ideal S256x256 .bf16) : FVec Ideal S512 .f32 :=
  k0_pay49 (F := Ideal) (k0_pay39 q) (k0_pay40 k) (k0_pay42 q) (k0_pay43 q) (k0_pay44 q) k0_pay45 k0_pay46
abbrev scores2' (q : FVec Ideal S128x256 .bf16) (k : FVec Ideal S256x256 .bf16) : FVec Ideal S512x256 .f32 :=
  k0_pay47 (F := Ideal) (k0_pay39 q) (k0_pay40 k) (k0_pay42 q) (k0_pay43 q) (k0_pay44 q) k0_pay45 k0_pay46

theorem scores2 : scores2' q k = scoresOf 0#1 q k :=
  (show _ = scoresOf 0#1 (shapeCast S128x256 q shapeCasts_S128x256_S128x256) (shapeCast S256x256 k shapeCasts_S256x256_S256x256) from rfl).trans
    (congrArg₂ (scoresOf 0#1) (rows_same q) (window_same k))

theorem weights2 : k0_pay55 (F := Ideal) (scores2' q k) (k0_pay48 s0 s1 s2 s3) (scoreTops q k) = k0_pay34 s0 s1 s2 s3 (scores2' q k) := rfl

theorem sinks2 : k0_pay56 (F := Ideal) (scores2' q k) (k0_pay48 s0 s1 s2 s3) (scoreTops q k) = k0_pay35 s0 s1 s2 s3 (scores2' q k) := rfl

theorem out2 : k0_pay61 (F := Ideal) (k0_pay57 (k0_pay41 v) (scores2' q k) (k0_pay48 s0 s1 s2 s3) (scoreTops q k))
      (k0_pay58 (k0_pay41 v) (scores2' q k) (k0_pay48 s0 s1 s2 s3) (scoreTops q k)) k0_pay59
      (k0_pay60 (k0_pay41 v) (scores2' q k) (k0_pay48 s0 s1 s2 s3) (scoreTops q k)) (FloatOps.ofBits .f32 0#32)
    = outOf s0 s1 s2 s3 (scores2' q k) v :=
  (show _ = outOf s0 s1 s2 s3 (scores2' q k) (shapeCast S256x256 v shapeCasts_S256x256_S256x256) from rfl).trans (congrArg _ (window_same v))

end Cert.HeadsSame
-- ==== Proof.HeadsBlock.lean ====
/- A block of the attention's forward kernel over real arrays: its softmax is the one the reference takes. -/
module

public import proofs.«01_k».proof.Proof.HeadsPay

@[expose] public section

set_option maxRecDepth 65536

noncomputable section

open Idealize.ShloMosaic Idealize.ShloMosaic.TcCoe Idealize.ShloMosaic.Tactic

namespace Cert.HeadsBlock

open Cert.KHeadsIdeal Cert.KHeadsIdeal.Gen Cert.Reals Cert.Attn Cert.AttnFwd Cert.HeadsPay

variable (q : Fin 2048 → Fin 1024 → ℝ) (k v : Fin 2048 → Fin 256 → ℝ) (w : Fin 16 → ℝ) (h : Fin 4) (B : Fin 16)

/-- The queries of a block, its window of keys or values, and its heads' sinks. -/
def qOf (i : Fin 128) (l : Fin 256) : ℝ := q (row B i) ⟨h.val * 256 + l.val, by omega⟩
def kOf (s l : Fin 256) : ℝ := Data.near k B s h (Data.lane64 l)
def sOf (g : Fin 4) : ℝ := sinkOf w h g
abbrev zOf : Fin 512 → Fin 256 → ℝ := scoreAt (qOf q h B) (kOf k h B)
def topOf (r : Fin 512) : ℝ := top q k w B h (Data.headOf r) (Data.rowOf r)
/-- The block is the sequence's first. -/
def First : Prop := B.val = 0
instance : Decidable (First B) := inferInstanceAs (Decidable (B.val = 0))

/-- A sum over the four heads' lanes in which only one head's lanes count. -/
theorem sum_lanes (f : Fin 256 → ℝ) (g : Fin 4) :
    (∑ l : Fin 256, if l.val / 64 = g.val then f l else 0) = ∑ e : Fin 64, f ⟨g.val * 64 + e.val, by omega⟩ := by
  rw [← Finset.sum_filter]
  refine Finset.sum_nbij' (fun l => (⟨l.val % 64, by omega⟩ : Fin 64)) (fun e => (⟨g.val * 64 + e.val, by omega⟩ : Fin 256)) ?_ ?_ ?_ ?_ ?_
  · intro l _; exact Finset.mem_univ _
  · intro e _; simp only [Finset.mem_filter, Finset.mem_univ, true_and]; omega
  · intro l hl; simp only [Finset.mem_filter, Finset.mem_univ, true_and] at hl; exact Fin.ext (by simp only; omega)
  · intro e _; exact Fin.ext (by simp only; omega)
  · intro l hl
    simp only [Finset.mem_filter, Finset.mem_univ, true_and] at hl
    exact congrArg f (Fin.ext (by simp only; omega))

theorem sees_iff (r : Fin 512) (s : Fin 256) : SeesAt (First B) r s ↔ Sees B (Data.rowOf r) s := by
  simp only [SeesAt, First, Sees, Data.rowOf]
  omega

theorem score_eq {r : Fin 512} {s : Fin 256} (hs : Sees B (Data.rowOf r) s) : zOf q k h B r s = score q k B h (Data.headOf r) (Data.rowOf r) s := by
  unfold zOf scoreAt score
  refine congrArg (· * (1 / 8)) ?_
  refine Eq.trans (Finset.sum_congr rfl fun l _ => ?_) ((sum_lanes (fun l => qOf q h B (Data.rowOf r) l * kOf k h B s l) (Data.headOf r)).trans (Finset.sum_congr rfl fun e _ => ?_))
  · rw [ite_mul, zero_mul]
    rfl
  · have hn := Data.near_eq (x := k) hs.2.2 h
    have e1 : Data.lane64 ⟨(Data.headOf r).val * 64 + e.val, by omega⟩ = e := Fin.ext (by simp only [Data.lane64]; omega)
    simp only [qOf, kOf, e1, hn]
    exact congrArg (· * _) (congrArg (q _) (Fin.ext (by simp only [lane]; omega)))

theorem seen_eq (r : Fin 512) (s : Fin 256) : seen (First B) (zOf q k h B) r s
    = Cert.RAttnIdeal.Read.val_main_v57 (F := Ideal) (mat q) (mat k) (ix5 B h (Data.headOf r) (Data.rowOf r) s) := by
  rw [masked_scores]
  unfold seen
  by_cases hs : Sees B (Data.rowOf r) s
  · rw [if_pos hs, if_pos ((sees_iff B r s).2 hs), score_eq q k h B hs]
  · rw [if_neg hs, if_neg fun x => hs ((sees_iff B r s).1 x)]

theorem isTop : IsTop (First B) (zOf q k h B) (sOf w h) (topOf q k w h B) := by
  intro r
  have e := congrFun (tops q k w) (ix4 B h (Data.headOf r) (Data.rowOf r))
  rw [Cert.RAttnIdeal.Read.val_main_v67_apply, sinks] at e
  refine Eq.trans (congrArg₂ max ?_ rfl) e
  pointwise [Cert.RAttnIdeal.Read.val_main_v59]
  simp only [seen_eq]
  exact congrArg (fun a => Finset.fold max a _ _) word_bot.symm

theorem exp_eq (r : Fin 512) (s : Fin 256) : expAt (First B) (zOf q k h B) (topOf q k w h B) r s = expo q k w B h (Data.headOf r) (Data.rowOf r) s := by
  unfold expAt expo
  by_cases hs : Sees B (Data.rowOf r) s
  · rw [if_pos hs, if_pos ((sees_iff B r s).2 hs), score_eq q k h B hs]
    rfl
  · rw [if_neg hs, if_neg fun x => hs ((sees_iff B r s).1 x)]

variable (d : Fin 2048 → Fin 1024 → ℝ)

theorem den_eq (r : Fin 512) : denAt (First B) (zOf q k h B) (sOf w h) (topOf q k w h B) r = (data q k w v d).den B h (Data.headOf r) (Data.rowOf r) := by
  unfold denAt
  simp only [exp_eq]
  rfl

theorem weight_eq (r : Fin 512) (s : Fin 256) : expAt (First B) (zOf q k h B) (topOf q k w h B) r s / denAt (First B) (zOf q k h B) (sOf w h) (topOf q k w h B) r
    = (data q k w v d).weight B h (Data.headOf r) (Data.rowOf r) s := by
  rw [exp_eq, den_eq q k v w h B d]
  rfl

theorem sink_eq (r : Fin 512) : sinkExpAt (sOf w h) (topOf q k w h B) r / denAt (First B) (zOf q k h B) (sOf w h) (topOf q k w h B) r
    = (data q k w v d).sinkWeight B h (Data.headOf r) (Data.rowOf r) := by
  rw [den_eq q k v w h B d]
  rfl

/-- A head's output. -/
def outAt (g : Fin 4) (i : Fin 128) (e : Fin 64) : ℝ := ∑ s, (data q k w v d).weight B h g i s * window v B s h e

theorem out_eq (i : Fin 128) (l : Fin 256) : (∑ s, (data q k w v d).weight B h (Data.headOf (headRow l i)) (Data.rowOf (headRow l i)) s * kOf v h B s l)
    = outAt q k v w h B d ⟨l.val / 64, by omega⟩ i (Data.lane64 l) := by
  have e0 : Data.headOf (headRow l i) = ⟨l.val / 64, by omega⟩ := Fin.ext (by simp only [Data.headOf, headRow]; omega)
  have e1 : Data.rowOf (headRow l i) = i := Fin.ext (by simp only [Data.rowOf, headRow]; omega)
  rw [e0, e1]
  refine Finset.sum_congr rfl fun s _ => ?_
  by_cases p : 128 ≤ B.val * 128 + s.val
  · exact congrArg _ (Data.near_eq p h _)
  · rw [(data q k w v d).weight_masked p, zero_mul, zero_mul]

end Cert.HeadsBlock
-- ==== Proof.HeadsPoint.lean ====
/- What a point of the attention's forward kernel reads, its arguments real arrays. -/
module

public import proofs.«01_k».proof.Proof.HeadsSame
public import proofs.«01_k».proof.Proof.HeadsBlock
public import proofs.«01_k».proof.Proof.Gen.KHeadsIdeal.Value
public import Idealize.ShloMosaic.Lib.Pipeline.ValueKit
public import Idealize.ShloMosaic.Lib.WholeRead

@[expose] public section

set_option maxRecDepth 65536

noncomputable section

open Idealize.ShloMosaic Idealize.ShloMosaic.TcCoe Idealize.ShloMosaic.Tactic Idealize.SL.Sem

namespace Cert.HeadsPoint

open Cert.KHeadsIdeal Cert.KHeadsIdeal.Gen Cert.Reals Cert.Attn Cert.AttnFwd Cert.HeadsPay Cert.HeadsSame Cert.HeadsBlock

variable (m : (ℓ : Loc nD τ sig) → Buf (Elt Ideal) ℓ) (c : Dev nD)
  (q : Fin 2048 → Fin 1024 → ℝ) (k v : Fin 2048 → Fin 256 → ℝ) (w : Fin 16 → ℝ)

/-- The arguments are these reals. -/
structure Args : Prop where
  q : m ((c : Thread nD τ).loc main_arg0) = mat q
  k : m ((c : Thread nD τ).loc main_arg1) = mat k
  v : m ((c : Thread nD τ).loc main_arg2) = mat v
  w : m ((c : Thread nD τ).loc main_arg3) = vec w

theorem idx : ∀ t : Fin cfg0.N, win0_0.index t = ![0] ∧ win0_1.index t = ![t.val % 4, t.val / 4] ∧ win0_2.index t = ![t.val % 4, t.val / 4]
    ∧ win0_3.index t = ![4 * (t.val % 4) - 1, t.val / 4]
    ∧ win0_4.index t = ![t.val % 4, t.val / 4] ∧ win0_5.index t = ![4 * (t.val % 4) - 1, t.val / 4]
    ∧ win0_6.index t = ![t.val % 4, t.val / 4]
    ∧ win0_7.index t = ![t.val / 4, t.val % 4, 0, 0] ∧ win0_8.index t = ![t.val / 4, t.val % 4, 0, 0] :=
  (by decide +kernel : ∀ t : Fin grid0.N, _)

theorem lt16 (t : Fin cfg0.N) : t.val < 16 := lt_of_lt_of_eq t.isLt N_0

/-- The group of a point; its block `b`; row `r` of the 512 it reads, and lane `l` of its 256. -/
def group (t : Fin cfg0.N) : Fin 4 := ⟨t.val / 4, by have := lt16 t; omega⟩
def blockAt (t : Fin cfg0.N) (b : Fin 4) : Fin 16 := ⟨t.val % 4 * 4 + b.val, by omega⟩
def rowAt (t : Fin cfg0.N) (r : Fin 512) : Fin 2048 := ⟨t.val % 4 * 512 + r.val, by omega⟩
def laneAt (t : Fin cfg0.N) (l : Fin 256) : Fin 1024 := ⟨t.val / 4 * 256 + l.val, by have := lt16 t; omega⟩
/-- Row `r` of the block before the first of them. -/
def prevAt (t : Fin cfg0.N) (r : Fin 128) : Fin 2048 := ⟨(4 * (t.val % 4) - 1) * 128 + r.val, by omega⟩
/-- The group's own head's lane of one of its 256. -/
def ownAt (t : Fin cfg0.N) (l : Fin 256) : Fin 256 := Cert.Attn.own (group t) ⟨l.val % 64, by omega⟩

variable {m c q k v w} (h : Args m c q k v w) (t : Fin cfg0.N)

include h

theorem queries_at : V m c main_v4 = fun i : S2048x1024.Idx => (q (i 0) (i 1) : EReal) := by
  entry_read
  rw [h.q]
  rfl

theorem keys_at : V m c main_v6 = fun i : S2048x1024.Idx => (k (i 0) (Cert.Attn.own ⟨(i 1).val / 256, Nat.div_lt_of_lt_mul (i 1).isLt⟩ ⟨(i 1).val % 64, by omega⟩) : EReal) := by
  entry_read
  rw [h.k]
  funext i
  idx_vars i
  pointwise
  rfl

theorem values_at : V m c main_v8 = fun i : S2048x1024.Idx => (v (i 0) (Cert.Attn.own ⟨(i 1).val / 256, Nat.div_lt_of_lt_mul (i 1).isLt⟩ ⟨(i 1).val % 64, by omega⟩) : EReal) := by
  entry_read
  rw [h.v]
  funext i
  idx_vars i
  pointwise
  rfl

theorem iblk0 : iblk m c 0 t = fun i : S16.Idx => (w (i 0) : EReal) := by
  funext i
  have e : iblk m c 0 t i = V m c main_arg3 i := by
    unfold iblk
    show ((cfg0.win 0).blk t).view.read (Elt Ideal) (V m c main_arg3) i = _
    generalize V m c main_arg3 = X
    blk_ext [idx t]
  rw [e]
  exact congrFun ((Gen.V_main_arg3 m c).trans h.w) i

theorem iblk1 : iblk m c 1 t = fun i : S512x256.Idx => (q (rowAt t (i 0)) (laneAt t (i 1)) : EReal) := by
  funext i
  have e : iblk m c 1 t i = V m c main_v4 (ix2 (rowAt t (i 0)) (laneAt t (i 1))) := by
    unfold iblk
    show ((cfg0.win 1).blk t).view.read (Elt Ideal) (V m c main_v4) i = _
    generalize V m c main_v4 = X
    blk_ext [idx t, rowAt, laneAt]
  rw [e, queries_at h]
  rfl

omit h in
theorem own_eq (x : Fin 2048 → Fin 256 → ℝ) (r : Fin 2048) (l : Fin 256) (h0 : (laneAt t l).val / 256 < 4) (h1 : (laneAt t l).val % 64 < 64) :
    (x r (Cert.Attn.own ⟨(laneAt t l).val / 256, h0⟩ ⟨(laneAt t l).val % 64, h1⟩) : EReal) = (x r (ownAt t l) : EReal) := by
  refine congrArg (fun z => (x r z : EReal)) (Fin.ext ?_)
  have := l.isLt
  simp only [Cert.Attn.own, ownAt, laneAt, group]
  omega

theorem iblk2 : iblk m c 2 t = fun i : S512x256.Idx => (k (rowAt t (i 0)) (ownAt t (i 1)) : EReal) := by
  funext i
  have e : iblk m c 2 t i = V m c main_v6 (ix2 (rowAt t (i 0)) (laneAt t (i 1))) := by
    unfold iblk
    show ((cfg0.win 2).blk t).view.read (Elt Ideal) (V m c main_v6) i = _
    generalize V m c main_v6 = X
    blk_ext [idx t, rowAt, laneAt]
  rw [e, keys_at h]
  exact own_eq t k _ _ _ _

theorem iblk3 : iblk m c 3 t = fun i : S128x256.Idx => (k (prevAt t (i 0)) (ownAt t (i 1)) : EReal) := by
  funext i
  have e : iblk m c 3 t i = V m c main_v6 (ix2 (prevAt t (i 0)) (laneAt t (i 1))) := by
    unfold iblk
    show ((cfg0.win 3).blk t).view.read (Elt Ideal) (V m c main_v6) i = _
    generalize V m c main_v6 = X
    blk_ext [idx t, prevAt, laneAt]
  rw [e, keys_at h]
  exact own_eq t k _ _ _ _

theorem iblk4 : iblk m c 4 t = fun i : S512x256.Idx => (v (rowAt t (i 0)) (ownAt t (i 1)) : EReal) := by
  funext i
  have e : iblk m c 4 t i = V m c main_v8 (ix2 (rowAt t (i 0)) (laneAt t (i 1))) := by
    unfold iblk
    show ((cfg0.win 4).blk t).view.read (Elt Ideal) (V m c main_v8) i = _
    generalize V m c main_v8 = X
    blk_ext [idx t, rowAt, laneAt]
  rw [e, values_at h]
  exact own_eq t v _ _ _ _

theorem iblk5 : iblk m c 5 t = fun i : S128x256.Idx => (v (prevAt t (i 0)) (ownAt t (i 1)) : EReal) := by
  funext i
  have e : iblk m c 5 t i = V m c main_v8 (ix2 (prevAt t (i 0)) (laneAt t (i 1))) := by
    unfold iblk
    show ((cfg0.win 5).blk t).view.read (Elt Ideal) (V m c main_v8) i = _
    generalize V m c main_v8 = X
    blk_ext [idx t, prevAt, laneAt]
  rw [e, values_at h]
  exact own_eq t v _ _ _ _

omit h

/-! ## What the blocks of a point read -/

theorem first_word : ∀ t : Fin cfg0.N, Scalar.cmpi .eq (BitVec.ofNat 32 (grid0.coords t 1).val) 0#32 = BitVec.ofBool (decide (First (blockAt t 0))) :=
  (by decide +kernel : ∀ t : Fin grid0.N, _)

theorem later_word (t : Fin cfg0.N) (b : Fin 4) (hb : 0 < b.val) : (0#1 : BitVec 1) = BitVec.ofBool (decide (First (blockAt t b))) := by
  rw [decide_eq_false (by simp only [First, blockAt]; omega)]
  rfl

theorem sink_off : ∀ t : Fin cfg0.N, ∀ g : Fin 4, k0_off1 (grid0.coords t) (BitVec.ofNat 32 g.val) = ![t.val / 4 * 4 + g.val] :=
  (by decide +kernel : ∀ t : Fin grid0.N, _)

theorem sink_read (w : Fin 16 → ℝ) (g : Fin 4) (o : Fin 1 → ℕ) (ho : o = ![t.val / 4 * 4 + g.val]) (inb) (hf) :
    View.ld (Val := Elt Ideal) (S := S16) (e' := .f32) (fun i : S16.Idx => (w (i 0) : EReal)) (Rect.unit (s := S16) o ![1] inb) (Shape.Idx.first (s := ⟨1, ![1]⟩) hf) = (sOf w (group t) g : EReal) := by
  subst ho
  refine congrArg (fun z => (w z : EReal)) (Fin.ext ?_)
  simp [Rect.unit, LoadRect.idx, Rect.toLoadRect, group, Shape.Idx.first]

theorem rows_read (q : Fin 2048 → Fin 1024 → ℝ) (b : Fin 4) (o : ℕ) (ho : o = b.val * 128) (inb) :
    View.ld (Val := Elt Ideal) (S := S512x256) (e' := .bf16) (fun i : S512x256.Idx => (q (rowAt t (i 0)) (laneAt t (i 1)) : EReal)) (Rect.unit (s := S512x256) ![o, 0] ![128, 256] inb)
      = fun i : S128x256.Idx => (qOf q (group t) (blockAt t b) (i 0) (i 1) : EReal) := by
  subst ho
  funext i
  idx_vars i
  pointwise
  refine congrArg Real.toEReal (congrArg₂ q (Fin.ext ?_) (Fin.ext ?_)) <;> simp only [rowAt, laneAt, Cert.Attn.row, blockAt, group] <;> omega

theorem window_read (k : Fin 2048 → Fin 256 → ℝ) (b : Fin 4) (o : ℕ) (ho : o + 128 = b.val * 128) (inb) :
    View.ld (Val := Elt Ideal) (S := S512x256) (e' := .bf16) (fun i : S512x256.Idx => (k (rowAt t (i 0)) (ownAt t (i 1)) : EReal)) (Rect.unit (s := S512x256) ![o, 0] ![256, 256] inb)
      = fun i : S256x256.Idx => (kOf k (group t) (blockAt t b) (i 0) (i 1) : EReal) := by
  funext i
  idx_vars i
  pointwise
  refine congrArg Real.toEReal (congrArg₂ k (Fin.ext ?_) (Fin.ext ?_)) <;> simp only [rowAt, ownAt, Data.lane64, blockAt, group]
  split <;> omega

theorem first_window_read (k : Fin 2048 → Fin 256 → ℝ) (inb) :
    k0_pay3 (F := Ideal) (fun i : S128x256.Idx => (k (prevAt t (i 0)) (ownAt t (i 1)) : EReal))
        (View.ld (Val := Elt Ideal) (S := S512x256) (e' := .bf16) (fun i : S512x256.Idx => (k (rowAt t (i 0)) (ownAt t (i 1)) : EReal)) (Rect.unit (s := S512x256) ![0, 0] ![128, 256] inb))
      = fun i : S256x256.Idx => (kOf k (group t) (blockAt t 0) (i 0) (i 1) : EReal) := by
  funext i
  idx_vars i
  pointwise [k0_pay3]
  unfold kOf Data.near
  split <;> refine congrArg Real.toEReal (congrArg₂ k (Fin.ext ?_) (Fin.ext ?_)) <;> simp only [rowAt, prevAt, ownAt, Data.lane64, blockAt, group]
  all_goals first | omega | (simp; omega)

/-! ## What they store -/

section

variable (q : Fin 2048 → Fin 1024 → ℝ) (k v : Fin 2048 → Fin 256 → ℝ) (w : Fin 16 → ℝ) (h : Fin 4) (B : Fin 16)

/-- The sinks as the kernel's numbers. -/
abbrev s_ (g : Fin 4) : EReal := (sOf w h g : EReal)

theorem scores_at {f : BitVec 1} (hf : f = BitVec.ofBool (decide (First B))) :
    scoresOf f (fun i => (qOf q h B (i 0) (i 1) : EReal)) (fun i => (kOf k h B (i 0) (i 1) : EReal)) = fun i => seen (First B) (zOf q k h B) (i 0) (i 1) := by
  subst hf
  exact (congrArg (maskedBy _) (raw_eq _ _)).trans (masked_eq _ _)

theorem weights_at {f : BitVec 1} (hf : f = BitVec.ofBool (decide (First B))) :
    k0_pay33 (F := Ideal) (s_ w h 0) (s_ w h 1) (s_ w h 2) (s_ w h 3) (scoresOf f (fun i => (qOf q h B (i 0) (i 1) : EReal)) (fun i => (kOf k h B (i 0) (i 1) : EReal)))
      = fun i => ((data q k w v 0).weight B h (Data.headOf (i 0)) (Data.rowOf (i 0)) (i 1) : EReal) := by
  rw [scores_at q k h B hf]
  refine (HeadsPay.weight_eq (isTop q k w h B)).trans ?_
  funext i
  exact congrArg Real.toEReal (HeadsBlock.weight_eq q k v w h B 0 _ _)

theorem weightsOut_at {f : BitVec 1} (hf : f = BitVec.ofBool (decide (First B))) (i : S1x1x512x256.Idx) :
    k0_pay34 (F := Ideal) (s_ w h 0) (s_ w h 1) (s_ w h 2) (s_ w h 3) (scoresOf f (fun i => (qOf q h B (i 0) (i 1) : EReal)) (fun i => (kOf k h B (i 0) (i 1) : EReal))) i
      = ((data q k w v 0).weight B h (Data.headOf (i 2)) (Data.rowOf (i 2)) (i 3) : EReal) := by
  have e := weights_at q k v w h B hf
  idx_vars i
  pointwise [k0_pay34]
  rw [e]
  rfl

theorem sinksOut_at {f : BitVec 1} (hf : f = BitVec.ofBool (decide (First B))) (i : S1x1x512x128.Idx) :
    k0_pay35 (F := Ideal) (s_ w h 0) (s_ w h 1) (s_ w h 2) (s_ w h 3) (scoresOf f (fun i => (qOf q h B (i 0) (i 1) : EReal)) (fun i => (kOf k h B (i 0) (i 1) : EReal))) i
      = ((data q k w v 0).sinkWeight B h (Data.headOf (i 2)) (Data.rowOf (i 2)) : EReal) := by
  rw [scores_at q k h B hf]
  exact (HeadsPay.sinkWeight_eq (isTop q k w h B) i).trans (congrArg Real.toEReal (HeadsBlock.sink_eq q k v w h B 0 _))

theorem out_at {f : BitVec 1} (hf : f = BitVec.ofBool (decide (First B))) (i : S128x256.Idx) :
    outOf (s_ w h 0) (s_ w h 1) (s_ w h 2) (s_ w h 3) (scoresOf f (fun i => (qOf q h B (i 0) (i 1) : EReal)) (fun i => (kOf k h B (i 0) (i 1) : EReal)))
        (fun i => (kOf v h B (i 0) (i 1) : EReal)) i
      = (outAt q k v w h B 0 ⟨(i 1).val / 64, Nat.div_lt_of_lt_mul (i 1).isLt⟩ (i 0) (Data.lane64 (i 1)) : EReal) := by
  refine (congrFun ((congrArg sideBySide (product_eq _ (fun r s => (data q k w v 0).weight B h (Data.headOf r) (Data.rowOf r) s) (weights_at q k v w h B hf) (kOf v h B))).trans
    (sideBySide_eq fun r l => ∑ s, (data q k w v 0).weight B h (Data.headOf r) (Data.rowOf r) s * kOf v h B s l)) i).trans ?_
  exact congrArg Real.toEReal (HeadsBlock.out_eq q k v w h B 0 (i 0) (i 1))

end

end Cert.HeadsPoint
-- ==== Proof.HeadsStore.lean ====
/- What each store of the attention's forward kernel holds, its arguments real arrays. -/
module

public import proofs.«01_k».proof.Proof.HeadsPoint

@[expose] public section

set_option maxRecDepth 65536

noncomputable section

open Idealize.ShloMosaic Idealize.ShloMosaic.TcCoe Idealize.ShloMosaic.Tactic Idealize.SL.Sem

namespace Cert.HeadsStore

open Cert.KHeadsIdeal Cert.KHeadsIdeal.Gen Cert.Reals Cert.Attn Cert.AttnFwd Cert.HeadsPay Cert.HeadsSame Cert.HeadsBlock Cert.HeadsPoint

variable {q : Fin 2048 → Fin 1024 → ℝ} {k v : Fin 2048 → Fin 256 → ℝ} {w : Fin 16 → ℝ} {h : Fin 4} {B : Fin 16}
  {a0 a1 a2 a3 : Elt Ideal .f32} {Q : FVec Ideal S128x256 .bf16} {K V : FVec Ideal S256x256 .bf16}

/-- What a block reads of the sinks, the queries and the keys. -/
structure Reads (q : Fin 2048 → Fin 1024 → ℝ) (k : Fin 2048 → Fin 256 → ℝ) (w : Fin 16 → ℝ) (h : Fin 4) (B : Fin 16)
    (a0 a1 a2 a3 : Elt Ideal .f32) (Q : FVec Ideal S128x256 .bf16) (K : FVec Ideal S256x256 .bf16) : Prop where
  s0 : a0 = s_ w h 0
  s1 : a1 = s_ w h 1
  s2 : a2 = s_ w h 2
  s3 : a3 = s_ w h 3
  q : Q = fun i => (qOf q h B (i 0) (i 1) : EReal)
  k : K = fun i => (kOf k h B (i 0) (i 1) : EReal)

theorem q_same (Q : FVec Ideal S128x256 .bf16) : k0_pay2 (F := Ideal) Q = Q := rows_same Q

variable (v) (R : Reads q k w h B a0 a1 a2 a3 Q K) (hV : V = fun i => (kOf v h B (i 0) (i 1) : EReal))

include R

theorem weights_0 {f : BitVec 1} (hf : f = BitVec.ofBool (decide (First B))) (x : S1x1x512x256.Idx) :
    k0_pay17 (F := Ideal) a0 a1 a2 a3 f (raw (k0_pay2 (F := Ideal) Q) K) cols k0_pay8 x = ((data q k w v 0).weight B h (Data.headOf (x 2)) (Data.rowOf (x 2)) (x 3) : EReal) := by
  obtain ⟨rfl, rfl, rfl, rfl, rfl, rfl⟩ := R
  rw [weights0, q_same]
  exact weightsOut_at q k v w h B hf x

theorem weights_1 (hf : (0#1 : BitVec 1) = BitVec.ofBool (decide (First B))) (x : S1x1x512x256.Idx) :
    k0_pay34 (F := Ideal) a0 a1 a2 a3 (k0_pay27 (F := Ideal) (k0_pay22 Q) (k0_pay23 K) (k0_pay25 Q) (k0_pay26 Q) lanes 128#32) x = ((data q k w v 0).weight B h (Data.headOf (x 2)) (Data.rowOf (x 2)) (x 3) : EReal) := by
  obtain ⟨rfl, rfl, rfl, rfl, rfl, rfl⟩ := R
  rw [scores1]
  exact weightsOut_at q k v w h B hf x

theorem weights_2 (hf : (0#1 : BitVec 1) = BitVec.ofBool (decide (First B))) (x : S1x1x512x256.Idx) :
    k0_pay55 (F := Ideal) (scores2' Q K) (k0_pay48 a0 a1 a2 a3) (scoreTops Q K) x = ((data q k w v 0).weight B h (Data.headOf (x 2)) (Data.rowOf (x 2)) (x 3) : EReal) := by
  obtain ⟨rfl, rfl, rfl, rfl, rfl, rfl⟩ := R
  rw [weights2, scores2]
  exact weightsOut_at q k v w h B hf x

theorem weights_3 (hf : (0#1 : BitVec 1) = BitVec.ofBool (decide (First B))) (x : S1x1x512x256.Idx) :
    k0_pay76 (F := Ideal) (k0_pay75 a0 a1 a2 a3 (k0_pay66 (F := Ideal) (k0_pay62 Q) (k0_pay63 K) k0_pay65) k0_pay67 cols 128#32) x = ((data q k w v 0).weight B h (Data.headOf (x 2)) (Data.rowOf (x 2)) (x 3) : EReal) := by
  obtain ⟨rfl, rfl, rfl, rfl, rfl, rfl⟩ := R
  rw [weights3, scores3]
  exact weightsOut_at q k v w h B hf x

theorem sinks_0 {f : BitVec 1} (hf : f = BitVec.ofBool (decide (First B))) (x : S1x1x512x128.Idx) :
    k0_pay18 (F := Ideal) (k0_pay15 a0 a1 a2 a3 f (raw (k0_pay2 (F := Ideal) Q) K) cols k0_pay8) x = ((data q k w v 0).sinkWeight B h (Data.headOf (x 2)) (Data.rowOf (x 2)) : EReal) := by
  obtain ⟨rfl, rfl, rfl, rfl, rfl, rfl⟩ := R
  rw [sinks0, q_same]
  exact sinksOut_at q k v w h B hf x

theorem sinks_1 (hf : (0#1 : BitVec 1) = BitVec.ofBool (decide (First B))) (x : S1x1x512x128.Idx) :
    k0_pay35 (F := Ideal) a0 a1 a2 a3 (k0_pay27 (F := Ideal) (k0_pay22 Q) (k0_pay23 K) (k0_pay25 Q) (k0_pay26 Q) lanes 128#32) x = ((data q k w v 0).sinkWeight B h (Data.headOf (x 2)) (Data.rowOf (x 2)) : EReal) := by
  obtain ⟨rfl, rfl, rfl, rfl, rfl, rfl⟩ := R
  rw [scores1]
  exact sinksOut_at q k v w h B hf x

theorem sinks_2 (hf : (0#1 : BitVec 1) = BitVec.ofBool (decide (First B))) (x : S1x1x512x128.Idx) :
    k0_pay56 (F := Ideal) (scores2' Q K) (k0_pay48 a0 a1 a2 a3) (scoreTops Q K) x = ((data q k w v 0).sinkWeight B h (Data.headOf (x 2)) (Data.rowOf (x 2)) : EReal) := by
  obtain ⟨rfl, rfl, rfl, rfl, rfl, rfl⟩ := R
  rw [sinks2, scores2]
  exact sinksOut_at q k v w h B hf x

theorem sinks_3 (hf : (0#1 : BitVec 1) = BitVec.ofBool (decide (First B))) (x : S1x1x512x128.Idx) :
    k0_pay77 (F := Ideal) (k0_pay74 a0 a1 a2 a3 (k0_pay66 (F := Ideal) (k0_pay62 Q) (k0_pay63 K) k0_pay65) k0_pay67 cols 128#32) x = ((data q k w v 0).sinkWeight B h (Data.headOf (x 2)) (Data.rowOf (x 2)) : EReal) := by
  obtain ⟨rfl, rfl, rfl, rfl, rfl, rfl⟩ := R
  rw [sinks3, scores3]
  exact sinksOut_at q k v w h B hf x

include hV

theorem outs_0 {f : BitVec 1} (hf : f = BitVec.ofBool (decide (First B))) (x : S128x256.Idx) :
    k0_pay21 (F := Ideal) (k0_pay19 V (k0_pay16 a0 a1 a2 a3 f (raw (k0_pay2 (F := Ideal) Q) K) cols k0_pay8)) (k0_pay20 V (k0_pay16 a0 a1 a2 a3 f (raw (k0_pay2 (F := Ideal) Q) K) cols k0_pay8)) lanes 192#32 x = (outAt q k v w h B 0 ⟨(x 1).val / 64, Nat.div_lt_of_lt_mul (x 1).isLt⟩ (x 0) (Data.lane64 (x 1)) : EReal) := by
  obtain ⟨rfl, rfl, rfl, rfl, rfl, rfl⟩ := R
  subst hV
  rw [out0, q_same]
  exact out_at q k v w h B hf x

theorem outs_1 (hf : (0#1 : BitVec 1) = BitVec.ofBool (decide (First B))) (x : S128x256.Idx) :
    k0_pay38 (F := Ideal) (k0_pay36 a0 a1 a2 a3 (k0_pay24 V) (k0_pay27 (F := Ideal) (k0_pay22 Q) (k0_pay23 K) (k0_pay25 Q) (k0_pay26 Q) lanes 128#32)) lanes k0_pay37 64#32 x = (outAt q k v w h B 0 ⟨(x 1).val / 64, Nat.div_lt_of_lt_mul (x 1).isLt⟩ (x 0) (Data.lane64 (x 1)) : EReal) := by
  obtain ⟨rfl, rfl, rfl, rfl, rfl, rfl⟩ := R
  subst hV
  rw [out1, scores1]
  exact out_at q k v w h B hf x

theorem outs_2 (hf : (0#1 : BitVec 1) = BitVec.ofBool (decide (First B))) (x : S128x256.Idx) :
    k0_pay61 (F := Ideal) (k0_pay57 (k0_pay41 V) (scores2' Q K) (k0_pay48 a0 a1 a2 a3) (scoreTops Q K)) (k0_pay58 (k0_pay41 V) (scores2' Q K) (k0_pay48 a0 a1 a2 a3) (scoreTops Q K)) k0_pay59
      (k0_pay60 (k0_pay41 V) (scores2' Q K) (k0_pay48 a0 a1 a2 a3) (scoreTops Q K)) (FloatOps.ofBits .f32 0#32) x = (outAt q k v w h B 0 ⟨(x 1).val / 64, Nat.div_lt_of_lt_mul (x 1).isLt⟩ (x 0) (Data.lane64 (x 1)) : EReal) := by
  obtain ⟨rfl, rfl, rfl, rfl, rfl, rfl⟩ := R
  subst hV
  rw [out2, scores2]
  exact out_at q k v w h B hf x

theorem outs_3 (hf : (0#1 : BitVec 1) = BitVec.ofBool (decide (First B))) (x : S128x256.Idx) :
    k0_pay1 (F := Ideal) (k0_pay78 (k0_pay64 V) (k0_pay75 a0 a1 a2 a3 (k0_pay66 (F := Ideal) (k0_pay62 Q) (k0_pay63 K) k0_pay65) k0_pay67 cols 128#32)) (k0_pay79 (k0_pay64 V) (k0_pay75 a0 a1 a2 a3 (k0_pay66 (F := Ideal) (k0_pay62 Q) (k0_pay63 K) k0_pay65) k0_pay67 cols 128#32))
      (k0_pay80 (k0_pay64 V) (k0_pay75 a0 a1 a2 a3 (k0_pay66 (F := Ideal) (k0_pay62 Q) (k0_pay63 K) k0_pay65) k0_pay67 cols 128#32)) x = (outAt q k v w h B 0 ⟨(x 1).val / 64, Nat.div_lt_of_lt_mul (x 1).isLt⟩ (x 0) (Data.lane64 (x 1)) : EReal) := by
  obtain ⟨rfl, rfl, rfl, rfl, rfl, rfl⟩ := R
  subst hV
  rw [out3, scores3]
  exact out_at q k v w h B hf x

end Cert.HeadsStore
-- ==== Proof.HeadsValue.lean ====
/- The arrays the attention's forward kernel leaves, its arguments real arrays. -/
module

public import proofs.«01_k».proof.Proof.HeadsStore

@[expose] public section

set_option maxRecDepth 65536

noncomputable section

open Idealize.ShloMosaic Idealize.ShloMosaic.TcCoe Idealize.ShloMosaic.Tactic Idealize.SL.Sem

namespace Cert.HeadsValue

open Cert.KHeadsIdeal Cert.KHeadsIdeal.Gen Cert.Reals Cert.Attn Cert.AttnFwd Cert.HeadsPay Cert.HeadsSame Cert.HeadsBlock Cert.HeadsPoint Cert.HeadsStore

variable {m : (ℓ : Loc nD τ sig) → Buf (Elt Ideal) ℓ} {c : Dev nD}
  {q : Fin 2048 → Fin 1024 → ℝ} {k v : Fin 2048 → Fin 256 → ℝ} {w : Fin 16 → ℝ} (h : Args m c q k v w)

/-- A block's reads, its sinks loaded one by one. -/
theorem reads (t : Fin cfg0.N) (q : Fin 2048 → Fin 1024 → ℝ) (k : Fin 2048 → Fin 256 → ℝ) (w : Fin 16 → ℝ) (b : Fin 4)
    {inb0 inb1 inb2 inb3} (hf) {Q : FVec Ideal S128x256 .bf16} {K : FVec Ideal S256x256 .bf16}
    (hQ : Q = fun i => (qOf q (group t) (blockAt t b) (i 0) (i 1) : EReal)) (hK : K = fun i => (kOf k (group t) (blockAt t b) (i 0) (i 1) : EReal)) :
    Reads q k w (group t) (blockAt t b)
      (View.ld (Val := Elt Ideal) (S := S16) (e' := .f32) (fun i : S16.Idx => (w (i 0) : EReal)) (Rect.unit (s := S16) (k0_off1 (grid0.coords t) 0#32) ![1] inb0) (Shape.Idx.first (s := ⟨1, ![1]⟩) hf))
      (View.ld (Val := Elt Ideal) (S := S16) (e' := .f32) (fun i : S16.Idx => (w (i 0) : EReal)) (Rect.unit (s := S16) (k0_off1 (grid0.coords t) 1#32) ![1] inb1) (Shape.Idx.first (s := ⟨1, ![1]⟩) hf))
      (View.ld (Val := Elt Ideal) (S := S16) (e' := .f32) (fun i : S16.Idx => (w (i 0) : EReal)) (Rect.unit (s := S16) (k0_off1 (grid0.coords t) 2#32) ![1] inb2) (Shape.Idx.first (s := ⟨1, ![1]⟩) hf))
      (View.ld (Val := Elt Ideal) (S := S16) (e' := .f32) (fun i : S16.Idx => (w (i 0) : EReal)) (Rect.unit (s := S16) (k0_off1 (grid0.coords t) 3#32) ![1] inb3) (Shape.Idx.first (s := ⟨1, ![1]⟩) hf)) Q K where
  s0 := sink_read t w 0 _ (sink_off t 0) _ _
  s1 := sink_read t w 1 _ (sink_off t 1) _ _
  s2 := sink_read t w 2 _ (sink_off t 2) _ _
  s3 := sink_read t w 3 _ (sink_off t 3) _ _
  q := hQ
  k := hK

/-- The place of a row of the sequence in its block, and of a lane among the heads. -/
def inBlock (r : Fin 2048) : Fin 16 := ⟨r.val / 128, by omega⟩
def inRow (r : Fin 2048) : Fin 128 := ⟨r.val % 128, by omega⟩
def inGroup (l : Fin 1024) : Fin 4 := ⟨l.val / 256, by omega⟩
def inHead (l : Fin 1024) : Fin 4 := ⟨l.val % 256 / 64, by omega⟩
def inLane (l : Fin 1024) : Fin 64 := ⟨l.val % 64, by omega⟩

theorem weight_ix {D : Data} {B B' : Fin 16} {g : Fin 4} {r r' : Fin 512} {s s' : Fin 256} (hB : B.val = B'.val) (hr : r.val = r'.val) (hs : s.val = s'.val) :
    ((D.weight B g (Data.headOf r) (Data.rowOf r) s : ℝ) : EReal) = (D.weight B' g (Data.headOf r') (Data.rowOf r') s' : ℝ) := by
  rw [Fin.ext hB, Fin.ext hr, Fin.ext hs]

theorem sink_ix {D : Data} {B B' : Fin 16} {g : Fin 4} {r r' : Fin 512} (hB : B.val = B'.val) (hr : r.val = r'.val) :
    ((D.sinkWeight B g (Data.headOf r) (Data.rowOf r) : ℝ) : EReal) = (D.sinkWeight B' g (Data.headOf r') (Data.rowOf r') : ℝ) := by
  rw [Fin.ext hB, Fin.ext hr]

theorem out_ix {B B' : Fin 16} {g g' a a' : Fin 4} {i i' : Fin 128} {e e' : Fin 64} (hg : g.val = g'.val) (hB : B.val = B'.val) (ha : a.val = a'.val) (hi : i.val = i'.val) (he : e.val = e'.val) :
    ((outAt q k v w g B 0 a i e : ℝ) : EReal) = (outAt q k v w g' B' 0 a' i' e' : ℝ) := by
  rw [Fin.ext hg, Fin.ext hB, Fin.ext ha, Fin.ext hi, Fin.ext he]

include h

theorem final7 : (dats m 0 c).arrAt 7 (cfgs 0).N = fun i : S4x16x512x256.Idx => ((data q k w v 0).weight (i 1) (i 0) (Data.headOf (i 2)) (Data.rowOf (i 2)) (i 3) : EReal) := by
  refine (dats m 0 c).arrAt_eq_of_covers 7 _ (by decide +kernel) fun t _ y => ?_
  blk_simp
  rw [show (win0_7.blk t).view.emb y = ix4 (group t) (blockAt t (y 1)) (y 2) (y 3) by blk_ext [idx t, group, blockAt]]
  rw [after0_7]
  unfold outsAt0
  rw [iblk0 h, iblk1 h, iblk2 h, iblk3 h, iblk4 h, iblk5 h]
  frame_out
  canon_tiles x h
  · refine (weights_3 v (reads t q k w 3 _ (rows_read t q 3 384 rfl _) (window_read t k 3 256 rfl _)) (later_word t 3 (by decide)) x).trans ?_
    exact weight_ix (by simp [blockAt]; omega) h2.symm h3.symm
  · refine (weights_2 v (reads t q k w 2 _ (rows_read t q 2 256 rfl _) (window_read t k 2 128 rfl _)) (later_word t 2 (by decide)) x).trans ?_
    exact weight_ix (by simp [blockAt]; omega) h2.symm h3.symm
  · refine (weights_1 v (reads t q k w 1 _ (rows_read t q 1 128 rfl _) (window_read t k 1 0 rfl _)) (later_word t 1 (by decide)) x).trans ?_
    exact weight_ix (by simp [blockAt]; omega) h2.symm h3.symm
  · refine (weights_0 v (reads t q k w 0 _ (rows_read t q 0 0 rfl _) (first_window_read t k _)) (first_word t) x).trans ?_
    exact weight_ix (by simp [blockAt]; omega) h2.symm h3.symm

theorem final8 : (dats m 0 c).arrAt 8 (cfgs 0).N = fun i : S4x16x512x128.Idx => ((data q k w v 0).sinkWeight (i 1) (i 0) (Data.headOf (i 2)) (Data.rowOf (i 2)) : EReal) := by
  refine (dats m 0 c).arrAt_eq_of_covers 8 _ (by decide +kernel) fun t _ y => ?_
  blk_simp
  rw [show (win0_8.blk t).view.emb y = ix4 (group t) (blockAt t (y 1)) (y 2) (y 3) by blk_ext [idx t, group, blockAt]]
  rw [after0_8]
  unfold outsAt0
  rw [iblk0 h, iblk1 h, iblk2 h, iblk3 h, iblk4 h, iblk5 h]
  frame_out
  canon_tiles x h
  · refine (sinks_3 v (reads t q k w 3 _ (rows_read t q 3 384 rfl _) (window_read t k 3 256 rfl _)) (later_word t 3 (by decide)) x).trans ?_
    exact sink_ix (by simp [blockAt]; omega) h2.symm
  · refine (sinks_2 v (reads t q k w 2 _ (rows_read t q 2 256 rfl _) (window_read t k 2 128 rfl _)) (later_word t 2 (by decide)) x).trans ?_
    exact sink_ix (by simp [blockAt]; omega) h2.symm
  · refine (sinks_1 v (reads t q k w 1 _ (rows_read t q 1 128 rfl _) (window_read t k 1 0 rfl _)) (later_word t 1 (by decide)) x).trans ?_
    exact sink_ix (by simp [blockAt]; omega) h2.symm
  · refine (sinks_0 v (reads t q k w 0 _ (rows_read t q 0 0 rfl _) (first_window_read t k _)) (first_word t) x).trans ?_
    exact sink_ix (by simp [blockAt]; omega) h2.symm

theorem final6 : (dats m 0 c).arrAt 6 (cfgs 0).N = fun i : S2048x1024.Idx => (outAt q k v w (inGroup (i 1)) (inBlock (i 0)) 0 (inHead (i 1)) (inRow (i 0)) (inLane (i 1)) : EReal) := by
  refine (dats m 0 c).arrAt_eq_of_covers 6 _ (by decide +kernel) fun t _ y => ?_
  blk_simp
  rw [show (win0_6.blk t).view.emb y = ix2 (rowAt t (y 0)) (laneAt t (y 1)) by blk_ext [idx t, rowAt, laneAt]]
  rw [after0_6]
  unfold outsAt0
  rw [iblk0 h, iblk1 h, iblk2 h, iblk3 h, iblk4 h, iblk5 h]
  frame_out
  canon_tiles x h
  · refine (outs_3 v (reads t q k w 3 _ (rows_read t q 3 384 rfl _) (window_read t k 3 256 rfl _)) (window_read t v 3 256 rfl _) (later_word t 3 (by decide)) x).trans ?_
    exact out_ix (by simp [inGroup, laneAt, group]; omega) (by simp [inBlock, rowAt, blockAt]; omega) (by simp [inHead, laneAt]; omega) (by simp [inRow, rowAt]; omega) (by simp [inLane, laneAt, Data.lane64]; omega)
  · refine (outs_2 v (reads t q k w 2 _ (rows_read t q 2 256 rfl _) (window_read t k 2 128 rfl _)) (window_read t v 2 128 rfl _) (later_word t 2 (by decide)) x).trans ?_
    exact out_ix (by simp [inGroup, laneAt, group]; omega) (by simp [inBlock, rowAt, blockAt]; omega) (by simp [inHead, laneAt]; omega) (by simp [inRow, rowAt]; omega) (by simp [inLane, laneAt, Data.lane64]; omega)
  · refine (outs_1 v (reads t q k w 1 _ (rows_read t q 1 128 rfl _) (window_read t k 1 0 rfl _)) (window_read t v 1 0 rfl _) (later_word t 1 (by decide)) x).trans ?_
    exact out_ix (by simp [inGroup, laneAt, group]; omega) (by simp [inBlock, rowAt, blockAt]; omega) (by simp [inHead, laneAt]; omega) (by simp [inRow, rowAt]; omega) (by simp [inLane, laneAt, Data.lane64]; omega)
  · refine (outs_0 v (reads t q k w 0 _ (rows_read t q 0 0 rfl _) (first_window_read t k _)) (first_window_read t v _) (first_word t) x).trans ?_
    exact out_ix (by simp [inGroup, laneAt, group]; omega) (by simp [inBlock, rowAt, blockAt]; omega) (by simp [inHead, laneAt]; omega) (by simp [inRow, rowAt]; omega) (by simp [inLane, laneAt, Data.lane64]; omega)

end Cert.HeadsValue
-- ==== Proof.HeadsRef.lean ====
/- The results of the attention's forward reference, on real arguments. -/
module

public import proofs.«01_k».proof.Proof.HeadsBlock
public import proofs.«01_k».proof.Proof.Gen.RHeadsIdeal.Read

@[expose] public section

set_option maxRecDepth 16384

noncomputable section

open Idealize.ShloMosaic Idealize.ShloMosaic.TcCoe Idealize.SL.Sem

namespace Cert.RHeadsIdeal.Real

open Cert.RHeadsIdeal Cert.RHeadsIdeal.Gen Cert.RHeadsIdeal.Read Cert.Reals Cert.Attn Cert.AttnFwd Cert.HeadsBlock

variable (q : Fin 2048 → Fin 1024 → ℝ) (k v : Fin 2048 → Fin 256 → ℝ) (w : Fin 16 → ℝ)

/-- Its softmax is the one the reference of the backward takes of the same queries and keys. -/
theorem weights : val_main_v72 (F := Ideal) (mat q) (mat k) (vec w) = fun i => ((data q k w v 0).weight (i 0) (i 1) (i 2) (i 3) (i 4) : EReal) :=
  (show _ = Cert.RAttnIdeal.Read.val_main_v98 (F := Ideal) (mat q) (mat k) (vec w) from rfl).trans (AttnFwd.weights q k w v 0)

theorem sinkWeights : val_main_v73 (F := Ideal) (mat q) (mat k) (vec w) = fun i => ((data q k w v 0).sinkWeight (i 0) (i 1) (i 2) (i 3) : EReal) :=
  (show _ = Cert.RAttnIdeal.Read.val_main_v102 (F := Ideal) (mat q) (mat k) (vec w) from rfl).trans (AttnFwd.sinkWeights q k w v 0)

theorem values : val_main_v17 (F := Ideal) (mat v) = fun i => (window v (i 0) (i 1) (i 2) (i 4) : EReal) :=
  (show _ = Cert.RAttnIdeal.Read.val_main_v12 (F := Ideal) (mat v) from rfl).trans (windows v)

theorem weight_at (g : Fin 4) (B : Fin 16) (r : Fin 512) (s : Fin 256) :
    val_main_v83 (F := Ideal) (mat q) (mat k) (vec w) (ix4 g B r s) = ((data q k w v 0).weight B g (Data.headOf r) (Data.rowOf r) s : EReal) := by
  pointwise [val_main_v83, val_main_v77, val_main_v76]
  rw [weights q k v w]
  rfl

theorem sink_at (g : Fin 4) (B : Fin 16) (r : Fin 512) (l : Fin 128) :
    val_main_v84 (F := Ideal) (mat q) (mat k) (vec w) (ix4 g B r l) = ((data q k w v 0).sinkWeight B g (Data.headOf r) (Data.rowOf r) : EReal) := by
  pointwise [val_main_v84, val_main_v80, val_main_v79, val_main_v78]
  rw [sinkWeights q k v w]
  rfl

theorem out_at (r : Fin 2048) (l : Fin 1024) : val_main_v82 (F := Ideal) (mat q) (mat k) (mat v) (vec w) (ix2 r l)
    = (outAt q k v w ⟨l.val / 256, by omega⟩ ⟨r.val / 128, by omega⟩ 0 ⟨l.val % 256 / 64, by omega⟩ ⟨r.val % 128, by omega⟩ ⟨l.val % 64, by omega⟩ : EReal) := by
  pointwise [val_main_v82, val_main_v81, val_main_v75, val_main_v74]
  rw [weights q k v w, values]
  unfold outAt
  refine Eq.trans (Finset.sum_congr rfl fun s _ => ?_) (coe_sum _ _).symm
  have e : (⟨l.val / 64 % 4, Nat.mod_lt _ (by decide)⟩ : Fin 4) = ⟨l.val % 256 / 64, by omega⟩ := Fin.ext (by simp only; omega)
  refine Eq.trans (mul_comm _ _) (Eq.trans ?_ (EReal.coe_mul _ _).symm)
  exact congrArg (fun g => ((((data q k w v 0).weight ⟨r.val / 128, by omega⟩ ⟨l.val / 256, by omega⟩ g ⟨r.val % 128, by omega⟩ s : ℝ) : EReal)
    * ((window v ⟨r.val / 128, by omega⟩ s ⟨l.val / 256, by omega⟩ ⟨l.val % 64, by omega⟩ : ℝ) : EReal))) e

end Cert.RHeadsIdeal.Real
-- ==== Proof.HeadsClaim.lean ====
/- The forward of the attention: the kernel's results are the reference's. -/
module

public import proofs.«01_k».proof.Defs
public import proofs.«01_k».proof.Proof.HeadsValue
public import proofs.«01_k».proof.Proof.HeadsRef
public import proofs.«01_k».proof.Proof.Gen.RHeadsIdeal.Run
public import proofs.«01_k».proof.Proof.Gen.Pre_finite_heads

@[expose] public section

set_option maxRecDepth 16384

noncomputable section

open Idealize.ShloMosaic Idealize.ShloMosaic.TcCoe Idealize.ShloMosaic.Tactic Idealize.SL.Sem

namespace Cert.HeadsClaim

open Cert.KHeadsIdeal Cert.Reals Cert.AttnFwd

theorem reals (m : (ℓ : Loc nD τ sig) → Buf (Elt Ideal) ℓ) (h : Cert.Pre_KHeadsIdeal_finite_heads m) (c : Dev nD) :
    ∃ (q : Fin 2048 → Fin 1024 → ℝ) (k v : Fin 2048 → Fin 256 → ℝ) (w : Fin 16 → ℝ), HeadsPoint.Args m c q k v w := by
  have e := congrFun (h c) (fun a => a.elim0)
  obtain ⟨e, e3⟩ := IntOp.andi_eq_one.1 e
  obtain ⟨e, e2⟩ := IntOp.andi_eq_one.1 e
  obtain ⟨e0, e1⟩ := IntOp.andi_eq_one.1 e
  haveI : Subsingleton Cert.Pre_finite_heads.S_.Idx := ⟨fun a b => funext fun i => i.elim0⟩
  obtain ⟨q, hq⟩ := reals_of_finite e0 fun _ => rfl
  obtain ⟨k, hk⟩ := reals_of_finite e1 fun _ => rfl
  obtain ⟨v, hv⟩ := reals_of_finite e2 fun _ => rfl
  obtain ⟨w, hw⟩ := reals_of_finite e3 fun _ => rfl
  exact ⟨fun r l => q (ix2 r l), fun r l => k (ix2 r l), fun r l => v (ix2 r l), fun g => w (ix1 g), hq.trans (funext fun i => by idx_vars i; rfl),
    hk.trans (funext fun i => by idx_vars i; rfl), hv.trans (funext fun i => by idx_vars i; rfl), hw.trans (funext fun i => by idx_vars i; rfl)⟩

theorem frame_reference : Cert.quiescent_RHeadsIdeal := fun m ρ _ =>
  (θ_run _ _ _).mono (fun r h => ⟨fun c => (h c).2.2.2, sem_eq_zero_of_no_sems (by decide) r.2⟩) (Cert.RHeadsIdeal.Value.run m ρ)

set_option maxHeartbeats 4000000 in
theorem algebraic : Cert.algebraic_KHeadsIdeal_RHeadsIdeal_pre_finite_heads := by
  pair_intro
  · run_from Cert.KHeadsIdeal.Gen.run_main m g
  · run_from Cert.RHeadsIdeal.Value.run m' g'
    all_goals obtain ⟨q, k, v, w, h⟩ := reals m hpre c
    · refine (Cert.RHeadsIdeal.Read.val_main_v82_eq _ _).trans ?_
      rw [HeadsValue.final6 h, (hagree c).1, (hagree c).2.1, (hagree c).2.2.1, (hagree c).2.2.2, h.q, h.k, h.v, h.w]
      funext i
      idx_vars i
      exact Cert.RHeadsIdeal.Real.out_at q k v w i0 i1
    · refine (Cert.RHeadsIdeal.Read.val_main_v83_eq _ _).trans ?_
      rw [HeadsValue.final7 h, (hagree c).1, (hagree c).2.1, (hagree c).2.2.2, h.q, h.k, h.w]
      funext i
      idx_vars i
      exact Cert.RHeadsIdeal.Real.weight_at q k v w i0 i1 i2 i3
    · refine (Cert.RHeadsIdeal.Read.val_main_v84_eq _ _).trans ?_
      rw [HeadsValue.final8 h, (hagree c).1, (hagree c).2.1, (hagree c).2.2.2, h.q, h.k, h.w]
      funext i
      idx_vars i
      exact Cert.RHeadsIdeal.Real.sink_at q k v w i0 i1 i2 i3

end Cert.HeadsClaim

end
-- ==== Proof.MlpRun.lean ====
module

public import proofs.«01_k».proof.Proof.Gen.KMlpIdeal.Frame
public import proofs.«01_k».proof.Proof.Gen.KMlpIdeal.Skeleton
public import Idealize.ShloMosaic.Lib.Pipeline.ValueKit

@[expose] public section

set_option maxRecDepth 65536

noncomputable section

namespace Cert.KMlpIdeal.Body

open Cert.KMlpIdeal Cert.KMlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole buffer holding `y` is what one store of `y` leaves. -/
theorem refill {s : Shape} {e : EltTy} (M : Memref sig .tc .vmem s e) (hM : M.IsWhole) (y : Vec F s e) {off : Fin s.rank → ℕ}
    (inb : ∀ a, off a + s.size a ≤ s.size a) (h : ∀ a, off a = 0) :
    hM.unread y = M.view.writes (Elt F) M.view.junk [⟨Rect.unit off s.size inb, y⟩] := by
  refine (hM.eq_unread ?_).symm
  rw [View.read_writes_eq_canon _ _ _ fun i => ⟨_, List.mem_cons_self, ?_⟩]
  · exact View.canon_cons_unit_lit inb y [] h
  · exact (Rect.unit off s.size inb).mem_set.mpr fun a => ⟨i a, (i a).isLt, by simp [Rect.unit, h]⟩

/-- The condition of the first branch: the grid coordinate is zero. -/
abbrev cond1 (i : grid0.Coords) : Prop :=
  (Scalar.cmpi .ne (Scalar.extui (Scalar.cmpi .eq (BitVec.ofNat 32 (i 0).val) 0#32)) 0#32) = 1#1

theorem cond1_iff : ∀ t : Fin cfg0.N, cond1 (grid0.coords t) ↔ t.val = 0 := by decide +kernel
theorem cond2_iff : ∀ t : Fin cfg0.N, k0_cond2 (grid0.coords t) = 1#1 ↔ t.val < 8 := by decide +kernel
theorem cond3_iff : ∀ t : Fin cfg0.N, k0_cond3 (grid0.coords t) = 1#1 ↔ 8 ≤ t.val := by decide +kernel
theorem cond4_iff : ∀ t : Fin cfg0.N, k0_cond4 (grid0.coords t) = 1#1 ↔ t.val = 8 := by decide +kernel

set_option maxHeartbeats 4000000 in
/-- At the first point: the sum over the slices is set to zero, then the first slice adds its part. The pieces each output is left with are found by the run. -/
noncomputable def runA (c : Dev nD) (i : grid0.Coords) (arg1 : Memref sig .tc .vmem S512x1024 .f32) (harg1 : arg1.IsWhole) (arg2 : Memref sig .tc .vmem S2048x1024 .bf16) (harg2 : arg2.IsWhole) (arg3 : Memref sig .tc .vmem S2048x512 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S2048x1024 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S512x1024 .f32) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S8x1024 .f32) (harg12 : arg12.IsWhole) (arg13 : Memref sig .tc .vmem S2048x1024 .f32) (harg13 : arg13.IsWhole) (arg14 : Memref sig .tc .vmem S2048x512 .bf16) (harg14 : arg14.IsWhole)
    (hc1 : cond1 i) (hc2 : k0_cond2 i = 1#1) (hc3 : ¬k0_cond3 i = 1#1) (x2 : Vec F S2048x1024 .bf16) (x3 : Vec F S2048x512 .bf16) (x6 : Vec F S2048x1024 .bf16) (x7 : Vec F S1x1024x512 .bf16) (x8 : Vec F S1x512x1024 .bf16)  :
    Σ' (L10 : List (View.Piece (Elt F) S1x1024x512 .bf16)), Σ' (L11 : List (View.Piece (Elt F) S1x512x1024 .bf16)), Σ' (L13 : List (View.Piece (Elt F) S2048x1024 .f32)), { L14 : List (View.Piece (Elt F) S2048x512 .bf16) //
      ∀ (E : Set ℕ) (K : PUnit → sProp 𝕄),
        iprop(owns (c : Thread nD τ) arg2 fullShare x2 ∗ owns (c : Thread nD τ) arg3 fullShare x3 ∗ owns (c : Thread nD τ) arg6 fullShare x6 ∗ owns (c : Thread nD τ) arg7 fullShare x7 ∗ owns (c : Thread nD τ) arg8 fullShare x8 ∗ (∃ d, owns (c : Thread nD τ) arg10 fullShare d) ∗ (∃ d, owns (c : Thread nD τ) arg11 fullShare d) ∗ (∃ d, owns (c : Thread nD τ) arg13 fullShare d) ∗ (∃ d, owns (c : Thread nD τ) arg14 fullShare d)
            ∗ (iprop(owns (c : Thread nD τ) arg2 fullShare x2 ∗ owns (c : Thread nD τ) arg3 fullShare x3 ∗ owns (c : Thread nD τ) arg6 fullShare x6 ∗ owns (c : Thread nD τ) arg7 fullShare x7 ∗ owns (c : Thread nD τ) arg8 fullShare x8 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14)) -∗ K ⟨⟩))
          ⊢ wp frame (wpE (defs₀ (F := F)) Variants.none c none) E (cc0_mlp_bwd0 i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_mlp_bwd0_eq_skeleton]; unfold cc0_mlp_bwd0_skel
    simp only [k0_part1_eq_skeleton, k0_part2_eq_skeleton, k0_part3_eq_skeleton, k0_part4_eq_skeleton]
    unfold owns
    iintro ⟨⟨%f2, %hf2, H2⟩, ⟨%f3, %hf3, H3⟩, ⟨%f6, %hf6, H6⟩, ⟨%f7, %hf7, H7⟩, ⟨%f8, %hf8, H8⟩, ⟨%d10, %f10, -, H10⟩, ⟨%d11, %f11, -, H11⟩, ⟨%d13, %f13, -, H13⟩, ⟨%d14, %f14, -, H14⟩, Hk⟩
    obtain rfl := harg2.eq_unread hf2
    obtain rfl := harg3.eq_unread hf3
    obtain rfl := harg6.eq_unread hf6
    obtain rfl := harg7.eq_unread hf7
    obtain rfl := harg8.eq_unread hf8
    sl_exec (disch := first | sl_exact hc1 | sl_exact hc2 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H10]; · iexists _; iexact H10
    isplitl [H11]; · iexists _; iexact H11
    isplitl [H13]; · iexists _; iexact H13
    iexists _; iexact H14

set_option maxHeartbeats 4000000 in
/-- At a later slice: the sum holds what the slice before left. The pieces each output is left with are found by the run. -/
noncomputable def runB (c : Dev nD) (i : grid0.Coords) (arg1 : Memref sig .tc .vmem S512x1024 .f32) (harg1 : arg1.IsWhole) (arg2 : Memref sig .tc .vmem S2048x1024 .bf16) (harg2 : arg2.IsWhole) (arg3 : Memref sig .tc .vmem S2048x512 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S2048x1024 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S512x1024 .f32) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S8x1024 .f32) (harg12 : arg12.IsWhole) (arg13 : Memref sig .tc .vmem S2048x1024 .f32) (harg13 : arg13.IsWhole) (arg14 : Memref sig .tc .vmem S2048x512 .bf16) (harg14 : arg14.IsWhole)
    (hc1 : ¬cond1 i) (hc2 : k0_cond2 i = 1#1) (hc3 : ¬k0_cond3 i = 1#1) (x2 : Vec F S2048x1024 .bf16) (x3 : Vec F S2048x512 .bf16) (x6 : Vec F S2048x1024 .bf16) (x7 : Vec F S1x1024x512 .bf16) (x8 : Vec F S1x512x1024 .bf16) (y13 : Vec F S2048x1024 .f32) :
    Σ' (L10 : List (View.Piece (Elt F) S1x1024x512 .bf16)), Σ' (L11 : List (View.Piece (Elt F) S1x512x1024 .bf16)), Σ' (L13 : List (View.Piece (Elt F) S2048x1024 .f32)), { L14 : List (View.Piece (Elt F) S2048x512 .bf16) //
      ∀ (E : Set ℕ) (K : PUnit → sProp 𝕄),
        iprop(owns (c : Thread nD τ) arg2 fullShare x2 ∗ owns (c : Thread nD τ) arg3 fullShare x3 ∗ owns (c : Thread nD τ) arg6 fullShare x6 ∗ owns (c : Thread nD τ) arg7 fullShare x7 ∗ owns (c : Thread nD τ) arg8 fullShare x8 ∗ (∃ d, owns (c : Thread nD τ) arg10 fullShare d) ∗ (∃ d, owns (c : Thread nD τ) arg11 fullShare d) ∗ owns (c : Thread nD τ) arg13 fullShare y13 ∗ (∃ d, owns (c : Thread nD τ) arg14 fullShare d)
            ∗ (iprop(owns (c : Thread nD τ) arg2 fullShare x2 ∗ owns (c : Thread nD τ) arg3 fullShare x3 ∗ owns (c : Thread nD τ) arg6 fullShare x6 ∗ owns (c : Thread nD τ) arg7 fullShare x7 ∗ owns (c : Thread nD τ) arg8 fullShare x8 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14)) -∗ K ⟨⟩))
          ⊢ wp frame (wpE (defs₀ (F := F)) Variants.none c none) E (cc0_mlp_bwd0 i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_mlp_bwd0_eq_skeleton]; unfold cc0_mlp_bwd0_skel
    simp only [k0_part1_eq_skeleton, k0_part2_eq_skeleton, k0_part3_eq_skeleton, k0_part4_eq_skeleton]
    unfold owns
    iintro ⟨⟨%f2, %hf2, H2⟩, ⟨%f3, %hf3, H3⟩, ⟨%f6, %hf6, H6⟩, ⟨%f7, %hf7, H7⟩, ⟨%f8, %hf8, H8⟩, ⟨%d10, %f10, -, H10⟩, ⟨%d11, %f11, -, H11⟩, ⟨%f13, %hf13, H13⟩, ⟨%d14, %f14, -, H14⟩, Hk⟩
    obtain rfl := harg2.eq_unread hf2
    obtain rfl := harg3.eq_unread hf3
    obtain rfl := harg6.eq_unread hf6
    obtain rfl := harg7.eq_unread hf7
    obtain rfl := harg8.eq_unread hf8
    obtain rfl := harg13.eq_unread hf13
    rw [refill arg13 harg13 y13 inb_S2048x1024_S2048x1024_0_0 (by decide)]
    sl_exec (disch := first | sl_exact hc1 | sl_exact hc2 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H10]; · iexists _; iexact H10
    isplitl [H11]; · iexists _; iexact H11
    isplitl [H13]; · iexists _; iexact H13
    iexists _; iexact H14

set_option maxHeartbeats 4000000 in
/-- At the first tile of rows: the scale's sum is set to zero, then the tile adds its part. The pieces each output is left with are found by the run. -/
noncomputable def runC (c : Dev nD) (i : grid0.Coords) (arg1 : Memref sig .tc .vmem S512x1024 .f32) (harg1 : arg1.IsWhole) (arg2 : Memref sig .tc .vmem S2048x1024 .bf16) (harg2 : arg2.IsWhole) (arg3 : Memref sig .tc .vmem S2048x512 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S2048x1024 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S512x1024 .f32) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S8x1024 .f32) (harg12 : arg12.IsWhole) (arg13 : Memref sig .tc .vmem S2048x1024 .f32) (harg13 : arg13.IsWhole) (arg14 : Memref sig .tc .vmem S2048x512 .bf16) (harg14 : arg14.IsWhole)
    (hc1 : ¬cond1 i) (hc2 : ¬k0_cond2 i = 1#1) (hc3 : k0_cond3 i = 1#1) (hc4 : k0_cond4 i = 1#1) (x1 : Vec F S512x1024 .f32) (x4 : Vec F S1x1024 .f32) (x5 : Vec F S512x1024 .f32) (x13 : Vec F S2048x1024 .f32)  :
    Σ' (L9 : List (View.Piece (Elt F) S512x1024 .f32)), { L12 : List (View.Piece (Elt F) S8x1024 .f32) //
      ∀ (E : Set ℕ) (K : PUnit → sProp 𝕄),
        iprop(owns (c : Thread nD τ) arg1 fullShare x1 ∗ owns (c : Thread nD τ) arg4 fullShare x4 ∗ owns (c : Thread nD τ) arg5 fullShare x5 ∗ owns (c : Thread nD τ) arg13 fullShare x13 ∗ (∃ d, owns (c : Thread nD τ) arg9 fullShare d) ∗ (∃ d, owns (c : Thread nD τ) arg12 fullShare d)
            ∗ (iprop(owns (c : Thread nD τ) arg1 fullShare x1 ∗ owns (c : Thread nD τ) arg4 fullShare x4 ∗ owns (c : Thread nD τ) arg5 fullShare x5 ∗ owns (c : Thread nD τ) arg13 fullShare x13 ∗ (∃ f, arg9.view.loc (c : Thread nD τ) ↦[arg9.view.set]{fullShare} arg9.view.writes (Elt F) f L9) ∗ (∃ f, arg12.view.loc (c : Thread nD τ) ↦[arg12.view.set]{fullShare} arg12.view.writes (Elt F) f L12)) -∗ K ⟨⟩))
          ⊢ wp frame (wpE (defs₀ (F := F)) Variants.none c none) E (cc0_mlp_bwd0 i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0_mlp_bwd0_eq_skeleton]; unfold cc0_mlp_bwd0_skel
    simp only [k0_part1_eq_skeleton, k0_part2_eq_skeleton, k0_part3_eq_skeleton, k0_part4_eq_skeleton]
    unfold owns
    iintro ⟨⟨%f1, %hf1, H1⟩, ⟨%f4, %hf4, H4⟩, ⟨%f5, %hf5, H5⟩, ⟨%f13, %hf13, H13⟩, ⟨%d9, %f9, -, H9⟩, ⟨%d12, %f12, -, H12⟩, Hk⟩
    obtain rfl := harg1.eq_unread hf1
    obtain rfl := harg4.eq_unread hf4
    obtain rfl := harg5.eq_unread hf5
    obtain rfl := harg13.eq_unread hf13
    sl_exec (disch := first | sl_exact hc1 | sl_exact hc2 | sl_exact hc3 | sl_exact hc4)
    sl_step
    iapply Hk
    isplitl [H1]
    · iexists _; isplitr; · ipureintro; exact harg1.read_unread _
      iexact H1
    isplitl [H4]
    · iexists _; isplitr; · ipureintro; exact harg4.read_unread _
      iexact H4
    isplitl [H5]
    · iexists _; isplitr; · ipureintro; exact harg5.read_unread _
      iexact H5
    isplitl [H13]
    · iexists _; isplitr; · ipureintro; exact harg13.read_unread _
      iexact H13
    isplitl [H9]; · iexists _; iexact H9
    iexists _; iexact H12

set_option maxHeartbeats 4000000 in
/-- At a later tile of rows: the scale's sum holds what the tile before left. The pieces each output is left with are found by the run. -/
noncomputable def runD (c : Dev nD) (i : grid0.Coords) (arg1 : Memref sig .tc .vmem S512x1024 .f32) (harg1 : arg1.IsWhole) (arg2 : Memref sig .tc .vmem S2048x1024 .bf16) (harg2 : arg2.IsWhole) (arg3 : Memref sig .tc .vmem S2048x512 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S2048x1024 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S512x1024 .f32) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S8x1024 .f32) (harg12 : arg12.IsWhole) (arg13 : Memref sig .tc .vmem S2048x1024 .f32) (harg13 : arg13.IsWhole) (arg14 : Memref sig .tc .vmem S2048x512 .bf16) (harg14 : arg14.IsWhole)
    (hc1 : ¬cond1 i) (hc2 : ¬k0_cond2 i = 1#1) (hc3 : k0_cond3 i = 1#1) (hc4 : ¬k0_cond4 i = 1#1) (x1 : Vec F S512x1024 .f32) (x4 : Vec F S1x1024 .f32) (x5 : Vec F S512x1024 .f32) (x13 : Vec F S2048x1024 .f32) (y12 : Vec F S8x1024 .f32) :
    Σ' (L9 : List (View.Piece (Elt F) S512x1024 .f32)), { L12 : List (View.Piece (Elt F) S8x1024 .f32) //
      ∀ (E : Set ℕ) (K : PUnit → sProp 𝕄),
        iprop(owns (c : Thread nD τ) arg1 fullShare x1 ∗ owns (c : Thread nD τ) arg4 fullShare x4 ∗ owns (c : Thread nD τ) arg5 fullShare x5 ∗ owns (c : Thread nD τ) arg13 fullShare x13 ∗ (∃ d, owns (c : Thread nD τ) arg9 fullShare d) ∗ owns (c : Thread nD τ) arg12 fullShare y12
            ∗ (iprop(owns (c : Thread nD τ) arg1 fullShare x1 ∗ owns (c : Thread nD τ) arg4 fullShare x4 ∗ owns (c : Thread nD τ) arg5 fullShare x5 ∗ owns (c : Thread nD τ) arg13 fullShare x13 ∗ (∃ f, arg9.view.loc (c : Thread nD τ) ↦[arg9.view.set]{fullShare} arg9.view.writes (Elt F) f L9) ∗ (∃ f, arg12.view.loc (c : Thread nD τ) ↦[arg12.view.set]{fullShare} arg12.view.writes (Elt F) f L12)) -∗ K ⟨⟩))
          ⊢ wp frame (wpE (defs₀ (F := F)) Variants.none c none) E (cc0_mlp_bwd0 i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0_mlp_bwd0_eq_skeleton]; unfold cc0_mlp_bwd0_skel
    simp only [k0_part1_eq_skeleton, k0_part2_eq_skeleton, k0_part3_eq_skeleton, k0_part4_eq_skeleton]
    unfold owns
    iintro ⟨⟨%f1, %hf1, H1⟩, ⟨%f4, %hf4, H4⟩, ⟨%f5, %hf5, H5⟩, ⟨%f13, %hf13, H13⟩, ⟨%d9, %f9, -, H9⟩, ⟨%f12, %hf12, H12⟩, Hk⟩
    obtain rfl := harg1.eq_unread hf1
    obtain rfl := harg4.eq_unread hf4
    obtain rfl := harg5.eq_unread hf5
    obtain rfl := harg13.eq_unread hf13
    obtain rfl := harg12.eq_unread hf12
    rw [refill arg12 harg12 y12 inb_S8x1024_S8x1024_0_0 (by decide)]
    sl_exec (disch := first | sl_exact hc1 | sl_exact hc2 | sl_exact hc3 | sl_exact hc4)
    sl_step
    iapply Hk
    isplitl [H1]
    · iexists _; isplitr; · ipureintro; exact harg1.read_unread _
      iexact H1
    isplitl [H4]
    · iexists _; isplitr; · ipureintro; exact harg4.read_unread _
      iexact H4
    isplitl [H5]
    · iexists _; isplitr; · ipureintro; exact harg5.read_unread _
      iexact H5
    isplitl [H13]
    · iexists _; isplitr; · ipureintro; exact harg13.read_unread _
      iexact H13
    isplitl [H9]; · iexists _; iexact H9
    iexists _; iexact H12

end Cert.KMlpIdeal.Body

end
-- ==== Proof.MlpBody.lean ====
module

public import proofs.«01_k».proof.Proof.MlpRun
public import Idealize.ShloMosaic.Lib.Claim
public import Idealize.ShloMosaic.Lib.Pipeline.TableIdle
public import Idealize.ShloMosaic.Lib.Pipeline.ValueKit

@[expose] public section

set_option maxRecDepth 65536

noncomputable section

namespace Cert.KMlpIdeal.Body

open Cert.KMlpIdeal Cert.KMlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at a point -/

abbrev stg0 (t : Fin cfg0.N) : Memref sig .tc .vmem S512x1024 .f32 := win0_0.stage (cfg0.slots t 0)
theorem whole0 (t : Fin cfg0.N) : (stg0 t).IsWhole := hstage0_0 ((cfg0.slots t 0).cast nbuf0_0)
abbrev stg1 (t : Fin cfg0.N) : Memref sig .tc .vmem S2048x1024 .bf16 := win0_1.stage (cfg0.slots t 1)
theorem whole1 (t : Fin cfg0.N) : (stg1 t).IsWhole := hstage0_1 ((cfg0.slots t 1).cast nbuf0_1)
abbrev stg2 (t : Fin cfg0.N) : Memref sig .tc .vmem S2048x512 .bf16 := win0_2.stage (cfg0.slots t 2)
theorem whole2 (t : Fin cfg0.N) : (stg2 t).IsWhole := hstage0_2 ((cfg0.slots t 2).cast nbuf0_2)
abbrev stg3 (t : Fin cfg0.N) : Memref sig .tc .vmem S1x1024 .f32 := win0_3.stage (cfg0.slots t 3)
theorem whole3 (t : Fin cfg0.N) : (stg3 t).IsWhole := hstage0_3 ((cfg0.slots t 3).cast nbuf0_3)
abbrev stg4 (t : Fin cfg0.N) : Memref sig .tc .vmem S512x1024 .f32 := win0_4.stage (cfg0.slots t 4)
theorem whole4 (t : Fin cfg0.N) : (stg4 t).IsWhole := hstage0_4 ((cfg0.slots t 4).cast nbuf0_4)
abbrev stg5 (t : Fin cfg0.N) : Memref sig .tc .vmem S2048x1024 .bf16 := win0_5.stage (cfg0.slots t 5)
theorem whole5 (t : Fin cfg0.N) : (stg5 t).IsWhole := hstage0_5 ((cfg0.slots t 5).cast nbuf0_5)
abbrev stg6 (t : Fin cfg0.N) : Memref sig .tc .vmem S1x1024x512 .bf16 := win0_6.stage (cfg0.slots t 6)
theorem whole6 (t : Fin cfg0.N) : (stg6 t).IsWhole := hstage0_6 ((cfg0.slots t 6).cast nbuf0_6)
abbrev stg7 (t : Fin cfg0.N) : Memref sig .tc .vmem S1x512x1024 .bf16 := win0_7.stage (cfg0.slots t 7)
theorem whole7 (t : Fin cfg0.N) : (stg7 t).IsWhole := hstage0_7 ((cfg0.slots t 7).cast nbuf0_7)
abbrev stg8 (t : Fin cfg0.N) : Memref sig .tc .vmem S512x1024 .f32 := win0_8.stage (cfg0.slots t 8)
theorem whole8 (t : Fin cfg0.N) : (stg8 t).IsWhole := hstage0_8 ((cfg0.slots t 8).cast nbuf0_8)
abbrev stg9 (t : Fin cfg0.N) : Memref sig .tc .vmem S1x1024x512 .bf16 := win0_9.stage (cfg0.slots t 9)
theorem whole9 (t : Fin cfg0.N) : (stg9 t).IsWhole := hstage0_9 ((cfg0.slots t 9).cast nbuf0_9)
abbrev stg10 (t : Fin cfg0.N) : Memref sig .tc .vmem S1x512x1024 .bf16 := win0_10.stage (cfg0.slots t 10)
theorem whole10 (t : Fin cfg0.N) : (stg10 t).IsWhole := hstage0_10 ((cfg0.slots t 10).cast nbuf0_10)
abbrev stg11 (t : Fin cfg0.N) : Memref sig .tc .vmem S8x1024 .f32 := win0_11.stage (cfg0.slots t 11)
theorem whole11 (t : Fin cfg0.N) : (stg11 t).IsWhole := hstage0_11 ((cfg0.slots t 11).cast nbuf0_11)
abbrev sums : Memref sig .tc .vmem S2048x1024 .f32 := Memref.whole cc0_scratch0
abbrev slices : Memref sig .tc .vmem S2048x512 .bf16 := Memref.whole cc0_scratch1

/-- What the launch hands the region: the two scratch buffers at anything, and the generator's register. -/
theorem rest_eq (c : Dev nD) :
    (Pipeline.ΦA spec0 c : sProp 𝕄)
      = iprop(iprop((∃ d, owns (c : Thread nD τ) sums fullShare d) ∗ (∃ d, owns (c : Thread nD τ) slices fullShare d)) ∗ (∃ r, prngReg c r)) := by
  unfold Pipeline.ΦA; rw [scopedRest0_eq]; simp only [sums, slices, owns_whole]; try rfl

/-! ## What a point leaves in the outputs and in the carried sum -/

/-- The run of the body at the first point, at its buffers and blocks. -/
abbrev ranA (c : Dev nD) (t : Fin cfg0.N) (h : t.val = 0) :=
  runA (F := F) c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (stg9 t) (whole9 t) (stg10 t) (whole10 t) (stg11 t) (whole11 t) sums (Memref.isWhole_whole _) slices (Memref.isWhole_whole _)
    ((cond1_iff t).mpr (by omega)) ((cond2_iff t).mpr (by omega)) (fun e => by have := (cond3_iff t).mp e; omega)
    (iblk m c 1 t) (iblk m c 2 t) (iblk m c 5 t) (iblk m c 6 t) (iblk m c 7 t)

/-- The run of the body at a later slice, at its buffers and blocks. -/
abbrev ranB (c : Dev nD) (t : Fin cfg0.N) (h : 0 < t.val ∧ t.val < 8) (y13 : Vec F S2048x1024 .f32) :=
  runB (F := F) c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (stg9 t) (whole9 t) (stg10 t) (whole10 t) (stg11 t) (whole11 t) sums (Memref.isWhole_whole _) slices (Memref.isWhole_whole _)
    (fun e => by have := (cond1_iff t).mp e; omega) ((cond2_iff t).mpr (by omega)) (fun e => by have := (cond3_iff t).mp e; omega)
    (iblk m c 1 t) (iblk m c 2 t) (iblk m c 5 t) (iblk m c 6 t) (iblk m c 7 t) y13

/-- The run of the body at the first tile of rows, at its buffers and blocks. -/
abbrev ranC (c : Dev nD) (t : Fin cfg0.N) (h : t.val = 8) (y13 : Vec F S2048x1024 .f32) :=
  runC (F := F) c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (stg9 t) (whole9 t) (stg10 t) (whole10 t) (stg11 t) (whole11 t) sums (Memref.isWhole_whole _) slices (Memref.isWhole_whole _)
    (fun e => by have := (cond1_iff t).mp e; omega) (fun e => by have := (cond2_iff t).mp e; omega) ((cond3_iff t).mpr (by omega)) ((cond4_iff t).mpr (by omega))
    (iblk m c 0 t) (iblk m c 3 t) (iblk m c 4 t) y13

/-- The run of the body at a later tile of rows, at its buffers and blocks. -/
abbrev ranD (c : Dev nD) (t : Fin cfg0.N) (h : 8 < t.val) (y13 : Vec F S2048x1024 .f32) (y12 : Vec F S8x1024 .f32) :=
  runD (F := F) c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (stg9 t) (whole9 t) (stg10 t) (whole10 t) (stg11 t) (whole11 t) sums (Memref.isWhole_whole _) slices (Memref.isWhole_whole _)
    (fun e => by have := (cond1_iff t).mp e; omega) (fun e => by have := (cond2_iff t).mp e; omega) ((cond3_iff t).mpr (by omega)) (fun e => by have := (cond4_iff t).mp e; omega)
    (iblk m c 0 t) (iblk m c 3 t) (iblk m c 4 t) y13 y12

/-- The four outputs' contents and the carried sum's. -/
abbrev Outs (F : FTy → Type) [FloatOps F] : Type := Vec F S512x1024 .f32 × Vec F S1x1024x512 .bf16 × Vec F S1x512x1024 .bf16 × Vec F S8x1024 .f32 × Vec F S2048x1024 .f32

/-- What the body leaves at the first point. -/
def leftA (c : Dev nD) (t : Fin cfg0.N) (h : t.val = 0) : Outs F :=
  (View.canon [],
   View.canon ((ranA m c t h).1),
   View.canon ((ranA m c t h).2.1),
   View.canon [],
   View.canon ((ranA m c t h).2.2.1))

/-- What the body leaves at a later slice. -/
def leftB (c : Dev nD) (t : Fin cfg0.N) (h : 0 < t.val ∧ t.val < 8) (y : Outs F) : Outs F :=
  (y.1,
   View.canon ((ranB m c t h y.2.2.2.2).1),
   View.canon ((ranB m c t h y.2.2.2.2).2.1),
   y.2.2.2.1,
   View.canon ((ranB m c t h y.2.2.2.2).2.2.1))

/-- What the body leaves at the first tile of rows. -/
def leftC (c : Dev nD) (t : Fin cfg0.N) (h : t.val = 8) (y : Outs F) : Outs F :=
  (View.canon ((ranC m c t h y.2.2.2.2).1),
   y.2.1,
   y.2.2.1,
   View.canon ((ranC m c t h y.2.2.2.2).2.1),
   y.2.2.2.2)

/-- What the body leaves at a later tile of rows. -/
def leftD (c : Dev nD) (t : Fin cfg0.N) (h : 8 < t.val) (y : Outs F) : Outs F :=
  (View.canon ((ranD m c t h y.2.2.2.2 y.2.2.2.1).1),
   y.2.1,
   y.2.2.1,
   View.canon ((ranD m c t h y.2.2.2.2 y.2.2.2.1).2.1),
   y.2.2.2.2)

/-- What the point at position `n` leaves. -/
def left (c : Dev nD) : (n : ℕ) → n < cfg0.N → Outs F
  | 0, hn => leftA m c ⟨0, hn⟩ rfl
  | n + 1, hn =>
    if h : n + 1 < 8 then leftB m c ⟨n + 1, hn⟩ ⟨Nat.succ_pos n, h⟩ (left c n (Nat.lt_of_succ_lt hn))
    else if h' : n + 1 = 8 then leftC m c ⟨n + 1, hn⟩ h' (left c n (Nat.lt_of_succ_lt hn))
    else leftD m c ⟨n + 1, hn⟩ (show 8 < n + 1 by omega) (left c n (Nat.lt_of_succ_lt hn))

/-- What the point before `t` left. -/
abbrev leftBefore (c : Dev nD) (t : Fin cfg0.N) : Outs F := left m c (t.val - 1) (Nat.lt_of_le_of_lt (Nat.sub_le _ _) t.isLt)

theorem left_A (c : Dev nD) (t : Fin cfg0.N) (h : t.val = 0) : left m c t.val t.isLt = leftA m c t h := by
  obtain ⟨n, hn⟩ := t; dsimp only at h; subst h; rfl
theorem left_B (c : Dev nD) (t : Fin cfg0.N) (h : 0 < t.val ∧ t.val < 8) : left m c t.val t.isLt = leftB m c t h (leftBefore m c t) := by
  obtain ⟨n, hn⟩ := t
  cases n with
  | zero => exact absurd h.1 (lt_irrefl 0)
  | succ n => exact dif_pos h.2
theorem left_C (c : Dev nD) (t : Fin cfg0.N) (h : t.val = 8) : left m c t.val t.isLt = leftC m c t h (leftBefore m c t) := by
  obtain ⟨n, hn⟩ := t
  cases n with
  | zero => exact absurd h (by dsimp only; omega)
  | succ n => exact (dif_neg (show ¬n + 1 < 8 by dsimp only at h; omega)).trans (dif_pos h)
theorem left_D (c : Dev nD) (t : Fin cfg0.N) (h : 8 < t.val) : left m c t.val t.isLt = leftD m c t h (leftBefore m c t) := by
  obtain ⟨n, hn⟩ := t
  cases n with
  | zero => exact absurd h (by dsimp only; omega)
  | succ n => exact (dif_neg (show ¬n + 1 < 8 by dsimp only at h; omega)).trans (dif_neg (show ¬n + 1 = 8 by dsimp only at h; omega))

/-! ## The pieces cover -/

theorem covA10 (c : Dev nD) (t : Fin cfg0.N) (h : t.val = 0) (y : S1x1024x512.Idx) : ∃ p ∈ ((ranA m c t h).1), y ∈ p.1.set :=
  View.cover_of_wholeMem _ (by unfold ranA runA; sl_whole_mem) y
theorem covA11 (c : Dev nD) (t : Fin cfg0.N) (h : t.val = 0) (y : S1x512x1024.Idx) : ∃ p ∈ ((ranA m c t h).2.1), y ∈ p.1.set :=
  View.cover_of_wholeMem _ (by unfold ranA runA; sl_whole_mem) y
theorem covA13 (c : Dev nD) (t : Fin cfg0.N) (h : t.val = 0) (y : S2048x1024.Idx) : ∃ p ∈ ((ranA m c t h).2.2.1), y ∈ p.1.set :=
  View.cover_of_wholeMem _ (by unfold ranA runA; sl_whole_mem) y
theorem covB10 (c : Dev nD) (t : Fin cfg0.N) (h : 0 < t.val ∧ t.val < 8) (y13 : Vec F S2048x1024 .f32) (y : S1x1024x512.Idx) : ∃ p ∈ ((ranB m c t h y13).1), y ∈ p.1.set :=
  View.cover_of_wholeMem _ (by unfold ranB runB; sl_whole_mem) y
theorem covB11 (c : Dev nD) (t : Fin cfg0.N) (h : 0 < t.val ∧ t.val < 8) (y13 : Vec F S2048x1024 .f32) (y : S1x512x1024.Idx) : ∃ p ∈ ((ranB m c t h y13).2.1), y ∈ p.1.set :=
  View.cover_of_wholeMem _ (by unfold ranB runB; sl_whole_mem) y
theorem covB13 (c : Dev nD) (t : Fin cfg0.N) (h : 0 < t.val ∧ t.val < 8) (y13 : Vec F S2048x1024 .f32) (y : S2048x1024.Idx) : ∃ p ∈ ((ranB m c t h y13).2.2.1), y ∈ p.1.set :=
  View.cover_of_tiledL ((ranB m c t h y13).2.2.1) S512x1024.size (by sl_kernel_rfl) y
theorem covC9 (c : Dev nD) (t : Fin cfg0.N) (h : t.val = 8) (y13 : Vec F S2048x1024 .f32) (y : S512x1024.Idx) : ∃ p ∈ ((ranC m c t h y13).1), y ∈ p.1.set :=
  View.cover_of_wholeMem _ (by unfold ranC runC; sl_whole_mem) y
theorem covC12 (c : Dev nD) (t : Fin cfg0.N) (h : t.val = 8) (y13 : Vec F S2048x1024 .f32) (y : S8x1024.Idx) : ∃ p ∈ ((ranC m c t h y13).2.1), y ∈ p.1.set :=
  View.cover_of_wholeMem _ (by unfold ranC runC; sl_whole_mem) y
theorem covD9 (c : Dev nD) (t : Fin cfg0.N) (h : 8 < t.val) (y13 : Vec F S2048x1024 .f32) (y12 : Vec F S8x1024 .f32) (y : S512x1024.Idx) : ∃ p ∈ ((ranD m c t h y13 y12).1), y ∈ p.1.set :=
  View.cover_of_wholeMem _ (by unfold ranD runD; sl_whole_mem) y
theorem covD12 (c : Dev nD) (t : Fin cfg0.N) (h : 8 < t.val) (y13 : Vec F S2048x1024 .f32) (y12 : Vec F S8x1024 .f32) (y : S8x1024.Idx) : ∃ p ∈ ((ranD m c t h y13 y12).2.1), y ∈ p.1.set :=
  View.cover_of_wholeMem _ (by unfold ranD runD; sl_whole_mem) y

/-! ## The pipeline's data -/

/-- Before position `n`: at the start what the launch hands over; then the sum over the slices at what the point before left in it. -/
def held (c : Dev nD) : (n : ℕ) → n ≤ cfg0.N → sProp 𝕄
  | 0, _ => Pipeline.ΦA spec0 c
  | n + 1, hn => iprop(iprop(owns (c : Thread nD τ) sums fullShare (left m c n hn).2.2.2.2 ∗ (∃ d, owns (c : Thread nD τ) slices fullShare d)) ∗ (∃ r, prngReg c r))

theorem held_zero (c : Dev nD) (n : ℕ) (h : n ≤ cfg0.N) (hz : n = 0) : held m c n h = Pipeline.ΦA spec0 c := by
  subst hz; rfl
theorem held_succ (c : Dev nD) (n : ℕ) (hn : n < cfg0.N) :
    held m c (n + 1) hn = iprop(iprop(owns (c : Thread nD τ) sums fullShare (left m c n hn).2.2.2.2 ∗ (∃ d, owns (c : Thread nD τ) slices fullShare d)) ∗ (∃ r, prngReg c r)) := rfl
theorem held_pos (c : Dev nD) (n : ℕ) (h : n ≤ cfg0.N) (hz : n ≠ 0) :
    held m c n h = iprop(iprop(owns (c : Thread nD τ) sums fullShare (left m c (n - 1) (by omega)).2.2.2.2 ∗ (∃ d, owns (c : Thread nD τ) slices fullShare d)) ∗ (∃ r, prngReg c r)) := by
  cases n with
  | zero => exact absurd rfl hz
  | succ n => rfl

/-- On core `c`: the arrays as the region finds them, each input's buffer at its block and the outputs' at `left`; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (left m c t.val t.isLt).1
    | ⟨9, _⟩ => (left m c t.val t.isLt).2.1
    | ⟨10, _⟩ => (left m c t.val t.isLt).2.2.1
    | ⟨11, _⟩ => (left m c t.val t.isLt).2.2.2.1
  Φ t := held m c t.val (Nat.le_of_lt_succ t.isLt)
  q _ := fullShare
  owed _ := 0

theorem A_eq (c : Dev nD) (w : Fin cfg0.W) : (dats m 0 c).A w = V m c (Pipeline.arrRef spec0 w) := by dsimp only [dats]
theorem held_castSucc (c : Dev nD) (t : Fin cfg0.N) : (dats m 0 c).Φ t.castSucc = held m c t.val (Nat.le_of_lt t.isLt) := by
  dsimp only [dats]; exact Pipeline.Dat.Φ_castSucc (held m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = (left m c t.val t.isLt).1 := by dsimp only [dats]
theorem after9 (c : Dev nD) (t : Fin cfg0.N) : (dats m 0 c).after 9 t = (left m c t.val t.isLt).2.1 := by dsimp only [dats]
theorem after10 (c : Dev nD) (t : Fin cfg0.N) : (dats m 0 c).after 10 t = (left m c t.val t.isLt).2.2.1 := by dsimp only [dats]
theorem after11 (c : Dev nD) (t : Fin cfg0.N) : (dats m 0 c).after 11 t = (left m c t.val t.isLt).2.2.2.1 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-! An output's buffer at a point that stores nothing into it, and at one that adds to it. -/

theorem idle8 : ∀ t : Fin cfg0.N, t.val < 8 → cfg0.idle 8 (grid0.coords t) = true := by decide +kernel
theorem live8 : ∀ t : Fin cfg0.N, 8 ≤ t.val → cfg0.idle 8 (grid0.coords t) = false := by decide +kernel
theorem open8 : ∀ t : Fin cfg0.N, t.val < 8 → (cfg0.win 8).flush t = false := by decide +kernel
theorem idle9 : ∀ t : Fin cfg0.N, 8 ≤ t.val → cfg0.idle 9 (grid0.coords t) = true := by decide +kernel
theorem live9 : ∀ t : Fin cfg0.N, t.val < 8 → cfg0.idle 9 (grid0.coords t) = false := by decide +kernel
theorem open9 : ∀ t : Fin cfg0.N, 8 ≤ t.val → t.val < 11 → (cfg0.win 9).flush t = false := by decide +kernel
theorem shut9 : ∀ t : Fin cfg0.N, t.val = 11 → (cfg0.win 9).flush t = true := by decide +kernel
theorem kept9 : ∀ t : Fin cfg0.N, 8 ≤ t.val → cfg0.fresh 9 t.val = false := by decide +kernel
theorem idle10 : ∀ t : Fin cfg0.N, 8 ≤ t.val → cfg0.idle 10 (grid0.coords t) = true := by decide +kernel
theorem live10 : ∀ t : Fin cfg0.N, t.val < 8 → cfg0.idle 10 (grid0.coords t) = false := by decide +kernel
theorem open10 : ∀ t : Fin cfg0.N, 8 ≤ t.val → t.val < 11 → (cfg0.win 10).flush t = false := by decide +kernel
theorem shut10 : ∀ t : Fin cfg0.N, t.val = 11 → (cfg0.win 10).flush t = true := by decide +kernel
theorem kept10 : ∀ t : Fin cfg0.N, 8 ≤ t.val → cfg0.fresh 10 t.val = false := by decide +kernel
theorem idle11 : ∀ t : Fin cfg0.N, t.val < 8 → cfg0.idle 11 (grid0.coords t) = true := by decide +kernel
theorem live11 : ∀ t : Fin cfg0.N, 8 ≤ t.val → cfg0.idle 11 (grid0.coords t) = false := by decide +kernel
theorem open11 : ∀ t : Fin cfg0.N, t.val < 8 → (cfg0.win 11).flush t = false := by decide +kernel
theorem kept11 : ∀ t : Fin cfg0.N, 8 < t.val → cfg0.fresh 11 t.val = false := by decide +kernel

theorem before9 (c : Dev nD) (t : Fin cfg0.N) (h : 8 ≤ t.val) (d) : (dats m 0 c).before 9 t d = (leftBefore m c t).2.1 := by
  rw [Dat.before_out_traj (dats m 0 c) 9 rfl (fun _ _ => rfl) (fun t _ hi _ => ?_) t.val t rfl d, if_neg (by rw [kept9 t h]; exact Bool.false_ne_true), after9]
  rw [after9, after9]
  by_cases h8 : t.val < 8
  · rw [live9 t h8] at hi; exact absurd hi Bool.false_ne_true
  · by_cases h9 : t.val = 8
    · rw [left_C m c t h9]; dsimp only [leftC, leftBefore]
    · rw [left_D m c t (by omega)]; dsimp only [leftD, leftBefore]
theorem before10 (c : Dev nD) (t : Fin cfg0.N) (h : 8 ≤ t.val) (d) : (dats m 0 c).before 10 t d = (leftBefore m c t).2.2.1 := by
  rw [Dat.before_out_traj (dats m 0 c) 10 rfl (fun _ _ => rfl) (fun t _ hi _ => ?_) t.val t rfl d, if_neg (by rw [kept10 t h]; exact Bool.false_ne_true), after10]
  rw [after10, after10]
  by_cases h8 : t.val < 8
  · rw [live10 t h8] at hi; exact absurd hi Bool.false_ne_true
  · by_cases h9 : t.val = 8
    · rw [left_C m c t h9]; dsimp only [leftC, leftBefore]
    · rw [left_D m c t (by omega)]; dsimp only [leftD, leftBefore]
theorem before11 (c : Dev nD) (t : Fin cfg0.N) (h : 8 < t.val) (d) : (dats m 0 c).before 11 t d = (leftBefore m c t).2.2.2.1 := by
  rw [Dat.before_out_traj (dats m 0 c) 11 rfl (fun _ _ => rfl) (fun t hz hi _ => ?_) t.val t rfl d, if_neg (by rw [kept11 t h]; exact Bool.false_ne_true), after11]
  rw [after11, after11]
  by_cases h8 : t.val < 8
  · rw [left_B m c t ⟨by omega, h8⟩]; dsimp only [leftB, leftBefore]
  · rw [live11 t (by omega)] at hi; exact absurd hi Bool.false_ne_true

/-! ## The body at a point -/

/-- What the body is called with. -/
def pre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d)))

/-- What it returns. -/
def post (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ (dats m 0 c).leavesExact 8 t
    ∗ (dats m 0 c).leavesExact 9 t
    ∗ (dats m 0 c).leavesExact 10 t
    ∗ (dats m 0 c).leavesExact 11 t)

/-- A window the point stores into ends at its contents. -/
theorem leaves_live (c : Dev nD) (w : Fin cfg0.W) (t : Fin cfg0.N) (hi : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from hi]
/-- A window written back at a point that stores nothing into it ends at its contents. -/
theorem leaves_shut (c : Dev nD) (w : Fin cfg0.W) (t : Fin cfg0.N) (hi : cfg0.idle w (grid0.coords t) = true) (hf : (cfg0.win w).flush t = true) :
    (dats m 0 c).leavesExact w t = owns (c : Thread nD τ) ((cfg0.win w).stage (cfg0.slots t w)) fullShare ((dats m 0 c).after w t) := by
  unfold Dat.leavesExact; rw [show cfg0.idle w (cfg0.grid.coords t) = true from hi, hf]

set_option maxHeartbeats 1600000 in
theorem soundA (c : Dev nD) (t : Fin cfg0.N) (h : t.val = 0) :
    pre m c t ⊢ wp frame (wpE (defs₀ (F := F)) Variants.none c none) Set.univ (bodyAt0 t) (fun _ => post m c t) := by
  unfold pre post bodyAt0
  simp only [before0, before1, before2, before3, before4, before5, before6, before7]
  rw [show (dats m 0 c).owesAt () t.succ = (dats m 0 c).owesAt () t.castSucc from rfl,
    after0, after1, after2, after3, after4, after5, after6, after7]
  rw [show (dats m 0 c).Φ t.succ = held m c (t.val + 1) t.isLt from rfl, held_succ, held_castSucc]
  rw [held_zero m c _ _ h, rest_eq]
  rw [Dat.leavesExact_idle (dats m 0 c) 8 t (idle8 t (by omega)) (open8 t (by omega))]
  rw [leaves_live m c 9 t (live9 t (by omega)), after9]
  rw [leaves_live m c 10 t (live10 t (by omega)), after10]
  rw [Dat.leavesExact_idle (dats m 0 c) 11 t (idle11 t (by omega)) (open11 t (by omega))]
  rw [left_A m c t h]
  unfold leftA; dsimp only
  iintro ⟨⟨⟨⟨%e13, H13⟩, ⟨%e14, H14⟩⟩, Hg⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((ranA m c t h).2.2.2.2 Set.univ _)
  isplitl [H2]; · iexact H2
  isplitl [H3]; · iexact H3
  isplitl [H6]; · iexact H6
  isplitl [H7]; · iexact H7
  isplitl [H8]; · iexact H8
  isplitl [H10]; · iexists _; iexact H10
  isplitl [H11]; · iexists _; iexact H11
  isplitl [H13]; · iexists _; iexact H13
  isplitl [H14]; · iexists _; iexact H14
  iintro ⟨H2, H3, H6, H7, H8, ⟨%f10, H10⟩, ⟨%f11, H11⟩, ⟨%f13, H13⟩, ⟨%f14, H14⟩⟩
  isplitl [H13 H14 Hg]
  · isplitl [H13 H14]
    · isplitl [H13]
      · unfold owns; iexists _; isplitr
        swap; · iexact H13
        ipureintro; exact View.read_writes_eq_canon _ _ _ (covA13 m c t h)
      iexists _; unfold owns; iexists _; isplitr
      swap; · iexact H14
      ipureintro; rfl
    iexact Hg
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]
  · unfold owns; iexists _; isplitr
    swap; · iexact H10
    ipureintro; exact View.read_writes_eq_canon _ _ _ (covA10 m c t h)
  isplitl [H11]
  · unfold owns; iexists _; isplitr
    swap; · iexact H11
    ipureintro; exact View.read_writes_eq_canon _ _ _ (covA11 m c t h)
  iexists _; iexact H12

set_option maxHeartbeats 1600000 in
theorem soundB (c : Dev nD) (t : Fin cfg0.N) (h : 0 < t.val ∧ t.val < 8) :
    pre m c t ⊢ wp frame (wpE (defs₀ (F := F)) Variants.none c none) Set.univ (bodyAt0 t) (fun _ => post m c t) := by
  unfold pre post bodyAt0
  simp only [before0, before1, before2, before3, before4, before5, before6, before7]
  rw [show (dats m 0 c).owesAt () t.succ = (dats m 0 c).owesAt () t.castSucc from rfl,
    after0, after1, after2, after3, after4, after5, after6, after7]
  rw [show (dats m 0 c).Φ t.succ = held m c (t.val + 1) t.isLt from rfl, held_succ, held_castSucc]
  rw [held_pos m c _ _ (by omega)]
  rw [Dat.leavesExact_idle (dats m 0 c) 8 t (idle8 t (by omega)) (open8 t (by omega))]
  rw [leaves_live m c 9 t (live9 t (by omega)), after9]
  rw [leaves_live m c 10 t (live10 t (by omega)), after10]
  rw [Dat.leavesExact_idle (dats m 0 c) 11 t (idle11 t (by omega)) (open11 t (by omega))]
  rw [left_B m c t h]
  unfold leftB; dsimp only
  iintro ⟨⟨⟨H13, ⟨%e14, H14⟩⟩, Hg⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((ranB m c t h (leftBefore m c t).2.2.2.2).2.2.2.2 Set.univ _)
  isplitl [H2]; · iexact H2
  isplitl [H3]; · iexact H3
  isplitl [H6]; · iexact H6
  isplitl [H7]; · iexact H7
  isplitl [H8]; · iexact H8
  isplitl [H10]; · iexists _; iexact H10
  isplitl [H11]; · iexists _; iexact H11
  isplitl [H13]; · iexact H13
  isplitl [H14]; · iexists _; iexact H14
  iintro ⟨H2, H3, H6, H7, H8, ⟨%f10, H10⟩, ⟨%f11, H11⟩, ⟨%f13, H13⟩, ⟨%f14, H14⟩⟩
  isplitl [H13 H14 Hg]
  · isplitl [H13 H14]
    · isplitl [H13]
      · unfold owns; iexists _; isplitr
        swap; · iexact H13
        ipureintro; exact View.read_writes_eq_canon _ _ _ (covB13 m c t h _)
      iexists _; unfold owns; iexists _; isplitr
      swap; · iexact H14
      ipureintro; rfl
    iexact Hg
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]
  · unfold owns; iexists _; isplitr
    swap; · iexact H10
    ipureintro; exact View.read_writes_eq_canon _ _ _ (covB10 m c t h _)
  isplitl [H11]
  · unfold owns; iexists _; isplitr
    swap; · iexact H11
    ipureintro; exact View.read_writes_eq_canon _ _ _ (covB11 m c t h _)
  iexists _; iexact H12

set_option maxHeartbeats 1600000 in
theorem soundC (c : Dev nD) (t : Fin cfg0.N) (h : t.val = 8) :
    pre m c t ⊢ wp frame (wpE (defs₀ (F := F)) Variants.none c none) Set.univ (bodyAt0 t) (fun _ => post m c t) := by
  unfold pre post bodyAt0
  simp only [before0, before1, before2, before3, before4, before5, before6, before7]
  rw [show (dats m 0 c).owesAt () t.succ = (dats m 0 c).owesAt () t.castSucc from rfl,
    after0, after1, after2, after3, after4, after5, after6, after7]
  rw [show (dats m 0 c).Φ t.succ = held m c (t.val + 1) t.isLt from rfl, held_succ, held_castSucc]
  rw [held_pos m c _ _ (by omega)]
  rw [leaves_live m c 8 t (live8 t (by omega)), after8]
  rw [Dat.leavesExact_idle (dats m 0 c) 9 t (idle9 t (by omega)) (open9 t (by omega) (by omega))]
  rw [Dat.leavesExact_idle (dats m 0 c) 10 t (idle10 t (by omega)) (open10 t (by omega) (by omega))]
  rw [leaves_live m c 11 t (live11 t (by omega)), after11]
  rw [left_C m c t h]
  unfold leftC; dsimp only
  iintro ⟨⟨⟨H13, ⟨%e14, H14⟩⟩, Hg⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((ranC m c t h (leftBefore m c t).2.2.2.2).2.2 Set.univ _)
  isplitl [H1]; · iexact H1
  isplitl [H4]; · iexact H4
  isplitl [H5]; · iexact H5
  isplitl [H13]; · iexact H13
  isplitl [H9]; · iexists _; iexact H9
  isplitl [H12]; · iexists _; iexact H12
  iintro ⟨H1, H4, H5, H13, ⟨%f9, H9⟩, ⟨%f12, H12⟩⟩
  isplitl [H13 H14 Hg]
  · isplitl [H13 H14]
    · isplitl [H13]
      · iexact H13
      iexists _; iexact H14
    iexact Hg
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_eq_canon _ _ _ (covC9 m c t h _)
  isplitl [H10]; · iexists _; iexact H10
  isplitl [H11]; · iexists _; iexact H11
  unfold owns; iexists _; isplitr
  swap; · iexact H12
  ipureintro; exact View.read_writes_eq_canon _ _ _ (covC12 m c t h _)

set_option maxHeartbeats 1600000 in
theorem soundDLast (c : Dev nD) (t : Fin cfg0.N) (h : 8 < t.val) (hl : t.val = 11) :
    pre m c t ⊢ wp frame (wpE (defs₀ (F := F)) Variants.none c none) Set.univ (bodyAt0 t) (fun _ => post m c t) := by
  unfold pre post bodyAt0
  simp only [before0, before1, before2, before3, before4, before5, before6, before7]
  rw [show (dats m 0 c).owesAt () t.succ = (dats m 0 c).owesAt () t.castSucc from rfl,
    after0, after1, after2, after3, after4, after5, after6, after7]
  rw [show (dats m 0 c).Φ t.succ = held m c (t.val + 1) t.isLt from rfl, held_succ, held_castSucc]
  rw [held_pos m c _ _ (by omega)]
  rw [leaves_live m c 8 t (live8 t (by omega)), after8]
  rw [leaves_shut m c 9 t (idle9 t (by omega)) (shut9 t hl), after9]
  rw [leaves_shut m c 10 t (idle10 t (by omega)) (shut10 t hl), after10]
  rw [leaves_live m c 11 t (live11 t (by omega)), after11]
  rw [left_D m c t h]
  simp only [before11 m c t h, before9 m c t (by omega), before10 m c t (by omega)]
  unfold leftD; dsimp only
  iintro ⟨⟨⟨H13, ⟨%e14, H14⟩⟩, Hg⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((ranD m c t h (leftBefore m c t).2.2.2.2 (leftBefore m c t).2.2.2.1).2.2 Set.univ _)
  isplitl [H1]; · iexact H1
  isplitl [H4]; · iexact H4
  isplitl [H5]; · iexact H5
  isplitl [H13]; · iexact H13
  isplitl [H9]; · iexists _; iexact H9
  isplitl [H12]; · iexact H12
  iintro ⟨H1, H4, H5, H13, ⟨%f9, H9⟩, ⟨%f12, H12⟩⟩
  isplitl [H13 H14 Hg]
  · isplitl [H13 H14]
    · isplitl [H13]
      · iexact H13
      iexists _; iexact H14
    iexact Hg
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_eq_canon _ _ _ (covD9 m c t h _ _)
  isplitl [H10]; · iexact H10
  isplitl [H11]; · iexact H11
  unfold owns; iexists _; isplitr
  swap; · iexact H12
  ipureintro; exact View.read_writes_eq_canon _ _ _ (covD12 m c t h _ _)

set_option maxHeartbeats 1600000 in
theorem soundDMid (c : Dev nD) (t : Fin cfg0.N) (h : 8 < t.val) (hl : t.val < 11) :
    pre m c t ⊢ wp frame (wpE (defs₀ (F := F)) Variants.none c none) Set.univ (bodyAt0 t) (fun _ => post m c t) := by
  unfold pre post bodyAt0
  simp only [before0, before1, before2, before3, before4, before5, before6, before7]
  rw [show (dats m 0 c).owesAt () t.succ = (dats m 0 c).owesAt () t.castSucc from rfl,
    after0, after1, after2, after3, after4, after5, after6, after7]
  rw [show (dats m 0 c).Φ t.succ = held m c (t.val + 1) t.isLt from rfl, held_succ, held_castSucc]
  rw [held_pos m c _ _ (by omega)]
  rw [leaves_live m c 8 t (live8 t (by omega)), after8]
  rw [Dat.leavesExact_idle (dats m 0 c) 9 t (idle9 t (by omega)) (open9 t (by omega) (by omega))]
  rw [Dat.leavesExact_idle (dats m 0 c) 10 t (idle10 t (by omega)) (open10 t (by omega) (by omega))]
  rw [leaves_live m c 11 t (live11 t (by omega)), after11]
  rw [left_D m c t h]
  simp only [before11 m c t h]
  unfold leftD; dsimp only
  iintro ⟨⟨⟨H13, ⟨%e14, H14⟩⟩, Hg⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((ranD m c t h (leftBefore m c t).2.2.2.2 (leftBefore m c t).2.2.2.1).2.2 Set.univ _)
  isplitl [H1]; · iexact H1
  isplitl [H4]; · iexact H4
  isplitl [H5]; · iexact H5
  isplitl [H13]; · iexact H13
  isplitl [H9]; · iexists _; iexact H9
  isplitl [H12]; · iexact H12
  iintro ⟨H1, H4, H5, H13, ⟨%f9, H9⟩, ⟨%f12, H12⟩⟩
  isplitl [H13 H14 Hg]
  · isplitl [H13 H14]
    · isplitl [H13]
      · iexact H13
      iexists _; iexact H14
    iexact Hg
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_eq_canon _ _ _ (covD9 m c t h _ _)
  isplitl [H10]; · iexists _; iexact H10
  isplitl [H11]; · iexists _; iexact H11
  unfold owns; iexists _; isplitr
  swap; · iexact H12
  ipureintro; exact View.read_writes_eq_canon _ _ _ (covD12 m c t h _ _)

theorem sound (c : Dev nD) (t : Fin cfg0.N) :
    pre m c t ⊢ wp frame (wpE (defs₀ (F := F)) Variants.none c none) Set.univ (bodyAt0 t) (fun _ => post m c t) := by
  have hN : t.val < 12 := lt_of_lt_of_eq t.isLt (show cfg0.N = 12 from N_0)
  by_cases h0 : t.val = 0
  · exact soundA m c t h0
  by_cases h1 : t.val < 8
  · exact soundB m c t ⟨by omega, h1⟩
  by_cases h2 : t.val = 8
  · exact soundC m c t h2
  by_cases h3 : t.val = 11
  · exact soundDLast m c t (by omega) h3
  · exact soundDMid m c t (by omega) (by omega)

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound m c t) rfl .rfl fun _ => .rfl

theorem hin (c : Dev nD) : Pipeline.ΦA spec0 c ⊢ (dats m 0 c).Φ 0 := by
  rw [show (dats m 0 c).Φ 0 = held m c 0 (Nat.zero_le _) from rfl, held_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = held m c (Fin.last cfg0.N).val (Nat.le_of_lt_succ (Fin.last cfg0.N).isLt) from rfl,
    held_pos m c _ _ (by rw [Fin.val_last]; have : cfg0.N = 12 := N_0; omega), rest_eq]
  iintro ⟨⟨H13, H14⟩, Hg⟩
  isplitl [H13 H14]
  · isplitl [H13]; · iexists _; iexact H13
    iexact H14
  iexact Hg

/-! ## The run and the frame -/

set_option backward.isDefEq.respectTransparency.types false in
/-- Every fair execution ends with the arrays at what the data compute and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

/-- The arguments end unchanged and every counter at zero, at any carrier of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ) ∧ r.2.sem = fun _ => 0) :=
  θ_run_and (frame_of m ρ (dats m) (A_eq m) (run_main m ρ)) ((θ_run defs _ _).mono (fun _ h => h.2) (run_quiet m ρ))

end Cert.KMlpIdeal.Body

end
-- ==== Proof.MlpFrame.lean ====
module
public import proofs.«01_k».proof.Defs
public import proofs.«01_k».proof.Proof.Gen.KMlp
public import proofs.«01_k».proof.Proof.MlpBody
@[expose] public section

noncomputable section

namespace Cert.MlpFrame

open Idealize.ShloMosaic Idealize.ShloMosaic.TcCoe

/-- The frame's statement at the launched floats, over the program's idealized print. -/
def quiet : Prop := ∀ (m : (ℓ : Loc Cert.KMlpIdeal.nD Cert.KMlpIdeal.τ Cert.KMlpIdeal.sig) → Buf (Elt Bits) ℓ) (ρ : Dev Cert.KMlpIdeal.nD → PrngReg), True →
  θ_run (Cert.KMlpIdeal.defs (F := Bits)) (onTc (τ := Cert.KMlpIdeal.τ) (Cert.KMlpIdeal.main (F := Bits))) ⟨m, fun _ => 0, ρ⟩ (fun r => (∀ c : Dev Cert.KMlpIdeal.nD,
      r.2.mem ((c.tc : Thread Cert.KMlpIdeal.nD Cert.KMlpIdeal.τ).loc Cert.KMlpIdeal.main_arg0) = m ((c.tc : Thread Cert.KMlpIdeal.nD Cert.KMlpIdeal.τ).loc Cert.KMlpIdeal.main_arg0)
      ∧ r.2.mem ((c.tc : Thread Cert.KMlpIdeal.nD Cert.KMlpIdeal.τ).loc Cert.KMlpIdeal.main_arg1) = m ((c.tc : Thread Cert.KMlpIdeal.nD Cert.KMlpIdeal.τ).loc Cert.KMlpIdeal.main_arg1)
      ∧ r.2.mem ((c.tc : Thread Cert.KMlpIdeal.nD Cert.KMlpIdeal.τ).loc Cert.KMlpIdeal.main_arg2) = m ((c.tc : Thread Cert.KMlpIdeal.nD Cert.KMlpIdeal.τ).loc Cert.KMlpIdeal.main_arg2)
      ∧ r.2.mem ((c.tc : Thread Cert.KMlpIdeal.nD Cert.KMlpIdeal.τ).loc Cert.KMlpIdeal.main_arg3) = m ((c.tc : Thread Cert.KMlpIdeal.nD Cert.KMlpIdeal.τ).loc Cert.KMlpIdeal.main_arg3)
      ∧ r.2.mem ((c.tc : Thread Cert.KMlpIdeal.nD Cert.KMlpIdeal.τ).loc Cert.KMlpIdeal.main_arg4) = m ((c.tc : Thread Cert.KMlpIdeal.nD Cert.KMlpIdeal.τ).loc Cert.KMlpIdeal.main_arg4))
      ∧ r.2.sem = fun _ => 0)
/-- The two prints are one program. -/
theorem quiet_eq : Cert.quiescent_KMlp = quiet := by sl_kernel_rfl
/-- The frame of the launched program, off the one run. -/
theorem frame_kernel : Cert.quiescent_KMlp := quiet_eq.mpr fun m ρ _ => Cert.KMlpIdeal.Body.frame (F := Bits) m ρ

end Cert.MlpFrame

end
-- ==== Proof.MlpReal.lean ====
/- The gradient of the feedforward layer over the reals. -/
module

public import proofs.«01_k».proof.Proof.Norm

@[expose] public section

noncomputable section

namespace Cert.Mlp

open Cert.Reals

/-- The rows, the gain, the two weights and the cotangent of the layer. -/
structure Data where
  x : Fin 2048 → Fin 1024 → ℝ
  g : Fin 1024 → ℝ
  wi : Fin 1024 → Fin 4096 → ℝ
  wo : Fin 4096 → Fin 1024 → ℝ
  d : Fin 2048 → Fin 1024 → ℝ

namespace Data

variable (D : Data)

/-- The normed rows. -/
def nm (r : Fin 2048) (k : Fin 1024) : ℝ := Norm.normed (D.x r) D.g k
/-- The hidden units before the rectifier, and after it. -/
def z (r : Fin 2048) (j : Fin 4096) : ℝ := ∑ k, D.nm r k * D.wi k j
def relu (r : Fin 2048) (j : Fin 4096) : ℝ := max (D.z r j) 0
/-- The cotangent of the hidden units before the rectifier. -/
def dz (r : Fin 2048) (j : Fin 4096) : ℝ := (∑ k, D.d r k * D.wo j k) * (2 * D.relu r j)
/-- The cotangent of the normed rows. -/
def dnm (r : Fin 2048) (k : Fin 1024) : ℝ := ∑ j, D.dz r j * D.wi k j
/-- The gradients. -/
def dwi (k : Fin 1024) (j : Fin 4096) : ℝ := ∑ r, D.nm r k * D.dz r j
def dwo (j : Fin 4096) (k : Fin 1024) : ℝ := ∑ r, D.relu r j * D.relu r j * D.d r k
def dg (k : Fin 1024) : ℝ := ∑ r, D.dnm r k * D.x r k * Norm.inv (D.x r)
def dx (r : Fin 2048) (l : Fin 1024) : ℝ := D.d r l + Norm.grad (D.x r) (fun k => D.dnm r k * D.g k) l

/-- The rectifier's gradient is written by its value: where the unit is not positive both are zero. -/
theorem dz_eq (r : Fin 2048) (j : Fin 4096) :
    (if 0 < D.z r j then (∑ k, D.d r k * D.wo j k) * (2 * max (D.z r j) 0) else 0) = D.dz r j := by
  unfold dz relu
  split
  · rfl
  · rename_i h
    rw [max_eq_right (not_lt.1 h), mul_zero, mul_zero]

/-- Unit `j` of slice `s`. -/
def unit (s : Fin 8) (j : Fin 512) : Fin 4096 := ⟨s.val * 512 + j.val, by omega⟩

/-- What slice `s` adds to the cotangent of the normed rows. -/
def part (s : Fin 8) (r : Fin 2048) (k : Fin 1024) : ℝ := ∑ j, D.dz r (unit s j) * D.wi k (unit s j)

theorem sum_part (r : Fin 2048) (k : Fin 1024) : ∑ s, D.part s r k = D.dnm r k :=
  Fin.sum_mul_add_fin 8 512 fun j : Fin 4096 => D.dz r j * D.wi k j

end Data

end Cert.Mlp

end
-- ==== Proof.MlpRef.lean ====
/- The results of the feedforward layer's reference, on real arguments. -/
module

public import proofs.«01_k».proof.Proof.MlpReal
public import proofs.«01_k».proof.Proof.Gen.RMlpIdeal.Read

@[expose] public section

set_option maxRecDepth 16384

noncomputable section

open Idealize.ShloMosaic Idealize.ShloMosaic.TcCoe Idealize.SL.Sem

namespace Cert.RMlpIdeal.Real

open Cert.RMlpIdeal Cert.RMlpIdeal.Gen Cert.RMlpIdeal.Read Cert.Reals Cert.Mlp

/-- A matrix of reals, and a vector, as arrays. -/
abbrev mat {a b : ℕ} (x : Fin a → Fin b → ℝ) : Shape.Idx ⟨2, ![a, b]⟩ → EReal := fun i => (x (i 0) (i 1) : EReal)
abbrev vec {a : ℕ} (x : Fin a → ℝ) : Shape.Idx ⟨1, ![a]⟩ → EReal := fun i => (x (i 0) : EReal)

theorem mat_at {a b : ℕ} (x : Fin a → Fin b → ℝ) (r : Fin a) (k : Fin b) : mat x (ix2 r k) = (x r k : EReal) := rfl

variable (D : Data)

theorem ms_at (r : Fin 2048) (j : Fin 1) : val_main_v6 (F := Ideal) (mat D.x) (ix2 r j) = (Norm.ms (D.x r) : ℝ) := by
  pointwise [val_main_v6, val_main_v5, val_main_v4, val_main_v3, val_main_v2, val_main_v1, val_main_v0, val_main_cst, val_main_cst_0, val_main_cst_1]
  simp only [word_1024, word_eps]
  norm_cast
  rw [div_real (by norm_num)]
  norm_cast

theorem inv_at (r : Fin 2048) (j : Fin 1) : val_main_v7 (F := Ideal) (mat D.x) (ix2 r j) = (Norm.inv (D.x r) : ℝ) := by
  pointwise [val_main_v7]
  rw [ms_at]
  exact rsqrt_real (Norm.ms_pos _)

theorem nm_eq : val_main_v15 (F := Ideal) (mat D.x) (vec D.g) = mat D.nm := by
  funext i
  idx_vars i
  pointwise [val_main_v15, val_main_v14, val_main_v13, val_main_v12, val_main_v11]
  rw [inv_at]
  unfold Data.nm Norm.normed
  norm_cast

theorem z_at (r : Fin 2048) (j : Fin 4096) : val_main_v16 (F := Ideal) (mat D.x) (vec D.g) (mat D.wi) (ix2 r j) = (D.z r j : ℝ) := by
  pointwise [val_main_v16]
  rw [nm_eq]
  unfold Data.z
  norm_cast

theorem relu_eq : val_main_v17 (F := Ideal) (mat D.x) (vec D.g) (mat D.wi) = mat D.relu := by
  funext i
  idx_vars i
  pointwise [val_main_v17, val_main_call0_v0, val_main_call0_cst]
  rw [z_at]
  unfold Data.relu
  norm_cast

theorem dz_eq : val_main_v32 (F := Ideal) (mat D.x) (vec D.g) (mat D.wi) (mat D.wo) (mat D.d) = mat D.dz := by
  funext i
  idx_vars i
  pointwise [val_main_v32, val_main_v31, val_main_v30, val_main_v29, val_main_v26, val_main_v23, val_main_v22, val_main_v19, val_main_v18,
    val_main_cst_3, val_main_cst_5, val_main_cst_6]
  rw [z_at, relu_eq]
  simp only [word_two, mat_at, EReal.coe_pos, ← EReal.coe_mul, ← coe_sum]
  rw [← D.dz_eq, coe_ite, EReal.coe_zero]
  rfl

theorem dnm_at (r : Fin 2048) (k : Fin 1024) :
    val_main_v35 (F := Ideal) (mat D.x) (vec D.g) (mat D.wi) (mat D.wo) (mat D.d) (ix2 r k) = (D.dnm r k : ℝ) := by
  pointwise [val_main_v35]
  rw [dz_eq]
  unfold Data.dnm
  norm_cast

theorem dyg_at (r : Fin 2048) (k : Fin 1024) :
    val_main_v40 (F := Ideal) (mat D.x) (vec D.g) (mat D.wi) (mat D.wo) (mat D.d) (ix2 r k) = (D.dnm r k * D.g k : ℝ) := by
  pointwise [val_main_v40, val_main_v39, val_main_v13]
  rw [dnm_at]
  norm_cast

theorem dx_eq : val_main_v56 (F := Ideal) (mat D.x) (vec D.g) (mat D.wi) (mat D.wo) (mat D.d) = mat D.dx := by
  funext i
  idx_vars i
  pointwise [val_main_v56, val_main_v55, val_main_v54, val_main_v53, val_main_v52, val_main_v51, val_main_v50, val_main_v49, val_main_v48, val_main_v47,
    val_main_v46, val_main_v45, val_main_v44, val_main_v43, val_main_v42, val_main_v26, val_main_v10, val_main_v9, val_main_v8,
    val_main_cst_2, val_main_cst_9, val_main_cst_10, val_main_cst_11]
  simp only [dyg_at, inv_at, ms_at, word_1024, word_neg_half, Fin.sum_univ_one, div_real (Norm.ms_pos _).ne']
  rw [add_assoc, add_assoc]
  simp only [mat_at]
  rw [Data.dx, EReal.coe_add]
  refine congrArg ((D.d i0 i1 : EReal) + ·) ?_
  norm_cast
  simp only [div_real (show (1024 : ℝ) ≠ 0 by norm_num)]
  norm_cast
  rw [← add_assoc]
  exact Norm.grad_eq (D.x i0) (fun k => D.dnm i0 k * D.g k) i1

theorem dwi_eq : val_main_v59 (F := Ideal) (mat D.x) (vec D.g) (mat D.wi) (mat D.wo) (mat D.d)
    = fun i : S8x1024x512.Idx => (D.dwi (i 1) (Data.unit (i 0) (i 2)) : EReal) := by
  funext i
  idx_vars i
  pointwise [val_main_v59, val_main_v58, val_main_v57, val_main_v34, val_main_v33]
  rw [nm_eq, dz_eq]
  unfold Data.dwi
  rw [coe_sum]
  refine Finset.sum_congr rfl fun r _ => ?_
  rw [EReal.coe_mul, mul_comm]
  rfl

theorem dwo_eq : val_main_v61 (F := Ideal) (mat D.x) (vec D.g) (mat D.wi) (mat D.d)
    = fun i : S8x512x1024.Idx => (D.dwo (Data.unit (i 0) (i 1)) (i 2) : EReal) := by
  funext i
  idx_vars i
  pointwise [val_main_v61, val_main_v60, val_main_v28, val_main_v27, val_main_v26, val_main_v21]
  rw [relu_eq]
  unfold Data.dwo
  rw [coe_sum]
  refine Finset.sum_congr rfl fun r _ => ?_
  rw [EReal.coe_mul, EReal.coe_mul, mul_comm]
  rfl

theorem dg_at (i : S8x1024.Idx) : val_main_v63 (F := Ideal) (mat D.x) (vec D.g) (mat D.wi) (mat D.wo) (mat D.d) i
    = ((if (i 0).val = 0 then D.dg (i 1) else 0 : ℝ) : EReal) := by
  idx_vars i
  pointwise [val_main_v63, val_main_v62, val_main_v41, val_main_v38, val_main_v37, val_main_v36, val_main_v12, val_main_v11, val_main_cst_7, val_main_cst_8,
    val_main_c, val_main_call1_v0]
  simp only [inv_at, dnm_at, fill_zero, Fin.sum_univ_one, mat_at]
  refine masked (by simp [Nat.lt_one_iff]) ?_
  unfold Data.dg
  norm_cast
  refine Finset.sum_congr rfl fun r _ => ?_
  ring

end Cert.RMlpIdeal.Real

end
-- ==== Proof.MlpPay.lean ====
/- What the body of the feedforward layer's backward computes on blocks of reals. -/
module

public import proofs.«01_k».proof.Proof.MlpReal
public import proofs.«01_k».proof.Proof.Gen.KMlpIdeal.Skeleton
public import Idealize.ShloMosaic.Lib.Pointwise

@[expose] public section

set_option maxRecDepth 16384

noncomputable section

open Idealize.ShloMosaic Idealize.ShloMosaic.TcCoe Idealize.SL.Sem

namespace Cert.KMlpIdeal.Pay

open Cert.KMlpIdeal Cert.KMlpIdeal.Gen Cert.Reals

variable (d : S512x1024.Idx → ℝ) (o : S1x512x1024.Idx → ℝ) (r : S512x512.Idx → ℝ) (w : S1x1024x512.Idx → ℝ)

/-- The cotangent of a block of hidden units. -/
def dz (i : S512x512.Idx) : ℝ := (∑ k, d (ix2 (i 0) k) * o (ix3 0 (i 1) k)) * (2 * r i)

/-- What the block adds to the cotangent of the normed rows. -/
def dn (i : S512x1024.Idx) : ℝ := ∑ j, dz d o r (ix2 (i 0) j) * w (ix3 0 (i 1) j)

theorem dz_0 : k0_pay5 (F := Ideal) (fun i => (d i : EReal)) (fun i => (o i : EReal)) (fun i => (r i : EReal)) = fun i => (dz d o r i : EReal) := by
  funext i
  idx_vars i
  pointwise [k0_pay5]
  simp only [word_two]
  unfold dz
  norm_cast

theorem dz_1 : k0_pay10 (F := Ideal) (k0_pay8 (fun i => (d i : EReal)) (fun i => (o i : EReal))) (k0_pay9 (fun i => (r i : EReal))) = fun i => (dz d o r i : EReal) := by
  funext i
  idx_vars i
  pointwise [k0_pay8, k0_pay9, k0_pay10]
  simp only [word_two]
  unfold dz
  norm_cast

theorem dz_2 : k0_pay13 (F := Ideal) (fun i => (d i : EReal)) (fun i => (o i : EReal)) (fun i => (r i : EReal)) = fun i => (dz d o r i : EReal) := by
  funext i
  idx_vars i
  pointwise [k0_pay13]
  simp only [word_two]
  unfold dz
  norm_cast

theorem dz_3 : k0_pay16 (F := Ideal) (fun i => (d i : EReal)) (fun i => (o i : EReal)) (fun i => (r i : EReal)) = fun i => (dz d o r i : EReal) := by
  funext i
  idx_vars i
  pointwise [k0_pay16]
  simp only [word_two]
  unfold dz
  norm_cast

theorem kept_0 : k0_pay6 (F := Ideal) (fun i => (d i : EReal)) (fun i => (o i : EReal)) (fun i => (r i : EReal)) = fun i => (dz d o r i : EReal) := by
  funext i
  idx_vars i
  unfold k0_pay6
  rw [dz_0]
  pointwise

theorem kept_1 : k0_pay11 (F := Ideal) (k0_pay8 (fun i => (d i : EReal)) (fun i => (o i : EReal))) (k0_pay9 (fun i => (r i : EReal))) = fun i => (dz d o r i : EReal) := by
  funext i
  idx_vars i
  unfold k0_pay11
  rw [dz_1]
  pointwise

theorem kept_2 : k0_pay14 (F := Ideal) (fun i => (d i : EReal)) (fun i => (o i : EReal)) (fun i => (r i : EReal)) = fun i => (dz d o r i : EReal) := by
  funext i
  idx_vars i
  unfold k0_pay14
  rw [dz_2]
  pointwise

theorem kept_3 : k0_pay17 (F := Ideal) (fun i => (d i : EReal)) (fun i => (o i : EReal)) (fun i => (r i : EReal)) = fun i => (dz d o r i : EReal) := by
  funext i
  idx_vars i
  unfold k0_pay17
  rw [dz_3]
  pointwise

variable (z : S512x1024.Idx → EReal)

theorem dn_0 : k0_pay7 (F := Ideal) (fun i => (d i : EReal)) (fun i => (o i : EReal)) (fun i => (r i : EReal)) z (fun i => (w i : EReal))
    = fun i => z i + (dn d o r w i : EReal) := by
  funext i
  idx_vars i
  unfold k0_pay7
  rw [dz_0]
  pointwise
  unfold dn
  norm_cast

theorem dn_1 : k0_pay12 (F := Ideal) (k0_pay8 (fun i => (d i : EReal)) (fun i => (o i : EReal))) (k0_pay9 (fun i => (r i : EReal))) z (fun i => (w i : EReal))
    = fun i => z i + (dn d o r w i : EReal) := by
  funext i
  idx_vars i
  unfold k0_pay12
  rw [dz_1]
  pointwise
  unfold dn
  norm_cast

theorem dn_2 : k0_pay15 (F := Ideal) (k0_pay13 (fun i => (d i : EReal)) (fun i => (o i : EReal)) (fun i => (r i : EReal))) z (fun i => (w i : EReal))
    = fun i => z i + (dn d o r w i : EReal) := by
  funext i
  idx_vars i
  unfold k0_pay15
  rw [dz_2]
  pointwise
  unfold dn
  norm_cast

theorem dn_3 : k0_pay18 (F := Ideal) (fun i => (d i : EReal)) (fun i => (o i : EReal)) (fun i => (r i : EReal)) z (fun i => (w i : EReal))
    = fun i => z i + (dn d o r w i : EReal) := by
  funext i
  idx_vars i
  unfold k0_pay18
  rw [dz_3]
  pointwise
  unfold dn
  norm_cast

/-- The two weights' gradients at one slice of the hidden units. -/
theorem dwo_eq (u : S2048x512.Idx → ℝ) (d : S2048x1024.Idx → ℝ) : k0_pay2 (F := Ideal) (k0_pay19 (fun i => (u i : EReal))) (fun i => (d i : EReal))
    = fun i => ((∑ t, u (ix2 t (i 1)) * u (ix2 t (i 1)) * d (ix2 t (i 2)) : ℝ) : EReal) := by
  funext i
  idx_vars i
  pointwise [k0_pay2, k0_pay19]
  norm_cast

theorem dwi_eq (n : S2048x1024.Idx → ℝ) (u : S2048x512.Idx → ℝ) : k0_pay3 (F := Ideal) (fun i => (n i : EReal)) (fun i => (u i : EReal))
    = fun i => ((∑ t, n (ix2 t (i 1)) * u (ix2 t (i 2)) : ℝ) : EReal) := by
  funext i
  idx_vars i
  pointwise [k0_pay3]
  norm_cast

variable (x u e : S512x1024.Idx → ℝ) (g : S1x1024.Idx → ℝ)

/-- Row `r` of a block. -/
abbrev row (x : S512x1024.Idx → ℝ) (r : Fin 512) (k : Fin 1024) : ℝ := x (ix2 r k)

theorem inv_eq : k0_pay21 (F := Ideal) (fun i => (x i : EReal)) = fun i => (Norm.inv (row x (i 0)) : EReal) := by
  funext i
  idx_vars i
  pointwise [k0_pay21]
  simp only [word_1024, word_eps]
  norm_cast
  rw [div_real (by norm_num)]
  norm_cast
  exact rsqrt_real (Norm.ms_pos _)

theorem dx_at (r : Fin 512) (l : Fin 1024) :
    k0_pay23 (F := Ideal) (fun i => (x i : EReal)) (fun i => (g i : EReal)) (fun i => (u i : EReal)) (fun i => (e i : EReal)) (ix2 r l)
      = ((e (ix2 r l) + Norm.grad (row x r) (fun k => u (ix2 r k) * g (ix2 0 k)) l : ℝ) : EReal) := by
  unfold k0_pay23
  rw [inv_eq]
  pointwise
  simp only [word_1024]
  norm_cast
  rw [div_real (by norm_num)]
  norm_cast

theorem dg_at (z : Vec Ideal S8x1024 .f32) (j : S8x1024.Idx) :
    k0_pay4 (F := Ideal) (k0_pay22 (fun i => (x i : EReal)) (fun i => (u i : EReal))) z j
      = z j + ((if (j 0).val = 0 then ∑ r : Fin 512, u (ix2 r (j 1)) * x (ix2 r (j 1)) * Norm.inv (row x r) else 0 : ℝ) : EReal) := by
  idx_vars j
  unfold k0_pay4 k0_pay22
  rw [inv_eq]
  pointwise
  rw [select_row (by omega)]
  refine congrArg (z (ix2 j0 j1) + ·) (Eq.trans ?_ (coe_ite _ _ _).symm)
  simp only [← EReal.coe_mul, ← coe_sum]
  rfl

theorem zero_sum (j) : k0_pay1 (F := Ideal) j = 0 := by pointwise [k0_pay1]

theorem zero_dg (j) : k0_pay20 (F := Ideal) j = 0 := by pointwise [k0_pay20]

end Cert.KMlpIdeal.Pay

end
-- ==== Proof.MlpStores.lean ====
/- What the stores of the feedforward layer's backward leave in its two scratch buffers, on blocks of reals. -/
module

public import proofs.«01_k».proof.Proof.MlpPay
public import Idealize.ShloMosaic.Lib.Pipeline.ValueKit

@[expose] public section

set_option maxRecDepth 65536

noncomputable section

open Idealize.ShloMosaic Idealize.ShloMosaic.TcCoe Idealize.SL.Sem

namespace Cert.KMlpIdeal.Stores

open Cert.KMlpIdeal Cert.KMlpIdeal.Gen Cert.KMlpIdeal.Pay Cert.Reals

/-! ## Blocks of 512 rows of an array of 2048 -/

section

variable {n : ℕ} {e : EltTy}

/-- Row `r` of the block at row `o`. -/
def from_ (o : ℕ) (h : o + 512 ≤ 2048) (r : Fin 512) : Fin 2048 := ⟨o + r.val, by omega⟩

theorem emb_rows (o : ℕ) (h : o + 512 ≤ 2048)
    (inb : ∀ a, (![o, 0] : Fin 2 → ℕ) a + (![512, n] : Fin 2 → ℕ) a ≤ (⟨2, ![2048, n]⟩ : Shape).size a) (r : Fin 512) (l : Fin n) :
    (Rect.unit (s := (⟨2, ![2048, n]⟩ : Shape)) ![o, 0] ![512, n] inb).emb (ix2 r l) = ix2 (from_ o h r) l := by
  funext a
  apply Fin.ext
  fin_cases a
  · show o + 1 * r.val = o + r.val; omega
  · show 0 + 1 * l.val = l.val; omega

/-- The last store's rows hold what it stored; the other rows what the stores before left. -/
theorem canon_hit (o : ℕ) (h : o + 512 ≤ 2048)
    (inb : ∀ a, (![o, 0] : Fin 2 → ℕ) a + (![512, n] : Fin 2 → ℕ) a ≤ (⟨2, ![2048, n]⟩ : Shape).size a)
    (w : (⟨2, ![512, n]⟩ : Shape).Idx → Elt Ideal e) (L : List (View.Piece (Elt Ideal) (⟨2, ![2048, n]⟩ : Shape) e)) (r : Fin 512) (l : Fin n) :
    View.canon ((⟨Rect.unit (s := (⟨2, ![2048, n]⟩ : Shape)) ![o, 0] ![512, n] inb, w⟩ : View.Piece (Elt Ideal) (⟨2, ![2048, n]⟩ : Shape) e) :: L) (ix2 (from_ o h r) l)
      = w (ix2 r l) := by
  rw [← emb_rows o h inb r l]
  exact View.canon_cons_emb (Rect.unit (s := (⟨2, ![2048, n]⟩ : Shape)) ![o, 0] ![512, n] inb) w L (ix2 r l)

theorem canon_miss (o : ℕ) (R : Fin 2048) (h : R.val < o ∨ o + 512 ≤ R.val)
    (inb : ∀ a, (![o, 0] : Fin 2 → ℕ) a + (![512, n] : Fin 2 → ℕ) a ≤ (⟨2, ![2048, n]⟩ : Shape).size a)
    (w : (⟨2, ![512, n]⟩ : Shape).Idx → Elt Ideal e) (L : List (View.Piece (Elt Ideal) (⟨2, ![2048, n]⟩ : Shape) e)) (l : Fin n) :
    View.canon ((⟨Rect.unit (s := (⟨2, ![2048, n]⟩ : Shape)) ![o, 0] ![512, n] inb, w⟩ : View.Piece (Elt Ideal) (⟨2, ![2048, n]⟩ : Shape) e) :: L) (ix2 R l)
      = View.canon L (ix2 R l) := by
  refine View.canon_cons_of_not_mem _ L fun hm => ?_
  obtain ⟨j, hj, e⟩ := (Rect.unit (s := (⟨2, ![2048, n]⟩ : Shape)) ![o, 0] ![512, n] inb).mem_set.mp hm 0
  have hj' : j < 512 := hj
  have e' : R.val = o + 1 * j := e
  omega

/-- A load of such a block. -/
theorem ld_rows (x : (⟨2, ![2048, n]⟩ : Shape).Idx → ℝ) (o : ℕ) (h : o + 512 ≤ 2048)
    (inb : ∀ a, (![o, 0] : Fin 2 → ℕ) a + (![512, n] : Fin 2 → ℕ) a ≤ (⟨2, ![2048, n]⟩ : Shape).size a) :
    View.ld (Val := Elt Ideal) (S := (⟨2, ![2048, n]⟩ : Shape)) (e' := .bf16) (fun i => (x i : EReal)) (Rect.unit (s := (⟨2, ![2048, n]⟩ : Shape)) ![o, 0] ![512, n] inb)
      = fun i : (⟨2, ![512, n]⟩ : Shape).Idx => (x (ix2 (from_ o h (i 0)) (i 1)) : EReal) := by
  funext i
  refine congrArg (fun j => (x j : EReal)) ?_
  funext a
  apply Fin.ext
  fin_cases a
  · show o + 1 * (i 0).val = o + (i 0).val; omega
  · show 0 + 1 * (i 1).val = (i 1).val; omega

/-- Every row is one of a block. -/
theorem rows_cases {P : Fin 2048 → Prop} (h0 : ∀ r, P (from_ 0 (by decide) r)) (h1 : ∀ r, P (from_ 512 (by decide) r))
    (h2 : ∀ r, P (from_ 1024 (by decide) r)) (h3 : ∀ r, P (from_ 1536 (by decide) r)) (R : Fin 2048) : P R := by
  have e (o : ℕ) (h : o + 512 ≤ 2048) (ho : o ≤ R.val ∧ R.val < o + 512) : R = from_ o h ⟨R.val - o, by omega⟩ := Fin.ext (by simp only [from_]; omega)
  obtain q | q | q | q : R.val < 512 ∨ (512 ≤ R.val ∧ R.val < 1024) ∨ (1024 ≤ R.val ∧ R.val < 1536) ∨ 1536 ≤ R.val := by omega
  · rw [e 0 (by decide) (by omega)]; exact h0 _
  · rw [e 512 (by decide) (by omega)]; exact h1 _
  · rw [e 1024 (by decide) (by omega)]; exact h2 _
  · rw [e 1536 (by decide) (by omega)]; exact h3 _

end

/-! ## The cotangent of a slice of the hidden units, four blocks of rows -/

section

variable {F : FTy → Type} [FloatOps F]

/-- The stores into the second scratch buffer, the last one first. -/
def dzs (d : Vec F S2048x1024 .bf16) (o : Vec F S1x512x1024 .bf16) (u : Vec F S2048x512 .bf16) : List (View.Piece (Elt F) S2048x512 .bf16) :=
  [⟨Rect.unit ![1536, 0] ![512, 512] inb_S2048x512_S512x512_1536_0,
      k0_pay17 (View.ld d (Rect.unit (s := S2048x1024) ![1536, 0] ![512, 1024] inb_S2048x1024_S512x1024_1536_0)) o (View.ld u (Rect.unit (s := S2048x512) ![1536, 0] ![512, 512] inb_S2048x512_S512x512_1536_0))⟩,
    ⟨Rect.unit ![1024, 0] ![512, 512] inb_S2048x512_S512x512_1024_0,
      k0_pay14 (View.ld d (Rect.unit (s := S2048x1024) ![1024, 0] ![512, 1024] inb_S2048x1024_S512x1024_1024_0)) o (View.ld u (Rect.unit (s := S2048x512) ![1024, 0] ![512, 512] inb_S2048x512_S512x512_1024_0))⟩,
    ⟨Rect.unit ![512, 0] ![512, 512] inb_S2048x512_S512x512_512_0,
      k0_pay11 (k0_pay8 (View.ld d (Rect.unit (s := S2048x1024) ![512, 0] ![512, 1024] inb_S2048x1024_S512x1024_512_0)) o) (k0_pay9 (View.ld u (Rect.unit (s := S2048x512) ![512, 0] ![512, 512] inb_S2048x512_S512x512_512_0)))⟩,
    ⟨Rect.unit ![0, 0] ![512, 512] inb_S2048x512_S512x512_0_0,
      k0_pay6 (View.ld d (Rect.unit (s := S2048x1024) ![0, 0] ![512, 1024] inb_S2048x1024_S512x1024_0_0)) o (View.ld u (Rect.unit (s := S2048x512) ![0, 0] ![512, 512] inb_S2048x512_S512x512_0_0))⟩]

/-- The array the first scratch buffer starts from, as one store. -/
def dns0 (arg : View sig .tc .vmem S2048x1024 .f32) (d : Vec F S2048x1024 .bf16) (o : Vec F S1x512x1024 .bf16) (u : Vec F S2048x512 .bf16) (w : Vec F S1x1024x512 .bf16) (y : Vec F S2048x1024 .f32) :
    List (View.Piece (Elt F) S2048x1024 .f32) :=
  [⟨Rect.unit ![0, 0] ![2048, 1024] inb_S2048x1024_S2048x1024_0_0, y⟩]
/-- The stores into the first one on top of `y`, each adding its block to what its rows held. -/
def dns1 (arg : View sig .tc .vmem S2048x1024 .f32) (d : Vec F S2048x1024 .bf16) (o : Vec F S1x512x1024 .bf16) (u : Vec F S2048x512 .bf16) (w : Vec F S1x1024x512 .bf16) (y : Vec F S2048x1024 .f32) :
    List (View.Piece (Elt F) S2048x1024 .f32) :=
  ⟨Rect.unit ![0, 0] ![512, 1024] inb_S2048x1024_S512x1024_0_0, k0_pay7 (View.ld d (Rect.unit (s := S2048x1024) ![0, 0] ![512, 1024] inb_S2048x1024_S512x1024_0_0)) o (View.ld u (Rect.unit (s := S2048x512) ![0, 0] ![512, 512] inb_S2048x512_S512x512_0_0)) (arg.readCov (dns0 arg d o u w y) (Rect.unit (s := S2048x1024) ![0, 0] ![512, 1024] inb_S2048x1024_S512x1024_0_0).toLoadRect) w⟩ :: dns0 arg d o u w y
def dns2 (arg : View sig .tc .vmem S2048x1024 .f32) (d : Vec F S2048x1024 .bf16) (o : Vec F S1x512x1024 .bf16) (u : Vec F S2048x512 .bf16) (w : Vec F S1x1024x512 .bf16) (y : Vec F S2048x1024 .f32) :
    List (View.Piece (Elt F) S2048x1024 .f32) :=
  ⟨Rect.unit ![512, 0] ![512, 1024] inb_S2048x1024_S512x1024_512_0, k0_pay12 (k0_pay8 (View.ld d (Rect.unit (s := S2048x1024) ![512, 0] ![512, 1024] inb_S2048x1024_S512x1024_512_0)) o) (k0_pay9 (View.ld u (Rect.unit (s := S2048x512) ![512, 0] ![512, 512] inb_S2048x512_S512x512_512_0))) (arg.readCov (dns1 arg d o u w y) (Rect.unit (s := S2048x1024) ![512, 0] ![512, 1024] inb_S2048x1024_S512x1024_512_0).toLoadRect) w⟩ :: dns1 arg d o u w y
def dns3 (arg : View sig .tc .vmem S2048x1024 .f32) (d : Vec F S2048x1024 .bf16) (o : Vec F S1x512x1024 .bf16) (u : Vec F S2048x512 .bf16) (w : Vec F S1x1024x512 .bf16) (y : Vec F S2048x1024 .f32) :
    List (View.Piece (Elt F) S2048x1024 .f32) :=
  ⟨Rect.unit ![1024, 0] ![512, 1024] inb_S2048x1024_S512x1024_1024_0, k0_pay15 (k0_pay13 (View.ld d (Rect.unit (s := S2048x1024) ![1024, 0] ![512, 1024] inb_S2048x1024_S512x1024_1024_0)) o (View.ld u (Rect.unit (s := S2048x512) ![1024, 0] ![512, 512] inb_S2048x512_S512x512_1024_0))) (arg.readCov (dns2 arg d o u w y) (Rect.unit (s := S2048x1024) ![1024, 0] ![512, 1024] inb_S2048x1024_S512x1024_1024_0).toLoadRect) w⟩ :: dns2 arg d o u w y
def dns4 (arg : View sig .tc .vmem S2048x1024 .f32) (d : Vec F S2048x1024 .bf16) (o : Vec F S1x512x1024 .bf16) (u : Vec F S2048x512 .bf16) (w : Vec F S1x1024x512 .bf16) (y : Vec F S2048x1024 .f32) :
    List (View.Piece (Elt F) S2048x1024 .f32) :=
  ⟨Rect.unit ![1536, 0] ![512, 1024] inb_S2048x1024_S512x1024_1536_0, k0_pay18 (View.ld d (Rect.unit (s := S2048x1024) ![1536, 0] ![512, 1024] inb_S2048x1024_S512x1024_1536_0)) o (View.ld u (Rect.unit (s := S2048x512) ![1536, 0] ![512, 512] inb_S2048x512_S512x512_1536_0)) (arg.readCov (dns3 arg d o u w y) (Rect.unit (s := S2048x1024) ![1536, 0] ![512, 1024] inb_S2048x1024_S512x1024_1536_0).toLoadRect) w⟩ :: dns3 arg d o u w y

end

variable (d : S2048x1024.Idx → ℝ) (o : S1x512x1024.Idx → ℝ) (u : S2048x512.Idx → ℝ) (w : S1x1024x512.Idx → ℝ)

/-- The cotangent of the slice. -/
def cot (i : S2048x512.Idx) : ℝ := (∑ k, d (ix2 (i 0) k) * o (ix3 0 (i 1) k)) * (2 * u i)

/-- What the slice adds to the cotangent of the normed rows. -/
def add (R : Fin 2048) (l : Fin 1024) : ℝ := ∑ j, cot d o u (ix2 R j) * w (ix3 0 l j)

theorem dzs_at (R : Fin 2048) (l : Fin 512) : View.canon (dzs (F := Ideal) (fun i => (d i : EReal)) (fun i => (o i : EReal)) (fun i => (u i : EReal))) (ix2 R l)
    = (cot d o u (ix2 R l) : EReal) := by
  unfold dzs
  revert R
  refine rows_cases (fun r => ?_) (fun r => ?_) (fun r => ?_) (fun r => ?_)
  · refine (canon_miss 1536 _ (.inl (by simp only [from_]; omega)) _ _ _ l).trans ?_
    refine (canon_miss 1024 _ (.inl (by simp only [from_]; omega)) _ _ _ l).trans ?_
    refine (canon_miss 512 _ (.inl (by simp only [from_]; omega)) _ _ _ l).trans ?_
    refine (canon_hit 0 (by decide) _ _ _ r l).trans ?_
    refine (congrFun ?_ (ix2 r l)).trans (congrFun (kept_0 (fun i => d (ix2 (from_ 0 (by decide) (i 0)) (i 1))) o (fun i => u (ix2 (from_ 0 (by decide) (i 0)) (i 1)))) (ix2 r l))
    exact congrArg₂ (fun a b => k0_pay6 (F := Ideal) a _ b) (ld_rows d 0 (by decide) _) (ld_rows u 0 (by decide) _)
  · refine (canon_miss 1536 _ (.inl (by simp only [from_]; omega)) _ _ _ l).trans ?_
    refine (canon_miss 1024 _ (.inl (by simp only [from_]; omega)) _ _ _ l).trans ?_
    refine (canon_hit 512 (by decide) _ _ _ r l).trans ?_
    refine (congrFun ?_ (ix2 r l)).trans (congrFun (kept_1 (fun i => d (ix2 (from_ 512 (by decide) (i 0)) (i 1))) o (fun i => u (ix2 (from_ 512 (by decide) (i 0)) (i 1)))) (ix2 r l))
    exact congrArg₂ (fun a b => k0_pay11 (F := Ideal) (k0_pay8 a _) (k0_pay9 b)) (ld_rows d 512 (by decide) _) (ld_rows u 512 (by decide) _)
  · refine (canon_miss 1536 _ (.inl (by simp only [from_]; omega)) _ _ _ l).trans ?_
    refine (canon_hit 1024 (by decide) _ _ _ r l).trans ?_
    refine (congrFun ?_ (ix2 r l)).trans (congrFun (kept_2 (fun i => d (ix2 (from_ 1024 (by decide) (i 0)) (i 1))) o (fun i => u (ix2 (from_ 1024 (by decide) (i 0)) (i 1)))) (ix2 r l))
    exact congrArg₂ (fun a b => k0_pay14 (F := Ideal) a _ b) (ld_rows d 1024 (by decide) _) (ld_rows u 1024 (by decide) _)
  · refine (canon_hit 1536 (by decide) _ _ _ r l).trans ?_
    refine (congrFun ?_ (ix2 r l)).trans (congrFun (kept_3 (fun i => d (ix2 (from_ 1536 (by decide) (i 0)) (i 1))) o (fun i => u (ix2 (from_ 1536 (by decide) (i 0)) (i 1)))) (ix2 r l))
    exact congrArg₂ (fun a b => k0_pay17 (F := Ideal) a _ b) (ld_rows d 1536 (by decide) _) (ld_rows u 1536 (by decide) _)

section

variable (arg : View sig .tc .vmem S2048x1024 .f32) (y : S2048x1024.Idx → EReal)

/-- What a load of a block of rows reads after stores into other rows. -/
theorem readCov_rows (o : ℕ) (h : o + 512 ≤ 2048) (L : List (View.Piece (Elt Ideal) S2048x1024 .f32))
    (inb : ∀ a, (![o, 0] : Fin 2 → ℕ) a + (![512, 1024] : Fin 2 → ℕ) a ≤ S2048x1024.size a) (r : Fin 512) (l : Fin 1024) :
    arg.readCov L (Rect.unit (s := S2048x1024) ![o, 0] ![512, 1024] inb).toLoadRect (ix2 r l) = View.canon L (ix2 (from_ o h r) l) := by
  rw [View.readCov_eq_canon']
  refine congrArg (View.canon L) ?_
  funext a
  apply Fin.ext
  fin_cases a
  · show o + 1 * r.val = o + r.val; omega
  · show 0 + 1 * l.val = l.val; omega

theorem dns0_at (R : Fin 2048) (l : Fin 1024) :
    View.canon (dns0 (F := Ideal) arg (fun i => (d i : EReal)) (fun i => (o i : EReal)) (fun i => (u i : EReal)) (fun i => (w i : EReal)) y) (ix2 R l) = y (ix2 R l) :=
  congrFun (View.canon_cons_unit_lit (Val := Elt Ideal) (S := S2048x1024) (e := .f32) (off := ![0, 0]) inb_S2048x1024_S2048x1024_0_0 y [] (by decide)) (ix2 R l)

/-- The first block of rows. -/
theorem dns1_at (R : Fin 2048) (l : Fin 1024) :
    View.canon (dns1 (F := Ideal) arg (fun i => (d i : EReal)) (fun i => (o i : EReal)) (fun i => (u i : EReal)) (fun i => (w i : EReal)) y) (ix2 R l)
      = if R.val < 512 then y (ix2 R l) + (add d o u w R l : EReal) else y (ix2 R l) := by
  unfold dns1
  by_cases hR : 0 ≤ R.val ∧ R.val < 512
  · obtain ⟨r, rfl⟩ : ∃ r, R = from_ 0 (by decide) r := ⟨⟨R.val - 0, by omega⟩, Fin.ext (by simp only [from_]; omega)⟩
    rw [if_pos (by omega)]
    refine (canon_hit 0 (by decide) _ _ _ r l).trans ?_
    refine (congrFun (congrArg₂ (fun a b => k0_pay7 (F := Ideal) a _ b _ _) (ld_rows d 0 (by decide) _) (ld_rows u 0 (by decide) _)) (ix2 r l)).trans ?_
    refine (congrFun (dn_0 (fun i => d (ix2 (from_ 0 (by decide) (i 0)) (i 1))) o (fun i => u (ix2 (from_ 0 (by decide) (i 0)) (i 1))) w _) (ix2 r l)).trans ?_
    refine congrArg (· + _) ((readCov_rows arg 0 (by decide) _ _ r l).trans ?_)
    exact dns0_at d o u w arg y _ l
  · refine (canon_miss 0 R (by omega) _ _ _ l).trans ?_
    rw [dns0_at, if_neg (by omega)]

/-- The first two blocks of rows. -/
theorem dns2_at (R : Fin 2048) (l : Fin 1024) :
    View.canon (dns2 (F := Ideal) arg (fun i => (d i : EReal)) (fun i => (o i : EReal)) (fun i => (u i : EReal)) (fun i => (w i : EReal)) y) (ix2 R l)
      = if R.val < 1024 then y (ix2 R l) + (add d o u w R l : EReal) else y (ix2 R l) := by
  unfold dns2
  by_cases hR : 512 ≤ R.val ∧ R.val < 1024
  · obtain ⟨r, rfl⟩ : ∃ r, R = from_ 512 (by decide) r := ⟨⟨R.val - 512, by omega⟩, Fin.ext (by simp only [from_]; omega)⟩
    rw [if_pos (by omega)]
    refine (canon_hit 512 (by decide) _ _ _ r l).trans ?_
    refine (congrFun (congrArg₂ (fun a b => k0_pay12 (F := Ideal) (k0_pay8 a _) (k0_pay9 b) _ _) (ld_rows d 512 (by decide) _) (ld_rows u 512 (by decide) _)) (ix2 r l)).trans ?_
    refine (congrFun (dn_1 (fun i => d (ix2 (from_ 512 (by decide) (i 0)) (i 1))) o (fun i => u (ix2 (from_ 512 (by decide) (i 0)) (i 1))) w _) (ix2 r l)).trans ?_
    refine congrArg (· + _) ((readCov_rows arg 512 (by decide) _ _ r l).trans ?_)
    rw [dns1_at, if_neg (by omega)]
  · refine (canon_miss 512 R (by omega) _ _ _ l).trans ?_
    rw [dns1_at]
    by_cases h : R.val < 512
    · rw [if_pos h, if_pos (by omega)]
    · rw [if_neg h, if_neg (by omega)]

/-- The first three blocks of rows. -/
theorem dns3_at (R : Fin 2048) (l : Fin 1024) :
    View.canon (dns3 (F := Ideal) arg (fun i => (d i : EReal)) (fun i => (o i : EReal)) (fun i => (u i : EReal)) (fun i => (w i : EReal)) y) (ix2 R l)
      = if R.val < 1536 then y (ix2 R l) + (add d o u w R l : EReal) else y (ix2 R l) := by
  unfold dns3
  by_cases hR : 1024 ≤ R.val ∧ R.val < 1536
  · obtain ⟨r, rfl⟩ : ∃ r, R = from_ 1024 (by decide) r := ⟨⟨R.val - 1024, by omega⟩, Fin.ext (by simp only [from_]; omega)⟩
    rw [if_pos (by omega)]
    refine (canon_hit 1024 (by decide) _ _ _ r l).trans ?_
    refine (congrFun (congrArg₂ (fun a b => k0_pay15 (F := Ideal) (k0_pay13 a _ b) _ _) (ld_rows d 1024 (by decide) _) (ld_rows u 1024 (by decide) _)) (ix2 r l)).trans ?_
    refine (congrFun (dn_2 (fun i => d (ix2 (from_ 1024 (by decide) (i 0)) (i 1))) o (fun i => u (ix2 (from_ 1024 (by decide) (i 0)) (i 1))) w _) (ix2 r l)).trans ?_
    refine congrArg (· + _) ((readCov_rows arg 1024 (by decide) _ _ r l).trans ?_)
    rw [dns2_at, if_neg (by omega)]
  · refine (canon_miss 1024 R (by omega) _ _ _ l).trans ?_
    rw [dns2_at]
    by_cases h : R.val < 1024
    · rw [if_pos h, if_pos (by omega)]
    · rw [if_neg h, if_neg (by omega)]

/-- The first four blocks of rows. -/
theorem dns4_at (R : Fin 2048) (l : Fin 1024) :
    View.canon (dns4 (F := Ideal) arg (fun i => (d i : EReal)) (fun i => (o i : EReal)) (fun i => (u i : EReal)) (fun i => (w i : EReal)) y) (ix2 R l)
      = if R.val < 2048 then y (ix2 R l) + (add d o u w R l : EReal) else y (ix2 R l) := by
  unfold dns4
  by_cases hR : 1536 ≤ R.val ∧ R.val < 2048
  · obtain ⟨r, rfl⟩ : ∃ r, R = from_ 1536 (by decide) r := ⟨⟨R.val - 1536, by omega⟩, Fin.ext (by simp only [from_]; omega)⟩
    rw [if_pos (by omega)]
    refine (canon_hit 1536 (by decide) _ _ _ r l).trans ?_
    refine (congrFun (congrArg₂ (fun a b => k0_pay18 (F := Ideal) a _ b _ _) (ld_rows d 1536 (by decide) _) (ld_rows u 1536 (by decide) _)) (ix2 r l)).trans ?_
    refine (congrFun (dn_3 (fun i => d (ix2 (from_ 1536 (by decide) (i 0)) (i 1))) o (fun i => u (ix2 (from_ 1536 (by decide) (i 0)) (i 1))) w _) (ix2 r l)).trans ?_
    refine congrArg (· + _) ((readCov_rows arg 1536 (by decide) _ _ r l).trans ?_)
    rw [dns3_at, if_neg (by omega)]
  · refine (canon_miss 1536 R (by omega) _ _ _ l).trans ?_
    rw [dns3_at]
    by_cases h : R.val < 1536
    · rw [if_pos h, if_pos (by omega)]
    · rw [if_neg h, if_neg (by omega)]

theorem dns_at (R : Fin 2048) (l : Fin 1024) :
    View.canon (dns4 (F := Ideal) arg (fun i => (d i : EReal)) (fun i => (o i : EReal)) (fun i => (u i : EReal)) (fun i => (w i : EReal)) y) (ix2 R l)
      = y (ix2 R l) + (add d o u w R l : EReal) := by
  rw [dns4_at, if_pos R.isLt]

end

end Cert.KMlpIdeal.Stores

end
-- ==== Proof.MlpPoint.lean ====
/- What a point of the feedforward layer's backward reads, its arguments real arrays. -/
module

public import proofs.«01_k».proof.Proof.MlpRef
public import proofs.«01_k».proof.Proof.MlpStores
public import proofs.«01_k».proof.Proof.MlpBody

@[expose] public section

set_option maxRecDepth 65536

noncomputable section

open Idealize.ShloMosaic Idealize.ShloMosaic.TcCoe Idealize.SL.Sem

namespace Cert.MlpPoint

open Cert.KMlpIdeal Cert.KMlpIdeal.Gen Cert.Reals Cert.Mlp Cert.RMlpIdeal.Real

section

variable {F : FTy → Type} [FloatOps F] (m : (ℓ : Loc nD τ sig) → Buf (Elt F) ℓ) (c : Dev nD)

theorem normed_read : V m c main_v19 = truncf .bf16 (Cert.RMlpIdeal.Read.val_main_v15 (F := F) (m (c.tc.loc main_arg0)) (m (c.tc.loc main_arg1))) bitsLt_bf16_f32 := by
  entry_read
  sl_kernel_rfl

theorem relu_read : V m c main_v20 = truncf .bf16 (Cert.RMlpIdeal.Read.val_main_v17 (F := F) (m (c.tc.loc main_arg0)) (m (c.tc.loc main_arg1)) (m (c.tc.loc main_arg2)))
    bitsLt_bf16_f32 := by
  entry_read
  sl_kernel_rfl

end

theorem idx : ∀ t : Fin cfg0.N, win0_0.index t = ![t.val - 8, 0] ∧ win0_1.index t = ![0, 0] ∧ win0_2.index t = ![0, min t.val 7]
    ∧ win0_3.index t = ![0, 0] ∧ win0_4.index t = ![t.val - 8, 0] ∧ win0_5.index t = ![0, 0] ∧ win0_6.index t = ![min t.val 7, 0, 0]
    ∧ win0_7.index t = ![min t.val 7, 0, 0] ∧ win0_8.index t = ![t.val - 8, 0] ∧ win0_9.index t = ![min t.val 7, 0, 0]
    ∧ win0_10.index t = ![min t.val 7, 0, 0] ∧ win0_11.index t = ![0, 0] :=
  (by decide +kernel : ∀ t : Fin grid0.N, _)

theorem lt12 (t : Fin cfg0.N) : t.val < 12 := lt_of_lt_of_eq t.isLt N_0

/-- The slice of the hidden units a point reads; row `r` of its tile of rows. -/
def slice (t : Fin cfg0.N) : Fin 8 := ⟨min t.val 7, by omega⟩
def rowAt (t : Fin cfg0.N) (r : Fin 512) : Fin 2048 := ⟨(t.val - 8) * 512 + r.val, by have := lt12 t; omega⟩

variable (m : (ℓ : Loc nD τ sig) → Buf (Elt Ideal) ℓ) (c : Dev nD) (D : Data)

/-- The arguments are these reals. -/
structure Args : Prop where
  x : m ((c : Thread nD τ).loc main_arg0) = mat D.x
  g : m ((c : Thread nD τ).loc main_arg1) = vec D.g
  wi : m ((c : Thread nD τ).loc main_arg2) = mat D.wi
  wo : m ((c : Thread nD τ).loc main_arg3) = mat D.wo
  d : m ((c : Thread nD τ).loc main_arg4) = mat D.d

variable {m c D} (h : Args m c D)

include h

theorem normed_at : V m c main_v19 = mat D.nm := by
  rw [normed_read, h.x, h.g, nm_eq]
  funext i
  idx_vars i
  pointwise

theorem relu_at : V m c main_v20 = mat D.relu := by
  rw [relu_read, h.x, h.g, h.wi, relu_eq]
  funext i
  idx_vars i
  pointwise

theorem gain_at : V m c main_v21 = fun i : S1x1024.Idx => (D.g (i 1) : EReal) := by
  entry_read
  rw [h.g]
  funext i
  idx_vars i
  pointwise
  rfl

theorem cot_at : V m c main_v22 = mat D.d := by
  entry_read
  rw [h.d]
  funext i
  idx_vars i
  pointwise

theorem wi_at : V m c main_v23 = fun i : S8x1024x512.Idx => (D.wi (i 1) (Data.unit (i 0) (i 2)) : EReal) := by
  entry_read
  rw [h.wi]
  funext i
  idx_vars i
  pointwise
  rfl

theorem wo_at : V m c main_v24 = fun i : S8x512x1024.Idx => (D.wo (Data.unit (i 0) (i 1)) (i 2) : EReal) := by
  entry_read
  rw [h.wo]
  funext i
  idx_vars i
  pointwise
  rfl

variable (t : Fin cfg0.N)

theorem iblk0 : iblk m c 0 t = fun i : S512x1024.Idx => (D.x (rowAt t (i 0)) (i 1) : EReal) := by
  funext i
  have e : iblk m c 0 t i = m ((c : Thread nD τ).loc main_arg0) (ix2 (rowAt t (i 0)) (i 1)) := by
    blk_ext [iblk, V, idx t, rowAt]
  rw [e, h.x]
  rfl

theorem iblk1 : iblk m c 1 t = fun i : S2048x1024.Idx => (D.nm (i 0) (i 1) : EReal) := by
  funext i
  have e : iblk m c 1 t i = V m c main_v19 (ix2 (i 0) (i 1)) := by
    unfold iblk
    show ((cfg0.win 1).blk t).view.read (Elt Ideal) (V m c main_v19) i = _
    generalize V m c main_v19 = X
    blk_ext [idx t]
  rw [e, normed_at h]
  rfl

theorem iblk2 : iblk m c 2 t = fun i : S2048x512.Idx => (D.relu (i 0) (Data.unit (slice t) (i 1)) : EReal) := by
  funext i
  have e : iblk m c 2 t i = V m c main_v20 (ix2 (i 0) (Data.unit (slice t) (i 1))) := by
    unfold iblk
    show ((cfg0.win 2).blk t).view.read (Elt Ideal) (V m c main_v20) i = _
    generalize V m c main_v20 = X
    blk_ext [idx t, Data.unit, slice]
  rw [e, relu_at h]
  rfl

theorem iblk3 : iblk m c 3 t = fun i : S1x1024.Idx => (D.g (i 1) : EReal) := by
  funext i
  have e : iblk m c 3 t i = V m c main_v21 (ix2 0 (i 1)) := by
    unfold iblk
    show ((cfg0.win 3).blk t).view.read (Elt Ideal) (V m c main_v21) i = _
    generalize V m c main_v21 = X
    blk_ext [idx t]
  rw [e, gain_at h]
  rfl

theorem iblk4 : iblk m c 4 t = fun i : S512x1024.Idx => (D.d (rowAt t (i 0)) (i 1) : EReal) := by
  funext i
  have e : iblk m c 4 t i = m ((c : Thread nD τ).loc main_arg4) (ix2 (rowAt t (i 0)) (i 1)) := by
    blk_ext [iblk, V, idx t, rowAt]
  rw [e, h.d]
  rfl

theorem iblk5 : iblk m c 5 t = fun i : S2048x1024.Idx => (D.d (i 0) (i 1) : EReal) := by
  funext i
  have e : iblk m c 5 t i = V m c main_v22 (ix2 (i 0) (i 1)) := by
    unfold iblk
    show ((cfg0.win 5).blk t).view.read (Elt Ideal) (V m c main_v22) i = _
    generalize V m c main_v22 = X
    blk_ext [idx t]
  rw [e, cot_at h]
  rfl

theorem iblk6 : iblk m c 6 t = fun i : S1x1024x512.Idx => (D.wi (i 1) (Data.unit (slice t) (i 2)) : EReal) := by
  funext i
  have e : iblk m c 6 t i = V m c main_v23 (ix3 (slice t) (i 1) (i 2)) := by
    unfold iblk
    show ((cfg0.win 6).blk t).view.read (Elt Ideal) (V m c main_v23) i = _
    generalize V m c main_v23 = X
    blk_ext [idx t, slice]
  rw [e, wi_at h]
  rfl

theorem iblk7 : iblk m c 7 t = fun i : S1x512x1024.Idx => (D.wo (Data.unit (slice t) (i 1)) (i 2) : EReal) := by
  funext i
  have e : iblk m c 7 t i = V m c main_v24 (ix3 (slice t) (i 1) (i 2)) := by
    unfold iblk
    show ((cfg0.win 7).blk t).view.read (Elt Ideal) (V m c main_v24) i = _
    generalize V m c main_v24 = X
    blk_ext [idx t, slice]
  rw [e, wo_at h]
  rfl

end Cert.MlpPoint

end
-- ==== Proof.MlpLeft.lean ====
/- What a point of the feedforward layer's backward leaves, its arguments real arrays. -/
module

public import proofs.«01_k».proof.Proof.MlpPoint
public import Idealize.ShloMosaic.Lib.Pipeline.ReadBack

@[expose] public section

set_option maxRecDepth 65536

noncomputable section

open Idealize.ShloMosaic Idealize.ShloMosaic.TcCoe Idealize.SL.Sem

namespace Cert.MlpLeft

open Cert.KMlpIdeal Cert.KMlpIdeal.Gen Cert.KMlpIdeal.Body Cert.KMlpIdeal.Pay Cert.KMlpIdeal.Stores Cert.Reals Cert.Mlp Cert.MlpPoint

section

variable {F : FTy → Type} [FloatOps F] (m : (ℓ : Loc nD τ sig) → Buf (Elt F) ℓ) (c : Dev nD) (t : Fin cfg0.N)

/-- The cotangent of the slice, as a load of the whole second scratch buffer finds it. -/
def kept : Vec F S2048x512 .bf16 :=
  (View.whole cc0_scratch1).readCov (dzs (iblk m c 5 t) (iblk m c 7 t) (iblk m c 2 t)) (Rect.unit (s := S2048x512) ![0, 0] ![2048, 512] inb_S2048x512_S2048x512_0_0).toLoadRect

/-- The rows of the summed cotangent that a tile loads. -/
def rows (y : Vec F S2048x1024 .f32) (h : 8 ≤ t.val) : Vec F S512x1024 .f32 :=
  View.ld y (Rect.unit (s := S2048x1024) (k0_off1 (grid0.coords t)) ![512, 1024] (k0_off1_inb (grid0.coords t) ((cond3_iff t).mpr h)))

theorem leftA_dwi (h : t.val = 0) : (leftA m c t h).2.1 = k0_pay3 (iblk m c 1 t) (kept m c t) := by
  unfold leftA; dsimp only; unfold ranA runA; dsimp only
  frame_out
  rfl
theorem leftA_dwo (h : t.val = 0) : (leftA m c t h).2.2.1 = k0_pay2 (k0_pay19 (iblk m c 2 t)) (iblk m c 5 t) := by
  unfold leftA; dsimp only; unfold ranA runA; dsimp only
  frame_out
theorem leftA_sum (h : t.val = 0) : (leftA m c t h).2.2.2.2
    = View.canon (dns4 (View.whole cc0_scratch0) (iblk m c 5 t) (iblk m c 7 t) (iblk m c 2 t) (iblk m c 6 t) k0_pay1) := by
  unfold leftA; dsimp only; unfold ranA runA; dsimp only
  frame_out
  rfl
theorem leftB_dwi (h : 0 < t.val ∧ t.val < 8) (y : Outs F) : (leftB m c t h y).2.1 = k0_pay3 (iblk m c 1 t) (kept m c t) := by
  unfold leftB; dsimp only; unfold ranB runB; dsimp only
  frame_out
  rfl
theorem leftB_dwo (h : 0 < t.val ∧ t.val < 8) (y : Outs F) : (leftB m c t h y).2.2.1 = k0_pay2 (k0_pay19 (iblk m c 2 t)) (iblk m c 5 t) := by
  unfold leftB; dsimp only; unfold ranB runB; dsimp only
  frame_out
theorem leftB_sum (h : 0 < t.val ∧ t.val < 8) (y : Outs F) : (leftB m c t h y).2.2.2.2
    = View.canon (dns4 (View.whole cc0_scratch0) (iblk m c 5 t) (iblk m c 7 t) (iblk m c 2 t) (iblk m c 6 t) y.2.2.2.2) := by
  unfold leftB; dsimp only; unfold ranB runB; dsimp only
  frame_out
  rfl
theorem leftC_dx (h : t.val = 8) (y : Outs F) : (leftC m c t h y).1 = k0_pay23 (iblk m c 0 t) (iblk m c 3 t) (rows t y.2.2.2.2 (by omega)) (iblk m c 4 t) := by
  unfold leftC; dsimp only; unfold ranC runC; dsimp only
  frame_out
  rw [read_unread_whole]
  rfl
theorem leftC_dg (h : t.val = 8) (y : Outs F) : (leftC m c t h y).2.2.2.1 = k0_pay4 (k0_pay22 (iblk m c 0 t) (rows t y.2.2.2.2 (by omega))) k0_pay20 := by
  unfold leftC; dsimp only; unfold ranC runC; dsimp only
  frame_out
  rw [read_unread_whole]
  rfl
theorem leftD_dx (h : 8 < t.val) (y : Outs F) : (leftD m c t h y).1 = k0_pay23 (iblk m c 0 t) (iblk m c 3 t) (rows t y.2.2.2.2 (by omega)) (iblk m c 4 t) := by
  unfold leftD; dsimp only; unfold ranD runD; dsimp only
  frame_out
  rw [read_unread_whole]
  rfl
theorem leftD_dg (h : 8 < t.val) (y : Outs F) : (leftD m c t h y).2.2.2.1 = k0_pay4 (k0_pay22 (iblk m c 0 t) (rows t y.2.2.2.2 (by omega))) y.2.2.2.1 := by
  unfold leftD; dsimp only; unfold ranD runD; dsimp only
  frame_out
  rw [read_unread_whole]
  rfl

theorem kept_eq : kept m c t = View.canon (dzs (iblk m c 5 t) (iblk m c 7 t) (iblk m c 2 t)) := by
  unfold kept
  rw [View.readCov_eq_canon']
  funext j
  refine congrArg (View.canon _) ?_
  funext a
  apply Fin.ext
  fin_cases a
  · show 0 + 1 * (j 0).val = (j 0).val; omega
  · show 0 + 1 * (j 1).val = (j 1).val; omega

theorem off : ∀ t : Fin cfg0.N, 8 ≤ t.val → k0_off1 (grid0.coords t) = ![(t.val - 8) * 512, 0] := by decide +kernel

theorem rows_eq (y : Vec F S2048x1024 .f32) (h : 8 ≤ t.val) : rows t y h = fun i : S512x1024.Idx => y (ix2 (rowAt t (i 0)) (i 1)) := by
  funext i
  unfold rows
  refine congrArg y ?_
  have e := off t h
  funext a
  apply Fin.ext
  fin_cases a
  · show k0_off1 (grid0.coords t) 0 + 1 * (i 0).val = _
    rw [e]; show (t.val - 8) * 512 + 1 * (i 0).val = (t.val - 8) * 512 + (i 0).val; omega
  · show k0_off1 (grid0.coords t) 1 + 1 * (i 1).val = _
    rw [e]; show 0 + 1 * (i 1).val = (i 1).val; omega

end

variable {m : (ℓ : Loc nD τ sig) → Buf (Elt Ideal) ℓ} {c : Dev nD} {D : Data} (h : Args m c D) (t : Fin cfg0.N)

include h

theorem kept_at : kept m c t = fun i : S2048x512.Idx => (D.dz (i 0) (Data.unit (slice t) (i 1)) : EReal) := by
  rw [kept_eq, iblk2 h, iblk5 h, iblk7 h]
  funext i
  idx_vars i
  exact dzs_at _ _ _ i0 i1

/-! ## The points of the slices -/

theorem dwi_at (ht : t.val < 8) : (left m c t.val t.isLt).2.1 = fun i : S1x1024x512.Idx => (D.dwi (i 1) (Data.unit (slice t) (i 2)) : EReal) := by
  have e : (left m c t.val t.isLt).2.1 = k0_pay3 (iblk m c 1 t) (kept m c t) := by
    by_cases h0 : t.val = 0
    · rw [left_A m c t h0, leftA_dwi]
    · rw [left_B m c t ⟨by omega, ht⟩, leftB_dwi]
  rw [e, kept_at h, iblk1 h]
  exact dwi_eq _ _

theorem dwo_at (ht : t.val < 8) : (left m c t.val t.isLt).2.2.1 = fun i : S1x512x1024.Idx => (D.dwo (Data.unit (slice t) (i 1)) (i 2) : EReal) := by
  have e : (left m c t.val t.isLt).2.2.1 = k0_pay2 (k0_pay19 (iblk m c 2 t)) (iblk m c 5 t) := by
    by_cases h0 : t.val = 0
    · rw [left_A m c t h0, leftA_dwo]
    · rw [left_B m c t ⟨by omega, ht⟩, leftB_dwo]
  rw [e, iblk2 h, iblk5 h]
  exact dwo_eq _ _

theorem added (y : S2048x1024.Idx → EReal) (r : Fin 2048) (l : Fin 1024) :
    View.canon (dns4 (F := Ideal) (View.whole cc0_scratch0) (iblk m c 5 t) (iblk m c 7 t) (iblk m c 2 t) (iblk m c 6 t) y) (ix2 r l)
      = y (ix2 r l) + (D.part (slice t) r l : EReal) := by
  rw [iblk2 h, iblk5 h, iblk6 h, iblk7 h]
  exact dns_at _ _ _ _ _ y r l

/-- After slice `n` the first scratch buffer holds the sum over the slices so far. -/
theorem sum_at (r : Fin 2048) (l : Fin 1024) : ∀ (n : ℕ) (hn : n < cfg0.N) (h8 : n < 8),
    (left m c n hn).2.2.2.2 (ix2 r l) = ((∑ s : Fin (n + 1), D.part ⟨s.val, by omega⟩ r l : ℝ) : EReal)
  | 0, hn, _ => by
    rw [left_A m c ⟨0, hn⟩ rfl, leftA_sum, added h, zero_sum, zero_add]
    exact congrArg (fun x : ℝ => (x : EReal)) (Fin.sum_univ_one (fun s : Fin 1 => D.part ⟨s.val, by omega⟩ r l)).symm
  | n + 1, hn, h8 => by
    rw [left_B m c ⟨n + 1, hn⟩ ⟨Nat.succ_pos n, h8⟩, leftB_sum, added h]
    show (left m c n _).2.2.2.2 (ix2 r l) + _ = _
    rw [sum_at r l n _ (by omega), show slice ⟨n + 1, hn⟩ = ⟨n + 1, h8⟩ from Fin.ext (show min (n + 1) 7 = n + 1 by omega)]
    refine Eq.trans ?_ (congrArg _ (Fin.sum_univ_castSucc fun s : Fin (n + 2) => D.part ⟨s.val, by omega⟩ r l).symm)
    rw [EReal.coe_add]
    rfl

/-! ## The points of the tiles -/

/-- Every tile finds there the whole sum. -/
theorem total_at : ∀ (n : ℕ) (hn : n < cfg0.N), 7 ≤ n → (left m c n hn).2.2.2.2 = fun i : S2048x1024.Idx => (D.dnm (i 0) (i 1) : EReal)
  | n, hn, h7 => by
    by_cases h' : n = 7
    · subst h'
      funext i
      idx_vars i
      rw [sum_at h i0 i1 7 hn (by decide), ← D.sum_part]
    · obtain ⟨k, rfl⟩ : ∃ k, n = k + 1 := ⟨n - 1, by omega⟩
      have ih := total_at k (Nat.lt_of_succ_lt hn) (by omega)
      by_cases h8 : k + 1 = 8
      · rw [left_C m c ⟨k + 1, hn⟩ h8]; dsimp only [leftC, leftBefore]; exact ih
      · rw [left_D m c ⟨k + 1, hn⟩ (show 8 < k + 1 by omega)]; dsimp only [leftD, leftBefore]; exact ih

theorem loaded (ht : 8 ≤ t.val) : rows t (leftBefore m c t).2.2.2.2 ht = fun i : S512x1024.Idx => (D.dnm (rowAt t (i 0)) (i 1) : EReal) := by
  rw [rows_eq, total_at h _ _ (by omega)]
  rfl

theorem dx_at (ht : 8 ≤ t.val) (r : Fin 512) (l : Fin 1024) : (left m c t.val t.isLt).1 (ix2 r l) = (D.dx (rowAt t r) l : EReal) := by
  have e : (left m c t.val t.isLt).1 = k0_pay23 (iblk m c 0 t) (iblk m c 3 t) (rows t (leftBefore m c t).2.2.2.2 ht) (iblk m c 4 t) := by
    by_cases h8 : t.val = 8
    · rw [left_C m c t h8, leftC_dx]
    · rw [left_D m c t (by omega), leftD_dx]
  rw [e, loaded h, iblk0 h, iblk3 h, iblk4 h]
  exact Pay.dx_at _ _ _ _ r l

omit h in
theorem rowAt_val (r : Fin 512) : (rowAt t r).val = (t.val - 8) * 512 + r.val := rfl

/-- What a tile adds to the gain's gradient. -/
def colsum (D : Data) (p : Fin 4) (j : S8x1024.Idx) : ℝ :=
  if (j 0).val = 0 then ∑ r : Fin 512, (fun R => D.dnm R (j 1) * D.x R (j 1) * Norm.inv (D.x R)) ⟨p.val * 512 + r.val, by omega⟩ else 0

theorem dg_step (y : S8x1024.Idx → EReal) (ht : 8 ≤ t.val) (j : S8x1024.Idx) :
    k0_pay4 (F := Ideal) (k0_pay22 (iblk m c 0 t) (rows t (leftBefore m c t).2.2.2.2 ht)) y j = y j + (colsum D ⟨t.val - 8, by have := lt12 t; omega⟩ j : EReal) := by
  rw [loaded h, iblk0 h]
  exact Pay.dg_at _ _ y j

theorem dg_first (ht : t.val = 8) (j : S8x1024.Idx) : (left m c t.val t.isLt).2.2.2.1 j = (colsum D ⟨t.val - 8, by have := lt12 t; omega⟩ j : EReal) := by
  rw [left_C m c t ht, leftC_dg, dg_step h t _ (by omega), zero_dg, zero_add]

theorem dg_next (ht : 8 < t.val) (j : S8x1024.Idx) : (left m c t.val t.isLt).2.2.2.1 j = (leftBefore m c t).2.2.2.1 j + (colsum D ⟨t.val - 8, by have := lt12 t; omega⟩ j : EReal) := by
  rw [left_D m c t ht, leftD_dg, dg_step h t _ (by omega)]

theorem dg_sum (j : S8x1024.Idx) (p : ℕ) : ∀ (hp : p < 4) (n : ℕ) (hn : n < cfg0.N), n = 8 + p →
    (left m c n hn).2.2.2.1 j = ((∑ q : Fin (p + 1), colsum D ⟨q.val, by omega⟩ j : ℝ) : EReal) := by
  induction p with
  | zero =>
    intro _ n hn e
    refine (dg_first h ⟨n, hn⟩ e j).trans ?_
    rw [show (⟨(⟨n, hn⟩ : Fin cfg0.N).val - 8, by have := lt12 ⟨n, hn⟩; omega⟩ : Fin 4) = ⟨0, by decide⟩ from Fin.ext (by simp only; omega)]
    exact congrArg (fun x : ℝ => (x : EReal)) (Fin.sum_univ_one fun q : Fin 1 => colsum D ⟨q.val, by omega⟩ j).symm
  | succ p ih =>
    intro hp n hn e
    refine (dg_next h ⟨n, hn⟩ (show 8 < n by omega) j).trans ?_
    rw [ih (by omega) _ _ (show n - 1 = 8 + p by omega),
      show (⟨(⟨n, hn⟩ : Fin cfg0.N).val - 8, by have := lt12 ⟨n, hn⟩; omega⟩ : Fin 4) = ⟨p + 1, hp⟩ from Fin.ext (by simp only; omega)]
    refine Eq.trans ?_ (congrArg _ (Fin.sum_univ_castSucc fun q : Fin (p + 2) => colsum D ⟨q.val, by omega⟩ j).symm)
    rw [EReal.coe_add]
    rfl

theorem dg_last (j : S8x1024.Idx) (n : ℕ) (hn : n < cfg0.N) (e : n = 11) : (left m c n hn).2.2.2.1 j = ((if (j 0).val = 0 then D.dg (j 1) else 0 : ℝ) : EReal) := by
  refine (dg_sum h j 3 (by decide) n hn e).trans (congrArg _ ?_)
  unfold colsum
  split
  · exact sum_blocks rfl fun R => D.dnm R (j 1) * D.x R (j 1) * Norm.inv (D.x R)
  · exact Finset.sum_const_zero

/-- The tiles leave this gradient as the last slice left it. -/
theorem dwi_last : ∀ (n : ℕ) (hn : n < cfg0.N), 7 ≤ n → (left m c n hn).2.1 = fun i : S1x1024x512.Idx => (D.dwi (i 1) (Data.unit 7 (i 2)) : EReal)
  | n, hn, h7 => by
    by_cases h' : n = 7
    · rw [show (7 : Fin 8) = slice ⟨n, hn⟩ from Fin.ext (show 7 = min n 7 by omega)]
      exact dwi_at h ⟨n, hn⟩ (show n < 8 by omega)
    · obtain ⟨k, rfl⟩ : ∃ k, n = k + 1 := ⟨n - 1, by omega⟩
      have ih := dwi_last k (Nat.lt_of_succ_lt hn) (by omega)
      by_cases h8 : k + 1 = 8
      · rw [left_C m c ⟨k + 1, hn⟩ h8]; dsimp only [leftC, leftBefore]; exact ih
      · rw [left_D m c ⟨k + 1, hn⟩ (show 8 < k + 1 by omega)]; dsimp only [leftD, leftBefore]; exact ih

/-- The tiles leave this gradient as the last slice left it. -/
theorem dwo_last : ∀ (n : ℕ) (hn : n < cfg0.N), 7 ≤ n → (left m c n hn).2.2.1 = fun i : S1x512x1024.Idx => (D.dwo (Data.unit 7 (i 1)) (i 2) : EReal)
  | n, hn, h7 => by
    by_cases h' : n = 7
    · rw [show (7 : Fin 8) = slice ⟨n, hn⟩ from Fin.ext (show 7 = min n 7 by omega)]
      exact dwo_at h ⟨n, hn⟩ (show n < 8 by omega)
    · obtain ⟨k, rfl⟩ : ∃ k, n = k + 1 := ⟨n - 1, by omega⟩
      have ih := dwo_last k (Nat.lt_of_succ_lt hn) (by omega)
      by_cases h8 : k + 1 = 8
      · rw [left_C m c ⟨k + 1, hn⟩ h8]; dsimp only [leftC, leftBefore]; exact ih
      · rw [left_D m c ⟨k + 1, hn⟩ (show 8 < k + 1 by omega)]; dsimp only [leftD, leftBefore]; exact ih

end Cert.MlpLeft

end
-- ==== Proof.MlpValue.lean ====
/- The arrays that the feedforward layer's backward writes, its arguments real arrays. -/
module

public import proofs.«01_k».proof.Proof.MlpLeft

@[expose] public section

set_option maxRecDepth 65536

noncomputable section

open Idealize.ShloMosaic Idealize.ShloMosaic.TcCoe Idealize.SL.Sem
open Idealize.ShloMosaic.Pipeline (Dat)
open Cert.RMlpIdeal.Real (mat vec)

namespace Cert.MlpValue

open Cert.KMlpIdeal Cert.KMlpIdeal.Gen Cert.KMlpIdeal.Body Cert.Reals Cert.Mlp Cert.MlpPoint Cert.MlpLeft

variable {m : (ℓ : Loc nD τ sig) → Buf (Elt Ideal) ℓ} {c : Dev nD} {D : Data} (h : Args m c D)

/-! ## When the blocks are written back -/

theorem flushed8 : ∀ t : Fin cfg0.N, (cfg0.win 8).flush t = true → 8 ≤ t.val := by decide +kernel
theorem flushed9 : ∀ t : Fin cfg0.N, (cfg0.win 9).flush t = true → t.val < 7 ∨ t.val = 11 := by decide +kernel
theorem flushed10 : ∀ t : Fin cfg0.N, (cfg0.win 10).flush t = true → t.val < 7 ∨ t.val = 11 := by decide +kernel
theorem flushed11 : ∀ t : Fin cfg0.N, (cfg0.win 11).flush t = true → t.val = 11 := by decide +kernel

theorem index11 : ∀ t : Fin cfg0.N, win0_11.index t 0 = 0 := by decide +kernel

theorem slice_last (t : Fin cfg0.N) (ht : t.val = 11) : slice t = 7 := Fin.ext (show min t.val 7 = 7 by omega)

include h

/-- At every writing back the staged block of the first weight's gradient is its slice. -/
theorem dwi_flushed (t : Fin cfg0.N) (ht : t.val < 7 ∨ t.val = 11) :
    (left m c t.val t.isLt).2.1 = fun i : S1x1024x512.Idx => (D.dwi (i 1) (Data.unit (slice t) (i 2)) : EReal) := by
  rcases ht with ht | ht
  · exact dwi_at h t (by omega)
  · rw [slice_last t ht]; exact dwi_last h _ _ (by omega)

theorem dwo_flushed (t : Fin cfg0.N) (ht : t.val < 7 ∨ t.val = 11) :
    (left m c t.val t.isLt).2.2.1 = fun i : S1x512x1024.Idx => (D.dwo (Data.unit (slice t) (i 1)) (i 2) : EReal) := by
  rcases ht with ht | ht
  · exact dwo_at h t (by omega)
  · rw [slice_last t ht]; exact dwo_last h _ _ (by omega)

theorem final8 : (dats m 0 c).arrAt 8 (cfgs 0).N = mat D.dx := by
  refine (dats m 0 c).arrAt_eq_of_covers 8 _ (by decide +kernel) fun t hf y => ?_
  have ht := flushed8 t hf
  blk_simp
  rw [after8, show (win0_8.blk t).view.emb y = ix2 (rowAt t (y 0)) (y 1) by blk_ext [idx t, rowAt]]
  idx_vars y
  exact dx_at h t ht y0 y1

theorem final9 : (dats m 0 c).arrAt 9 (cfgs 0).N = fun i : S8x1024x512.Idx => (D.dwi (i 1) (Data.unit (i 0) (i 2)) : EReal) := by
  refine (dats m 0 c).arrAt_eq_of_covers 9 _ (by decide +kernel) fun t hf y => ?_
  have ht := flushed9 t hf
  blk_simp
  rw [after9, show (win0_9.blk t).view.emb y = ix3 (slice t) (y 1) (y 2) by blk_ext [idx t, slice], dwi_flushed h t ht]
  rfl

theorem final10 : (dats m 0 c).arrAt 10 (cfgs 0).N = fun i : S8x512x1024.Idx => (D.dwo (Data.unit (i 0) (i 1)) (i 2) : EReal) := by
  refine (dats m 0 c).arrAt_eq_of_covers 10 _ (by decide +kernel) fun t hf y => ?_
  have ht := flushed10 t hf
  blk_simp
  rw [after10, show (win0_10.blk t).view.emb y = ix3 (slice t) (y 1) (y 2) by blk_ext [idx t, slice], dwo_flushed h t ht]
  rfl

theorem final11 : (dats m 0 c).arrAt 11 (cfgs 0).N = fun i : S8x1024.Idx => ((if (i 0).val = 0 then D.dg (i 1) else 0 : ℝ) : EReal) := by
  refine (dats m 0 c).arrAt_eq_of_covers 11 _ (by decide +kernel) fun t hf y => ?_
  have ht := flushed11 t hf
  blk_simp
  have e : (win0_11.blk t).view.emb y = ix2 (y 0) (y 1) := by blk_ext [idx t]
  rw [after11, index11, Nat.zero_mul, Nat.zero_add, e]
  exact dg_last h y _ _ ht

end Cert.MlpValue

end
-- ==== Proof.MlpClaim.lean ====
/- The feedforward layer's backward: the kernel's results are the reference's. -/
module

public import proofs.«01_k».proof.Defs
public import proofs.«01_k».proof.Proof.MlpValue
public import proofs.«01_k».proof.Proof.MlpRef
public import proofs.«01_k».proof.Proof.Gen.RMlpIdeal.Run
public import proofs.«01_k».proof.Proof.Gen.Pre_finite_mlp

@[expose] public section

set_option maxRecDepth 16384

noncomputable section

open Idealize.ShloMosaic Idealize.ShloMosaic.TcCoe Idealize.SL.Sem

namespace Cert.MlpClaim

open Cert.KMlpIdeal Cert.Reals Cert.Mlp Cert.MlpPoint

theorem real_mat {n l : ℕ} {X : FVec Ideal ⟨2, ![n, l]⟩ .f32} (h : ∃ x : Shape.Idx ⟨2, ![n, l]⟩ → ℝ, X = fun i => (x i : EReal)) :
    ∃ x : Fin n → Fin l → ℝ, X = fun i => (x (i 0) (i 1) : EReal) := by
  obtain ⟨x, rfl⟩ := h
  exact ⟨fun r s => x (ix2 r s), funext fun i => congrArg (fun j => (x j : EReal)) (by funext a; fin_cases a <;> rfl)⟩

theorem real_vec {X : FVec Ideal ⟨1, ![1024]⟩ .f32} (h : ∃ x : Shape.Idx ⟨1, ![1024]⟩ → ℝ, X = fun i => (x i : EReal)) :
    ∃ x : Fin 1024 → ℝ, X = fun i => (x (i 0) : EReal) := by
  obtain ⟨x, rfl⟩ := h
  exact ⟨fun r => x (ix1 r), funext fun i => congrArg (fun j => (x j : EReal)) (by funext a; fin_cases a; rfl)⟩

theorem reals (m : (ℓ : Loc nD τ sig) → Buf (Elt Ideal) ℓ) (h : Cert.Pre_KMlpIdeal_finite_mlp m) (c : Dev nD) : ∃ D : Data, Args m c D := by
  have e := congrFun (h c) (fun a => a.elim0)
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  haveI : Subsingleton Cert.Pre_finite_mlp.S_.Idx := ⟨fun a b => funext fun i => i.elim0⟩
  obtain ⟨x, hx⟩ := real_mat (reals_of_finite e0 fun _ => rfl)
  obtain ⟨g, hg⟩ := real_vec (reals_of_finite e1 fun _ => rfl)
  obtain ⟨wi, hwi⟩ := real_mat (reals_of_finite e2 fun _ => rfl)
  obtain ⟨wo, hwo⟩ := real_mat (reals_of_finite e3 fun _ => rfl)
  obtain ⟨d, hd⟩ := real_mat (reals_of_finite e4 fun _ => rfl)
  exact ⟨{ x, g, wi, wo, d }, hx, hg, hwi, hwo, hd⟩

theorem frame_reference : Cert.quiescent_RMlpIdeal := fun m ρ _ =>
  (θ_run _ _ _).mono (fun r h => ⟨fun c => (h c).2.2.2.2, sem_eq_zero_of_no_sems (by decide) r.2⟩) (Cert.RMlpIdeal.Value.run m ρ)

set_option maxHeartbeats 4000000 in
theorem algebraic : Cert.algebraic_KMlpIdeal_RMlpIdeal_pre_finite_mlp := by
  pair_intro
  · run_from Cert.KMlpIdeal.Body.run_main m g
  · run_from Cert.RMlpIdeal.Value.run m' g'
    all_goals obtain ⟨D, h⟩ := reals m hpre c
    · refine (Cert.RMlpIdeal.Read.val_main_v56_eq _ _).trans ?_
      rw [MlpValue.final8 h, (hagree c).1, (hagree c).2.1, (hagree c).2.2.1, (hagree c).2.2.2.1, (hagree c).2.2.2.2, h.x, h.g, h.wi, h.wo, h.d]
      exact Cert.RMlpIdeal.Real.dx_eq D
    · refine (Cert.RMlpIdeal.Read.val_main_v59_eq _ _ _ _ _).trans ?_
      rw [MlpValue.final9 h, h.x, h.g, h.wi, h.wo, h.d]
      exact Cert.RMlpIdeal.Real.dwi_eq D
    · refine (Cert.RMlpIdeal.Read.val_main_v61_eq _ _ _ _).trans ?_
      rw [MlpValue.final10 h, h.x, h.g, h.wi, h.d]
      exact Cert.RMlpIdeal.Real.dwo_eq D
    · refine (Cert.RMlpIdeal.Read.val_main_v63_eq _ _ _ _ _).trans ?_
      rw [MlpValue.final11 h, h.x, h.g, h.wi, h.wo, h.d]
      exact funext (Cert.RMlpIdeal.Real.dg_at D)

end Cert.MlpClaim

end
-- ==== Proof.NormValue.lean ====
/- The norm before the state space layer: the array that the forward kernel writes is the reference's, entry by entry. -/
module

public import proofs.«01_k».proof.Proof.Gen.KNormIdeal.Value
public import proofs.«01_k».proof.Proof.Gen.RNormIdeal.Read
public import proofs.«01_k».proof.Proof.Reals
public import Idealize.ShloMosaic.Lib.Pipeline.ValueKit
public import Idealize.ShloMosaic.Lib.WholeRead

@[expose] public section

set_option maxRecDepth 65536

noncomputable section

open Idealize.ShloMosaic Idealize.ShloMosaic.TcCoe Idealize.ShloMosaic.Tactic Idealize.SL.Sem

namespace Cert.NormValue

open Cert.KNormIdeal Cert.KNormIdeal.Gen Cert.Reals
open Cert.RNormIdeal.Read

/-- Rows of an array; a vector as a row. -/
def rows (ρ : Fin 512 → Fin 2048) (x : S2048x1024.Idx → EReal) : S512x1024.Idx → EReal := fun i => x (ix2 (ρ (i 0)) (i 1))
def row (g : S1024.Idx → EReal) : S1x1024.Idx → EReal := fun i => g (ix1 (i 1))

/-- What the kernel computes from rows of its input. -/
theorem norm_rows (x : S2048x1024.Idx → EReal) (g : S1024.Idx → EReal) (ρ : Fin 512 → Fin 2048) :
    k0_pay1 (F := Ideal) (rows ρ x) (row g) = rows ρ (val_main_v12 (F := Ideal) x g) := by
  funext i
  unfold rows row
  idx_vars i
  pointwise [k0_pay1, val_main_v12, val_main_v11, val_main_v10, val_main_v9, val_main_v8,
    val_main_v7, val_main_v6, val_main_v5, val_main_v4, val_main_v3, val_main_v2, val_main_v1, val_main_v0, val_main_cst, val_main_cst_0, val_main_cst_1]

variable (m : (ℓ : Loc nD τ sig) → Buf (Elt Ideal) ℓ) (c : Dev nD) (t : Fin cfg0.N)

/-- The arguments: the layer's input and the norm's gain. -/
def x : S2048x1024.Idx → EReal := m ((c : Thread nD τ).loc main_arg0)
def g : S1024.Idx → EReal := m ((c : Thread nD τ).loc main_arg1)

theorem idx : ∀ t : Fin cfg0.N, win0_0.index t = ![t.val, 0] ∧ win0_1.index t = ![0, 0] ∧ win0_2.index t = ![t.val, 0] :=
  (by decide +kernel : ∀ t : Fin grid0.N, _)

theorem lt4 (t : Fin cfg0.N) : t.val < 4 := lt_of_lt_of_eq t.isLt N_0

def rowAt (t : Fin cfg0.N) (r : Fin 512) : Fin 2048 := ⟨t.val * 512 + r.val, by have := lt4 t; omega⟩

theorem iblk0 : iblk m c 0 t = rows (rowAt t) (x m c) := by
  funext i
  have e : iblk m c 0 t i = V m c main_arg0 (ix2 (rowAt t (i 0)) (i 1)) := by
    unfold iblk
    show ((cfg0.win 0).blk t).view.read (Elt Ideal) (V m c main_arg0) i = _
    generalize V m c main_arg0 = X
    blk_ext [idx t, rowAt]
  exact e.trans (congrFun (Gen.V_main_arg0 m c) _)

theorem gain_at : V m c main_v0 = row (g m c) := by
  simp only [V, hostOps0]
  entry_read
  funext i
  unfold row g
  idx_vars i
  pointwise

theorem iblk1 : iblk m c 1 t = row (g m c) := by
  rw [← gain_at m c]
  funext i
  unfold iblk
  show ((cfg0.win 1).blk t).view.read (Elt Ideal) (V m c main_v0) i = _
  generalize V m c main_v0 = X
  blk_ext [idx t]

theorem final2 : (dats m 0 c).arrAt 2 (cfgs 0).N = val_main_v12 (F := Ideal) (x m c) (g m c) := by
  refine (dats m 0 c).arrAt_eq_of_covers 2 _ (by decide +kernel) fun t _ y => ?_
  blk_simp
  rw [show (win0_2.blk t).view.emb y = ix2 (rowAt t (y 0)) (y 1) by blk_ext [idx t, rowAt]]
  rw [after0_2]
  rw [iblk0, iblk1]
  frame_out
  exact congrFun (norm_rows _ _ _) y

end Cert.NormValue

end
-- ==== Proof.NormClaim.lean ====
/- The norm before the state space layer, forward: the kernel's result is the reference's. -/
module

public import proofs.«01_k».proof.Defs
public import proofs.«01_k».proof.Proof.NormValue
public import proofs.«01_k».proof.Proof.Gen.RNormIdeal.Run

@[expose] public section

set_option maxRecDepth 16384

noncomputable section

open Idealize.ShloMosaic Idealize.ShloMosaic.TcCoe Idealize.SL.Sem

namespace Cert.NormClaim

open Cert.KNormIdeal

theorem frame_reference : Cert.quiescent_RNormIdeal := fun m ρ _ =>
  (θ_run _ _ _).mono (fun r h => ⟨fun c => (h c).2, sem_eq_zero_of_no_sems (by decide) r.2⟩) (Cert.RNormIdeal.Value.run m ρ)

set_option maxHeartbeats 4000000 in
theorem algebraic : Cert.algebraic_KNormIdeal_RNormIdeal := by
  pair_intro
  · run_from Cert.KNormIdeal.Gen.run_main m g
  · run_from Cert.RNormIdeal.Value.run m' g'
    refine (Cert.RNormIdeal.Read.val_main_v12_eq _ _).trans ?_
    rw [NormValue.final2]
    rfl

end Cert.NormClaim

end
-- ==== Proof.FwdRun.lean ====
module

public import proofs.«01_k».proof.Proof.Gen.KFwdIdeal.Frame
public import proofs.«01_k».proof.Proof.Gen.KFwdIdeal.Skeleton
public import Idealize.ShloMosaic.Lib.Pipeline.ValueKit

@[expose] public section

set_option maxRecDepth 65536

noncomputable section

namespace Cert.KFwdIdeal.Body

open Cert.KFwdIdeal Cert.KFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole buffer holding `y` is what one store of `y` leaves. -/
theorem refill {s : Shape} {e : EltTy} (M : Memref sig .tc .vmem s e) (hM : M.IsWhole) (y : Vec F s e) {off : Fin s.rank → ℕ}
    (inb : ∀ a, off a + s.size a ≤ s.size a) (h : ∀ a, off a = 0) :
    hM.unread y = M.view.writes (Elt F) M.view.junk [⟨Rect.unit off s.size inb, y⟩] := by
  refine (hM.eq_unread ?_).symm
  rw [View.read_writes_eq_canon _ _ _ fun i => ⟨_, List.mem_cons_self, ?_⟩]
  · exact View.canon_cons_unit_lit inb y [] h
  · exact (Rect.unit off s.size inb).mem_set.mpr fun a => ⟨i a, (i a).isLt, by simp [Rect.unit, h]⟩

theorem cond1_iff : ∀ t : Fin cfg0.N, k0_cond1 (grid0.coords t) = 1#1 ↔ t.val % 8 = 0 := by decide +kernel
theorem cond2_iff : ∀ t : Fin cfg0.N, k0_cond2 (grid0.coords t) = 1#1 ↔ t.val % 8 = 7 := by decide +kernel

set_option maxHeartbeats 4000000 in
/-- At the first slice of a tile of rows: the rows are normed and kept, the sum over the slices is set to zero, then the first slice adds its part. The pieces each output is left with are found by the run. -/
noncomputable def runA (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x512 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1024x512 .bf16) (harg7 : arg7.IsWhole) (arg8 : Memref sig .tc .vmem S1024x1024 .f32) (harg8 : arg8.IsWhole) (arg9 : Memref sig .tc .vmem S1024x1024 .f32) (harg9 : arg9.IsWhole)
    (hc1 : k0_cond1 i = 1#1) (hc2 : ¬k0_cond2 i = 1#1) (x2 : Vec F S1024x1024 .f32) (x3 : Vec F S1x1024 .f32) (x4 : Vec F S1x1024x512 .bf16) (x5 : Vec F S1x512x1024 .bf16) :
    Σ' (L6 : List (View.Piece (Elt F) S1024x1024 .bf16)), Σ' (L7 : List (View.Piece (Elt F) S1024x512 .bf16)), { L9 : List (View.Piece (Elt F) S1024x1024 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg9 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg9.view.loc (c : Thread nD τ) ↦[arg9.view.set]{fullShare} arg9.view.writes (Elt F) f L9)) -∗ K ⟨⟩))
          ⊢ wp frame (wpE (defs₀ (F := F)) Variants.none c none) E (cc0_mlp_fwd0 i arg2 harg2 arg3 harg3 arg4 harg4 arg5 harg5 arg6 harg6 arg7 harg7 arg8 harg8 arg9 harg9) K } := by
  refine ⟨?_, ?_, ?_, fun E K => ?run⟩
  case run =>
    simp only [cc0_mlp_fwd0_eq_skeleton]; unfold cc0_mlp_fwd0_skel
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d9, %f9, -, H9⟩, Hk⟩
    obtain rfl := harg2.eq_unread hf2
    obtain rfl := harg3.eq_unread hf3
    obtain rfl := harg4.eq_unread hf4
    obtain rfl := harg5.eq_unread hf5
    sl_exec (disch := first | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    iexists _; iexact H9

set_option maxHeartbeats 4000000 in
/-- At a later slice: the normed rows and the sum are what the slice before left. The pieces each output is left with are found by the run. -/
noncomputable def runB (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x512 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1024x512 .bf16) (harg7 : arg7.IsWhole) (arg8 : Memref sig .tc .vmem S1024x1024 .f32) (harg8 : arg8.IsWhole) (arg9 : Memref sig .tc .vmem S1024x1024 .f32) (harg9 : arg9.IsWhole)
    (hc1 : ¬k0_cond1 i = 1#1) (hc2 : ¬k0_cond2 i = 1#1) (x4 : Vec F S1x1024x512 .bf16) (x5 : Vec F S1x512x1024 .bf16) (x6 : Vec F S1024x1024 .bf16) (y9 : Vec F S1024x1024 .f32) :
    Σ' (L7 : List (View.Piece (Elt F) S1024x512 .bf16)), { L9 : List (View.Piece (Elt F) S1024x1024 .f32) //
      ∀ (E : Set ℕ) (K : PUnit → sProp 𝕄),
        iprop(owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg9 fullShare y9
            ∗ (iprop(owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ f, arg9.view.loc (c : Thread nD τ) ↦[arg9.view.set]{fullShare} arg9.view.writes (Elt F) f L9)) -∗ K ⟨⟩))
          ⊢ wp frame (wpE (defs₀ (F := F)) Variants.none c none) E (cc0_mlp_fwd0 i arg2 harg2 arg3 harg3 arg4 harg4 arg5 harg5 arg6 harg6 arg7 harg7 arg8 harg8 arg9 harg9) K } := by
  refine ⟨?_, ?_, fun E K => ?run⟩
  case run =>
    simp only [cc0_mlp_fwd0_eq_skeleton]; unfold cc0_mlp_fwd0_skel
    unfold owns
    iintro ⟨⟨%f4, %hf4, H4⟩, ⟨%f5, %hf5, H5⟩, ⟨%f6, %hf6, H6⟩, ⟨%d7, %f7, -, H7⟩, ⟨%f9, %hf9, H9⟩, Hk⟩
    obtain rfl := harg4.eq_unread hf4
    obtain rfl := harg5.eq_unread hf5
    obtain rfl := harg6.eq_unread hf6
    obtain rfl := harg9.eq_unread hf9
    rw [refill arg9 harg9 y9 inb_S1024x1024_S1024x1024_0_0 (by decide)]
    sl_exec (disch := first | sl_exact hc1 | sl_exact hc2)
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    iexists _; iexact H9

set_option maxHeartbeats 4000000 in
/-- At the last slice: the sum is added to the rows. The pieces each output is left with are found by the run. -/
noncomputable def runC (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x512 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1024x512 .bf16) (harg7 : arg7.IsWhole) (arg8 : Memref sig .tc .vmem S1024x1024 .f32) (harg8 : arg8.IsWhole) (arg9 : Memref sig .tc .vmem S1024x1024 .f32) (harg9 : arg9.IsWhole)
    (hc1 : ¬k0_cond1 i = 1#1) (hc2 : k0_cond2 i = 1#1) (x2 : Vec F S1024x1024 .f32) (x4 : Vec F S1x1024x512 .bf16) (x5 : Vec F S1x512x1024 .bf16) (x6 : Vec F S1024x1024 .bf16) (y9 : Vec F S1024x1024 .f32) :
    Σ' (L7 : List (View.Piece (Elt F) S1024x512 .bf16)), Σ' (L8 : List (View.Piece (Elt F) S1024x1024 .f32)), { L9 : List (View.Piece (Elt F) S1024x1024 .f32) //
      ∀ (E : Set ℕ) (K : PUnit → sProp 𝕄),
        iprop(owns (c : Thread nD τ) arg2 fullShare x2 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ owns (c : Thread nD τ) arg9 fullShare y9
            ∗ (iprop(owns (c : Thread nD τ) arg2 fullShare x2 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)) -∗ K ⟨⟩))
          ⊢ wp frame (wpE (defs₀ (F := F)) Variants.none c none) E (cc0_mlp_fwd0 i arg2 harg2 arg3 harg3 arg4 harg4 arg5 harg5 arg6 harg6 arg7 harg7 arg8 harg8 arg9 harg9) K } := by
  refine ⟨?_, ?_, ?_, fun E K => ?run⟩
  case run =>
    simp only [cc0_mlp_fwd0_eq_skeleton]; unfold cc0_mlp_fwd0_skel
    unfold owns
    iintro ⟨⟨%f2, %hf2, H2⟩, ⟨%f4, %hf4, H4⟩, ⟨%f5, %hf5, H5⟩, ⟨%f6, %hf6, H6⟩, ⟨%d7, %f7, -, H7⟩, ⟨%d8, %f8, -, H8⟩, ⟨%f9, %hf9, H9⟩, Hk⟩
    obtain rfl := harg2.eq_unread hf2
    obtain rfl := harg4.eq_unread hf4
    obtain rfl := harg5.eq_unread hf5
    obtain rfl := harg6.eq_unread hf6
    obtain rfl := harg9.eq_unread hf9
    rw [refill arg9 harg9 y9 inb_S1024x1024_S1024x1024_0_0 (by decide)]
    sl_exec (disch := first | sl_exact hc1 | sl_exact hc2)
    sl_step
    iapply Hk
    isplitl [H2]
    · iexists _; isplitr; · ipureintro; exact harg2.read_unread _
      iexact H2
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

end Cert.KFwdIdeal.Body

end
-- ==== Proof.FwdBody.lean ====
module

public import proofs.«01_k».proof.Proof.FwdRun
public import Idealize.ShloMosaic.Lib.Claim
public import Idealize.ShloMosaic.Lib.Pipeline.TableIdle
public import Idealize.ShloMosaic.Lib.Pipeline.ValueKit

@[expose] public section

set_option maxRecDepth 65536

noncomputable section

namespace Cert.KFwdIdeal.Body

open Cert.KFwdIdeal Cert.KFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at a point -/

abbrev stg0 (t : Fin cfg0.N) : Memref sig .tc .vmem S1024x1024 .f32 := win0_0.stage (cfg0.slots t 0)
theorem whole0 (t : Fin cfg0.N) : (stg0 t).IsWhole := hstage0_0 ((cfg0.slots t 0).cast nbuf0_0)
abbrev stg1 (t : Fin cfg0.N) : Memref sig .tc .vmem S1x1024 .f32 := win0_1.stage (cfg0.slots t 1)
theorem whole1 (t : Fin cfg0.N) : (stg1 t).IsWhole := hstage0_1 ((cfg0.slots t 1).cast nbuf0_1)
abbrev stg2 (t : Fin cfg0.N) : Memref sig .tc .vmem S1x1024x512 .bf16 := win0_2.stage (cfg0.slots t 2)
theorem whole2 (t : Fin cfg0.N) : (stg2 t).IsWhole := hstage0_2 ((cfg0.slots t 2).cast nbuf0_2)
abbrev stg3 (t : Fin cfg0.N) : Memref sig .tc .vmem S1x512x1024 .bf16 := win0_3.stage (cfg0.slots t 3)
theorem whole3 (t : Fin cfg0.N) : (stg3 t).IsWhole := hstage0_3 ((cfg0.slots t 3).cast nbuf0_3)
abbrev stg4 (t : Fin cfg0.N) : Memref sig .tc .vmem S1024x1024 .bf16 := win0_4.stage (cfg0.slots t 4)
theorem whole4 (t : Fin cfg0.N) : (stg4 t).IsWhole := hstage0_4 ((cfg0.slots t 4).cast nbuf0_4)
abbrev stg5 (t : Fin cfg0.N) : Memref sig .tc .vmem S1024x512 .bf16 := win0_5.stage (cfg0.slots t 5)
theorem whole5 (t : Fin cfg0.N) : (stg5 t).IsWhole := hstage0_5 ((cfg0.slots t 5).cast nbuf0_5)
abbrev stg6 (t : Fin cfg0.N) : Memref sig .tc .vmem S1024x1024 .f32 := win0_6.stage (cfg0.slots t 6)
theorem whole6 (t : Fin cfg0.N) : (stg6 t).IsWhole := hstage0_6 ((cfg0.slots t 6).cast nbuf0_6)
abbrev sums : Memref sig .tc .vmem S1024x1024 .f32 := Memref.whole cc0_scratch0

theorem lt16 (t : Fin cfg0.N) : t.val < 16 := lt_of_lt_of_eq t.isLt N_0

/-- What the launch hands the region: the scratch buffer at anything, and the generator's register. -/
theorem rest_eq (c : Dev nD) :
    (Pipeline.ΦA spec0 c : sProp 𝕄)
      = iprop((∃ d, owns (c : Thread nD τ) sums fullShare d) ∗ (∃ r, prngReg c r)) := by
  unfold Pipeline.ΦA; rw [scopedRest0_eq]; simp only [sums, owns_whole]; try rfl

/-! ## What a point leaves in the outputs and in the carried sum -/

/-- The run of the body at the first slice, at its buffers and blocks. -/
abbrev ranA (c : Dev nD) (t : Fin cfg0.N) (h : t.val % 8 = 0) :=
  runA (F := F) c (grid0.coords t) (stg0 t) (whole0 t) (stg1 t) (whole1 t) (stg2 t) (whole2 t) (stg3 t) (whole3 t) (stg4 t) (whole4 t) (stg5 t) (whole5 t) (stg6 t) (whole6 t) sums (Memref.isWhole_whole _)
    ((cond1_iff t).mpr (by omega)) (fun e => by have := (cond2_iff t).mp e; omega) (iblk m c 0 t) (iblk m c 1 t) (iblk m c 2 t) (iblk m c 3 t)

/-- The run of the body at a later slice, at its buffers and blocks. -/
abbrev ranB (c : Dev nD) (t : Fin cfg0.N) (h : 0 < t.val % 8 ∧ t.val % 8 < 7) (y6 : Vec F S1024x1024 .bf16) (y9 : Vec F S1024x1024 .f32) :=
  runB (F := F) c (grid0.coords t) (stg0 t) (whole0 t) (stg1 t) (whole1 t) (stg2 t) (whole2 t) (stg3 t) (whole3 t) (stg4 t) (whole4 t) (stg5 t) (whole5 t) (stg6 t) (whole6 t) sums (Memref.isWhole_whole _)
    (fun e => by have := (cond1_iff t).mp e; omega) (fun e => by have := (cond2_iff t).mp e; omega) (iblk m c 2 t) (iblk m c 3 t) y6 y9

/-- The run of the body at the last slice, at its buffers and blocks. -/
abbrev ranC (c : Dev nD) (t : Fin cfg0.N) (h : t.val % 8 = 7) (y6 : Vec F S1024x1024 .bf16) (y9 : Vec F S1024x1024 .f32) :=
  runC (F := F) c (grid0.coords t) (stg0 t) (whole0 t) (stg1 t) (whole1 t) (stg2 t) (whole2 t) (stg3 t) (whole3 t) (stg4 t) (whole4 t) (stg5 t) (whole5 t) (stg6 t) (whole6 t) sums (Memref.isWhole_whole _)
    (fun e => by have := (cond1_iff t).mp e; omega) ((cond2_iff t).mpr (by omega)) (iblk m c 0 t) (iblk m c 2 t) (iblk m c 3 t) y6 y9

/-- The three outputs' contents and the carried sum's. -/
abbrev Outs (F : FTy → Type) [FloatOps F] : Type := Vec F S1024x1024 .bf16 × Vec F S1024x512 .bf16 × Vec F S1024x1024 .f32 × Vec F S1024x1024 .f32

/-- What the body leaves at the first slice. -/
def leftA (c : Dev nD) (t : Fin cfg0.N) (h : t.val % 8 = 0) : Outs F :=
  (View.canon ((ranA m c t h).1), View.canon ((ranA m c t h).2.1), View.canon [], View.canon ((ranA m c t h).2.2.1))

/-- What the body leaves at a later slice. -/
def leftB (c : Dev nD) (t : Fin cfg0.N) (h : 0 < t.val % 8 ∧ t.val % 8 < 7) (y : Outs F) : Outs F :=
  (y.1, View.canon ((ranB m c t h y.1 y.2.2.2).1), y.2.2.1, View.canon ((ranB m c t h y.1 y.2.2.2).2.1))

/-- What the body leaves at the last slice. -/
def leftC (c : Dev nD) (t : Fin cfg0.N) (h : t.val % 8 = 7) (y : Outs F) : Outs F :=
  (y.1, View.canon ((ranC m c t h y.1 y.2.2.2).1), View.canon ((ranC m c t h y.1 y.2.2.2).2.1), View.canon ((ranC m c t h y.1 y.2.2.2).2.2.1))

/-- What the point at position `n` leaves. -/
def left (c : Dev nD) : (n : ℕ) → n < cfg0.N → Outs F
  | 0, hn => leftA m c ⟨0, hn⟩ rfl
  | n + 1, hn =>
    if h : (n + 1) % 8 = 0 then leftA m c ⟨n + 1, hn⟩ h
    else if h' : (n + 1) % 8 = 7 then leftC m c ⟨n + 1, hn⟩ h' (left c n (Nat.lt_of_succ_lt hn))
    else leftB m c ⟨n + 1, hn⟩ (show 0 < (n + 1) % 8 ∧ (n + 1) % 8 < 7 by omega) (left c n (Nat.lt_of_succ_lt hn))

/-- What the point before `t` left. -/
abbrev leftBefore (c : Dev nD) (t : Fin cfg0.N) : Outs F := left m c (t.val - 1) (Nat.lt_of_le_of_lt (Nat.sub_le _ _) t.isLt)

theorem left_A (c : Dev nD) (t : Fin cfg0.N) (h : t.val % 8 = 0) : left m c t.val t.isLt = leftA m c t h := by
  obtain ⟨n, hn⟩ := t
  cases n with
  | zero => rfl
  | succ n => exact dif_pos h
theorem left_B (c : Dev nD) (t : Fin cfg0.N) (h : 0 < t.val % 8 ∧ t.val % 8 < 7) : left m c t.val t.isLt = leftB m c t h (leftBefore m c t) := by
  obtain ⟨n, hn⟩ := t
  cases n with
  | zero => exact absurd h.1 (lt_irrefl 0)
  | succ n => exact (dif_neg (show ¬(n + 1) % 8 = 0 by dsimp only at h; omega)).trans (dif_neg (show ¬(n + 1) % 8 = 7 by dsimp only at h; omega))
theorem left_C (c : Dev nD) (t : Fin cfg0.N) (h : t.val % 8 = 7) : left m c t.val t.isLt = leftC m c t h (leftBefore m c t) := by
  obtain ⟨n, hn⟩ := t
  cases n with
  | zero => exact absurd h (by dsimp only; omega)
  | succ n => exact (dif_neg (show ¬(n + 1) % 8 = 0 by dsimp only at h; omega)).trans (dif_pos h)

/-! ## The pieces cover -/

theorem covA6 (c : Dev nD) (t : Fin cfg0.N) (h : t.val % 8 = 0) (y : S1024x1024.Idx) : ∃ p ∈ ((ranA m c t h).1), y ∈ p.1.set :=
  View.cover_of_wholeMem _ (by unfold ranA runA; sl_whole_mem) y
theorem covA7 (c : Dev nD) (t : Fin cfg0.N) (h : t.val % 8 = 0) (y : S1024x512.Idx) : ∃ p ∈ ((ranA m c t h).2.1), y ∈ p.1.set :=
  View.cover_of_wholeMem _ (by unfold ranA runA; sl_whole_mem) y
theorem covA9 (c : Dev nD) (t : Fin cfg0.N) (h : t.val % 8 = 0) (y : S1024x1024.Idx) : ∃ p ∈ ((ranA m c t h).2.2.1), y ∈ p.1.set :=
  View.cover_of_wholeMem _ (by unfold ranA runA; sl_whole_mem) y
theorem covB7 (c : Dev nD) (t : Fin cfg0.N) (h : 0 < t.val % 8 ∧ t.val % 8 < 7) (y6 : Vec F S1024x1024 .bf16) (y9 : Vec F S1024x1024 .f32) (y : S1024x512.Idx) : ∃ p ∈ ((ranB m c t h y6 y9).1), y ∈ p.1.set :=
  View.cover_of_wholeMem _ (by unfold ranB runB; sl_whole_mem) y
theorem covB9 (c : Dev nD) (t : Fin cfg0.N) (h : 0 < t.val % 8 ∧ t.val % 8 < 7) (y6 : Vec F S1024x1024 .bf16) (y9 : Vec F S1024x1024 .f32) (y : S1024x1024.Idx) : ∃ p ∈ ((ranB m c t h y6 y9).2.1), y ∈ p.1.set :=
  View.cover_of_wholeMem _ (by unfold ranB runB; sl_whole_mem) y
theorem covC7 (c : Dev nD) (t : Fin cfg0.N) (h : t.val % 8 = 7) (y6 : Vec F S1024x1024 .bf16) (y9 : Vec F S1024x1024 .f32) (y : S1024x512.Idx) : ∃ p ∈ ((ranC m c t h y6 y9).1), y ∈ p.1.set :=
  View.cover_of_wholeMem _ (by unfold ranC runC; sl_whole_mem) y
theorem covC8 (c : Dev nD) (t : Fin cfg0.N) (h : t.val % 8 = 7) (y6 : Vec F S1024x1024 .bf16) (y9 : Vec F S1024x1024 .f32) (y : S1024x1024.Idx) : ∃ p ∈ ((ranC m c t h y6 y9).2.1), y ∈ p.1.set :=
  View.cover_of_wholeMem _ (by unfold ranC runC; sl_whole_mem) y
theorem covC9 (c : Dev nD) (t : Fin cfg0.N) (h : t.val % 8 = 7) (y6 : Vec F S1024x1024 .bf16) (y9 : Vec F S1024x1024 .f32) (y : S1024x1024.Idx) : ∃ p ∈ ((ranC m c t h y6 y9).2.2.1), y ∈ p.1.set :=
  View.cover_of_wholeMem _ (by unfold ranC runC; sl_whole_mem) y

/-! ## The pipeline's data -/

/-- Before position `n`: at the start what the launch hands over; then the sum over the slices at what the point before left in it. -/
def held (c : Dev nD) : (n : ℕ) → n ≤ cfg0.N → sProp 𝕄
  | 0, _ => Pipeline.ΦA spec0 c
  | n + 1, hn => iprop(owns (c : Thread nD τ) sums fullShare (left m c n hn).2.2.2 ∗ (∃ r, prngReg c r))

theorem held_zero (c : Dev nD) (n : ℕ) (h : n ≤ cfg0.N) (hz : n = 0) : held m c n h = Pipeline.ΦA spec0 c := by
  subst hz; rfl
theorem held_succ (c : Dev nD) (n : ℕ) (hn : n < cfg0.N) :
    held m c (n + 1) hn = iprop(owns (c : Thread nD τ) sums fullShare (left m c n hn).2.2.2 ∗ (∃ r, prngReg c r)) := rfl
theorem held_pos (c : Dev nD) (n : ℕ) (h : n ≤ cfg0.N) (hz : n ≠ 0) :
    held m c n h = iprop(owns (c : Thread nD τ) sums fullShare (left m c (n - 1) (by omega)).2.2.2 ∗ (∃ r, prngReg c r)) := by
  cases n with
  | zero => exact absurd rfl hz
  | succ n => rfl

/-- On core `c`: the arrays as the region finds them, each input's buffer at its block and the outputs' at `left`; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (left m c t.val t.isLt).1
    | ⟨5, _⟩ => (left m c t.val t.isLt).2.1
    | ⟨6, _⟩ => (left m c t.val t.isLt).2.2.1
  Φ t := held m c t.val (Nat.le_of_lt_succ t.isLt)
  q _ := fullShare
  owed _ := 0

theorem A_eq (c : Dev nD) (w : Fin cfg0.W) : (dats m 0 c).A w = V m c (Pipeline.arrRef spec0 w) := by dsimp only [dats]
theorem held_castSucc (c : Dev nD) (t : Fin cfg0.N) : (dats m 0 c).Φ t.castSucc = held m c t.val (Nat.le_of_lt t.isLt) := by
  dsimp only [dats]; exact Pipeline.Dat.Φ_castSucc (held m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (left m c t.val t.isLt).1 := by dsimp only [dats]
theorem after5 (c : Dev nD) (t : Fin cfg0.N) : (dats m 0 c).after 5 t = (left m c t.val t.isLt).2.1 := by dsimp only [dats]
theorem after6 (c : Dev nD) (t : Fin cfg0.N) : (dats m 0 c).after 6 t = (left m c t.val t.isLt).2.2.1 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! An output's buffer at a point that stores nothing into it, and at one that reads what is there. -/

theorem idle4 : ∀ t : Fin cfg0.N, t.val % 8 ≠ 0 → cfg0.idle 4 (grid0.coords t) = true := by decide +kernel
theorem live4 : ∀ t : Fin cfg0.N, t.val % 8 = 0 → cfg0.idle 4 (grid0.coords t) = false := by decide +kernel
theorem open4 : ∀ t : Fin cfg0.N, t.val % 8 < 7 → (cfg0.win 4).flush t = false := by decide +kernel
theorem shut4 : ∀ t : Fin cfg0.N, t.val % 8 = 7 → (cfg0.win 4).flush t = true := by decide +kernel
theorem kept4 : ∀ t : Fin cfg0.N, t.val % 8 ≠ 0 → cfg0.fresh 4 t.val = false := by decide +kernel
theorem live5 : ∀ t : Fin cfg0.N, cfg0.idle 5 (grid0.coords t) = false := by decide +kernel
theorem idle6 : ∀ t : Fin cfg0.N, t.val % 8 < 7 → cfg0.idle 6 (grid0.coords t) = true := by decide +kernel
theorem live6 : ∀ t : Fin cfg0.N, t.val % 8 = 7 → cfg0.idle 6 (grid0.coords t) = false := by decide +kernel
theorem open6 : ∀ t : Fin cfg0.N, t.val % 8 < 7 → (cfg0.win 6).flush t = false := by decide +kernel

theorem before4 (c : Dev nD) (t : Fin cfg0.N) (h : t.val % 8 ≠ 0) (d) : (dats m 0 c).before 4 t d = (leftBefore m c t).1 := by
  rw [Dat.before_out_traj (dats m 0 c) 4 rfl (fun _ _ => rfl) (fun t _ hi _ => ?_) t.val t rfl d, if_neg (by rw [kept4 t h]; exact Bool.false_ne_true), after4]
  rw [after4, after4]
  by_cases h8 : t.val % 8 = 0
  · rw [live4 t h8] at hi; exact absurd hi Bool.false_ne_true
  · by_cases h9 : t.val % 8 = 7
    · rw [left_C m c t h9]; dsimp only [leftC, leftBefore]
    · rw [left_B m c t ⟨by omega, by omega⟩]; dsimp only [leftB, leftBefore]

/-! ## The body at a point -/

/-- What the body is called with. -/
def pre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))

/-- What it returns. -/
def post (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ (dats m 0 c).leavesExact 4 t
    ∗ (dats m 0 c).leavesExact 5 t
    ∗ (dats m 0 c).leavesExact 6 t)

/-- A window the point stores into ends at its contents. -/
theorem leaves_live (c : Dev nD) (w : Fin cfg0.W) (t : Fin cfg0.N) (hi : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from hi]
/-- A window written back at a point that stores nothing into it ends at its contents. -/
theorem leaves_shut (c : Dev nD) (w : Fin cfg0.W) (t : Fin cfg0.N) (hi : cfg0.idle w (grid0.coords t) = true) (hf : (cfg0.win w).flush t = true) :
    (dats m 0 c).leavesExact w t = owns (c : Thread nD τ) ((cfg0.win w).stage (cfg0.slots t w)) fullShare ((dats m 0 c).after w t) := by
  unfold Dat.leavesExact; rw [show cfg0.idle w (cfg0.grid.coords t) = true from hi, hf]

set_option maxHeartbeats 1600000 in
theorem soundFirst (c : Dev nD) (t : Fin cfg0.N) (h : t.val % 8 = 0) (hz : t.val = 0) :
    pre m c t ⊢ wp frame (wpE (defs₀ (F := F)) Variants.none c none) Set.univ (bodyAt0 t) (fun _ => post m c t) := by
  unfold pre post bodyAt0
  simp only [before0, before1, before2, before3]
  rw [show (dats m 0 c).owesAt () t.succ = (dats m 0 c).owesAt () t.castSucc from rfl, after0, after1, after2, after3]
  rw [show (dats m 0 c).Φ t.succ = held m c (t.val + 1) t.isLt from rfl, held_succ, held_castSucc]
  rw [held_zero m c _ _ hz, rest_eq]
  rw [leaves_live m c 4 t (live4 t h), after4]
  rw [leaves_live m c 5 t (live5 t), after5]
  rw [Dat.leavesExact_idle (dats m 0 c) 6 t (idle6 t (by omega)) (open6 t (by omega))]
  rw [left_A m c t h]
  unfold leftA; dsimp only
  iintro ⟨⟨⟨%e9, H9⟩, Hg⟩, Ho, ⟨%d2, H2⟩, ⟨%d3, H3⟩, ⟨%d4, H4⟩, ⟨%d5, H5⟩, ⟨%d6, H6⟩, ⟨%d7, H7⟩, ⟨%d8, H8⟩⟩
  iapply ((ranA m c t h).2.2.2 Set.univ _)
  isplitl [H2]; · iexact H2
  isplitl [H3]; · iexact H3
  isplitl [H4]; · iexact H4
  isplitl [H5]; · iexact H5
  isplitl [H6]; · iexists _; iexact H6
  isplitl [H7]; · iexists _; iexact H7
  isplitl [H9]; · iexists _; iexact H9
  iintro ⟨H2, H3, H4, H5, ⟨%f6, H6⟩, ⟨%f7, H7⟩, ⟨%f9, H9⟩⟩
  isplitl [H9 Hg]
  · isplitl [H9]
    · unfold owns; iexists _; isplitr
      swap; · iexact H9
      ipureintro; exact View.read_writes_eq_canon _ _ _ (covA9 m c t h)
    iexact Hg
  isplitl [Ho]; · iexact Ho
  isplitl [H2]; · iexact H2
  isplitl [H3]; · iexact H3
  isplitl [H4]; · iexact H4
  isplitl [H5]; · iexact H5
  isplitl [H6]
  · unfold owns; iexists _; isplitr
    swap; · iexact H6
    ipureintro; exact View.read_writes_eq_canon _ _ _ (covA6 m c t h)
  isplitl [H7]
  · unfold owns; iexists _; isplitr
    swap; · iexact H7
    ipureintro; exact View.read_writes_eq_canon _ _ _ (covA7 m c t h)
  iexists _; iexact H8

set_option maxHeartbeats 1600000 in
theorem soundA (c : Dev nD) (t : Fin cfg0.N) (h : t.val % 8 = 0) (hz : t.val ≠ 0) :
    pre m c t ⊢ wp frame (wpE (defs₀ (F := F)) Variants.none c none) Set.univ (bodyAt0 t) (fun _ => post m c t) := by
  unfold pre post bodyAt0
  simp only [before0, before1, before2, before3]
  rw [show (dats m 0 c).owesAt () t.succ = (dats m 0 c).owesAt () t.castSucc from rfl, after0, after1, after2, after3]
  rw [show (dats m 0 c).Φ t.succ = held m c (t.val + 1) t.isLt from rfl, held_succ, held_castSucc]
  rw [held_pos m c _ _ hz]
  rw [leaves_live m c 4 t (live4 t h), after4]
  rw [leaves_live m c 5 t (live5 t), after5]
  rw [Dat.leavesExact_idle (dats m 0 c) 6 t (idle6 t (by omega)) (open6 t (by omega))]
  rw [left_A m c t h]
  unfold leftA; dsimp only
  iintro ⟨⟨H9, Hg⟩, Ho, ⟨%d2, H2⟩, ⟨%d3, H3⟩, ⟨%d4, H4⟩, ⟨%d5, H5⟩, ⟨%d6, H6⟩, ⟨%d7, H7⟩, ⟨%d8, H8⟩⟩
  iapply ((ranA m c t h).2.2.2 Set.univ _)
  isplitl [H2]; · iexact H2
  isplitl [H3]; · iexact H3
  isplitl [H4]; · iexact H4
  isplitl [H5]; · iexact H5
  isplitl [H6]; · iexists _; iexact H6
  isplitl [H7]; · iexists _; iexact H7
  isplitl [H9]; · iexists _; iexact H9
  iintro ⟨H2, H3, H4, H5, ⟨%f6, H6⟩, ⟨%f7, H7⟩, ⟨%f9, H9⟩⟩
  isplitl [H9 Hg]
  · isplitl [H9]
    · unfold owns; iexists _; isplitr
      swap; · iexact H9
      ipureintro; exact View.read_writes_eq_canon _ _ _ (covA9 m c t h)
    iexact Hg
  isplitl [Ho]; · iexact Ho
  isplitl [H2]; · iexact H2
  isplitl [H3]; · iexact H3
  isplitl [H4]; · iexact H4
  isplitl [H5]; · iexact H5
  isplitl [H6]
  · unfold owns; iexists _; isplitr
    swap; · iexact H6
    ipureintro; exact View.read_writes_eq_canon _ _ _ (covA6 m c t h)
  isplitl [H7]
  · unfold owns; iexists _; isplitr
    swap; · iexact H7
    ipureintro; exact View.read_writes_eq_canon _ _ _ (covA7 m c t h)
  iexists _; iexact H8

set_option maxHeartbeats 1600000 in
theorem soundB (c : Dev nD) (t : Fin cfg0.N) (h : 0 < t.val % 8 ∧ t.val % 8 < 7) :
    pre m c t ⊢ wp frame (wpE (defs₀ (F := F)) Variants.none c none) Set.univ (bodyAt0 t) (fun _ => post m c t) := by
  unfold pre post bodyAt0
  simp only [before0, before1, before2, before3]
  rw [show (dats m 0 c).owesAt () t.succ = (dats m 0 c).owesAt () t.castSucc from rfl, after0, after1, after2, after3]
  rw [show (dats m 0 c).Φ t.succ = held m c (t.val + 1) t.isLt from rfl, held_succ, held_castSucc]
  rw [held_pos m c _ _ (by omega)]
  rw [Dat.leavesExact_idle (dats m 0 c) 4 t (idle4 t (by omega)) (open4 t (by omega))]
  rw [leaves_live m c 5 t (live5 t), after5]
  rw [Dat.leavesExact_idle (dats m 0 c) 6 t (idle6 t (by omega)) (open6 t (by omega))]
  rw [left_B m c t h]
  simp only [before4 m c t (by omega)]
  unfold leftB; dsimp only
  iintro ⟨⟨H9, Hg⟩, Ho, ⟨%d2, H2⟩, ⟨%d3, H3⟩, ⟨%d4, H4⟩, ⟨%d5, H5⟩, ⟨%d6, H6⟩, ⟨%d7, H7⟩, ⟨%d8, H8⟩⟩
  iapply ((ranB m c t h (leftBefore m c t).1 (leftBefore m c t).2.2.2).2.2 Set.univ _)
  isplitl [H4]; · iexact H4
  isplitl [H5]; · iexact H5
  isplitl [H6]; · iexact H6
  isplitl [H7]; · iexists _; iexact H7
  isplitl [H9]; · iexact H9
  iintro ⟨H4, H5, H6, ⟨%f7, H7⟩, ⟨%f9, H9⟩⟩
  isplitl [H9 Hg]
  · isplitl [H9]
    · unfold owns; iexists _; isplitr
      swap; · iexact H9
      ipureintro; exact View.read_writes_eq_canon _ _ _ (covB9 m c t h _ _)
    iexact Hg
  isplitl [Ho]; · iexact Ho
  isplitl [H2]; · iexact H2
  isplitl [H3]; · iexact H3
  isplitl [H4]; · iexact H4
  isplitl [H5]; · iexact H5
  isplitl [H6]; · iexists d6; iexact H6
  isplitl [H7]
  · unfold owns; iexists _; isplitr
    swap; · iexact H7
    ipureintro; exact View.read_writes_eq_canon _ _ _ (covB7 m c t h _ _)
  iexists _; iexact H8

set_option maxHeartbeats 1600000 in
theorem soundC (c : Dev nD) (t : Fin cfg0.N) (h : t.val % 8 = 7) :
    pre m c t ⊢ wp frame (wpE (defs₀ (F := F)) Variants.none c none) Set.univ (bodyAt0 t) (fun _ => post m c t) := by
  unfold pre post bodyAt0
  simp only [before0, before1, before2, before3]
  rw [show (dats m 0 c).owesAt () t.succ = (dats m 0 c).owesAt () t.castSucc from rfl, after0, after1, after2, after3]
  rw [show (dats m 0 c).Φ t.succ = held m c (t.val + 1) t.isLt from rfl, held_succ, held_castSucc]
  rw [held_pos m c _ _ (by omega)]
  rw [leaves_shut m c 4 t (idle4 t (by omega)) (shut4 t h), after4]
  rw [leaves_live m c 5 t (live5 t), after5]
  rw [leaves_live m c 6 t (live6 t h), after6]
  rw [left_C m c t h]
  simp only [before4 m c t (by omega)]
  unfold leftC; dsimp only
  iintro ⟨⟨H9, Hg⟩, Ho, ⟨%d2, H2⟩, ⟨%d3, H3⟩, ⟨%d4, H4⟩, ⟨%d5, H5⟩, ⟨%d6, H6⟩, ⟨%d7, H7⟩, ⟨%d8, H8⟩⟩
  iapply ((ranC m c t h (leftBefore m c t).1 (leftBefore m c t).2.2.2).2.2.2 Set.univ _)
  isplitl [H2]; · iexact H2
  isplitl [H4]; · iexact H4
  isplitl [H5]; · iexact H5
  isplitl [H6]; · iexact H6
  isplitl [H7]; · iexists _; iexact H7
  isplitl [H8]; · iexists _; iexact H8
  isplitl [H9]; · iexact H9
  iintro ⟨H2, H4, H5, H6, ⟨%f7, H7⟩, ⟨%f8, H8⟩, ⟨%f9, H9⟩⟩
  isplitl [H9 Hg]
  · isplitl [H9]
    · unfold owns; iexists _; isplitr
      swap; · iexact H9
      ipureintro; exact View.read_writes_eq_canon _ _ _ (covC9 m c t h _ _)
    iexact Hg
  isplitl [Ho]; · iexact Ho
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_eq_canon _ _ _ (covC7 m c t h _ _)
  unfold owns; iexists _; isplitr
  swap; · iexact H8
  ipureintro; exact View.read_writes_eq_canon _ _ _ (covC8 m c t h _ _)

theorem sound (c : Dev nD) (t : Fin cfg0.N) :
    pre m c t ⊢ wp frame (wpE (defs₀ (F := F)) Variants.none c none) Set.univ (bodyAt0 t) (fun _ => post m c t) := by
  by_cases h0 : t.val % 8 = 0
  · by_cases hz : t.val = 0
    · exact soundFirst m c t h0 hz
    · exact soundA m c t h0 hz
  by_cases h1 : t.val % 8 = 7
  · exact soundC m c t h1
  · exact soundB m c t ⟨by omega, by omega⟩

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound m c t) rfl .rfl fun _ => .rfl

theorem hin (c : Dev nD) : Pipeline.ΦA spec0 c ⊢ (dats m 0 c).Φ 0 := by
  rw [show (dats m 0 c).Φ 0 = held m c 0 (Nat.zero_le _) from rfl, held_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = held m c (Fin.last cfg0.N).val (Nat.le_of_lt_succ (Fin.last cfg0.N).isLt) from rfl,
    held_pos m c _ _ (by rw [Fin.val_last]; have : cfg0.N = 16 := N_0; omega), rest_eq]
  iintro ⟨H9, Hg⟩
  isplitl [H9]; · iexists _; iexact H9
  iexact Hg

/-! ## The run and the frame -/

set_option backward.isDefEq.respectTransparency.types false in
/-- Every fair execution ends with the arrays at what the data compute and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

/-- The arguments end unchanged and every counter at zero, at any carrier of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ) ∧ r.2.sem = fun _ => 0) :=
  θ_run_and (frame_of m ρ (dats m) (A_eq m) (run_main m ρ)) ((θ_run defs _ _).mono (fun _ h => h.2) (run_quiet m ρ))

end Cert.KFwdIdeal.Body

end
-- ==== Proof.FwdFrame.lean ====
module
public import proofs.«01_k».proof.Defs
public import proofs.«01_k».proof.Proof.Gen.KFwd
public import proofs.«01_k».proof.Proof.FwdBody
@[expose] public section

noncomputable section

namespace Cert.FwdFrame

open Idealize.ShloMosaic Idealize.ShloMosaic.TcCoe

/-- The frame's statement at the launched floats, over the program's idealized print. -/
def quiet : Prop := ∀ (m : (ℓ : Loc Cert.KFwdIdeal.nD Cert.KFwdIdeal.τ Cert.KFwdIdeal.sig) → Buf (Elt Bits) ℓ) (ρ : Dev Cert.KFwdIdeal.nD → PrngReg), True →
  θ_run (Cert.KFwdIdeal.defs (F := Bits)) (onTc (τ := Cert.KFwdIdeal.τ) (Cert.KFwdIdeal.main (F := Bits))) ⟨m, fun _ => 0, ρ⟩ (fun r => (∀ c : Dev Cert.KFwdIdeal.nD,
      r.2.mem ((c.tc : Thread Cert.KFwdIdeal.nD Cert.KFwdIdeal.τ).loc Cert.KFwdIdeal.main_arg0) = m ((c.tc : Thread Cert.KFwdIdeal.nD Cert.KFwdIdeal.τ).loc Cert.KFwdIdeal.main_arg0)
      ∧ r.2.mem ((c.tc : Thread Cert.KFwdIdeal.nD Cert.KFwdIdeal.τ).loc Cert.KFwdIdeal.main_arg1) = m ((c.tc : Thread Cert.KFwdIdeal.nD Cert.KFwdIdeal.τ).loc Cert.KFwdIdeal.main_arg1)
      ∧ r.2.mem ((c.tc : Thread Cert.KFwdIdeal.nD Cert.KFwdIdeal.τ).loc Cert.KFwdIdeal.main_arg2) = m ((c.tc : Thread Cert.KFwdIdeal.nD Cert.KFwdIdeal.τ).loc Cert.KFwdIdeal.main_arg2)
      ∧ r.2.mem ((c.tc : Thread Cert.KFwdIdeal.nD Cert.KFwdIdeal.τ).loc Cert.KFwdIdeal.main_arg3) = m ((c.tc : Thread Cert.KFwdIdeal.nD Cert.KFwdIdeal.τ).loc Cert.KFwdIdeal.main_arg3))
      ∧ r.2.sem = fun _ => 0)
/-- The two prints are one program. -/
theorem quiet_eq : Cert.quiescent_KFwd = quiet := by sl_kernel_rfl
/-- The frame of the launched program, off the one run. -/
theorem frame_kernel : Cert.quiescent_KFwd := quiet_eq.mpr fun m ρ _ => Cert.KFwdIdeal.Body.frame (F := Bits) m ρ

end Cert.FwdFrame

end
-- ==== Proof.FwdPay.lean ====
/- The feedforward layer: what its forward kernel computes from rows and a slice of the hidden units, entry by entry the reference's. -/
module

public import proofs.«01_k».proof.Proof.Gen.KFwdIdeal.Skeleton
public import proofs.«01_k».proof.Proof.Gen.RFwdIdeal.Read
public import proofs.«01_k».proof.Proof.Reals
public import Idealize.ShloMosaic.Lib.Pipeline.ValueKit

@[expose] public section

set_option maxRecDepth 65536

noncomputable section

open Idealize.ShloMosaic Idealize.ShloMosaic.TcCoe Idealize.ShloMosaic.Tactic Idealize.SL.Sem

namespace Cert.FwdPay

open Cert.KFwdIdeal Cert.KFwdIdeal.Gen Cert.Reals
open Cert.RFwdIdeal.Read

/-- Unit `k` of slice `s` of the hidden units. -/
def unit (s : Fin 8) (k : Fin 512) : Fin 4096 := ⟨s.val * 512 + k.val, by omega⟩

/-- A sum over the hidden units is the sum over the slices. -/
theorem sum_units (f : Fin 4096 → EReal) : ∑ j, f j = ∑ s : Fin 8, ∑ k : Fin 512, f (unit s k) := by
  rw [← Fintype.sum_prod_type']
  refine (Fintype.sum_equiv (finProdFinEquiv (m := 8) (n := 512)) _ _ fun p => congrArg f (Fin.ext ?_)).symm
  show p.1.val * 512 + p.2.val = p.2.val + 512 * p.1.val
  omega

variable (x : S2048x1024.Idx → EReal) (g : S1024.Idx → EReal) (wi : S1024x4096.Idx → EReal) (wo : S4096x1024.Idx → EReal) (ρ : Fin 1024 → Fin 2048) (s : Fin 8)

/-- Rows of an array; a vector as a row; a slice of each weight. -/
def rows (x : S2048x1024.Idx → EReal) : S1024x1024.Idx → EReal := fun i => x (ix2 (ρ (i 0)) (i 1))
def row (g : S1024.Idx → EReal) : S1x1024.Idx → EReal := fun i => g (ix1 (i 1))
def cols : S1x1024x512.Idx → EReal := fun i => wi (ix2 (i 1) (unit s (i 2)))
def lines : S1x512x1024.Idx → EReal := fun i => wo (ix2 (unit s (i 1)) (i 2))

/-- What a slice adds to the product with the second weight. -/
def part (R : Fin 2048) (l : Fin 1024) : EReal := ∑ k : Fin 512, val_main_v17 (F := Ideal) x g wi (ix2 R (unit s k)) * wo (ix2 (unit s k) l)

theorem norm_eq : k0_pay1 (F := Ideal) (rows ρ x) (row g) = rows ρ (val_main_v15 (F := Ideal) x g) := by
  funext i
  unfold rows row
  idx_vars i
  pointwise [k0_pay1, val_main_v15, val_main_v12, val_main_v11, val_main_v10, val_main_v9, val_main_v8,
    val_main_v7, val_main_v6, val_main_v5, val_main_v4, val_main_v3, val_main_v2, val_main_v1, val_main_v0, val_main_cst, val_main_cst_0, val_main_cst_1]

theorem relu_eq : k0_pay3 (F := Ideal) (rows ρ (val_main_v15 (F := Ideal) x g)) (cols wi s)
    = fun i : S1024x512.Idx => val_main_v14 (F := Ideal) x g wi (ix2 (ρ (i 0)) (unit s (i 1))) := by
  funext i
  unfold rows cols
  idx_vars i
  pointwise [k0_pay3, val_main_v15, val_main_v14, val_main_v13, val_main_call0_v0, val_main_call0_cst]

theorem kept_eq : k0_pay4 (F := Ideal) (rows ρ (val_main_v15 (F := Ideal) x g)) (cols wi s)
    = fun i : S1024x512.Idx => val_main_v16 (F := Ideal) x g wi (ix2 (ρ (i 0)) (unit s (i 1))) := by
  unfold k0_pay4
  dsimp only
  rw [relu_eq]
  funext i
  idx_vars i
  pointwise [val_main_v16]

theorem added_eq (y : S1024x1024.Idx → EReal) : k0_pay5 (F := Ideal) (rows ρ (val_main_v15 (F := Ideal) x g)) (cols wi s) y (lines wo s)
    = fun i : S1024x1024.Idx => y (ix2 (i 0) (i 1)) + part x g wi wo s (ρ (i 0)) (i 1) := by
  unfold k0_pay5
  dsimp only
  rw [relu_eq]
  funext i
  unfold lines part
  idx_vars i
  pointwise [val_main_v17]

theorem zero_eq : k0_pay2 (F := Ideal) = fun _ => (0 : EReal) := by
  funext i
  idx_vars i
  pointwise [k0_pay2]

/-- The product with the second weight is the sum of the slices' parts. -/
theorem product_eq (R : Fin 2048) (l : Fin 1024) : val_main_v18 (F := Ideal) x g wi wo (ix2 R l) = ∑ s : Fin 8, part x g wi wo s R l := by
  unfold part
  rw [← sum_units fun j => val_main_v17 (F := Ideal) x g wi (ix2 R j) * wo (ix2 j l)]
  pointwise [val_main_v18]

theorem out_eq (y : S1024x1024.Idx → EReal) (hy : y = fun i => val_main_v18 (F := Ideal) x g wi wo (ix2 (ρ (i 0)) (i 1))) :
    k0_pay6 (F := Ideal) (rows ρ x) y = rows ρ (val_main_v19 (F := Ideal) x g wi wo) := by
  subst hy
  funext i
  unfold rows
  idx_vars i
  pointwise [k0_pay6, val_main_v19]

end Cert.FwdPay

end
-- ==== Proof.FwdValue.lean ====
/- The arrays that the feedforward layer's forward kernel writes: the reference's, entry by entry. -/
module

public import proofs.«01_k».proof.Proof.FwdPay
public import proofs.«01_k».proof.Proof.FwdBody
public import Idealize.ShloMosaic.Lib.WholeRead
public import Idealize.ShloMosaic.Lib.Pipeline.ReadBack

@[expose] public section

set_option maxRecDepth 65536

noncomputable section

open Idealize.ShloMosaic Idealize.ShloMosaic.TcCoe Idealize.ShloMosaic.Tactic Idealize.SL.Sem

namespace Cert.FwdValue

open Cert.KFwdIdeal Cert.KFwdIdeal.Gen Cert.KFwdIdeal.Body Cert.Reals Cert.FwdPay
open Cert.RFwdIdeal.Read

/-! ## What a point leaves, of its blocks -/

section

variable {F : FTy → Type} [FloatOps F] (m : (ℓ : Loc nD τ sig) → Buf (Elt F) ℓ) (c : Dev nD) (t : Fin cfg0.N)

theorem leftA_norm (h : t.val % 8 = 0) : (leftA m c t h).1 = k0_pay1 (iblk m c 0 t) (iblk m c 1 t) := by
  unfold leftA; dsimp only; unfold ranA runA; dsimp only
  frame_out
theorem leftA_relu (h : t.val % 8 = 0) : (leftA m c t h).2.1 = k0_pay4 (k0_pay1 (iblk m c 0 t) (iblk m c 1 t)) (iblk m c 2 t) := by
  unfold leftA; dsimp only; unfold ranA runA; dsimp only
  frame_out
theorem leftA_sum (h : t.val % 8 = 0) : (leftA m c t h).2.2.2 = k0_pay5 (k0_pay1 (iblk m c 0 t) (iblk m c 1 t)) (iblk m c 2 t) k0_pay2 (iblk m c 3 t) := by
  unfold leftA; dsimp only; unfold ranA runA; dsimp only
  frame_out
theorem leftB_norm (h : 0 < t.val % 8 ∧ t.val % 8 < 7) (y : Outs F) : (leftB m c t h y).1 = y.1 := by unfold leftB; rfl
theorem leftC_norm (h : t.val % 8 = 7) (y : Outs F) : (leftC m c t h y).1 = y.1 := by unfold leftC; rfl
theorem leftB_relu (h : 0 < t.val % 8 ∧ t.val % 8 < 7) (y : Outs F) : (leftB m c t h y).2.1 = k0_pay4 y.1 (iblk m c 2 t) := by
  unfold leftB; dsimp only; unfold ranB runB; dsimp only
  frame_out
theorem leftB_sum (h : 0 < t.val % 8 ∧ t.val % 8 < 7) (y : Outs F) : (leftB m c t h y).2.2.2 = k0_pay5 y.1 (iblk m c 2 t) y.2.2.2 (iblk m c 3 t) := by
  unfold leftB; dsimp only; unfold ranB runB; dsimp only
  frame_out
theorem leftC_relu (h : t.val % 8 = 7) (y : Outs F) : (leftC m c t h y).2.1 = k0_pay4 y.1 (iblk m c 2 t) := by
  unfold leftC; dsimp only; unfold ranC runC; dsimp only
  frame_out
theorem leftC_out (h : t.val % 8 = 7) (y : Outs F) : (leftC m c t h y).2.2.1 = k0_pay6 (iblk m c 0 t) (k0_pay5 y.1 (iblk m c 2 t) y.2.2.2 (iblk m c 3 t)) := by
  unfold leftC; dsimp only; unfold ranC runC; dsimp only
  frame_out
theorem leftC_sum (h : t.val % 8 = 7) (y : Outs F) : (leftC m c t h y).2.2.2 = k0_pay5 y.1 (iblk m c 2 t) y.2.2.2 (iblk m c 3 t) := by
  unfold leftC; dsimp only; unfold ranC runC; dsimp only
  frame_out

end

/-! ## What a point reads -/

variable (m : (ℓ : Loc nD τ sig) → Buf (Elt Ideal) ℓ) (c : Dev nD) (t : Fin cfg0.N)

/-- The arguments: the layer's input, the norm's gain, the two weights. -/
def x : S2048x1024.Idx → EReal := m ((c : Thread nD τ).loc main_arg0)
def g : S1024.Idx → EReal := m ((c : Thread nD τ).loc main_arg1)
def wi : S1024x4096.Idx → EReal := m ((c : Thread nD τ).loc main_arg2)
def wo : S4096x1024.Idx → EReal := m ((c : Thread nD τ).loc main_arg3)

theorem idx : ∀ t : Fin cfg0.N, win0_0.index t = ![t.val / 8, 0] ∧ win0_1.index t = ![0, 0] ∧ win0_2.index t = ![t.val % 8, 0, 0]
    ∧ win0_3.index t = ![t.val % 8, 0, 0] ∧ win0_4.index t = ![t.val / 8, 0] ∧ win0_5.index t = ![t.val / 8, t.val % 8]
    ∧ win0_6.index t = ![t.val / 8, 0] :=
  (by decide +kernel : ∀ t : Fin grid0.N, _)

/-- Row `r` of a point's tile of rows; the slice of the hidden units it reads. -/
def rowAt (t : Fin cfg0.N) (r : Fin 1024) : Fin 2048 := ⟨t.val / 8 * 1024 + r.val, by have := lt16 t; omega⟩
def slice (t : Fin cfg0.N) : Fin 8 := ⟨t.val % 8, by omega⟩

theorem iblk0 : iblk m c 0 t = rows (rowAt t) (x m c) := by
  funext i
  have e : iblk m c 0 t i = V m c main_arg0 (ix2 (rowAt t (i 0)) (i 1)) := by
    unfold iblk
    show ((cfg0.win 0).blk t).view.read (Elt Ideal) (V m c main_arg0) i = _
    generalize V m c main_arg0 = X
    blk_ext [idx t, rowAt]
  exact e.trans (congrFun (Gen.V_main_arg0 m c) _)

theorem gain_at : V m c main_v2 = row (g m c) := by
  simp only [V, hostOps0]
  entry_read
  funext i
  unfold row g
  idx_vars i
  pointwise

theorem first_at : V m c main_v3 = fun i : S8x1024x512.Idx => wi m c (ix2 (i 1) (unit (i 0) (i 2))) := by
  simp only [V, hostOps0]
  entry_read
  funext i
  unfold wi
  idx_vars i
  pointwise
  try rfl

theorem second_at : V m c main_v5 = fun i : S8x512x1024.Idx => wo m c (ix2 (unit (i 0) (i 1)) (i 2)) := by
  simp only [V, hostOps0]
  entry_read
  funext i
  unfold wo
  idx_vars i
  pointwise
  try rfl

theorem iblk1 : iblk m c 1 t = row (g m c) := by
  rw [← gain_at m c]
  funext i
  unfold iblk
  show ((cfg0.win 1).blk t).view.read (Elt Ideal) (V m c main_v2) i = _
  generalize V m c main_v2 = X
  blk_ext [idx t]

theorem iblk2 : iblk m c 2 t = cols (wi m c) (slice t) := by
  funext i
  have e : iblk m c 2 t i = V m c main_v3 (ix3 (slice t) (i 1) (i 2)) := by
    unfold iblk
    show ((cfg0.win 2).blk t).view.read (Elt Ideal) (V m c main_v3) i = _
    generalize V m c main_v3 = X
    blk_ext [idx t, slice]
  exact e.trans (congrFun (first_at m c) _)

theorem iblk3 : iblk m c 3 t = lines (wo m c) (slice t) := by
  funext i
  have e : iblk m c 3 t i = V m c main_v5 (ix3 (slice t) (i 1) (i 2)) := by
    unfold iblk
    show ((cfg0.win 3).blk t).view.read (Elt Ideal) (V m c main_v5) i = _
    generalize V m c main_v5 = X
    blk_ext [idx t, slice]
  exact e.trans (congrFun (second_at m c) _)

/-! ## What a point leaves, of the arguments -/

/-- The point before, at a point that is not the first of its tile. -/
def prev (t : Fin cfg0.N) : Fin cfg0.N := ⟨t.val - 1, Nat.lt_of_le_of_lt (Nat.sub_le _ _) t.isLt⟩

theorem rowAt_prev (h : t.val % 8 ≠ 0) : rowAt (prev t) = rowAt t := by
  funext r
  refine Fin.ext ?_
  show (t.val - 1) / 8 * 1024 + r.val = t.val / 8 * 1024 + r.val
  rw [show (t.val - 1) / 8 = t.val / 8 by omega]

/-- All through a tile the first output's buffer holds the normed rows. -/
theorem norm_at : ∀ (n : ℕ) (hn : n < cfg0.N), (left m c n hn).1 = rows (rowAt ⟨n, hn⟩) (val_main_v15 (F := Ideal) (x m c) (g m c))
  | n, hn => by
    by_cases h0 : n % 8 = 0
    · rw [left_A m c ⟨n, hn⟩ h0, leftA_norm, iblk0, iblk1, norm_eq]
    · have e := rowAt_prev ⟨n, hn⟩ h0
      have hp : (leftBefore m c ⟨n, hn⟩).1 = rows (rowAt (prev ⟨n, hn⟩)) (val_main_v15 (F := Ideal) (x m c) (g m c)) :=
        norm_at (n - 1) (Nat.lt_of_le_of_lt (Nat.sub_le _ _) hn)
      rw [← e]
      by_cases h7 : n % 8 = 7
      · rw [left_C m c ⟨n, hn⟩ h7, leftC_norm, hp]
      · rw [left_B m c ⟨n, hn⟩ ⟨by dsimp only; omega, by dsimp only; omega⟩, leftB_norm, hp]
termination_by n => n
decreasing_by omega

theorem before_norm (h : t.val % 8 ≠ 0) : (leftBefore m c t).1 = rows (rowAt t) (val_main_v15 (F := Ideal) (x m c) (g m c)) := by
  rw [← rowAt_prev t h]; exact norm_at m c _ _

theorem relu_at : (left m c t.val t.isLt).2.1 = fun i : S1024x512.Idx => val_main_v16 (F := Ideal) (x m c) (g m c) (wi m c) (ix2 (rowAt t (i 0)) (unit (slice t) (i 1))) := by
  by_cases h0 : t.val % 8 = 0
  · rw [left_A m c t h0, leftA_relu, iblk0, iblk1, iblk2, norm_eq, kept_eq]
  by_cases h7 : t.val % 8 = 7
  · rw [left_C m c t h7, leftC_relu, before_norm m c t h0, iblk2, kept_eq]
  · rw [left_B m c t ⟨by omega, by omega⟩, leftB_relu, before_norm m c t h0, iblk2, kept_eq]

/-- The part of slice `s`, nothing past the last slice. -/
def step (t : Fin cfg0.N) (r l : Fin 1024) (s : ℕ) : EReal :=
  if h : s < 8 then part (x m c) (g m c) (wi m c) (wo m c) ⟨s, h⟩ (rowAt t r) l else 0

theorem step_slice (r l : Fin 1024) : step m c t r l (t.val % 8) = part (x m c) (g m c) (wi m c) (wo m c) (slice t) (rowAt t r) l :=
  dif_pos (by omega)

/-- After a point the scratch buffer holds the sum over the tile's slices so far. -/
theorem sum_at : ∀ (n : ℕ) (hn : n < cfg0.N),
    (left m c n hn).2.2.2 = fun i : S1024x1024.Idx => ∑ s ∈ Finset.range (n % 8 + 1), step m c ⟨n, hn⟩ (i 0) (i 1) s
  | n, hn => by
    have es (r l : Fin 1024) := step_slice m c ⟨n, hn⟩ r l
    by_cases h0 : n % 8 = 0
    · rw [left_A m c ⟨n, hn⟩ h0, leftA_sum, iblk0, iblk1, iblk2, iblk3, norm_eq, zero_eq, added_eq]
      funext i
      idx_vars i
      show (0 : EReal) + part (x m c) (g m c) (wi m c) (wo m c) (slice ⟨n, hn⟩) (rowAt ⟨n, hn⟩ i0) i1 = ∑ s ∈ Finset.range (n % 8 + 1), step m c ⟨n, hn⟩ i0 i1 s
      have ez : step m c ⟨n, hn⟩ i0 i1 (n % 8) = _ := es i0 i1
      rw [zero_add, ← ez, h0, Finset.sum_range_one]
    · have e := rowAt_prev ⟨n, hn⟩ h0
      have hp : (leftBefore m c ⟨n, hn⟩).2.2.2 = fun i : S1024x1024.Idx => ∑ s ∈ Finset.range ((n - 1) % 8 + 1), step m c (prev ⟨n, hn⟩) (i 0) (i 1) s :=
        sum_at (n - 1) (Nat.lt_of_le_of_lt (Nat.sub_le _ _) hn)
      have ep : (n - 1) % 8 + 1 = n % 8 := by omega
      have eq : (left m c n hn).2.2.2 = fun i : S1024x1024.Idx => (leftBefore m c ⟨n, hn⟩).2.2.2 (ix2 (i 0) (i 1))
          + part (x m c) (g m c) (wi m c) (wo m c) (slice ⟨n, hn⟩) (rowAt ⟨n, hn⟩ (i 0)) (i 1) := by
        by_cases h7 : n % 8 = 7
        · rw [left_C m c ⟨n, hn⟩ h7, leftC_sum, before_norm m c ⟨n, hn⟩ h0, iblk2, iblk3, added_eq]
        · rw [left_B m c ⟨n, hn⟩ ⟨by dsimp only; omega, by dsimp only; omega⟩, leftB_sum, before_norm m c ⟨n, hn⟩ h0, iblk2, iblk3, added_eq]
      rw [eq, hp, ep]
      funext i
      idx_vars i
      show ∑ s ∈ Finset.range (n % 8), step m c (prev ⟨n, hn⟩) i0 i1 s + part (x m c) (g m c) (wi m c) (wo m c) (slice ⟨n, hn⟩) (rowAt ⟨n, hn⟩ i0) i1
        = ∑ s ∈ Finset.range (n % 8 + 1), step m c ⟨n, hn⟩ i0 i1 s
      have ez : step m c ⟨n, hn⟩ i0 i1 (n % 8) = _ := es i0 i1
      rw [← ez, Finset.sum_range_succ]
      refine congrArg (· + _) (Finset.sum_congr rfl fun s _ => ?_)
      unfold step
      rw [e]
termination_by n => n
decreasing_by omega

theorem product_at (h : t.val % 8 = 7) : (left m c t.val t.isLt).2.2.2
    = fun i : S1024x1024.Idx => val_main_v18 (F := Ideal) (x m c) (g m c) (wi m c) (wo m c) (ix2 (rowAt t (i 0)) (i 1)) := by
  rw [sum_at]
  funext i
  idx_vars i
  show ∑ s ∈ Finset.range (t.val % 8 + 1), step m c t i0 i1 s = val_main_v18 (F := Ideal) (x m c) (g m c) (wi m c) (wo m c) (ix2 (rowAt t i0) i1)
  rw [product_eq, h, ← Fin.sum_univ_eq_sum_range]
  exact Finset.sum_congr rfl fun s _ => dif_pos s.isLt

theorem out_at (h : t.val % 8 = 7) : (left m c t.val t.isLt).2.2.1 = rows (rowAt t) (val_main_v19 (F := Ideal) (x m c) (g m c) (wi m c) (wo m c)) := by
  have e := product_at m c t h
  rw [left_C m c t h, leftC_sum] at e
  rw [left_C m c t h, leftC_out, iblk0, e]
  exact out_eq _ _ _ _ _ _ rfl

/-! ## The arrays -/

theorem final4 : (dats m 0 c).arrAt 4 (cfgs 0).N = val_main_v15 (F := Ideal) (x m c) (g m c) := by
  refine (dats m 0 c).arrAt_eq_of_covers 4 _ (by decide +kernel) fun t _ y => ?_
  blk_simp
  rw [after4, show (win0_4.blk t).view.emb y = ix2 (rowAt t (y 0)) (y 1) by blk_ext [idx t, rowAt], norm_at]
  rfl

theorem final5 : (dats m 0 c).arrAt 5 (cfgs 0).N = val_main_v16 (F := Ideal) (x m c) (g m c) (wi m c) := by
  refine (dats m 0 c).arrAt_eq_of_covers 5 _ (by decide +kernel) fun t _ y => ?_
  blk_simp
  rw [after5, show (win0_5.blk t).view.emb y = ix2 (rowAt t (y 0)) (unit (slice t) (y 1)) by blk_ext [idx t, rowAt, unit, slice], relu_at]

theorem final6 : (dats m 0 c).arrAt 6 (cfgs 0).N = val_main_v19 (F := Ideal) (x m c) (g m c) (wi m c) (wo m c) := by
  refine (dats m 0 c).arrAt_eq_of_covers 6 _ (by decide +kernel) fun t hf y => ?_
  have ht := (flush0_6 t).mp hf
  blk_simp
  rw [after6, show (win0_6.blk t).view.emb y = ix2 (rowAt t (y 0)) (y 1) by blk_ext [idx t, rowAt], out_at m c t ht]
  rfl

end Cert.FwdValue

end
-- ==== Proof.FwdClaim.lean ====
/- The feedforward layer, forward: the kernel's results are the reference's. -/
module

public import proofs.«01_k».proof.Defs
public import proofs.«01_k».proof.Proof.FwdValue
public import proofs.«01_k».proof.Proof.Gen.RFwdIdeal.Run

@[expose] public section

set_option maxRecDepth 16384

noncomputable section

open Idealize.ShloMosaic Idealize.ShloMosaic.TcCoe Idealize.SL.Sem

namespace Cert.FwdClaim

open Cert.KFwdIdeal

theorem frame_reference : Cert.quiescent_RFwdIdeal := fun m ρ _ =>
  (θ_run _ _ _).mono (fun r h => ⟨fun c => (h c).2.2.2, sem_eq_zero_of_no_sems (by decide) r.2⟩) (Cert.RFwdIdeal.Value.run m ρ)

set_option maxHeartbeats 4000000 in
theorem algebraic : Cert.algebraic_KFwdIdeal_RFwdIdeal := by
  pair_intro
  · run_from Cert.KFwdIdeal.Body.run_main m g
  · run_from Cert.RFwdIdeal.Value.run m' g'
    · refine (Cert.RFwdIdeal.Read.val_main_v15_eq _ _).trans ?_
      rw [FwdValue.final4]
      rfl
    · refine (Cert.RFwdIdeal.Read.val_main_v16_eq _ _ _).trans ?_
      rw [FwdValue.final5]
      rfl
    · refine (Cert.RFwdIdeal.Read.val_main_v19_eq _ _ _ _).trans ?_
      rw [FwdValue.final6]
      rfl

end Cert.FwdClaim

end
-- ==== Proof.MixPay.lean ====
/- The state space layer's exit: what its forward kernel computes from rows, entry by entry the reference's. -/
module

public import proofs.«01_k».proof.Proof.Gen.KMixIdeal.Value
public import proofs.«01_k».proof.Proof.Gen.RMixIdeal.Read
public import proofs.«01_k».proof.Proof.Reals
public import Idealize.ShloMosaic.Lib.Pipeline.ValueKit

@[expose] public section

set_option maxRecDepth 65536

noncomputable section

open Idealize.ShloMosaic Idealize.ShloMosaic.TcCoe Idealize.ShloMosaic.Tactic Idealize.SL.Sem

namespace Cert.MixPay

open Cert.KMixIdeal Cert.KMixIdeal.Gen Cert.Reals
open Cert.RMixIdeal.Read

variable (ys x : S2048x1024.Idx → EReal) (g d : S1024.Idx → EReal) (w : S1024x2048.Idx → EReal) (b : S2048.Idx → EReal) (ρ : Fin 512 → Fin 2048)

/-- Rows of an array; a vector as a row; a block of columns of the weight, and of the bias. -/
def rows (x : S2048x1024.Idx → EReal) : S512x1024.Idx → EReal := fun i => x (ix2 (ρ (i 0)) (i 1))
def row (g : S1024.Idx → EReal) : S1x1024.Idx → EReal := fun i => g (ix1 (i 1))
def col (j : Fin 8) (l : Fin 256) : Fin 2048 := ⟨j.val * 256 + l.val, by omega⟩
def wcol (j : Fin 8) : S1x1024x256.Idx → EReal := fun i => w (ix2 (i 1) (col j (i 2)))
def bcol (j : Fin 8) : S1x256.Idx → EReal := fun i => b (ix1 (col j (i 1)))

theorem mixed_eq : k0_pay4 (F := Ideal) (rows ρ x) (row g) (rows ρ ys) (row d) = rows ρ (val_main_v16 (F := Ideal) ys x g d) := by
  funext i
  unfold rows row
  idx_vars i
  pointwise [k0_pay4, val_main_v16, val_main_v15, val_main_v14, val_main_v13, val_main_v12, val_main_v11, val_main_v10, val_main_v9, val_main_v8,
    val_main_v7, val_main_v6, val_main_v5, val_main_v4, val_main_v3, val_main_v2, val_main_v1, val_main_v0, val_main_cst, val_main_cst_0, val_main_cst_1]

theorem gelu_eq : k0_pay5 (F := Ideal) (rows ρ x) (row g) (rows ρ ys) (row d) = rows ρ (val_main_v29 (F := Ideal) ys x g d) := by
  unfold k0_pay5
  dsimp only
  rw [mixed_eq]
  funext i
  unfold rows
  idx_vars i
  pointwise [val_main_v29, val_main_v28, val_main_v27, val_main_v26, val_main_v25, val_main_v24, val_main_v23, val_main_v22, val_main_v21, val_main_v20,
    val_main_v19, val_main_v18, val_main_v17, val_main_cst_2, val_main_cst_3, val_main_cst_4, val_main_cst_5]
  rw [mul_assoc (val_main_v16 (F := Ideal) ys x g d (ix2 (ρ i0) i1))]

theorem z_eq (u : S2048x1024.Idx → EReal) (j : Fin 8) (r : Fin 512) (l : Fin 256) (hu : u = val_main_v29 (F := Ideal) ys x g d) :
    k0_pay8 (F := Ideal) (rows ρ u) (wcol w j) (bcol b j) (ix2 r l) = val_main_v33 (F := Ideal) ys x g d w b (ix2 (ρ r) (col j l)) := by
  subst hu
  unfold rows wcol bcol
  pointwise [k0_pay8, val_main_v33, val_main_v32, val_main_v31, val_main_v30]

/-- A store of pre-activations is the reference's at its place. -/
theorem z_store {U : S512x1024.Idx → EReal} {W : S1x1024x256.Idx → EReal} {B : S1x256.Idx → EReal} (j : Fin 8) {i : S512x256.Idx} {r : Fin 512} {l : Fin 2048}
    (hU : U = rows ρ (val_main_v29 (F := Ideal) ys x g d)) (hW : W = wcol w j) (hB : B = bcol b j)
    (hr : r.val = (i 0).val) (hl : l.val = j.val * 256 + (i 1).val) :
    k0_pay8 (F := Ideal) U W B i = val_main_v33 (F := Ideal) ys x g d w b (ix2 (ρ r) l) := by
  subst hU hW hB
  obtain rfl : r = i 0 := Fin.ext hr
  obtain rfl : l = col j (i 1) := Fin.ext hl
  idx_vars i
  exact z_eq ys x g d w b ρ _ j i0 i1 rfl

/-- A store of the layer's output is the reference's at its place. -/
theorem out_store {p q : EReal} (j : Fin 4) {i : S512x256.Idx} {r : Fin 512} {l : Fin 1024} {e : EReal}
    (hr : r.val = (i 0).val) (hl : l.val = j.val * 256 + (i 1).val) (he : e = x (ix2 (ρ r) l))
    (hp : p = val_main_v33 (F := Ideal) ys x g d w b (ix2 (ρ r) ⟨l.val, by omega⟩))
    (hq : q = val_main_v33 (F := Ideal) ys x g d w b (ix2 (ρ r) ⟨1024 + l.val, by omega⟩)) :
    e + p * Ideal.logistic q = val_main_v43 (F := Ideal) ys x g d w b (ix2 (ρ r) l) := by
  subst he hp hq
  pointwise [val_main_v43, val_main_v42, val_main_v41, val_main_v40, val_main_v39, val_main_v38, val_main_v37, val_main_v36, val_main_v35, val_main_v34,
    val_main_cst_6, val_main_cst_7, Ideal.logistic]

end Cert.MixPay

end
-- ==== Proof.MixValue.lean ====
/- The arrays that the state space layer's exit writes: the reference's, entry by entry. -/
module

public import proofs.«01_k».proof.Proof.MixPay
public import Idealize.ShloMosaic.Lib.WholeRead

@[expose] public section

set_option maxRecDepth 65536

noncomputable section

open Idealize.ShloMosaic Idealize.ShloMosaic.TcCoe Idealize.ShloMosaic.Tactic Idealize.SL.Sem

namespace Cert.MixValue

open Cert.KMixIdeal Cert.KMixIdeal.Gen Cert.Reals Cert.MixPay
open Cert.RMixIdeal.Read

variable (m : (ℓ : Loc nD τ sig) → Buf (Elt Ideal) ℓ) (c : Dev nD) (t : Fin cfg0.N)

/-- The arguments. -/
def ys : S2048x1024.Idx → EReal := m ((c : Thread nD τ).loc main_arg0)
def x : S2048x1024.Idx → EReal := m ((c : Thread nD τ).loc main_arg1)
def g : S1024.Idx → EReal := m ((c : Thread nD τ).loc main_arg2)
def d : S1024.Idx → EReal := m ((c : Thread nD τ).loc main_arg3)
def w : S1024x2048.Idx → EReal := m ((c : Thread nD τ).loc main_arg4)
def b : S2048.Idx → EReal := m ((c : Thread nD τ).loc main_arg5)

theorem idx : ∀ t : Fin cfg0.N, win0_0.index t = ![t.val, 0] ∧ win0_1.index t = ![t.val, 0] ∧ win0_2.index t = ![0, 0] ∧ win0_3.index t = ![0, 0]
    ∧ win0_4.index t = ![0, 0, 0] ∧ win0_5.index t = ![0, 0] ∧ win0_6.index t = ![t.val, 0] ∧ win0_7.index t = ![t.val, 0] ∧ win0_8.index t = ![t.val, 0] :=
  (by decide +kernel : ∀ t : Fin grid0.N, _)

theorem lt4 (t : Fin cfg0.N) : t.val < 4 := lt_of_lt_of_eq t.isLt N_0

def rowAt (t : Fin cfg0.N) (r : Fin 512) : Fin 2048 := ⟨t.val * 512 + r.val, by have := lt4 t; omega⟩

theorem iblk0 : iblk m c 0 t = rows (rowAt t) (ys m c) := by
  funext i
  have e : iblk m c 0 t i = V m c main_arg0 (ix2 (rowAt t (i 0)) (i 1)) := by
    unfold iblk
    show ((cfg0.win 0).blk t).view.read (Elt Ideal) (V m c main_arg0) i = _
    generalize V m c main_arg0 = X
    blk_ext [idx t, rowAt]
  exact e.trans (congrFun (Gen.V_main_arg0 m c) _)

theorem iblk1 : iblk m c 1 t = rows (rowAt t) (x m c) := by
  funext i
  have e : iblk m c 1 t i = V m c main_arg1 (ix2 (rowAt t (i 0)) (i 1)) := by
    unfold iblk
    show ((cfg0.win 1).blk t).view.read (Elt Ideal) (V m c main_arg1) i = _
    generalize V m c main_arg1 = X
    blk_ext [idx t, rowAt]
  exact e.trans (congrFun (Gen.V_main_arg1 m c) _)

theorem gain_at : V m c main_v2 = row (g m c) := by
  entry_read
  funext i
  unfold row g
  idx_vars i
  pointwise

theorem skip_at : V m c main_v3 = row (d m c) := by
  entry_read
  funext i
  unfold row d
  idx_vars i
  pointwise

theorem weights_at : V m c main_v4 = fun i : S8x1024x256.Idx => w m c (ix2 (i 1) (col (i 0) (i 2))) := by
  entry_read
  funext i
  unfold w col
  idx_vars i
  pointwise

theorem bias_at : V m c main_v5 = fun i : S1x2048.Idx => b m c (ix1 (i 1)) := by
  entry_read
  funext i
  unfold b
  idx_vars i
  pointwise

theorem iblk2 : iblk m c 2 t = row (g m c) := by
  rw [← gain_at]
  funext i
  unfold iblk
  show ((cfg0.win 2).blk t).view.read (Elt Ideal) (V m c main_v2) i = _
  generalize V m c main_v2 = X
  blk_ext [idx t]

theorem iblk3 : iblk m c 3 t = row (d m c) := by
  rw [← skip_at]
  funext i
  unfold iblk
  show ((cfg0.win 3).blk t).view.read (Elt Ideal) (V m c main_v3) i = _
  generalize V m c main_v3 = X
  blk_ext [idx t]

theorem iblk4 : iblk m c 4 t = fun i : S8x1024x256.Idx => w m c (ix2 (i 1) (col (i 0) (i 2))) := by
  rw [← weights_at]
  funext i
  unfold iblk
  show ((cfg0.win 4).blk t).view.read (Elt Ideal) (V m c main_v4) i = _
  generalize V m c main_v4 = X
  blk_ext [idx t]

theorem iblk5 : iblk m c 5 t = fun i : S1x2048.Idx => b m c (ix1 (i 1)) := by
  rw [← bias_at]
  funext i
  unfold iblk
  show ((cfg0.win 5).blk t).view.read (Elt Ideal) (V m c main_v5) i = _
  generalize V m c main_v5 = X
  blk_ext [idx t]

theorem final6 : (dats m 0 c).arrAt 6 (cfgs 0).N = val_main_v16 (F := Ideal) (ys m c) (x m c) (g m c) (d m c) := by
  refine (dats m 0 c).arrAt_eq_of_covers 6 _ (by decide +kernel) fun t _ y => ?_
  blk_simp
  rw [show (win0_6.blk t).view.emb y = ix2 (rowAt t (y 0)) (y 1) by blk_ext [idx t, rowAt]]
  rw [after0_6]
  rw [iblk0, iblk1, iblk2, iblk3, iblk4, iblk5]
  frame_out
  exact congrFun (mixed_eq _ _ _ _ _) y

/-- The gate's input, as the kernel names it. -/
theorem gelu_at : k0_pay17 (F := Ideal) (rows (rowAt t) (ys m c)) (rows (rowAt t) (x m c)) (row (g m c)) (row (d m c))
      (fun i : S8x1024x256.Idx => w m c (ix2 (i 1) (col (i 0) (i 2)))) (fun i : S1x2048.Idx => b m c (ix1 (i 1)))
    = rows (rowAt t) (val_main_v29 (F := Ideal) (ys m c) (x m c) (g m c) (d m c)) := by
  unfold k0_pay17
  frame_out
  exact gelu_eq _ _ _ _ _

theorem wload (w : S1024x2048.Idx → EReal) (j : Fin 8) (inb) :
    View.ld (Val := Elt Ideal) (S := S8x1024x256) (e' := .bf16) (fun i : S8x1024x256.Idx => w (ix2 (i 1) (col (i 0) (i 2)))) (Rect.unit (s := S8x1024x256) ![j.val, 0, 0] ![1, 1024, 256] inb) = wcol w j := by
  funext i
  unfold wcol
  idx_vars i
  pointwise

theorem bload (b : S2048.Idx → EReal) (j : Fin 8) (o : ℕ) (ho : o = j.val * 256) (inb) :
    View.ld (Val := Elt Ideal) (S := S1x2048) (e' := .f32) (fun i : S1x2048.Idx => b (ix1 (i 1))) (Rect.unit (s := S1x2048) ![0, o] ![1, 256] inb) = bcol b j := by
  subst ho
  funext i
  unfold bcol col
  idx_vars i
  pointwise

theorem final7 : (dats m 0 c).arrAt 7 (cfgs 0).N = val_main_v33 (F := Ideal) (ys m c) (x m c) (g m c) (d m c) (w m c) (b m c) := by
  refine (dats m 0 c).arrAt_eq_of_covers 7 _ (by decide +kernel) fun t _ y => ?_
  blk_simp
  rw [show (win0_7.blk t).view.emb y = ix2 (rowAt t (y 0)) (y 1) by blk_ext [idx t, rowAt]]
  rw [after0_7]
  rw [iblk0, iblk1, iblk2, iblk3, iblk4, iblk5]
  frame_out
  canon_tiles x h
  · exact z_store _ _ _ _ _ _ (rowAt t) 7 (gelu_at m c t) (wload _ 7 _) (bload _ 7 _ rfl _) h0 h1
  · exact z_store _ _ _ _ _ _ (rowAt t) 3 (gelu_at m c t) (wload _ 3 _) (bload _ 3 _ rfl _) h0 h1
  · exact z_store _ _ _ _ _ _ (rowAt t) 6 (gelu_at m c t) (wload _ 6 _) (bload _ 6 _ rfl _) h0 h1
  · exact z_store _ _ _ _ _ _ (rowAt t) 2 (gelu_at m c t) (wload _ 2 _) (bload _ 2 _ rfl _) h0 h1
  · exact z_store _ _ _ _ _ _ (rowAt t) 5 (gelu_at m c t) (wload _ 5 _) (bload _ 5 _ rfl _) h0 h1
  · exact z_store _ _ _ _ _ _ (rowAt t) 1 (gelu_at m c t) (wload _ 1 _) (bload _ 1 _ rfl _) h0 h1
  · exact z_store _ _ _ _ _ _ (rowAt t) 4 (gelu_at m c t) (wload _ 4 _) (bload _ 4 _ rfl _) h0 h1
  · exact z_store _ _ _ _ _ _ (rowAt t) 0 (gelu_at m c t) (wload _ 0 _) (bload _ 0 _ rfl _) h0 (by omega)

/-- The layer's input, read where the store stands. -/
theorem same_place (o : ℕ) (inb) {i : S512x256.Idx} {r : Fin 512} {l : Fin 1024} (hr : r.val = (i 0).val) (hl : l.val = o + (i 1).val) :
    extractStridedSlice (α := EReal) S512x256 ![0, o] (rows (rowAt t) (x m c)) inb i = x m c (ix2 (rowAt t r) l) := by
  obtain rfl : r = i 0 := Fin.ext hr
  unfold rows
  idx_vars i
  pointwise
  exact congrArg (fun k => x m c (ix2 (rowAt t i0) k)) (Fin.ext hl.symm)

theorem final8 : (dats m 0 c).arrAt 8 (cfgs 0).N = val_main_v43 (F := Ideal) (ys m c) (x m c) (g m c) (d m c) (w m c) (b m c) := by
  refine (dats m 0 c).arrAt_eq_of_covers 8 _ (by decide +kernel) fun t _ y => ?_
  blk_simp
  rw [show (win0_8.blk t).view.emb y = ix2 (rowAt t (y 0)) (y 1) by blk_ext [idx t, rowAt]]
  rw [after0_8]
  rw [iblk0, iblk1, iblk2, iblk3, iblk4, iblk5]
  frame_out
  canon_tiles x h
  · refine out_store _ _ _ _ _ _ (rowAt t) 3 h0 h1 ?_
      (z_store _ _ _ _ _ _ (rowAt t) 3 (gelu_at m c t) (wload _ 3 _) (bload _ 3 _ rfl _) h0 h1)
      (z_store _ _ _ _ _ _ (rowAt t) 7 (gelu_at m c t) (wload _ 7 _) (bload _ 7 _ rfl _) h0 (show 1024 + (y 1).val = 7 * 256 + (x 1).val by omega))
    exact same_place m c t _ _ h0 h1
  · refine out_store _ _ _ _ _ _ (rowAt t) 2 h0 h1 ?_
      (z_store _ _ _ _ _ _ (rowAt t) 2 (gelu_at m c t) (wload _ 2 _) (bload _ 2 _ rfl _) h0 h1)
      (z_store _ _ _ _ _ _ (rowAt t) 6 (gelu_at m c t) (wload _ 6 _) (bload _ 6 _ rfl _) h0 (show 1024 + (y 1).val = 6 * 256 + (x 1).val by omega))
    exact same_place m c t _ _ h0 h1
  · refine out_store _ _ _ _ _ _ (rowAt t) 1 h0 h1 ?_
      (z_store _ _ _ _ _ _ (rowAt t) 1 (gelu_at m c t) (wload _ 1 _) (bload _ 1 _ rfl _) h0 h1)
      (z_store _ _ _ _ _ _ (rowAt t) 5 (gelu_at m c t) (wload _ 5 _) (bload _ 5 _ rfl _) h0 (show 1024 + (y 1).val = 5 * 256 + (x 1).val by omega))
    exact same_place m c t _ _ h0 h1
  · refine out_store _ _ _ _ _ _ (rowAt t) 0 h0 (h1.trans (Nat.zero_add _).symm) ?_
      (z_store _ _ _ _ _ _ (rowAt t) 0 (gelu_at m c t) (wload _ 0 _) (bload _ 0 _ rfl _) h0 (h1.trans (Nat.zero_add _).symm))
      (z_store _ _ _ _ _ _ (rowAt t) 4 (gelu_at m c t) (wload _ 4 _) (bload _ 4 _ rfl _) h0 (show 1024 + (y 1).val = 4 * 256 + (x 1).val by omega))
    exact same_place m c t _ _ h0 (h1.trans (Nat.zero_add _).symm)

end Cert.MixValue

end
-- ==== Proof.MixClaim.lean ====
/- The mixing layer of the state space block, forward: the kernel's results are the reference's. -/
module

public import proofs.«01_k».proof.Defs
public import proofs.«01_k».proof.Proof.MixValue
public import proofs.«01_k».proof.Proof.Gen.RMixIdeal.Run

@[expose] public section

set_option maxRecDepth 16384

noncomputable section

open Idealize.ShloMosaic Idealize.ShloMosaic.TcCoe Idealize.SL.Sem

namespace Cert.MixClaim

open Cert.KMixIdeal

theorem frame_reference : Cert.quiescent_RMixIdeal := fun m ρ _ =>
  (θ_run _ _ _).mono (fun r h => ⟨fun c => (h c).2.2.2, sem_eq_zero_of_no_sems (by decide) r.2⟩) (Cert.RMixIdeal.Value.run m ρ)

theorem algebraic : Cert.algebraic_KMixIdeal_RMixIdeal := by
  pair_intro
  · run_from Cert.KMixIdeal.Gen.run_main m g
  · run_from Cert.RMixIdeal.Value.run m' g'
    · refine (Cert.RMixIdeal.Read.val_main_v16_eq _ _ _ _).trans ?_
      rw [MixValue.final6]
      rfl
    · refine (Cert.RMixIdeal.Read.val_main_v33_eq _ _).trans ?_
      rw [MixValue.final7, (hagree c).1, (hagree c).2.1, (hagree c).2.2.1, (hagree c).2.2.2.1, (hagree c).2.2.2.2.1, (hagree c).2.2.2.2.2]
      rfl
    · refine (Cert.RMixIdeal.Read.val_main_v43_eq _ _).trans ?_
      rw [MixValue.final8, (hagree c).1, (hagree c).2.1, (hagree c).2.2.1, (hagree c).2.2.2.1, (hagree c).2.2.2.2.1, (hagree c).2.2.2.2.2]
      rfl

end Cert.MixClaim

end
-- ==== Proof.ProjPay.lean ====
/- The attention layer's entry: what its forward kernel computes from rows, entry by entry the reference's. -/
module

public import proofs.«01_k».proof.Proof.Gen.KProjIdeal.Value
public import proofs.«01_k».proof.Proof.Gen.RProjIdeal.Read
public import proofs.«01_k».proof.Proof.Reals
public import Idealize.ShloMosaic.Lib.Pipeline.ValueKit

@[expose] public section

set_option maxRecDepth 65536

noncomputable section

open Idealize.ShloMosaic Idealize.ShloMosaic.TcCoe Idealize.ShloMosaic.Tactic Idealize.SL.Sem

namespace Cert.ProjPay

open Cert.KProjIdeal Cert.KProjIdeal.Gen Cert.Reals
open Cert.RProjIdeal.Read

variable (x : S2048x1024.Idx → EReal) (g e : S1024.Idx → EReal) (w : S1024x512.Idx → EReal) (b : S512.Idx → EReal)
  (wq : S1024x1024.Idx → EReal) (bq : S1024.Idx → EReal) (ρ : Fin 512 → Fin 2048)

/-- Rows of an array; a vector as a row. -/
def rows (x : S2048x1024.Idx → EReal) : S512x1024.Idx → EReal := fun i => x (ix2 (ρ (i 0)) (i 1))
def row (g : S1024.Idx → EReal) : S1x1024.Idx → EReal := fun i => g (ix1 (i 1))
def half (b : S512.Idx → EReal) : S1x512.Idx → EReal := fun i => b (ix1 (i 1))

/-- Where a column of keys or values is read: by the lanes of its group of four heads, at its own place in the head. -/
def spread (i : S256x1024.Idx) : EReal := if (i 1).val / 256 = (i 0).val / 64 ∧ (i 1).val % 64 = (i 0).val % 64 then 1 else 0

/-- The column of keys or values that a lane reads. -/
def src (l : Fin 1024) : Fin 256 := ⟨l.val / 256 * 64 + l.val % 64, by omega⟩

/-- A product with `spread` picks one column. -/
theorem spread_pick (a : Fin 256 → EReal) (l : Fin 1024) : ∑ j : Fin 256, a j * spread (ix2 j l) = a (src l) := by
  rw [Finset.sum_eq_single (src l)]
  · have : spread (ix2 (src l) l) = 1 := if_pos ⟨by simp only [src]; show l.val / 256 = (l.val / 256 * 64 + l.val % 64) / 64; omega,
      by show l.val % 64 = (l.val / 256 * 64 + l.val % 64) % 64; omega⟩
    rw [this, mul_one]
  · intro j _ hj
    have : spread (ix2 j l) = 0 := if_neg fun h => hj (Fin.ext (by
      have h1 : l.val / 256 = j.val / 64 := h.1
      have h2 : l.val % 64 = j.val % 64 := h.2
      show j.val = l.val / 256 * 64 + l.val % 64
      omega))
    rw [this, mul_zero]
  · exact fun h => absurd (Finset.mem_univ _) h

theorem keys_norm : k0_pay5 (F := Ideal) (rows ρ x) (row g) = rows ρ (val_main_v36 (F := Ideal) x g) := by
  funext i
  unfold rows row
  idx_vars i
  pointwise [k0_pay5, val_main_v36, val_main_v12, val_main_v11, val_main_v10, val_main_v9, val_main_v8,
    val_main_v7, val_main_v6, val_main_v5, val_main_v4, val_main_v3, val_main_v2, val_main_v1, val_main_v0, val_main_cst, val_main_cst_0, val_main_cst_1]

theorem query_norm : k0_pay6 (F := Ideal) (rows ρ x) (row e) = rows ρ (val_main_v37 (F := Ideal) x e) := by
  funext i
  unfold rows row
  idx_vars i
  pointwise [k0_pay6, val_main_v37, val_main_v25, val_main_v24, val_main_v23, val_main_v22, val_main_v21, val_main_v20, val_main_v19, val_main_v18,
    val_main_v17, val_main_v16, val_main_v15, val_main_v14, val_main_v13, val_main_cst_2, val_main_cst_3, val_main_cst_4]

theorem keys_product : k0_pay7 (F := Ideal) (rows ρ x) (row g) w = fun i : S512x512.Idx => val_main_v26 (F := Ideal) x g w (ix2 (ρ (i 0)) (i 1)) := by
  unfold k0_pay7
  dsimp only
  rw [keys_norm]
  funext i
  unfold rows
  idx_vars i
  pointwise [val_main_v26, val_main_v36]

theorem keys_both : k0_pay1 (F := Ideal) (fun i : S512x512.Idx => val_main_v26 (F := Ideal) x g w (ix2 (ρ (i 0)) (i 1))) (half b)
    = fun i : S512x512.Idx => val_main_v29 (F := Ideal) x g w b (ix2 (ρ (i 0)) (i 1)) := by
  funext i
  unfold half
  idx_vars i
  pointwise [k0_pay1, val_main_v29, val_main_v28, val_main_v27]

theorem keys_eq : k0_pay2 (F := Ideal) (fun i : S512x512.Idx => val_main_v26 (F := Ideal) x g w (ix2 (ρ (i 0)) (i 1))) (half b) spread
    = rows ρ (val_main_v41 (F := Ideal) x g w b) := by
  unfold k0_pay2
  dsimp only
  rw [keys_both]
  funext i
  unfold rows
  idx_vars i
  pointwise [val_main_v41, val_main_v40, val_main_v39, val_main_v38, val_main_v30]
  exact spread_pick (fun j => val_main_v29 (F := Ideal) x g w b (ix2 (ρ i0) ⟨j.val, by omega⟩)) i1

theorem values_eq : k0_pay3 (F := Ideal) (fun i : S512x512.Idx => val_main_v26 (F := Ideal) x g w (ix2 (ρ (i 0)) (i 1))) (half b) spread
    = rows ρ (val_main_v45 (F := Ideal) x g w b) := by
  unfold k0_pay3
  dsimp only
  rw [keys_both]
  funext i
  unfold rows
  idx_vars i
  pointwise [val_main_v45, val_main_v44, val_main_v43, val_main_v42, val_main_v31]
  exact spread_pick (fun j => val_main_v29 (F := Ideal) x g w b (ix2 (ρ i0) ⟨256 + j.val, by omega⟩)) i1

theorem query_eq : k0_pay4 (F := Ideal) (k0_pay6 (F := Ideal) (rows ρ x) (row e)) wq (row bq) = rows ρ (val_main_v46 (F := Ideal) x e wq bq) := by
  rw [query_norm]
  funext i
  unfold rows row
  idx_vars i
  pointwise [k0_pay4, val_main_v46, val_main_v35, val_main_v34, val_main_v33, val_main_v32, val_main_v37]

end Cert.ProjPay

end
-- ==== Proof.ProjValue.lean ====
/- The arrays that the attention layer's entry writes: the reference's, entry by entry. -/
module

public import proofs.«01_k».proof.Proof.ProjPay
public import proofs.«01_k».proof.Proof.KeysValue
public import Idealize.ShloMosaic.Lib.WholeRead

@[expose] public section

set_option maxRecDepth 65536

noncomputable section

open Idealize.ShloMosaic Idealize.ShloMosaic.TcCoe Idealize.ShloMosaic.Tactic Idealize.SL.Sem

namespace Cert.ProjValue

open Cert.KProjIdeal Cert.KProjIdeal.Gen Cert.Reals Cert.ProjPay
open Cert.RProjIdeal.Read
open Cert.KKeysIdeal.Final (quot rem quot_256 quot_64 rem_64 eq_bit)

variable (m : (ℓ : Loc nD τ sig) → Buf (Elt Ideal) ℓ) (c : Dev nD) (t : Fin cfg0.N)

/-- The arguments: the layer's input, the two norms' gains, the keys' and values' weight and bias, the queries'. -/
def x : S2048x1024.Idx → EReal := m ((c : Thread nD τ).loc main_arg0)
def g : S1024.Idx → EReal := m ((c : Thread nD τ).loc main_arg1)
def e : S1024.Idx → EReal := m ((c : Thread nD τ).loc main_arg2)
def w : S1024x512.Idx → EReal := m ((c : Thread nD τ).loc main_arg3)
def b : S512.Idx → EReal := m ((c : Thread nD τ).loc main_arg4)
def wq : S1024x1024.Idx → EReal := m ((c : Thread nD τ).loc main_arg5)
def bq : S1024.Idx → EReal := m ((c : Thread nD τ).loc main_arg6)

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![t.val, 0]
    ∧ win0_12.index t = ![t.val, 0] :=
  (by decide +kernel : ∀ t : Fin grid0.N, _)

theorem lt4 (t : Fin cfg0.N) : t.val < 4 := lt_of_lt_of_eq t.isLt N_0

def rowAt (t : Fin cfg0.N) (r : Fin 512) : Fin 2048 := ⟨t.val * 512 + r.val, by have := lt4 t; omega⟩

theorem iblk0 : iblk m c 0 t = rows (rowAt t) (x m c) := by
  funext i
  have e : iblk m c 0 t i = V m c main_arg0 (ix2 (rowAt t (i 0)) (i 1)) := by
    unfold iblk
    show ((cfg0.win 0).blk t).view.read (Elt Ideal) (V m c main_arg0) i = _
    generalize V m c main_arg0 = X
    blk_ext [idx t, rowAt]
  exact e.trans (congrFun (Gen.V_main_arg0 m c) _)

theorem gain_at : V m c main_v0 = row (g m c) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  funext i
  unfold row g
  idx_vars i
  pointwise

theorem query_gain_at : V m c main_v1 = row (e m c) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  funext i
  unfold row e
  idx_vars i
  pointwise

theorem weights_at : V m c main_v2 = w m c := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  funext i
  unfold w
  idx_vars i
  pointwise

theorem bias_at : V m c main_v3 = half (b m c) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  funext i
  unfold half b
  idx_vars i
  pointwise

theorem query_weights_at : V m c main_v14 = wq m c := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  funext i
  unfold wq
  idx_vars i
  pointwise

theorem query_bias_at : V m c main_v15 = row (bq m c) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  funext i
  unfold row bq
  idx_vars i
  pointwise

theorem spread_at : V m c main_v13 = spread := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  funext i
  idx_vars i
  simp only [StableHlo.TRef.ofBuf_toBuf, eqRec_eq_cast, cast_eq]
  pointwise
  show FloatOps.uitofp (F := Ideal) FTy.bf16 (IntOp.andi (IntOp.cmpi CmpIPredicate.eq (quot 256#32 i1.val) (quot 64#32 i0.val))
    (IntOp.cmpi CmpIPredicate.eq (rem i1.val) (rem i0.val))) = _
  have er := rem_64 ⟨i0.val, by omega⟩
  have hs : spread (ix2 i0 i1) = if i1.val / 256 = i0.val / 64 ∧ i1.val % 64 = i0.val % 64 then 1 else 0 := rfl
  rw [quot_256, quot_64, rem_64, er, eq_bit _ _ (by omega) (by omega), eq_bit _ _ (by omega) (by simp only; omega), hs]
  by_cases h1 : i1.val / 256 = i0.val / 64 <;> by_cases h2 : i1.val % 64 = i0.val % 64 <;>
    simp [h1, h2, IntOp.andi, FloatOps.uitofp]

theorem iblk1 : iblk m c 1 t = row (g m c) := by
  rw [← gain_at m c]
  funext i
  unfold iblk
  show ((cfg0.win 1).blk t).view.read (Elt Ideal) (V m c main_v0) i = _
  generalize V m c main_v0 = X
  blk_ext [idx t]

theorem iblk2 : iblk m c 2 t = row (e m c) := by
  rw [← query_gain_at m c]
  funext i
  unfold iblk
  show ((cfg0.win 2).blk t).view.read (Elt Ideal) (V m c main_v1) i = _
  generalize V m c main_v1 = X
  blk_ext [idx t]

theorem iblk3 : iblk m c 3 t = w m c := by
  rw [← weights_at m c]
  funext i
  unfold iblk
  show ((cfg0.win 3).blk t).view.read (Elt Ideal) (V m c main_v2) i = _
  generalize V m c main_v2 = X
  blk_ext [idx t]

theorem iblk4 : iblk m c 4 t = half (b m c) := by
  rw [← bias_at m c]
  funext i
  unfold iblk
  show ((cfg0.win 4).blk t).view.read (Elt Ideal) (V m c main_v3) i = _
  generalize V m c main_v3 = X
  blk_ext [idx t]

theorem iblk5 : iblk m c 5 t = spread := by
  rw [← spread_at m c]
  funext i
  unfold iblk
  show ((cfg0.win 5).blk t).view.read (Elt Ideal) (V m c main_v13) i = _
  generalize V m c main_v13 = X
  blk_ext [idx t]

theorem iblk6 : iblk m c 6 t = wq m c := by
  rw [← query_weights_at m c]
  funext i
  unfold iblk
  show ((cfg0.win 6).blk t).view.read (Elt Ideal) (V m c main_v14) i = _
  generalize V m c main_v14 = X
  blk_ext [idx t]

theorem iblk7 : iblk m c 7 t = row (bq m c) := by
  rw [← query_bias_at m c]
  funext i
  unfold iblk
  show ((cfg0.win 7).blk t).view.read (Elt Ideal) (V m c main_v15) i = _
  generalize V m c main_v15 = X
  blk_ext [idx t]

/-- The keys' and values' product, as the kernel names it. -/
theorem product_at : k0_pay8 (F := Ideal) (rows (rowAt t) (x m c)) (row (g m c)) (row (e m c)) (w m c) (half (b m c)) spread (wq m c) (row (bq m c))
    = fun i : S512x512.Idx => val_main_v26 (F := Ideal) (x m c) (g m c) (w m c) (ix2 (rowAt t (i 0)) (i 1)) := by
  unfold k0_pay8
  frame_out
  exact keys_product _ _ _ _

theorem final8 : (dats m 0 c).arrAt 8 (cfgs 0).N = val_main_v36 (F := Ideal) (x m c) (g m c) := by
  refine (dats m 0 c).arrAt_eq_of_covers 8 _ (by decide +kernel) fun t _ y => ?_
  blk_simp
  rw [show (win0_8.blk t).view.emb y = ix2 (rowAt t (y 0)) (y 1) by blk_ext [idx t, rowAt]]
  rw [after0_8]
  rw [iblk0, iblk1, iblk2, iblk3, iblk4, iblk5, iblk6, iblk7]
  frame_out
  exact congrFun (keys_norm _ _ _) y

theorem final9 : (dats m 0 c).arrAt 9 (cfgs 0).N = val_main_v37 (F := Ideal) (x m c) (e m c) := by
  refine (dats m 0 c).arrAt_eq_of_covers 9 _ (by decide +kernel) fun t _ y => ?_
  blk_simp
  rw [show (win0_9.blk t).view.emb y = ix2 (rowAt t (y 0)) (y 1) by blk_ext [idx t, rowAt]]
  rw [after0_9]
  rw [iblk0, iblk1, iblk2, iblk3, iblk4, iblk5, iblk6, iblk7]
  frame_out
  exact congrFun (query_norm _ _ _) y

theorem final10 : (dats m 0 c).arrAt 10 (cfgs 0).N = val_main_v41 (F := Ideal) (x m c) (g m c) (w m c) (b m c) := by
  refine (dats m 0 c).arrAt_eq_of_covers 10 _ (by decide +kernel) fun t _ y => ?_
  blk_simp
  rw [show (win0_10.blk t).view.emb y = ix2 (rowAt t (y 0)) (y 1) by blk_ext [idx t, rowAt]]
  rw [after0_10]
  rw [iblk0, iblk1, iblk2, iblk3, iblk4, iblk5, iblk6, iblk7]
  frame_out
  rw [product_at]
  exact congrFun (keys_eq _ _ _ _ _) y

theorem final11 : (dats m 0 c).arrAt 11 (cfgs 0).N = val_main_v45 (F := Ideal) (x m c) (g m c) (w m c) (b m c) := by
  refine (dats m 0 c).arrAt_eq_of_covers 11 _ (by decide +kernel) fun t _ y => ?_
  blk_simp
  rw [show (win0_11.blk t).view.emb y = ix2 (rowAt t (y 0)) (y 1) by blk_ext [idx t, rowAt]]
  rw [after0_11]
  rw [iblk0, iblk1, iblk2, iblk3, iblk4, iblk5, iblk6, iblk7]
  frame_out
  rw [product_at]
  exact congrFun (values_eq _ _ _ _ _) y

theorem final12 : (dats m 0 c).arrAt 12 (cfgs 0).N = val_main_v46 (F := Ideal) (x m c) (e m c) (wq m c) (bq m c) := by
  refine (dats m 0 c).arrAt_eq_of_covers 12 _ (by decide +kernel) fun t _ y => ?_
  blk_simp
  rw [show (win0_12.blk t).view.emb y = ix2 (rowAt t (y 0)) (y 1) by blk_ext [idx t, rowAt]]
  rw [after0_12]
  rw [iblk0, iblk1, iblk2, iblk3, iblk4, iblk5, iblk6, iblk7]
  frame_out
  exact congrFun (query_eq _ _ _ _ _) y

end Cert.ProjValue

end
-- ==== Proof.ProjClaim.lean ====
/- The attention layer's entry, forward: the kernel's results are the reference's. -/
module

public import proofs.«01_k».proof.Defs
public import proofs.«01_k».proof.Proof.ProjValue
public import proofs.«01_k».proof.Proof.Gen.RProjIdeal.Run

@[expose] public section

set_option maxRecDepth 16384

noncomputable section

open Idealize.ShloMosaic Idealize.ShloMosaic.TcCoe Idealize.SL.Sem

namespace Cert.ProjClaim

open Cert.KProjIdeal

theorem frame_reference : Cert.quiescent_RProjIdeal := fun m ρ _ =>
  (θ_run _ _ _).mono (fun r h => ⟨fun c => (h c).2.2.2.2.2, sem_eq_zero_of_no_sems (by decide) r.2⟩) (Cert.RProjIdeal.Value.run m ρ)

set_option maxHeartbeats 4000000 in
theorem algebraic : Cert.algebraic_KProjIdeal_RProjIdeal := by
  pair_intro
  · run_from Cert.KProjIdeal.Gen.run_main m g
    · exact Gen.V_main_arg1 m c
    · exact Gen.V_main_arg2 m c
    · exact Gen.V_main_arg3 m c
    · exact Gen.V_main_arg4 m c
    · exact Gen.V_main_arg5 m c
    · exact Gen.V_main_arg6 m c
  · run_from Cert.RProjIdeal.Value.run m' g'
    · refine (Cert.RProjIdeal.Read.val_main_v36_eq _ _).trans ?_
      rw [ProjValue.final8]
      rfl
    · refine (Cert.RProjIdeal.Read.val_main_v37_eq _ _).trans ?_
      rw [ProjValue.final9]
      rfl
    · refine (Cert.RProjIdeal.Read.val_main_v41_eq _ _ _ _).trans ?_
      rw [ProjValue.final10]
      rfl
    · refine (Cert.RProjIdeal.Read.val_main_v45_eq _ _ _ _).trans ?_
      rw [ProjValue.final11]
      rfl
    · refine (Cert.RProjIdeal.Read.val_main_v46_eq _ _ _ _).trans ?_
      rw [ProjValue.final12]
      rfl

end Cert.ProjClaim

end
-- ==== Proof.lean ====
module

public import proofs.«01_k».proof.Defs
public import proofs.«01_k».proof.Proof.Gen.KLoss
public import proofs.«01_k».proof.Proof.Gen.KLoss.Skeleton
public import proofs.«01_k».proof.Proof.Gen.KLoss.Launch
public import proofs.«01_k».proof.Proof.Gen.KLoss.Points
public import proofs.«01_k».proof.Proof.Gen.KLoss.Frame
public import proofs.«01_k».proof.Proof.Gen.KLossIdeal
public import proofs.«01_k».proof.Proof.Gen.KLossIdeal.Skeleton
public import proofs.«01_k».proof.Proof.Gen.KLossIdeal.Launch
public import proofs.«01_k».proof.Proof.Gen.KLossIdeal.Points
public import proofs.«01_k».proof.Proof.Gen.KLossIdeal.Frame
public import proofs.«01_k».proof.Proof.Gen.RLossIdeal
public import proofs.«01_k».proof.Proof.Gen.KLossIdeal.Value
public import proofs.«01_k».proof.Proof.Gen.RLossIdeal.Run
public import proofs.«01_k».proof.Proof.Gen.RLossIdeal.Read
public import proofs.«01_k».proof.Proof.Gen.Pre_finite_loss
public import proofs.«01_k».proof.Proof.Gen.KAttn
public import proofs.«01_k».proof.Proof.Gen.KAttn.Skeleton
public import proofs.«01_k».proof.Proof.Gen.KAttn.Launch
public import proofs.«01_k».proof.Proof.Gen.KAttn.Points
public import proofs.«01_k».proof.Proof.Gen.KAttn.Frame
public import proofs.«01_k».proof.Proof.Gen.KAttnIdeal
public import proofs.«01_k».proof.Proof.Gen.KAttnIdeal.Skeleton
public import proofs.«01_k».proof.Proof.Gen.KAttnIdeal.Launch
public import proofs.«01_k».proof.Proof.Gen.KAttnIdeal.Points
public import proofs.«01_k».proof.Proof.Gen.KAttnIdeal.Frame
public import proofs.«01_k».proof.Proof.Gen.RAttnIdeal
public import proofs.«01_k».proof.Proof.Gen.RAttnIdeal.Run
public import proofs.«01_k».proof.Proof.Gen.RAttnIdeal.Read
public import proofs.«01_k».proof.Proof.Gen.Pre_finite_attn
public import proofs.«01_k».proof.Proof.Gen.KPre
public import proofs.«01_k».proof.Proof.Gen.KPre.Skeleton
public import proofs.«01_k».proof.Proof.Gen.KPre.Launch
public import proofs.«01_k».proof.Proof.Gen.KPre.Points
public import proofs.«01_k».proof.Proof.Gen.KPre.Frame
public import proofs.«01_k».proof.Proof.Gen.KPreIdeal
public import proofs.«01_k».proof.Proof.Gen.KPreIdeal.Skeleton
public import proofs.«01_k».proof.Proof.Gen.KPreIdeal.Launch
public import proofs.«01_k».proof.Proof.Gen.KPreIdeal.Points
public import proofs.«01_k».proof.Proof.Gen.KPreIdeal.Frame
public import proofs.«01_k».proof.Proof.Gen.KPreIdeal.Value
public import proofs.«01_k».proof.Proof.Gen.RPreIdeal
public import proofs.«01_k».proof.Proof.Gen.RPreIdeal.Run
public import proofs.«01_k».proof.Proof.Gen.RPreIdeal.Read
public import proofs.«01_k».proof.Proof.Gen.KQuery
public import proofs.«01_k».proof.Proof.Gen.KQuery.Skeleton
public import proofs.«01_k».proof.Proof.Gen.KQuery.Launch
public import proofs.«01_k».proof.Proof.Gen.KQuery.Points
public import proofs.«01_k».proof.Proof.Gen.KQuery.Frame
public import proofs.«01_k».proof.Proof.Gen.KQueryIdeal
public import proofs.«01_k».proof.Proof.Gen.KQueryIdeal.Skeleton
public import proofs.«01_k».proof.Proof.Gen.KQueryIdeal.Launch
public import proofs.«01_k».proof.Proof.Gen.KQueryIdeal.Points
public import proofs.«01_k».proof.Proof.Gen.KQueryIdeal.Frame
public import proofs.«01_k».proof.Proof.Gen.KQueryIdeal.Value
public import proofs.«01_k».proof.Proof.Gen.RQueryIdeal
public import proofs.«01_k».proof.Proof.Gen.RQueryIdeal.Run
public import proofs.«01_k».proof.Proof.Gen.RQueryIdeal.Read
public import proofs.«01_k».proof.Proof.Gen.KKeys
public import proofs.«01_k».proof.Proof.Gen.KKeys.Skeleton
public import proofs.«01_k».proof.Proof.Gen.KKeys.Launch
public import proofs.«01_k».proof.Proof.Gen.KKeys.Points
public import proofs.«01_k».proof.Proof.Gen.KKeys.Frame
public import proofs.«01_k».proof.Proof.Gen.KKeysIdeal
public import proofs.«01_k».proof.Proof.Gen.KKeysIdeal.Skeleton
public import proofs.«01_k».proof.Proof.Gen.KKeysIdeal.Launch
public import proofs.«01_k».proof.Proof.Gen.KKeysIdeal.Points
public import proofs.«01_k».proof.Proof.Gen.KKeysIdeal.Frame
public import proofs.«01_k».proof.Proof.Gen.KKeysIdeal.Value
public import proofs.«01_k».proof.Proof.Gen.RKeysIdeal
public import proofs.«01_k».proof.Proof.Gen.RKeysIdeal.Run
public import proofs.«01_k».proof.Proof.Gen.RKeysIdeal.Read
public import proofs.«01_k».proof.Proof.Gen.Pre_finite_pre
public import proofs.«01_k».proof.Proof.Gen.Pre_finite_query
public import proofs.«01_k».proof.Proof.Gen.Pre_finite_keys
public import proofs.«01_k».proof.Proof.LossClaim
public import proofs.«01_k».proof.Proof.AttnFrame
public import proofs.«01_k».proof.Proof.AttnClaim
public import proofs.«01_k».proof.Proof.PreClaim
public import proofs.«01_k».proof.Proof.QueryClaim
public import proofs.«01_k».proof.Proof.KeysClaim
public import proofs.«01_k».proof.Proof.Gen.KHeads
public import proofs.«01_k».proof.Proof.Gen.KHeads.Skeleton
public import proofs.«01_k».proof.Proof.Gen.KHeads.Launch
public import proofs.«01_k».proof.Proof.Gen.KHeads.Points
public import proofs.«01_k».proof.Proof.Gen.KHeads.Frame
public import proofs.«01_k».proof.Proof.Gen.KHeadsIdeal
public import proofs.«01_k».proof.Proof.Gen.KHeadsIdeal.Skeleton
public import proofs.«01_k».proof.Proof.Gen.KHeadsIdeal.Launch
public import proofs.«01_k».proof.Proof.Gen.KHeadsIdeal.Points
public import proofs.«01_k».proof.Proof.Gen.KHeadsIdeal.Frame
public import proofs.«01_k».proof.Proof.Gen.KHeadsIdeal.Value
public import proofs.«01_k».proof.Proof.Gen.RHeadsIdeal
public import proofs.«01_k».proof.Proof.Gen.RHeadsIdeal.Run
public import proofs.«01_k».proof.Proof.Gen.RHeadsIdeal.Read
public import proofs.«01_k».proof.Proof.Gen.Pre_finite_heads
public import proofs.«01_k».proof.Proof.HeadsClaim
public import proofs.«01_k».proof.Proof.Gen.KMlp
public import proofs.«01_k».proof.Proof.Gen.KMlp.Skeleton
public import proofs.«01_k».proof.Proof.Gen.KMlp.Launch
public import proofs.«01_k».proof.Proof.Gen.KMlp.Points
public import proofs.«01_k».proof.Proof.Gen.KMlpIdeal
public import proofs.«01_k».proof.Proof.Gen.KMlpIdeal.Skeleton
public import proofs.«01_k».proof.Proof.Gen.KMlpIdeal.Launch
public import proofs.«01_k».proof.Proof.Gen.KMlpIdeal.Points
public import proofs.«01_k».proof.Proof.Gen.RMlpIdeal
public import proofs.«01_k».proof.Proof.Gen.RMlpIdeal.Run
public import proofs.«01_k».proof.Proof.Gen.RMlpIdeal.Read
public import proofs.«01_k».proof.Proof.Gen.Pre_finite_mlp
public import proofs.«01_k».proof.Proof.MlpFrame
public import proofs.«01_k».proof.Proof.MlpClaim
public import proofs.«01_k».proof.Proof.Gen.KMix
public import proofs.«01_k».proof.Proof.Gen.KMix.Skeleton
public import proofs.«01_k».proof.Proof.Gen.KMix.Launch
public import proofs.«01_k».proof.Proof.Gen.KMix.Points
public import proofs.«01_k».proof.Proof.Gen.KMix.Frame
public import proofs.«01_k».proof.Proof.Gen.KMixIdeal
public import proofs.«01_k».proof.Proof.Gen.KMixIdeal.Skeleton
public import proofs.«01_k».proof.Proof.Gen.KMixIdeal.Launch
public import proofs.«01_k».proof.Proof.Gen.KMixIdeal.Points
public import proofs.«01_k».proof.Proof.Gen.KMixIdeal.Frame
public import proofs.«01_k».proof.Proof.Gen.KMixIdeal.Value
public import proofs.«01_k».proof.Proof.Gen.RMixIdeal
public import proofs.«01_k».proof.Proof.Gen.RMixIdeal.Run
public import proofs.«01_k».proof.Proof.Gen.RMixIdeal.Read
public import proofs.«01_k».proof.Proof.Gen.KProj
public import proofs.«01_k».proof.Proof.Gen.KProj.Skeleton
public import proofs.«01_k».proof.Proof.Gen.KProj.Launch
public import proofs.«01_k».proof.Proof.Gen.KProj.Points
public import proofs.«01_k».proof.Proof.Gen.KProj.Frame
public import proofs.«01_k».proof.Proof.Gen.KProjIdeal
public import proofs.«01_k».proof.Proof.Gen.KProjIdeal.Skeleton
public import proofs.«01_k».proof.Proof.Gen.KProjIdeal.Launch
public import proofs.«01_k».proof.Proof.Gen.KProjIdeal.Points
public import proofs.«01_k».proof.Proof.Gen.KProjIdeal.Frame
public import proofs.«01_k».proof.Proof.Gen.KProjIdeal.Value
public import proofs.«01_k».proof.Proof.Gen.RProjIdeal
public import proofs.«01_k».proof.Proof.Gen.RProjIdeal.Run
public import proofs.«01_k».proof.Proof.Gen.RProjIdeal.Read
public import proofs.«01_k».proof.Proof.Gen.KNorm
public import proofs.«01_k».proof.Proof.Gen.KNorm.Skeleton
public import proofs.«01_k».proof.Proof.Gen.KNorm.Launch
public import proofs.«01_k».proof.Proof.Gen.KNorm.Points
public import proofs.«01_k».proof.Proof.Gen.KNorm.Frame
public import proofs.«01_k».proof.Proof.Gen.KNormIdeal
public import proofs.«01_k».proof.Proof.Gen.KNormIdeal.Skeleton
public import proofs.«01_k».proof.Proof.Gen.KNormIdeal.Launch
public import proofs.«01_k».proof.Proof.Gen.KNormIdeal.Points
public import proofs.«01_k».proof.Proof.Gen.KNormIdeal.Frame
public import proofs.«01_k».proof.Proof.Gen.KNormIdeal.Value
public import proofs.«01_k».proof.Proof.Gen.RNormIdeal
public import proofs.«01_k».proof.Proof.Gen.RNormIdeal.Run
public import proofs.«01_k».proof.Proof.Gen.RNormIdeal.Read
public import proofs.«01_k».proof.Proof.Gen.KFwd
public import proofs.«01_k».proof.Proof.Gen.KFwd.Skeleton
public import proofs.«01_k».proof.Proof.Gen.KFwd.Launch
public import proofs.«01_k».proof.Proof.Gen.KFwd.Points
public import proofs.«01_k».proof.Proof.Gen.KFwdIdeal
public import proofs.«01_k».proof.Proof.Gen.KFwdIdeal.Skeleton
public import proofs.«01_k».proof.Proof.Gen.KFwdIdeal.Launch
public import proofs.«01_k».proof.Proof.Gen.KFwdIdeal.Points
public import proofs.«01_k».proof.Proof.Gen.RFwdIdeal
public import proofs.«01_k».proof.Proof.Gen.RFwdIdeal.Run
public import proofs.«01_k».proof.Proof.Gen.RFwdIdeal.Read
public import proofs.«01_k».proof.Proof.NormClaim
public import proofs.«01_k».proof.Proof.FwdFrame
public import proofs.«01_k».proof.Proof.FwdClaim
public import proofs.«01_k».proof.Proof.MixClaim
public import proofs.«01_k».proof.Proof.ProjClaim
public import Idealize.ShloMosaic.Adequacy
public import Idealize.ShloMosaic.Init

@[expose] public section

noncomputable section

namespace Cert.Proof

open Idealize.ShloMosaic Idealize.SL.Sem Cert.KLoss

theorem claim : Cert.Claim := ⟨Cert.KLoss.Gen.facts, Cert.KLossIdeal.Gen.facts, Cert.RLossIdeal.Gen.facts,
  Cert.KAttn.Gen.facts, Cert.KAttnIdeal.Gen.facts, Cert.RAttnIdeal.Gen.facts,
  Cert.KPre.Gen.facts, Cert.KPreIdeal.Gen.facts, Cert.RPreIdeal.Gen.facts,
  Cert.KQuery.Gen.facts, Cert.KQueryIdeal.Gen.facts, Cert.RQueryIdeal.Gen.facts,
  Cert.KKeys.Gen.facts, Cert.KKeysIdeal.Gen.facts, Cert.RKeysIdeal.Gen.facts,
  Cert.KHeads.Gen.facts, Cert.KHeadsIdeal.Gen.facts, Cert.RHeadsIdeal.Gen.facts,
  Cert.KMlp.Gen.facts, Cert.KMlpIdeal.Gen.facts, Cert.RMlpIdeal.Gen.facts,
  Cert.KMix.Gen.facts, Cert.KMixIdeal.Gen.facts, Cert.RMixIdeal.Gen.facts,
  Cert.KProj.Gen.facts, Cert.KProjIdeal.Gen.facts, Cert.RProjIdeal.Gen.facts,
  Cert.KNorm.Gen.facts, Cert.KNormIdeal.Gen.facts, Cert.RNormIdeal.Gen.facts,
  Cert.KFwd.Gen.facts, Cert.KFwdIdeal.Gen.facts, Cert.RFwdIdeal.Gen.facts,
  Cert.Pre_finite_loss.Gen.facts, Cert.Pre_finite_attn.Gen.facts, Cert.Pre_finite_pre.Gen.facts, Cert.Pre_finite_query.Gen.facts, Cert.Pre_finite_keys.Gen.facts,
  Cert.Pre_finite_heads.Gen.facts, Cert.Pre_finite_mlp.Gen.facts,
  fun m ρ _ => Cert.KLoss.Gen.frame m ρ, fun m ρ _ => Cert.KLossIdeal.Gen.frame m ρ, fun m ρ _ => Cert.KLossIdeal.Gen.frame m ρ,
  Cert.LossClaim.frame_reference, fun m ρ _ => Cert.LossClaim.frame_reference m ρ trivial,
  Cert.AttnFrame.frame_kernel, fun m ρ _ => Cert.KAttnIdeal.Body.frame m ρ, fun m ρ _ => Cert.KAttnIdeal.Body.frame m ρ,
  Cert.AttnClaim.frame_reference, fun m ρ _ => Cert.AttnClaim.frame_reference m ρ trivial,
  fun m ρ _ => Cert.KPre.Gen.frame m ρ, fun m ρ _ => Cert.KPreIdeal.Gen.frame m ρ, fun m ρ _ => Cert.KPreIdeal.Gen.frame m ρ,
  Cert.PreClaim.frame_reference, fun m ρ _ => Cert.PreClaim.frame_reference m ρ trivial,
  fun m ρ _ => Cert.KQuery.Gen.frame m ρ, fun m ρ _ => Cert.KQueryIdeal.Gen.frame m ρ, fun m ρ _ => Cert.KQueryIdeal.Gen.frame m ρ,
  Cert.QueryClaim.frame_reference, fun m ρ _ => Cert.QueryClaim.frame_reference m ρ trivial,
  fun m ρ _ => Cert.KKeys.Gen.frame m ρ, fun m ρ _ => Cert.KKeysIdeal.Gen.frame m ρ, fun m ρ _ => Cert.KKeysIdeal.Gen.frame m ρ,
  Cert.KeysClaim.frame_reference, fun m ρ _ => Cert.KeysClaim.frame_reference m ρ trivial,
  fun m ρ _ => Cert.KHeads.Gen.frame m ρ, fun m ρ _ => Cert.KHeadsIdeal.Gen.frame m ρ, fun m ρ _ => Cert.KHeadsIdeal.Gen.frame m ρ,
  Cert.HeadsClaim.frame_reference, fun m ρ _ => Cert.HeadsClaim.frame_reference m ρ trivial,
  Cert.MlpFrame.frame_kernel, fun m ρ _ => Cert.KMlpIdeal.Body.frame m ρ, fun m ρ _ => Cert.KMlpIdeal.Body.frame m ρ,
  Cert.MlpClaim.frame_reference, fun m ρ _ => Cert.MlpClaim.frame_reference m ρ trivial,
  fun m ρ _ => Cert.KMix.Gen.frame m ρ, fun m ρ _ => Cert.KMixIdeal.Gen.frame m ρ, Cert.MixClaim.frame_reference,
  fun m ρ _ => Cert.KProj.Gen.frame m ρ, fun m ρ _ => Cert.KProjIdeal.Gen.frame m ρ, Cert.ProjClaim.frame_reference,
  fun m ρ _ => Cert.KNorm.Gen.frame m ρ, fun m ρ _ => Cert.KNormIdeal.Gen.frame m ρ, Cert.NormClaim.frame_reference,
  Cert.FwdFrame.frame_kernel, fun m ρ _ => Cert.KFwdIdeal.Body.frame m ρ, Cert.FwdClaim.frame_reference,
  trivial, Cert.LossClaim.algebraic, trivial, Cert.AttnClaim.algebraic,
  trivial, Cert.PreClaim.algebraic, trivial, Cert.QueryClaim.algebraic, trivial, Cert.KeysClaim.algebraic, trivial, Cert.HeadsClaim.algebraic,
  trivial, Cert.MlpClaim.algebraic, trivial, Cert.MixClaim.algebraic, trivial, Cert.ProjClaim.algebraic,
  trivial, Cert.NormClaim.algebraic, trivial, Cert.FwdClaim.algebraic⟩

end Cert.Proof

end
